-- ==== Defs.lean ====
def Pre_MlpDownKernel (m : (ℓ : Loc Cert.MlpDownKernel.nD Cert.MlpDownKernel.τ Cert.MlpDownKernel.sig) → Buf (Elt Bits) ℓ) : Prop :=
  True

def Pre_MlpDownKernelIdeal (m : (ℓ : Loc Cert.MlpDownKernelIdeal.nD Cert.MlpDownKernelIdeal.τ Cert.MlpDownKernelIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpUpKernel (m : (ℓ : Loc Cert.MlpUpKernel.nD Cert.MlpUpKernel.τ Cert.MlpUpKernel.sig) → Buf (Elt Bits) ℓ) : Prop :=
  True

def Pre_MlpUpKernelIdeal (m : (ℓ : Loc Cert.MlpUpKernelIdeal.nD Cert.MlpUpKernelIdeal.τ Cert.MlpUpKernelIdeal.sig) → Buf (Elt Ideal) ℓ) : Prop :=
  True

def Pre_MlpUpKernelIdeal_finite_mlp_up [hPre_finite_mlp_up : Cert.Pre_finite_mlp_up.Facts] (m : (ℓ : Loc Cert.MlpUpKernelIdeal.nD Cert.MlpUpKernelIdeal.τ Cert.MlpUpKernelIdeal.sig) → Buf (Elt Ideal) ℓ) : Prop :=
  ∀ c : Dev Cert.MlpUpKernelIdeal.nD,
    (Cert.Pre_finite_mlp_up.fn (F := Ideal) (m ((c.tc : Thread Cert.MlpUpKernelIdeal.nD Cert.MlpUpKernelIdeal.τ).loc Cert.MlpUpKernelIdeal.main_arg0)) (m ((c.tc : Thread Cert.MlpUpKernelIdeal.nD Cert.MlpUpKernelIdeal.τ).loc Cert.MlpUpKernelIdeal.main_arg1)) (m ((c.tc : Thread Cert.MlpUpKernelIdeal.nD Cert.MlpUpKernelIdeal.τ).loc Cert.MlpUpKernelIdeal.main_arg2)) (m ((c.tc : Thread Cert.MlpUpKernelIdeal.nD Cert.MlpUpKernelIdeal.τ).loc Cert.MlpUpKernelIdeal.main_arg3)) (m ((c.tc : Thread Cert.MlpUpKernelIdeal.nD Cert.MlpUpKernelIdeal.τ).loc Cert.MlpUpKernelIdeal.main_arg4))).1 = (fun _ => 1#1)
    ∧ (Cert.Pre_finite_mlp_up.fn (F := Ideal) (m ((c.tc : Thread Cert.MlpUpKernelIdeal.nD Cert.MlpUpKernelIdeal.τ).loc Cert.MlpUpKernelIdeal.main_arg0)) (m ((c.tc : Thread Cert.MlpUpKernelIdeal.nD Cert.MlpUpKernelIdeal.τ).loc Cert.MlpUpKernelIdeal.main_arg1)) (m ((c.tc : Thread Cert.MlpUpKernelIdeal.nD Cert.MlpUpKernelIdeal.τ).loc Cert.MlpUpKernelIdeal.main_arg2)) (m ((c.tc : Thread Cert.MlpUpKernelIdeal.nD Cert.MlpUpKernelIdeal.τ).loc Cert.MlpUpKernelIdeal.main_arg3)) (m ((c.tc : Thread Cert.MlpUpKernelIdeal.nD Cert.MlpUpKernelIdeal.τ).loc Cert.MlpUpKernelIdeal.main_arg4))).2.1 = (fun _ => 1#1)
    ∧ (Cert.Pre_finite_mlp_up.fn (F := Ideal) (m ((c.tc : Thread Cert.MlpUpKernelIdeal.nD Cert.MlpUpKernelIdeal.τ).loc Cert.MlpUpKernelIdeal.main_arg0)) (m ((c.tc : Thread Cert.MlpUpKernelIdeal.nD Cert.MlpUpKernelIdeal.τ).loc Cert.MlpUpKernelIdeal.main_arg1)) (m ((c.tc : Thread Cert.MlpUpKernelIdeal.nD Cert.MlpUpKernelIdeal.τ).loc Cert.MlpUpKernelIdeal.main_arg2)) (m ((c.tc : Thread Cert.MlpUpKernelIdeal.nD Cert.MlpUpKernelIdeal.τ).loc Cert.MlpUpKernelIdeal.main_arg3)) (m ((c.tc : Thread Cert.MlpUpKernelIdeal.nD Cert.MlpUpKernelIdeal.τ).loc Cert.MlpUpKernelIdeal.main_arg4))).2.2.1 = (fun _ => 1#1)
    ∧ (Cert.Pre_finite_mlp_up.fn (F := Ideal) (m ((c.tc : Thread Cert.MlpUpKernelIdeal.nD Cert.MlpUpKernelIdeal.τ).loc Cert.MlpUpKernelIdeal.main_arg0)) (m ((c.tc : Thread Cert.MlpUpKernelIdeal.nD Cert.MlpUpKernelIdeal.τ).loc Cert.MlpUpKernelIdeal.main_arg1)) (m ((c.tc : Thread Cert.MlpUpKernelIdeal.nD Cert.MlpUpKernelIdeal.τ).loc Cert.MlpUpKernelIdeal.main_arg2)) (m ((c.tc : Thread Cert.MlpUpKernelIdeal.nD Cert.MlpUpKernelIdeal.τ).loc Cert.MlpUpKernelIdeal.main_arg3)) (m ((c.tc : Thread Cert.MlpUpKernelIdeal.nD Cert.MlpUpKernelIdeal.τ).loc Cert.MlpUpKernelIdeal.main_arg4))).2.2.2 = (fun _ => 1#1)

def Pre_MlpUpRefIdeal (m : (ℓ : Loc Cert.MlpUpRefIdeal.nD Cert.MlpUpRefIdeal.τ Cert.MlpUpRefIdeal.sig) → Buf (Elt Ideal) ℓ) : Prop :=
  True

def Pre_MlpUpRefIdeal_finite_mlp_up [hPre_finite_mlp_up : Cert.Pre_finite_mlp_up.Facts] (m : (ℓ : Loc Cert.MlpUpRefIdeal.nD Cert.MlpUpRefIdeal.τ Cert.MlpUpRefIdeal.sig) → Buf (Elt Ideal) ℓ) : Prop :=
  ∀ c : Dev Cert.MlpUpRefIdeal.nD,
    (Cert.Pre_finite_mlp_up.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).1 = (fun _ => 1#1)
    ∧ (Cert.Pre_finite_mlp_up.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.1 = (fun _ => 1#1)
    ∧ (Cert.Pre_finite_mlp_up.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.1 = (fun _ => 1#1)
    ∧ (Cert.Pre_finite_mlp_up.fn (F := Ideal) (m ((c.tc : Thread Cert.MlpUpRefIdeal.nD Cert.MlpUpRefIdeal.τ).loc Cert.MlpUpRefIdeal.main_arg0)) (m ((c.tc : Thread Cert.MlpUpRefIdeal.nD Cert.MlpUpRefIdeal.τ).loc Cert.MlpUpRefIdeal.main_arg1)) (m ((c.tc : Thread Cert.MlpUpRefIdeal.nD Cert.MlpUpRefIdeal.τ).loc Cert.MlpUpRefIdeal.main_arg2)) (m ((c.tc : Thread Cert.MlpUpRefIdeal.nD Cert.MlpUpRefIdeal.τ).loc Cert.MlpUpRefIdeal.main_arg3)) (m ((c.tc : Thread Cert.MlpUpRefIdeal.nD Cert.MlpUpRefIdeal.τ).loc Cert.MlpUpRefIdeal.main_arg4))).2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AttnAKernel (m : (ℓ : Loc Cert.AttnAKernel.nD Cert.AttnAKernel.τ Cert.AttnAKernel.sig) → Buf (Elt Bits) ℓ) : Prop :=
  True

def Pre_AttnAKernelIdeal (m : (ℓ : Loc Cert.AttnAKernelIdeal.nD Cert.AttnAKernelIdeal.τ Cert.AttnAKernelIdeal.sig) → Buf (Elt Ideal) ℓ) : Prop :=
  True

def Pre_AttnAKernelIdeal_finite_attn_a [hPre_finite_attn_a : Cert.Pre_finite_attn_a.Facts] (m : (ℓ : Loc Cert.AttnAKernelIdeal.nD Cert.AttnAKernelIdeal.τ Cert.AttnAKernelIdeal.sig) → Buf (Elt Ideal) ℓ) : Prop :=
  ∀ c : Dev Cert.AttnAKernelIdeal.nD,
    (Cert.Pre_finite_attn_a.fn (F := Ideal) (m ((c.tc : Thread Cert.AttnAKernelIdeal.nD Cert.AttnAKernelIdeal.τ).loc Cert.AttnAKernelIdeal.main_arg0)) (m ((c.tc : Thread Cert.AttnAKernelIdeal.nD Cert.AttnAKernelIdeal.τ).loc Cert.AttnAKernelIdeal.main_arg1)) (m ((c.tc : Thread Cert.AttnAKernelIdeal.nD Cert.AttnAKernelIdeal.τ).loc Cert.AttnAKernelIdeal.main_arg2)) (m ((c.tc : Thread Cert.AttnAKernelIdeal.nD Cert.AttnAKernelIdeal.τ).loc Cert.AttnAKernelIdeal.main_arg3))).1 = (fun _ => 1#1)
    ∧ (Cert.Pre_finite_attn_a.fn (F := Ideal) (m ((c.tc : Thread Cert.AttnAKernelIdeal.nD Cert.AttnAKernelIdeal.τ).loc Cert.AttnAKernelIdeal.main_arg0)) (m ((c.tc : Thread Cert.AttnAKernelIdeal.nD Cert.AttnAKernelIdeal.τ).loc Cert.AttnAKernelIdeal.main_arg1)) (m ((c.tc : Thread Cert.AttnAKernelIdeal.nD Cert.AttnAKernelIdeal.τ).loc Cert.AttnAKernelIdeal.main_arg2)) (m ((c.tc : Thread Cert.AttnAKernelIdeal.nD Cert.AttnAKernelIdeal.τ).loc Cert.AttnAKernelIdeal.main_arg3))).2.1 = (fun _ => 1#1)
    ∧ (Cert.Pre_finite_attn_a.fn (F := Ideal) (m ((c.tc : Thread Cert.AttnAKernelIdeal.nD Cert.AttnAKernelIdeal.τ).loc Cert.AttnAKernelIdeal.main_arg0)) (m ((c.tc : Thread Cert.AttnAKernelIdeal.nD Cert.AttnAKernelIdeal.τ).loc Cert.AttnAKernelIdeal.main_arg1)) (m ((c.tc : Thread Cert.AttnAKernelIdeal.nD Cert.AttnAKernelIdeal.τ).loc Cert.AttnAKernelIdeal.main_arg2)) (m ((c.tc : Thread Cert.AttnAKernelIdeal.nD Cert.AttnAKernelIdeal.τ).loc Cert.AttnAKernelIdeal.main_arg3))).2.2.1 = (fun _ => 1#1)
    ∧ (Cert.Pre_finite_attn_a.fn (F := Ideal) (m ((c.tc : Thread Cert.AttnAKernelIdeal.nD Cert.AttnAKernelIdeal.τ).loc Cert.AttnAKernelIdeal.main_arg0)) (m ((c.tc : Thread Cert.AttnAKernelIdeal.nD Cert.AttnAKernelIdeal.τ).loc Cert.AttnAKernelIdeal.main_arg1)) (m ((c.tc : Thread Cert.AttnAKernelIdeal.nD Cert.AttnAKernelIdeal.τ).loc Cert.AttnAKernelIdeal.main_arg2)) (m ((c.tc : Thread Cert.AttnAKernelIdeal.nD Cert.AttnAKernelIdeal.τ).loc Cert.AttnAKernelIdeal.main_arg3))).2.2.2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_attn_a [hPre_finite_attn_a : Cert.Pre_finite_attn_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))).1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))).2.1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))).2.2.1 = (fun _ => 1#1)
    ∧ (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))).2.2.2 = (fun _ => 1#1)

def Pre_AttnBKernel (m : (ℓ : Loc Cert.AttnBKernel.nD Cert.AttnBKernel.τ Cert.AttnBKernel.sig) → Buf (Elt Bits) ℓ) : Prop :=
  True

def Pre_AttnBKernelIdeal (m : (ℓ : Loc Cert.AttnBKernelIdeal.nD Cert.AttnBKernelIdeal.τ Cert.AttnBKernelIdeal.sig) → Buf (Elt Ideal) ℓ) : Prop :=
  True

def Pre_AttnBKernelIdeal_finite_attn_b [hPre_finite_attn_b : Cert.Pre_finite_attn_b.Facts] (m : (ℓ : Loc Cert.AttnBKernelIdeal.nD Cert.AttnBKernelIdeal.τ Cert.AttnBKernelIdeal.sig) → Buf (Elt Ideal) ℓ) : Prop :=
  ∀ c : Dev Cert.AttnBKernelIdeal.nD,
    (Cert.Pre_finite_attn_b.fn (F := Ideal) (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3))).1 = (fun _ => 1#1)
    ∧ (Cert.Pre_finite_attn_b.fn (F := Ideal) (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3))).2.1 = (fun _ => 1#1)
    ∧ (Cert.Pre_finite_attn_b.fn (F := Ideal) (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3))).2.2.1 = (fun _ => 1#1)
    ∧ (Cert.Pre_finite_attn_b.fn (F := Ideal) (m ((c.tc : Thread Cert.AttnBKernelIdeal.nD Cert.AttnBKernelIdeal.τ).loc Cert.AttnBKernelIdeal.main_arg0)) (m ((c.tc : Thread Cert.AttnBKernelIdeal.nD Cert.AttnBKernelIdeal.τ).loc Cert.AttnBKernelIdeal.main_arg1)) (m ((c.tc : Thread Cert.AttnBKernelIdeal.nD Cert.AttnBKernelIdeal.τ).loc Cert.AttnBKernelIdeal.main_arg2)) (m ((c.tc : Thread Cert.AttnBKernelIdeal.nD Cert.AttnBKernelIdeal.τ).loc Cert.AttnBKernelIdeal.main_arg3))).2.2.2 = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_attn_b [hPre_finite_attn_b : Cert.Pre_finite_attn_b.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))).1 = (fun _ => 1#1)
    ∧ (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))).2.1 = (fun _ => 1#1)
    ∧ (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))).2.2.1 = (fun _ => 1#1)
    ∧ (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))).2.2.2 = (fun _ => 1#1)

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjKernelIdeal_finite_in_proj [hPre_finite_in_proj : Cert.Pre_finite_in_proj.Facts] (m : (ℓ : Loc Cert.InProjKernelIdeal.nD Cert.InProjKernelIdeal.τ Cert.InProjKernelIdeal.sig) → Buf (Elt Ideal) ℓ) : Prop :=
  ∀ c : Dev Cert.InProjKernelIdeal.nD,
    (Cert.Pre_finite_in_proj.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4))).1 = (fun _ => 1#1)
    ∧ (Cert.Pre_finite_in_proj.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4))).2.1 = (fun _ => 1#1)
    ∧ (Cert.Pre_finite_in_proj.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4))).2.2.1 = (fun _ => 1#1)
    ∧ (Cert.Pre_finite_in_proj.fn (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)) (m ((c.tc : Thread Cert.InProjKernelIdeal.nD Cert.InProjKernelIdeal.τ).loc Cert.InProjKernelIdeal.main_arg3)) (m ((c.tc : Thread Cert.InProjKernelIdeal.nD Cert.InProjKernelIdeal.τ).loc Cert.InProjKernelIdeal.main_arg4))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in_proj [hPre_finite_in_proj : Cert.Pre_finite_in_proj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_finite_in_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_finite_in_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_finite_in_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2 = (fun _ => 1#1)

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_finite_tail [hPre_finite_tail : Cert.Pre_finite_tail.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.2.1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.2.2.1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.2.2.2.1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.2.2.2.2.1 = (fun _ => 1#1)
    ∧ (Cert.Pre_finite_tail.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))).2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))).2.2.2.2.2.2 = (fun _ => 1#1)

def Pre_QPathKernel (m : (ℓ : Loc Cert.QPathKernel.nD Cert.QPathKernel.τ Cert.QPathKernel.sig) → Buf (Elt Bits) ℓ) : Prop :=
  True

def Pre_QPathKernelIdeal (m : (ℓ : Loc Cert.QPathKernelIdeal.nD Cert.QPathKernelIdeal.τ Cert.QPathKernelIdeal.sig) → Buf (Elt Ideal) ℓ) : Prop :=
  True

def Pre_QPathKernelIdeal_finite_q_path [hPre_finite_q_path : Cert.Pre_finite_q_path.Facts] (m : (ℓ : Loc Cert.QPathKernelIdeal.nD Cert.QPathKernelIdeal.τ Cert.QPathKernelIdeal.sig) → Buf (Elt Ideal) ℓ) : Prop :=
  ∀ c : Dev Cert.QPathKernelIdeal.nD,
    (Cert.Pre_finite_q_path.fn (F := Ideal) (m ((c.tc : Thread Cert.QPathKernelIdeal.nD Cert.QPathKernelIdeal.τ).loc Cert.QPathKernelIdeal.main_arg0)) (m ((c.tc : Thread Cert.QPathKernelIdeal.nD Cert.QPathKernelIdeal.τ).loc Cert.QPathKernelIdeal.main_arg1)) (m ((c.tc : Thread Cert.QPathKernelIdeal.nD Cert.QPathKernelIdeal.τ).loc Cert.QPathKernelIdeal.main_arg2)) (m ((c.tc : Thread Cert.QPathKernelIdeal.nD Cert.QPathKernelIdeal.τ).loc Cert.QPathKernelIdeal.main_arg3))).1 = (fun _ => 1#1)
    ∧ (Cert.Pre_finite_q_path.fn (F := Ideal) (m ((c.tc : Thread Cert.QPathKernelIdeal.nD Cert.QPathKernelIdeal.τ).loc Cert.QPathKernelIdeal.main_arg0)) (m ((c.tc : Thread Cert.QPathKernelIdeal.nD Cert.QPathKernelIdeal.τ).loc Cert.QPathKernelIdeal.main_arg1)) (m ((c.tc : Thread Cert.QPathKernelIdeal.nD Cert.QPathKernelIdeal.τ).loc Cert.QPathKernelIdeal.main_arg2)) (m ((c.tc : Thread Cert.QPathKernelIdeal.nD Cert.QPathKernelIdeal.τ).loc Cert.QPathKernelIdeal.main_arg3))).2.1 = (fun _ => 1#1)
    ∧ (Cert.Pre_finite_q_path.fn (F := Ideal) (m ((c.tc : Thread Cert.QPathKernelIdeal.nD Cert.QPathKernelIdeal.τ).loc Cert.QPathKernelIdeal.main_arg0)) (m ((c.tc : Thread Cert.QPathKernelIdeal.nD Cert.QPathKernelIdeal.τ).loc Cert.QPathKernelIdeal.main_arg1)) (m ((c.tc : Thread Cert.QPathKernelIdeal.nD Cert.QPathKernelIdeal.τ).loc Cert.QPathKernelIdeal.main_arg2)) (m ((c.tc : Thread Cert.QPathKernelIdeal.nD Cert.QPathKernelIdeal.τ).loc Cert.QPathKernelIdeal.main_arg3))).2.2.1 = (fun _ => 1#1)
    ∧ (Cert.Pre_finite_q_path.fn (F := Ideal) (m ((c.tc : Thread Cert.QPathKernelIdeal.nD Cert.QPathKernelIdeal.τ).loc Cert.QPathKernelIdeal.main_arg0)) (m ((c.tc : Thread Cert.QPathKernelIdeal.nD Cert.QPathKernelIdeal.τ).loc Cert.QPathKernelIdeal.main_arg1)) (m ((c.tc : Thread Cert.QPathKernelIdeal.nD Cert.QPathKernelIdeal.τ).loc Cert.QPathKernelIdeal.main_arg2)) (m ((c.tc : Thread Cert.QPathKernelIdeal.nD Cert.QPathKernelIdeal.τ).loc Cert.QPathKernelIdeal.main_arg3))).2.2.2 = (fun _ => 1#1)

def Pre_QPathRefIdeal (m : (ℓ : Loc Cert.QPathRefIdeal.nD Cert.QPathRefIdeal.τ Cert.QPathRefIdeal.sig) → Buf (Elt Ideal) ℓ) : Prop :=
  True

def Pre_QPathRefIdeal_finite_q_path [hPre_finite_q_path : Cert.Pre_finite_q_path.Facts] (m : (ℓ : Loc Cert.QPathRefIdeal.nD Cert.QPathRefIdeal.τ Cert.QPathRefIdeal.sig) → Buf (Elt Ideal) ℓ) : Prop :=
  ∀ c : Dev Cert.QPathRefIdeal.nD,
    (Cert.Pre_finite_q_path.fn (F := Ideal) (m ((c.tc : Thread Cert.QPathRefIdeal.nD Cert.QPathRefIdeal.τ).loc Cert.QPathRefIdeal.main_arg0)) (m ((c.tc : Thread Cert.QPathRefIdeal.nD Cert.QPathRefIdeal.τ).loc Cert.QPathRefIdeal.main_arg1)) (m ((c.tc : Thread Cert.QPathRefIdeal.nD Cert.QPathRefIdeal.τ).loc Cert.QPathRefIdeal.main_arg2)) (m ((c.tc : Thread Cert.QPathRefIdeal.nD Cert.QPathRefIdeal.τ).loc Cert.QPathRefIdeal.main_arg3))).1 = (fun _ => 1#1)
    ∧ (Cert.Pre_finite_q_path.fn (F := Ideal) (m ((c.tc : Thread Cert.QPathRefIdeal.nD Cert.QPathRefIdeal.τ).loc Cert.QPathRefIdeal.main_arg0)) (m ((c.tc : Thread Cert.QPathRefIdeal.nD Cert.QPathRefIdeal.τ).loc Cert.QPathRefIdeal.main_arg1)) (m ((c.tc : Thread Cert.QPathRefIdeal.nD Cert.QPathRefIdeal.τ).loc Cert.QPathRefIdeal.main_arg2)) (m ((c.tc : Thread Cert.QPathRefIdeal.nD Cert.QPathRefIdeal.τ).loc Cert.QPathRefIdeal.main_arg3))).2.1 = (fun _ => 1#1)
    ∧ (Cert.Pre_finite_q_path.fn (F := Ideal) (m ((c.tc : Thread Cert.QPathRefIdeal.nD Cert.QPathRefIdeal.τ).loc Cert.QPathRefIdeal.main_arg0)) (m ((c.tc : Thread Cert.QPathRefIdeal.nD Cert.QPathRefIdeal.τ).loc Cert.QPathRefIdeal.main_arg1)) (m ((c.tc : Thread Cert.QPathRefIdeal.nD Cert.QPathRefIdeal.τ).loc Cert.QPathRefIdeal.main_arg2)) (m ((c.tc : Thread Cert.QPathRefIdeal.nD Cert.QPathRefIdeal.τ).loc Cert.QPathRefIdeal.main_arg3))).2.2.1 = (fun _ => 1#1)
    ∧ (Cert.Pre_finite_q_path.fn (F := Ideal) (m ((c.tc : Thread Cert.QPathRefIdeal.nD Cert.QPathRefIdeal.τ).loc Cert.QPathRefIdeal.main_arg0)) (m ((c.tc : Thread Cert.QPathRefIdeal.nD Cert.QPathRefIdeal.τ).loc Cert.QPathRefIdeal.main_arg1)) (m ((c.tc : Thread Cert.QPathRefIdeal.nD Cert.QPathRefIdeal.τ).loc Cert.QPathRefIdeal.main_arg2)) (m ((c.tc : Thread Cert.QPathRefIdeal.nD Cert.QPathRefIdeal.τ).loc Cert.QPathRefIdeal.main_arg3))).2.2.2 = (fun _ => 1#1)

def Pre_KvPathKernel (m : (ℓ : Loc Cert.KvPathKernel.nD Cert.KvPathKernel.τ Cert.KvPathKernel.sig) → Buf (Elt Bits) ℓ) : Prop :=
  True

def Pre_KvPathKernelIdeal (m : (ℓ : Loc Cert.KvPathKernelIdeal.nD Cert.KvPathKernelIdeal.τ Cert.KvPathKernelIdeal.sig) → Buf (Elt Ideal) ℓ) : Prop :=
  True

def Pre_KvPathKernelIdeal_finite_kv_path [hPre_finite_kv_path : Cert.Pre_finite_kv_path.Facts] (m : (ℓ : Loc Cert.KvPathKernelIdeal.nD Cert.KvPathKernelIdeal.τ Cert.KvPathKernelIdeal.sig) → Buf (Elt Ideal) ℓ) : Prop :=
  ∀ c : Dev Cert.KvPathKernelIdeal.nD,
    (Cert.Pre_finite_kv_path.fn (F := Ideal) (m ((c.tc : Thread Cert.KvPathKernelIdeal.nD Cert.KvPathKernelIdeal.τ).loc Cert.KvPathKernelIdeal.main_arg0)) (m ((c.tc : Thread Cert.KvPathKernelIdeal.nD Cert.KvPathKernelIdeal.τ).loc Cert.KvPathKernelIdeal.main_arg1)) (m ((c.tc : Thread Cert.KvPathKernelIdeal.nD Cert.KvPathKernelIdeal.τ).loc Cert.KvPathKernelIdeal.main_arg2)) (m ((c.tc : Thread Cert.KvPathKernelIdeal.nD Cert.KvPathKernelIdeal.τ).loc Cert.KvPathKernelIdeal.main_arg3)) (m ((c.tc : Thread Cert.KvPathKernelIdeal.nD Cert.KvPathKernelIdeal.τ).loc Cert.KvPathKernelIdeal.main_arg4)) (m ((c.tc : Thread Cert.KvPathKernelIdeal.nD Cert.KvPathKernelIdeal.τ).loc Cert.KvPathKernelIdeal.main_arg5))).1 = (fun _ => 1#1)
    ∧ (Cert.Pre_finite_kv_path.fn (F := Ideal) (m ((c.tc : Thread Cert.KvPathKernelIdeal.nD Cert.KvPathKernelIdeal.τ).loc Cert.KvPathKernelIdeal.main_arg0)) (m ((c.tc : Thread Cert.KvPathKernelIdeal.nD Cert.KvPathKernelIdeal.τ).loc Cert.KvPathKernelIdeal.main_arg1)) (m ((c.tc : Thread Cert.KvPathKernelIdeal.nD Cert.KvPathKernelIdeal.τ).loc Cert.KvPathKernelIdeal.main_arg2)) (m ((c.tc : Thread Cert.KvPathKernelIdeal.nD Cert.KvPathKernelIdeal.τ).loc Cert.KvPathKernelIdeal.main_arg3)) (m ((c.tc : Thread Cert.KvPathKernelIdeal.nD Cert.KvPathKernelIdeal.τ).loc Cert.KvPathKernelIdeal.main_arg4)) (m ((c.tc : Thread Cert.KvPathKernelIdeal.nD Cert.KvPathKernelIdeal.τ).loc Cert.KvPathKernelIdeal.main_arg5))).2.1 = (fun _ => 1#1)
    ∧ (Cert.Pre_finite_kv_path.fn (F := Ideal) (m ((c.tc : Thread Cert.KvPathKernelIdeal.nD Cert.KvPathKernelIdeal.τ).loc Cert.KvPathKernelIdeal.main_arg0)) (m ((c.tc : Thread Cert.KvPathKernelIdeal.nD Cert.KvPathKernelIdeal.τ).loc Cert.KvPathKernelIdeal.main_arg1)) (m ((c.tc : Thread Cert.KvPathKernelIdeal.nD Cert.KvPathKernelIdeal.τ).loc Cert.KvPathKernelIdeal.main_arg2)) (m ((c.tc : Thread Cert.KvPathKernelIdeal.nD Cert.KvPathKernelIdeal.τ).loc Cert.KvPathKernelIdeal.main_arg3)) (m ((c.tc : Thread Cert.KvPathKernelIdeal.nD Cert.KvPathKernelIdeal.τ).loc Cert.KvPathKernelIdeal.main_arg4)) (m ((c.tc : Thread Cert.KvPathKernelIdeal.nD Cert.KvPathKernelIdeal.τ).loc Cert.KvPathKernelIdeal.main_arg5))).2.2.1 = (fun _ => 1#1)
    ∧ (Cert.Pre_finite_kv_path.fn (F := Ideal) (m ((c.tc : Thread Cert.KvPathKernelIdeal.nD Cert.KvPathKernelIdeal.τ).loc Cert.KvPathKernelIdeal.main_arg0)) (m ((c.tc : Thread Cert.KvPathKernelIdeal.nD Cert.KvPathKernelIdeal.τ).loc Cert.KvPathKernelIdeal.main_arg1)) (m ((c.tc : Thread Cert.KvPathKernelIdeal.nD Cert.KvPathKernelIdeal.τ).loc Cert.KvPathKernelIdeal.main_arg2)) (m ((c.tc : Thread Cert.KvPathKernelIdeal.nD Cert.KvPathKernelIdeal.τ).loc Cert.KvPathKernelIdeal.main_arg3)) (m ((c.tc : Thread Cert.KvPathKernelIdeal.nD Cert.KvPathKernelIdeal.τ).loc Cert.KvPathKernelIdeal.main_arg4)) (m ((c.tc : Thread Cert.KvPathKernelIdeal.nD Cert.KvPathKernelIdeal.τ).loc Cert.KvPathKernelIdeal.main_arg5))).2.2.2.1 = (fun _ => 1#1)
    ∧ (Cert.Pre_finite_kv_path.fn (F := Ideal) (m ((c.tc : Thread Cert.KvPathKernelIdeal.nD Cert.KvPathKernelIdeal.τ).loc Cert.KvPathKernelIdeal.main_arg0)) (m ((c.tc : Thread Cert.KvPathKernelIdeal.nD Cert.KvPathKernelIdeal.τ).loc Cert.KvPathKernelIdeal.main_arg1)) (m ((c.tc : Thread Cert.KvPathKernelIdeal.nD Cert.KvPathKernelIdeal.τ).loc Cert.KvPathKernelIdeal.main_arg2)) (m ((c.tc : Thread Cert.KvPathKernelIdeal.nD Cert.KvPathKernelIdeal.τ).loc Cert.KvPathKernelIdeal.main_arg3)) (m ((c.tc : Thread Cert.KvPathKernelIdeal.nD Cert.KvPathKernelIdeal.τ).loc Cert.KvPathKernelIdeal.main_arg4)) (m ((c.tc : Thread Cert.KvPathKernelIdeal.nD Cert.KvPathKernelIdeal.τ).loc Cert.KvPathKernelIdeal.main_arg5))).2.2.2.2 = (fun _ => 1#1)

def Pre_KvPathRefIdeal (m : (ℓ : Loc Cert.KvPathRefIdeal.nD Cert.KvPathRefIdeal.τ Cert.KvPathRefIdeal.sig) → Buf (Elt Ideal) ℓ) : Prop :=
  True

def Pre_KvPathRefIdeal_finite_kv_path [hPre_finite_kv_path : Cert.Pre_finite_kv_path.Facts] (m : (ℓ : Loc Cert.KvPathRefIdeal.nD Cert.KvPathRefIdeal.τ Cert.KvPathRefIdeal.sig) → Buf (Elt Ideal) ℓ) : Prop :=
  ∀ c : Dev Cert.KvPathRefIdeal.nD,
    (Cert.Pre_finite_kv_path.fn (F := Ideal) (m ((c.tc : Thread Cert.KvPathRefIdeal.nD Cert.KvPathRefIdeal.τ).loc Cert.KvPathRefIdeal.main_arg0)) (m ((c.tc : Thread Cert.KvPathRefIdeal.nD Cert.KvPathRefIdeal.τ).loc Cert.KvPathRefIdeal.main_arg1)) (m ((c.tc : Thread Cert.KvPathRefIdeal.nD Cert.KvPathRefIdeal.τ).loc Cert.KvPathRefIdeal.main_arg2)) (m ((c.tc : Thread Cert.KvPathRefIdeal.nD Cert.KvPathRefIdeal.τ).loc Cert.KvPathRefIdeal.main_arg3)) (m ((c.tc : Thread Cert.KvPathRefIdeal.nD Cert.KvPathRefIdeal.τ).loc Cert.KvPathRefIdeal.main_arg4)) (m ((c.tc : Thread Cert.KvPathRefIdeal.nD Cert.KvPathRefIdeal.τ).loc Cert.KvPathRefIdeal.main_arg5))).1 = (fun _ => 1#1)
    ∧ (Cert.Pre_finite_kv_path.fn (F := Ideal) (m ((c.tc : Thread Cert.KvPathRefIdeal.nD Cert.KvPathRefIdeal.τ).loc Cert.KvPathRefIdeal.main_arg0)) (m ((c.tc : Thread Cert.KvPathRefIdeal.nD Cert.KvPathRefIdeal.τ).loc Cert.KvPathRefIdeal.main_arg1)) (m ((c.tc : Thread Cert.KvPathRefIdeal.nD Cert.KvPathRefIdeal.τ).loc Cert.KvPathRefIdeal.main_arg2)) (m ((c.tc : Thread Cert.KvPathRefIdeal.nD Cert.KvPathRefIdeal.τ).loc Cert.KvPathRefIdeal.main_arg3)) (m ((c.tc : Thread Cert.KvPathRefIdeal.nD Cert.KvPathRefIdeal.τ).loc Cert.KvPathRefIdeal.main_arg4)) (m ((c.tc : Thread Cert.KvPathRefIdeal.nD Cert.KvPathRefIdeal.τ).loc Cert.KvPathRefIdeal.main_arg5))).2.1 = (fun _ => 1#1)
    ∧ (Cert.Pre_finite_kv_path.fn (F := Ideal) (m ((c.tc : Thread Cert.KvPathRefIdeal.nD Cert.KvPathRefIdeal.τ).loc Cert.KvPathRefIdeal.main_arg0)) (m ((c.tc : Thread Cert.KvPathRefIdeal.nD Cert.KvPathRefIdeal.τ).loc Cert.KvPathRefIdeal.main_arg1)) (m ((c.tc : Thread Cert.KvPathRefIdeal.nD Cert.KvPathRefIdeal.τ).loc Cert.KvPathRefIdeal.main_arg2)) (m ((c.tc : Thread Cert.KvPathRefIdeal.nD Cert.KvPathRefIdeal.τ).loc Cert.KvPathRefIdeal.main_arg3)) (m ((c.tc : Thread Cert.KvPathRefIdeal.nD Cert.KvPathRefIdeal.τ).loc Cert.KvPathRefIdeal.main_arg4)) (m ((c.tc : Thread Cert.KvPathRefIdeal.nD Cert.KvPathRefIdeal.τ).loc Cert.KvPathRefIdeal.main_arg5))).2.2.1 = (fun _ => 1#1)
    ∧ (Cert.Pre_finite_kv_path.fn (F := Ideal) (m ((c.tc : Thread Cert.KvPathRefIdeal.nD Cert.KvPathRefIdeal.τ).loc Cert.KvPathRefIdeal.main_arg0)) (m ((c.tc : Thread Cert.KvPathRefIdeal.nD Cert.KvPathRefIdeal.τ).loc Cert.KvPathRefIdeal.main_arg1)) (m ((c.tc : Thread Cert.KvPathRefIdeal.nD Cert.KvPathRefIdeal.τ).loc Cert.KvPathRefIdeal.main_arg2)) (m ((c.tc : Thread Cert.KvPathRefIdeal.nD Cert.KvPathRefIdeal.τ).loc Cert.KvPathRefIdeal.main_arg3)) (m ((c.tc : Thread Cert.KvPathRefIdeal.nD Cert.KvPathRefIdeal.τ).loc Cert.KvPathRefIdeal.main_arg4)) (m ((c.tc : Thread Cert.KvPathRefIdeal.nD Cert.KvPathRefIdeal.τ).loc Cert.KvPathRefIdeal.main_arg5))).2.2.2.1 = (fun _ => 1#1)
    ∧ (Cert.Pre_finite_kv_path.fn (F := Ideal) (m ((c.tc : Thread Cert.KvPathRefIdeal.nD Cert.KvPathRefIdeal.τ).loc Cert.KvPathRefIdeal.main_arg0)) (m ((c.tc : Thread Cert.KvPathRefIdeal.nD Cert.KvPathRefIdeal.τ).loc Cert.KvPathRefIdeal.main_arg1)) (m ((c.tc : Thread Cert.KvPathRefIdeal.nD Cert.KvPathRefIdeal.τ).loc Cert.KvPathRefIdeal.main_arg2)) (m ((c.tc : Thread Cert.KvPathRefIdeal.nD Cert.KvPathRefIdeal.τ).loc Cert.KvPathRefIdeal.main_arg3)) (m ((c.tc : Thread Cert.KvPathRefIdeal.nD Cert.KvPathRefIdeal.τ).loc Cert.KvPathRefIdeal.main_arg4)) (m ((c.tc : Thread Cert.KvPathRefIdeal.nD Cert.KvPathRefIdeal.τ).loc Cert.KvPathRefIdeal.main_arg5))).2.2.2.2 = (fun _ => 1#1)

def Pre_PrepBKernel (m : (ℓ : Loc Cert.PrepBKernel.nD Cert.PrepBKernel.τ Cert.PrepBKernel.sig) → Buf (Elt Bits) ℓ) : Prop :=
  True

def Pre_PrepBKernelIdeal (m : (ℓ : Loc Cert.PrepBKernelIdeal.nD Cert.PrepBKernelIdeal.τ Cert.PrepBKernelIdeal.sig) → Buf (Elt Ideal) ℓ) : Prop :=
  True

def Pre_PrepBKernelIdeal_finite_prep_b [hPre_finite_prep_b : Cert.Pre_finite_prep_b.Facts] (m : (ℓ : Loc Cert.PrepBKernelIdeal.nD Cert.PrepBKernelIdeal.τ Cert.PrepBKernelIdeal.sig) → Buf (Elt Ideal) ℓ) : Prop :=
  ∀ c : Dev Cert.PrepBKernelIdeal.nD,
    (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).1 = (fun _ => 1#1)
    ∧ (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).2.1 = (fun _ => 1#1)
    ∧ (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).2.2.1 = (fun _ => 1#1)
    ∧ (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).2.2.2.1 = (fun _ => 1#1)
    ∧ (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).2.2.2.2.1 = (fun _ => 1#1)
    ∧ (Cert.Pre_finite_prep_b.fn (F := Ideal) (m ((c.tc : Thread Cert.PrepBKernelIdeal.nD Cert.PrepBKernelIdeal.τ).loc Cert.PrepBKernelIdeal.main_arg0)) (m ((c.tc : Thread Cert.PrepBKernelIdeal.nD Cert.PrepBKernelIdeal.τ).loc Cert.PrepBKernelIdeal.main_arg1)) (m ((c.tc : Thread Cert.PrepBKernelIdeal.nD Cert.PrepBKernelIdeal.τ).loc Cert.PrepBKernelIdeal.main_arg2)) (m ((c.tc : Thread Cert.PrepBKernelIdeal.nD Cert.PrepBKernelIdeal.τ).loc Cert.PrepBKernelIdeal.main_arg3)) (m ((c.tc : Thread Cert.PrepBKernelIdeal.nD Cert.PrepBKernelIdeal.τ).loc Cert.PrepBKernelIdeal.main_arg4)) (m ((c.tc : Thread Cert.PrepBKernelIdeal.nD Cert.PrepBKernelIdeal.τ).loc Cert.PrepBKernelIdeal.main_arg5))).2.2.2.2.2 = (fun _ => 1#1)

def Pre_PrepBRefIdeal (m : (ℓ : Loc Cert.PrepBRefIdeal.nD Cert.PrepBRefIdeal.τ Cert.PrepBRefIdeal.sig) → Buf (Elt Ideal) ℓ) : Prop :=
  True

def Pre_PrepBRefIdeal_finite_prep_b [hPre_finite_prep_b : Cert.Pre_finite_prep_b.Facts] (m : (ℓ : Loc Cert.PrepBRefIdeal.nD Cert.PrepBRefIdeal.τ Cert.PrepBRefIdeal.sig) → Buf (Elt Ideal) ℓ) : Prop :=
  ∀ c : Dev Cert.PrepBRefIdeal.nD,
    (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).1 = (fun _ => 1#1)
    ∧ (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).2.1 = (fun _ => 1#1)
    ∧ (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).2.2.1 = (fun _ => 1#1)
    ∧ (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).2.2.2.1 = (fun _ => 1#1)
    ∧ (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).2.2.2.2.1 = (fun _ => 1#1)
    ∧ (Cert.Pre_finite_prep_b.fn (F := Ideal) (m ((c.tc : Thread Cert.PrepBRefIdeal.nD Cert.PrepBRefIdeal.τ).loc Cert.PrepBRefIdeal.main_arg0)) (m ((c.tc : Thread Cert.PrepBRefIdeal.nD Cert.PrepBRefIdeal.τ).loc Cert.PrepBRefIdeal.main_arg1)) (m ((c.tc : Thread Cert.PrepBRefIdeal.nD Cert.PrepBRefIdeal.τ).loc Cert.PrepBRefIdeal.main_arg2)) (m ((c.tc : Thread Cert.PrepBRefIdeal.nD Cert.PrepBRefIdeal.τ).loc Cert.PrepBRefIdeal.main_arg3)) (m ((c.tc : Thread Cert.PrepBRefIdeal.nD Cert.PrepBRefIdeal.τ).loc Cert.PrepBRefIdeal.main_arg4)) (m ((c.tc : Thread Cert.PrepBRefIdeal.nD Cert.PrepBRefIdeal.τ).loc Cert.PrepBRefIdeal.main_arg5))).2.2.2.2.2 = (fun _ => 1#1)

def Pre_AttnAFwdKernel (m : (ℓ : Loc Cert.AttnAFwdKernel.nD Cert.AttnAFwdKernel.τ Cert.AttnAFwdKernel.sig) → Buf (Elt Bits) ℓ) : Prop :=
  True

def Pre_AttnAFwdKernelIdeal (m : (ℓ : Loc Cert.AttnAFwdKernelIdeal.nD Cert.AttnAFwdKernelIdeal.τ Cert.AttnAFwdKernelIdeal.sig) → Buf (Elt Ideal) ℓ) : Prop :=
  True

def Pre_AttnAFwdKernelIdeal_finite_attn_a_fwd [hPre_finite_attn_a_fwd : Cert.Pre_finite_attn_a_fwd.Facts] (m : (ℓ : Loc Cert.AttnAFwdKernelIdeal.nD Cert.AttnAFwdKernelIdeal.τ Cert.AttnAFwdKernelIdeal.sig) → Buf (Elt Ideal) ℓ) : Prop :=
  ∀ c : Dev Cert.AttnAFwdKernelIdeal.nD,
    (Cert.Pre_finite_attn_a_fwd.fn (F := Ideal) (m ((c.tc : Thread Cert.AttnAFwdKernelIdeal.nD Cert.AttnAFwdKernelIdeal.τ).loc Cert.AttnAFwdKernelIdeal.main_arg0)) (m ((c.tc : Thread Cert.AttnAFwdKernelIdeal.nD Cert.AttnAFwdKernelIdeal.τ).loc Cert.AttnAFwdKernelIdeal.main_arg1)) (m ((c.tc : Thread Cert.AttnAFwdKernelIdeal.nD Cert.AttnAFwdKernelIdeal.τ).loc Cert.AttnAFwdKernelIdeal.main_arg2))).1 = (fun _ => 1#1)
    ∧ (Cert.Pre_finite_attn_a_fwd.fn (F := Ideal) (m ((c.tc : Thread Cert.AttnAFwdKernelIdeal.nD Cert.AttnAFwdKernelIdeal.τ).loc Cert.AttnAFwdKernelIdeal.main_arg0)) (m ((c.tc : Thread Cert.AttnAFwdKernelIdeal.nD Cert.AttnAFwdKernelIdeal.τ).loc Cert.AttnAFwdKernelIdeal.main_arg1)) (m ((c.tc : Thread Cert.AttnAFwdKernelIdeal.nD Cert.AttnAFwdKernelIdeal.τ).loc Cert.AttnAFwdKernelIdeal.main_arg2))).2.1 = (fun _ => 1#1)
    ∧ (Cert.Pre_finite_attn_a_fwd.fn (F := Ideal) (m ((c.tc : Thread Cert.AttnAFwdKernelIdeal.nD Cert.AttnAFwdKernelIdeal.τ).loc Cert.AttnAFwdKernelIdeal.main_arg0)) (m ((c.tc : Thread Cert.AttnAFwdKernelIdeal.nD Cert.AttnAFwdKernelIdeal.τ).loc Cert.AttnAFwdKernelIdeal.main_arg1)) (m ((c.tc : Thread Cert.AttnAFwdKernelIdeal.nD Cert.AttnAFwdKernelIdeal.τ).loc Cert.AttnAFwdKernelIdeal.main_arg2))).2.2 = (fun _ => 1#1)

def Pre_AttnAFwdRefIdeal (m : (ℓ : Loc Cert.AttnAFwdRefIdeal.nD Cert.AttnAFwdRefIdeal.τ Cert.AttnAFwdRefIdeal.sig) → Buf (Elt Ideal) ℓ) : Prop :=
  True

def Pre_AttnAFwdRefIdeal_finite_attn_a_fwd [hPre_finite_attn_a_fwd : Cert.Pre_finite_attn_a_fwd.Facts] (m : (ℓ : Loc Cert.AttnAFwdRefIdeal.nD Cert.AttnAFwdRefIdeal.τ Cert.AttnAFwdRefIdeal.sig) → Buf (Elt Ideal) ℓ) : Prop :=
  ∀ c : Dev Cert.AttnAFwdRefIdeal.nD,
    (Cert.Pre_finite_attn_a_fwd.fn (F := Ideal) (m ((c.tc : Thread Cert.AttnAFwdRefIdeal.nD Cert.AttnAFwdRefIdeal.τ).loc Cert.AttnAFwdRefIdeal.main_arg0)) (m ((c.tc : Thread Cert.AttnAFwdRefIdeal.nD Cert.AttnAFwdRefIdeal.τ).loc Cert.AttnAFwdRefIdeal.main_arg1)) (m ((c.tc : Thread Cert.AttnAFwdRefIdeal.nD Cert.AttnAFwdRefIdeal.τ).loc Cert.AttnAFwdRefIdeal.main_arg2))).1 = (fun _ => 1#1)
    ∧ (Cert.Pre_finite_attn_a_fwd.fn (F := Ideal) (m ((c.tc : Thread Cert.AttnAFwdRefIdeal.nD Cert.AttnAFwdRefIdeal.τ).loc Cert.AttnAFwdRefIdeal.main_arg0)) (m ((c.tc : Thread Cert.AttnAFwdRefIdeal.nD Cert.AttnAFwdRefIdeal.τ).loc Cert.AttnAFwdRefIdeal.main_arg1)) (m ((c.tc : Thread Cert.AttnAFwdRefIdeal.nD Cert.AttnAFwdRefIdeal.τ).loc Cert.AttnAFwdRefIdeal.main_arg2))).2.1 = (fun _ => 1#1)
    ∧ (Cert.Pre_finite_attn_a_fwd.fn (F := Ideal) (m ((c.tc : Thread Cert.AttnAFwdRefIdeal.nD Cert.AttnAFwdRefIdeal.τ).loc Cert.AttnAFwdRefIdeal.main_arg0)) (m ((c.tc : Thread Cert.AttnAFwdRefIdeal.nD Cert.AttnAFwdRefIdeal.τ).loc Cert.AttnAFwdRefIdeal.main_arg1)) (m ((c.tc : Thread Cert.AttnAFwdRefIdeal.nD Cert.AttnAFwdRefIdeal.τ).loc Cert.AttnAFwdRefIdeal.main_arg2))).2.2 = (fun _ => 1#1)

def Pre_AttnBFwdKernel (m : (ℓ : Loc Cert.AttnBFwdKernel.nD Cert.AttnBFwdKernel.τ Cert.AttnBFwdKernel.sig) → Buf (Elt Bits) ℓ) : Prop :=
  True

def Pre_AttnBFwdKernelIdeal (m : (ℓ : Loc Cert.AttnBFwdKernelIdeal.nD Cert.AttnBFwdKernelIdeal.τ Cert.AttnBFwdKernelIdeal.sig) → Buf (Elt Ideal) ℓ) : Prop :=
  True

def Pre_AttnBFwdKernelIdeal_finite_attn_b_fwd [hPre_finite_attn_b_fwd : Cert.Pre_finite_attn_b_fwd.Facts] (m : (ℓ : Loc Cert.AttnBFwdKernelIdeal.nD Cert.AttnBFwdKernelIdeal.τ Cert.AttnBFwdKernelIdeal.sig) → Buf (Elt Ideal) ℓ) : Prop :=
  ∀ c : Dev Cert.AttnBFwdKernelIdeal.nD,
    (Cert.Pre_finite_attn_b_fwd.fn (F := Ideal) (m ((c.tc : Thread Cert.AttnBFwdKernelIdeal.nD Cert.AttnBFwdKernelIdeal.τ).loc Cert.AttnBFwdKernelIdeal.main_arg0)) (m ((c.tc : Thread Cert.AttnBFwdKernelIdeal.nD Cert.AttnBFwdKernelIdeal.τ).loc Cert.AttnBFwdKernelIdeal.main_arg1)) (m ((c.tc : Thread Cert.AttnBFwdKernelIdeal.nD Cert.AttnBFwdKernelIdeal.τ).loc Cert.AttnBFwdKernelIdeal.main_arg2))).1 = (fun _ => 1#1)
    ∧ (Cert.Pre_finite_attn_b_fwd.fn (F := Ideal) (m ((c.tc : Thread Cert.AttnBFwdKernelIdeal.nD Cert.AttnBFwdKernelIdeal.τ).loc Cert.AttnBFwdKernelIdeal.main_arg0)) (m ((c.tc : Thread Cert.AttnBFwdKernelIdeal.nD Cert.AttnBFwdKernelIdeal.τ).loc Cert.AttnBFwdKernelIdeal.main_arg1)) (m ((c.tc : Thread Cert.AttnBFwdKernelIdeal.nD Cert.AttnBFwdKernelIdeal.τ).loc Cert.AttnBFwdKernelIdeal.main_arg2))).2.1 = (fun _ => 1#1)
    ∧ (Cert.Pre_finite_attn_b_fwd.fn (F := Ideal) (m ((c.tc : Thread Cert.AttnBFwdKernelIdeal.nD Cert.AttnBFwdKernelIdeal.τ).loc Cert.AttnBFwdKernelIdeal.main_arg0)) (m ((c.tc : Thread Cert.AttnBFwdKernelIdeal.nD Cert.AttnBFwdKernelIdeal.τ).loc Cert.AttnBFwdKernelIdeal.main_arg1)) (m ((c.tc : Thread Cert.AttnBFwdKernelIdeal.nD Cert.AttnBFwdKernelIdeal.τ).loc Cert.AttnBFwdKernelIdeal.main_arg2))).2.2 = (fun _ => 1#1)

def Pre_AttnBFwdRefIdeal (m : (ℓ : Loc Cert.AttnBFwdRefIdeal.nD Cert.AttnBFwdRefIdeal.τ Cert.AttnBFwdRefIdeal.sig) → Buf (Elt Ideal) ℓ) : Prop :=
  True

def Pre_AttnBFwdRefIdeal_finite_attn_b_fwd [hPre_finite_attn_b_fwd : Cert.Pre_finite_attn_b_fwd.Facts] (m : (ℓ : Loc Cert.AttnBFwdRefIdeal.nD Cert.AttnBFwdRefIdeal.τ Cert.AttnBFwdRefIdeal.sig) → Buf (Elt Ideal) ℓ) : Prop :=
  ∀ c : Dev Cert.AttnBFwdRefIdeal.nD,
    (Cert.Pre_finite_attn_b_fwd.fn (F := Ideal) (m ((c.tc : Thread Cert.AttnBFwdRefIdeal.nD Cert.AttnBFwdRefIdeal.τ).loc Cert.AttnBFwdRefIdeal.main_arg0)) (m ((c.tc : Thread Cert.AttnBFwdRefIdeal.nD Cert.AttnBFwdRefIdeal.τ).loc Cert.AttnBFwdRefIdeal.main_arg1)) (m ((c.tc : Thread Cert.AttnBFwdRefIdeal.nD Cert.AttnBFwdRefIdeal.τ).loc Cert.AttnBFwdRefIdeal.main_arg2))).1 = (fun _ => 1#1)
    ∧ (Cert.Pre_finite_attn_b_fwd.fn (F := Ideal) (m ((c.tc : Thread Cert.AttnBFwdRefIdeal.nD Cert.AttnBFwdRefIdeal.τ).loc Cert.AttnBFwdRefIdeal.main_arg0)) (m ((c.tc : Thread Cert.AttnBFwdRefIdeal.nD Cert.AttnBFwdRefIdeal.τ).loc Cert.AttnBFwdRefIdeal.main_arg1)) (m ((c.tc : Thread Cert.AttnBFwdRefIdeal.nD Cert.AttnBFwdRefIdeal.τ).loc Cert.AttnBFwdRefIdeal.main_arg2))).2.1 = (fun _ => 1#1)
    ∧ (Cert.Pre_finite_attn_b_fwd.fn (F := Ideal) (m ((c.tc : Thread Cert.AttnBFwdRefIdeal.nD Cert.AttnBFwdRefIdeal.τ).loc Cert.AttnBFwdRefIdeal.main_arg0)) (m ((c.tc : Thread Cert.AttnBFwdRefIdeal.nD Cert.AttnBFwdRefIdeal.τ).loc Cert.AttnBFwdRefIdeal.main_arg1)) (m ((c.tc : Thread Cert.AttnBFwdRefIdeal.nD Cert.AttnBFwdRefIdeal.τ).loc Cert.AttnBFwdRefIdeal.main_arg2))).2.2 = (fun _ => 1#1)

def quiescent_MlpDownKernel [hMlpDownKernel : Cert.MlpDownKernel.Facts] : Prop :=
  ∀ (m : (ℓ : Loc Cert.MlpDownKernel.nD Cert.MlpDownKernel.τ Cert.MlpDownKernel.sig) → Buf (Elt Bits) ℓ) (g : Dev Cert.MlpDownKernel.nD → PrngReg), Pre_MlpDownKernel m →
    θ_run (Cert.MlpDownKernel.defs (F := Bits)) (onTc (τ := Cert.MlpDownKernel.τ) (Cert.MlpDownKernel.main (F := Bits))) ⟨m, fun _ => 0, g⟩ (fun r => (∀ c : Dev Cert.MlpDownKernel.nD,
      r.2.mem ((c.tc : Thread Cert.MlpDownKernel.nD Cert.MlpDownKernel.τ).loc Cert.MlpDownKernel.main_arg0) = m ((c.tc : Thread Cert.MlpDownKernel.nD Cert.MlpDownKernel.τ).loc Cert.MlpDownKernel.main_arg0)
      ∧ r.2.mem ((c.tc : Thread Cert.MlpDownKernel.nD Cert.MlpDownKernel.τ).loc Cert.MlpDownKernel.main_arg1) = m ((c.tc : Thread Cert.MlpDownKernel.nD Cert.MlpDownKernel.τ).loc Cert.MlpDownKernel.main_arg1)
      ∧ r.2.mem ((c.tc : Thread Cert.MlpDownKernel.nD Cert.MlpDownKernel.τ).loc Cert.MlpDownKernel.main_arg2) = m ((c.tc : Thread Cert.MlpDownKernel.nD Cert.MlpDownKernel.τ).loc Cert.MlpDownKernel.main_arg2))
      ∧ r.2.sem = fun _ => 0)

def quiescent_MlpDownKernelIdeal [hMlpDownKernelIdeal : Cert.MlpDownKernelIdeal.Facts] : Prop :=
  ∀ (m : (ℓ : Loc Cert.MlpDownKernelIdeal.nD Cert.MlpDownKernelIdeal.τ Cert.MlpDownKernelIdeal.sig) → Buf (Elt Ideal) ℓ) (g : Dev Cert.MlpDownKernelIdeal.nD → PrngReg), Pre_MlpDownKernelIdeal m →
    θ_run (Cert.MlpDownKernelIdeal.defs (F := Ideal)) (onTc (τ := Cert.MlpDownKernelIdeal.τ) (Cert.MlpDownKernelIdeal.main (F := Ideal))) ⟨m, fun _ => 0, g⟩ (fun r => (∀ c : Dev Cert.MlpDownKernelIdeal.nD,
      r.2.mem ((c.tc : Thread Cert.MlpDownKernelIdeal.nD Cert.MlpDownKernelIdeal.τ).loc Cert.MlpDownKernelIdeal.main_arg0) = m ((c.tc : Thread Cert.MlpDownKernelIdeal.nD Cert.MlpDownKernelIdeal.τ).loc Cert.MlpDownKernelIdeal.main_arg0)
      ∧ r.2.mem ((c.tc : Thread Cert.MlpDownKernelIdeal.nD Cert.MlpDownKernelIdeal.τ).loc Cert.MlpDownKernelIdeal.main_arg1) = m ((c.tc : Thread Cert.MlpDownKernelIdeal.nD Cert.MlpDownKernelIdeal.τ).loc Cert.MlpDownKernelIdeal.main_arg1)
      ∧ r.2.mem ((c.tc : Thread Cert.MlpDownKernelIdeal.nD Cert.MlpDownKernelIdeal.τ).loc Cert.MlpDownKernelIdeal.main_arg2) = m ((c.tc : Thread Cert.MlpDownKernelIdeal.nD Cert.MlpDownKernelIdeal.τ).loc Cert.MlpDownKernelIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MlpUpKernel [hMlpUpKernel : Cert.MlpUpKernel.Facts] : Prop :=
  ∀ (m : (ℓ : Loc Cert.MlpUpKernel.nD Cert.MlpUpKernel.τ Cert.MlpUpKernel.sig) → Buf (Elt Bits) ℓ) (g : Dev Cert.MlpUpKernel.nD → PrngReg), Pre_MlpUpKernel m →
    θ_run (Cert.MlpUpKernel.defs (F := Bits)) (onTc (τ := Cert.MlpUpKernel.τ) (Cert.MlpUpKernel.main (F := Bits))) ⟨m, fun _ => 0, g⟩ (fun r => (∀ c : Dev Cert.MlpUpKernel.nD,
      r.2.mem ((c.tc : Thread Cert.MlpUpKernel.nD Cert.MlpUpKernel.τ).loc Cert.MlpUpKernel.main_arg0) = m ((c.tc : Thread Cert.MlpUpKernel.nD Cert.MlpUpKernel.τ).loc Cert.MlpUpKernel.main_arg0)
      ∧ r.2.mem ((c.tc : Thread Cert.MlpUpKernel.nD Cert.MlpUpKernel.τ).loc Cert.MlpUpKernel.main_arg1) = m ((c.tc : Thread Cert.MlpUpKernel.nD Cert.MlpUpKernel.τ).loc Cert.MlpUpKernel.main_arg1)
      ∧ r.2.mem ((c.tc : Thread Cert.MlpUpKernel.nD Cert.MlpUpKernel.τ).loc Cert.MlpUpKernel.main_arg2) = m ((c.tc : Thread Cert.MlpUpKernel.nD Cert.MlpUpKernel.τ).loc Cert.MlpUpKernel.main_arg2)
      ∧ r.2.mem ((c.tc : Thread Cert.MlpUpKernel.nD Cert.MlpUpKernel.τ).loc Cert.MlpUpKernel.main_arg3) = m ((c.tc : Thread Cert.MlpUpKernel.nD Cert.MlpUpKernel.τ).loc Cert.MlpUpKernel.main_arg3)
      ∧ r.2.mem ((c.tc : Thread Cert.MlpUpKernel.nD Cert.MlpUpKernel.τ).loc Cert.MlpUpKernel.main_arg4) = m ((c.tc : Thread Cert.MlpUpKernel.nD Cert.MlpUpKernel.τ).loc Cert.MlpUpKernel.main_arg4))
      ∧ r.2.sem = fun _ => 0)

def quiescent_MlpUpKernelIdeal [hMlpUpKernelIdeal : Cert.MlpUpKernelIdeal.Facts] : Prop :=
  ∀ (m : (ℓ : Loc Cert.MlpUpKernelIdeal.nD Cert.MlpUpKernelIdeal.τ Cert.MlpUpKernelIdeal.sig) → Buf (Elt Ideal) ℓ) (g : Dev Cert.MlpUpKernelIdeal.nD → PrngReg), Pre_MlpUpKernelIdeal m →
    θ_run (Cert.MlpUpKernelIdeal.defs (F := Ideal)) (onTc (τ := Cert.MlpUpKernelIdeal.τ) (Cert.MlpUpKernelIdeal.main (F := Ideal))) ⟨m, fun _ => 0, g⟩ (fun r => (∀ c : Dev Cert.MlpUpKernelIdeal.nD,
      r.2.mem ((c.tc : Thread Cert.MlpUpKernelIdeal.nD Cert.MlpUpKernelIdeal.τ).loc Cert.MlpUpKernelIdeal.main_arg0) = m ((c.tc : Thread Cert.MlpUpKernelIdeal.nD Cert.MlpUpKernelIdeal.τ).loc Cert.MlpUpKernelIdeal.main_arg0)
      ∧ r.2.mem ((c.tc : Thread Cert.MlpUpKernelIdeal.nD Cert.MlpUpKernelIdeal.τ).loc Cert.MlpUpKernelIdeal.main_arg1) = m ((c.tc : Thread Cert.MlpUpKernelIdeal.nD Cert.MlpUpKernelIdeal.τ).loc Cert.MlpUpKernelIdeal.main_arg1)
      ∧ r.2.mem ((c.tc : Thread Cert.MlpUpKernelIdeal.nD Cert.MlpUpKernelIdeal.τ).loc Cert.MlpUpKernelIdeal.main_arg2) = m ((c.tc : Thread Cert.MlpUpKernelIdeal.nD Cert.MlpUpKernelIdeal.τ).loc Cert.MlpUpKernelIdeal.main_arg2)
      ∧ r.2.mem ((c.tc : Thread Cert.MlpUpKernelIdeal.nD Cert.MlpUpKernelIdeal.τ).loc Cert.MlpUpKernelIdeal.main_arg3) = m ((c.tc : Thread Cert.MlpUpKernelIdeal.nD Cert.MlpUpKernelIdeal.τ).loc Cert.MlpUpKernelIdeal.main_arg3)
      ∧ r.2.mem ((c.tc : Thread Cert.MlpUpKernelIdeal.nD Cert.MlpUpKernelIdeal.τ).loc Cert.MlpUpKernelIdeal.main_arg4) = m ((c.tc : Thread Cert.MlpUpKernelIdeal.nD Cert.MlpUpKernelIdeal.τ).loc Cert.MlpUpKernelIdeal.main_arg4))
      ∧ r.2.sem = fun _ => 0)

def quiescent_MlpUpKernelIdeal_pre_finite_mlp_up [hMlpUpKernelIdeal : Cert.MlpUpKernelIdeal.Facts] [hPre_finite_mlp_up : Cert.Pre_finite_mlp_up.Facts] : Prop :=
  ∀ (m : (ℓ : Loc Cert.MlpUpKernelIdeal.nD Cert.MlpUpKernelIdeal.τ Cert.MlpUpKernelIdeal.sig) → Buf (Elt Ideal) ℓ) (g : Dev Cert.MlpUpKernelIdeal.nD → PrngReg), Pre_MlpUpKernelIdeal_finite_mlp_up m →
    θ_run (Cert.MlpUpKernelIdeal.defs (F := Ideal)) (onTc (τ := Cert.MlpUpKernelIdeal.τ) (Cert.MlpUpKernelIdeal.main (F := Ideal))) ⟨m, fun _ => 0, g⟩ (fun r => (∀ c : Dev Cert.MlpUpKernelIdeal.nD,
      r.2.mem ((c.tc : Thread Cert.MlpUpKernelIdeal.nD Cert.MlpUpKernelIdeal.τ).loc Cert.MlpUpKernelIdeal.main_arg0) = m ((c.tc : Thread Cert.MlpUpKernelIdeal.nD Cert.MlpUpKernelIdeal.τ).loc Cert.MlpUpKernelIdeal.main_arg0)
      ∧ r.2.mem ((c.tc : Thread Cert.MlpUpKernelIdeal.nD Cert.MlpUpKernelIdeal.τ).loc Cert.MlpUpKernelIdeal.main_arg1) = m ((c.tc : Thread Cert.MlpUpKernelIdeal.nD Cert.MlpUpKernelIdeal.τ).loc Cert.MlpUpKernelIdeal.main_arg1)
      ∧ r.2.mem ((c.tc : Thread Cert.MlpUpKernelIdeal.nD Cert.MlpUpKernelIdeal.τ).loc Cert.MlpUpKernelIdeal.main_arg2) = m ((c.tc : Thread Cert.MlpUpKernelIdeal.nD Cert.MlpUpKernelIdeal.τ).loc Cert.MlpUpKernelIdeal.main_arg2)
      ∧ r.2.mem ((c.tc : Thread Cert.MlpUpKernelIdeal.nD Cert.MlpUpKernelIdeal.τ).loc Cert.MlpUpKernelIdeal.main_arg3) = m ((c.tc : Thread Cert.MlpUpKernelIdeal.nD Cert.MlpUpKernelIdeal.τ).loc Cert.MlpUpKernelIdeal.main_arg3)
      ∧ r.2.mem ((c.tc : Thread Cert.MlpUpKernelIdeal.nD Cert.MlpUpKernelIdeal.τ).loc Cert.MlpUpKernelIdeal.main_arg4) = m ((c.tc : Thread Cert.MlpUpKernelIdeal.nD Cert.MlpUpKernelIdeal.τ).loc Cert.MlpUpKernelIdeal.main_arg4))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_MlpUpRefIdeal_pre_finite_mlp_up [hMlpUpRefIdeal : Cert.MlpUpRefIdeal.Facts] [hPre_finite_mlp_up : Cert.Pre_finite_mlp_up.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal_finite_mlp_up m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3)
      ∧ r.2.mem ((c.tc : Thread Cert.MlpUpRefIdeal.nD Cert.MlpUpRefIdeal.τ).loc Cert.MlpUpRefIdeal.main_arg4) = m ((c.tc : Thread Cert.MlpUpRefIdeal.nD Cert.MlpUpRefIdeal.τ).loc Cert.MlpUpRefIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_AttnAKernel [hAttnAKernel : Cert.AttnAKernel.Facts] : Prop :=
  ∀ (m : (ℓ : Loc Cert.AttnAKernel.nD Cert.AttnAKernel.τ Cert.AttnAKernel.sig) → Buf (Elt Bits) ℓ) (g : Dev Cert.AttnAKernel.nD → PrngReg), Pre_AttnAKernel m →
    θ_run (Cert.AttnAKernel.defs (F := Bits)) (onTc (τ := Cert.AttnAKernel.τ) (Cert.AttnAKernel.main (F := Bits))) ⟨m, fun _ => 0, g⟩ (fun r => (∀ c : Dev Cert.AttnAKernel.nD,
      r.2.mem ((c.tc : Thread Cert.AttnAKernel.nD Cert.AttnAKernel.τ).loc Cert.AttnAKernel.main_arg0) = m ((c.tc : Thread Cert.AttnAKernel.nD Cert.AttnAKernel.τ).loc Cert.AttnAKernel.main_arg0)
      ∧ r.2.mem ((c.tc : Thread Cert.AttnAKernel.nD Cert.AttnAKernel.τ).loc Cert.AttnAKernel.main_arg1) = m ((c.tc : Thread Cert.AttnAKernel.nD Cert.AttnAKernel.τ).loc Cert.AttnAKernel.main_arg1)
      ∧ r.2.mem ((c.tc : Thread Cert.AttnAKernel.nD Cert.AttnAKernel.τ).loc Cert.AttnAKernel.main_arg2) = m ((c.tc : Thread Cert.AttnAKernel.nD Cert.AttnAKernel.τ).loc Cert.AttnAKernel.main_arg2)
      ∧ r.2.mem ((c.tc : Thread Cert.AttnAKernel.nD Cert.AttnAKernel.τ).loc Cert.AttnAKernel.main_arg3) = m ((c.tc : Thread Cert.AttnAKernel.nD Cert.AttnAKernel.τ).loc Cert.AttnAKernel.main_arg3))
      ∧ r.2.sem = fun _ => 0)

def quiescent_AttnAKernelIdeal [hAttnAKernelIdeal : Cert.AttnAKernelIdeal.Facts] : Prop :=
  ∀ (m : (ℓ : Loc Cert.AttnAKernelIdeal.nD Cert.AttnAKernelIdeal.τ Cert.AttnAKernelIdeal.sig) → Buf (Elt Ideal) ℓ) (g : Dev Cert.AttnAKernelIdeal.nD → PrngReg), Pre_AttnAKernelIdeal m →
    θ_run (Cert.AttnAKernelIdeal.defs (F := Ideal)) (onTc (τ := Cert.AttnAKernelIdeal.τ) (Cert.AttnAKernelIdeal.main (F := Ideal))) ⟨m, fun _ => 0, g⟩ (fun r => (∀ c : Dev Cert.AttnAKernelIdeal.nD,
      r.2.mem ((c.tc : Thread Cert.AttnAKernelIdeal.nD Cert.AttnAKernelIdeal.τ).loc Cert.AttnAKernelIdeal.main_arg0) = m ((c.tc : Thread Cert.AttnAKernelIdeal.nD Cert.AttnAKernelIdeal.τ).loc Cert.AttnAKernelIdeal.main_arg0)
      ∧ r.2.mem ((c.tc : Thread Cert.AttnAKernelIdeal.nD Cert.AttnAKernelIdeal.τ).loc Cert.AttnAKernelIdeal.main_arg1) = m ((c.tc : Thread Cert.AttnAKernelIdeal.nD Cert.AttnAKernelIdeal.τ).loc Cert.AttnAKernelIdeal.main_arg1)
      ∧ r.2.mem ((c.tc : Thread Cert.AttnAKernelIdeal.nD Cert.AttnAKernelIdeal.τ).loc Cert.AttnAKernelIdeal.main_arg2) = m ((c.tc : Thread Cert.AttnAKernelIdeal.nD Cert.AttnAKernelIdeal.τ).loc Cert.AttnAKernelIdeal.main_arg2)
      ∧ r.2.mem ((c.tc : Thread Cert.AttnAKernelIdeal.nD Cert.AttnAKernelIdeal.τ).loc Cert.AttnAKernelIdeal.main_arg3) = m ((c.tc : Thread Cert.AttnAKernelIdeal.nD Cert.AttnAKernelIdeal.τ).loc Cert.AttnAKernelIdeal.main_arg3))
      ∧ r.2.sem = fun _ => 0)

def quiescent_AttnAKernelIdeal_pre_finite_attn_a [hAttnAKernelIdeal : Cert.AttnAKernelIdeal.Facts] [hPre_finite_attn_a : Cert.Pre_finite_attn_a.Facts] : Prop :=
  ∀ (m : (ℓ : Loc Cert.AttnAKernelIdeal.nD Cert.AttnAKernelIdeal.τ Cert.AttnAKernelIdeal.sig) → Buf (Elt Ideal) ℓ) (g : Dev Cert.AttnAKernelIdeal.nD → PrngReg), Pre_AttnAKernelIdeal_finite_attn_a m →
    θ_run (Cert.AttnAKernelIdeal.defs (F := Ideal)) (onTc (τ := Cert.AttnAKernelIdeal.τ) (Cert.AttnAKernelIdeal.main (F := Ideal))) ⟨m, fun _ => 0, g⟩ (fun r => (∀ c : Dev Cert.AttnAKernelIdeal.nD,
      r.2.mem ((c.tc : Thread Cert.AttnAKernelIdeal.nD Cert.AttnAKernelIdeal.τ).loc Cert.AttnAKernelIdeal.main_arg0) = m ((c.tc : Thread Cert.AttnAKernelIdeal.nD Cert.AttnAKernelIdeal.τ).loc Cert.AttnAKernelIdeal.main_arg0)
      ∧ r.2.mem ((c.tc : Thread Cert.AttnAKernelIdeal.nD Cert.AttnAKernelIdeal.τ).loc Cert.AttnAKernelIdeal.main_arg1) = m ((c.tc : Thread Cert.AttnAKernelIdeal.nD Cert.AttnAKernelIdeal.τ).loc Cert.AttnAKernelIdeal.main_arg1)
      ∧ r.2.mem ((c.tc : Thread Cert.AttnAKernelIdeal.nD Cert.AttnAKernelIdeal.τ).loc Cert.AttnAKernelIdeal.main_arg2) = m ((c.tc : Thread Cert.AttnAKernelIdeal.nD Cert.AttnAKernelIdeal.τ).loc Cert.AttnAKernelIdeal.main_arg2)
      ∧ r.2.mem ((c.tc : Thread Cert.AttnAKernelIdeal.nD Cert.AttnAKernelIdeal.τ).loc Cert.AttnAKernelIdeal.main_arg3) = m ((c.tc : Thread Cert.AttnAKernelIdeal.nD Cert.AttnAKernelIdeal.τ).loc Cert.AttnAKernelIdeal.main_arg3))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_AttnARefIdeal_pre_finite_attn_a [hAttnARefIdeal : Cert.AttnARefIdeal.Facts] [hPre_finite_attn_a : Cert.Pre_finite_attn_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_attn_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_AttnBKernel [hAttnBKernel : Cert.AttnBKernel.Facts] : Prop :=
  ∀ (m : (ℓ : Loc Cert.AttnBKernel.nD Cert.AttnBKernel.τ Cert.AttnBKernel.sig) → Buf (Elt Bits) ℓ) (g : Dev Cert.AttnBKernel.nD → PrngReg), Pre_AttnBKernel m →
    θ_run (Cert.AttnBKernel.defs (F := Bits)) (onTc (τ := Cert.AttnBKernel.τ) (Cert.AttnBKernel.main (F := Bits))) ⟨m, fun _ => 0, g⟩ (fun r => (∀ c : Dev Cert.AttnBKernel.nD,
      r.2.mem ((c.tc : Thread Cert.AttnBKernel.nD Cert.AttnBKernel.τ).loc Cert.AttnBKernel.main_arg0) = m ((c.tc : Thread Cert.AttnBKernel.nD Cert.AttnBKernel.τ).loc Cert.AttnBKernel.main_arg0)
      ∧ r.2.mem ((c.tc : Thread Cert.AttnBKernel.nD Cert.AttnBKernel.τ).loc Cert.AttnBKernel.main_arg1) = m ((c.tc : Thread Cert.AttnBKernel.nD Cert.AttnBKernel.τ).loc Cert.AttnBKernel.main_arg1)
      ∧ r.2.mem ((c.tc : Thread Cert.AttnBKernel.nD Cert.AttnBKernel.τ).loc Cert.AttnBKernel.main_arg2) = m ((c.tc : Thread Cert.AttnBKernel.nD Cert.AttnBKernel.τ).loc Cert.AttnBKernel.main_arg2)
      ∧ r.2.mem ((c.tc : Thread Cert.AttnBKernel.nD Cert.AttnBKernel.τ).loc Cert.AttnBKernel.main_arg3) = m ((c.tc : Thread Cert.AttnBKernel.nD Cert.AttnBKernel.τ).loc Cert.AttnBKernel.main_arg3))
      ∧ r.2.sem = fun _ => 0)

def quiescent_AttnBKernelIdeal [hAttnBKernelIdeal : Cert.AttnBKernelIdeal.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg), Pre_AttnBKernelIdeal m →
    θ_run (Cert.AttnBKernelIdeal.defs (F := Ideal)) (onTc (τ := Cert.AttnBKernelIdeal.τ) (Cert.AttnBKernelIdeal.main (F := Ideal))) ⟨m, fun _ => 0, g⟩ (fun r => (∀ c : Dev Cert.AttnBKernelIdeal.nD,
      r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
      ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
      ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
      ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3))
      ∧ r.2.sem = fun _ => 0)

def quiescent_AttnBKernelIdeal_pre_finite_attn_b [hAttnBKernelIdeal : Cert.AttnBKernelIdeal.Facts] [hPre_finite_attn_b : Cert.Pre_finite_attn_b.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg), Pre_AttnBKernelIdeal_finite_attn_b m →
    θ_run (Cert.AttnBKernelIdeal.defs (F := Ideal)) (onTc (τ := Cert.AttnBKernelIdeal.τ) (Cert.AttnBKernelIdeal.main (F := Ideal))) ⟨m, fun _ => 0, g⟩ (fun r => (∀ c : Dev Cert.AttnBKernelIdeal.nD,
      r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
      ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
      ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
      ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_AttnBRefIdeal_pre_finite_attn_b [hAttnBRefIdeal : Cert.AttnBRefIdeal.Facts] [hPre_finite_attn_b : Cert.Pre_finite_attn_b.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_attn_b m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2)
      ∧ r.2.mem ((c.tc : Thread Cert.InProjKernel.nD Cert.InProjKernel.τ).loc Cert.InProjKernel.main_arg3) = m ((c.tc : Thread Cert.InProjKernel.nD Cert.InProjKernel.τ).loc Cert.InProjKernel.main_arg3)
      ∧ r.2.mem ((c.tc : Thread Cert.InProjKernel.nD Cert.InProjKernel.τ).loc Cert.InProjKernel.main_arg4) = m ((c.tc : Thread Cert.InProjKernel.nD Cert.InProjKernel.τ).loc Cert.InProjKernel.main_arg4))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
      ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4))
      ∧ r.2.sem = fun _ => 0)

def quiescent_InProjKernelIdeal_pre_finite_in_proj [hInProjKernelIdeal : Cert.InProjKernelIdeal.Facts] [hPre_finite_in_proj : Cert.Pre_finite_in_proj.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal_finite_in_proj m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
      ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_in_proj [hInProjRefIdeal : Cert.InProjRefIdeal.Facts] [hPre_finite_in_proj : Cert.Pre_finite_in_proj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in_proj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6))
      ∧ r.2.sem = fun _ => 0)

def quiescent_TailKernelIdeal_pre_finite_tail [hTailKernelIdeal : Cert.TailKernelIdeal.Facts] [hPre_finite_tail : Cert.Pre_finite_tail.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_finite_tail m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_QPathKernel [hQPathKernel : Cert.QPathKernel.Facts] : Prop :=
  ∀ (m : (ℓ : Loc Cert.QPathKernel.nD Cert.QPathKernel.τ Cert.QPathKernel.sig) → Buf (Elt Bits) ℓ) (g : Dev Cert.QPathKernel.nD → PrngReg), Pre_QPathKernel m →
    θ_run (Cert.QPathKernel.defs (F := Bits)) (onTc (τ := Cert.QPathKernel.τ) (Cert.QPathKernel.main (F := Bits))) ⟨m, fun _ => 0, g⟩ (fun r => (∀ c : Dev Cert.QPathKernel.nD,
      r.2.mem ((c.tc : Thread Cert.QPathKernel.nD Cert.QPathKernel.τ).loc Cert.QPathKernel.main_arg0) = m ((c.tc : Thread Cert.QPathKernel.nD Cert.QPathKernel.τ).loc Cert.QPathKernel.main_arg0)
      ∧ r.2.mem ((c.tc : Thread Cert.QPathKernel.nD Cert.QPathKernel.τ).loc Cert.QPathKernel.main_arg1) = m ((c.tc : Thread Cert.QPathKernel.nD Cert.QPathKernel.τ).loc Cert.QPathKernel.main_arg1)
      ∧ r.2.mem ((c.tc : Thread Cert.QPathKernel.nD Cert.QPathKernel.τ).loc Cert.QPathKernel.main_arg2) = m ((c.tc : Thread Cert.QPathKernel.nD Cert.QPathKernel.τ).loc Cert.QPathKernel.main_arg2)
      ∧ r.2.mem ((c.tc : Thread Cert.QPathKernel.nD Cert.QPathKernel.τ).loc Cert.QPathKernel.main_arg3) = m ((c.tc : Thread Cert.QPathKernel.nD Cert.QPathKernel.τ).loc Cert.QPathKernel.main_arg3))
      ∧ r.2.sem = fun _ => 0)

def quiescent_QPathKernelIdeal [hQPathKernelIdeal : Cert.QPathKernelIdeal.Facts] : Prop :=
  ∀ (m : (ℓ : Loc Cert.QPathKernelIdeal.nD Cert.QPathKernelIdeal.τ Cert.QPathKernelIdeal.sig) → Buf (Elt Ideal) ℓ) (g : Dev Cert.QPathKernelIdeal.nD → PrngReg), Pre_QPathKernelIdeal m →
    θ_run (Cert.QPathKernelIdeal.defs (F := Ideal)) (onTc (τ := Cert.QPathKernelIdeal.τ) (Cert.QPathKernelIdeal.main (F := Ideal))) ⟨m, fun _ => 0, g⟩ (fun r => (∀ c : Dev Cert.QPathKernelIdeal.nD,
      r.2.mem ((c.tc : Thread Cert.QPathKernelIdeal.nD Cert.QPathKernelIdeal.τ).loc Cert.QPathKernelIdeal.main_arg0) = m ((c.tc : Thread Cert.QPathKernelIdeal.nD Cert.QPathKernelIdeal.τ).loc Cert.QPathKernelIdeal.main_arg0)
      ∧ r.2.mem ((c.tc : Thread Cert.QPathKernelIdeal.nD Cert.QPathKernelIdeal.τ).loc Cert.QPathKernelIdeal.main_arg1) = m ((c.tc : Thread Cert.QPathKernelIdeal.nD Cert.QPathKernelIdeal.τ).loc Cert.QPathKernelIdeal.main_arg1)
      ∧ r.2.mem ((c.tc : Thread Cert.QPathKernelIdeal.nD Cert.QPathKernelIdeal.τ).loc Cert.QPathKernelIdeal.main_arg2) = m ((c.tc : Thread Cert.QPathKernelIdeal.nD Cert.QPathKernelIdeal.τ).loc Cert.QPathKernelIdeal.main_arg2)
      ∧ r.2.mem ((c.tc : Thread Cert.QPathKernelIdeal.nD Cert.QPathKernelIdeal.τ).loc Cert.QPathKernelIdeal.main_arg3) = m ((c.tc : Thread Cert.QPathKernelIdeal.nD Cert.QPathKernelIdeal.τ).loc Cert.QPathKernelIdeal.main_arg3))
      ∧ r.2.sem = fun _ => 0)

def quiescent_QPathKernelIdeal_pre_finite_q_path [hQPathKernelIdeal : Cert.QPathKernelIdeal.Facts] [hPre_finite_q_path : Cert.Pre_finite_q_path.Facts] : Prop :=
  ∀ (m : (ℓ : Loc Cert.QPathKernelIdeal.nD Cert.QPathKernelIdeal.τ Cert.QPathKernelIdeal.sig) → Buf (Elt Ideal) ℓ) (g : Dev Cert.QPathKernelIdeal.nD → PrngReg), Pre_QPathKernelIdeal_finite_q_path m →
    θ_run (Cert.QPathKernelIdeal.defs (F := Ideal)) (onTc (τ := Cert.QPathKernelIdeal.τ) (Cert.QPathKernelIdeal.main (F := Ideal))) ⟨m, fun _ => 0, g⟩ (fun r => (∀ c : Dev Cert.QPathKernelIdeal.nD,
      r.2.mem ((c.tc : Thread Cert.QPathKernelIdeal.nD Cert.QPathKernelIdeal.τ).loc Cert.QPathKernelIdeal.main_arg0) = m ((c.tc : Thread Cert.QPathKernelIdeal.nD Cert.QPathKernelIdeal.τ).loc Cert.QPathKernelIdeal.main_arg0)
      ∧ r.2.mem ((c.tc : Thread Cert.QPathKernelIdeal.nD Cert.QPathKernelIdeal.τ).loc Cert.QPathKernelIdeal.main_arg1) = m ((c.tc : Thread Cert.QPathKernelIdeal.nD Cert.QPathKernelIdeal.τ).loc Cert.QPathKernelIdeal.main_arg1)
      ∧ r.2.mem ((c.tc : Thread Cert.QPathKernelIdeal.nD Cert.QPathKernelIdeal.τ).loc Cert.QPathKernelIdeal.main_arg2) = m ((c.tc : Thread Cert.QPathKernelIdeal.nD Cert.QPathKernelIdeal.τ).loc Cert.QPathKernelIdeal.main_arg2)
      ∧ r.2.mem ((c.tc : Thread Cert.QPathKernelIdeal.nD Cert.QPathKernelIdeal.τ).loc Cert.QPathKernelIdeal.main_arg3) = m ((c.tc : Thread Cert.QPathKernelIdeal.nD Cert.QPathKernelIdeal.τ).loc Cert.QPathKernelIdeal.main_arg3))
      ∧ r.2.sem = fun _ => 0)

def quiescent_QPathRefIdeal [hQPathRefIdeal : Cert.QPathRefIdeal.Facts] : Prop :=
  ∀ (m : (ℓ : Loc Cert.QPathRefIdeal.nD Cert.QPathRefIdeal.τ Cert.QPathRefIdeal.sig) → Buf (Elt Ideal) ℓ) (g : Dev Cert.QPathRefIdeal.nD → PrngReg), Pre_QPathRefIdeal m →
    θ_run (Cert.QPathRefIdeal.defs (F := Ideal)) (onTc (τ := Cert.QPathRefIdeal.τ) (Cert.QPathRefIdeal.main (F := Ideal))) ⟨m, fun _ => 0, g⟩ (fun r => (∀ c : Dev Cert.QPathRefIdeal.nD,
      r.2.mem ((c.tc : Thread Cert.QPathRefIdeal.nD Cert.QPathRefIdeal.τ).loc Cert.QPathRefIdeal.main_arg0) = m ((c.tc : Thread Cert.QPathRefIdeal.nD Cert.QPathRefIdeal.τ).loc Cert.QPathRefIdeal.main_arg0)
      ∧ r.2.mem ((c.tc : Thread Cert.QPathRefIdeal.nD Cert.QPathRefIdeal.τ).loc Cert.QPathRefIdeal.main_arg1) = m ((c.tc : Thread Cert.QPathRefIdeal.nD Cert.QPathRefIdeal.τ).loc Cert.QPathRefIdeal.main_arg1)
      ∧ r.2.mem ((c.tc : Thread Cert.QPathRefIdeal.nD Cert.QPathRefIdeal.τ).loc Cert.QPathRefIdeal.main_arg2) = m ((c.tc : Thread Cert.QPathRefIdeal.nD Cert.QPathRefIdeal.τ).loc Cert.QPathRefIdeal.main_arg2)
      ∧ r.2.mem ((c.tc : Thread Cert.QPathRefIdeal.nD Cert.QPathRefIdeal.τ).loc Cert.QPathRefIdeal.main_arg3) = m ((c.tc : Thread Cert.QPathRefIdeal.nD Cert.QPathRefIdeal.τ).loc Cert.QPathRefIdeal.main_arg3))
      ∧ r.2.sem = fun _ => 0)

def quiescent_QPathRefIdeal_pre_finite_q_path [hQPathRefIdeal : Cert.QPathRefIdeal.Facts] [hPre_finite_q_path : Cert.Pre_finite_q_path.Facts] : Prop :=
  ∀ (m : (ℓ : Loc Cert.QPathRefIdeal.nD Cert.QPathRefIdeal.τ Cert.QPathRefIdeal.sig) → Buf (Elt Ideal) ℓ) (g : Dev Cert.QPathRefIdeal.nD → PrngReg), Pre_QPathRefIdeal_finite_q_path m →
    θ_run (Cert.QPathRefIdeal.defs (F := Ideal)) (onTc (τ := Cert.QPathRefIdeal.τ) (Cert.QPathRefIdeal.main (F := Ideal))) ⟨m, fun _ => 0, g⟩ (fun r => (∀ c : Dev Cert.QPathRefIdeal.nD,
      r.2.mem ((c.tc : Thread Cert.QPathRefIdeal.nD Cert.QPathRefIdeal.τ).loc Cert.QPathRefIdeal.main_arg0) = m ((c.tc : Thread Cert.QPathRefIdeal.nD Cert.QPathRefIdeal.τ).loc Cert.QPathRefIdeal.main_arg0)
      ∧ r.2.mem ((c.tc : Thread Cert.QPathRefIdeal.nD Cert.QPathRefIdeal.τ).loc Cert.QPathRefIdeal.main_arg1) = m ((c.tc : Thread Cert.QPathRefIdeal.nD Cert.QPathRefIdeal.τ).loc Cert.QPathRefIdeal.main_arg1)
      ∧ r.2.mem ((c.tc : Thread Cert.QPathRefIdeal.nD Cert.QPathRefIdeal.τ).loc Cert.QPathRefIdeal.main_arg2) = m ((c.tc : Thread Cert.QPathRefIdeal.nD Cert.QPathRefIdeal.τ).loc Cert.QPathRefIdeal.main_arg2)
      ∧ r.2.mem ((c.tc : Thread Cert.QPathRefIdeal.nD Cert.QPathRefIdeal.τ).loc Cert.QPathRefIdeal.main_arg3) = m ((c.tc : Thread Cert.QPathRefIdeal.nD Cert.QPathRefIdeal.τ).loc Cert.QPathRefIdeal.main_arg3))
      ∧ r.2.sem = fun _ => 0)

def quiescent_KvPathKernel [hKvPathKernel : Cert.KvPathKernel.Facts] : Prop :=
  ∀ (m : (ℓ : Loc Cert.KvPathKernel.nD Cert.KvPathKernel.τ Cert.KvPathKernel.sig) → Buf (Elt Bits) ℓ) (g : Dev Cert.KvPathKernel.nD → PrngReg), Pre_KvPathKernel m →
    θ_run (Cert.KvPathKernel.defs (F := Bits)) (onTc (τ := Cert.KvPathKernel.τ) (Cert.KvPathKernel.main (F := Bits))) ⟨m, fun _ => 0, g⟩ (fun r => (∀ c : Dev Cert.KvPathKernel.nD,
      r.2.mem ((c.tc : Thread Cert.KvPathKernel.nD Cert.KvPathKernel.τ).loc Cert.KvPathKernel.main_arg0) = m ((c.tc : Thread Cert.KvPathKernel.nD Cert.KvPathKernel.τ).loc Cert.KvPathKernel.main_arg0)
      ∧ r.2.mem ((c.tc : Thread Cert.KvPathKernel.nD Cert.KvPathKernel.τ).loc Cert.KvPathKernel.main_arg1) = m ((c.tc : Thread Cert.KvPathKernel.nD Cert.KvPathKernel.τ).loc Cert.KvPathKernel.main_arg1)
      ∧ r.2.mem ((c.tc : Thread Cert.KvPathKernel.nD Cert.KvPathKernel.τ).loc Cert.KvPathKernel.main_arg2) = m ((c.tc : Thread Cert.KvPathKernel.nD Cert.KvPathKernel.τ).loc Cert.KvPathKernel.main_arg2)
      ∧ r.2.mem ((c.tc : Thread Cert.KvPathKernel.nD Cert.KvPathKernel.τ).loc Cert.KvPathKernel.main_arg3) = m ((c.tc : Thread Cert.KvPathKernel.nD Cert.KvPathKernel.τ).loc Cert.KvPathKernel.main_arg3)
      ∧ r.2.mem ((c.tc : Thread Cert.KvPathKernel.nD Cert.KvPathKernel.τ).loc Cert.KvPathKernel.main_arg4) = m ((c.tc : Thread Cert.KvPathKernel.nD Cert.KvPathKernel.τ).loc Cert.KvPathKernel.main_arg4)
      ∧ r.2.mem ((c.tc : Thread Cert.KvPathKernel.nD Cert.KvPathKernel.τ).loc Cert.KvPathKernel.main_arg5) = m ((c.tc : Thread Cert.KvPathKernel.nD Cert.KvPathKernel.τ).loc Cert.KvPathKernel.main_arg5))
      ∧ r.2.sem = fun _ => 0)

def quiescent_KvPathKernelIdeal [hKvPathKernelIdeal : Cert.KvPathKernelIdeal.Facts] : Prop :=
  ∀ (m : (ℓ : Loc Cert.KvPathKernelIdeal.nD Cert.KvPathKernelIdeal.τ Cert.KvPathKernelIdeal.sig) → Buf (Elt Ideal) ℓ) (g : Dev Cert.KvPathKernelIdeal.nD → PrngReg), Pre_KvPathKernelIdeal m →
    θ_run (Cert.KvPathKernelIdeal.defs (F := Ideal)) (onTc (τ := Cert.KvPathKernelIdeal.τ) (Cert.KvPathKernelIdeal.main (F := Ideal))) ⟨m, fun _ => 0, g⟩ (fun r => (∀ c : Dev Cert.KvPathKernelIdeal.nD,
      r.2.mem ((c.tc : Thread Cert.KvPathKernelIdeal.nD Cert.KvPathKernelIdeal.τ).loc Cert.KvPathKernelIdeal.main_arg0) = m ((c.tc : Thread Cert.KvPathKernelIdeal.nD Cert.KvPathKernelIdeal.τ).loc Cert.KvPathKernelIdeal.main_arg0)
      ∧ r.2.mem ((c.tc : Thread Cert.KvPathKernelIdeal.nD Cert.KvPathKernelIdeal.τ).loc Cert.KvPathKernelIdeal.main_arg1) = m ((c.tc : Thread Cert.KvPathKernelIdeal.nD Cert.KvPathKernelIdeal.τ).loc Cert.KvPathKernelIdeal.main_arg1)
      ∧ r.2.mem ((c.tc : Thread Cert.KvPathKernelIdeal.nD Cert.KvPathKernelIdeal.τ).loc Cert.KvPathKernelIdeal.main_arg2) = m ((c.tc : Thread Cert.KvPathKernelIdeal.nD Cert.KvPathKernelIdeal.τ).loc Cert.KvPathKernelIdeal.main_arg2)
      ∧ r.2.mem ((c.tc : Thread Cert.KvPathKernelIdeal.nD Cert.KvPathKernelIdeal.τ).loc Cert.KvPathKernelIdeal.main_arg3) = m ((c.tc : Thread Cert.KvPathKernelIdeal.nD Cert.KvPathKernelIdeal.τ).loc Cert.KvPathKernelIdeal.main_arg3)
      ∧ r.2.mem ((c.tc : Thread Cert.KvPathKernelIdeal.nD Cert.KvPathKernelIdeal.τ).loc Cert.KvPathKernelIdeal.main_arg4) = m ((c.tc : Thread Cert.KvPathKernelIdeal.nD Cert.KvPathKernelIdeal.τ).loc Cert.KvPathKernelIdeal.main_arg4)
      ∧ r.2.mem ((c.tc : Thread Cert.KvPathKernelIdeal.nD Cert.KvPathKernelIdeal.τ).loc Cert.KvPathKernelIdeal.main_arg5) = m ((c.tc : Thread Cert.KvPathKernelIdeal.nD Cert.KvPathKernelIdeal.τ).loc Cert.KvPathKernelIdeal.main_arg5))
      ∧ r.2.sem = fun _ => 0)

def quiescent_KvPathKernelIdeal_pre_finite_kv_path [hKvPathKernelIdeal : Cert.KvPathKernelIdeal.Facts] [hPre_finite_kv_path : Cert.Pre_finite_kv_path.Facts] : Prop :=
  ∀ (m : (ℓ : Loc Cert.KvPathKernelIdeal.nD Cert.KvPathKernelIdeal.τ Cert.KvPathKernelIdeal.sig) → Buf (Elt Ideal) ℓ) (g : Dev Cert.KvPathKernelIdeal.nD → PrngReg), Pre_KvPathKernelIdeal_finite_kv_path m →
    θ_run (Cert.KvPathKernelIdeal.defs (F := Ideal)) (onTc (τ := Cert.KvPathKernelIdeal.τ) (Cert.KvPathKernelIdeal.main (F := Ideal))) ⟨m, fun _ => 0, g⟩ (fun r => (∀ c : Dev Cert.KvPathKernelIdeal.nD,
      r.2.mem ((c.tc : Thread Cert.KvPathKernelIdeal.nD Cert.KvPathKernelIdeal.τ).loc Cert.KvPathKernelIdeal.main_arg0) = m ((c.tc : Thread Cert.KvPathKernelIdeal.nD Cert.KvPathKernelIdeal.τ).loc Cert.KvPathKernelIdeal.main_arg0)
      ∧ r.2.mem ((c.tc : Thread Cert.KvPathKernelIdeal.nD Cert.KvPathKernelIdeal.τ).loc Cert.KvPathKernelIdeal.main_arg1) = m ((c.tc : Thread Cert.KvPathKernelIdeal.nD Cert.KvPathKernelIdeal.τ).loc Cert.KvPathKernelIdeal.main_arg1)
      ∧ r.2.mem ((c.tc : Thread Cert.KvPathKernelIdeal.nD Cert.KvPathKernelIdeal.τ).loc Cert.KvPathKernelIdeal.main_arg2) = m ((c.tc : Thread Cert.KvPathKernelIdeal.nD Cert.KvPathKernelIdeal.τ).loc Cert.KvPathKernelIdeal.main_arg2)
      ∧ r.2.mem ((c.tc : Thread Cert.KvPathKernelIdeal.nD Cert.KvPathKernelIdeal.τ).loc Cert.KvPathKernelIdeal.main_arg3) = m ((c.tc : Thread Cert.KvPathKernelIdeal.nD Cert.KvPathKernelIdeal.τ).loc Cert.KvPathKernelIdeal.main_arg3)
      ∧ r.2.mem ((c.tc : Thread Cert.KvPathKernelIdeal.nD Cert.KvPathKernelIdeal.τ).loc Cert.KvPathKernelIdeal.main_arg4) = m ((c.tc : Thread Cert.KvPathKernelIdeal.nD Cert.KvPathKernelIdeal.τ).loc Cert.KvPathKernelIdeal.main_arg4)
      ∧ r.2.mem ((c.tc : Thread Cert.KvPathKernelIdeal.nD Cert.KvPathKernelIdeal.τ).loc Cert.KvPathKernelIdeal.main_arg5) = m ((c.tc : Thread Cert.KvPathKernelIdeal.nD Cert.KvPathKernelIdeal.τ).loc Cert.KvPathKernelIdeal.main_arg5))
      ∧ r.2.sem = fun _ => 0)

def quiescent_KvPathRefIdeal [hKvPathRefIdeal : Cert.KvPathRefIdeal.Facts] : Prop :=
  ∀ (m : (ℓ : Loc Cert.KvPathRefIdeal.nD Cert.KvPathRefIdeal.τ Cert.KvPathRefIdeal.sig) → Buf (Elt Ideal) ℓ) (g : Dev Cert.KvPathRefIdeal.nD → PrngReg), Pre_KvPathRefIdeal m →
    θ_run (Cert.KvPathRefIdeal.defs (F := Ideal)) (onTc (τ := Cert.KvPathRefIdeal.τ) (Cert.KvPathRefIdeal.main (F := Ideal))) ⟨m, fun _ => 0, g⟩ (fun r => (∀ c : Dev Cert.KvPathRefIdeal.nD,
      r.2.mem ((c.tc : Thread Cert.KvPathRefIdeal.nD Cert.KvPathRefIdeal.τ).loc Cert.KvPathRefIdeal.main_arg0) = m ((c.tc : Thread Cert.KvPathRefIdeal.nD Cert.KvPathRefIdeal.τ).loc Cert.KvPathRefIdeal.main_arg0)
      ∧ r.2.mem ((c.tc : Thread Cert.KvPathRefIdeal.nD Cert.KvPathRefIdeal.τ).loc Cert.KvPathRefIdeal.main_arg1) = m ((c.tc : Thread Cert.KvPathRefIdeal.nD Cert.KvPathRefIdeal.τ).loc Cert.KvPathRefIdeal.main_arg1)
      ∧ r.2.mem ((c.tc : Thread Cert.KvPathRefIdeal.nD Cert.KvPathRefIdeal.τ).loc Cert.KvPathRefIdeal.main_arg2) = m ((c.tc : Thread Cert.KvPathRefIdeal.nD Cert.KvPathRefIdeal.τ).loc Cert.KvPathRefIdeal.main_arg2)
      ∧ r.2.mem ((c.tc : Thread Cert.KvPathRefIdeal.nD Cert.KvPathRefIdeal.τ).loc Cert.KvPathRefIdeal.main_arg3) = m ((c.tc : Thread Cert.KvPathRefIdeal.nD Cert.KvPathRefIdeal.τ).loc Cert.KvPathRefIdeal.main_arg3)
      ∧ r.2.mem ((c.tc : Thread Cert.KvPathRefIdeal.nD Cert.KvPathRefIdeal.τ).loc Cert.KvPathRefIdeal.main_arg4) = m ((c.tc : Thread Cert.KvPathRefIdeal.nD Cert.KvPathRefIdeal.τ).loc Cert.KvPathRefIdeal.main_arg4)
      ∧ r.2.mem ((c.tc : Thread Cert.KvPathRefIdeal.nD Cert.KvPathRefIdeal.τ).loc Cert.KvPathRefIdeal.main_arg5) = m ((c.tc : Thread Cert.KvPathRefIdeal.nD Cert.KvPathRefIdeal.τ).loc Cert.KvPathRefIdeal.main_arg5))
      ∧ r.2.sem = fun _ => 0)

def quiescent_KvPathRefIdeal_pre_finite_kv_path [hKvPathRefIdeal : Cert.KvPathRefIdeal.Facts] [hPre_finite_kv_path : Cert.Pre_finite_kv_path.Facts] : Prop :=
  ∀ (m : (ℓ : Loc Cert.KvPathRefIdeal.nD Cert.KvPathRefIdeal.τ Cert.KvPathRefIdeal.sig) → Buf (Elt Ideal) ℓ) (g : Dev Cert.KvPathRefIdeal.nD → PrngReg), Pre_KvPathRefIdeal_finite_kv_path m →
    θ_run (Cert.KvPathRefIdeal.defs (F := Ideal)) (onTc (τ := Cert.KvPathRefIdeal.τ) (Cert.KvPathRefIdeal.main (F := Ideal))) ⟨m, fun _ => 0, g⟩ (fun r => (∀ c : Dev Cert.KvPathRefIdeal.nD,
      r.2.mem ((c.tc : Thread Cert.KvPathRefIdeal.nD Cert.KvPathRefIdeal.τ).loc Cert.KvPathRefIdeal.main_arg0) = m ((c.tc : Thread Cert.KvPathRefIdeal.nD Cert.KvPathRefIdeal.τ).loc Cert.KvPathRefIdeal.main_arg0)
      ∧ r.2.mem ((c.tc : Thread Cert.KvPathRefIdeal.nD Cert.KvPathRefIdeal.τ).loc Cert.KvPathRefIdeal.main_arg1) = m ((c.tc : Thread Cert.KvPathRefIdeal.nD Cert.KvPathRefIdeal.τ).loc Cert.KvPathRefIdeal.main_arg1)
      ∧ r.2.mem ((c.tc : Thread Cert.KvPathRefIdeal.nD Cert.KvPathRefIdeal.τ).loc Cert.KvPathRefIdeal.main_arg2) = m ((c.tc : Thread Cert.KvPathRefIdeal.nD Cert.KvPathRefIdeal.τ).loc Cert.KvPathRefIdeal.main_arg2)
      ∧ r.2.mem ((c.tc : Thread Cert.KvPathRefIdeal.nD Cert.KvPathRefIdeal.τ).loc Cert.KvPathRefIdeal.main_arg3) = m ((c.tc : Thread Cert.KvPathRefIdeal.nD Cert.KvPathRefIdeal.τ).loc Cert.KvPathRefIdeal.main_arg3)
      ∧ r.2.mem ((c.tc : Thread Cert.KvPathRefIdeal.nD Cert.KvPathRefIdeal.τ).loc Cert.KvPathRefIdeal.main_arg4) = m ((c.tc : Thread Cert.KvPathRefIdeal.nD Cert.KvPathRefIdeal.τ).loc Cert.KvPathRefIdeal.main_arg4)
      ∧ r.2.mem ((c.tc : Thread Cert.KvPathRefIdeal.nD Cert.KvPathRefIdeal.τ).loc Cert.KvPathRefIdeal.main_arg5) = m ((c.tc : Thread Cert.KvPathRefIdeal.nD Cert.KvPathRefIdeal.τ).loc Cert.KvPathRefIdeal.main_arg5))
      ∧ r.2.sem = fun _ => 0)

def quiescent_PrepBKernel [hPrepBKernel : Cert.PrepBKernel.Facts] : Prop :=
  ∀ (m : (ℓ : Loc Cert.PrepBKernel.nD Cert.PrepBKernel.τ Cert.PrepBKernel.sig) → Buf (Elt Bits) ℓ) (g : Dev Cert.PrepBKernel.nD → PrngReg), Pre_PrepBKernel m →
    θ_run (Cert.PrepBKernel.defs (F := Bits)) (onTc (τ := Cert.PrepBKernel.τ) (Cert.PrepBKernel.main (F := Bits))) ⟨m, fun _ => 0, g⟩ (fun r => (∀ c : Dev Cert.PrepBKernel.nD,
      r.2.mem ((c.tc : Thread Cert.PrepBKernel.nD Cert.PrepBKernel.τ).loc Cert.PrepBKernel.main_arg0) = m ((c.tc : Thread Cert.PrepBKernel.nD Cert.PrepBKernel.τ).loc Cert.PrepBKernel.main_arg0)
      ∧ r.2.mem ((c.tc : Thread Cert.PrepBKernel.nD Cert.PrepBKernel.τ).loc Cert.PrepBKernel.main_arg1) = m ((c.tc : Thread Cert.PrepBKernel.nD Cert.PrepBKernel.τ).loc Cert.PrepBKernel.main_arg1)
      ∧ r.2.mem ((c.tc : Thread Cert.PrepBKernel.nD Cert.PrepBKernel.τ).loc Cert.PrepBKernel.main_arg2) = m ((c.tc : Thread Cert.PrepBKernel.nD Cert.PrepBKernel.τ).loc Cert.PrepBKernel.main_arg2)
      ∧ r.2.mem ((c.tc : Thread Cert.PrepBKernel.nD Cert.PrepBKernel.τ).loc Cert.PrepBKernel.main_arg3) = m ((c.tc : Thread Cert.PrepBKernel.nD Cert.PrepBKernel.τ).loc Cert.PrepBKernel.main_arg3)
      ∧ r.2.mem ((c.tc : Thread Cert.PrepBKernel.nD Cert.PrepBKernel.τ).loc Cert.PrepBKernel.main_arg4) = m ((c.tc : Thread Cert.PrepBKernel.nD Cert.PrepBKernel.τ).loc Cert.PrepBKernel.main_arg4)
      ∧ r.2.mem ((c.tc : Thread Cert.PrepBKernel.nD Cert.PrepBKernel.τ).loc Cert.PrepBKernel.main_arg5) = m ((c.tc : Thread Cert.PrepBKernel.nD Cert.PrepBKernel.τ).loc Cert.PrepBKernel.main_arg5))
      ∧ r.2.sem = fun _ => 0)

def quiescent_PrepBKernelIdeal [hPrepBKernelIdeal : Cert.PrepBKernelIdeal.Facts] : Prop :=
  ∀ (m : (ℓ : Loc Cert.PrepBKernelIdeal.nD Cert.PrepBKernelIdeal.τ Cert.PrepBKernelIdeal.sig) → Buf (Elt Ideal) ℓ) (g : Dev Cert.PrepBKernelIdeal.nD → PrngReg), Pre_PrepBKernelIdeal m →
    θ_run (Cert.PrepBKernelIdeal.defs (F := Ideal)) (onTc (τ := Cert.PrepBKernelIdeal.τ) (Cert.PrepBKernelIdeal.main (F := Ideal))) ⟨m, fun _ => 0, g⟩ (fun r => (∀ c : Dev Cert.PrepBKernelIdeal.nD,
      r.2.mem ((c.tc : Thread Cert.PrepBKernelIdeal.nD Cert.PrepBKernelIdeal.τ).loc Cert.PrepBKernelIdeal.main_arg0) = m ((c.tc : Thread Cert.PrepBKernelIdeal.nD Cert.PrepBKernelIdeal.τ).loc Cert.PrepBKernelIdeal.main_arg0)
      ∧ r.2.mem ((c.tc : Thread Cert.PrepBKernelIdeal.nD Cert.PrepBKernelIdeal.τ).loc Cert.PrepBKernelIdeal.main_arg1) = m ((c.tc : Thread Cert.PrepBKernelIdeal.nD Cert.PrepBKernelIdeal.τ).loc Cert.PrepBKernelIdeal.main_arg1)
      ∧ r.2.mem ((c.tc : Thread Cert.PrepBKernelIdeal.nD Cert.PrepBKernelIdeal.τ).loc Cert.PrepBKernelIdeal.main_arg2) = m ((c.tc : Thread Cert.PrepBKernelIdeal.nD Cert.PrepBKernelIdeal.τ).loc Cert.PrepBKernelIdeal.main_arg2)
      ∧ r.2.mem ((c.tc : Thread Cert.PrepBKernelIdeal.nD Cert.PrepBKernelIdeal.τ).loc Cert.PrepBKernelIdeal.main_arg3) = m ((c.tc : Thread Cert.PrepBKernelIdeal.nD Cert.PrepBKernelIdeal.τ).loc Cert.PrepBKernelIdeal.main_arg3)
      ∧ r.2.mem ((c.tc : Thread Cert.PrepBKernelIdeal.nD Cert.PrepBKernelIdeal.τ).loc Cert.PrepBKernelIdeal.main_arg4) = m ((c.tc : Thread Cert.PrepBKernelIdeal.nD Cert.PrepBKernelIdeal.τ).loc Cert.PrepBKernelIdeal.main_arg4)
      ∧ r.2.mem ((c.tc : Thread Cert.PrepBKernelIdeal.nD Cert.PrepBKernelIdeal.τ).loc Cert.PrepBKernelIdeal.main_arg5) = m ((c.tc : Thread Cert.PrepBKernelIdeal.nD Cert.PrepBKernelIdeal.τ).loc Cert.PrepBKernelIdeal.main_arg5))
      ∧ r.2.sem = fun _ => 0)

def quiescent_PrepBKernelIdeal_pre_finite_prep_b [hPrepBKernelIdeal : Cert.PrepBKernelIdeal.Facts] [hPre_finite_prep_b : Cert.Pre_finite_prep_b.Facts] : Prop :=
  ∀ (m : (ℓ : Loc Cert.PrepBKernelIdeal.nD Cert.PrepBKernelIdeal.τ Cert.PrepBKernelIdeal.sig) → Buf (Elt Ideal) ℓ) (g : Dev Cert.PrepBKernelIdeal.nD → PrngReg), Pre_PrepBKernelIdeal_finite_prep_b m →
    θ_run (Cert.PrepBKernelIdeal.defs (F := Ideal)) (onTc (τ := Cert.PrepBKernelIdeal.τ) (Cert.PrepBKernelIdeal.main (F := Ideal))) ⟨m, fun _ => 0, g⟩ (fun r => (∀ c : Dev Cert.PrepBKernelIdeal.nD,
      r.2.mem ((c.tc : Thread Cert.PrepBKernelIdeal.nD Cert.PrepBKernelIdeal.τ).loc Cert.PrepBKernelIdeal.main_arg0) = m ((c.tc : Thread Cert.PrepBKernelIdeal.nD Cert.PrepBKernelIdeal.τ).loc Cert.PrepBKernelIdeal.main_arg0)
      ∧ r.2.mem ((c.tc : Thread Cert.PrepBKernelIdeal.nD Cert.PrepBKernelIdeal.τ).loc Cert.PrepBKernelIdeal.main_arg1) = m ((c.tc : Thread Cert.PrepBKernelIdeal.nD Cert.PrepBKernelIdeal.τ).loc Cert.PrepBKernelIdeal.main_arg1)
      ∧ r.2.mem ((c.tc : Thread Cert.PrepBKernelIdeal.nD Cert.PrepBKernelIdeal.τ).loc Cert.PrepBKernelIdeal.main_arg2) = m ((c.tc : Thread Cert.PrepBKernelIdeal.nD Cert.PrepBKernelIdeal.τ).loc Cert.PrepBKernelIdeal.main_arg2)
      ∧ r.2.mem ((c.tc : Thread Cert.PrepBKernelIdeal.nD Cert.PrepBKernelIdeal.τ).loc Cert.PrepBKernelIdeal.main_arg3) = m ((c.tc : Thread Cert.PrepBKernelIdeal.nD Cert.PrepBKernelIdeal.τ).loc Cert.PrepBKernelIdeal.main_arg3)
      ∧ r.2.mem ((c.tc : Thread Cert.PrepBKernelIdeal.nD Cert.PrepBKernelIdeal.τ).loc Cert.PrepBKernelIdeal.main_arg4) = m ((c.tc : Thread Cert.PrepBKernelIdeal.nD Cert.PrepBKernelIdeal.τ).loc Cert.PrepBKernelIdeal.main_arg4)
      ∧ r.2.mem ((c.tc : Thread Cert.PrepBKernelIdeal.nD Cert.PrepBKernelIdeal.τ).loc Cert.PrepBKernelIdeal.main_arg5) = m ((c.tc : Thread Cert.PrepBKernelIdeal.nD Cert.PrepBKernelIdeal.τ).loc Cert.PrepBKernelIdeal.main_arg5))
      ∧ r.2.sem = fun _ => 0)

def quiescent_PrepBRefIdeal [hPrepBRefIdeal : Cert.PrepBRefIdeal.Facts] : Prop :=
  ∀ (m : (ℓ : Loc Cert.PrepBRefIdeal.nD Cert.PrepBRefIdeal.τ Cert.PrepBRefIdeal.sig) → Buf (Elt Ideal) ℓ) (g : Dev Cert.PrepBRefIdeal.nD → PrngReg), Pre_PrepBRefIdeal m →
    θ_run (Cert.PrepBRefIdeal.defs (F := Ideal)) (onTc (τ := Cert.PrepBRefIdeal.τ) (Cert.PrepBRefIdeal.main (F := Ideal))) ⟨m, fun _ => 0, g⟩ (fun r => (∀ c : Dev Cert.PrepBRefIdeal.nD,
      r.2.mem ((c.tc : Thread Cert.PrepBRefIdeal.nD Cert.PrepBRefIdeal.τ).loc Cert.PrepBRefIdeal.main_arg0) = m ((c.tc : Thread Cert.PrepBRefIdeal.nD Cert.PrepBRefIdeal.τ).loc Cert.PrepBRefIdeal.main_arg0)
      ∧ r.2.mem ((c.tc : Thread Cert.PrepBRefIdeal.nD Cert.PrepBRefIdeal.τ).loc Cert.PrepBRefIdeal.main_arg1) = m ((c.tc : Thread Cert.PrepBRefIdeal.nD Cert.PrepBRefIdeal.τ).loc Cert.PrepBRefIdeal.main_arg1)
      ∧ r.2.mem ((c.tc : Thread Cert.PrepBRefIdeal.nD Cert.PrepBRefIdeal.τ).loc Cert.PrepBRefIdeal.main_arg2) = m ((c.tc : Thread Cert.PrepBRefIdeal.nD Cert.PrepBRefIdeal.τ).loc Cert.PrepBRefIdeal.main_arg2)
      ∧ r.2.mem ((c.tc : Thread Cert.PrepBRefIdeal.nD Cert.PrepBRefIdeal.τ).loc Cert.PrepBRefIdeal.main_arg3) = m ((c.tc : Thread Cert.PrepBRefIdeal.nD Cert.PrepBRefIdeal.τ).loc Cert.PrepBRefIdeal.main_arg3)
      ∧ r.2.mem ((c.tc : Thread Cert.PrepBRefIdeal.nD Cert.PrepBRefIdeal.τ).loc Cert.PrepBRefIdeal.main_arg4) = m ((c.tc : Thread Cert.PrepBRefIdeal.nD Cert.PrepBRefIdeal.τ).loc Cert.PrepBRefIdeal.main_arg4)
      ∧ r.2.mem ((c.tc : Thread Cert.PrepBRefIdeal.nD Cert.PrepBRefIdeal.τ).loc Cert.PrepBRefIdeal.main_arg5) = m ((c.tc : Thread Cert.PrepBRefIdeal.nD Cert.PrepBRefIdeal.τ).loc Cert.PrepBRefIdeal.main_arg5))
      ∧ r.2.sem = fun _ => 0)

def quiescent_PrepBRefIdeal_pre_finite_prep_b [hPrepBRefIdeal : Cert.PrepBRefIdeal.Facts] [hPre_finite_prep_b : Cert.Pre_finite_prep_b.Facts] : Prop :=
  ∀ (m : (ℓ : Loc Cert.PrepBRefIdeal.nD Cert.PrepBRefIdeal.τ Cert.PrepBRefIdeal.sig) → Buf (Elt Ideal) ℓ) (g : Dev Cert.PrepBRefIdeal.nD → PrngReg), Pre_PrepBRefIdeal_finite_prep_b m →
    θ_run (Cert.PrepBRefIdeal.defs (F := Ideal)) (onTc (τ := Cert.PrepBRefIdeal.τ) (Cert.PrepBRefIdeal.main (F := Ideal))) ⟨m, fun _ => 0, g⟩ (fun r => (∀ c : Dev Cert.PrepBRefIdeal.nD,
      r.2.mem ((c.tc : Thread Cert.PrepBRefIdeal.nD Cert.PrepBRefIdeal.τ).loc Cert.PrepBRefIdeal.main_arg0) = m ((c.tc : Thread Cert.PrepBRefIdeal.nD Cert.PrepBRefIdeal.τ).loc Cert.PrepBRefIdeal.main_arg0)
      ∧ r.2.mem ((c.tc : Thread Cert.PrepBRefIdeal.nD Cert.PrepBRefIdeal.τ).loc Cert.PrepBRefIdeal.main_arg1) = m ((c.tc : Thread Cert.PrepBRefIdeal.nD Cert.PrepBRefIdeal.τ).loc Cert.PrepBRefIdeal.main_arg1)
      ∧ r.2.mem ((c.tc : Thread Cert.PrepBRefIdeal.nD Cert.PrepBRefIdeal.τ).loc Cert.PrepBRefIdeal.main_arg2) = m ((c.tc : Thread Cert.PrepBRefIdeal.nD Cert.PrepBRefIdeal.τ).loc Cert.PrepBRefIdeal.main_arg2)
      ∧ r.2.mem ((c.tc : Thread Cert.PrepBRefIdeal.nD Cert.PrepBRefIdeal.τ).loc Cert.PrepBRefIdeal.main_arg3) = m ((c.tc : Thread Cert.PrepBRefIdeal.nD Cert.PrepBRefIdeal.τ).loc Cert.PrepBRefIdeal.main_arg3)
      ∧ r.2.mem ((c.tc : Thread Cert.PrepBRefIdeal.nD Cert.PrepBRefIdeal.τ).loc Cert.PrepBRefIdeal.main_arg4) = m ((c.tc : Thread Cert.PrepBRefIdeal.nD Cert.PrepBRefIdeal.τ).loc Cert.PrepBRefIdeal.main_arg4)
      ∧ r.2.mem ((c.tc : Thread Cert.PrepBRefIdeal.nD Cert.PrepBRefIdeal.τ).loc Cert.PrepBRefIdeal.main_arg5) = m ((c.tc : Thread Cert.PrepBRefIdeal.nD Cert.PrepBRefIdeal.τ).loc Cert.PrepBRefIdeal.main_arg5))
      ∧ r.2.sem = fun _ => 0)

def quiescent_AttnAFwdKernel [hAttnAFwdKernel : Cert.AttnAFwdKernel.Facts] : Prop :=
  ∀ (m : (ℓ : Loc Cert.AttnAFwdKernel.nD Cert.AttnAFwdKernel.τ Cert.AttnAFwdKernel.sig) → Buf (Elt Bits) ℓ) (g : Dev Cert.AttnAFwdKernel.nD → PrngReg), Pre_AttnAFwdKernel m →
    θ_run (Cert.AttnAFwdKernel.defs (F := Bits)) (onTc (τ := Cert.AttnAFwdKernel.τ) (Cert.AttnAFwdKernel.main (F := Bits))) ⟨m, fun _ => 0, g⟩ (fun r => (∀ c : Dev Cert.AttnAFwdKernel.nD,
      r.2.mem ((c.tc : Thread Cert.AttnAFwdKernel.nD Cert.AttnAFwdKernel.τ).loc Cert.AttnAFwdKernel.main_arg0) = m ((c.tc : Thread Cert.AttnAFwdKernel.nD Cert.AttnAFwdKernel.τ).loc Cert.AttnAFwdKernel.main_arg0)
      ∧ r.2.mem ((c.tc : Thread Cert.AttnAFwdKernel.nD Cert.AttnAFwdKernel.τ).loc Cert.AttnAFwdKernel.main_arg1) = m ((c.tc : Thread Cert.AttnAFwdKernel.nD Cert.AttnAFwdKernel.τ).loc Cert.AttnAFwdKernel.main_arg1)
      ∧ r.2.mem ((c.tc : Thread Cert.AttnAFwdKernel.nD Cert.AttnAFwdKernel.τ).loc Cert.AttnAFwdKernel.main_arg2) = m ((c.tc : Thread Cert.AttnAFwdKernel.nD Cert.AttnAFwdKernel.τ).loc Cert.AttnAFwdKernel.main_arg2))
      ∧ r.2.sem = fun _ => 0)

def quiescent_AttnAFwdKernelIdeal [hAttnAFwdKernelIdeal : Cert.AttnAFwdKernelIdeal.Facts] : Prop :=
  ∀ (m : (ℓ : Loc Cert.AttnAFwdKernelIdeal.nD Cert.AttnAFwdKernelIdeal.τ Cert.AttnAFwdKernelIdeal.sig) → Buf (Elt Ideal) ℓ) (g : Dev Cert.AttnAFwdKernelIdeal.nD → PrngReg), Pre_AttnAFwdKernelIdeal m →
    θ_run (Cert.AttnAFwdKernelIdeal.defs (F := Ideal)) (onTc (τ := Cert.AttnAFwdKernelIdeal.τ) (Cert.AttnAFwdKernelIdeal.main (F := Ideal))) ⟨m, fun _ => 0, g⟩ (fun r => (∀ c : Dev Cert.AttnAFwdKernelIdeal.nD,
      r.2.mem ((c.tc : Thread Cert.AttnAFwdKernelIdeal.nD Cert.AttnAFwdKernelIdeal.τ).loc Cert.AttnAFwdKernelIdeal.main_arg0) = m ((c.tc : Thread Cert.AttnAFwdKernelIdeal.nD Cert.AttnAFwdKernelIdeal.τ).loc Cert.AttnAFwdKernelIdeal.main_arg0)
      ∧ r.2.mem ((c.tc : Thread Cert.AttnAFwdKernelIdeal.nD Cert.AttnAFwdKernelIdeal.τ).loc Cert.AttnAFwdKernelIdeal.main_arg1) = m ((c.tc : Thread Cert.AttnAFwdKernelIdeal.nD Cert.AttnAFwdKernelIdeal.τ).loc Cert.AttnAFwdKernelIdeal.main_arg1)
      ∧ r.2.mem ((c.tc : Thread Cert.AttnAFwdKernelIdeal.nD Cert.AttnAFwdKernelIdeal.τ).loc Cert.AttnAFwdKernelIdeal.main_arg2) = m ((c.tc : Thread Cert.AttnAFwdKernelIdeal.nD Cert.AttnAFwdKernelIdeal.τ).loc Cert.AttnAFwdKernelIdeal.main_arg2))
      ∧ r.2.sem = fun _ => 0)

def quiescent_AttnAFwdKernelIdeal_pre_finite_attn_a_fwd [hAttnAFwdKernelIdeal : Cert.AttnAFwdKernelIdeal.Facts] [hPre_finite_attn_a_fwd : Cert.Pre_finite_attn_a_fwd.Facts] : Prop :=
  ∀ (m : (ℓ : Loc Cert.AttnAFwdKernelIdeal.nD Cert.AttnAFwdKernelIdeal.τ Cert.AttnAFwdKernelIdeal.sig) → Buf (Elt Ideal) ℓ) (g : Dev Cert.AttnAFwdKernelIdeal.nD → PrngReg), Pre_AttnAFwdKernelIdeal_finite_attn_a_fwd m →
    θ_run (Cert.AttnAFwdKernelIdeal.defs (F := Ideal)) (onTc (τ := Cert.AttnAFwdKernelIdeal.τ) (Cert.AttnAFwdKernelIdeal.main (F := Ideal))) ⟨m, fun _ => 0, g⟩ (fun r => (∀ c : Dev Cert.AttnAFwdKernelIdeal.nD,
      r.2.mem ((c.tc : Thread Cert.AttnAFwdKernelIdeal.nD Cert.AttnAFwdKernelIdeal.τ).loc Cert.AttnAFwdKernelIdeal.main_arg0) = m ((c.tc : Thread Cert.AttnAFwdKernelIdeal.nD Cert.AttnAFwdKernelIdeal.τ).loc Cert.AttnAFwdKernelIdeal.main_arg0)
      ∧ r.2.mem ((c.tc : Thread Cert.AttnAFwdKernelIdeal.nD Cert.AttnAFwdKernelIdeal.τ).loc Cert.AttnAFwdKernelIdeal.main_arg1) = m ((c.tc : Thread Cert.AttnAFwdKernelIdeal.nD Cert.AttnAFwdKernelIdeal.τ).loc Cert.AttnAFwdKernelIdeal.main_arg1)
      ∧ r.2.mem ((c.tc : Thread Cert.AttnAFwdKernelIdeal.nD Cert.AttnAFwdKernelIdeal.τ).loc Cert.AttnAFwdKernelIdeal.main_arg2) = m ((c.tc : Thread Cert.AttnAFwdKernelIdeal.nD Cert.AttnAFwdKernelIdeal.τ).loc Cert.AttnAFwdKernelIdeal.main_arg2))
      ∧ r.2.sem = fun _ => 0)

def quiescent_AttnAFwdRefIdeal [hAttnAFwdRefIdeal : Cert.AttnAFwdRefIdeal.Facts] : Prop :=
  ∀ (m : (ℓ : Loc Cert.AttnAFwdRefIdeal.nD Cert.AttnAFwdRefIdeal.τ Cert.AttnAFwdRefIdeal.sig) → Buf (Elt Ideal) ℓ) (g : Dev Cert.AttnAFwdRefIdeal.nD → PrngReg), Pre_AttnAFwdRefIdeal m →
    θ_run (Cert.AttnAFwdRefIdeal.defs (F := Ideal)) (onTc (τ := Cert.AttnAFwdRefIdeal.τ) (Cert.AttnAFwdRefIdeal.main (F := Ideal))) ⟨m, fun _ => 0, g⟩ (fun r => (∀ c : Dev Cert.AttnAFwdRefIdeal.nD,
      r.2.mem ((c.tc : Thread Cert.AttnAFwdRefIdeal.nD Cert.AttnAFwdRefIdeal.τ).loc Cert.AttnAFwdRefIdeal.main_arg0) = m ((c.tc : Thread Cert.AttnAFwdRefIdeal.nD Cert.AttnAFwdRefIdeal.τ).loc Cert.AttnAFwdRefIdeal.main_arg0)
      ∧ r.2.mem ((c.tc : Thread Cert.AttnAFwdRefIdeal.nD Cert.AttnAFwdRefIdeal.τ).loc Cert.AttnAFwdRefIdeal.main_arg1) = m ((c.tc : Thread Cert.AttnAFwdRefIdeal.nD Cert.AttnAFwdRefIdeal.τ).loc Cert.AttnAFwdRefIdeal.main_arg1)
      ∧ r.2.mem ((c.tc : Thread Cert.AttnAFwdRefIdeal.nD Cert.AttnAFwdRefIdeal.τ).loc Cert.AttnAFwdRefIdeal.main_arg2) = m ((c.tc : Thread Cert.AttnAFwdRefIdeal.nD Cert.AttnAFwdRefIdeal.τ).loc Cert.AttnAFwdRefIdeal.main_arg2))
      ∧ r.2.sem = fun _ => 0)

def quiescent_AttnAFwdRefIdeal_pre_finite_attn_a_fwd [hAttnAFwdRefIdeal : Cert.AttnAFwdRefIdeal.Facts] [hPre_finite_attn_a_fwd : Cert.Pre_finite_attn_a_fwd.Facts] : Prop :=
  ∀ (m : (ℓ : Loc Cert.AttnAFwdRefIdeal.nD Cert.AttnAFwdRefIdeal.τ Cert.AttnAFwdRefIdeal.sig) → Buf (Elt Ideal) ℓ) (g : Dev Cert.AttnAFwdRefIdeal.nD → PrngReg), Pre_AttnAFwdRefIdeal_finite_attn_a_fwd m →
    θ_run (Cert.AttnAFwdRefIdeal.defs (F := Ideal)) (onTc (τ := Cert.AttnAFwdRefIdeal.τ) (Cert.AttnAFwdRefIdeal.main (F := Ideal))) ⟨m, fun _ => 0, g⟩ (fun r => (∀ c : Dev Cert.AttnAFwdRefIdeal.nD,
      r.2.mem ((c.tc : Thread Cert.AttnAFwdRefIdeal.nD Cert.AttnAFwdRefIdeal.τ).loc Cert.AttnAFwdRefIdeal.main_arg0) = m ((c.tc : Thread Cert.AttnAFwdRefIdeal.nD Cert.AttnAFwdRefIdeal.τ).loc Cert.AttnAFwdRefIdeal.main_arg0)
      ∧ r.2.mem ((c.tc : Thread Cert.AttnAFwdRefIdeal.nD Cert.AttnAFwdRefIdeal.τ).loc Cert.AttnAFwdRefIdeal.main_arg1) = m ((c.tc : Thread Cert.AttnAFwdRefIdeal.nD Cert.AttnAFwdRefIdeal.τ).loc Cert.AttnAFwdRefIdeal.main_arg1)
      ∧ r.2.mem ((c.tc : Thread Cert.AttnAFwdRefIdeal.nD Cert.AttnAFwdRefIdeal.τ).loc Cert.AttnAFwdRefIdeal.main_arg2) = m ((c.tc : Thread Cert.AttnAFwdRefIdeal.nD Cert.AttnAFwdRefIdeal.τ).loc Cert.AttnAFwdRefIdeal.main_arg2))
      ∧ r.2.sem = fun _ => 0)

def quiescent_AttnBFwdKernel [hAttnBFwdKernel : Cert.AttnBFwdKernel.Facts] : Prop :=
  ∀ (m : (ℓ : Loc Cert.AttnBFwdKernel.nD Cert.AttnBFwdKernel.τ Cert.AttnBFwdKernel.sig) → Buf (Elt Bits) ℓ) (g : Dev Cert.AttnBFwdKernel.nD → PrngReg), Pre_AttnBFwdKernel m →
    θ_run (Cert.AttnBFwdKernel.defs (F := Bits)) (onTc (τ := Cert.AttnBFwdKernel.τ) (Cert.AttnBFwdKernel.main (F := Bits))) ⟨m, fun _ => 0, g⟩ (fun r => (∀ c : Dev Cert.AttnBFwdKernel.nD,
      r.2.mem ((c.tc : Thread Cert.AttnBFwdKernel.nD Cert.AttnBFwdKernel.τ).loc Cert.AttnBFwdKernel.main_arg0) = m ((c.tc : Thread Cert.AttnBFwdKernel.nD Cert.AttnBFwdKernel.τ).loc Cert.AttnBFwdKernel.main_arg0)
      ∧ r.2.mem ((c.tc : Thread Cert.AttnBFwdKernel.nD Cert.AttnBFwdKernel.τ).loc Cert.AttnBFwdKernel.main_arg1) = m ((c.tc : Thread Cert.AttnBFwdKernel.nD Cert.AttnBFwdKernel.τ).loc Cert.AttnBFwdKernel.main_arg1)
      ∧ r.2.mem ((c.tc : Thread Cert.AttnBFwdKernel.nD Cert.AttnBFwdKernel.τ).loc Cert.AttnBFwdKernel.main_arg2) = m ((c.tc : Thread Cert.AttnBFwdKernel.nD Cert.AttnBFwdKernel.τ).loc Cert.AttnBFwdKernel.main_arg2))
      ∧ r.2.sem = fun _ => 0)

def quiescent_AttnBFwdKernelIdeal [hAttnBFwdKernelIdeal : Cert.AttnBFwdKernelIdeal.Facts] : Prop :=
  ∀ (m : (ℓ : Loc Cert.AttnBFwdKernelIdeal.nD Cert.AttnBFwdKernelIdeal.τ Cert.AttnBFwdKernelIdeal.sig) → Buf (Elt Ideal) ℓ) (g : Dev Cert.AttnBFwdKernelIdeal.nD → PrngReg), Pre_AttnBFwdKernelIdeal m →
    θ_run (Cert.AttnBFwdKernelIdeal.defs (F := Ideal)) (onTc (τ := Cert.AttnBFwdKernelIdeal.τ) (Cert.AttnBFwdKernelIdeal.main (F := Ideal))) ⟨m, fun _ => 0, g⟩ (fun r => (∀ c : Dev Cert.AttnBFwdKernelIdeal.nD,
      r.2.mem ((c.tc : Thread Cert.AttnBFwdKernelIdeal.nD Cert.AttnBFwdKernelIdeal.τ).loc Cert.AttnBFwdKernelIdeal.main_arg0) = m ((c.tc : Thread Cert.AttnBFwdKernelIdeal.nD Cert.AttnBFwdKernelIdeal.τ).loc Cert.AttnBFwdKernelIdeal.main_arg0)
      ∧ r.2.mem ((c.tc : Thread Cert.AttnBFwdKernelIdeal.nD Cert.AttnBFwdKernelIdeal.τ).loc Cert.AttnBFwdKernelIdeal.main_arg1) = m ((c.tc : Thread Cert.AttnBFwdKernelIdeal.nD Cert.AttnBFwdKernelIdeal.τ).loc Cert.AttnBFwdKernelIdeal.main_arg1)
      ∧ r.2.mem ((c.tc : Thread Cert.AttnBFwdKernelIdeal.nD Cert.AttnBFwdKernelIdeal.τ).loc Cert.AttnBFwdKernelIdeal.main_arg2) = m ((c.tc : Thread Cert.AttnBFwdKernelIdeal.nD Cert.AttnBFwdKernelIdeal.τ).loc Cert.AttnBFwdKernelIdeal.main_arg2))
      ∧ r.2.sem = fun _ => 0)

def quiescent_AttnBFwdKernelIdeal_pre_finite_attn_b_fwd [hAttnBFwdKernelIdeal : Cert.AttnBFwdKernelIdeal.Facts] [hPre_finite_attn_b_fwd : Cert.Pre_finite_attn_b_fwd.Facts] : Prop :=
  ∀ (m : (ℓ : Loc Cert.AttnBFwdKernelIdeal.nD Cert.AttnBFwdKernelIdeal.τ Cert.AttnBFwdKernelIdeal.sig) → Buf (Elt Ideal) ℓ) (g : Dev Cert.AttnBFwdKernelIdeal.nD → PrngReg), Pre_AttnBFwdKernelIdeal_finite_attn_b_fwd m →
    θ_run (Cert.AttnBFwdKernelIdeal.defs (F := Ideal)) (onTc (τ := Cert.AttnBFwdKernelIdeal.τ) (Cert.AttnBFwdKernelIdeal.main (F := Ideal))) ⟨m, fun _ => 0, g⟩ (fun r => (∀ c : Dev Cert.AttnBFwdKernelIdeal.nD,
      r.2.mem ((c.tc : Thread Cert.AttnBFwdKernelIdeal.nD Cert.AttnBFwdKernelIdeal.τ).loc Cert.AttnBFwdKernelIdeal.main_arg0) = m ((c.tc : Thread Cert.AttnBFwdKernelIdeal.nD Cert.AttnBFwdKernelIdeal.τ).loc Cert.AttnBFwdKernelIdeal.main_arg0)
      ∧ r.2.mem ((c.tc : Thread Cert.AttnBFwdKernelIdeal.nD Cert.AttnBFwdKernelIdeal.τ).loc Cert.AttnBFwdKernelIdeal.main_arg1) = m ((c.tc : Thread Cert.AttnBFwdKernelIdeal.nD Cert.AttnBFwdKernelIdeal.τ).loc Cert.AttnBFwdKernelIdeal.main_arg1)
      ∧ r.2.mem ((c.tc : Thread Cert.AttnBFwdKernelIdeal.nD Cert.AttnBFwdKernelIdeal.τ).loc Cert.AttnBFwdKernelIdeal.main_arg2) = m ((c.tc : Thread Cert.AttnBFwdKernelIdeal.nD Cert.AttnBFwdKernelIdeal.τ).loc Cert.AttnBFwdKernelIdeal.main_arg2))
      ∧ r.2.sem = fun _ => 0)

def quiescent_AttnBFwdRefIdeal [hAttnBFwdRefIdeal : Cert.AttnBFwdRefIdeal.Facts] : Prop :=
  ∀ (m : (ℓ : Loc Cert.AttnBFwdRefIdeal.nD Cert.AttnBFwdRefIdeal.τ Cert.AttnBFwdRefIdeal.sig) → Buf (Elt Ideal) ℓ) (g : Dev Cert.AttnBFwdRefIdeal.nD → PrngReg), Pre_AttnBFwdRefIdeal m →
    θ_run (Cert.AttnBFwdRefIdeal.defs (F := Ideal)) (onTc (τ := Cert.AttnBFwdRefIdeal.τ) (Cert.AttnBFwdRefIdeal.main (F := Ideal))) ⟨m, fun _ => 0, g⟩ (fun r => (∀ c : Dev Cert.AttnBFwdRefIdeal.nD,
      r.2.mem ((c.tc : Thread Cert.AttnBFwdRefIdeal.nD Cert.AttnBFwdRefIdeal.τ).loc Cert.AttnBFwdRefIdeal.main_arg0) = m ((c.tc : Thread Cert.AttnBFwdRefIdeal.nD Cert.AttnBFwdRefIdeal.τ).loc Cert.AttnBFwdRefIdeal.main_arg0)
      ∧ r.2.mem ((c.tc : Thread Cert.AttnBFwdRefIdeal.nD Cert.AttnBFwdRefIdeal.τ).loc Cert.AttnBFwdRefIdeal.main_arg1) = m ((c.tc : Thread Cert.AttnBFwdRefIdeal.nD Cert.AttnBFwdRefIdeal.τ).loc Cert.AttnBFwdRefIdeal.main_arg1)
      ∧ r.2.mem ((c.tc : Thread Cert.AttnBFwdRefIdeal.nD Cert.AttnBFwdRefIdeal.τ).loc Cert.AttnBFwdRefIdeal.main_arg2) = m ((c.tc : Thread Cert.AttnBFwdRefIdeal.nD Cert.AttnBFwdRefIdeal.τ).loc Cert.AttnBFwdRefIdeal.main_arg2))
      ∧ r.2.sem = fun _ => 0)

def quiescent_AttnBFwdRefIdeal_pre_finite_attn_b_fwd [hAttnBFwdRefIdeal : Cert.AttnBFwdRefIdeal.Facts] [hPre_finite_attn_b_fwd : Cert.Pre_finite_attn_b_fwd.Facts] : Prop :=
  ∀ (m : (ℓ : Loc Cert.AttnBFwdRefIdeal.nD Cert.AttnBFwdRefIdeal.τ Cert.AttnBFwdRefIdeal.sig) → Buf (Elt Ideal) ℓ) (g : Dev Cert.AttnBFwdRefIdeal.nD → PrngReg), Pre_AttnBFwdRefIdeal_finite_attn_b_fwd m →
    θ_run (Cert.AttnBFwdRefIdeal.defs (F := Ideal)) (onTc (τ := Cert.AttnBFwdRefIdeal.τ) (Cert.AttnBFwdRefIdeal.main (F := Ideal))) ⟨m, fun _ => 0, g⟩ (fun r => (∀ c : Dev Cert.AttnBFwdRefIdeal.nD,
      r.2.mem ((c.tc : Thread Cert.AttnBFwdRefIdeal.nD Cert.AttnBFwdRefIdeal.τ).loc Cert.AttnBFwdRefIdeal.main_arg0) = m ((c.tc : Thread Cert.AttnBFwdRefIdeal.nD Cert.AttnBFwdRefIdeal.τ).loc Cert.AttnBFwdRefIdeal.main_arg0)
      ∧ r.2.mem ((c.tc : Thread Cert.AttnBFwdRefIdeal.nD Cert.AttnBFwdRefIdeal.τ).loc Cert.AttnBFwdRefIdeal.main_arg1) = m ((c.tc : Thread Cert.AttnBFwdRefIdeal.nD Cert.AttnBFwdRefIdeal.τ).loc Cert.AttnBFwdRefIdeal.main_arg1)
      ∧ r.2.mem ((c.tc : Thread Cert.AttnBFwdRefIdeal.nD Cert.AttnBFwdRefIdeal.τ).loc Cert.AttnBFwdRefIdeal.main_arg2) = m ((c.tc : Thread Cert.AttnBFwdRefIdeal.nD Cert.AttnBFwdRefIdeal.τ).loc Cert.AttnBFwdRefIdeal.main_arg2))
      ∧ r.2.sem = fun _ => 0)

def preserves_MlpDownKernel_MlpDownKernelIdeal : Prop :=
  True

def algebraic_MlpDownKernelIdeal_MlpDownRefIdeal [hMlpDownKernelIdeal : Cert.MlpDownKernelIdeal.Facts] [hMlpDownRefIdeal : Cert.MlpDownRefIdeal.Facts] : Prop :=
  ∀ (m : (ℓ : Loc Cert.MlpDownKernelIdeal.nD Cert.MlpDownKernelIdeal.τ Cert.MlpDownKernelIdeal.sig) → Buf (Elt Ideal) ℓ) (g : Dev Cert.MlpDownKernelIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownKernelIdeal m →
    (∀ c : Dev Cert.MlpDownKernelIdeal.nD,
      m' ((c.tc : Thread Cert.MlpDownRefIdeal.nD Cert.MlpDownRefIdeal.τ).loc Cert.MlpDownRefIdeal.main_arg0) = m ((c.tc : Thread Cert.MlpDownKernelIdeal.nD Cert.MlpDownKernelIdeal.τ).loc Cert.MlpDownKernelIdeal.main_arg0)
      ∧ m' ((c.tc : Thread Cert.MlpDownRefIdeal.nD Cert.MlpDownRefIdeal.τ).loc Cert.MlpDownRefIdeal.main_arg1) = m ((c.tc : Thread Cert.MlpDownKernelIdeal.nD Cert.MlpDownKernelIdeal.τ).loc Cert.MlpDownKernelIdeal.main_arg1)
      ∧ m' ((c.tc : Thread Cert.MlpDownRefIdeal.nD Cert.MlpDownRefIdeal.τ).loc Cert.MlpDownRefIdeal.main_arg2) = m ((c.tc : Thread Cert.MlpDownKernelIdeal.nD Cert.MlpDownKernelIdeal.τ).loc Cert.MlpDownKernelIdeal.main_arg2)) →
    ∃ (v0 : (c : Dev Cert.MlpDownKernelIdeal.nD) → Buf (Elt Ideal) ((c.tc : Thread Cert.MlpDownKernelIdeal.nD Cert.MlpDownKernelIdeal.τ).loc Cert.MlpDownKernelIdeal.main_v4)),
      θ_run (Cert.MlpDownKernelIdeal.defs (F := Ideal)) (onTc (τ := Cert.MlpDownKernelIdeal.τ) (Cert.MlpDownKernelIdeal.main (F := Ideal))) ⟨m, fun _ => 0, g⟩ (fun r => ∀ c : Dev Cert.MlpDownKernelIdeal.nD,
          r.2.mem ((c.tc : Thread Cert.MlpDownKernelIdeal.nD Cert.MlpDownKernelIdeal.τ).loc Cert.MlpDownKernelIdeal.main_v4) = v0 c
          ∧ r.2.mem ((c.tc : Thread Cert.MlpDownKernelIdeal.nD Cert.MlpDownKernelIdeal.τ).loc Cert.MlpDownKernelIdeal.main_arg0) = m ((c.tc : Thread Cert.MlpDownKernelIdeal.nD Cert.MlpDownKernelIdeal.τ).loc Cert.MlpDownKernelIdeal.main_arg0)
          ∧ r.2.mem ((c.tc : Thread Cert.MlpDownKernelIdeal.nD Cert.MlpDownKernelIdeal.τ).loc Cert.MlpDownKernelIdeal.main_arg1) = m ((c.tc : Thread Cert.MlpDownKernelIdeal.nD Cert.MlpDownKernelIdeal.τ).loc Cert.MlpDownKernelIdeal.main_arg1)
          ∧ r.2.mem ((c.tc : Thread Cert.MlpDownKernelIdeal.nD Cert.MlpDownKernelIdeal.τ).loc Cert.MlpDownKernelIdeal.main_arg2) = m ((c.tc : Thread Cert.MlpDownKernelIdeal.nD Cert.MlpDownKernelIdeal.τ).loc Cert.MlpDownKernelIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v12) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_MlpUpKernel_MlpUpKernelIdeal : Prop :=
  True

def algebraic_MlpUpKernelIdeal_MlpUpRefIdeal_pre_finite_mlp_up [hMlpUpKernelIdeal : Cert.MlpUpKernelIdeal.Facts] [hMlpUpRefIdeal : Cert.MlpUpRefIdeal.Facts] [hPre_finite_mlp_up : Cert.Pre_finite_mlp_up.Facts] : Prop :=
  ∀ (m : (ℓ : Loc Cert.MlpUpKernelIdeal.nD Cert.MlpUpKernelIdeal.τ Cert.MlpUpKernelIdeal.sig) → Buf (Elt Ideal) ℓ) (g : Dev Cert.MlpUpKernelIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpKernelIdeal_finite_mlp_up m →
    (∀ c : Dev Cert.MlpUpKernelIdeal.nD,
      m' ((c.tc : Thread Cert.MlpUpRefIdeal.nD Cert.MlpUpRefIdeal.τ).loc Cert.MlpUpRefIdeal.main_arg0) = m ((c.tc : Thread Cert.MlpUpKernelIdeal.nD Cert.MlpUpKernelIdeal.τ).loc Cert.MlpUpKernelIdeal.main_arg0)
      ∧ m' ((c.tc : Thread Cert.MlpUpRefIdeal.nD Cert.MlpUpRefIdeal.τ).loc Cert.MlpUpRefIdeal.main_arg1) = m ((c.tc : Thread Cert.MlpUpKernelIdeal.nD Cert.MlpUpKernelIdeal.τ).loc Cert.MlpUpKernelIdeal.main_arg1)
      ∧ m' ((c.tc : Thread Cert.MlpUpRefIdeal.nD Cert.MlpUpRefIdeal.τ).loc Cert.MlpUpRefIdeal.main_arg2) = m ((c.tc : Thread Cert.MlpUpKernelIdeal.nD Cert.MlpUpKernelIdeal.τ).loc Cert.MlpUpKernelIdeal.main_arg2)
      ∧ m' ((c.tc : Thread Cert.MlpUpRefIdeal.nD Cert.MlpUpRefIdeal.τ).loc Cert.MlpUpRefIdeal.main_arg3) = m ((c.tc : Thread Cert.MlpUpKernelIdeal.nD Cert.MlpUpKernelIdeal.τ).loc Cert.MlpUpKernelIdeal.main_arg3)
      ∧ m' ((c.tc : Thread Cert.MlpUpRefIdeal.nD Cert.MlpUpRefIdeal.τ).loc Cert.MlpUpRefIdeal.main_arg4) = m ((c.tc : Thread Cert.MlpUpKernelIdeal.nD Cert.MlpUpKernelIdeal.τ).loc Cert.MlpUpKernelIdeal.main_arg4)) →
    ∃ (v0 : (c : Dev Cert.MlpUpKernelIdeal.nD) → Buf (Elt Ideal) ((c.tc : Thread Cert.MlpUpKernelIdeal.nD Cert.MlpUpKernelIdeal.τ).loc Cert.MlpUpKernelIdeal.main_v7_0)) (v1 : (c : Dev Cert.MlpUpKernelIdeal.nD) → Buf (Elt Ideal) ((c.tc : Thread Cert.MlpUpKernelIdeal.nD Cert.MlpUpKernelIdeal.τ).loc Cert.MlpUpKernelIdeal.main_v7_1)),
      θ_run (Cert.MlpUpKernelIdeal.defs (F := Ideal)) (onTc (τ := Cert.MlpUpKernelIdeal.τ) (Cert.MlpUpKernelIdeal.main (F := Ideal))) ⟨m, fun _ => 0, g⟩ (fun r => ∀ c : Dev Cert.MlpUpKernelIdeal.nD,
          r.2.mem ((c.tc : Thread Cert.MlpUpKernelIdeal.nD Cert.MlpUpKernelIdeal.τ).loc Cert.MlpUpKernelIdeal.main_v7_0) = v0 c
          ∧ r.2.mem ((c.tc : Thread Cert.MlpUpKernelIdeal.nD Cert.MlpUpKernelIdeal.τ).loc Cert.MlpUpKernelIdeal.main_v7_1) = v1 c
          ∧ r.2.mem ((c.tc : Thread Cert.MlpUpKernelIdeal.nD Cert.MlpUpKernelIdeal.τ).loc Cert.MlpUpKernelIdeal.main_arg0) = m ((c.tc : Thread Cert.MlpUpKernelIdeal.nD Cert.MlpUpKernelIdeal.τ).loc Cert.MlpUpKernelIdeal.main_arg0)
          ∧ r.2.mem ((c.tc : Thread Cert.MlpUpKernelIdeal.nD Cert.MlpUpKernelIdeal.τ).loc Cert.MlpUpKernelIdeal.main_arg1) = m ((c.tc : Thread Cert.MlpUpKernelIdeal.nD Cert.MlpUpKernelIdeal.τ).loc Cert.MlpUpKernelIdeal.main_arg1)
          ∧ r.2.mem ((c.tc : Thread Cert.MlpUpKernelIdeal.nD Cert.MlpUpKernelIdeal.τ).loc Cert.MlpUpKernelIdeal.main_arg2) = m ((c.tc : Thread Cert.MlpUpKernelIdeal.nD Cert.MlpUpKernelIdeal.τ).loc Cert.MlpUpKernelIdeal.main_arg2)
          ∧ r.2.mem ((c.tc : Thread Cert.MlpUpKernelIdeal.nD Cert.MlpUpKernelIdeal.τ).loc Cert.MlpUpKernelIdeal.main_arg3) = m ((c.tc : Thread Cert.MlpUpKernelIdeal.nD Cert.MlpUpKernelIdeal.τ).loc Cert.MlpUpKernelIdeal.main_arg3)
          ∧ r.2.mem ((c.tc : Thread Cert.MlpUpKernelIdeal.nD Cert.MlpUpKernelIdeal.τ).loc Cert.MlpUpKernelIdeal.main_arg4) = m ((c.tc : Thread Cert.MlpUpKernelIdeal.nD Cert.MlpUpKernelIdeal.τ).loc Cert.MlpUpKernelIdeal.main_arg4))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v36) = v0 c
          ∧ r.2.mem ((c.tc : Thread Cert.MlpUpRefIdeal.nD Cert.MlpUpRefIdeal.τ).loc Cert.MlpUpRefIdeal.main_v19) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2)
          ∧ r.2.mem ((c.tc : Thread Cert.MlpUpRefIdeal.nD Cert.MlpUpRefIdeal.τ).loc Cert.MlpUpRefIdeal.main_arg3) = m' ((c.tc : Thread Cert.MlpUpRefIdeal.nD Cert.MlpUpRefIdeal.τ).loc Cert.MlpUpRefIdeal.main_arg3)
          ∧ r.2.mem ((c.tc : Thread Cert.MlpUpRefIdeal.nD Cert.MlpUpRefIdeal.τ).loc Cert.MlpUpRefIdeal.main_arg4) = m' ((c.tc : Thread Cert.MlpUpRefIdeal.nD Cert.MlpUpRefIdeal.τ).loc Cert.MlpUpRefIdeal.main_arg4))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)
      ∧ m' ((c.tc : Thread Cert.MergeRefIdeal.nD Cert.MergeRefIdeal.τ).loc Cert.MergeRefIdeal.main_arg5) = m ((c.tc : Thread Cert.MergeKernelIdeal.nD Cert.MergeKernelIdeal.τ).loc Cert.MergeKernelIdeal.main_arg5)
      ∧ m' ((c.tc : Thread Cert.MergeRefIdeal.nD Cert.MergeRefIdeal.τ).loc Cert.MergeRefIdeal.main_arg6) = m ((c.tc : Thread Cert.MergeKernelIdeal.nD Cert.MergeKernelIdeal.τ).loc Cert.MergeKernelIdeal.main_arg6)
      ∧ m' ((c.tc : Thread Cert.MergeRefIdeal.nD Cert.MergeRefIdeal.τ).loc Cert.MergeRefIdeal.main_arg7) = m ((c.tc : Thread Cert.MergeKernelIdeal.nD Cert.MergeKernelIdeal.τ).loc Cert.MergeKernelIdeal.main_arg7)) →
    ∃ (v0 : (c : Dev Cert.MergeKernelIdeal.nD) → Buf (Elt Ideal) ((c.tc : Thread Cert.MergeKernelIdeal.nD Cert.MergeKernelIdeal.τ).loc Cert.MergeKernelIdeal.main_v17_0)) (v1 : (c : Dev Cert.MergeKernelIdeal.nD) → Buf (Elt Ideal) ((c.tc : Thread Cert.MergeKernelIdeal.nD Cert.MergeKernelIdeal.τ).loc Cert.MergeKernelIdeal.main_v17_1)) (v2 : (c : Dev Cert.MergeKernelIdeal.nD) → Buf (Elt Ideal) ((c.tc : Thread Cert.MergeKernelIdeal.nD Cert.MergeKernelIdeal.τ).loc Cert.MergeKernelIdeal.main_v17_2)) (v3 : (c : Dev Cert.MergeKernelIdeal.nD) → Buf (Elt Ideal) ((c.tc : Thread Cert.MergeKernelIdeal.nD Cert.MergeKernelIdeal.τ).loc Cert.MergeKernelIdeal.main_v17_3)) (v4 : (c : Dev Cert.MergeKernelIdeal.nD) → Buf (Elt Ideal) ((c.tc : Thread Cert.MergeKernelIdeal.nD Cert.MergeKernelIdeal.τ).loc Cert.MergeKernelIdeal.main_v17_4)) (v5 : (c : Dev Cert.MergeKernelIdeal.nD) → Buf (Elt Ideal) ((c.tc : Thread Cert.MergeKernelIdeal.nD Cert.MergeKernelIdeal.τ).loc Cert.MergeKernelIdeal.main_v17_5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v17_0) = v0 c
          ∧ r.2.mem ((c.tc : Thread Cert.MergeKernelIdeal.nD Cert.MergeKernelIdeal.τ).loc Cert.MergeKernelIdeal.main_v17_1) = v1 c
          ∧ r.2.mem ((c.tc : Thread Cert.MergeKernelIdeal.nD Cert.MergeKernelIdeal.τ).loc Cert.MergeKernelIdeal.main_v17_2) = v2 c
          ∧ r.2.mem ((c.tc : Thread Cert.MergeKernelIdeal.nD Cert.MergeKernelIdeal.τ).loc Cert.MergeKernelIdeal.main_v17_3) = v3 c
          ∧ r.2.mem ((c.tc : Thread Cert.MergeKernelIdeal.nD Cert.MergeKernelIdeal.τ).loc Cert.MergeKernelIdeal.main_v17_4) = v4 c
          ∧ r.2.mem ((c.tc : Thread Cert.MergeKernelIdeal.nD Cert.MergeKernelIdeal.τ).loc Cert.MergeKernelIdeal.main_v17_5) = v5 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v34) = v1 c
          ∧ r.2.mem ((c.tc : Thread Cert.MergeRefIdeal.nD Cert.MergeRefIdeal.τ).loc Cert.MergeRefIdeal.main_v35) = v2 c
          ∧ r.2.mem ((c.tc : Thread Cert.MergeRefIdeal.nD Cert.MergeRefIdeal.τ).loc Cert.MergeRefIdeal.main_v36) = v3 c
          ∧ r.2.mem ((c.tc : Thread Cert.MergeRefIdeal.nD Cert.MergeRefIdeal.τ).loc Cert.MergeRefIdeal.main_v40) = v4 c
          ∧ r.2.mem ((c.tc : Thread Cert.MergeRefIdeal.nD Cert.MergeRefIdeal.τ).loc Cert.MergeRefIdeal.main_v44) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_AttnAKernel_AttnAKernelIdeal : Prop :=
  True

def algebraic_AttnAKernelIdeal_AttnARefIdeal_pre_finite_attn_a [hAttnAKernelIdeal : Cert.AttnAKernelIdeal.Facts] [hAttnARefIdeal : Cert.AttnARefIdeal.Facts] [hPre_finite_attn_a : Cert.Pre_finite_attn_a.Facts] : Prop :=
  ∀ (m : (ℓ : Loc Cert.AttnAKernelIdeal.nD Cert.AttnAKernelIdeal.τ Cert.AttnAKernelIdeal.sig) → Buf (Elt Ideal) ℓ) (g : Dev Cert.AttnAKernelIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAKernelIdeal_finite_attn_a m →
    (∀ c : Dev Cert.AttnAKernelIdeal.nD,
      m' ((c.tc : Thread Cert.AttnARefIdeal.nD Cert.AttnARefIdeal.τ).loc Cert.AttnARefIdeal.main_arg0) = m ((c.tc : Thread Cert.AttnAKernelIdeal.nD Cert.AttnAKernelIdeal.τ).loc Cert.AttnAKernelIdeal.main_arg0)
      ∧ m' ((c.tc : Thread Cert.AttnARefIdeal.nD Cert.AttnARefIdeal.τ).loc Cert.AttnARefIdeal.main_arg1) = m ((c.tc : Thread Cert.AttnAKernelIdeal.nD Cert.AttnAKernelIdeal.τ).loc Cert.AttnAKernelIdeal.main_arg1)
      ∧ m' ((c.tc : Thread Cert.AttnARefIdeal.nD Cert.AttnARefIdeal.τ).loc Cert.AttnARefIdeal.main_arg2) = m ((c.tc : Thread Cert.AttnAKernelIdeal.nD Cert.AttnAKernelIdeal.τ).loc Cert.AttnAKernelIdeal.main_arg2)
      ∧ m' ((c.tc : Thread Cert.AttnARefIdeal.nD Cert.AttnARefIdeal.τ).loc Cert.AttnARefIdeal.main_arg3) = m ((c.tc : Thread Cert.AttnAKernelIdeal.nD Cert.AttnAKernelIdeal.τ).loc Cert.AttnAKernelIdeal.main_arg3)) →
    ∃ (v0 : (c : Dev Cert.AttnAKernelIdeal.nD) → Buf (Elt Ideal) ((c.tc : Thread Cert.AttnAKernelIdeal.nD Cert.AttnAKernelIdeal.τ).loc Cert.AttnAKernelIdeal.main_v33_0)) (v1 : (c : Dev Cert.AttnAKernelIdeal.nD) → Buf (Elt Ideal) ((c.tc : Thread Cert.AttnAKernelIdeal.nD Cert.AttnAKernelIdeal.τ).loc Cert.AttnAKernelIdeal.main_v33_1)) (v2 : (c : Dev Cert.AttnAKernelIdeal.nD) → Buf (Elt Ideal) ((c.tc : Thread Cert.AttnAKernelIdeal.nD Cert.AttnAKernelIdeal.τ).loc Cert.AttnAKernelIdeal.main_v33_2)),
      θ_run (Cert.AttnAKernelIdeal.defs (F := Ideal)) (onTc (τ := Cert.AttnAKernelIdeal.τ) (Cert.AttnAKernelIdeal.main (F := Ideal))) ⟨m, fun _ => 0, g⟩ (fun r => ∀ c : Dev Cert.AttnAKernelIdeal.nD,
          r.2.mem ((c.tc : Thread Cert.AttnAKernelIdeal.nD Cert.AttnAKernelIdeal.τ).loc Cert.AttnAKernelIdeal.main_v33_0) = v0 c
          ∧ r.2.mem ((c.tc : Thread Cert.AttnAKernelIdeal.nD Cert.AttnAKernelIdeal.τ).loc Cert.AttnAKernelIdeal.main_v33_1) = v1 c
          ∧ r.2.mem ((c.tc : Thread Cert.AttnAKernelIdeal.nD Cert.AttnAKernelIdeal.τ).loc Cert.AttnAKernelIdeal.main_v33_2) = v2 c
          ∧ r.2.mem ((c.tc : Thread Cert.AttnAKernelIdeal.nD Cert.AttnAKernelIdeal.τ).loc Cert.AttnAKernelIdeal.main_arg0) = m ((c.tc : Thread Cert.AttnAKernelIdeal.nD Cert.AttnAKernelIdeal.τ).loc Cert.AttnAKernelIdeal.main_arg0)
          ∧ r.2.mem ((c.tc : Thread Cert.AttnAKernelIdeal.nD Cert.AttnAKernelIdeal.τ).loc Cert.AttnAKernelIdeal.main_arg1) = m ((c.tc : Thread Cert.AttnAKernelIdeal.nD Cert.AttnAKernelIdeal.τ).loc Cert.AttnAKernelIdeal.main_arg1)
          ∧ r.2.mem ((c.tc : Thread Cert.AttnAKernelIdeal.nD Cert.AttnAKernelIdeal.τ).loc Cert.AttnAKernelIdeal.main_arg2) = m ((c.tc : Thread Cert.AttnAKernelIdeal.nD Cert.AttnAKernelIdeal.τ).loc Cert.AttnAKernelIdeal.main_arg2)
          ∧ r.2.mem ((c.tc : Thread Cert.AttnAKernelIdeal.nD Cert.AttnAKernelIdeal.τ).loc Cert.AttnAKernelIdeal.main_arg3) = m ((c.tc : Thread Cert.AttnAKernelIdeal.nD Cert.AttnAKernelIdeal.τ).loc Cert.AttnAKernelIdeal.main_arg3))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v59) = v0 c
          ∧ r.2.mem ((c.tc : Thread Cert.AttnARefIdeal.nD Cert.AttnARefIdeal.τ).loc Cert.AttnARefIdeal.main_v62) = v1 c
          ∧ r.2.mem ((c.tc : Thread Cert.AttnARefIdeal.nD Cert.AttnARefIdeal.τ).loc Cert.AttnARefIdeal.main_v65) = v2 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3))

def preserves_AttnBKernel_AttnBKernelIdeal : Prop :=
  True

def algebraic_AttnBKernelIdeal_AttnBRefIdeal_pre_finite_attn_b [hAttnBKernelIdeal : Cert.AttnBKernelIdeal.Facts] [hAttnBRefIdeal : Cert.AttnBRefIdeal.Facts] [hPre_finite_attn_b : Cert.Pre_finite_attn_b.Facts] : Prop :=
  ∀ (m : (ℓ : Loc Cert.AttnBKernelIdeal.nD Cert.AttnBKernelIdeal.τ Cert.AttnBKernelIdeal.sig) → Buf (Elt Ideal) ℓ) (g : Dev Cert.AttnBKernelIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBKernelIdeal_finite_attn_b m →
    (∀ c : Dev Cert.AttnBKernelIdeal.nD,
      m' ((c.tc : Thread Cert.AttnBRefIdeal.nD Cert.AttnBRefIdeal.τ).loc Cert.AttnBRefIdeal.main_arg0) = m ((c.tc : Thread Cert.AttnBKernelIdeal.nD Cert.AttnBKernelIdeal.τ).loc Cert.AttnBKernelIdeal.main_arg0)
      ∧ m' ((c.tc : Thread Cert.AttnBRefIdeal.nD Cert.AttnBRefIdeal.τ).loc Cert.AttnBRefIdeal.main_arg1) = m ((c.tc : Thread Cert.AttnBKernelIdeal.nD Cert.AttnBKernelIdeal.τ).loc Cert.AttnBKernelIdeal.main_arg1)
      ∧ m' ((c.tc : Thread Cert.AttnBRefIdeal.nD Cert.AttnBRefIdeal.τ).loc Cert.AttnBRefIdeal.main_arg2) = m ((c.tc : Thread Cert.AttnBKernelIdeal.nD Cert.AttnBKernelIdeal.τ).loc Cert.AttnBKernelIdeal.main_arg2)
      ∧ m' ((c.tc : Thread Cert.AttnBRefIdeal.nD Cert.AttnBRefIdeal.τ).loc Cert.AttnBRefIdeal.main_arg3) = m ((c.tc : Thread Cert.AttnBKernelIdeal.nD Cert.AttnBKernelIdeal.τ).loc Cert.AttnBKernelIdeal.main_arg3)) →
    ∃ (v0 : (c : Dev Cert.AttnBKernelIdeal.nD) → Buf (Elt Ideal) ((c.tc : Thread Cert.AttnBKernelIdeal.nD Cert.AttnBKernelIdeal.τ).loc Cert.AttnBKernelIdeal.main_v40_0)) (v1 : (c : Dev Cert.AttnBKernelIdeal.nD) → Buf (Elt Ideal) ((c.tc : Thread Cert.AttnBKernelIdeal.nD Cert.AttnBKernelIdeal.τ).loc Cert.AttnBKernelIdeal.main_v40_1)) (v2 : (c : Dev Cert.AttnBKernelIdeal.nD) → Buf (Elt Ideal) ((c.tc : Thread Cert.AttnBKernelIdeal.nD Cert.AttnBKernelIdeal.τ).loc Cert.AttnBKernelIdeal.main_v40_2)),
      θ_run (Cert.AttnBKernelIdeal.defs (F := Ideal)) (onTc (τ := Cert.AttnBKernelIdeal.τ) (Cert.AttnBKernelIdeal.main (F := Ideal))) ⟨m, fun _ => 0, g⟩ (fun r => ∀ c : Dev Cert.AttnBKernelIdeal.nD,
          r.2.mem ((c.tc : Thread Cert.AttnBKernelIdeal.nD Cert.AttnBKernelIdeal.τ).loc Cert.AttnBKernelIdeal.main_v40_0) = v0 c
          ∧ r.2.mem ((c.tc : Thread Cert.AttnBKernelIdeal.nD Cert.AttnBKernelIdeal.τ).loc Cert.AttnBKernelIdeal.main_v40_1) = v1 c
          ∧ r.2.mem ((c.tc : Thread Cert.AttnBKernelIdeal.nD Cert.AttnBKernelIdeal.τ).loc Cert.AttnBKernelIdeal.main_v40_2) = v2 c
          ∧ r.2.mem ((c.tc : Thread Cert.AttnBKernelIdeal.nD Cert.AttnBKernelIdeal.τ).loc Cert.AttnBKernelIdeal.main_arg0) = m ((c.tc : Thread Cert.AttnBKernelIdeal.nD Cert.AttnBKernelIdeal.τ).loc Cert.AttnBKernelIdeal.main_arg0)
          ∧ r.2.mem ((c.tc : Thread Cert.AttnBKernelIdeal.nD Cert.AttnBKernelIdeal.τ).loc Cert.AttnBKernelIdeal.main_arg1) = m ((c.tc : Thread Cert.AttnBKernelIdeal.nD Cert.AttnBKernelIdeal.τ).loc Cert.AttnBKernelIdeal.main_arg1)
          ∧ r.2.mem ((c.tc : Thread Cert.AttnBKernelIdeal.nD Cert.AttnBKernelIdeal.τ).loc Cert.AttnBKernelIdeal.main_arg2) = m ((c.tc : Thread Cert.AttnBKernelIdeal.nD Cert.AttnBKernelIdeal.τ).loc Cert.AttnBKernelIdeal.main_arg2)
          ∧ r.2.mem ((c.tc : Thread Cert.AttnBKernelIdeal.nD Cert.AttnBKernelIdeal.τ).loc Cert.AttnBKernelIdeal.main_arg3) = m ((c.tc : Thread Cert.AttnBKernelIdeal.nD Cert.AttnBKernelIdeal.τ).loc Cert.AttnBKernelIdeal.main_arg3))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v57) = v0 c
          ∧ r.2.mem ((c.tc : Thread Cert.AttnBRefIdeal.nD Cert.AttnBRefIdeal.τ).loc Cert.AttnBRefIdeal.main_v60) = v1 c
          ∧ r.2.mem ((c.tc : Thread Cert.AttnBRefIdeal.nD Cert.AttnBRefIdeal.τ).loc Cert.AttnBRefIdeal.main_v63) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3))

def preserves_InProjKernel_InProjKernelIdeal : Prop :=
  True

def algebraic_InProjKernelIdeal_InProjRefIdeal_pre_finite_in_proj [hInProjKernelIdeal : Cert.InProjKernelIdeal.Facts] [hInProjRefIdeal : Cert.InProjRefIdeal.Facts] [hPre_finite_in_proj : Cert.Pre_finite_in_proj.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjKernelIdeal_finite_in_proj m →
    (∀ c : Dev Cert.InProjKernelIdeal.nD,
      m' ((c.tc : Thread Cert.InProjRefIdeal.nD Cert.InProjRefIdeal.τ).loc Cert.InProjRefIdeal.main_arg0) = m ((c.tc : Thread Cert.InProjKernelIdeal.nD Cert.InProjKernelIdeal.τ).loc Cert.InProjKernelIdeal.main_arg0)
      ∧ m' ((c.tc : Thread Cert.InProjRefIdeal.nD Cert.InProjRefIdeal.τ).loc Cert.InProjRefIdeal.main_arg1) = m ((c.tc : Thread Cert.InProjKernelIdeal.nD Cert.InProjKernelIdeal.τ).loc Cert.InProjKernelIdeal.main_arg1)
      ∧ m' ((c.tc : Thread Cert.InProjRefIdeal.nD Cert.InProjRefIdeal.τ).loc Cert.InProjRefIdeal.main_arg2) = m ((c.tc : Thread Cert.InProjKernelIdeal.nD Cert.InProjKernelIdeal.τ).loc Cert.InProjKernelIdeal.main_arg2)
      ∧ m' ((c.tc : Thread Cert.InProjRefIdeal.nD Cert.InProjRefIdeal.τ).loc Cert.InProjRefIdeal.main_arg3) = m ((c.tc : Thread Cert.InProjKernelIdeal.nD Cert.InProjKernelIdeal.τ).loc Cert.InProjKernelIdeal.main_arg3)
      ∧ m' ((c.tc : Thread Cert.InProjRefIdeal.nD Cert.InProjRefIdeal.τ).loc Cert.InProjRefIdeal.main_arg4) = m ((c.tc : Thread Cert.InProjKernelIdeal.nD Cert.InProjKernelIdeal.τ).loc Cert.InProjKernelIdeal.main_arg4)) →
    ∃ (v0 : (c : Dev Cert.InProjKernelIdeal.nD) → Buf (Elt Ideal) ((c.tc : Thread Cert.InProjKernelIdeal.nD Cert.InProjKernelIdeal.τ).loc Cert.InProjKernelIdeal.main_v44_0)) (v1 : (c : Dev Cert.InProjKernelIdeal.nD) → Buf (Elt Ideal) ((c.tc : Thread Cert.InProjKernelIdeal.nD Cert.InProjKernelIdeal.τ).loc Cert.InProjKernelIdeal.main_v44_1)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v44_0) = v0 c
          ∧ r.2.mem ((c.tc : Thread Cert.InProjKernelIdeal.nD Cert.InProjKernelIdeal.τ).loc Cert.InProjKernelIdeal.main_v44_1) = v1 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
          ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3)
          ∧ r.2.mem ((c.tc : Thread Cert.InProjKernelIdeal.nD Cert.InProjKernelIdeal.τ).loc Cert.InProjKernelIdeal.main_arg4) = m ((c.tc : Thread Cert.InProjKernelIdeal.nD Cert.InProjKernelIdeal.τ).loc Cert.InProjKernelIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v19) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_TailKernel_TailKernelIdeal : Prop :=
  True

def algebraic_TailKernelIdeal_TailRefIdeal_pre_finite_tail [hTailKernelIdeal : Cert.TailKernelIdeal.Facts] [hTailRefIdeal : Cert.TailRefIdeal.Facts] [hPre_finite_tail : Cert.Pre_finite_tail.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailKernelIdeal_finite_tail m →
    (∀ c : Dev Cert.TailKernelIdeal.nD,
      m' ((c.tc : Thread Cert.TailRefIdeal.nD Cert.TailRefIdeal.τ).loc Cert.TailRefIdeal.main_arg0) = m ((c.tc : Thread Cert.TailKernelIdeal.nD Cert.TailKernelIdeal.τ).loc Cert.TailKernelIdeal.main_arg0)
      ∧ m' ((c.tc : Thread Cert.TailRefIdeal.nD Cert.TailRefIdeal.τ).loc Cert.TailRefIdeal.main_arg1) = m ((c.tc : Thread Cert.TailKernelIdeal.nD Cert.TailKernelIdeal.τ).loc Cert.TailKernelIdeal.main_arg1)
      ∧ m' ((c.tc : Thread Cert.TailRefIdeal.nD Cert.TailRefIdeal.τ).loc Cert.TailRefIdeal.main_arg2) = m ((c.tc : Thread Cert.TailKernelIdeal.nD Cert.TailKernelIdeal.τ).loc Cert.TailKernelIdeal.main_arg2)
      ∧ m' ((c.tc : Thread Cert.TailRefIdeal.nD Cert.TailRefIdeal.τ).loc Cert.TailRefIdeal.main_arg3) = m ((c.tc : Thread Cert.TailKernelIdeal.nD Cert.TailKernelIdeal.τ).loc Cert.TailKernelIdeal.main_arg3)
      ∧ m' ((c.tc : Thread Cert.TailRefIdeal.nD Cert.TailRefIdeal.τ).loc Cert.TailRefIdeal.main_arg4) = m ((c.tc : Thread Cert.TailKernelIdeal.nD Cert.TailKernelIdeal.τ).loc Cert.TailKernelIdeal.main_arg4)
      ∧ m' ((c.tc : Thread Cert.TailRefIdeal.nD Cert.TailRefIdeal.τ).loc Cert.TailRefIdeal.main_arg5) = m ((c.tc : Thread Cert.TailKernelIdeal.nD Cert.TailKernelIdeal.τ).loc Cert.TailKernelIdeal.main_arg5)
      ∧ m' ((c.tc : Thread Cert.TailRefIdeal.nD Cert.TailRefIdeal.τ).loc Cert.TailRefIdeal.main_arg6) = m ((c.tc : Thread Cert.TailKernelIdeal.nD Cert.TailKernelIdeal.τ).loc Cert.TailKernelIdeal.main_arg6)) →
    ∃ (v0 : (c : Dev Cert.TailKernelIdeal.nD) → Buf (Elt Ideal) ((c.tc : Thread Cert.TailKernelIdeal.nD Cert.TailKernelIdeal.τ).loc Cert.TailKernelIdeal.main_v18_0)) (v1 : (c : Dev Cert.TailKernelIdeal.nD) → Buf (Elt Ideal) ((c.tc : Thread Cert.TailKernelIdeal.nD Cert.TailKernelIdeal.τ).loc Cert.TailKernelIdeal.main_v18_1)) (v2 : (c : Dev Cert.TailKernelIdeal.nD) → Buf (Elt Ideal) ((c.tc : Thread Cert.TailKernelIdeal.nD Cert.TailKernelIdeal.τ).loc Cert.TailKernelIdeal.main_v18_2)) (v3 : (c : Dev Cert.TailKernelIdeal.nD) → Buf (Elt Ideal) ((c.tc : Thread Cert.TailKernelIdeal.nD Cert.TailKernelIdeal.τ).loc Cert.TailKernelIdeal.main_v18_3)) (v4 : (c : Dev Cert.TailKernelIdeal.nD) → Buf (Elt Ideal) ((c.tc : Thread Cert.TailKernelIdeal.nD Cert.TailKernelIdeal.τ).loc Cert.TailKernelIdeal.main_v18_4)) (v5 : (c : Dev Cert.TailKernelIdeal.nD) → Buf (Elt Ideal) ((c.tc : Thread Cert.TailKernelIdeal.nD Cert.TailKernelIdeal.τ).loc Cert.TailKernelIdeal.main_v18_5)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v18_0) = v0 c
          ∧ r.2.mem ((c.tc : Thread Cert.TailKernelIdeal.nD Cert.TailKernelIdeal.τ).loc Cert.TailKernelIdeal.main_v18_1) = v1 c
          ∧ r.2.mem ((c.tc : Thread Cert.TailKernelIdeal.nD Cert.TailKernelIdeal.τ).loc Cert.TailKernelIdeal.main_v18_2) = v2 c
          ∧ r.2.mem ((c.tc : Thread Cert.TailKernelIdeal.nD Cert.TailKernelIdeal.τ).loc Cert.TailKernelIdeal.main_v18_3) = v3 c
          ∧ r.2.mem ((c.tc : Thread Cert.TailKernelIdeal.nD Cert.TailKernelIdeal.τ).loc Cert.TailKernelIdeal.main_v18_4) = v4 c
          ∧ r.2.mem ((c.tc : Thread Cert.TailKernelIdeal.nD Cert.TailKernelIdeal.τ).loc Cert.TailKernelIdeal.main_v18_5) = v5 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v112) = v0 c
          ∧ r.2.mem ((c.tc : Thread Cert.TailRefIdeal.nD Cert.TailRefIdeal.τ).loc Cert.TailRefIdeal.main_v113) = v1 c
          ∧ r.2.mem ((c.tc : Thread Cert.TailRefIdeal.nD Cert.TailRefIdeal.τ).loc Cert.TailRefIdeal.main_v114) = v2 c
          ∧ r.2.mem ((c.tc : Thread Cert.TailRefIdeal.nD Cert.TailRefIdeal.τ).loc Cert.TailRefIdeal.main_v63) = v3 c
          ∧ r.2.mem ((c.tc : Thread Cert.TailRefIdeal.nD Cert.TailRefIdeal.τ).loc Cert.TailRefIdeal.main_v72) = v4 c
          ∧ r.2.mem ((c.tc : Thread Cert.TailRefIdeal.nD Cert.TailRefIdeal.τ).loc Cert.TailRefIdeal.main_v95) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def preserves_QPathKernel_QPathKernelIdeal : Prop :=
  True

def algebraic_QPathKernelIdeal_QPathRefIdeal_pre_finite_q_path [hQPathKernelIdeal : Cert.QPathKernelIdeal.Facts] [hQPathRefIdeal : Cert.QPathRefIdeal.Facts] [hPre_finite_q_path : Cert.Pre_finite_q_path.Facts] : Prop :=
  ∀ (m : (ℓ : Loc Cert.QPathKernelIdeal.nD Cert.QPathKernelIdeal.τ Cert.QPathKernelIdeal.sig) → Buf (Elt Ideal) ℓ) (g : Dev Cert.QPathKernelIdeal.nD → PrngReg)
    (m' : (ℓ : Loc Cert.QPathRefIdeal.nD Cert.QPathRefIdeal.τ Cert.QPathRefIdeal.sig) → Buf (Elt Ideal) ℓ) (g' : Dev Cert.QPathRefIdeal.nD → PrngReg), Pre_QPathKernelIdeal_finite_q_path m →
    (∀ c : Dev Cert.QPathKernelIdeal.nD,
      m' ((c.tc : Thread Cert.QPathRefIdeal.nD Cert.QPathRefIdeal.τ).loc Cert.QPathRefIdeal.main_arg0) = m ((c.tc : Thread Cert.QPathKernelIdeal.nD Cert.QPathKernelIdeal.τ).loc Cert.QPathKernelIdeal.main_arg0)
      ∧ m' ((c.tc : Thread Cert.QPathRefIdeal.nD Cert.QPathRefIdeal.τ).loc Cert.QPathRefIdeal.main_arg1) = m ((c.tc : Thread Cert.QPathKernelIdeal.nD Cert.QPathKernelIdeal.τ).loc Cert.QPathKernelIdeal.main_arg1)
      ∧ m' ((c.tc : Thread Cert.QPathRefIdeal.nD Cert.QPathRefIdeal.τ).loc Cert.QPathRefIdeal.main_arg2) = m ((c.tc : Thread Cert.QPathKernelIdeal.nD Cert.QPathKernelIdeal.τ).loc Cert.QPathKernelIdeal.main_arg2)
      ∧ m' ((c.tc : Thread Cert.QPathRefIdeal.nD Cert.QPathRefIdeal.τ).loc Cert.QPathRefIdeal.main_arg3) = m ((c.tc : Thread Cert.QPathKernelIdeal.nD Cert.QPathKernelIdeal.τ).loc Cert.QPathKernelIdeal.main_arg3)) →
    ∃ (v0 : (c : Dev Cert.QPathKernelIdeal.nD) → Buf (Elt Ideal) ((c.tc : Thread Cert.QPathKernelIdeal.nD Cert.QPathKernelIdeal.τ).loc Cert.QPathKernelIdeal.main_v97_0)) (v1 : (c : Dev Cert.QPathKernelIdeal.nD) → Buf (Elt Ideal) ((c.tc : Thread Cert.QPathKernelIdeal.nD Cert.QPathKernelIdeal.τ).loc Cert.QPathKernelIdeal.main_v97_1)) (v2 : (c : Dev Cert.QPathKernelIdeal.nD) → Buf (Elt Ideal) ((c.tc : Thread Cert.QPathKernelIdeal.nD Cert.QPathKernelIdeal.τ).loc Cert.QPathKernelIdeal.main_v97_2)),
      θ_run (Cert.QPathKernelIdeal.defs (F := Ideal)) (onTc (τ := Cert.QPathKernelIdeal.τ) (Cert.QPathKernelIdeal.main (F := Ideal))) ⟨m, fun _ => 0, g⟩ (fun r => ∀ c : Dev Cert.QPathKernelIdeal.nD,
          r.2.mem ((c.tc : Thread Cert.QPathKernelIdeal.nD Cert.QPathKernelIdeal.τ).loc Cert.QPathKernelIdeal.main_v97_0) = v0 c
          ∧ r.2.mem ((c.tc : Thread Cert.QPathKernelIdeal.nD Cert.QPathKernelIdeal.τ).loc Cert.QPathKernelIdeal.main_v97_1) = v1 c
          ∧ r.2.mem ((c.tc : Thread Cert.QPathKernelIdeal.nD Cert.QPathKernelIdeal.τ).loc Cert.QPathKernelIdeal.main_v97_2) = v2 c
          ∧ r.2.mem ((c.tc : Thread Cert.QPathKernelIdeal.nD Cert.QPathKernelIdeal.τ).loc Cert.QPathKernelIdeal.main_arg0) = m ((c.tc : Thread Cert.QPathKernelIdeal.nD Cert.QPathKernelIdeal.τ).loc Cert.QPathKernelIdeal.main_arg0)
          ∧ r.2.mem ((c.tc : Thread Cert.QPathKernelIdeal.nD Cert.QPathKernelIdeal.τ).loc Cert.QPathKernelIdeal.main_arg1) = m ((c.tc : Thread Cert.QPathKernelIdeal.nD Cert.QPathKernelIdeal.τ).loc Cert.QPathKernelIdeal.main_arg1)
          ∧ r.2.mem ((c.tc : Thread Cert.QPathKernelIdeal.nD Cert.QPathKernelIdeal.τ).loc Cert.QPathKernelIdeal.main_arg2) = m ((c.tc : Thread Cert.QPathKernelIdeal.nD Cert.QPathKernelIdeal.τ).loc Cert.QPathKernelIdeal.main_arg2)
          ∧ r.2.mem ((c.tc : Thread Cert.QPathKernelIdeal.nD Cert.QPathKernelIdeal.τ).loc Cert.QPathKernelIdeal.main_arg3) = m ((c.tc : Thread Cert.QPathKernelIdeal.nD Cert.QPathKernelIdeal.τ).loc Cert.QPathKernelIdeal.main_arg3))
      ∧ θ_run (Cert.QPathRefIdeal.defs (F := Ideal)) (onTc (τ := Cert.QPathRefIdeal.τ) (Cert.QPathRefIdeal.main (F := Ideal))) ⟨m', fun _ => 0, g'⟩ (fun r => ∀ c : Dev Cert.QPathRefIdeal.nD,
          r.2.mem ((c.tc : Thread Cert.QPathRefIdeal.nD Cert.QPathRefIdeal.τ).loc Cert.QPathRefIdeal.main_v98) = v0 c
          ∧ r.2.mem ((c.tc : Thread Cert.QPathRefIdeal.nD Cert.QPathRefIdeal.τ).loc Cert.QPathRefIdeal.main_v99) = v1 c
          ∧ r.2.mem ((c.tc : Thread Cert.QPathRefIdeal.nD Cert.QPathRefIdeal.τ).loc Cert.QPathRefIdeal.main_v79) = v2 c
          ∧ r.2.mem ((c.tc : Thread Cert.QPathRefIdeal.nD Cert.QPathRefIdeal.τ).loc Cert.QPathRefIdeal.main_arg0) = m' ((c.tc : Thread Cert.QPathRefIdeal.nD Cert.QPathRefIdeal.τ).loc Cert.QPathRefIdeal.main_arg0)
          ∧ r.2.mem ((c.tc : Thread Cert.QPathRefIdeal.nD Cert.QPathRefIdeal.τ).loc Cert.QPathRefIdeal.main_arg1) = m' ((c.tc : Thread Cert.QPathRefIdeal.nD Cert.QPathRefIdeal.τ).loc Cert.QPathRefIdeal.main_arg1)
          ∧ r.2.mem ((c.tc : Thread Cert.QPathRefIdeal.nD Cert.QPathRefIdeal.τ).loc Cert.QPathRefIdeal.main_arg2) = m' ((c.tc : Thread Cert.QPathRefIdeal.nD Cert.QPathRefIdeal.τ).loc Cert.QPathRefIdeal.main_arg2)
          ∧ r.2.mem ((c.tc : Thread Cert.QPathRefIdeal.nD Cert.QPathRefIdeal.τ).loc Cert.QPathRefIdeal.main_arg3) = m' ((c.tc : Thread Cert.QPathRefIdeal.nD Cert.QPathRefIdeal.τ).loc Cert.QPathRefIdeal.main_arg3))

def preserves_KvPathKernel_KvPathKernelIdeal : Prop :=
  True

def algebraic_KvPathKernelIdeal_KvPathRefIdeal_pre_finite_kv_path [hKvPathKernelIdeal : Cert.KvPathKernelIdeal.Facts] [hKvPathRefIdeal : Cert.KvPathRefIdeal.Facts] [hPre_finite_kv_path : Cert.Pre_finite_kv_path.Facts] : Prop :=
  ∀ (m : (ℓ : Loc Cert.KvPathKernelIdeal.nD Cert.KvPathKernelIdeal.τ Cert.KvPathKernelIdeal.sig) → Buf (Elt Ideal) ℓ) (g : Dev Cert.KvPathKernelIdeal.nD → PrngReg)
    (m' : (ℓ : Loc Cert.KvPathRefIdeal.nD Cert.KvPathRefIdeal.τ Cert.KvPathRefIdeal.sig) → Buf (Elt Ideal) ℓ) (g' : Dev Cert.KvPathRefIdeal.nD → PrngReg), Pre_KvPathKernelIdeal_finite_kv_path m →
    (∀ c : Dev Cert.KvPathKernelIdeal.nD,
      m' ((c.tc : Thread Cert.KvPathRefIdeal.nD Cert.KvPathRefIdeal.τ).loc Cert.KvPathRefIdeal.main_arg0) = m ((c.tc : Thread Cert.KvPathKernelIdeal.nD Cert.KvPathKernelIdeal.τ).loc Cert.KvPathKernelIdeal.main_arg0)
      ∧ m' ((c.tc : Thread Cert.KvPathRefIdeal.nD Cert.KvPathRefIdeal.τ).loc Cert.KvPathRefIdeal.main_arg1) = m ((c.tc : Thread Cert.KvPathKernelIdeal.nD Cert.KvPathKernelIdeal.τ).loc Cert.KvPathKernelIdeal.main_arg1)
      ∧ m' ((c.tc : Thread Cert.KvPathRefIdeal.nD Cert.KvPathRefIdeal.τ).loc Cert.KvPathRefIdeal.main_arg2) = m ((c.tc : Thread Cert.KvPathKernelIdeal.nD Cert.KvPathKernelIdeal.τ).loc Cert.KvPathKernelIdeal.main_arg2)
      ∧ m' ((c.tc : Thread Cert.KvPathRefIdeal.nD Cert.KvPathRefIdeal.τ).loc Cert.KvPathRefIdeal.main_arg3) = m ((c.tc : Thread Cert.KvPathKernelIdeal.nD Cert.KvPathKernelIdeal.τ).loc Cert.KvPathKernelIdeal.main_arg3)
      ∧ m' ((c.tc : Thread Cert.KvPathRefIdeal.nD Cert.KvPathRefIdeal.τ).loc Cert.KvPathRefIdeal.main_arg4) = m ((c.tc : Thread Cert.KvPathKernelIdeal.nD Cert.KvPathKernelIdeal.τ).loc Cert.KvPathKernelIdeal.main_arg4)
      ∧ m' ((c.tc : Thread Cert.KvPathRefIdeal.nD Cert.KvPathRefIdeal.τ).loc Cert.KvPathRefIdeal.main_arg5) = m ((c.tc : Thread Cert.KvPathKernelIdeal.nD Cert.KvPathKernelIdeal.τ).loc Cert.KvPathKernelIdeal.main_arg5)) →
    ∃ (v0 : (c : Dev Cert.KvPathKernelIdeal.nD) → Buf (Elt Ideal) ((c.tc : Thread Cert.KvPathKernelIdeal.nD Cert.KvPathKernelIdeal.τ).loc Cert.KvPathKernelIdeal.main_v122_0)) (v1 : (c : Dev Cert.KvPathKernelIdeal.nD) → Buf (Elt Ideal) ((c.tc : Thread Cert.KvPathKernelIdeal.nD Cert.KvPathKernelIdeal.τ).loc Cert.KvPathKernelIdeal.main_v122_1)) (v2 : (c : Dev Cert.KvPathKernelIdeal.nD) → Buf (Elt Ideal) ((c.tc : Thread Cert.KvPathKernelIdeal.nD Cert.KvPathKernelIdeal.τ).loc Cert.KvPathKernelIdeal.main_v122_2)),
      θ_run (Cert.KvPathKernelIdeal.defs (F := Ideal)) (onTc (τ := Cert.KvPathKernelIdeal.τ) (Cert.KvPathKernelIdeal.main (F := Ideal))) ⟨m, fun _ => 0, g⟩ (fun r => ∀ c : Dev Cert.KvPathKernelIdeal.nD,
          r.2.mem ((c.tc : Thread Cert.KvPathKernelIdeal.nD Cert.KvPathKernelIdeal.τ).loc Cert.KvPathKernelIdeal.main_v122_0) = v0 c
          ∧ r.2.mem ((c.tc : Thread Cert.KvPathKernelIdeal.nD Cert.KvPathKernelIdeal.τ).loc Cert.KvPathKernelIdeal.main_v122_1) = v1 c
          ∧ r.2.mem ((c.tc : Thread Cert.KvPathKernelIdeal.nD Cert.KvPathKernelIdeal.τ).loc Cert.KvPathKernelIdeal.main_v122_2) = v2 c
          ∧ r.2.mem ((c.tc : Thread Cert.KvPathKernelIdeal.nD Cert.KvPathKernelIdeal.τ).loc Cert.KvPathKernelIdeal.main_arg0) = m ((c.tc : Thread Cert.KvPathKernelIdeal.nD Cert.KvPathKernelIdeal.τ).loc Cert.KvPathKernelIdeal.main_arg0)
          ∧ r.2.mem ((c.tc : Thread Cert.KvPathKernelIdeal.nD Cert.KvPathKernelIdeal.τ).loc Cert.KvPathKernelIdeal.main_arg1) = m ((c.tc : Thread Cert.KvPathKernelIdeal.nD Cert.KvPathKernelIdeal.τ).loc Cert.KvPathKernelIdeal.main_arg1)
          ∧ r.2.mem ((c.tc : Thread Cert.KvPathKernelIdeal.nD Cert.KvPathKernelIdeal.τ).loc Cert.KvPathKernelIdeal.main_arg2) = m ((c.tc : Thread Cert.KvPathKernelIdeal.nD Cert.KvPathKernelIdeal.τ).loc Cert.KvPathKernelIdeal.main_arg2)
          ∧ r.2.mem ((c.tc : Thread Cert.KvPathKernelIdeal.nD Cert.KvPathKernelIdeal.τ).loc Cert.KvPathKernelIdeal.main_arg3) = m ((c.tc : Thread Cert.KvPathKernelIdeal.nD Cert.KvPathKernelIdeal.τ).loc Cert.KvPathKernelIdeal.main_arg3)
          ∧ r.2.mem ((c.tc : Thread Cert.KvPathKernelIdeal.nD Cert.KvPathKernelIdeal.τ).loc Cert.KvPathKernelIdeal.main_arg4) = m ((c.tc : Thread Cert.KvPathKernelIdeal.nD Cert.KvPathKernelIdeal.τ).loc Cert.KvPathKernelIdeal.main_arg4)
          ∧ r.2.mem ((c.tc : Thread Cert.KvPathKernelIdeal.nD Cert.KvPathKernelIdeal.τ).loc Cert.KvPathKernelIdeal.main_arg5) = m ((c.tc : Thread Cert.KvPathKernelIdeal.nD Cert.KvPathKernelIdeal.τ).loc Cert.KvPathKernelIdeal.main_arg5))
      ∧ θ_run (Cert.KvPathRefIdeal.defs (F := Ideal)) (onTc (τ := Cert.KvPathRefIdeal.τ) (Cert.KvPathRefIdeal.main (F := Ideal))) ⟨m', fun _ => 0, g'⟩ (fun r => ∀ c : Dev Cert.KvPathRefIdeal.nD,
          r.2.mem ((c.tc : Thread Cert.KvPathRefIdeal.nD Cert.KvPathRefIdeal.τ).loc Cert.KvPathRefIdeal.main_v97) = v0 c
          ∧ r.2.mem ((c.tc : Thread Cert.KvPathRefIdeal.nD Cert.KvPathRefIdeal.τ).loc Cert.KvPathRefIdeal.main_v99) = v1 c
          ∧ r.2.mem ((c.tc : Thread Cert.KvPathRefIdeal.nD Cert.KvPathRefIdeal.τ).loc Cert.KvPathRefIdeal.main_v65) = v2 c
          ∧ r.2.mem ((c.tc : Thread Cert.KvPathRefIdeal.nD Cert.KvPathRefIdeal.τ).loc Cert.KvPathRefIdeal.main_arg0) = m' ((c.tc : Thread Cert.KvPathRefIdeal.nD Cert.KvPathRefIdeal.τ).loc Cert.KvPathRefIdeal.main_arg0)
          ∧ r.2.mem ((c.tc : Thread Cert.KvPathRefIdeal.nD Cert.KvPathRefIdeal.τ).loc Cert.KvPathRefIdeal.main_arg1) = m' ((c.tc : Thread Cert.KvPathRefIdeal.nD Cert.KvPathRefIdeal.τ).loc Cert.KvPathRefIdeal.main_arg1)
          ∧ r.2.mem ((c.tc : Thread Cert.KvPathRefIdeal.nD Cert.KvPathRefIdeal.τ).loc Cert.KvPathRefIdeal.main_arg2) = m' ((c.tc : Thread Cert.KvPathRefIdeal.nD Cert.KvPathRefIdeal.τ).loc Cert.KvPathRefIdeal.main_arg2)
          ∧ r.2.mem ((c.tc : Thread Cert.KvPathRefIdeal.nD Cert.KvPathRefIdeal.τ).loc Cert.KvPathRefIdeal.main_arg3) = m' ((c.tc : Thread Cert.KvPathRefIdeal.nD Cert.KvPathRefIdeal.τ).loc Cert.KvPathRefIdeal.main_arg3)
          ∧ r.2.mem ((c.tc : Thread Cert.KvPathRefIdeal.nD Cert.KvPathRefIdeal.τ).loc Cert.KvPathRefIdeal.main_arg4) = m' ((c.tc : Thread Cert.KvPathRefIdeal.nD Cert.KvPathRefIdeal.τ).loc Cert.KvPathRefIdeal.main_arg4)
          ∧ r.2.mem ((c.tc : Thread Cert.KvPathRefIdeal.nD Cert.KvPathRefIdeal.τ).loc Cert.KvPathRefIdeal.main_arg5) = m' ((c.tc : Thread Cert.KvPathRefIdeal.nD Cert.KvPathRefIdeal.τ).loc Cert.KvPathRefIdeal.main_arg5))

def preserves_PrepBKernel_PrepBKernelIdeal : Prop :=
  True

def algebraic_PrepBKernelIdeal_PrepBRefIdeal_pre_finite_prep_b [hPrepBKernelIdeal : Cert.PrepBKernelIdeal.Facts] [hPrepBRefIdeal : Cert.PrepBRefIdeal.Facts] [hPre_finite_prep_b : Cert.Pre_finite_prep_b.Facts] : Prop :=
  ∀ (m : (ℓ : Loc Cert.PrepBKernelIdeal.nD Cert.PrepBKernelIdeal.τ Cert.PrepBKernelIdeal.sig) → Buf (Elt Ideal) ℓ) (g : Dev Cert.PrepBKernelIdeal.nD → PrngReg)
    (m' : (ℓ : Loc Cert.PrepBRefIdeal.nD Cert.PrepBRefIdeal.τ Cert.PrepBRefIdeal.sig) → Buf (Elt Ideal) ℓ) (g' : Dev Cert.PrepBRefIdeal.nD → PrngReg), Pre_PrepBKernelIdeal_finite_prep_b m →
    (∀ c : Dev Cert.PrepBKernelIdeal.nD,
      m' ((c.tc : Thread Cert.PrepBRefIdeal.nD Cert.PrepBRefIdeal.τ).loc Cert.PrepBRefIdeal.main_arg0) = m ((c.tc : Thread Cert.PrepBKernelIdeal.nD Cert.PrepBKernelIdeal.τ).loc Cert.PrepBKernelIdeal.main_arg0)
      ∧ m' ((c.tc : Thread Cert.PrepBRefIdeal.nD Cert.PrepBRefIdeal.τ).loc Cert.PrepBRefIdeal.main_arg1) = m ((c.tc : Thread Cert.PrepBKernelIdeal.nD Cert.PrepBKernelIdeal.τ).loc Cert.PrepBKernelIdeal.main_arg1)
      ∧ m' ((c.tc : Thread Cert.PrepBRefIdeal.nD Cert.PrepBRefIdeal.τ).loc Cert.PrepBRefIdeal.main_arg2) = m ((c.tc : Thread Cert.PrepBKernelIdeal.nD Cert.PrepBKernelIdeal.τ).loc Cert.PrepBKernelIdeal.main_arg2)
      ∧ m' ((c.tc : Thread Cert.PrepBRefIdeal.nD Cert.PrepBRefIdeal.τ).loc Cert.PrepBRefIdeal.main_arg3) = m ((c.tc : Thread Cert.PrepBKernelIdeal.nD Cert.PrepBKernelIdeal.τ).loc Cert.PrepBKernelIdeal.main_arg3)
      ∧ m' ((c.tc : Thread Cert.PrepBRefIdeal.nD Cert.PrepBRefIdeal.τ).loc Cert.PrepBRefIdeal.main_arg4) = m ((c.tc : Thread Cert.PrepBKernelIdeal.nD Cert.PrepBKernelIdeal.τ).loc Cert.PrepBKernelIdeal.main_arg4)
      ∧ m' ((c.tc : Thread Cert.PrepBRefIdeal.nD Cert.PrepBRefIdeal.τ).loc Cert.PrepBRefIdeal.main_arg5) = m ((c.tc : Thread Cert.PrepBKernelIdeal.nD Cert.PrepBKernelIdeal.τ).loc Cert.PrepBKernelIdeal.main_arg5)) →
    ∃ (v0 : (c : Dev Cert.PrepBKernelIdeal.nD) → Buf (Elt Ideal) ((c.tc : Thread Cert.PrepBKernelIdeal.nD Cert.PrepBKernelIdeal.τ).loc Cert.PrepBKernelIdeal.main_v103_0)) (v1 : (c : Dev Cert.PrepBKernelIdeal.nD) → Buf (Elt Ideal) ((c.tc : Thread Cert.PrepBKernelIdeal.nD Cert.PrepBKernelIdeal.τ).loc Cert.PrepBKernelIdeal.main_v103_1)) (v2 : (c : Dev Cert.PrepBKernelIdeal.nD) → Buf (Elt Ideal) ((c.tc : Thread Cert.PrepBKernelIdeal.nD Cert.PrepBKernelIdeal.τ).loc Cert.PrepBKernelIdeal.main_v103_2)) (v3 : (c : Dev Cert.PrepBKernelIdeal.nD) → Buf (Elt Ideal) ((c.tc : Thread Cert.PrepBKernelIdeal.nD Cert.PrepBKernelIdeal.τ).loc Cert.PrepBKernelIdeal.main_v103_3)),
      θ_run (Cert.PrepBKernelIdeal.defs (F := Ideal)) (onTc (τ := Cert.PrepBKernelIdeal.τ) (Cert.PrepBKernelIdeal.main (F := Ideal))) ⟨m, fun _ => 0, g⟩ (fun r => ∀ c : Dev Cert.PrepBKernelIdeal.nD,
          r.2.mem ((c.tc : Thread Cert.PrepBKernelIdeal.nD Cert.PrepBKernelIdeal.τ).loc Cert.PrepBKernelIdeal.main_v103_0) = v0 c
          ∧ r.2.mem ((c.tc : Thread Cert.PrepBKernelIdeal.nD Cert.PrepBKernelIdeal.τ).loc Cert.PrepBKernelIdeal.main_v103_1) = v1 c
          ∧ r.2.mem ((c.tc : Thread Cert.PrepBKernelIdeal.nD Cert.PrepBKernelIdeal.τ).loc Cert.PrepBKernelIdeal.main_v103_2) = v2 c
          ∧ r.2.mem ((c.tc : Thread Cert.PrepBKernelIdeal.nD Cert.PrepBKernelIdeal.τ).loc Cert.PrepBKernelIdeal.main_v103_3) = v3 c
          ∧ r.2.mem ((c.tc : Thread Cert.PrepBKernelIdeal.nD Cert.PrepBKernelIdeal.τ).loc Cert.PrepBKernelIdeal.main_arg0) = m ((c.tc : Thread Cert.PrepBKernelIdeal.nD Cert.PrepBKernelIdeal.τ).loc Cert.PrepBKernelIdeal.main_arg0)
          ∧ r.2.mem ((c.tc : Thread Cert.PrepBKernelIdeal.nD Cert.PrepBKernelIdeal.τ).loc Cert.PrepBKernelIdeal.main_arg1) = m ((c.tc : Thread Cert.PrepBKernelIdeal.nD Cert.PrepBKernelIdeal.τ).loc Cert.PrepBKernelIdeal.main_arg1)
          ∧ r.2.mem ((c.tc : Thread Cert.PrepBKernelIdeal.nD Cert.PrepBKernelIdeal.τ).loc Cert.PrepBKernelIdeal.main_arg2) = m ((c.tc : Thread Cert.PrepBKernelIdeal.nD Cert.PrepBKernelIdeal.τ).loc Cert.PrepBKernelIdeal.main_arg2)
          ∧ r.2.mem ((c.tc : Thread Cert.PrepBKernelIdeal.nD Cert.PrepBKernelIdeal.τ).loc Cert.PrepBKernelIdeal.main_arg3) = m ((c.tc : Thread Cert.PrepBKernelIdeal.nD Cert.PrepBKernelIdeal.τ).loc Cert.PrepBKernelIdeal.main_arg3)
          ∧ r.2.mem ((c.tc : Thread Cert.PrepBKernelIdeal.nD Cert.PrepBKernelIdeal.τ).loc Cert.PrepBKernelIdeal.main_arg4) = m ((c.tc : Thread Cert.PrepBKernelIdeal.nD Cert.PrepBKernelIdeal.τ).loc Cert.PrepBKernelIdeal.main_arg4)
          ∧ r.2.mem ((c.tc : Thread Cert.PrepBKernelIdeal.nD Cert.PrepBKernelIdeal.τ).loc Cert.PrepBKernelIdeal.main_arg5) = m ((c.tc : Thread Cert.PrepBKernelIdeal.nD Cert.PrepBKernelIdeal.τ).loc Cert.PrepBKernelIdeal.main_arg5))
      ∧ θ_run (Cert.PrepBRefIdeal.defs (F := Ideal)) (onTc (τ := Cert.PrepBRefIdeal.τ) (Cert.PrepBRefIdeal.main (F := Ideal))) ⟨m', fun _ => 0, g'⟩ (fun r => ∀ c : Dev Cert.PrepBRefIdeal.nD,
          r.2.mem ((c.tc : Thread Cert.PrepBRefIdeal.nD Cert.PrepBRefIdeal.τ).loc Cert.PrepBRefIdeal.main_v251) = v0 c
          ∧ r.2.mem ((c.tc : Thread Cert.PrepBRefIdeal.nD Cert.PrepBRefIdeal.τ).loc Cert.PrepBRefIdeal.main_v254) = v1 c
          ∧ r.2.mem ((c.tc : Thread Cert.PrepBRefIdeal.nD Cert.PrepBRefIdeal.τ).loc Cert.PrepBRefIdeal.main_v255) = v2 c
          ∧ r.2.mem ((c.tc : Thread Cert.PrepBRefIdeal.nD Cert.PrepBRefIdeal.τ).loc Cert.PrepBRefIdeal.main_v256) = v3 c
          ∧ r.2.mem ((c.tc : Thread Cert.PrepBRefIdeal.nD Cert.PrepBRefIdeal.τ).loc Cert.PrepBRefIdeal.main_arg0) = m' ((c.tc : Thread Cert.PrepBRefIdeal.nD Cert.PrepBRefIdeal.τ).loc Cert.PrepBRefIdeal.main_arg0)
          ∧ r.2.mem ((c.tc : Thread Cert.PrepBRefIdeal.nD Cert.PrepBRefIdeal.τ).loc Cert.PrepBRefIdeal.main_arg1) = m' ((c.tc : Thread Cert.PrepBRefIdeal.nD Cert.PrepBRefIdeal.τ).loc Cert.PrepBRefIdeal.main_arg1)
          ∧ r.2.mem ((c.tc : Thread Cert.PrepBRefIdeal.nD Cert.PrepBRefIdeal.τ).loc Cert.PrepBRefIdeal.main_arg2) = m' ((c.tc : Thread Cert.PrepBRefIdeal.nD Cert.PrepBRefIdeal.τ).loc Cert.PrepBRefIdeal.main_arg2)
          ∧ r.2.mem ((c.tc : Thread Cert.PrepBRefIdeal.nD Cert.PrepBRefIdeal.τ).loc Cert.PrepBRefIdeal.main_arg3) = m' ((c.tc : Thread Cert.PrepBRefIdeal.nD Cert.PrepBRefIdeal.τ).loc Cert.PrepBRefIdeal.main_arg3)
          ∧ r.2.mem ((c.tc : Thread Cert.PrepBRefIdeal.nD Cert.PrepBRefIdeal.τ).loc Cert.PrepBRefIdeal.main_arg4) = m' ((c.tc : Thread Cert.PrepBRefIdeal.nD Cert.PrepBRefIdeal.τ).loc Cert.PrepBRefIdeal.main_arg4)
          ∧ r.2.mem ((c.tc : Thread Cert.PrepBRefIdeal.nD Cert.PrepBRefIdeal.τ).loc Cert.PrepBRefIdeal.main_arg5) = m' ((c.tc : Thread Cert.PrepBRefIdeal.nD Cert.PrepBRefIdeal.τ).loc Cert.PrepBRefIdeal.main_arg5))

def preserves_AttnAFwdKernel_AttnAFwdKernelIdeal : Prop :=
  True

def algebraic_AttnAFwdKernelIdeal_AttnAFwdRefIdeal_pre_finite_attn_a_fwd [hAttnAFwdKernelIdeal : Cert.AttnAFwdKernelIdeal.Facts] [hAttnAFwdRefIdeal : Cert.AttnAFwdRefIdeal.Facts] [hPre_finite_attn_a_fwd : Cert.Pre_finite_attn_a_fwd.Facts] : Prop :=
  ∀ (m : (ℓ : Loc Cert.AttnAFwdKernelIdeal.nD Cert.AttnAFwdKernelIdeal.τ Cert.AttnAFwdKernelIdeal.sig) → Buf (Elt Ideal) ℓ) (g : Dev Cert.AttnAFwdKernelIdeal.nD → PrngReg)
    (m' : (ℓ : Loc Cert.AttnAFwdRefIdeal.nD Cert.AttnAFwdRefIdeal.τ Cert.AttnAFwdRefIdeal.sig) → Buf (Elt Ideal) ℓ) (g' : Dev Cert.AttnAFwdRefIdeal.nD → PrngReg), Pre_AttnAFwdKernelIdeal_finite_attn_a_fwd m →
    (∀ c : Dev Cert.AttnAFwdKernelIdeal.nD,
      m' ((c.tc : Thread Cert.AttnAFwdRefIdeal.nD Cert.AttnAFwdRefIdeal.τ).loc Cert.AttnAFwdRefIdeal.main_arg0) = m ((c.tc : Thread Cert.AttnAFwdKernelIdeal.nD Cert.AttnAFwdKernelIdeal.τ).loc Cert.AttnAFwdKernelIdeal.main_arg0)
      ∧ m' ((c.tc : Thread Cert.AttnAFwdRefIdeal.nD Cert.AttnAFwdRefIdeal.τ).loc Cert.AttnAFwdRefIdeal.main_arg1) = m ((c.tc : Thread Cert.AttnAFwdKernelIdeal.nD Cert.AttnAFwdKernelIdeal.τ).loc Cert.AttnAFwdKernelIdeal.main_arg1)
      ∧ m' ((c.tc : Thread Cert.AttnAFwdRefIdeal.nD Cert.AttnAFwdRefIdeal.τ).loc Cert.AttnAFwdRefIdeal.main_arg2) = m ((c.tc : Thread Cert.AttnAFwdKernelIdeal.nD Cert.AttnAFwdKernelIdeal.τ).loc Cert.AttnAFwdKernelIdeal.main_arg2)) →
    ∃ (v0 : (c : Dev Cert.AttnAFwdKernelIdeal.nD) → Buf (Elt Ideal) ((c.tc : Thread Cert.AttnAFwdKernelIdeal.nD Cert.AttnAFwdKernelIdeal.τ).loc Cert.AttnAFwdKernelIdeal.main_v9_0)) (v1 : (c : Dev Cert.AttnAFwdKernelIdeal.nD) → Buf (Elt Ideal) ((c.tc : Thread Cert.AttnAFwdKernelIdeal.nD Cert.AttnAFwdKernelIdeal.τ).loc Cert.AttnAFwdKernelIdeal.main_v9_1)),
      θ_run (Cert.AttnAFwdKernelIdeal.defs (F := Ideal)) (onTc (τ := Cert.AttnAFwdKernelIdeal.τ) (Cert.AttnAFwdKernelIdeal.main (F := Ideal))) ⟨m, fun _ => 0, g⟩ (fun r => ∀ c : Dev Cert.AttnAFwdKernelIdeal.nD,
          r.2.mem ((c.tc : Thread Cert.AttnAFwdKernelIdeal.nD Cert.AttnAFwdKernelIdeal.τ).loc Cert.AttnAFwdKernelIdeal.main_v9_0) = v0 c
          ∧ r.2.mem ((c.tc : Thread Cert.AttnAFwdKernelIdeal.nD Cert.AttnAFwdKernelIdeal.τ).loc Cert.AttnAFwdKernelIdeal.main_v9_1) = v1 c
          ∧ r.2.mem ((c.tc : Thread Cert.AttnAFwdKernelIdeal.nD Cert.AttnAFwdKernelIdeal.τ).loc Cert.AttnAFwdKernelIdeal.main_arg0) = m ((c.tc : Thread Cert.AttnAFwdKernelIdeal.nD Cert.AttnAFwdKernelIdeal.τ).loc Cert.AttnAFwdKernelIdeal.main_arg0)
          ∧ r.2.mem ((c.tc : Thread Cert.AttnAFwdKernelIdeal.nD Cert.AttnAFwdKernelIdeal.τ).loc Cert.AttnAFwdKernelIdeal.main_arg1) = m ((c.tc : Thread Cert.AttnAFwdKernelIdeal.nD Cert.AttnAFwdKernelIdeal.τ).loc Cert.AttnAFwdKernelIdeal.main_arg1)
          ∧ r.2.mem ((c.tc : Thread Cert.AttnAFwdKernelIdeal.nD Cert.AttnAFwdKernelIdeal.τ).loc Cert.AttnAFwdKernelIdeal.main_arg2) = m ((c.tc : Thread Cert.AttnAFwdKernelIdeal.nD Cert.AttnAFwdKernelIdeal.τ).loc Cert.AttnAFwdKernelIdeal.main_arg2))
      ∧ θ_run (Cert.AttnAFwdRefIdeal.defs (F := Ideal)) (onTc (τ := Cert.AttnAFwdRefIdeal.τ) (Cert.AttnAFwdRefIdeal.main (F := Ideal))) ⟨m', fun _ => 0, g'⟩ (fun r => ∀ c : Dev Cert.AttnAFwdRefIdeal.nD,
          r.2.mem ((c.tc : Thread Cert.AttnAFwdRefIdeal.nD Cert.AttnAFwdRefIdeal.τ).loc Cert.AttnAFwdRefIdeal.main_v21) = v0 c
          ∧ r.2.mem ((c.tc : Thread Cert.AttnAFwdRefIdeal.nD Cert.AttnAFwdRefIdeal.τ).loc Cert.AttnAFwdRefIdeal.main_v34) = v1 c
          ∧ r.2.mem ((c.tc : Thread Cert.AttnAFwdRefIdeal.nD Cert.AttnAFwdRefIdeal.τ).loc Cert.AttnAFwdRefIdeal.main_arg0) = m' ((c.tc : Thread Cert.AttnAFwdRefIdeal.nD Cert.AttnAFwdRefIdeal.τ).loc Cert.AttnAFwdRefIdeal.main_arg0)
          ∧ r.2.mem ((c.tc : Thread Cert.AttnAFwdRefIdeal.nD Cert.AttnAFwdRefIdeal.τ).loc Cert.AttnAFwdRefIdeal.main_arg1) = m' ((c.tc : Thread Cert.AttnAFwdRefIdeal.nD Cert.AttnAFwdRefIdeal.τ).loc Cert.AttnAFwdRefIdeal.main_arg1)
          ∧ r.2.mem ((c.tc : Thread Cert.AttnAFwdRefIdeal.nD Cert.AttnAFwdRefIdeal.τ).loc Cert.AttnAFwdRefIdeal.main_arg2) = m' ((c.tc : Thread Cert.AttnAFwdRefIdeal.nD Cert.AttnAFwdRefIdeal.τ).loc Cert.AttnAFwdRefIdeal.main_arg2))

def preserves_AttnBFwdKernel_AttnBFwdKernelIdeal : Prop :=
  True

def algebraic_AttnBFwdKernelIdeal_AttnBFwdRefIdeal_pre_finite_attn_b_fwd [hAttnBFwdKernelIdeal : Cert.AttnBFwdKernelIdeal.Facts] [hAttnBFwdRefIdeal : Cert.AttnBFwdRefIdeal.Facts] [hPre_finite_attn_b_fwd : Cert.Pre_finite_attn_b_fwd.Facts] : Prop :=
  ∀ (m : (ℓ : Loc Cert.AttnBFwdKernelIdeal.nD Cert.AttnBFwdKernelIdeal.τ Cert.AttnBFwdKernelIdeal.sig) → Buf (Elt Ideal) ℓ) (g : Dev Cert.AttnBFwdKernelIdeal.nD → PrngReg)
    (m' : (ℓ : Loc Cert.AttnBFwdRefIdeal.nD Cert.AttnBFwdRefIdeal.τ Cert.AttnBFwdRefIdeal.sig) → Buf (Elt Ideal) ℓ) (g' : Dev Cert.AttnBFwdRefIdeal.nD → PrngReg), Pre_AttnBFwdKernelIdeal_finite_attn_b_fwd m →
    (∀ c : Dev Cert.AttnBFwdKernelIdeal.nD,
      m' ((c.tc : Thread Cert.AttnBFwdRefIdeal.nD Cert.AttnBFwdRefIdeal.τ).loc Cert.AttnBFwdRefIdeal.main_arg0) = m ((c.tc : Thread Cert.AttnBFwdKernelIdeal.nD Cert.AttnBFwdKernelIdeal.τ).loc Cert.AttnBFwdKernelIdeal.main_arg0)
      ∧ m' ((c.tc : Thread Cert.AttnBFwdRefIdeal.nD Cert.AttnBFwdRefIdeal.τ).loc Cert.AttnBFwdRefIdeal.main_arg1) = m ((c.tc : Thread Cert.AttnBFwdKernelIdeal.nD Cert.AttnBFwdKernelIdeal.τ).loc Cert.AttnBFwdKernelIdeal.main_arg1)
      ∧ m' ((c.tc : Thread Cert.AttnBFwdRefIdeal.nD Cert.AttnBFwdRefIdeal.τ).loc Cert.AttnBFwdRefIdeal.main_arg2) = m ((c.tc : Thread Cert.AttnBFwdKernelIdeal.nD Cert.AttnBFwdKernelIdeal.τ).loc Cert.AttnBFwdKernelIdeal.main_arg2)) →
    ∃ (v0 : (c : Dev Cert.AttnBFwdKernelIdeal.nD) → Buf (Elt Ideal) ((c.tc : Thread Cert.AttnBFwdKernelIdeal.nD Cert.AttnBFwdKernelIdeal.τ).loc Cert.AttnBFwdKernelIdeal.main_v13_0)) (v1 : (c : Dev Cert.AttnBFwdKernelIdeal.nD) → Buf (Elt Ideal) ((c.tc : Thread Cert.AttnBFwdKernelIdeal.nD Cert.AttnBFwdKernelIdeal.τ).loc Cert.AttnBFwdKernelIdeal.main_v13_1)),
      θ_run (Cert.AttnBFwdKernelIdeal.defs (F := Ideal)) (onTc (τ := Cert.AttnBFwdKernelIdeal.τ) (Cert.AttnBFwdKernelIdeal.main (F := Ideal))) ⟨m, fun _ => 0, g⟩ (fun r => ∀ c : Dev Cert.AttnBFwdKernelIdeal.nD,
          r.2.mem ((c.tc : Thread Cert.AttnBFwdKernelIdeal.nD Cert.AttnBFwdKernelIdeal.τ).loc Cert.AttnBFwdKernelIdeal.main_v13_0) = v0 c
          ∧ r.2.mem ((c.tc : Thread Cert.AttnBFwdKernelIdeal.nD Cert.AttnBFwdKernelIdeal.τ).loc Cert.AttnBFwdKernelIdeal.main_v13_1) = v1 c
          ∧ r.2.mem ((c.tc : Thread Cert.AttnBFwdKernelIdeal.nD Cert.AttnBFwdKernelIdeal.τ).loc Cert.AttnBFwdKernelIdeal.main_arg0) = m ((c.tc : Thread Cert.AttnBFwdKernelIdeal.nD Cert.AttnBFwdKernelIdeal.τ).loc Cert.AttnBFwdKernelIdeal.main_arg0)
          ∧ r.2.mem ((c.tc : Thread Cert.AttnBFwdKernelIdeal.nD Cert.AttnBFwdKernelIdeal.τ).loc Cert.AttnBFwdKernelIdeal.main_arg1) = m ((c.tc : Thread Cert.AttnBFwdKernelIdeal.nD Cert.AttnBFwdKernelIdeal.τ).loc Cert.AttnBFwdKernelIdeal.main_arg1)
          ∧ r.2.mem ((c.tc : Thread Cert.AttnBFwdKernelIdeal.nD Cert.AttnBFwdKernelIdeal.τ).loc Cert.AttnBFwdKernelIdeal.main_arg2) = m ((c.tc : Thread Cert.AttnBFwdKernelIdeal.nD Cert.AttnBFwdKernelIdeal.τ).loc Cert.AttnBFwdKernelIdeal.main_arg2))
      ∧ θ_run (Cert.AttnBFwdRefIdeal.defs (F := Ideal)) (onTc (τ := Cert.AttnBFwdRefIdeal.τ) (Cert.AttnBFwdRefIdeal.main (F := Ideal))) ⟨m', fun _ => 0, g'⟩ (fun r => ∀ c : Dev Cert.AttnBFwdRefIdeal.nD,
          r.2.mem ((c.tc : Thread Cert.AttnBFwdRefIdeal.nD Cert.AttnBFwdRefIdeal.τ).loc Cert.AttnBFwdRefIdeal.main_v20) = v0 c
          ∧ r.2.mem ((c.tc : Thread Cert.AttnBFwdRefIdeal.nD Cert.AttnBFwdRefIdeal.τ).loc Cert.AttnBFwdRefIdeal.main_v33) = v1 c
          ∧ r.2.mem ((c.tc : Thread Cert.AttnBFwdRefIdeal.nD Cert.AttnBFwdRefIdeal.τ).loc Cert.AttnBFwdRefIdeal.main_arg0) = m' ((c.tc : Thread Cert.AttnBFwdRefIdeal.nD Cert.AttnBFwdRefIdeal.τ).loc Cert.AttnBFwdRefIdeal.main_arg0)
          ∧ r.2.mem ((c.tc : Thread Cert.AttnBFwdRefIdeal.nD Cert.AttnBFwdRefIdeal.τ).loc Cert.AttnBFwdRefIdeal.main_arg1) = m' ((c.tc : Thread Cert.AttnBFwdRefIdeal.nD Cert.AttnBFwdRefIdeal.τ).loc Cert.AttnBFwdRefIdeal.main_arg1)
          ∧ r.2.mem ((c.tc : Thread Cert.AttnBFwdRefIdeal.nD Cert.AttnBFwdRefIdeal.τ).loc Cert.AttnBFwdRefIdeal.main_arg2) = m' ((c.tc : Thread Cert.AttnBFwdRefIdeal.nD Cert.AttnBFwdRefIdeal.τ).loc Cert.AttnBFwdRefIdeal.main_arg2))

def Claim : Prop :=
  ∃ (hMlpDownKernel : Cert.MlpDownKernel.Facts) (hMlpDownKernelIdeal : Cert.MlpDownKernelIdeal.Facts) (hMlpDownRefIdeal : Cert.MlpDownRefIdeal.Facts) (hMlpUpKernel : Cert.MlpUpKernel.Facts) (hMlpUpKernelIdeal : Cert.MlpUpKernelIdeal.Facts) (hMlpUpRefIdeal : Cert.MlpUpRefIdeal.Facts) (hMergeKernel : Cert.MergeKernel.Facts) (hMergeKernelIdeal : Cert.MergeKernelIdeal.Facts) (hMergeRefIdeal : Cert.MergeRefIdeal.Facts) (hAttnAKernel : Cert.AttnAKernel.Facts) (hAttnAKernelIdeal : Cert.AttnAKernelIdeal.Facts) (hAttnARefIdeal : Cert.AttnARefIdeal.Facts) (hAttnBKernel : Cert.AttnBKernel.Facts) (hAttnBKernelIdeal : Cert.AttnBKernelIdeal.Facts) (hAttnBRefIdeal : Cert.AttnBRefIdeal.Facts) (hInProjKernel : Cert.InProjKernel.Facts) (hInProjKernelIdeal : Cert.InProjKernelIdeal.Facts) (hInProjRefIdeal : Cert.InProjRefIdeal.Facts) (hTailKernel : Cert.TailKernel.Facts) (hTailKernelIdeal : Cert.TailKernelIdeal.Facts) (hTailRefIdeal : Cert.TailRefIdeal.Facts) (hQPathKernel : Cert.QPathKernel.Facts) (hQPathKernelIdeal : Cert.QPathKernelIdeal.Facts) (hQPathRefIdeal : Cert.QPathRefIdeal.Facts) (hKvPathKernel : Cert.KvPathKernel.Facts) (hKvPathKernelIdeal : Cert.KvPathKernelIdeal.Facts) (hKvPathRefIdeal : Cert.KvPathRefIdeal.Facts) (hPrepBKernel : Cert.PrepBKernel.Facts) (hPrepBKernelIdeal : Cert.PrepBKernelIdeal.Facts) (hPrepBRefIdeal : Cert.PrepBRefIdeal.Facts) (hAttnAFwdKernel : Cert.AttnAFwdKernel.Facts) (hAttnAFwdKernelIdeal : Cert.AttnAFwdKernelIdeal.Facts) (hAttnAFwdRefIdeal : Cert.AttnAFwdRefIdeal.Facts) (hAttnBFwdKernel : Cert.AttnBFwdKernel.Facts) (hAttnBFwdKernelIdeal : Cert.AttnBFwdKernelIdeal.Facts) (hAttnBFwdRefIdeal : Cert.AttnBFwdRefIdeal.Facts) (hPre_finite_mlp_up : Cert.Pre_finite_mlp_up.Facts) (hPre_finite_attn_a : Cert.Pre_finite_attn_a.Facts) (hPre_finite_attn_b : Cert.Pre_finite_attn_b.Facts) (hPre_finite_in_proj : Cert.Pre_finite_in_proj.Facts) (hPre_finite_tail : Cert.Pre_finite_tail.Facts) (hPre_finite_q_path : Cert.Pre_finite_q_path.Facts) (hPre_finite_kv_path : Cert.Pre_finite_kv_path.Facts) (hPre_finite_prep_b : Cert.Pre_finite_prep_b.Facts) (hPre_finite_attn_a_fwd : Cert.Pre_finite_attn_a_fwd.Facts) (hPre_finite_attn_b_fwd : Cert.Pre_finite_attn_b_fwd.Facts),
    quiescent_MlpDownKernel (hMlpDownKernel := hMlpDownKernel)
    ∧ quiescent_MlpDownKernelIdeal (hMlpDownKernelIdeal := hMlpDownKernelIdeal)
    ∧ quiescent_MlpDownRefIdeal (hMlpDownRefIdeal := hMlpDownRefIdeal)
    ∧ quiescent_MlpUpKernel (hMlpUpKernel := hMlpUpKernel)
    ∧ quiescent_MlpUpKernelIdeal (hMlpUpKernelIdeal := hMlpUpKernelIdeal)
    ∧ quiescent_MlpUpKernelIdeal_pre_finite_mlp_up (hMlpUpKernelIdeal := hMlpUpKernelIdeal) (hPre_finite_mlp_up := hPre_finite_mlp_up)
    ∧ quiescent_MlpUpRefIdeal (hMlpUpRefIdeal := hMlpUpRefIdeal)
    ∧ quiescent_MlpUpRefIdeal_pre_finite_mlp_up (hMlpUpRefIdeal := hMlpUpRefIdeal) (hPre_finite_mlp_up := hPre_finite_mlp_up)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_AttnAKernel (hAttnAKernel := hAttnAKernel)
    ∧ quiescent_AttnAKernelIdeal (hAttnAKernelIdeal := hAttnAKernelIdeal)
    ∧ quiescent_AttnAKernelIdeal_pre_finite_attn_a (hAttnAKernelIdeal := hAttnAKernelIdeal) (hPre_finite_attn_a := hPre_finite_attn_a)
    ∧ quiescent_AttnARefIdeal (hAttnARefIdeal := hAttnARefIdeal)
    ∧ quiescent_AttnARefIdeal_pre_finite_attn_a (hAttnARefIdeal := hAttnARefIdeal) (hPre_finite_attn_a := hPre_finite_attn_a)
    ∧ quiescent_AttnBKernel (hAttnBKernel := hAttnBKernel)
    ∧ quiescent_AttnBKernelIdeal (hAttnBKernelIdeal := hAttnBKernelIdeal)
    ∧ quiescent_AttnBKernelIdeal_pre_finite_attn_b (hAttnBKernelIdeal := hAttnBKernelIdeal) (hPre_finite_attn_b := hPre_finite_attn_b)
    ∧ quiescent_AttnBRefIdeal (hAttnBRefIdeal := hAttnBRefIdeal)
    ∧ quiescent_AttnBRefIdeal_pre_finite_attn_b (hAttnBRefIdeal := hAttnBRefIdeal) (hPre_finite_attn_b := hPre_finite_attn_b)
    ∧ quiescent_InProjKernel (hInProjKernel := hInProjKernel)
    ∧ quiescent_InProjKernelIdeal (hInProjKernelIdeal := hInProjKernelIdeal)
    ∧ quiescent_InProjKernelIdeal_pre_finite_in_proj (hInProjKernelIdeal := hInProjKernelIdeal) (hPre_finite_in_proj := hPre_finite_in_proj)
    ∧ quiescent_InProjRefIdeal (hInProjRefIdeal := hInProjRefIdeal)
    ∧ quiescent_InProjRefIdeal_pre_finite_in_proj (hInProjRefIdeal := hInProjRefIdeal) (hPre_finite_in_proj := hPre_finite_in_proj)
    ∧ quiescent_TailKernel (hTailKernel := hTailKernel)
    ∧ quiescent_TailKernelIdeal (hTailKernelIdeal := hTailKernelIdeal)
    ∧ quiescent_TailKernelIdeal_pre_finite_tail (hTailKernelIdeal := hTailKernelIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_QPathKernel (hQPathKernel := hQPathKernel)
    ∧ quiescent_QPathKernelIdeal (hQPathKernelIdeal := hQPathKernelIdeal)
    ∧ quiescent_QPathKernelIdeal_pre_finite_q_path (hQPathKernelIdeal := hQPathKernelIdeal) (hPre_finite_q_path := hPre_finite_q_path)
    ∧ quiescent_QPathRefIdeal (hQPathRefIdeal := hQPathRefIdeal)
    ∧ quiescent_QPathRefIdeal_pre_finite_q_path (hQPathRefIdeal := hQPathRefIdeal) (hPre_finite_q_path := hPre_finite_q_path)
    ∧ quiescent_KvPathKernel (hKvPathKernel := hKvPathKernel)
    ∧ quiescent_KvPathKernelIdeal (hKvPathKernelIdeal := hKvPathKernelIdeal)
    ∧ quiescent_KvPathKernelIdeal_pre_finite_kv_path (hKvPathKernelIdeal := hKvPathKernelIdeal) (hPre_finite_kv_path := hPre_finite_kv_path)
    ∧ quiescent_KvPathRefIdeal (hKvPathRefIdeal := hKvPathRefIdeal)
    ∧ quiescent_KvPathRefIdeal_pre_finite_kv_path (hKvPathRefIdeal := hKvPathRefIdeal) (hPre_finite_kv_path := hPre_finite_kv_path)
    ∧ quiescent_PrepBKernel (hPrepBKernel := hPrepBKernel)
    ∧ quiescent_PrepBKernelIdeal (hPrepBKernelIdeal := hPrepBKernelIdeal)
    ∧ quiescent_PrepBKernelIdeal_pre_finite_prep_b (hPrepBKernelIdeal := hPrepBKernelIdeal) (hPre_finite_prep_b := hPre_finite_prep_b)
    ∧ quiescent_PrepBRefIdeal (hPrepBRefIdeal := hPrepBRefIdeal)
    ∧ quiescent_PrepBRefIdeal_pre_finite_prep_b (hPrepBRefIdeal := hPrepBRefIdeal) (hPre_finite_prep_b := hPre_finite_prep_b)
    ∧ quiescent_AttnAFwdKernel (hAttnAFwdKernel := hAttnAFwdKernel)
    ∧ quiescent_AttnAFwdKernelIdeal (hAttnAFwdKernelIdeal := hAttnAFwdKernelIdeal)
    ∧ quiescent_AttnAFwdKernelIdeal_pre_finite_attn_a_fwd (hAttnAFwdKernelIdeal := hAttnAFwdKernelIdeal) (hPre_finite_attn_a_fwd := hPre_finite_attn_a_fwd)
    ∧ quiescent_AttnAFwdRefIdeal (hAttnAFwdRefIdeal := hAttnAFwdRefIdeal)
    ∧ quiescent_AttnAFwdRefIdeal_pre_finite_attn_a_fwd (hAttnAFwdRefIdeal := hAttnAFwdRefIdeal) (hPre_finite_attn_a_fwd := hPre_finite_attn_a_fwd)
    ∧ quiescent_AttnBFwdKernel (hAttnBFwdKernel := hAttnBFwdKernel)
    ∧ quiescent_AttnBFwdKernelIdeal (hAttnBFwdKernelIdeal := hAttnBFwdKernelIdeal)
    ∧ quiescent_AttnBFwdKernelIdeal_pre_finite_attn_b_fwd (hAttnBFwdKernelIdeal := hAttnBFwdKernelIdeal) (hPre_finite_attn_b_fwd := hPre_finite_attn_b_fwd)
    ∧ quiescent_AttnBFwdRefIdeal (hAttnBFwdRefIdeal := hAttnBFwdRefIdeal)
    ∧ quiescent_AttnBFwdRefIdeal_pre_finite_attn_b_fwd (hAttnBFwdRefIdeal := hAttnBFwdRefIdeal) (hPre_finite_attn_b_fwd := hPre_finite_attn_b_fwd)
    ∧ preserves_MlpDownKernel_MlpDownKernelIdeal
    ∧ algebraic_MlpDownKernelIdeal_MlpDownRefIdeal (hMlpDownKernelIdeal := hMlpDownKernelIdeal) (hMlpDownRefIdeal := hMlpDownRefIdeal)
    ∧ preserves_MlpUpKernel_MlpUpKernelIdeal
    ∧ algebraic_MlpUpKernelIdeal_MlpUpRefIdeal_pre_finite_mlp_up (hMlpUpKernelIdeal := hMlpUpKernelIdeal) (hMlpUpRefIdeal := hMlpUpRefIdeal) (hPre_finite_mlp_up := hPre_finite_mlp_up)
    ∧ preserves_MergeKernel_MergeKernelIdeal
    ∧ algebraic_MergeKernelIdeal_MergeRefIdeal (hMergeKernelIdeal := hMergeKernelIdeal) (hMergeRefIdeal := hMergeRefIdeal)
    ∧ preserves_AttnAKernel_AttnAKernelIdeal
    ∧ algebraic_AttnAKernelIdeal_AttnARefIdeal_pre_finite_attn_a (hAttnAKernelIdeal := hAttnAKernelIdeal) (hAttnARefIdeal := hAttnARefIdeal) (hPre_finite_attn_a := hPre_finite_attn_a)
    ∧ preserves_AttnBKernel_AttnBKernelIdeal
    ∧ algebraic_AttnBKernelIdeal_AttnBRefIdeal_pre_finite_attn_b (hAttnBKernelIdeal := hAttnBKernelIdeal) (hAttnBRefIdeal := hAttnBRefIdeal) (hPre_finite_attn_b := hPre_finite_attn_b)
    ∧ preserves_InProjKernel_InProjKernelIdeal
    ∧ algebraic_InProjKernelIdeal_InProjRefIdeal_pre_finite_in_proj (hInProjKernelIdeal := hInProjKernelIdeal) (hInProjRefIdeal := hInProjRefIdeal) (hPre_finite_in_proj := hPre_finite_in_proj)
    ∧ preserves_TailKernel_TailKernelIdeal
    ∧ algebraic_TailKernelIdeal_TailRefIdeal_pre_finite_tail (hTailKernelIdeal := hTailKernelIdeal) (hTailRefIdeal := hTailRefIdeal) (hPre_finite_tail := hPre_finite_tail)
    ∧ preserves_QPathKernel_QPathKernelIdeal
    ∧ algebraic_QPathKernelIdeal_QPathRefIdeal_pre_finite_q_path (hQPathKernelIdeal := hQPathKernelIdeal) (hQPathRefIdeal := hQPathRefIdeal) (hPre_finite_q_path := hPre_finite_q_path)
    ∧ preserves_KvPathKernel_KvPathKernelIdeal
    ∧ algebraic_KvPathKernelIdeal_KvPathRefIdeal_pre_finite_kv_path (hKvPathKernelIdeal := hKvPathKernelIdeal) (hKvPathRefIdeal := hKvPathRefIdeal) (hPre_finite_kv_path := hPre_finite_kv_path)
    ∧ preserves_PrepBKernel_PrepBKernelIdeal
    ∧ algebraic_PrepBKernelIdeal_PrepBRefIdeal_pre_finite_prep_b (hPrepBKernelIdeal := hPrepBKernelIdeal) (hPrepBRefIdeal := hPrepBRefIdeal) (hPre_finite_prep_b := hPre_finite_prep_b)
    ∧ preserves_AttnAFwdKernel_AttnAFwdKernelIdeal
    ∧ algebraic_AttnAFwdKernelIdeal_AttnAFwdRefIdeal_pre_finite_attn_a_fwd (hAttnAFwdKernelIdeal := hAttnAFwdKernelIdeal) (hAttnAFwdRefIdeal := hAttnAFwdRefIdeal) (hPre_finite_attn_a_fwd := hPre_finite_attn_a_fwd)
    ∧ preserves_AttnBFwdKernel_AttnBFwdKernelIdeal
    ∧ algebraic_AttnBFwdKernelIdeal_AttnBFwdRefIdeal_pre_finite_attn_b_fwd (hAttnBFwdKernelIdeal := hAttnBFwdKernelIdeal) (hAttnBFwdRefIdeal := hAttnBFwdRefIdeal) (hPre_finite_attn_b_fwd := hPre_finite_attn_b_fwd)
-- ==== Pre_finite_attn_a.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)

variable [Facts]

def fn {F : FTy → Type} [FloatOps F] (main_arg0 : FVec F S2x2048x8x96 .f32) (main_arg1 : FVec F S2x2048x8x96 .f32) (main_arg2 : FVec F S2x2048x8x64 .f32) (main_arg3 : FVec F S2x2048x8x64 .f32) : IVec S2x2048x8x96 1 × IVec S2x2048x8x96 1 × IVec S2x2048x8x64 1 × IVec S2x2048x8x64 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  let main_v9 : FVec F S2x2048x8x64 .f32 := Host.absf main_arg3
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  (main_v2, main_v5, main_v8, main_v11)
-- ==== Pre_finite_attn_a_fwd.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)

variable [Facts]

def fn {F : FTy → Type} [FloatOps F] (main_arg0 : FVec F S2x2048x8x96 .f32) (main_arg1 : FVec F S2x2048x8x96 .f32) (main_arg2 : FVec F S2x2048x8x64 .f32) : IVec S2x2048x8x96 1 × IVec S2x2048x8x96 1 × IVec S2x2048x8x64 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  (main_v2, main_v5, main_v8)
-- ==== Pre_finite_attn_b.lean ====
abbrev S2x2048x2x4x64 : Shape := ⟨5, ![2, 2048, 2, 4, 64]⟩
abbrev S2x2048x2x64 : Shape := ⟨4, ![2, 2048, 2, 64]⟩
abbrev S2x2048x8x64 : Shape := ⟨4, ![2, 2048, 8, 64]⟩
abbrev S_ : Shape := ⟨0, ![]⟩

class Facts : Prop where
  bcast_S_S2x2048x2x4x64 : S_.BroadcastsInDim S2x2048x2x4x64 (![] : Fin 0 → Fin S2x2048x2x4x64.rank)
  bcast_S_S2x2048x2x64 : S_.BroadcastsInDim S2x2048x2x64 (![] : Fin 0 → Fin S2x2048x2x64.rank)
  bcast_S_S2x2048x8x64 : S_.BroadcastsInDim S2x2048x8x64 (![] : Fin 0 → Fin S2x2048x8x64.rank)

variable [Facts]

def fn {F : FTy → Type} [FloatOps F] (main_arg0 : FVec F S2x2048x2x4x64 .f32) (main_arg1 : FVec F S2x2048x2x64 .f32) (main_arg2 : FVec F S2x2048x2x64 .f32) (main_arg3 : FVec F S2x2048x8x64 .f32) : IVec S2x2048x2x4x64 1 × IVec S2x2048x2x64 1 × IVec S2x2048x2x64 1 × IVec S2x2048x8x64 1 :=
  let main_v0 : FVec F S2x2048x2x4x64 .f32 := Host.absf main_arg0
  let main_cst : FVec F S_ .f32 := constant S_ .f32 0x7F800000#32
  let main_v1 : FVec F S2x2048x2x4x64 .f32 := broadcastInDim S2x2048x2x4x64 ![] bcast_S_S2x2048x2x4x64 main_cst
  let main_v2 : IVec S2x2048x2x4x64 1 := cmpf .olt main_v0 main_v1
  let main_v3 : FVec F S2x2048x2x64 .f32 := Host.absf main_arg1
  let main_cst_0 : FVec F S_ .f32 := constant S_ .f32 0x7F800000#32
  let main_v4 : FVec F S2x2048x2x64 .f32 := broadcastInDim S2x2048x2x64 ![] bcast_S_S2x2048x2x64 main_cst_0
  let main_v5 : IVec S2x2048x2x64 1 := cmpf .olt main_v3 main_v4
  let main_v6 : FVec F S2x2048x2x64 .f32 := Host.absf main_arg2
  let main_cst_1 : FVec F S_ .f32 := constant S_ .f32 0x7F800000#32
  let main_v7 : FVec F S2x2048x2x64 .f32 := broadcastInDim S2x2048x2x64 ![] bcast_S_S2x2048x2x64 main_cst_1
  let main_v8 : IVec S2x2048x2x64 1 := cmpf .olt main_v6 main_v7
  let main_v9 : FVec F S2x2048x8x64 .f32 := Host.absf main_arg3
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  (main_v2, main_v5, main_v8, main_v11)
-- ==== Pre_finite_attn_b_fwd.lean ====
abbrev S2x2048x2x4x64 : Shape := ⟨5, ![2, 2048, 2, 4, 64]⟩
abbrev S2x2048x2x64 : Shape := ⟨4, ![2, 2048, 2, 64]⟩
abbrev S_ : Shape := ⟨0, ![]⟩

class Facts : Prop where
  bcast_S_S2x2048x2x4x64 : S_.BroadcastsInDim S2x2048x2x4x64 (![] : Fin 0 → Fin S2x2048x2x4x64.rank)
  bcast_S_S2x2048x2x64 : S_.BroadcastsInDim S2x2048x2x64 (![] : Fin 0 → Fin S2x2048x2x64.rank)

variable [Facts]

def fn {F : FTy → Type} [FloatOps F] (main_arg0 : FVec F S2x2048x2x4x64 .f32) (main_arg1 : FVec F S2x2048x2x64 .f32) (main_arg2 : FVec F S2x2048x2x64 .f32) : IVec S2x2048x2x4x64 1 × IVec S2x2048x2x64 1 × IVec S2x2048x2x64 1 :=
  let main_v0 : FVec F S2x2048x2x4x64 .f32 := Host.absf main_arg0
  let main_cst : FVec F S_ .f32 := constant S_ .f32 0x7F800000#32
  let main_v1 : FVec F S2x2048x2x4x64 .f32 := broadcastInDim S2x2048x2x4x64 ![] bcast_S_S2x2048x2x4x64 main_cst
  let main_v2 : IVec S2x2048x2x4x64 1 := cmpf .olt main_v0 main_v1
  let main_v3 : FVec F S2x2048x2x64 .f32 := Host.absf main_arg1
  let main_cst_0 : FVec F S_ .f32 := constant S_ .f32 0x7F800000#32
  let main_v4 : FVec F S2x2048x2x64 .f32 := broadcastInDim S2x2048x2x64 ![] bcast_S_S2x2048x2x64 main_cst_0
  let main_v5 : IVec S2x2048x2x64 1 := cmpf .olt main_v3 main_v4
  let main_v6 : FVec F S2x2048x2x64 .f32 := Host.absf main_arg2
  let main_cst_1 : FVec F S_ .f32 := constant S_ .f32 0x7F800000#32
  let main_v7 : FVec F S2x2048x2x64 .f32 := broadcastInDim S2x2048x2x64 ![] bcast_S_S2x2048x2x64 main_cst_1
  let main_v8 : IVec S2x2048x2x64 1 := cmpf .olt main_v6 main_v7
  (main_v2, main_v5, main_v8)
-- ==== Pre_finite_in_proj.lean ====
abbrev S4096x1024 : Shape := ⟨2, ![4096, 1024]⟩
abbrev S1x1024 : Shape := ⟨2, ![1, 1024]⟩
abbrev S1024x3232 : Shape := ⟨2, ![1024, 3232]⟩
abbrev S4096x3232 : Shape := ⟨2, ![4096, 3232]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3232 : S_.BroadcastsInDim S1024x3232 (![] : Fin 0 → Fin S1024x3232.rank)
  bcast_S_S4096x3232 : S_.BroadcastsInDim S4096x3232 (![] : Fin 0 → Fin S4096x3232.rank)

variable [Facts]

def fn {F : FTy → Type} [FloatOps F] (main_arg0 : FVec F S4096x1024 .f32) (main_arg1 : FVec F S1x1024 .f32) (main_arg2 : FVec F S1024x3232 .f32) (main_arg3 : FVec F S4096x3232 .f32) (main_arg4 : FVec F S4096x1024 .f32) : IVec S4096x1024 1 × IVec S1x1024 1 × IVec S1024x3232 1 × IVec S4096x3232 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3232 .f32 := Host.absf main_arg2
  let main_cst_1 : FVec F S_ .f32 := constant S_ .f32 0x7F800000#32
  let main_v7 : FVec F S1024x3232 .f32 := broadcastInDim S1024x3232 ![] bcast_S_S1024x3232 main_cst_1
  let main_v8 : IVec S1024x3232 1 := cmpf .olt main_v6 main_v7
  let main_v9 : FVec F S4096x3232 .f32 := Host.absf main_arg3
  let main_cst_2 : FVec F S_ .f32 := constant S_ .f32 0x7F800000#32
  let main_v10 : FVec F S4096x3232 .f32 := broadcastInDim S4096x3232 ![] bcast_S_S4096x3232 main_cst_2
  let main_v11 : IVec S4096x3232 1 := cmpf .olt main_v9 main_v10
  (main_v2, main_v5, main_v8, main_v11)
-- ==== Pre_finite_kv_path.lean ====
abbrev S4096x128 : Shape := ⟨2, ![4096, 128]⟩
abbrev S4096x32 : Shape := ⟨2, ![4096, 32]⟩
abbrev S1x128 : Shape := ⟨2, ![1, 128]⟩
abbrev S128x1024 : Shape := ⟨2, ![128, 1024]⟩
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S4096x128 : S_.BroadcastsInDim S4096x128 (![] : Fin 0 → Fin S4096x128.rank)
  bcast_S_S1x128 : S_.BroadcastsInDim S1x128 (![] : Fin 0 → Fin S1x128.rank)
  bcast_S_S128x1024 : S_.BroadcastsInDim S128x1024 (![] : Fin 0 → Fin S128x1024.rank)
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)

variable [Facts]

def fn {F : FTy → Type} [FloatOps F] (main_arg0 : FVec F S4096x128 .f32) (main_arg1 : FVec F S4096x32 .f32) (main_arg2 : FVec F S1x128 .f32) (main_arg3 : FVec F S128x1024 .f32) (main_arg4 : FVec F S2x2048x8x96 .f32) (main_arg5 : FVec F S2x2048x8x64 .f32) : IVec S4096x128 1 × IVec S1x128 1 × IVec S128x1024 1 × IVec S2x2048x8x96 1 × IVec S2x2048x8x64 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S128x1024 .f32 := Host.absf main_arg3
  let main_cst_1 : FVec F S_ .f32 := constant S_ .f32 0x7F800000#32
  let main_v7 : FVec F S128x1024 .f32 := broadcastInDim S128x1024 ![] bcast_S_S128x1024 main_cst_1
  let main_v8 : IVec S128x1024 1 := cmpf .olt main_v6 main_v7
  let main_v9 : FVec F S2x2048x8x96 .f32 := Host.absf main_arg4
  let main_cst_2 : FVec F S_ .f32 := constant S_ .f32 0x7F800000#32
  let main_v10 : FVec F S2x2048x8x96 .f32 := broadcastInDim S2x2048x8x96 ![] bcast_S_S2x2048x8x96 main_cst_2
  let main_v11 : IVec S2x2048x8x96 1 := cmpf .olt main_v9 main_v10
  let main_v12 : FVec F S2x2048x8x64 .f32 := Host.absf main_arg5
  let main_cst_3 : FVec F S_ .f32 := constant S_ .f32 0x7F800000#32
  let main_v13 : FVec F S2x2048x8x64 .f32 := broadcastInDim S2x2048x8x64 ![] bcast_S_S2x2048x8x64 main_cst_3
  let main_v14 : IVec S2x2048x8x64 1 := cmpf .olt main_v12 main_v13
  (main_v2, main_v5, main_v8, main_v11, main_v14)
-- ==== Pre_finite_mlp_up.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1x1024 .f32) (main_arg2 : FVec F S1024x4096 .f32) (main_arg3 : FVec F S4096x4096 .f32) (main_arg4 : FVec F S4096x1024 .f32) : IVec S4096x1024 1 × IVec S1x1024 1 × IVec S1024x4096 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Pre_finite_prep_b.lean ====
abbrev S2x2048x8x64 : Shape := ⟨4, ![2, 2048, 8, 64]⟩
abbrev S2x2048x2x64 : Shape := ⟨4, ![2, 2048, 2, 64]⟩
abbrev S1x64 : Shape := ⟨2, ![1, 64]⟩
abbrev S_ : Shape := ⟨0, ![]⟩

class Facts : Prop where
  bcast_S_S2x2048x8x64 : S_.BroadcastsInDim S2x2048x8x64 (![] : Fin 0 → Fin S2x2048x8x64.rank)
  bcast_S_S2x2048x2x64 : S_.BroadcastsInDim S2x2048x2x64 (![] : Fin 0 → Fin S2x2048x2x64.rank)
  bcast_S_S1x64 : S_.BroadcastsInDim S1x64 (![] : Fin 0 → Fin S1x64.rank)

variable [Facts]

def fn {F : FTy → Type} [FloatOps F] (main_arg0 : FVec F S2x2048x8x64 .f32) (main_arg1 : FVec F S2x2048x2x64 .f32) (main_arg2 : FVec F S1x64 .f32) (main_arg3 : FVec F S1x64 .f32) (main_arg4 : FVec F S2x2048x8x64 .f32) (main_arg5 : FVec F S2x2048x2x64 .f32) : IVec S2x2048x8x64 1 × IVec S2x2048x2x64 1 × IVec S1x64 1 × IVec S1x64 1 × IVec S2x2048x8x64 1 × IVec S2x2048x2x64 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_v3 : FVec F S2x2048x2x64 .f32 := Host.absf main_arg1
  let main_cst_0 : FVec F S_ .f32 := constant S_ .f32 0x7F800000#32
  let main_v4 : FVec F S2x2048x2x64 .f32 := broadcastInDim S2x2048x2x64 ![] bcast_S_S2x2048x2x64 main_cst_0
  let main_v5 : IVec S2x2048x2x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S2x2048x8x64 .f32 := Host.absf main_arg4
  let main_cst_3 : FVec F S_ .f32 := constant S_ .f32 0x7F800000#32
  let main_v13 : FVec F S2x2048x8x64 .f32 := broadcastInDim S2x2048x8x64 ![] bcast_S_S2x2048x8x64 main_cst_3
  let main_v14 : IVec S2x2048x8x64 1 := cmpf .olt main_v12 main_v13
  let main_v15 : FVec F S2x2048x2x64 .f32 := Host.absf main_arg5
  let main_cst_4 : FVec F S_ .f32 := constant S_ .f32 0x7F800000#32
  let main_v16 : FVec F S2x2048x2x64 .f32 := broadcastInDim S2x2048x2x64 ![] bcast_S_S2x2048x2x64 main_cst_4
  let main_v17 : IVec S2x2048x2x64 1 := cmpf .olt main_v15 main_v16
  (main_v2, main_v5, main_v8, main_v11, main_v14, main_v17)
-- ==== Pre_finite_q_path.lean ====
abbrev S4096x256 : Shape := ⟨2, ![4096, 256]⟩
abbrev S1x256 : Shape := ⟨2, ![1, 256]⟩
abbrev S256x768 : Shape := ⟨2, ![256, 768]⟩
abbrev S2x2048x8x96 : Shape := ⟨4, ![2, 2048, 8, 96]⟩
abbrev S_ : Shape := ⟨0, ![]⟩

class Facts : Prop where
  bcast_S_S4096x256 : S_.BroadcastsInDim S4096x256 (![] : Fin 0 → Fin S4096x256.rank)
  bcast_S_S1x256 : S_.BroadcastsInDim S1x256 (![] : Fin 0 → Fin S1x256.rank)
  bcast_S_S256x768 : S_.BroadcastsInDim S256x768 (![] : Fin 0 → Fin S256x768.rank)
  bcast_S_S2x2048x8x96 : S_.BroadcastsInDim S2x2048x8x96 (![] : Fin 0 → Fin S2x2048x8x96.rank)

variable [Facts]

def fn {F : FTy → Type} [FloatOps F] (main_arg0 : FVec F S4096x256 .f32) (main_arg1 : FVec F S1x256 .f32) (main_arg2 : FVec F S256x768 .f32) (main_arg3 : FVec F S2x2048x8x96 .f32) : IVec S4096x256 1 × IVec S1x256 1 × IVec S256x768 1 × IVec S2x2048x8x96 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S1x256 .f32 := Host.absf main_arg1
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  let main_v6 : FVec F S256x768 .f32 := Host.absf main_arg2
  let main_cst_1 : FVec F S_ .f32 := constant S_ .f32 0x7F800000#32
  let main_v7 : FVec F S256x768 .f32 := broadcastInDim S256x768 ![] bcast_S_S256x768 main_cst_1
  let main_v8 : IVec S256x768 1 := cmpf .olt main_v6 main_v7
  let main_v9 : FVec F S2x2048x8x96 .f32 := Host.absf main_arg3
  let main_cst_2 : FVec F S_ .f32 := constant S_ .f32 0x7F800000#32
  let main_v10 : FVec F S2x2048x8x96 .f32 := broadcastInDim S2x2048x8x96 ![] bcast_S_S2x2048x8x96 main_cst_2
  let main_v11 : IVec S2x2048x8x96 1 := cmpf .olt main_v9 main_v10
  (main_v2, main_v5, main_v8, main_v11)
-- ==== Pre_finite_tail.lean ====
abbrev S2x2048x1024 : Shape := ⟨3, ![2, 2048, 1024]⟩
abbrev S2x2048x256 : Shape := ⟨3, ![2, 2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S2x2048x1024 : S_.BroadcastsInDim S2x2048x1024 (![] : Fin 0 → Fin S2x2048x1024.rank)
  bcast_S_S2x2048x256 : S_.BroadcastsInDim S2x2048x256 (![] : Fin 0 → Fin S2x2048x256.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S1x1024 .f32) (main_v2 : IVec S2x2048x1024 1) (main_v5 : IVec S2x2048x256 1) (main_v8 : IVec S2x2048x1024 1) (main_v11 : IVec S1x1024 1) (main_v14 : IVec S1024x1024 1) (main_v17 : IVec S256x1024 1) : IVec S2x2048x1024 1 × IVec S2x2048x256 1 × IVec S2x2048x1024 1 × IVec S1x1024 1 × IVec S1024x1024 1 × IVec S256x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S2x2048x1024 .f32) (main_arg1 : FVec F S2x2048x256 .f32) (main_arg2 : FVec F S2x2048x1024 .f32) (main_arg3 : FVec F S1x1024 .f32) (main_arg4 : FVec F S1024x1024 .f32) (main_arg5 : FVec F S256x1024 .f32) (main_arg6 : FVec F S1x1024 .f32) : IVec S2x2048x1024 1 × IVec S2x2048x256 1 × IVec S2x2048x1024 1 × IVec S1x1024 1 × IVec S1024x1024 1 × IVec S256x1024 1 × IVec S1x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x256 .f32 := Host.absf main_arg1
  let main_cst_0 : FVec F S_ .f32 := constant S_ .f32 0x7F800000#32
  let main_v4 : FVec F S2x2048x256 .f32 := broadcastInDim S2x2048x256 ![] bcast_S_S2x2048x256 main_cst_0
  let main_v5 : IVec S2x2048x256 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg6 main_v2 main_v5 main_v8 main_v11 main_v14 main_v17
-- ==== MlpDownKernel.lean ====
abbrev S4096x4096 : Shape := ⟨2, ![4096, 4096]⟩
abbrev S4096x1024 : Shape := ⟨2, ![4096, 1024]⟩
abbrev S_ : Shape := ⟨0, ![]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpDownRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== MlpUpKernel.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x4096, .bf16⟩
  | .hbm, ⟨9, _⟩ => ⟨S4096x4096, .bf16⟩
  | .hbm, ⟨10, _⟩ => ⟨S4096x4096, .bf16⟩
  | .hbm, ⟨11, _⟩ => ⟨S4096x4096, .bf16⟩
  | .hbm, ⟨12, _⟩ => ⟨S4096x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let arg1 : BitVec 32 := BitVec.ofNat 32 (i 1).val
  let c0_i32_36 : BitVec 32 := 0#32
  let v54 : BitVec 1 := Scalar.cmpi .eq arg1 c0_i32_36
  let v55 : BitVec 1 := Scalar.andi v53 v54
  let v56 : BitVec 32 := Scalar.extui v55
  let c0_i32_37 : BitVec 32 := 0#32
  let v57 : BitVec 1 := Scalar.cmpi .ne v56 c0_i32_37
  v57

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let arg1 : BitVec 32 := BitVec.ofNat 32 (i 1).val
  let c0_i32_36 : BitVec 32 := 0#32
  let v54 : BitVec 1 := Scalar.cmpi .eq arg1 c0_i32_36
  let v55 : BitVec 1 := Scalar.andi v53 v54
  let v_true : BitVec 1 := 1#1
  let v58 : BitVec 1 := Scalar.xori v55 v_true
  let v59 : BitVec 32 := Scalar.extui v58
  let c0_i32_38 : BitVec 32 := 0#32
  let v60 : BitVec 1 := Scalar.cmpi .ne v59 c0_i32_38
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MlpUpRefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MergeKernel.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S8x64x1024 : Shape := ⟨3, ![8, 64, 1024]⟩
abbrev S_ : Shape := ⟨0, ![]⟩
abbrev S8x128x1024 : Shape := ⟨3, ![8, 128, 1024]⟩
abbrev S4096x2048 : Shape := ⟨2, ![4096, 2048]⟩
abbrev S4096x4096 : Shape := ⟨2, ![4096, 4096]⟩
abbrev S256x1024 : Shape := ⟨2, ![256, 1024]⟩

abbrev nBuf : Space → Nat
  | .hbm => 36
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S512x1024, .bf16⟩
  | .hbm, ⟨9, _⟩ => ⟨S8x64x1024, .bf16⟩
  | .hbm, ⟨10, _⟩ => ⟨S_, .i32⟩
  | .hbm, ⟨11, _⟩ => ⟨S_, .bf16⟩
  | .hbm, ⟨12, _⟩ => ⟨S8x128x1024, .bf16⟩
  | .hbm, ⟨13, _⟩ => ⟨S1024x1024, .bf16⟩
  | .hbm, ⟨14, _⟩ => ⟨S512x1024, .bf16⟩
  | .hbm, ⟨15, _⟩ => ⟨S8x64x1024, .bf16⟩
  | .hbm, ⟨16, _⟩ => ⟨S_, .i32⟩
  | .hbm, ⟨17, _⟩ => ⟨S_, .bf16⟩
  | .hbm, ⟨18, _⟩ => ⟨S8x128x1024, .bf16⟩
  | .hbm, ⟨19, _⟩ => ⟨S1024x1024, .bf16⟩
  | .hbm, ⟨20, _⟩ => ⟨S_, .bf16⟩
  | .hbm, ⟨21, _⟩ => ⟨S4096x2048, .bf16⟩
  | .hbm, ⟨22, _⟩ => ⟨S4096x1024, .bf16⟩
  | .hbm, ⟨23, _⟩ => ⟨S4096x1024, .bf16⟩
  | .hbm, ⟨24, _⟩ => ⟨S4096x4096, .bf16⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1024, .bf16⟩
  | .hbm, ⟨29, _⟩ => ⟨S1024x1024, .bf16⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S_ : Shape := ⟨0, ![]⟩
abbrev S4096x8x64 : Shape := ⟨3, ![4096, 8, 64]⟩
abbrev S4096x8x128 : Shape := ⟨3, ![4096, 8, 128]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x512, .f32⟩
  | .hbm, ⟨46, _⟩ => ⟨S4096x512, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S4096x8x64, .f32⟩
  | .hbm, ⟨52, _⟩ => ⟨S_, .i32⟩
  | .hbm, ⟨53, _⟩ => ⟨S_, .f32⟩
  | .hbm, ⟨54, _⟩ => ⟨S4096x8x128, .f32⟩
  | .hbm, ⟨55, _⟩ => ⟨S4096x1024, .f32⟩
  | .hbm, ⟨56, _⟩ => ⟨S4096x1024, .bf16⟩
  | .hbm, ⟨57, _⟩ => ⟨S4096x8x64, .f32⟩
  | .hbm, ⟨58, _⟩ => ⟨S_, .i32⟩
  | .hbm, ⟨59, _⟩ => ⟨S_, .f32⟩
  | .hbm, ⟨60, _⟩ => ⟨S4096x8x128, .f32⟩
  | .hbm, ⟨61, _⟩ => ⟨S4096x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call1_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== AttnAKernel.lean ====
abbrev S2x2048x8x96 : Shape := ⟨4, ![2, 2048, 8, 96]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S4096x2048 : Shape := ⟨2, ![4096, 2048]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S8x2x2048x1 : Shape := ⟨4, ![8, 2, 2048, 1]⟩
abbrev S8x4096x1 : Shape := ⟨3, ![8, 4096, 1]⟩
abbrev S1024x128 : Shape := ⟨2, ![1024, 128]⟩
abbrev S2048x128 : Shape := ⟨2, ![2048, 128]⟩
abbrev S1x1024x1 : Shape := ⟨3, ![1, 1024, 1]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 53
  | .vmem => 20
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S_, .i32⟩
  | .hbm, ⟨5, _⟩ => ⟨S_, .f32⟩
  | .hbm, ⟨6, _⟩ => ⟨S2x2048x8x128, .f32⟩
  | .hbm, ⟨7, _⟩ => ⟨S4096x1024, .f32⟩
  | .hbm, ⟨8, _⟩ => ⟨S4096x1024, .bf16⟩
  | .hbm, ⟨9, _⟩ => ⟨S_, .i32⟩
  | .hbm, ⟨10, _⟩ => ⟨S_, .f32⟩
  | .hbm, ⟨11, _⟩ => ⟨S2x2048x8x128, .f32⟩
  | .hbm, ⟨12, _⟩ => ⟨S4096x1024, .f32⟩
  | .hbm, ⟨13, _⟩ => ⟨S_, .i32⟩
  | .hbm, ⟨14, _⟩ => ⟨S_, .f32⟩
  | .hbm, ⟨15, _⟩ => ⟨S2x2048x8x128, .f32⟩
  | .hbm, ⟨16, _⟩ => ⟨S4096x1024, .f32⟩
  | .hbm, ⟨17, _⟩ => ⟨S4096x2048, .f32⟩
  | .hbm, ⟨18, _⟩ => ⟨S4096x2048, .bf16⟩
  | .hbm, ⟨19, _⟩ => ⟨S_, .i32⟩
  | .hbm, ⟨20, _⟩ => ⟨S_, .f32⟩
  | .hbm, ⟨21, _⟩ => ⟨S2x2048x8x128, .f32⟩
  | .hbm, ⟨22, _⟩ => ⟨S4096x1024, .f32⟩
  | .hbm, ⟨23, _⟩ => ⟨S4096x1024, .bf16⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048x1, .f32⟩
  | .hbm, ⟨34, _⟩ => ⟨S_, .f32⟩
  | .hbm, ⟨35, _⟩ => ⟨S2x8x2048x1, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x64x2048, .f32⟩
  | .hbm, ⟨40, _⟩ => ⟨S2x2048x8x64, .f32⟩
  | .hbm, ⟨41, _⟩ => ⟨S2x8x2048x1, .f32⟩
  | .hbm, ⟨42, _⟩ => ⟨S2x8x2048x1, .f32⟩
  | .hbm, ⟨43, _⟩ => ⟨S8x2x2048x1, .f32⟩
  | .hbm, ⟨44, _⟩ => ⟨S8x4096x1, .f32⟩
  | .hbm, ⟨45, _⟩ => ⟨S_, .i32⟩
  | .hbm, ⟨46, _⟩ => ⟨S_, .f32⟩
  | .hbm, ⟨47, _⟩ => ⟨S2x2048x8x128, .f32⟩
  | .hbm, ⟨48, _⟩ => ⟨S4096x1024, .f32⟩
  | .hbm, ⟨49, _⟩ => ⟨S4096x1024, .bf16⟩
  | .hbm, ⟨50, _⟩ => ⟨S4096x1024, .f32⟩
  | .hbm, ⟨51, _⟩ => ⟨S4096x1024, .bf16⟩
  | .hbm, ⟨52, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_call4_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![8, 2, 1, 2], ![false, false, false, false]⟩

def k0_cond3 (i : grid0.Coords) : BitVec 1 :=
  let arg2 : BitVec 32 := BitVec.ofNat 32 (i 2).val
  let c0_i32_22 : BitVec 32 := 0#32
  let v39 : BitVec 1 := Scalar.cmpi .eq arg2 c0_i32_22
  let arg3 : BitVec 32 := BitVec.ofNat 32 (i 3).val
  let c1_i32 : BitVec 32 := 1#32
  let v40 : BitVec 1 := Scalar.cmpi .eq arg3 c1_i32
  let v41 : BitVec 1 := Scalar.andi v39 v40
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.muli arg1 c2_i32
  let v3 : BitVec 32 := Scalar.addi v2 arg3
  let c0_i32 : BitVec 32 := 0#32
  let c0_i32_0 : BitVec 32 := 0#32
  ![v1.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c1_i32 : BitVec 32 := 1#32
  let v2 : BitVec 32 := Scalar.muli arg0 c1_i32
  let v3 : BitVec 32 := Scalar.addi v2 arg2
  let c0_i32 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== AttnARefIdeal.lean ====
abbrev S2x2048x8x96 : Shape := ⟨4, ![2, 2048, 8, 96]⟩
abbrev S2x2048x8x64 : Shape := ⟨4, ![2, 2048, 8, 64]⟩
abbrev S2x2048x8x1x96 : Shape := ⟨5, ![2, 2048, 8, 1, 96]⟩
abbrev S2x8x2048x2048x1 : Shape := ⟨5, ![2, 8, 2048, 2048, 1]⟩
abbrev S2x8x1x2048x2048 : Shape := ⟨5, ![2, 8, 1, 2048, 2048]⟩
abbrev S_ : Shape := ⟨0, ![]⟩
abbrev S2x8x1x2048 : Shape := ⟨4, ![2, 8, 1, 2048]⟩
abbrev S2x8x1x2048x1 : Shape := ⟨5, ![2, 8, 1, 2048, 1]⟩
abbrev S2x8x64x1x2048 : Shape := ⟨5, ![2, 8, 64, 1, 2048]⟩
abbrev S2x2048x8x1x64 : Shape := ⟨5, ![2, 2048, 8, 1, 64]⟩
abbrev S2x8x64x2048 : Shape := ⟨4, ![2, 8, 64, 2048]⟩
abbrev S2x8x2048 : Shape := ⟨3, ![2, 8, 2048]⟩
abbrev S2x8x2048x1x96 : Shape := ⟨5, ![2, 8, 2048, 1, 96]⟩
abbrev S2x8x2048x96 : Shape := ⟨4, ![2, 8, 2048, 96]⟩
abbrev S2x2048x8x128 : Shape := ⟨4, ![2, 2048, 8, 128]⟩
abbrev S4096x1024 : Shape := ⟨2, ![4096, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S2x2048x8x1x96, .f32⟩
  | .hbm, ⟨5, _⟩ => ⟨S2x8x2048x2048x1, .f32⟩
  | .hbm, ⟨6, _⟩ => ⟨S2x8x1x2048x2048, .f32⟩
  | .hbm, ⟨7, _⟩ => ⟨S_, .f32⟩
  | .hbm, ⟨8, _⟩ => ⟨S2x8x1x2048, .f32⟩
  | .hbm, ⟨9, _⟩ => ⟨S2x8x1x2048x1, .f32⟩
  | .hbm, ⟨10, _⟩ => ⟨S2x8x1x2048x2048, .f32⟩
  | .hbm, ⟨11, _⟩ => ⟨S2x8x1x2048x2048, .i1⟩
  | .hbm, ⟨12, _⟩ => ⟨S2x8x1x2048x2048, .f32⟩
  | .hbm, ⟨13, _⟩ => ⟨S_, .f32⟩
  | .hbm, ⟨14, _⟩ => ⟨S2x8x1x2048, .f32⟩
  | .hbm, ⟨15, _⟩ => ⟨S_, .f32⟩
  | .hbm, ⟨16, _⟩ => ⟨S2x8x1x2048, .f32⟩
  | .hbm, ⟨17, _⟩ => ⟨S2x8x1x2048, .f32⟩
  | .hbm, ⟨18, _⟩ => ⟨S_, .f32⟩
  | .hbm, ⟨19, _⟩ => ⟨S2x8x1x2048, .f32⟩
  | .hbm, ⟨20, _⟩ => ⟨S2x8x1x2048, .i1⟩
  | .hbm, ⟨21, _⟩ => ⟨S_, .f32⟩
  | .hbm, ⟨22, _⟩ => ⟨S2x8x1x2048, .f32⟩
  | .hbm, ⟨23, _⟩ => ⟨S2x8x1x2048, .i1⟩
  | .hbm, ⟨24, _⟩ => ⟨S_, .f32⟩
  | .hbm, ⟨25, _⟩ => ⟨S2x8x1x2048, .f32⟩
  | .hbm, ⟨26, _⟩ => ⟨S_, .f32⟩
  | .hbm, ⟨27, _⟩ => ⟨S2x8x1x2048, .f32⟩
  | .hbm, ⟨28, _⟩ => ⟨S_, .f32⟩
  | .hbm, ⟨29, _⟩ => ⟨S2x8x1x2048, .f32⟩
  | .hbm, ⟨30, _⟩ => ⟨S2x8x1x2048, .f32⟩
  | .hbm, ⟨31, _⟩ => ⟨S2x8x1x2048, .f32⟩
  | .hbm, ⟨32, _⟩ => ⟨S2x8x1x2048x1, .f32⟩
  | .hbm, ⟨33, _⟩ => ⟨S2x8x1x2048x2048, .f32⟩
  | .hbm, ⟨34, _⟩ => ⟨S2x8x1x2048x2048, .f32⟩
  | .hbm, ⟨35, _⟩ => ⟨S2x8x1x2048x2048, .f32⟩
  | .hbm, ⟨36, _⟩ => ⟨S_, .f32⟩
  | .hbm, ⟨37, _⟩ => ⟨S2x8x1x2048, .f32⟩
  | .hbm, ⟨38, _⟩ => ⟨S2x8x1x2048x1, .f32⟩
  | .hbm, ⟨39, _⟩ => ⟨S2x8x1x2048x2048, .f32⟩
  | .hbm, ⟨40, _⟩ => ⟨S2x8x1x2048x2048, .f32⟩
  | .hbm, ⟨41, _⟩ => ⟨S2x8x1x2048x1, .f32⟩
  | .hbm, ⟨42, _⟩ => ⟨S_, .f32⟩
  | .hbm, ⟨43, _⟩ => ⟨S2x8x1x2048x1, .f32⟩
  | .hbm, ⟨44, _⟩ => ⟨S2x8x1x2048x1, .f32⟩
  | .hbm, ⟨45, _⟩ => ⟨S2x8x64x1x2048, .f32⟩
  | .hbm, ⟨46, _⟩ => ⟨S2x2048x8x1x64, .f32⟩
  | .hbm, ⟨47, _⟩ => ⟨S2x2048x8x64, .f32⟩
  | .hbm, ⟨48, _⟩ => ⟨S2x2048x8x1x64, .f32⟩
  | .hbm, ⟨49, _⟩ => ⟨S2x8x64x1x2048, .f32⟩
  | .hbm, ⟨50, _⟩ => ⟨S2x8x1x2048x2048, .f32⟩
  | .hbm, ⟨51, _⟩ => ⟨S2x8x64x2048, .f32⟩
  | .hbm, ⟨52, _⟩ => ⟨S2x2048x8x64, .f32⟩
  | .hbm, ⟨53, _⟩ => ⟨S2x8x1x2048x2048, .f32⟩
  | .hbm, ⟨54, _⟩ => ⟨S2x8x1x2048x2048, .f32⟩
  | .hbm, ⟨55, _⟩ => ⟨S2x8x1x2048x2048, .f32⟩
  | .hbm, ⟨56, _⟩ => ⟨S_, .f32⟩
  | .hbm, ⟨57, _⟩ => ⟨S2x8x1x2048, .f32⟩
  | .hbm, ⟨58, _⟩ => ⟨S2x8x1x2048x1, .f32⟩
  | .hbm, ⟨59, _⟩ => ⟨S2x8x1x2048x1, .f32⟩
  | .hbm, ⟨60, _⟩ => ⟨S2x8x1x2048x2048, .f32⟩
  | .hbm, ⟨61, _⟩ => ⟨S2x8x1x2048x2048, .f32⟩
  | .hbm, ⟨62, _⟩ => ⟨S_, .f32⟩
  | .hbm, ⟨63, _⟩ => ⟨S2x8x2048, .f32⟩
  | .hbm, ⟨64, _⟩ => ⟨S2x8x1x2048, .f32⟩
  | .hbm, ⟨65, _⟩ => ⟨S2x8x1x2048x2048, .f32⟩
  | .hbm, ⟨66, _⟩ => ⟨S2x8x1x2048x2048, .f32⟩
  | .hbm, ⟨67, _⟩ => ⟨S2x8x1x2048x2048, .f32⟩
  | .hbm, ⟨68, _⟩ => ⟨S2x8x2048x2048x1, .f32⟩
  | .hbm, ⟨69, _⟩ => ⟨S2x8x2048x1x96, .f32⟩
  | .hbm, ⟨70, _⟩ => ⟨S2x2048x8x1x96, .f32⟩
  | .hbm, ⟨71, _⟩ => ⟨S2x8x2048x96, .f32⟩
  | .hbm, ⟨72, _⟩ => ⟨S2x2048x8x96, .f32⟩
  | .hbm, ⟨73, _⟩ => ⟨S_, .f32⟩
  | .hbm, ⟨74, _⟩ => ⟨S2x2048x8x96, .f32⟩
  | .hbm, ⟨75, _⟩ => ⟨S_, .i32⟩
  | .hbm, ⟨76, _⟩ => ⟨S_, .f32⟩
  | .hbm, ⟨77, _⟩ => ⟨S2x2048x8x128, .f32⟩
  | .hbm, ⟨78, _⟩ => ⟨S4096x1024, .f32⟩
  | .hbm, ⟨79, _⟩ => ⟨S_, .i32⟩
  | .hbm, ⟨80, _⟩ => ⟨S_, .f32⟩
  | .hbm, ⟨81, _⟩ => ⟨S2x2048x8x128, .f32⟩
  | .hbm, ⟨82, _⟩ => ⟨S4096x1024, .f32⟩
  | .hbm, ⟨83, _⟩ => ⟨S4096x1024, .bf16⟩
  | .hbm, ⟨84, _⟩ => ⟨S_, .i32⟩
  | .hbm, ⟨85, _⟩ => ⟨S_, .f32⟩
  | .hbm, ⟨86, _⟩ => ⟨S2x2048x8x128, .f32⟩
  | .hbm, ⟨87, _⟩ => ⟨S4096x1024, .f32⟩
  | .hbm, ⟨88, _⟩ => ⟨S4096x1024, .bf16⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_c : Ref sig .tc := ⟨.hbm, 75, rfl⟩
abbrev main_call0_v0 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_call1_v0 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_call2_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== AttnBKernel.lean ====
abbrev S2x2048x2x4x64 : Shape := ⟨5, ![2, 2048, 2, 4, 64]⟩
abbrev S2x2048x2x64 : Shape := ⟨4, ![2, 2048, 2, 64]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S2x2048x2x128 : Shape := ⟨4, ![2, 2048, 2, 128]⟩
abbrev S4096x256 : Shape := ⟨2, ![4096, 256]⟩
abbrev S4096x1792 : Shape := ⟨2, ![4096, 1792]⟩
abbrev S4096x2048 : Shape := ⟨2, ![4096, 2048]⟩
abbrev S4096x4096 : Shape := ⟨2, ![4096, 4096]⟩
abbrev S2x2x2048x2048x4 : Shape := ⟨5, ![2, 2, 2048, 2048, 4]⟩
abbrev S2x2x4x2048x2048 : Shape := ⟨5, ![2, 2, 4, 2048, 2048]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x8x2048x1 : Shape := ⟨4, ![2, 8, 2048, 1]⟩
abbrev S8x2x2048x1 : Shape := ⟨4, ![8, 2, 2048, 1]⟩
abbrev S8x4096x1 : Shape := ⟨3, ![8, 4096, 1]⟩
abbrev S1024x128 : Shape := ⟨2, ![1024, 128]⟩
abbrev S2048x128 : Shape := ⟨2, ![2048, 128]⟩
abbrev S1x1024x1 : Shape := ⟨3, ![1, 1024, 1]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 62
  | .vmem => 20
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2048x8x64, .f32⟩
  | .hbm, ⟨4, _⟩ => ⟨S2x2048x8x64, .f32⟩
  | .hbm, ⟨5, _⟩ => ⟨S_, .i32⟩
  | .hbm, ⟨6, _⟩ => ⟨S_, .f32⟩
  | .hbm, ⟨7, _⟩ => ⟨S2x2048x8x128, .f32⟩
  | .hbm, ⟨8, _⟩ => ⟨S4096x1024, .f32⟩
  | .hbm, ⟨9, _⟩ => ⟨S4096x1024, .bf16⟩
  | .hbm, ⟨10, _⟩ => ⟨S_, .i32⟩
  | .hbm, ⟨11, _⟩ => ⟨S_, .f32⟩
  | .hbm, ⟨12, _⟩ => ⟨S2x2048x2x128, .f32⟩
  | .hbm, ⟨13, _⟩ => ⟨S4096x256, .f32⟩
  | .hbm, ⟨14, _⟩ => ⟨S4096x256, .bf16⟩
  | .hbm, ⟨15, _⟩ => ⟨S_, .i32⟩
  | .hbm, ⟨16, _⟩ => ⟨S_, .f32⟩
  | .hbm, ⟨17, _⟩ => ⟨S2x2048x2x128, .f32⟩
  | .hbm, ⟨18, _⟩ => ⟨S4096x256, .f32⟩
  | .hbm, ⟨19, _⟩ => ⟨S_, .bf16⟩
  | .hbm, ⟨20, _⟩ => ⟨S4096x1792, .bf16⟩
  | .hbm, ⟨21, _⟩ => ⟨S4096x256, .bf16⟩
  | .hbm, ⟨22, _⟩ => ⟨S_, .bf16⟩
  | .hbm, ⟨23, _⟩ => ⟨S4096x2048, .bf16⟩
  | .hbm, ⟨24, _⟩ => ⟨S4096x4096, .bf16⟩
  | .hbm, ⟨25, _⟩ => ⟨S_, .i32⟩
  | .hbm, ⟨26, _⟩ => ⟨S_, .f32⟩
  | .hbm, ⟨27, _⟩ => ⟨S2x2048x8x128, .f32⟩
  | .hbm, ⟨28, _⟩ => ⟨S4096x1024, .f32⟩
  | .hbm, ⟨29, _⟩ => ⟨S4096x1024, .bf16⟩
  | .hbm, ⟨30, _⟩ => ⟨S2x2x2048x2048x4, .f32⟩
  | .hbm, ⟨31, _⟩ => ⟨S2x2x4x2048x2048, .f32⟩
  | .hbm, ⟨32, _⟩ => ⟨S_, .f32⟩
  | .hbm, ⟨33, _⟩ => ⟨S2x2x4x2048, .f32⟩
  | .hbm, ⟨34, _⟩ => ⟨S2x2x4x2048x1, .f32⟩
  | .hbm, ⟨35, _⟩ => ⟨S2x2x4x2048x2048, .f32⟩
  | .hbm, ⟨36, _⟩ => ⟨S2x2x4x2048x2048, .f32⟩
  | .hbm, ⟨37, _⟩ => ⟨S2x2x4x2048x2048, .f32⟩
  | .hbm, ⟨38, _⟩ => ⟨S_, .f32⟩
  | .hbm, ⟨39, _⟩ => ⟨S2x2x4x2048, .f32⟩
  | .hbm, ⟨40, _⟩ => ⟨S2x2x4x2048x1, .f32⟩
  | .hbm, ⟨41, _⟩ => ⟨S_, .f32⟩
  | .hbm, ⟨42, _⟩ => ⟨S2x2x4x2048x1, .f32⟩
  | .hbm, ⟨43, _⟩ => ⟨S2x2x4x2048x1, .f32⟩
  | .hbm, ⟨44, _⟩ => ⟨S2x2x4x2048x2048, .f32⟩
  | .hbm, ⟨45, _⟩ => ⟨S2x2x4x2048x2048, .f32⟩
  | .hbm, ⟨46, _⟩ => ⟨S2x2x64x4x2048, .f32⟩
  | .hbm, ⟨47, _⟩ => ⟨S2x2048x2x4x64, .f32⟩
  | .hbm, ⟨48, _⟩ => ⟨S2x2048x8x64, .f32⟩
  | .hbm, ⟨49, _⟩ => ⟨S2x2x4x2048x1, .f32⟩
  | .hbm, ⟨50, _⟩ => ⟨S2x2x4x2048x1, .f32⟩
  | .hbm, ⟨51, _⟩ => ⟨S2x8x2048x1, .f32⟩
  | .hbm, ⟨52, _⟩ => ⟨S8x2x2048x1, .f32⟩
  | .hbm, ⟨53, _⟩ => ⟨S8x4096x1, .f32⟩
  | .hbm, ⟨54, _⟩ => ⟨S_, .i32⟩
  | .hbm, ⟨55, _⟩ => ⟨S_, .f32⟩
  | .hbm, ⟨56, _⟩ => ⟨S2x2048x8x128, .f32⟩
  | .hbm, ⟨57, _⟩ => ⟨S4096x1024, .f32⟩
  | .hbm, ⟨58, _⟩ => ⟨S4096x1024, .bf16⟩
  | .hbm, ⟨59, _⟩ => ⟨S4096x1024, .f32⟩
  | .hbm, ⟨60, _⟩ => ⟨S4096x256, .bf16⟩
  | .hbm, ⟨61, _⟩ => ⟨S4096x256, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_call4_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v40_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 2, 4, 2], ![false, false, false, false]⟩

def k0_cond3 (i : grid0.Coords) : BitVec 1 :=
  let arg2 : BitVec 32 := BitVec.ofNat 32 (i 2).val
  let c3_i32 : BitVec 32 := 3#32
  let v39 : BitVec 1 := Scalar.cmpi .eq arg2 c3_i32
  let arg3 : BitVec 32 := BitVec.ofNat 32 (i 3).val
  let c1_i32 : BitVec 32 := 1#32
  let v40 : BitVec 1 := Scalar.cmpi .eq arg3 c1_i32
  let v41 : BitVec 1 := Scalar.andi v39 v40
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c4_i32 : BitVec 32 := 4#32
  let v2 : BitVec 32 := Scalar.muli arg0 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c14_i32 : BitVec 32 := 14#32
  let v0 : BitVec 32 := Scalar.addi c14_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c4_i32 : BitVec 32 := 4#32
  let v2 : BitVec 32 := Scalar.muli arg0 c4_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c4_i32 : BitVec 32 := 4#32
  let v2 : BitVec 32 := Scalar.muli arg0 c4_i32
  let v3 : BitVec 32 := Scalar.addi v2 arg2
  let c0_i32 : BitVec 32 := 0#32
  ![v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.muli arg1 c2_i32
  let v3 : BitVec 32 := Scalar.addi v2 arg3
  let c0_i32 : BitVec 32 := 0#32
  let c0_i32_0 : BitVec 32 := 0#32
  ![v1.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg3
  let c4_i32 : BitVec 32 := 4#32
  let v2 : BitVec 32 := Scalar.muli arg0 c4_i32
  let v3 : BitVec 32 := Scalar.addi v2 arg2
  let c0_i32 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== AttnBRefIdeal.lean ====
abbrev S2x2048x2x4x64 : Shape := ⟨5, ![2, 2048, 2, 4, 64]⟩
abbrev S2x2048x2x64 : Shape := ⟨4, ![2, 2048, 2, 64]⟩
abbrev S2x2048x8x64 : Shape := ⟨4, ![2, 2048, 8, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩
abbrev S2x2048x8x128 : Shape := ⟨4, ![2, 2048, 8, 128]⟩
abbrev S4096x1024 : Shape := ⟨2, ![4096, 1024]⟩
abbrev S2x2048x2x128 : Shape := ⟨4, ![2, 2048, 2, 128]⟩
abbrev S4096x256 : Shape := ⟨2, ![4096, 256]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2048x8x64, .f32⟩
  | .hbm, ⟨4, _⟩ => ⟨S2x2x2048x2048x4, .f32⟩
  | .hbm, ⟨5, _⟩ => ⟨S2x2x4x2048x2048, .f32⟩
  | .hbm, ⟨6, _⟩ => ⟨S_, .f32⟩
  | .hbm, ⟨7, _⟩ => ⟨S2x2x4x2048, .f32⟩
  | .hbm, ⟨8, _⟩ => ⟨S2x2x4x2048x1, .f32⟩
  | .hbm, ⟨9, _⟩ => ⟨S2x2x4x2048x2048, .f32⟩
  | .hbm, ⟨10, _⟩ => ⟨S2x2x4x2048x2048, .i1⟩
  | .hbm, ⟨11, _⟩ => ⟨S2x2x4x2048x2048, .f32⟩
  | .hbm, ⟨12, _⟩ => ⟨S_, .f32⟩
  | .hbm, ⟨13, _⟩ => ⟨S2x2x4x2048, .f32⟩
  | .hbm, ⟨14, _⟩ => ⟨S_, .f32⟩
  | .hbm, ⟨15, _⟩ => ⟨S2x2x4x2048, .f32⟩
  | .hbm, ⟨16, _⟩ => ⟨S2x2x4x2048, .f32⟩
  | .hbm, ⟨17, _⟩ => ⟨S_, .f32⟩
  | .hbm, ⟨18, _⟩ => ⟨S2x2x4x2048, .f32⟩
  | .hbm, ⟨19, _⟩ => ⟨S2x2x4x2048, .i1⟩
  | .hbm, ⟨20, _⟩ => ⟨S_, .f32⟩
  | .hbm, ⟨21, _⟩ => ⟨S2x2x4x2048, .f32⟩
  | .hbm, ⟨22, _⟩ => ⟨S2x2x4x2048, .i1⟩
  | .hbm, ⟨23, _⟩ => ⟨S_, .f32⟩
  | .hbm, ⟨24, _⟩ => ⟨S2x2x4x2048, .f32⟩
  | .hbm, ⟨25, _⟩ => ⟨S_, .f32⟩
  | .hbm, ⟨26, _⟩ => ⟨S2x2x4x2048, .f32⟩
  | .hbm, ⟨27, _⟩ => ⟨S_, .f32⟩
  | .hbm, ⟨28, _⟩ => ⟨S2x2x4x2048, .f32⟩
  | .hbm, ⟨29, _⟩ => ⟨S2x2x4x2048, .f32⟩
  | .hbm, ⟨30, _⟩ => ⟨S2x2x4x2048, .f32⟩
  | .hbm, ⟨31, _⟩ => ⟨S2x2x4x2048x1, .f32⟩
  | .hbm, ⟨32, _⟩ => ⟨S2x2x4x2048x2048, .f32⟩
  | .hbm, ⟨33, _⟩ => ⟨S2x2x4x2048x2048, .f32⟩
  | .hbm, ⟨34, _⟩ => ⟨S2x2x4x2048x2048, .f32⟩
  | .hbm, ⟨35, _⟩ => ⟨S_, .f32⟩
  | .hbm, ⟨36, _⟩ => ⟨S2x2x4x2048, .f32⟩
  | .hbm, ⟨37, _⟩ => ⟨S2x2x4x2048x1, .f32⟩
  | .hbm, ⟨38, _⟩ => ⟨S2x2x4x2048x2048, .f32⟩
  | .hbm, ⟨39, _⟩ => ⟨S2x2x4x2048x2048, .f32⟩
  | .hbm, ⟨40, _⟩ => ⟨S2x2x4x2048x1, .f32⟩
  | .hbm, ⟨41, _⟩ => ⟨S_, .f32⟩
  | .hbm, ⟨42, _⟩ => ⟨S2x2x4x2048x1, .f32⟩
  | .hbm, ⟨43, _⟩ => ⟨S2x2x4x2048x1, .f32⟩
  | .hbm, ⟨44, _⟩ => ⟨S2x2x64x4x2048, .f32⟩
  | .hbm, ⟨45, _⟩ => ⟨S2x2048x2x4x64, .f32⟩
  | .hbm, ⟨46, _⟩ => ⟨S2x2048x8x64, .f32⟩
  | .hbm, ⟨47, _⟩ => ⟨S2x2048x2x4x64, .f32⟩
  | .hbm, ⟨48, _⟩ => ⟨S2x2x64x4x2048, .f32⟩
  | .hbm, ⟨49, _⟩ => ⟨S2x2x4x2048x2048, .f32⟩
  | .hbm, ⟨50, _⟩ => ⟨S2x2x64x2048, .f32⟩
  | .hbm, ⟨51, _⟩ => ⟨S2x2048x2x64, .f32⟩
  | .hbm, ⟨52, _⟩ => ⟨S2x2x4x2048x2048, .f32⟩
  | .hbm, ⟨53, _⟩ => ⟨S2x2x4x2048x2048, .f32⟩
  | .hbm, ⟨54, _⟩ => ⟨S2x2x4x2048x2048, .f32⟩
  | .hbm, ⟨55, _⟩ => ⟨S_, .f32⟩
  | .hbm, ⟨56, _⟩ => ⟨S2x2x4x2048, .f32⟩
  | .hbm, ⟨57, _⟩ => ⟨S2x2x4x2048x1, .f32⟩
  | .hbm, ⟨58, _⟩ => ⟨S2x2x4x2048x1, .f32⟩
  | .hbm, ⟨59, _⟩ => ⟨S2x2x4x2048x2048, .f32⟩
  | .hbm, ⟨60, _⟩ => ⟨S2x2x4x2048x2048, .f32⟩
  | .hbm, ⟨61, _⟩ => ⟨S_, .f32⟩
  | .hbm, ⟨62, _⟩ => ⟨S2x2x4x2048, .f32⟩
  | .hbm, ⟨63, _⟩ => ⟨S2x2x4x2048x2048, .f32⟩
  | .hbm, ⟨64, _⟩ => ⟨S2x2x4x2048x2048, .f32⟩
  | .hbm, ⟨65, _⟩ => ⟨S2x2x4x2048x2048, .f32⟩
  | .hbm, ⟨66, _⟩ => ⟨S2x2x2048x2048x4, .f32⟩
  | .hbm, ⟨67, _⟩ => ⟨S2x2x2048x4x64, .f32⟩
  | .hbm, ⟨68, _⟩ => ⟨S2x2048x2x4x64, .f32⟩
  | .hbm, ⟨69, _⟩ => ⟨S2x2x2048x64, .f32⟩
  | .hbm, ⟨70, _⟩ => ⟨S2x2048x2x64, .f32⟩
  | .hbm, ⟨71, _⟩ => ⟨S2x2048x8x64, .f32⟩
  | .hbm, ⟨72, _⟩ => ⟨S_, .i32⟩
  | .hbm, ⟨73, _⟩ => ⟨S_, .f32⟩
  | .hbm, ⟨74, _⟩ => ⟨S2x2048x8x128, .f32⟩
  | .hbm, ⟨75, _⟩ => ⟨S4096x1024, .f32⟩
  | .hbm, ⟨76, _⟩ => ⟨S_, .i32⟩
  | .hbm, ⟨77, _⟩ => ⟨S_, .f32⟩
  | .hbm, ⟨78, _⟩ => ⟨S2x2048x2x128, .f32⟩
  | .hbm, ⟨79, _⟩ => ⟨S4096x256, .f32⟩
  | .hbm, ⟨80, _⟩ => ⟨S4096x256, .bf16⟩
  | .hbm, ⟨81, _⟩ => ⟨S_, .i32⟩
  | .hbm, ⟨82, _⟩ => ⟨S_, .f32⟩
  | .hbm, ⟨83, _⟩ => ⟨S2x2048x2x128, .f32⟩
  | .hbm, ⟨84, _⟩ => ⟨S4096x256, .f32⟩
  | .hbm, ⟨85, _⟩ => ⟨S4096x256, .bf16⟩
  | _, _ => ⟨S2x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.hbm, 72, rfl⟩
abbrev main_call0_v0 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_call1_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_call2_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== InProjKernel.lean ====
abbrev S4096x1024 : Shape := ⟨2, ![4096, 1024]⟩
abbrev S1x1024 : Shape := ⟨2, ![1, 1024]⟩
abbrev S1024x3232 : Shape := ⟨2, ![1024, 3232]⟩
abbrev S4096x3232 : Shape := ⟨2, ![4096, 3232]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x256 : Shape := ⟨2, ![1024, 256]⟩
abbrev S1024x128 : Shape := ⟨2, ![1024, 128]⟩
abbrev S1024x32 : Shape := ⟨2, ![1024, 32]⟩
abbrev S1024x2x64 : Shape := ⟨3, ![1024, 2, 64]⟩
abbrev S1024x2x128 : Shape := ⟨3, ![1024, 2, 128]⟩
abbrev S1024x4096 : Shape := ⟨2, ![1024, 4096]⟩
abbrev S4096x512 : Shape := ⟨2, ![4096, 512]⟩
abbrev S4096x8x64 : Shape := ⟨3, ![4096, 8, 64]⟩
abbrev S4096x8x128 : Shape := ⟨3, ![4096, 8, 128]⟩
abbrev S4096x256 : Shape := ⟨2, ![4096, 256]⟩
abbrev S4096x128 : Shape := ⟨2, ![4096, 128]⟩
abbrev S4096x32 : Shape := ⟨2, ![4096, 32]⟩
abbrev S4096x2x64 : Shape := ⟨3, ![4096, 2, 64]⟩
abbrev S4096x2x128 : Shape := ⟨3, ![4096, 2, 128]⟩
abbrev S4096x4096 : Shape := ⟨2, ![4096, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 67
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3232, .f32⟩
  | .hbm, ⟨3, _⟩ => ⟨S4096x3232, .f32⟩
  | .hbm, ⟨4, _⟩ => ⟨S4096x1024, .f32⟩
  | .hbm, ⟨5, _⟩ => ⟨S1024x3232, .bf16⟩
  | .hbm, ⟨6, _⟩ => ⟨S1024x512, .bf16⟩
  | .hbm, ⟨7, _⟩ => ⟨S1024x8x64, .bf16⟩
  | .hbm, ⟨8, _⟩ => ⟨S_, .i32⟩
  | .hbm, ⟨9, _⟩ => ⟨S_, .bf16⟩
  | .hbm, ⟨10, _⟩ => ⟨S1024x8x128, .bf16⟩
  | .hbm, ⟨11, _⟩ => ⟨S1024x1024, .bf16⟩
  | .hbm, ⟨12, _⟩ => ⟨S1024x256, .bf16⟩
  | .hbm, ⟨13, _⟩ => ⟨S1024x128, .bf16⟩
  | .hbm, ⟨14, _⟩ => ⟨S1024x32, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S1024x128, .bf16⟩
  | .hbm, ⟨19, _⟩ => ⟨S1024x2x64, .bf16⟩
  | .hbm, ⟨20, _⟩ => ⟨S_, .i32⟩
  | .hbm, ⟨21, _⟩ => ⟨S_, .bf16⟩
  | .hbm, ⟨22, _⟩ => ⟨S1024x2x128, .bf16⟩
  | .hbm, ⟨23, _⟩ => ⟨S1024x256, .bf16⟩
  | .hbm, ⟨24, _⟩ => ⟨S1024x128, .bf16⟩
  | .hbm, ⟨25, _⟩ => ⟨S1024x2x64, .bf16⟩
  | .hbm, ⟨26, _⟩ => ⟨S_, .i32⟩
  | .hbm, ⟨27, _⟩ => ⟨S_, .bf16⟩
  | .hbm, ⟨28, _⟩ => ⟨S1024x2x128, .bf16⟩
  | .hbm, ⟨29, _⟩ => ⟨S1024x256, .bf16⟩
  | .hbm, ⟨30, _⟩ => ⟨S1024x1024, .bf16⟩
  | .hbm, ⟨31, _⟩ => ⟨S1024x1024, .bf16⟩
  | .hbm, ⟨32, _⟩ => ⟨S1024x4096, .bf16⟩
  | .hbm, ⟨33, _⟩ => ⟨S4096x3232, .bf16⟩
  | .hbm, ⟨34, _⟩ => ⟨S4096x512, .bf16⟩
  | .hbm, ⟨35, _⟩ => ⟨S4096x8x64, .bf16⟩
  | .hbm, ⟨36, _⟩ => ⟨S_, .i32⟩
  | .hbm, ⟨37, _⟩ => ⟨S_, .bf16⟩
  | .hbm, ⟨38, _⟩ => ⟨S4096x8x128, .bf16⟩
  | .hbm, ⟨39, _⟩ => ⟨S4096x1024, .bf16⟩
  | .hbm, ⟨40, _⟩ => ⟨S4096x256, .bf16⟩
  | .hbm, ⟨41, _⟩ => ⟨S4096x128, .bf16⟩
  | .hbm, ⟨42, _⟩ => ⟨S4096x32, .bf16⟩
  | .hbm, ⟨43, _⟩ => ⟨S_, .i32⟩
  | .hbm, ⟨44, _⟩ => ⟨S_, .bf16⟩
  | .hbm, ⟨45, _⟩ => ⟨S4096x128, .bf16⟩
  | .hbm, ⟨46, _⟩ => ⟨S4096x128, .bf16⟩
  | .hbm, ⟨47, _⟩ => ⟨S4096x2x64, .bf16⟩
  | .hbm, ⟨48, _⟩ => ⟨S_, .i32⟩
  | .hbm, ⟨49, _⟩ => ⟨S_, .bf16⟩
  | .hbm, ⟨50, _⟩ => ⟨S4096x2x128, .bf16⟩
  | .hbm, ⟨51, _⟩ => ⟨S4096x256, .bf16⟩
  | .hbm, ⟨52, _⟩ => ⟨S4096x128, .bf16⟩
  | .hbm, ⟨53, _⟩ => ⟨S4096x2x64, .bf16⟩
  | .hbm, ⟨54, _⟩ => ⟨S_, .i32⟩
  | .hbm, ⟨55, _⟩ => ⟨S_, .bf16⟩
  | .hbm, ⟨56, _⟩ => ⟨S4096x2x128, .bf16⟩
  | .hbm, ⟨57, _⟩ => ⟨S4096x256, .bf16⟩
  | .hbm, ⟨58, _⟩ => ⟨S4096x1024, .bf16⟩
  | .hbm, ⟨59, _⟩ => ⟨S4096x1024, .bf16⟩
  | .hbm, ⟨60, _⟩ => ⟨S4096x4096, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x1024, .f32⟩
  | .hbm, ⟨66, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_call4_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call5_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_call6_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call7_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let arg1 : BitVec 32 := BitVec.ofNat 32 (i 1).val
  let c0_i32_32 : BitVec 32 := 0#32
  let v54 : BitVec 1 := Scalar.cmpi .eq arg1 c0_i32_32
  let v55 : BitVec 1 := Scalar.andi v53 v54
  let v56 : BitVec 32 := Scalar.extui v55
  let c0_i32_33 : BitVec 32 := 0#32
  let v57 : BitVec 1 := Scalar.cmpi .ne v56 c0_i32_33
  v57

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let arg1 : BitVec 32 := BitVec.ofNat 32 (i 1).val
  let c0_i32_32 : BitVec 32 := 0#32
  let v54 : BitVec 1 := Scalar.cmpi .eq arg1 c0_i32_32
  let v55 : BitVec 1 := Scalar.andi v53 v54
  let v_true : BitVec 1 := 1#1
  let v58 : BitVec 1 := Scalar.xori v55 v_true
  let v59 : BitVec 32 := Scalar.extui v58
  let c0_i32_34 : BitVec 32 := 0#32
  let v60 : BitVec 1 := Scalar.cmpi .ne v59 c0_i32_34
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== InProjRefIdeal.lean ====
abbrev S4096x1024 : Shape := ⟨2, ![4096, 1024]⟩
abbrev S1x1024 : Shape := ⟨2, ![1, 1024]⟩
abbrev S1024x3232 : Shape := ⟨2, ![1024, 3232]⟩
abbrev S4096x3232 : Shape := ⟨2, ![4096, 3232]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3232, .f32⟩
  | .hbm, ⟨3, _⟩ => ⟨S4096x3232, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3232, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== TailKernel.lean ====
abbrev S2x2048x1024 : Shape := ⟨3, ![2, 2048, 1024]⟩
abbrev S2x2048x256 : Shape := ⟨3, ![2, 2048, 256]⟩
abbrev S1x1024 : Shape := ⟨2, ![1, 1024]⟩
abbrev S1024x1024 : Shape := ⟨2, ![1024, 1024]⟩
abbrev S256x1024 : Shape := ⟨2, ![256, 1024]⟩
abbrev S4096x1024 : Shape := ⟨2, ![4096, 1024]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 34
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x1024, .f32⟩
  | .hbm, ⟨3, _⟩ => ⟨S1x1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S4096x1024, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1024x1024, .bf16⟩
  | .hbm, ⟨27, _⟩ => ⟨S256x1024, .bf16⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S1x1024, .f32⟩
  | .hbm, ⟨32, _⟩ => ⟨S1x1024, .f32⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v18_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v99 : BitVec 1 := Scalar.cmpi .eq arg0 c0_i32
  let arg1 : BitVec 32 := BitVec.ofNat 32 (i 1).val
  let c0_i32_42 : BitVec 32 := 0#32
  let v100 : BitVec 1 := Scalar.cmpi .eq arg1 c0_i32_42
  let v101 : BitVec 1 := Scalar.andi v99 v100
  let v102 : BitVec 32 := Scalar.extui v101
  let c0_i32_43 : BitVec 32 := 0#32
  let v103 : BitVec 1 := Scalar.cmpi .ne v102 c0_i32_43
  v103

def k0_cond2 (i : grid0.Coords) : BitVec 1 :=
  let arg0 : BitVec 32 := BitVec.ofNat 32 (i 0).val
  let c0_i32 : BitVec 32 := 0#32
  let v99 : BitVec 1 := Scalar.cmpi .eq arg0 c0_i32
  let arg1 : BitVec 32 := BitVec.ofNat 32 (i 1).val
  let c0_i32_42 : BitVec 32 := 0#32
  let v100 : BitVec 1 := Scalar.cmpi .eq arg1 c0_i32_42
  let v101 : BitVec 1 := Scalar.andi v99 v100
  let v_true : BitVec 1 := 1#1
  let v104 : BitVec 1 := Scalar.xori v101 v_true
  let v105 : BitVec 32 := Scalar.extui v104
  let c0_i32_44 : BitVec 32 := 0#32
  let v106 : BitVec 1 := Scalar.cmpi .ne v105 c0_i32_44
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== TailRefIdeal.lean ====
abbrev S2x2048x1024 : Shape := ⟨3, ![2, 2048, 1024]⟩
abbrev S2x2048x256 : Shape := ⟨3, ![2, 2048, 256]⟩
abbrev S1x1024 : Shape := ⟨2, ![1, 1024]⟩
abbrev S1024x1024 : Shape := ⟨2, ![1024, 1024]⟩
abbrev S256x1024 : Shape := ⟨2, ![256, 1024]⟩
abbrev S4096x1024 : Shape := ⟨2, ![4096, 1024]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 153
  | .vmem => 0
  | .smem => 0
  | _ => 0

abbrev hbmTy0_0 (i : Nat) : BufTy := match i % 128 with
  | 0 => ⟨S2x2048x1024, .f32⟩
  | 1 => ⟨S2x2048x256, .f32⟩
  | 2 => ⟨S2x2048x1024, .f32⟩
  | 3 => ⟨S1x1024, .f32⟩
  | 4 => ⟨S1024x1024, .f32⟩
  | 5 => ⟨S256x1024, .f32⟩
  | 6 => ⟨S1x1024, .f32⟩
  | 7 => ⟨S4096x1024, .f32⟩
  | 8 => ⟨S4096x256, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S_, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S_, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1024, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S2x2048x1024, .f32⟩

abbrev hbmTy0_1 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1024, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .bf16⟩
  | 24 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_cst_21 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_22 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_23 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_24 : Ref sig .tc := ⟨.hbm, 113, rfl⟩
abbrev main_v81 : Ref sig .tc := ⟨.hbm, 114, rfl⟩
abbrev main_v82 : Ref sig .tc := ⟨.hbm, 115, rfl⟩
abbrev main_cst_25 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_27 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_28 : Ref sig .tc := ⟨.hbm, 141, rfl⟩
abbrev main_v105 : Ref sig .tc := ⟨.hbm, 142, rfl⟩
abbrev main_v106 : Ref sig .tc := ⟨.hbm, 143, rfl⟩
abbrev main_cst_29 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== QPathKernel.lean ====
abbrev S4096x256 : Shape := ⟨2, ![4096, 256]⟩
abbrev S1x256 : Shape := ⟨2, ![1, 256]⟩
abbrev S256x768 : Shape := ⟨2, ![256, 768]⟩
abbrev S2x2048x8x96 : Shape := ⟨4, ![2, 2048, 8, 96]⟩
abbrev S128x128 : Shape := ⟨2, ![128, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x0 : Shape := ⟨2, ![2048, 0]⟩
abbrev S2048x96 : Shape := ⟨2, ![2048, 96]⟩
abbrev S256x8x96 : Shape := ⟨3, ![256, 8, 96]⟩
abbrev S256x8x128 : Shape := ⟨3, ![256, 8, 128]⟩
abbrev S256x1024 : Shape := ⟨2, ![256, 1024]⟩
abbrev S4096x1024 : Shape := ⟨2, ![4096, 1024]⟩
abbrev S4096x2816 : Shape := ⟨2, ![4096, 2816]⟩
abbrev S4096x4096 : Shape := ⟨2, ![4096, 4096]⟩
abbrev S2x2048x8x128 : Shape := ⟨4, ![2, 2048, 8, 128]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256 : Shape := ⟨1, ![256]⟩

abbrev nBuf : Space → Nat
  | .hbm => 175
  | .vmem => 16
  | .smem => 0
  | _ => 0

abbrev hbmTy0_0 (i : Nat) : BufTy := match i % 128 with
  | 0 => ⟨S4096x256, .f32⟩
  | 1 => ⟨S1x256, .f32⟩
  | 2 => ⟨S256x768, .f32⟩
  | 3 => ⟨S2x2048x8x96, .f32⟩
  | 4 => ⟨S128x128, .bf16⟩
  | 5 => ⟨S2048, .i32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S2048, .f32⟩
  | 21 => ⟨S2048x1, .f32⟩
  | 22 => ⟨S1x16, .f32⟩
  | 23 => ⟨S2048x16, .f32⟩
  | 24 => ⟨S2048x16, .f32⟩
  | 25 => ⟨S2048x16, .f32⟩
  | 26 => ⟨S_, .i32⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i1⟩
  | 34 => ⟨S2048, .i32⟩
  | 35 => ⟨S2048, .i32⟩
  | 36 => ⟨S_, .i32⟩
  | 37 => ⟨S2048, .i32⟩
  | 38 => ⟨S2048, .i1⟩
  | 39 => ⟨S2048, .i1⟩
  | 40 => ⟨S_, .i32⟩
  | 41 => ⟨S2048, .i32⟩
  | 42 => ⟨S2048, .i32⟩
  | 43 => ⟨S2048, .i32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S2048, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i1⟩
  | 78 => ⟨S_, .i32⟩
  | 79 => ⟨S_, .i1⟩
  | 80 => ⟨S2048, .i1⟩
  | 81 => ⟨S2048, .i1⟩
  | 82 => ⟨S2048, .i1⟩
  | 83 => ⟨S2048, .i32⟩
  | 84 => ⟨S2048, .i32⟩
  | 85 => ⟨S2048, .i32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S2048, .f32⟩
  | 101 => ⟨S2048x1, .f32⟩
  | 102 => ⟨S1x16, .f32⟩
  | 103 => ⟨S2048x16, .f32⟩
  | 104 => ⟨S2048x16, .f32⟩
  | 105 => ⟨S2048x16, .f32⟩
  | 106 => ⟨S_, .f32⟩
  | 107 => ⟨S2048x64, .f32⟩
  | 108 => ⟨S2048x16, .f32⟩
  | 109 => ⟨S2048x16, .f32⟩
  | 110 => ⟨S_, .f32⟩
  | 111 => ⟨S2048x64, .f32⟩
  | 112 => ⟨S2048x16, .f32⟩
  | 113 => ⟨S2048x16, .f32⟩
  | 114 => ⟨S_, .f32⟩
  | 115 => ⟨S2048x32, .f32⟩
  | 116 => ⟨S_, .f32⟩
  | 117 => ⟨S2048x32, .f32⟩
  | 118 => ⟨S2048x128, .f32⟩
  | 119 => ⟨S2048x128, .f32⟩
  | 120 => ⟨S_, .f32⟩
  | 121 => ⟨S2048x0, .f32⟩
  | 122 => ⟨S2048x16, .f32⟩
  | 123 => ⟨S2048x16, .f32⟩
  | 124 => ⟨S_, .f32⟩
  | 125 => ⟨S2048x0, .f32⟩
  | 126 => ⟨S2048x16, .f32⟩
  | 127 => ⟨S2048x16, .f32⟩
  | _ => ⟨S4096x256, .f32⟩

abbrev hbmTy0_1 (i : Nat) : BufTy := match i % 128 with
  | 0 => ⟨S_, .f32⟩
  | 1 => ⟨S2048x96, .f32⟩
  | 2 => ⟨S_, .f32⟩
  | 3 => ⟨S2048x96, .f32⟩
  | 4 => ⟨S2048x128, .f32⟩
  | 5 => ⟨S2048x128, .f32⟩
  | 6 => ⟨S_, .f32⟩
  | 7 => ⟨S2048x0, .f32⟩
  | 8 => ⟨S2048x16, .f32⟩
  | 9 => ⟨S2048x16, .f32⟩
  | 10 => ⟨S_, .f32⟩
  | 11 => ⟨S2048x0, .f32⟩
  | 12 => ⟨S2048x16, .f32⟩
  | 13 => ⟨S2048x16, .f32⟩
  | 14 => ⟨S_, .f32⟩
  | 15 => ⟨S2048x0, .f32⟩
  | 16 => ⟨S2048x16, .f32⟩
  | 17 => ⟨S2048x16, .f32⟩
  | 18 => ⟨S_, .f32⟩
  | 19 => ⟨S2048x0, .f32⟩
  | 20 => ⟨S2048x16, .f32⟩
  | 21 => ⟨S2048x16, .f32⟩
  | 22 => ⟨S_, .f32⟩
  | 23 => ⟨S2048x64, .f32⟩
  | 24 => ⟨S_, .f32⟩
  | 25 => ⟨S2048x64, .f32⟩
  | 26 => ⟨S2048x128, .f32⟩
  | 27 => ⟨S2048x128, .f32⟩
  | 28 => ⟨S256x768, .bf16⟩
  | 29 => ⟨S256x8x96, .bf16⟩
  | 30 => ⟨S_, .i32⟩
  | 31 => ⟨S_, .bf16⟩
  | 32 => ⟨S256x8x128, .bf16⟩
  | 33 => ⟨S256x1024, .bf16⟩
  | 34 => ⟨S_, .bf16⟩
  | 35 => ⟨S4096x1024, .bf16⟩
  | 36 => ⟨S4096x256, .bf16⟩
  | 37 => ⟨S_, .bf16⟩
  | 38 => ⟨S4096x2816, .bf16⟩
  | 39 => ⟨S4096x4096, .bf16⟩
  | 40 => ⟨S_, .i32⟩
  | 41 => ⟨S_, .f32⟩
  | 42 => ⟨S2x2048x8x128, .f32⟩
  | 43 => ⟨S4096x1024, .f32⟩
  | 44 => ⟨S4096x1024, .bf16⟩
  | 45 => ⟨S4096x256, .bf16⟩
  | 46 => ⟨S1x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S256x1024, .bf16⟩
  | .local _ .vmem, ⟨10, _⟩ => ⟨S128x128, .bf16⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_6 : Ref sig .tc := ⟨.hbm, 52, rfl⟩
abbrev main_v24 : Ref sig .tc := ⟨.hbm, 53, rfl⟩
abbrev main_v25 : Ref sig .tc := ⟨.hbm, 54, rfl⟩
abbrev main_cst_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v34 : Ref sig .tc := ⟨.hbm, 85, rfl⟩
abbrev main_v35 : Ref sig .tc := ⟨.hbm, 86, rfl⟩
abbrev main_cst_9 : Ref sig .tc := ⟨.hbm, 87, rfl⟩
abbrev main_v36 : Ref sig .tc := ⟨.hbm, 88, rfl⟩
abbrev main_v37 : Ref sig .tc := ⟨.hbm, 89, rfl⟩
abbrev main_cst_10 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_11 : Ref sig .tc := ⟨.hbm, 94, rfl⟩
abbrev main_v41 : Ref sig .tc := ⟨.hbm, 95, rfl⟩
abbrev main_v42 : Ref sig .tc := ⟨.hbm, 96, rfl⟩
abbrev main_cst_12 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_13 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_14 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_15 : Ref sig .tc := ⟨.hbm, 114, rfl⟩
abbrev main_v57 : Ref sig .tc := ⟨.hbm, 115, rfl⟩
abbrev main_cst_16 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_cst_17 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_18 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_19 : Ref sig .tc := ⟨.hbm, 128, rfl⟩
abbrev main_v67 : Ref sig .tc := ⟨.hbm, 129, rfl⟩
abbrev main_cst_20 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_21 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_22 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_23 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_24 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_25 : Ref sig .tc := ⟨.hbm, 150, rfl⟩
abbrev main_v83 : Ref sig .tc := ⟨.hbm, 151, rfl⟩
abbrev main_cst_26 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_27 : Ref sig .tc := ⟨.hbm, 158, rfl⟩
abbrev main_call2_v0 : Ref sig .tc := ⟨.hbm, 159, rfl⟩
abbrev main_v89 : Ref sig .tc := ⟨.hbm, 160, rfl⟩
abbrev main_v90 : Ref sig .tc := ⟨.hbm, 161, rfl⟩
abbrev main_cst_28 : Ref sig .tc := ⟨.hbm, 162, rfl⟩
abbrev main_v91 : Ref sig .tc := ⟨.hbm, 163, rfl⟩
abbrev main_v92 : Ref sig .tc := ⟨.hbm, 164, rfl⟩
abbrev main_cst_29 : Ref sig .tc := ⟨.hbm, 165, rfl⟩
abbrev main_v93 : Ref sig .tc := ⟨.hbm, 166, rfl⟩
abbrev main_v94 : Ref sig .tc := ⟨.hbm, 167, rfl⟩
abbrev main_c_30 : Ref sig .tc := ⟨.hbm, 168, rfl⟩
abbrev main_call3_v0 : Ref sig .tc := ⟨.hbm, 169, rfl⟩
abbrev main_v95 : Ref sig .tc := ⟨.hbm, 170, rfl⟩
abbrev main_v96 : Ref sig .tc := ⟨.hbm, 171, rfl⟩
abbrev main_v97_0 : Ref sig .tc := ⟨.hbm, 172, rfl⟩
abbrev main_v97_1 : Ref sig .tc := ⟨.hbm, 173, rfl⟩
abbrev main_v97_2 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v148 : BitVec 1 := Scalar.cmpi .eq arg0 c0_i32
  let arg1 : BitVec 32 := BitVec.ofNat 32 (i 1).val
  let c0_i32_47 : BitVec 32 := 0#32
  let v149 : BitVec 1 := Scalar.cmpi .eq arg1 c0_i32_47
  let v150 : BitVec 1 := Scalar.andi v148 v149
  let v151 : BitVec 32 := Scalar.extui v150
  let c0_i32_48 : BitVec 32 := 0#32
  let v152 : BitVec 1 := Scalar.cmpi .ne v151 c0_i32_48
  v152

def k0_cond2 (i : grid0.Coords) : BitVec 1 :=
  let arg0 : BitVec 32 := BitVec.ofNat 32 (i 0).val
  let c0_i32 : BitVec 32 := 0#32
  let v148 : BitVec 1 := Scalar.cmpi .eq arg0 c0_i32
  let arg1 : BitVec 32 := BitVec.ofNat 32 (i 1).val
  let c0_i32_47 : BitVec 32 := 0#32
  let v149 : BitVec 1 := Scalar.cmpi .eq arg1 c0_i32_47
  let v150 : BitVec 1 := Scalar.andi v148 v149
  let v_true : BitVec 1 := 1#1
  let v153 : BitVec 1 := Scalar.xori v150 v_true
  let v154 : BitVec 32 := Scalar.extui v153
  let c0_i32_49 : BitVec 32 := 0#32
  let v155 : BitVec 1 := Scalar.cmpi .ne v154 c0_i32_49
  v155

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== QPathRefIdeal.lean ====
abbrev S4096x256 : Shape := ⟨2, ![4096, 256]⟩
abbrev S1x256 : Shape := ⟨2, ![1, 256]⟩
abbrev S256x768 : Shape := ⟨2, ![256, 768]⟩
abbrev S2x2048x8x96 : Shape := ⟨4, ![2, 2048, 8, 96]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S4096 : Shape := ⟨1, ![4096]⟩
abbrev S4096x1 : Shape := ⟨2, ![4096, 1]⟩
abbrev S4096x768 : Shape := ⟨2, ![4096, 768]⟩
abbrev S2x2048x8x64 : Shape := ⟨4, ![2, 2048, 8, 64]⟩
abbrev S2x2048x8x32 : Shape := ⟨4, ![2, 2048, 8, 32]⟩
abbrev S1x2048x1x16 : Shape := ⟨4, ![1, 2048, 1, 16]⟩
abbrev S2x2048x8x16 : Shape := ⟨4, ![2, 2048, 8, 16]⟩
abbrev S256 : Shape := ⟨1, ![256]⟩
abbrev S2x2048x8x128 : Shape := ⟨4, ![2, 2048, 8, 128]⟩
abbrev S4096x1024 : Shape := ⟨2, ![4096, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S256x768, .f32⟩
  | .hbm, ⟨3, _⟩ => ⟨S2x2048x8x96, .f32⟩
  | .hbm, ⟨4, _⟩ => ⟨S2048, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S2048, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x768, .f32⟩
  | .hbm, ⟨45, _⟩ => ⟨S2x2048x8x96, .f32⟩
  | .hbm, ⟨46, _⟩ => ⟨S2x2048x8x64, .f32⟩
  | .hbm, ⟨47, _⟩ => ⟨S2x2048x8x32, .f32⟩
  | .hbm, ⟨48, _⟩ => ⟨S2048x16, .f32⟩
  | .hbm, ⟨49, _⟩ => ⟨S1x2048x1x16, .f32⟩
  | .hbm, ⟨50, _⟩ => ⟨S2048x16, .f32⟩
  | .hbm, ⟨51, _⟩ => ⟨S1x2048x1x16, .f32⟩
  | .hbm, ⟨52, _⟩ => ⟨S2x2048x8x16, .f32⟩
  | .hbm, ⟨53, _⟩ => ⟨S2x2048x8x16, .f32⟩
  | .hbm, ⟨54, _⟩ => ⟨S2x2048x8x16, .f32⟩
  | .hbm, ⟨55, _⟩ => ⟨S2x2048x8x16, .f32⟩
  | .hbm, ⟨56, _⟩ => ⟨S2x2048x8x16, .f32⟩
  | .hbm, ⟨57, _⟩ => ⟨S2x2048x8x16, .f32⟩
  | .hbm, ⟨58, _⟩ => ⟨S2x2048x8x16, .f32⟩
  | .hbm, ⟨59, _⟩ => ⟨S2x2048x8x16, .f32⟩
  | .hbm, ⟨60, _⟩ => ⟨S2x2048x8x16, .f32⟩
  | .hbm, ⟨61, _⟩ => ⟨S2x2048x8x16, .f32⟩
  | .hbm, ⟨62, _⟩ => ⟨S2x2048x8x16, .f32⟩
  | .hbm, ⟨63, _⟩ => ⟨S2x2048x8x16, .f32⟩
  | .hbm, ⟨64, _⟩ => ⟨S2x2048x8x32, .f32⟩
  | .hbm, ⟨65, _⟩ => ⟨S2x2048x8x96, .f32⟩
  | .hbm, ⟨66, _⟩ => ⟨S_, .f32⟩
  | .hbm, ⟨67, _⟩ => ⟨S2x2048x8x96, .f32⟩
  | .hbm, ⟨68, _⟩ => ⟨S2x2048x8x96, .f32⟩
  | .hbm, ⟨69, _⟩ => ⟨S_, .f32⟩
  | .hbm, ⟨70, _⟩ => ⟨S2x2048x8x96, .f32⟩
  | .hbm, ⟨71, _⟩ => ⟨S2x2048x8x96, .f32⟩
  | .hbm, ⟨72, _⟩ => ⟨S2x2048x8x64, .f32⟩
  | .hbm, ⟨73, _⟩ => ⟨S2x2048x8x32, .f32⟩
  | .hbm, ⟨74, _⟩ => ⟨S2x2048x8x16, .f32⟩
  | .hbm, ⟨75, _⟩ => ⟨S2x2048x8x16, .f32⟩
  | .hbm, ⟨76, _⟩ => ⟨S2x2048x8x16, .f32⟩
  | .hbm, ⟨77, _⟩ => ⟨S2x2048x8x16, .f32⟩
  | .hbm, ⟨78, _⟩ => ⟨S2x2048x8x16, .f32⟩
  | .hbm, ⟨79, _⟩ => ⟨S2x2048x8x16, .f32⟩
  | .hbm, ⟨80, _⟩ => ⟨S2x2048x8x16, .f32⟩
  | .hbm, ⟨81, _⟩ => ⟨S2x2048x8x16, .f32⟩
  | .hbm, ⟨82, _⟩ => ⟨S2x2048x8x16, .f32⟩
  | .hbm, ⟨83, _⟩ => ⟨S2x2048x8x16, .f32⟩
  | .hbm, ⟨84, _⟩ => ⟨S2x2048x8x16, .f32⟩
  | .hbm, ⟨85, _⟩ => ⟨S2x2048x8x16, .f32⟩
  | .hbm, ⟨86, _⟩ => ⟨S2x2048x8x16, .f32⟩
  | .hbm, ⟨87, _⟩ => ⟨S2x2048x8x32, .f32⟩
  | .hbm, ⟨88, _⟩ => ⟨S2x2048x8x96, .f32⟩
  | .hbm, ⟨89, _⟩ => ⟨S4096x768, .f32⟩
  | .hbm, ⟨90, _⟩ => ⟨S4096x256, .f32⟩
  | .hbm, ⟨91, _⟩ => ⟨S4096x256, .f32⟩
  | .hbm, ⟨92, _⟩ => ⟨S_, .f32⟩
  | .hbm, ⟨93, _⟩ => ⟨S256, .f32⟩
  | .hbm, ⟨94, _⟩ => ⟨S1x256, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x256, .f32⟩
  | .hbm, ⟨102, _⟩ => ⟨S4096x256, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x256, .f32⟩
  | .hbm, ⟨110, _⟩ => ⟨S4096x256, .f32⟩
  | .hbm, ⟨111, _⟩ => ⟨S4096x256, .f32⟩
  | .hbm, ⟨112, _⟩ => ⟨S4096x256, .f32⟩
  | .hbm, ⟨113, _⟩ => ⟨S4096x256, .f32⟩
  | .hbm, ⟨114, _⟩ => ⟨S_, .i32⟩
  | .hbm, ⟨115, _⟩ => ⟨S_, .f32⟩
  | .hbm, ⟨116, _⟩ => ⟨S2x2048x8x128, .f32⟩
  | .hbm, ⟨117, _⟩ => ⟨S4096x1024, .f32⟩
  | .hbm, ⟨118, _⟩ => ⟨S4096x1024, .bf16⟩
  | .hbm, ⟨119, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_10 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_11 : Ref sig .tc := ⟨.hbm, 104, rfl⟩
abbrev main_v88 : Ref sig .tc := ⟨.hbm, 105, rfl⟩
abbrev main_v89 : Ref sig .tc := ⟨.hbm, 106, rfl⟩
abbrev main_cst_12 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c : Ref sig .tc := ⟨.hbm, 114, rfl⟩
abbrev main_call0_v0 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩

abbrev nD : Nat := 1
abbrev τ : Topo := Topo.v7x

variable {F : FTy → Type} [FloatOps F]
-- ==== KvPathKernel.lean ====
abbrev S4096x128 : Shape := ⟨2, ![4096, 128]⟩
abbrev S4096x32 : Shape := ⟨2, ![4096, 32]⟩
abbrev S1x128 : Shape := ⟨2, ![1, 128]⟩
abbrev S128x1024 : Shape := ⟨2, ![128, 1024]⟩
abbrev S2x2048x8x96 : Shape := ⟨4, ![2, 2048, 8, 96]⟩
abbrev S2x2048x8x64 : Shape := ⟨4, ![2, 2048, 8, 64]⟩
abbrev S128x128 : Shape := ⟨2, ![128, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x0 : Shape := ⟨2, ![2048, 0]⟩
abbrev S2048x96 : Shape := ⟨2, ![2048, 96]⟩
abbrev S128x8x128 : Shape := ⟨3, ![128, 8, 128]⟩
abbrev S128x8x64 : Shape := ⟨3, ![128, 8, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S32x2048 : Shape := ⟨2, ![32, 2048]⟩
abbrev S128x2048 : Shape := ⟨2, ![128, 2048]⟩
abbrev S96x2048 : Shape := ⟨2, ![96, 2048]⟩
abbrev S256x2048 : Shape := ⟨2, ![256, 2048]⟩
abbrev S4096x1280 : Shape := ⟨2, ![4096, 1280]⟩
abbrev S4096x2560 : Shape := ⟨2, ![4096, 2560]⟩
abbrev S4096x4096 : Shape := ⟨2, ![4096, 4096]⟩
abbrev S2x2048x8x128 : Shape := ⟨4, ![2, 2048, 8, 128]⟩
abbrev S4096x1024 : Shape := ⟨2, ![4096, 1024]⟩
abbrev S512x1024 : Shape := ⟨2, ![512, 1024]⟩
abbrev S512x128 : Shape := ⟨2, ![512, 128]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S128 : Shape := ⟨1, ![128]⟩

abbrev nBuf : Space → Nat
  | .hbm => 213
  | .vmem => 18
  | .smem => 0
  | _ => 0

abbrev hbmTy0_0 (i : Nat) : BufTy := match i % 128 with
  | 0 => ⟨S4096x128, .f32⟩
  | 1 => ⟨S4096x32, .f32⟩
  | 2 => ⟨S1x128, .f32⟩
  | 3 => ⟨S128x1024, .f32⟩
  | 4 => ⟨S2x2048x8x96, .f32⟩
  | 5 => ⟨S2x2048x8x64, .f32⟩
  | 6 => ⟨S128x128, .bf16⟩
  | 7 => ⟨S2048, .i32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i1⟩
  | 80 => ⟨S_, .i32⟩
  | 81 => ⟨S_, .i1⟩
  | 82 => ⟨S2048, .i1⟩
  | 83 => ⟨S2048, .i1⟩
  | 84 => ⟨S2048, .i1⟩
  | 85 => ⟨S2048, .i32⟩
  | 86 => ⟨S2048, .i32⟩
  | 87 => ⟨S2048, .i32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048, .f32⟩
  | 103 => ⟨S2048x1, .f32⟩
  | 104 => ⟨S1x16, .f32⟩
  | 105 => ⟨S2048x16, .f32⟩
  | 106 => ⟨S2048x16, .f32⟩
  | 107 => ⟨S2048x16, .f32⟩
  | 108 => ⟨S_, .f32⟩
  | 109 => ⟨S2048x64, .f32⟩
  | 110 => ⟨S2048x16, .f32⟩
  | 111 => ⟨S2048x16, .f32⟩
  | 112 => ⟨S_, .f32⟩
  | 113 => ⟨S2048x64, .f32⟩
  | 114 => ⟨S2048x16, .f32⟩
  | 115 => ⟨S2048x16, .f32⟩
  | 116 => ⟨S_, .f32⟩
  | 117 => ⟨S2048x32, .f32⟩
  | 118 => ⟨S_, .f32⟩
  | 119 => ⟨S2048x32, .f32⟩
  | 120 => ⟨S2048x128, .f32⟩
  | 121 => ⟨S2048x128, .f32⟩
  | 122 => ⟨S_, .f32⟩
  | 123 => ⟨S2048x0, .f32⟩
  | 124 => ⟨S2048x16, .f32⟩
  | 125 => ⟨S2048x16, .f32⟩
  | 126 => ⟨S_, .f32⟩
  | 127 => ⟨S2048x0, .f32⟩
  | _ => ⟨S4096x128, .f32⟩

abbrev hbmTy0_1 (i : Nat) : BufTy := match i % 128 with
  | 0 => ⟨S2048x16, .f32⟩
  | 1 => ⟨S2048x16, .f32⟩
  | 2 => ⟨S_, .f32⟩
  | 3 => ⟨S2048x96, .f32⟩
  | 4 => ⟨S_, .f32⟩
  | 5 => ⟨S2048x96, .f32⟩
  | 6 => ⟨S2048x128, .f32⟩
  | 7 => ⟨S2048x128, .f32⟩
  | 8 => ⟨S_, .f32⟩
  | 9 => ⟨S2048x0, .f32⟩
  | 10 => ⟨S2048x16, .f32⟩
  | 11 => ⟨S2048x16, .f32⟩
  | 12 => ⟨S_, .f32⟩
  | 13 => ⟨S2048x0, .f32⟩
  | 14 => ⟨S2048x16, .f32⟩
  | 15 => ⟨S2048x16, .f32⟩
  | 16 => ⟨S_, .f32⟩
  | 17 => ⟨S2048x0, .f32⟩
  | 18 => ⟨S2048x16, .f32⟩
  | 19 => ⟨S2048x16, .f32⟩
  | 20 => ⟨S_, .f32⟩
  | 21 => ⟨S2048x0, .f32⟩
  | 22 => ⟨S2048x16, .f32⟩
  | 23 => ⟨S2048x16, .f32⟩
  | 24 => ⟨S_, .f32⟩
  | 25 => ⟨S2048x64, .f32⟩
  | 26 => ⟨S_, .f32⟩
  | 27 => ⟨S2048x64, .f32⟩
  | 28 => ⟨S2048x128, .f32⟩
  | 29 => ⟨S2048x128, .f32⟩
  | 30 => ⟨S128x1024, .bf16⟩
  | 31 => ⟨S128x8x128, .bf16⟩
  | 32 => ⟨S128x8x64, .bf16⟩
  | 33 => ⟨S_, .i32⟩
  | 34 => ⟨S_, .bf16⟩
  | 35 => ⟨S128x8x128, .bf16⟩
  | 36 => ⟨S128x1024, .bf16⟩
  | 37 => ⟨S128x8x64, .bf16⟩
  | 38 => ⟨S_, .i32⟩
  | 39 => ⟨S_, .bf16⟩
  | 40 => ⟨S128x8x128, .bf16⟩
  | 41 => ⟨S128x1024, .bf16⟩
  | 42 => ⟨S32x32, .i32⟩
  | 43 => ⟨S32x32, .i32⟩
  | 44 => ⟨S_, .i32⟩
  | 45 => ⟨S32x32, .i32⟩
  | 46 => ⟨S32x32, .i32⟩
  | 47 => ⟨S32x32, .i1⟩
  | 48 => ⟨S32x32, .bf16⟩
  | 49 => ⟨S_, .i32⟩
  | 50 => ⟨S_, .bf16⟩
  | 51 => ⟨S32x128, .bf16⟩
  | 52 => ⟨S1x32x1x128, .bf16⟩
  | 53 => ⟨S1x32x8x128, .bf16⟩
  | 54 => ⟨S32x1024, .bf16⟩
  | 55 => ⟨S_, .bf16⟩
  | 56 => ⟨S32x1024, .bf16⟩
  | 57 => ⟨S32x2048, .bf16⟩
  | 58 => ⟨S128x2048, .bf16⟩
  | 59 => ⟨S_, .bf16⟩
  | 60 => ⟨S96x2048, .bf16⟩
  | 61 => ⟨S256x2048, .bf16⟩
  | 62 => ⟨S_, .i32⟩
  | 63 => ⟨S_, .f32⟩
  | 64 => ⟨S4096x128, .f32⟩
  | 65 => ⟨S_, .bf16⟩
  | 66 => ⟨S4096x1280, .bf16⟩
  | 67 => ⟨S4096x128, .bf16⟩
  | 68 => ⟨S4096x128, .bf16⟩
  | 69 => ⟨S_, .bf16⟩
  | 70 => ⟨S4096x2560, .bf16⟩
  | 71 => ⟨S4096x4096, .bf16⟩
  | 72 => ⟨S_, .i32⟩
  | 73 => ⟨S_, .f32⟩
  | 74 => ⟨S2x2048x8x128, .f32⟩
  | 75 => ⟨S4096x1024, .f32⟩
  | 76 => ⟨S4096x1024, .bf16⟩
  | 77 => ⟨S_, .i32⟩
  | 78 => ⟨S_, .f32⟩
  | 79 => ⟨S2x2048x8x128, .f32⟩
  | 80 => ⟨S4096x1024, .f32⟩
  | 81 => ⟨S4096x1024, .bf16⟩
  | 82 => ⟨S4096x128, .bf16⟩
  | 83 => ⟨S4096x128, .bf16⟩
  | 84 => ⟨S1x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S256x2048, .bf16⟩
  | .local _ .vmem, ⟨12, _⟩ => ⟨S128x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_cst_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_v35 : Ref sig .tc := ⟨.hbm, 88, rfl⟩
abbrev main_cst_9 : Ref sig .tc := ⟨.hbm, 89, rfl⟩
abbrev main_v36 : Ref sig .tc := ⟨.hbm, 90, rfl⟩
abbrev main_v37 : Ref sig .tc := ⟨.hbm, 91, rfl⟩
abbrev main_cst_10 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_11 : Ref sig .tc := ⟨.hbm, 96, rfl⟩
abbrev main_v41 : Ref sig .tc := ⟨.hbm, 97, rfl⟩
abbrev main_v42 : Ref sig .tc := ⟨.hbm, 98, rfl⟩
abbrev main_cst_12 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_13 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_14 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_cst_15 : Ref sig .tc := ⟨.hbm, 116, rfl⟩
abbrev main_v57 : Ref sig .tc := ⟨.hbm, 117, rfl⟩
abbrev main_cst_16 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_cst_17 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_18 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_19 : Ref sig .tc := ⟨.hbm, 130, rfl⟩
abbrev main_v67 : Ref sig .tc := ⟨.hbm, 131, rfl⟩
abbrev main_cst_20 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_21 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_cst_22 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_23 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_cst_24 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_25 : Ref sig .tc := ⟨.hbm, 152, rfl⟩
abbrev main_v83 : Ref sig .tc := ⟨.hbm, 153, rfl⟩
abbrev main_cst_26 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_c_27 : Ref sig .tc := ⟨.hbm, 161, rfl⟩
abbrev main_call2_v0 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_c_28 : Ref sig .tc := ⟨.hbm, 166, rfl⟩
abbrev main_call3_v0 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_c_29 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_c_30 : Ref sig .tc := ⟨.hbm, 177, rfl⟩
abbrev main_call4_v0 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_cst_31 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_cst_32 : Ref sig .tc := ⟨.hbm, 187, rfl⟩
abbrev main_v108 : Ref sig .tc := ⟨.hbm, 188, rfl⟩
abbrev main_v109 : Ref sig .tc := ⟨.hbm, 189, rfl⟩
abbrev main_c_33 : Ref sig .tc := ⟨.hbm, 190, rfl⟩
abbrev main_call5_v0 : Ref sig .tc := ⟨.hbm, 191, rfl⟩
abbrev main_v110 : Ref sig .tc := ⟨.hbm, 192, rfl⟩
abbrev main_cst_34 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_35 : Ref sig .tc := ⟨.hbm, 197, rfl⟩
abbrev main_v114 : Ref sig .tc := ⟨.hbm, 198, rfl⟩
abbrev main_v115 : Ref sig .tc := ⟨.hbm, 199, rfl⟩
abbrev main_c_36 : Ref sig .tc := ⟨.hbm, 200, rfl⟩
abbrev main_call6_v0 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_c_37 : Ref sig .tc := ⟨.hbm, 205, rfl⟩
abbrev main_call7_v0 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122_0 : Ref sig .tc := ⟨.hbm, 210, rfl⟩
abbrev main_v122_1 : Ref sig .tc := ⟨.hbm, 211, rfl⟩
abbrev main_v122_2 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let arg1 : BitVec 32 := BitVec.ofNat 32 (i 1).val
  let c0_i32_29 : BitVec 32 := 0#32
  let v64 : BitVec 1 := Scalar.cmpi .eq arg1 c0_i32_29
  let v65 : BitVec 1 := Scalar.andi v63 v64
  let v66 : BitVec 32 := Scalar.extui v65
  let c0_i32_30 : BitVec 32 := 0#32
  let v67 : BitVec 1 := Scalar.cmpi .ne v66 c0_i32_30
  v67

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let arg1 : BitVec 32 := BitVec.ofNat 32 (i 1).val
  let c0_i32_29 : BitVec 32 := 0#32
  let v64 : BitVec 1 := Scalar.cmpi .eq arg1 c0_i32_29
  let v65 : BitVec 1 := Scalar.andi v63 v64
  let v_true : BitVec 1 := 1#1
  let v68 : BitVec 1 := Scalar.xori v65 v_true
  let v69 : BitVec 32 := Scalar.extui v68
  let c0_i32_31 : BitVec 32 := 0#32
  let v70 : BitVec 1 := Scalar.cmpi .ne v69 c0_i32_31
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg1.toNat, c10_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KvPathRefIdeal.lean ====
abbrev S4096x128 : Shape := ⟨2, ![4096, 128]⟩
abbrev S4096x32 : Shape := ⟨2, ![4096, 32]⟩
abbrev S1x128 : Shape := ⟨2, ![1, 128]⟩
abbrev S128x1024 : Shape := ⟨2, ![128, 1024]⟩
abbrev S2x2048x8x96 : Shape := ⟨4, ![2, 2048, 8, 96]⟩
abbrev S2x2048x8x64 : Shape := ⟨4, ![2, 2048, 8, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2x2048x1x32 : Shape := ⟨4, ![2, 2048, 1, 32]⟩
abbrev S1x2048x1x16 : Shape := ⟨4, ![1, 2048, 1, 16]⟩
abbrev S2x2048x1x16 : Shape := ⟨4, ![2, 2048, 1, 16]⟩
abbrev S4096 : Shape := ⟨1, ![4096]⟩
abbrev S4096x1 : Shape := ⟨2, ![4096, 1]⟩
abbrev S4096x1024 : Shape := ⟨2, ![4096, 1024]⟩
abbrev S2x2048x8x128 : Shape := ⟨4, ![2, 2048, 8, 128]⟩
abbrev S2x2048x8x32 : Shape := ⟨4, ![2, 2048, 8, 32]⟩
abbrev S2x2048x32 : Shape := ⟨3, ![2, 2048, 32]⟩
abbrev S128 : Shape := ⟨1, ![128]⟩

abbrev nBuf : Space → Nat
  | .hbm => 121
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x32, .f32⟩
  | .hbm, ⟨2, _⟩ => ⟨S1x128, .f32⟩
  | .hbm, ⟨3, _⟩ => ⟨S128x1024, .f32⟩
  | .hbm, ⟨4, _⟩ => ⟨S2x2048x8x96, .f32⟩
  | .hbm, ⟨5, _⟩ => ⟨S2x2048x8x64, .f32⟩
  | .hbm, ⟨6, _⟩ => ⟨S2048, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2x2048x1x32, .f32⟩
  | .hbm, ⟨28, _⟩ => ⟨S2048x16, .f32⟩
  | .hbm, ⟨29, _⟩ => ⟨S1x2048x1x16, .f32⟩
  | .hbm, ⟨30, _⟩ => ⟨S2048x16, .f32⟩
  | .hbm, ⟨31, _⟩ => ⟨S1x2048x1x16, .f32⟩
  | .hbm, ⟨32, _⟩ => ⟨S2x2048x1x16, .f32⟩
  | .hbm, ⟨33, _⟩ => ⟨S2x2048x1x16, .f32⟩
  | .hbm, ⟨34, _⟩ => ⟨S2x2048x1x16, .f32⟩
  | .hbm, ⟨35, _⟩ => ⟨S2x2048x1x16, .f32⟩
  | .hbm, ⟨36, _⟩ => ⟨S2x2048x1x16, .f32⟩
  | .hbm, ⟨37, _⟩ => ⟨S2x2048x1x16, .f32⟩
  | .hbm, ⟨38, _⟩ => ⟨S2x2048x1x16, .f32⟩
  | .hbm, ⟨39, _⟩ => ⟨S2x2048x1x16, .f32⟩
  | .hbm, ⟨40, _⟩ => ⟨S2x2048x1x16, .f32⟩
  | .hbm, ⟨41, _⟩ => ⟨S2x2048x1x16, .f32⟩
  | .hbm, ⟨42, _⟩ => ⟨S2x2048x1x16, .f32⟩
  | .hbm, ⟨43, _⟩ => ⟨S2x2048x1x16, .f32⟩
  | .hbm, ⟨44, _⟩ => ⟨S2x2048x1x32, .f32⟩
  | .hbm, ⟨45, _⟩ => ⟨S4096x128, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x1024, .f32⟩
  | .hbm, ⟨65, _⟩ => ⟨S2x2048x8x128, .f32⟩
  | .hbm, ⟨66, _⟩ => ⟨S2x2048x8x64, .f32⟩
  | .hbm, ⟨67, _⟩ => ⟨S2x2048x8x64, .f32⟩
  | .hbm, ⟨68, _⟩ => ⟨S2x2048x8x32, .f32⟩
  | .hbm, ⟨69, _⟩ => ⟨S2x2048x8x96, .f32⟩
  | .hbm, ⟨70, _⟩ => ⟨S2x2048x8x64, .f32⟩
  | .hbm, ⟨71, _⟩ => ⟨S2x2048x8x32, .f32⟩
  | .hbm, ⟨72, _⟩ => ⟨S_, .f32⟩
  | .hbm, ⟨73, _⟩ => ⟨S2x2048x32, .f32⟩
  | .hbm, ⟨74, _⟩ => ⟨S2x2048x1x32, .f32⟩
  | .hbm, ⟨75, _⟩ => ⟨S2x2048x8x128, .f32⟩
  | .hbm, ⟨76, _⟩ => ⟨S4096x1024, .f32⟩
  | .hbm, ⟨77, _⟩ => ⟨S4096x128, .f32⟩
  | .hbm, ⟨78, _⟩ => ⟨S4096x128, .f32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S4096x128, .f32⟩
  | .hbm, ⟨83, _⟩ => ⟨S4096x128, .f32⟩
  | .hbm, ⟨84, _⟩ => ⟨S4096x128, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x128, .f32⟩
  | .hbm, ⟨89, _⟩ => ⟨S4096x128, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x128, .f32⟩
  | .hbm, ⟨97, _⟩ => ⟨S4096x128, .f32⟩
  | .hbm, ⟨98, _⟩ => ⟨S4096x128, .f32⟩
  | .hbm, ⟨99, _⟩ => ⟨S4096x128, .f32⟩
  | .hbm, ⟨100, _⟩ => ⟨S4096x128, .f32⟩
  | .hbm, ⟨101, _⟩ => ⟨S2x2048x1x16, .f32⟩
  | .hbm, ⟨102, _⟩ => ⟨S2x2048x1x16, .f32⟩
  | .hbm, ⟨103, _⟩ => ⟨S2x2048x1x16, .f32⟩
  | .hbm, ⟨104, _⟩ => ⟨S2x2048x1x16, .f32⟩
  | .hbm, ⟨105, _⟩ => ⟨S2x2048x1x16, .f32⟩
  | .hbm, ⟨106, _⟩ => ⟨S2x2048x1x16, .f32⟩
  | .hbm, ⟨107, _⟩ => ⟨S2x2048x1x16, .f32⟩
  | .hbm, ⟨108, _⟩ => ⟨S2x2048x1x16, .f32⟩
  | .hbm, ⟨109, _⟩ => ⟨S2x2048x1x16, .f32⟩
  | .hbm, ⟨110, _⟩ => ⟨S2x2048x1x16, .f32⟩
  | .hbm, ⟨111, _⟩ => ⟨S2x2048x1x16, .f32⟩
  | .hbm, ⟨112, _⟩ => ⟨S2x2048x1x16, .f32⟩
  | .hbm, ⟨113, _⟩ => ⟨S2x2048x1x16, .f32⟩
  | .hbm, ⟨114, _⟩ => ⟨S2x2048x1x32, .f32⟩
  | .hbm, ⟨115, _⟩ => ⟨S4096x32, .f32⟩
  | .hbm, ⟨116, _⟩ => ⟨S4096x128, .bf16⟩
  | .hbm, ⟨117, _⟩ => ⟨S_, .i32⟩
  | .hbm, ⟨118, _⟩ => ⟨S_, .f32⟩
  | .hbm, ⟨119, _⟩ => ⟨S4096x128, .f32⟩
  | .hbm, ⟨120, _⟩ => ⟨S4096x128, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_c : Ref sig .tc := ⟨.hbm, 117, rfl⟩
abbrev main_call0_v0 : Ref sig .tc := ⟨.hbm, 118, rfl⟩
abbrev main_v98 : Ref sig .tc := ⟨.hbm, 119, rfl⟩
abbrev main_v99 : Ref sig .tc := ⟨.hbm, 120, rfl⟩

abbrev nD : Nat := 1
abbrev τ : Topo := Topo.v7x

variable {F : FTy → Type} [FloatOps F]
-- ==== PrepBKernel.lean ====
abbrev S2x2048x8x64 : Shape := ⟨4, ![2, 2048, 8, 64]⟩
abbrev S2x2048x2x64 : Shape := ⟨4, ![2, 2048, 2, 64]⟩
abbrev S1x64 : Shape := ⟨2, ![1, 64]⟩
abbrev S128x128 : Shape := ⟨2, ![128, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x0 : Shape := ⟨2, ![2048, 0]⟩
abbrev S2048x96 : Shape := ⟨2, ![2048, 96]⟩
abbrev S2x2048x8x128 : Shape := ⟨4, ![2, 2048, 8, 128]⟩
abbrev S4096x1024 : Shape := ⟨2, ![4096, 1024]⟩
abbrev S2x2048x2x128 : Shape := ⟨4, ![2, 2048, 2, 128]⟩
abbrev S4096x256 : Shape := ⟨2, ![4096, 256]⟩
abbrev S4096x512 : Shape := ⟨2, ![4096, 512]⟩
abbrev S4096x2304 : Shape := ⟨2, ![4096, 2304]⟩
abbrev S4096x4096 : Shape := ⟨2, ![4096, 4096]⟩
abbrev S1x128 : Shape := ⟨2, ![1, 128]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 192
  | .vmem => 21
  | .smem => 0
  | _ => 0

abbrev hbmTy0_0 (i : Nat) : BufTy := match i % 128 with
  | 0 => ⟨S2x2048x8x64, .f32⟩
  | 1 => ⟨S2x2048x2x64, .f32⟩
  | 2 => ⟨S1x64, .f32⟩
  | 3 => ⟨S1x64, .f32⟩
  | 4 => ⟨S2x2048x8x64, .f32⟩
  | 5 => ⟨S2x2048x2x64, .f32⟩
  | 6 => ⟨S128x128, .bf16⟩
  | 7 => ⟨S2048, .i32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i1⟩
  | 80 => ⟨S_, .i32⟩
  | 81 => ⟨S_, .i1⟩
  | 82 => ⟨S2048, .i1⟩
  | 83 => ⟨S2048, .i1⟩
  | 84 => ⟨S2048, .i1⟩
  | 85 => ⟨S2048, .i32⟩
  | 86 => ⟨S2048, .i32⟩
  | 87 => ⟨S2048, .i32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048, .f32⟩
  | 103 => ⟨S2048x1, .f32⟩
  | 104 => ⟨S1x16, .f32⟩
  | 105 => ⟨S2048x16, .f32⟩
  | 106 => ⟨S2048x16, .f32⟩
  | 107 => ⟨S2048x16, .f32⟩
  | 108 => ⟨S_, .f32⟩
  | 109 => ⟨S2048x64, .f32⟩
  | 110 => ⟨S2048x16, .f32⟩
  | 111 => ⟨S2048x16, .f32⟩
  | 112 => ⟨S_, .f32⟩
  | 113 => ⟨S2048x64, .f32⟩
  | 114 => ⟨S2048x16, .f32⟩
  | 115 => ⟨S2048x16, .f32⟩
  | 116 => ⟨S_, .f32⟩
  | 117 => ⟨S2048x32, .f32⟩
  | 118 => ⟨S_, .f32⟩
  | 119 => ⟨S2048x32, .f32⟩
  | 120 => ⟨S2048x128, .f32⟩
  | 121 => ⟨S2048x128, .f32⟩
  | 122 => ⟨S_, .f32⟩
  | 123 => ⟨S2048x0, .f32⟩
  | 124 => ⟨S2048x16, .f32⟩
  | 125 => ⟨S2048x16, .f32⟩
  | 126 => ⟨S_, .f32⟩
  | 127 => ⟨S2048x0, .f32⟩
  | _ => ⟨S2x2048x8x64, .f32⟩

abbrev hbmTy0_1 (i : Nat) : BufTy := match i % 128 with
  | 0 => ⟨S2048x16, .f32⟩
  | 1 => ⟨S2048x16, .f32⟩
  | 2 => ⟨S_, .f32⟩
  | 3 => ⟨S2048x96, .f32⟩
  | 4 => ⟨S_, .f32⟩
  | 5 => ⟨S2048x96, .f32⟩
  | 6 => ⟨S2048x128, .f32⟩
  | 7 => ⟨S2048x128, .f32⟩
  | 8 => ⟨S_, .f32⟩
  | 9 => ⟨S2048x0, .f32⟩
  | 10 => ⟨S2048x16, .f32⟩
  | 11 => ⟨S2048x16, .f32⟩
  | 12 => ⟨S_, .f32⟩
  | 13 => ⟨S2048x0, .f32⟩
  | 14 => ⟨S2048x16, .f32⟩
  | 15 => ⟨S2048x16, .f32⟩
  | 16 => ⟨S_, .f32⟩
  | 17 => ⟨S2048x0, .f32⟩
  | 18 => ⟨S2048x16, .f32⟩
  | 19 => ⟨S2048x16, .f32⟩
  | 20 => ⟨S_, .f32⟩
  | 21 => ⟨S2048x0, .f32⟩
  | 22 => ⟨S2048x16, .f32⟩
  | 23 => ⟨S2048x16, .f32⟩
  | 24 => ⟨S_, .f32⟩
  | 25 => ⟨S2048x64, .f32⟩
  | 26 => ⟨S_, .f32⟩
  | 27 => ⟨S2048x64, .f32⟩
  | 28 => ⟨S2048x128, .f32⟩
  | 29 => ⟨S2048x128, .f32⟩
  | 30 => ⟨S_, .i32⟩
  | 31 => ⟨S_, .f32⟩
  | 32 => ⟨S2x2048x8x128, .f32⟩
  | 33 => ⟨S4096x1024, .f32⟩
  | 34 => ⟨S_, .i32⟩
  | 35 => ⟨S_, .f32⟩
  | 36 => ⟨S2x2048x2x128, .f32⟩
  | 37 => ⟨S4096x256, .f32⟩
  | 38 => ⟨S4096x1024, .bf16⟩
  | 39 => ⟨S_, .bf16⟩
  | 40 => ⟨S4096x512, .bf16⟩
  | 41 => ⟨S4096x256, .bf16⟩
  | 42 => ⟨S_, .bf16⟩
  | 43 => ⟨S4096x2304, .bf16⟩
  | 44 => ⟨S4096x4096, .bf16⟩
  | 45 => ⟨S_, .i32⟩
  | 46 => ⟨S_, .f32⟩
  | 47 => ⟨S2x2048x8x128, .f32⟩
  | 48 => ⟨S4096x1024, .f32⟩
  | 49 => ⟨S_, .i32⟩
  | 50 => ⟨S_, .f32⟩
  | 51 => ⟨S2x2048x2x128, .f32⟩
  | 52 => ⟨S4096x256, .f32⟩
  | 53 => ⟨S4096x256, .bf16⟩
  | 54 => ⟨S_, .i32⟩
  | 55 => ⟨S_, .f32⟩
  | 56 => ⟨S1x128, .f32⟩
  | 57 => ⟨S_, .i32⟩
  | 58 => ⟨S_, .f32⟩
  | 59 => ⟨S1x128, .f32⟩
  | 60 => ⟨S4096x1024, .bf16⟩
  | 61 => ⟨S4096x256, .bf16⟩
  | 62 => ⟨S1x128, .f32⟩
  | 63 => ⟨S1x128, .f32⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S512x1024, .bf16⟩
  | .local _ .vmem, ⟨16, _⟩ => ⟨S512x1024, .bf16⟩
  | .local _ .vmem, ⟨17, _⟩ => ⟨S512x256, .bf16⟩
  | .local _ .vmem, ⟨18, _⟩ => ⟨S512x256, .bf16⟩
  | .local _ .vmem, ⟨19, _⟩ => ⟨S1x128, .f32⟩
  | .local _ .vmem, ⟨20, _⟩ => ⟨S1x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_cst_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_v35 : Ref sig .tc := ⟨.hbm, 88, rfl⟩
abbrev main_cst_9 : Ref sig .tc := ⟨.hbm, 89, rfl⟩
abbrev main_v36 : Ref sig .tc := ⟨.hbm, 90, rfl⟩
abbrev main_v37 : Ref sig .tc := ⟨.hbm, 91, rfl⟩
abbrev main_cst_10 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_11 : Ref sig .tc := ⟨.hbm, 96, rfl⟩
abbrev main_v41 : Ref sig .tc := ⟨.hbm, 97, rfl⟩
abbrev main_v42 : Ref sig .tc := ⟨.hbm, 98, rfl⟩
abbrev main_cst_12 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_13 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_14 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_cst_15 : Ref sig .tc := ⟨.hbm, 116, rfl⟩
abbrev main_v57 : Ref sig .tc := ⟨.hbm, 117, rfl⟩
abbrev main_cst_16 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_cst_17 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_18 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_19 : Ref sig .tc := ⟨.hbm, 130, rfl⟩
abbrev main_v67 : Ref sig .tc := ⟨.hbm, 131, rfl⟩
abbrev main_cst_20 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_21 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_cst_22 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_23 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_cst_24 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_cst_25 : Ref sig .tc := ⟨.hbm, 152, rfl⟩
abbrev main_v83 : Ref sig .tc := ⟨.hbm, 153, rfl⟩
abbrev main_cst_26 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_c_27 : Ref sig .tc := ⟨.hbm, 158, rfl⟩
abbrev main_call2_v0 : Ref sig .tc := ⟨.hbm, 159, rfl⟩
abbrev main_v87 : Ref sig .tc := ⟨.hbm, 160, rfl⟩
abbrev main_v88 : Ref sig .tc := ⟨.hbm, 161, rfl⟩
abbrev main_c_28 : Ref sig .tc := ⟨.hbm, 162, rfl⟩
abbrev main_call3_v0 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_cst_29 : Ref sig .tc := ⟨.hbm, 167, rfl⟩
abbrev main_v92 : Ref sig .tc := ⟨.hbm, 168, rfl⟩
abbrev main_v93 : Ref sig .tc := ⟨.hbm, 169, rfl⟩
abbrev main_cst_30 : Ref sig .tc := ⟨.hbm, 170, rfl⟩
abbrev main_v94 : Ref sig .tc := ⟨.hbm, 171, rfl⟩
abbrev main_v95 : Ref sig .tc := ⟨.hbm, 172, rfl⟩
abbrev main_c_31 : Ref sig .tc := ⟨.hbm, 173, rfl⟩
abbrev main_call4_v0 : Ref sig .tc := ⟨.hbm, 174, rfl⟩
abbrev main_v96 : Ref sig .tc := ⟨.hbm, 175, rfl⟩
abbrev main_v97 : Ref sig .tc := ⟨.hbm, 176, rfl⟩
abbrev main_c_32 : Ref sig .tc := ⟨.hbm, 177, rfl⟩
abbrev main_call5_v0 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_c_33 : Ref sig .tc := ⟨.hbm, 182, rfl⟩
abbrev main_call6_v0 : Ref sig .tc := ⟨.hbm, 183, rfl⟩
abbrev main_v101 : Ref sig .tc := ⟨.hbm, 184, rfl⟩
abbrev main_c_34 : Ref sig .tc := ⟨.hbm, 185, rfl⟩
abbrev main_call7_v0 : Ref sig .tc := ⟨.hbm, 186, rfl⟩
abbrev main_v102 : Ref sig .tc := ⟨.hbm, 187, rfl⟩
abbrev main_v103_0 : Ref sig .tc := ⟨.hbm, 188, rfl⟩
abbrev main_v103_1 : Ref sig .tc := ⟨.hbm, 189, rfl⟩
abbrev main_v103_2 : Ref sig .tc := ⟨.hbm, 190, rfl⟩
abbrev main_v103_3 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v435 : BitVec 1 := Scalar.cmpi .eq arg0 c0_i32
  let arg1 : BitVec 32 := BitVec.ofNat 32 (i 1).val
  let c0_i32_110 : BitVec 32 := 0#32
  let v436 : BitVec 1 := Scalar.cmpi .eq arg1 c0_i32_110
  let v437 : BitVec 1 := Scalar.andi v435 v436
  let v438 : BitVec 32 := Scalar.extui v437
  let c0_i32_111 : BitVec 32 := 0#32
  let v439 : BitVec 1 := Scalar.cmpi .ne v438 c0_i32_111
  v439

def k0_cond2 (i : grid0.Coords) : BitVec 1 :=
  let arg0 : BitVec 32 := BitVec.ofNat 32 (i 0).val
  let c0_i32 : BitVec 32 := 0#32
  let v435 : BitVec 1 := Scalar.cmpi .eq arg0 c0_i32
  let arg1 : BitVec 32 := BitVec.ofNat 32 (i 1).val
  let c0_i32_110 : BitVec 32 := 0#32
  let v436 : BitVec 1 := Scalar.cmpi .eq arg1 c0_i32_110
  let v437 : BitVec 1 := Scalar.andi v435 v436
  let v_true : BitVec 1 := 1#1
  let v440 : BitVec 1 := Scalar.xori v437 v_true
  let v441 : BitVec 32 := Scalar.extui v440
  let c0_i32_112 : BitVec 32 := 0#32
  let v442 : BitVec 1 := Scalar.cmpi .ne v441 c0_i32_112
  v442

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== PrepBRefIdeal.lean ====
abbrev S2x2048x8x64 : Shape := ⟨4, ![2, 2048, 8, 64]⟩
abbrev S2x2048x2x64 : Shape := ⟨4, ![2, 2048, 2, 64]⟩
abbrev S1x64 : Shape := ⟨2, ![1, 64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x2048x8x32 : Shape := ⟨4, ![2, 2048, 8, 32]⟩
abbrev S1x2048x1x16 : Shape := ⟨4, ![1, 2048, 1, 16]⟩
abbrev S2x2048x8x16 : Shape := ⟨4, ![2, 2048, 8, 16]⟩
abbrev S2x2048x2 : Shape := ⟨3, ![2, 2048, 2]⟩
abbrev S2x2048x2x1 : Shape := ⟨4, ![2, 2048, 2, 1]⟩
abbrev S2x2048x2x32 : Shape := ⟨4, ![2, 2048, 2, 32]⟩
abbrev S2x2048x2x16 : Shape := ⟨4, ![2, 2048, 2, 16]⟩
abbrev S64 : Shape := ⟨1, ![64]⟩
abbrev S2x2048x8x128 : Shape := ⟨4, ![2, 2048, 8, 128]⟩
abbrev S4096x1024 : Shape := ⟨2, ![4096, 1024]⟩
abbrev S2x2048x2x128 : Shape := ⟨4, ![2, 2048, 2, 128]⟩
abbrev S4096x256 : Shape := ⟨2, ![4096, 256]⟩
abbrev S1x128 : Shape := ⟨2, ![1, 128]⟩

abbrev nBuf : Space → Nat
  | .hbm => 337
  | .vmem => 0
  | .smem => 0
  | _ => 0

abbrev hbmTy0_0 (i : Nat) : BufTy := match i % 128 with
  | 0 => ⟨S2x2048x8x64, .f32⟩
  | 1 => ⟨S2x2048x2x64, .f32⟩
  | 2 => ⟨S1x64, .f32⟩
  | 3 => ⟨S1x64, .f32⟩
  | 4 => ⟨S2x2048x8x64, .f32⟩
  | 5 => ⟨S2x2048x2x64, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2048, .f32⟩
  | 40 => ⟨S2048x1, .f32⟩
  | 41 => ⟨S1x16, .f32⟩
  | 42 => ⟨S2048x16, .f32⟩
  | 43 => ⟨S2048x16, .f32⟩
  | 44 => ⟨S2048x16, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i1⟩
  | 59 => ⟨S_, .i32⟩
  | 60 => ⟨S_, .i1⟩
  | 61 => ⟨S2048, .i1⟩
  | 62 => ⟨S2048, .i1⟩
  | 63 => ⟨S2048, .i1⟩
  | 64 => ⟨S2048, .i32⟩
  | 65 => ⟨S2048, .i32⟩
  | 66 => ⟨S2048, .i32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S2048, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S2x2048x8x64, .f32⟩
  | 88 => ⟨S_, .f32⟩
  | 89 => ⟨S2x2048x8, .f32⟩
  | 90 => ⟨S2x2048x8x1, .f32⟩
  | 91 => ⟨S_, .f32⟩
  | 92 => ⟨S2x2048x8x1, .f32⟩
  | 93 => ⟨S2x2048x8x1, .f32⟩
  | 94 => ⟨S_, .f32⟩
  | 95 => ⟨S2x2048x8x1, .f32⟩
  | 96 => ⟨S2x2048x8x1, .f32⟩
  | 97 => ⟨S2x2048x8x1, .f32⟩
  | 98 => ⟨S2x2048x8x1, .f32⟩
  | 99 => ⟨S_, .f32⟩
  | 100 => ⟨S2x2048x8x1, .f32⟩
  | 101 => ⟨S2x2048x8x1, .f32⟩
  | 102 => ⟨S2x2048x8x64, .f32⟩
  | 103 => ⟨S2x2048x8x64, .f32⟩
  | 104 => ⟨S1x1x1x64, .f32⟩
  | 105 => ⟨S2x2048x8x64, .f32⟩
  | 106 => ⟨S2x2048x8x64, .f32⟩
  | 107 => ⟨S2x2048x8x32, .f32⟩
  | 108 => ⟨S2x2048x8x32, .f32⟩
  | 109 => ⟨S2048x16, .f32⟩
  | 110 => ⟨S1x2048x1x16, .f32⟩
  | 111 => ⟨S2048x16, .f32⟩
  | 112 => ⟨S1x2048x1x16, .f32⟩
  | 113 => ⟨S2x2048x8x16, .f32⟩
  | 114 => ⟨S2x2048x8x16, .f32⟩
  | 115 => ⟨S2x2048x8x16, .f32⟩
  | 116 => ⟨S2x2048x8x16, .f32⟩
  | 117 => ⟨S2x2048x8x16, .f32⟩
  | 118 => ⟨S2x2048x8x16, .f32⟩
  | 119 => ⟨S2x2048x8x16, .f32⟩
  | 120 => ⟨S2x2048x8x16, .f32⟩
  | 121 => ⟨S2x2048x8x16, .f32⟩
  | 122 => ⟨S2x2048x8x16, .f32⟩
  | 123 => ⟨S2x2048x8x16, .f32⟩
  | 124 => ⟨S2x2048x8x16, .f32⟩
  | 125 => ⟨S2x2048x8x32, .f32⟩
  | 126 => ⟨S2048x16, .f32⟩
  | 127 => ⟨S1x2048x1x16, .f32⟩
  | _ => ⟨S2x2048x8x64, .f32⟩

abbrev hbmTy0_1 (i : Nat) : BufTy := match i % 128 with
  | 0 => ⟨S2048x16, .f32⟩
  | 1 => ⟨S1x2048x1x16, .f32⟩
  | 2 => ⟨S2x2048x8x16, .f32⟩
  | 3 => ⟨S2x2048x8x16, .f32⟩
  | 4 => ⟨S2x2048x8x16, .f32⟩
  | 5 => ⟨S2x2048x8x16, .f32⟩
  | 6 => ⟨S2x2048x8x16, .f32⟩
  | 7 => ⟨S2x2048x8x16, .f32⟩
  | 8 => ⟨S2x2048x8x16, .f32⟩
  | 9 => ⟨S2x2048x8x16, .f32⟩
  | 10 => ⟨S2x2048x8x16, .f32⟩
  | 11 => ⟨S2x2048x8x16, .f32⟩
  | 12 => ⟨S2x2048x8x16, .f32⟩
  | 13 => ⟨S2x2048x8x16, .f32⟩
  | 14 => ⟨S2x2048x8x32, .f32⟩
  | 15 => ⟨S2x2048x8x64, .f32⟩
  | 16 => ⟨S_, .f32⟩
  | 17 => ⟨S2x2048x8x64, .f32⟩
  | 18 => ⟨S2x2048x8x64, .f32⟩
  | 19 => ⟨S2x2048x2x64, .f32⟩
  | 20 => ⟨S_, .f32⟩
  | 21 => ⟨S2x2048x2, .f32⟩
  | 22 => ⟨S2x2048x2x1, .f32⟩
  | 23 => ⟨S_, .f32⟩
  | 24 => ⟨S2x2048x2x1, .f32⟩
  | 25 => ⟨S2x2048x2x1, .f32⟩
  | 26 => ⟨S_, .f32⟩
  | 27 => ⟨S2x2048x2x1, .f32⟩
  | 28 => ⟨S2x2048x2x1, .f32⟩
  | 29 => ⟨S2x2048x2x1, .f32⟩
  | 30 => ⟨S2x2048x2x1, .f32⟩
  | 31 => ⟨S_, .f32⟩
  | 32 => ⟨S2x2048x2x1, .f32⟩
  | 33 => ⟨S2x2048x2x1, .f32⟩
  | 34 => ⟨S2x2048x2x64, .f32⟩
  | 35 => ⟨S2x2048x2x64, .f32⟩
  | 36 => ⟨S1x1x1x64, .f32⟩
  | 37 => ⟨S2x2048x2x64, .f32⟩
  | 38 => ⟨S2x2048x2x64, .f32⟩
  | 39 => ⟨S2x2048x2x32, .f32⟩
  | 40 => ⟨S2x2048x2x32, .f32⟩
  | 41 => ⟨S2048x16, .f32⟩
  | 42 => ⟨S1x2048x1x16, .f32⟩
  | 43 => ⟨S2048x16, .f32⟩
  | 44 => ⟨S1x2048x1x16, .f32⟩
  | 45 => ⟨S2x2048x2x16, .f32⟩
  | 46 => ⟨S2x2048x2x16, .f32⟩
  | 47 => ⟨S2x2048x2x16, .f32⟩
  | 48 => ⟨S2x2048x2x16, .f32⟩
  | 49 => ⟨S2x2048x2x16, .f32⟩
  | 50 => ⟨S2x2048x2x16, .f32⟩
  | 51 => ⟨S2x2048x2x16, .f32⟩
  | 52 => ⟨S2x2048x2x16, .f32⟩
  | 53 => ⟨S2x2048x2x16, .f32⟩
  | 54 => ⟨S2x2048x2x16, .f32⟩
  | 55 => ⟨S2x2048x2x16, .f32⟩
  | 56 => ⟨S2x2048x2x16, .f32⟩
  | 57 => ⟨S2x2048x2x32, .f32⟩
  | 58 => ⟨S2048x16, .f32⟩
  | 59 => ⟨S1x2048x1x16, .f32⟩
  | 60 => ⟨S2048x16, .f32⟩
  | 61 => ⟨S1x2048x1x16, .f32⟩
  | 62 => ⟨S2x2048x2x16, .f32⟩
  | 63 => ⟨S2x2048x2x16, .f32⟩
  | 64 => ⟨S2x2048x2x16, .f32⟩
  | 65 => ⟨S2x2048x2x16, .f32⟩
  | 66 => ⟨S2x2048x2x16, .f32⟩
  | 67 => ⟨S2x2048x2x16, .f32⟩
  | 68 => ⟨S2x2048x2x16, .f32⟩
  | 69 => ⟨S2x2048x2x16, .f32⟩
  | 70 => ⟨S2x2048x2x16, .f32⟩
  | 71 => ⟨S2x2048x2x16, .f32⟩
  | 72 => ⟨S2x2048x2x16, .f32⟩
  | 73 => ⟨S2x2048x2x16, .f32⟩
  | 74 => ⟨S2x2048x2x32, .f32⟩
  | 75 => ⟨S2x2048x2x64, .f32⟩
  | 76 => ⟨S2x2048x2x32, .f32⟩
  | 77 => ⟨S2x2048x2x32, .f32⟩
  | 78 => ⟨S2x2048x2x16, .f32⟩
  | 79 => ⟨S2x2048x2x16, .f32⟩
  | 80 => ⟨S2x2048x2x16, .f32⟩
  | 81 => ⟨S2x2048x2x16, .f32⟩
  | 82 => ⟨S2x2048x2x16, .f32⟩
  | 83 => ⟨S2x2048x2x16, .f32⟩
  | 84 => ⟨S2x2048x2x16, .f32⟩
  | 85 => ⟨S2x2048x2x16, .f32⟩
  | 86 => ⟨S2x2048x2x16, .f32⟩
  | 87 => ⟨S2x2048x2x16, .f32⟩
  | 88 => ⟨S2x2048x2x16, .f32⟩
  | 89 => ⟨S2x2048x2x16, .f32⟩
  | 90 => ⟨S2x2048x2x16, .f32⟩
  | 91 => ⟨S2x2048x2x32, .f32⟩
  | 92 => ⟨S2x2048x2x16, .f32⟩
  | 93 => ⟨S2x2048x2x16, .f32⟩
  | 94 => ⟨S2x2048x2x16, .f32⟩
  | 95 => ⟨S2x2048x2x16, .f32⟩
  | 96 => ⟨S2x2048x2x16, .f32⟩
  | 97 => ⟨S2x2048x2x16, .f32⟩
  | 98 => ⟨S2x2048x2x16, .f32⟩
  | 99 => ⟨S2x2048x2x16, .f32⟩
  | 100 => ⟨S2x2048x2x16, .f32⟩
  | 101 => ⟨S2x2048x2x16, .f32⟩
  | 102 => ⟨S2x2048x2x16, .f32⟩
  | 103 => ⟨S2x2048x2x16, .f32⟩
  | 104 => ⟨S2x2048x2x16, .f32⟩
  | 105 => ⟨S2x2048x2x32, .f32⟩
  | 106 => ⟨S2x2048x2x64, .f32⟩
  | 107 => ⟨S2x2048x2x64, .f32⟩
  | 108 => ⟨S_, .f32⟩
  | 109 => ⟨S64, .f32⟩
  | 110 => ⟨S1x1x1x64, .f32⟩
  | 111 => ⟨S2x2048x2x64, .f32⟩
  | 112 => ⟨S2x2048x2x64, .f32⟩
  | 113 => ⟨S_, .f32⟩
  | 114 => ⟨S64, .f32⟩
  | 115 => ⟨S1x64, .f32⟩
  | 116 => ⟨S2x2048x2x64, .f32⟩
  | 117 => ⟨S_, .f32⟩
  | 118 => ⟨S2x2048x2, .f32⟩
  | 119 => ⟨S2x2048x2x1, .f32⟩
  | 120 => ⟨S2x2048x2x64, .f32⟩
  | 121 => ⟨S2x2048x2x64, .f32⟩
  | 122 => ⟨S2x2048x2x1, .f32⟩
  | 123 => ⟨S_, .f32⟩
  | 124 => ⟨S2x2048x2x1, .f32⟩
  | 125 => ⟨S2x2048x2x1, .f32⟩
  | 126 => ⟨S_, .f32⟩
  | 127 => ⟨S2x2048x2, .f32⟩
  | _ => ⟨S2x2048x8x64, .f32⟩

abbrev hbmTy0_2 (i : Nat) : BufTy := match i % 128 with
  | 0 => ⟨S2x2048x2x64, .f32⟩
  | 1 => ⟨S2x2048x2x64, .f32⟩
  | 2 => ⟨S2x2048x2x64, .f32⟩
  | 3 => ⟨S2x2048x2x64, .f32⟩
  | 4 => ⟨S2x2048x2x64, .f32⟩
  | 5 => ⟨S_, .f32⟩
  | 6 => ⟨S2x2048x8x64, .f32⟩
  | 7 => ⟨S2x2048x8x64, .f32⟩
  | 8 => ⟨S2x2048x8x32, .f32⟩
  | 9 => ⟨S2x2048x8x32, .f32⟩
  | 10 => ⟨S2x2048x8x16, .f32⟩
  | 11 => ⟨S2x2048x8x16, .f32⟩
  | 12 => ⟨S2x2048x8x16, .f32⟩
  | 13 => ⟨S2x2048x8x16, .f32⟩
  | 14 => ⟨S2x2048x8x16, .f32⟩
  | 15 => ⟨S2x2048x8x16, .f32⟩
  | 16 => ⟨S2x2048x8x16, .f32⟩
  | 17 => ⟨S2x2048x8x16, .f32⟩
  | 18 => ⟨S2x2048x8x16, .f32⟩
  | 19 => ⟨S2x2048x8x16, .f32⟩
  | 20 => ⟨S2x2048x8x16, .f32⟩
  | 21 => ⟨S2x2048x8x16, .f32⟩
  | 22 => ⟨S2x2048x8x16, .f32⟩
  | 23 => ⟨S2x2048x8x32, .f32⟩
  | 24 => ⟨S2x2048x8x16, .f32⟩
  | 25 => ⟨S2x2048x8x16, .f32⟩
  | 26 => ⟨S2x2048x8x16, .f32⟩
  | 27 => ⟨S2x2048x8x16, .f32⟩
  | 28 => ⟨S2x2048x8x16, .f32⟩
  | 29 => ⟨S2x2048x8x16, .f32⟩
  | 30 => ⟨S2x2048x8x16, .f32⟩
  | 31 => ⟨S2x2048x8x16, .f32⟩
  | 32 => ⟨S2x2048x8x16, .f32⟩
  | 33 => ⟨S2x2048x8x16, .f32⟩
  | 34 => ⟨S2x2048x8x16, .f32⟩
  | 35 => ⟨S2x2048x8x16, .f32⟩
  | 36 => ⟨S2x2048x8x16, .f32⟩
  | 37 => ⟨S2x2048x8x32, .f32⟩
  | 38 => ⟨S2x2048x8x64, .f32⟩
  | 39 => ⟨S2x2048x8x64, .f32⟩
  | 40 => ⟨S_, .f32⟩
  | 41 => ⟨S64, .f32⟩
  | 42 => ⟨S1x1x1x64, .f32⟩
  | 43 => ⟨S2x2048x8x64, .f32⟩
  | 44 => ⟨S2x2048x8x64, .f32⟩
  | 45 => ⟨S_, .f32⟩
  | 46 => ⟨S64, .f32⟩
  | 47 => ⟨S1x64, .f32⟩
  | 48 => ⟨S2x2048x8x64, .f32⟩
  | 49 => ⟨S_, .f32⟩
  | 50 => ⟨S2x2048x8, .f32⟩
  | 51 => ⟨S2x2048x8x1, .f32⟩
  | 52 => ⟨S2x2048x8x64, .f32⟩
  | 53 => ⟨S2x2048x8x64, .f32⟩
  | 54 => ⟨S2x2048x8x1, .f32⟩
  | 55 => ⟨S_, .f32⟩
  | 56 => ⟨S2x2048x8x1, .f32⟩
  | 57 => ⟨S2x2048x8x1, .f32⟩
  | 58 => ⟨S_, .f32⟩
  | 59 => ⟨S2x2048x8, .f32⟩
  | 60 => ⟨S2x2048x8x64, .f32⟩
  | 61 => ⟨S2x2048x8x64, .f32⟩
  | 62 => ⟨S2x2048x8x64, .f32⟩
  | 63 => ⟨S2x2048x8x64, .f32⟩
  | 64 => ⟨S2x2048x8x64, .f32⟩
  | 65 => ⟨S_, .i32⟩
  | 66 => ⟨S_, .f32⟩
  | 67 => ⟨S2x2048x8x128, .f32⟩
  | 68 => ⟨S4096x1024, .f32⟩
  | 69 => ⟨S4096x1024, .bf16⟩
  | 70 => ⟨S_, .i32⟩
  | 71 => ⟨S_, .f32⟩
  | 72 => ⟨S2x2048x2x128, .f32⟩
  | 73 => ⟨S4096x256, .f32⟩
  | 74 => ⟨S4096x256, .bf16⟩
  | 75 => ⟨S_, .i32⟩
  | 76 => ⟨S_, .f32⟩
  | 77 => ⟨S1x128, .f32⟩
  | 78 => ⟨S_, .i32⟩
  | 79 => ⟨S_, .f32⟩
  | 80 => ⟨S1x128, .f32⟩
  | _ => ⟨S2x2048x8x64, .f32⟩

abbrev hbmTy (i : Nat) : BufTy := match i / 128 with
  | 0 => hbmTy0_0 i
  | 1 => hbmTy0_1 i
  | 2 => hbmTy0_2 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_cst_4 : Ref sig .tc := ⟨.hbm, 68, rfl⟩
abbrev main_v20 : Ref sig .tc := ⟨.hbm, 69, rfl⟩
abbrev main_v21 : Ref sig .tc := ⟨.hbm, 70, rfl⟩
abbrev main_cst_5 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_cst_6 : Ref sig .tc := ⟨.hbm, 75, rfl⟩
abbrev main_v25 : Ref sig .tc := ⟨.hbm, 76, rfl⟩
abbrev main_v26 : Ref sig .tc := ⟨.hbm, 77, rfl⟩
abbrev main_cst_7 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_8 : Ref sig .tc := ⟨.hbm, 88, rfl⟩
abbrev main_v36 : Ref sig .tc := ⟨.hbm, 89, rfl⟩
abbrev main_v37 : Ref sig .tc := ⟨.hbm, 90, rfl⟩
abbrev main_cst_9 : Ref sig .tc := ⟨.hbm, 91, rfl⟩
abbrev main_v38 : Ref sig .tc := ⟨.hbm, 92, rfl⟩
abbrev main_v39 : Ref sig .tc := ⟨.hbm, 93, rfl⟩
abbrev main_cst_10 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_11 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_12 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_13 : Ref sig .tc := ⟨.hbm, 148, rfl⟩
abbrev main_v91 : Ref sig .tc := ⟨.hbm, 149, rfl⟩
abbrev main_v92 : Ref sig .tc := ⟨.hbm, 150, rfl⟩
abbrev main_cst_14 : Ref sig .tc := ⟨.hbm, 151, rfl⟩
abbrev main_v93 : Ref sig .tc := ⟨.hbm, 152, rfl⟩
abbrev main_v94 : Ref sig .tc := ⟨.hbm, 153, rfl⟩
abbrev main_cst_15 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_16 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_17 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_18 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_19 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_20 : Ref sig .tc := ⟨.hbm, 251, rfl⟩
abbrev main_v187 : Ref sig .tc := ⟨.hbm, 252, rfl⟩
abbrev main_v188 : Ref sig .tc := ⟨.hbm, 253, rfl⟩
abbrev main_cst_21 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_cst_22 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_cst_23 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_cst_24 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_cst_25 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_cst_26 : Ref sig .tc := ⟨.hbm, 311, rfl⟩
abbrev main_v241 : Ref sig .tc := ⟨.hbm, 312, rfl⟩
abbrev main_v242 : Ref sig .tc := ⟨.hbm, 313, rfl⟩
abbrev main_cst_27 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_c_28 : Ref sig .tc := ⟨.hbm, 321, rfl⟩
abbrev main_call2_v0 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_c_29 : Ref sig .tc := ⟨.hbm, 326, rfl⟩
abbrev main_call3_v0 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_c_30 : Ref sig .tc := ⟨.hbm, 331, rfl⟩
abbrev main_call4_v0 : Ref sig .tc := ⟨.hbm, 332, rfl⟩
abbrev main_v255 : Ref sig .tc := ⟨.hbm, 333, rfl⟩
abbrev main_c_31 : Ref sig .tc := ⟨.hbm, 334, rfl⟩
abbrev main_call5_v0 : Ref sig .tc := ⟨.hbm, 335, rfl⟩
abbrev main_v256 : Ref sig .tc := ⟨.hbm, 336, rfl⟩

abbrev nD : Nat := 1
abbrev τ : Topo := Topo.v7x

variable {F : FTy → Type} [FloatOps F]
-- ==== AttnAFwdKernel.lean ====
abbrev S2x2048x8x96 : Shape := ⟨4, ![2, 2048, 8, 96]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S4096x2048 : Shape := ⟨2, ![4096, 2048]⟩
abbrev S8x4096x1 : Shape := ⟨3, ![8, 4096, 1]⟩
abbrev S512x512 : Shape := ⟨2, ![512, 512]⟩
abbrev S2048x512 : Shape := ⟨2, ![2048, 512]⟩
abbrev S4x512x1 : Shape := ⟨3, ![4, 512, 1]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩

abbrev nBuf : Space → Nat
  | .hbm => 20
  | .vmem => 10
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S_, .i32⟩
  | .hbm, ⟨4, _⟩ => ⟨S_, .f32⟩
  | .hbm, ⟨5, _⟩ => ⟨S2x2048x8x128, .f32⟩
  | .hbm, ⟨6, _⟩ => ⟨S4096x1024, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S2x2048x8x128, .f32⟩
  | .hbm, ⟨11, _⟩ => ⟨S4096x1024, .f32⟩
  | .hbm, ⟨12, _⟩ => ⟨S_, .i32⟩
  | .hbm, ⟨13, _⟩ => ⟨S_, .f32⟩
  | .hbm, ⟨14, _⟩ => ⟨S2x2048x8x128, .f32⟩
  | .hbm, ⟨15, _⟩ => ⟨S4096x1024, .f32⟩
  | .hbm, ⟨16, _⟩ => ⟨S4096x2048, .f32⟩
  | .hbm, ⟨17, _⟩ => ⟨S4096x2048, .bf16⟩
  | .hbm, ⟨18, _⟩ => ⟨S4096x1024, .bf16⟩
  | .hbm, ⟨19, _⟩ => ⟨S8x4096x1, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S4x512x1, .f32⟩
  | .local _ .vmem, ⟨9, _⟩ => ⟨S4x512x1, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnAFwdRefIdeal.lean ====
abbrev S2x2048x8x96 : Shape := ⟨4, ![2, 2048, 8, 96]⟩
abbrev S2x2048x8x64 : Shape := ⟨4, ![2, 2048, 8, 64]⟩
abbrev S2x2048x8x1x96 : Shape := ⟨5, ![2, 2048, 8, 1, 96]⟩
abbrev S2x8x2048x2048x1 : Shape := ⟨5, ![2, 8, 2048, 2048, 1]⟩
abbrev S2x8x1x2048x2048 : Shape := ⟨5, ![2, 8, 1, 2048, 2048]⟩
abbrev S_ : Shape := ⟨0, ![]⟩
abbrev S2x8x1x2048 : Shape := ⟨4, ![2, 8, 1, 2048]⟩
abbrev S2x8x1x2048x1 : Shape := ⟨5, ![2, 8, 1, 2048, 1]⟩
abbrev S2x8x64x1x2048 : Shape := ⟨5, ![2, 8, 64, 1, 2048]⟩
abbrev S2x2048x8x1x64 : Shape := ⟨5, ![2, 2048, 8, 1, 64]⟩
abbrev S2x2048x8x63 : Shape := ⟨4, ![2, 2048, 8, 63]⟩
abbrev S2x2048x8x1 : Shape := ⟨4, ![2, 2048, 8, 1]⟩
abbrev S2x2048x8x128 : Shape := ⟨4, ![2, 2048, 8, 128]⟩
abbrev S4096x1024 : Shape := ⟨2, ![4096, 1024]⟩
abbrev S2x8x2048 : Shape := ⟨3, ![2, 8, 2048]⟩
abbrev S8x2x2048 : Shape := ⟨3, ![8, 2, 2048]⟩
abbrev S8x4096x1 : Shape := ⟨3, ![8, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x1x96, .f32⟩
  | .hbm, ⟨4, _⟩ => ⟨S2x8x2048x2048x1, .f32⟩
  | .hbm, ⟨5, _⟩ => ⟨S2x8x1x2048x2048, .f32⟩
  | .hbm, ⟨6, _⟩ => ⟨S_, .f32⟩
  | .hbm, ⟨7, _⟩ => ⟨S2x8x1x2048, .f32⟩
  | .hbm, ⟨8, _⟩ => ⟨S_, .f32⟩
  | .hbm, ⟨9, _⟩ => ⟨S2x8x1x2048, .f32⟩
  | .hbm, ⟨10, _⟩ => ⟨S2x8x1x2048, .f32⟩
  | .hbm, ⟨11, _⟩ => ⟨S2x8x1x2048x1, .f32⟩
  | .hbm, ⟨12, _⟩ => ⟨S2x8x1x2048x2048, .f32⟩
  | .hbm, ⟨13, _⟩ => ⟨S2x8x1x2048x2048, .f32⟩
  | .hbm, ⟨14, _⟩ => ⟨S2x8x1x2048x2048, .f32⟩
  | .hbm, ⟨15, _⟩ => ⟨S_, .f32⟩
  | .hbm, ⟨16, _⟩ => ⟨S2x8x1x2048, .f32⟩
  | .hbm, ⟨17, _⟩ => ⟨S2x8x1x2048x1, .f32⟩
  | .hbm, ⟨18, _⟩ => ⟨S2x8x1x2048x2048, .f32⟩
  | .hbm, ⟨19, _⟩ => ⟨S2x8x1x2048x2048, .f32⟩
  | .hbm, ⟨20, _⟩ => ⟨S2x8x64x1x2048, .f32⟩
  | .hbm, ⟨21, _⟩ => ⟨S2x2048x8x1x64, .f32⟩
  | .hbm, ⟨22, _⟩ => ⟨S2x2048x8x64, .f32⟩
  | .hbm, ⟨23, _⟩ => ⟨S_, .f32⟩
  | .hbm, ⟨24, _⟩ => ⟨S2x2048x8x63, .f32⟩
  | .hbm, ⟨25, _⟩ => ⟨S_, .f32⟩
  | .hbm, ⟨26, _⟩ => ⟨S2x2048x8x1, .f32⟩
  | .hbm, ⟨27, _⟩ => ⟨S2x2048x8x128, .f32⟩
  | .hbm, ⟨28, _⟩ => ⟨S4096x1024, .f32⟩
  | .hbm, ⟨29, _⟩ => ⟨S4096x1024, .bf16⟩
  | .hbm, ⟨30, _⟩ => ⟨S2x8x2048x2048x1, .f32⟩
  | .hbm, ⟨31, _⟩ => ⟨S2x8x1x2048x2048, .f32⟩
  | .hbm, ⟨32, _⟩ => ⟨S_, .f32⟩
  | .hbm, ⟨33, _⟩ => ⟨S2x8x1x2048, .f32⟩
  | .hbm, ⟨34, _⟩ => ⟨S2x8x1x2048x1, .f32⟩
  | .hbm, ⟨35, _⟩ => ⟨S2x8x1x2048x2048, .f32⟩
  | .hbm, ⟨36, _⟩ => ⟨S2x8x1x2048x2048, .f32⟩
  | .hbm, ⟨37, _⟩ => ⟨S2x8x1x2048x2048, .f32⟩
  | .hbm, ⟨38, _⟩ => ⟨S_, .f32⟩
  | .hbm, ⟨39, _⟩ => ⟨S2x8x1x2048, .f32⟩
  | .hbm, ⟨40, _⟩ => ⟨S2x8x1x2048, .f32⟩
  | .hbm, ⟨41, _⟩ => ⟨S2x8x1x2048, .f32⟩
  | .hbm, ⟨42, _⟩ => ⟨S2x8x2048, .f32⟩
  | .hbm, ⟨43, _⟩ => ⟨S8x2x2048, .f32⟩
  | .hbm, ⟨44, _⟩ => ⟨S8x4096x1, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== AttnBFwdKernel.lean ====
abbrev S2x2048x2x4x64 : Shape := ⟨5, ![2, 2048, 2, 4, 64]⟩
abbrev S2x2048x2x64 : Shape := ⟨4, ![2, 2048, 2, 64]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S2x2048x2x128 : Shape := ⟨4, ![2, 2048, 2, 128]⟩
abbrev S4096x256 : Shape := ⟨2, ![4096, 256]⟩
abbrev S4096x1792 : Shape := ⟨2, ![4096, 1792]⟩
abbrev S4096x2048 : Shape := ⟨2, ![4096, 2048]⟩
abbrev S4096x4096 : Shape := ⟨2, ![4096, 4096]⟩
abbrev S8x4096x1 : Shape := ⟨3, ![8, 4096, 1]⟩
abbrev S512x512 : Shape := ⟨2, ![512, 512]⟩
abbrev S2048x128 : Shape := ⟨2, ![2048, 128]⟩
abbrev S4x512x1 : Shape := ⟨3, ![4, 512, 1]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩

abbrev nBuf : Space → Nat
  | .hbm => 26
  | .vmem => 10
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2048x8x64, .f32⟩
  | .hbm, ⟨4, _⟩ => ⟨S_, .i32⟩
  | .hbm, ⟨5, _⟩ => ⟨S_, .f32⟩
  | .hbm, ⟨6, _⟩ => ⟨S2x2048x8x128, .f32⟩
  | .hbm, ⟨7, _⟩ => ⟨S4096x1024, .f32⟩
  | .hbm, ⟨8, _⟩ => ⟨S4096x1024, .bf16⟩
  | .hbm, ⟨9, _⟩ => ⟨S_, .i32⟩
  | .hbm, ⟨10, _⟩ => ⟨S_, .f32⟩
  | .hbm, ⟨11, _⟩ => ⟨S2x2048x2x128, .f32⟩
  | .hbm, ⟨12, _⟩ => ⟨S4096x256, .f32⟩
  | .hbm, ⟨13, _⟩ => ⟨S4096x256, .bf16⟩
  | .hbm, ⟨14, _⟩ => ⟨S_, .i32⟩
  | .hbm, ⟨15, _⟩ => ⟨S_, .f32⟩
  | .hbm, ⟨16, _⟩ => ⟨S2x2048x2x128, .f32⟩
  | .hbm, ⟨17, _⟩ => ⟨S4096x256, .f32⟩
  | .hbm, ⟨18, _⟩ => ⟨S_, .bf16⟩
  | .hbm, ⟨19, _⟩ => ⟨S4096x1792, .bf16⟩
  | .hbm, ⟨20, _⟩ => ⟨S4096x256, .bf16⟩
  | .hbm, ⟨21, _⟩ => ⟨S_, .bf16⟩
  | .hbm, ⟨22, _⟩ => ⟨S4096x2048, .bf16⟩
  | .hbm, ⟨23, _⟩ => ⟨S4096x4096, .bf16⟩
  | .hbm, ⟨24, _⟩ => ⟨S4096x1024, .bf16⟩
  | .hbm, ⟨25, _⟩ => ⟨S8x4096x1, .f32⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .bf16⟩
  | .local _ .vmem, ⟨7, _⟩ => ⟨S512x512, .bf16⟩
  | .local _ .vmem, ⟨8, _⟩ => ⟨S4x512x1, .f32⟩
  | .local _ .vmem, ⟨9, _⟩ => ⟨S4x512x1, .f32⟩
  | _, _ => ⟨S2x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 v17
  let c0_i32_6 : BitVec 32 := 0#32
  ![arg1.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c14_i32 : BitVec 32 := 14#32
  let v18 : BitVec 32 := Scalar.addi c14_i32 v17
  let c0_i32_5 : BitVec 32 := 0#32
  ![arg1.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnBFwdRefIdeal.lean ====
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x8x64 : Shape := ⟨4, ![2, 2048, 8, 64]⟩
abbrev S2x2048x8x63 : Shape := ⟨4, ![2, 2048, 8, 63]⟩
abbrev S2x2048x8x1 : Shape := ⟨4, ![2, 2048, 8, 1]⟩
abbrev S2x2048x8x128 : Shape := ⟨4, ![2, 2048, 8, 128]⟩
abbrev S4096x1024 : Shape := ⟨2, ![4096, 1024]⟩
abbrev S2x8x2048 : Shape := ⟨3, ![2, 8, 2048]⟩
abbrev S8x2x2048 : Shape := ⟨3, ![8, 2, 2048]⟩
abbrev S8x4096x1 : Shape := ⟨3, ![8, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2x2048x2048x4, .f32⟩
  | .hbm, ⟨4, _⟩ => ⟨S2x2x4x2048x2048, .f32⟩
  | .hbm, ⟨5, _⟩ => ⟨S_, .f32⟩
  | .hbm, ⟨6, _⟩ => ⟨S2x2x4x2048, .f32⟩
  | .hbm, ⟨7, _⟩ => ⟨S_, .f32⟩
  | .hbm, ⟨8, _⟩ => ⟨S2x2x4x2048, .f32⟩
  | .hbm, ⟨9, _⟩ => ⟨S2x2x4x2048, .f32⟩
  | .hbm, ⟨10, _⟩ => ⟨S2x2x4x2048x1, .f32⟩
  | .hbm, ⟨11, _⟩ => ⟨S2x2x4x2048x2048, .f32⟩
  | .hbm, ⟨12, _⟩ => ⟨S2x2x4x2048x2048, .f32⟩
  | .hbm, ⟨13, _⟩ => ⟨S2x2x4x2048x2048, .f32⟩
  | .hbm, ⟨14, _⟩ => ⟨S_, .f32⟩
  | .hbm, ⟨15, _⟩ => ⟨S2x2x4x2048, .f32⟩
  | .hbm, ⟨16, _⟩ => ⟨S2x2x4x2048x1, .f32⟩
  | .hbm, ⟨17, _⟩ => ⟨S2x2x4x2048x2048, .f32⟩
  | .hbm, ⟨18, _⟩ => ⟨S2x2x4x2048x2048, .f32⟩
  | .hbm, ⟨19, _⟩ => ⟨S2x2x64x4x2048, .f32⟩
  | .hbm, ⟨20, _⟩ => ⟨S2x2048x2x4x64, .f32⟩
  | .hbm, ⟨21, _⟩ => ⟨S2x2048x8x64, .f32⟩
  | .hbm, ⟨22, _⟩ => ⟨S_, .f32⟩
  | .hbm, ⟨23, _⟩ => ⟨S2x2048x8x63, .f32⟩
  | .hbm, ⟨24, _⟩ => ⟨S_, .f32⟩
  | .hbm, ⟨25, _⟩ => ⟨S2x2048x8x1, .f32⟩
  | .hbm, ⟨26, _⟩ => ⟨S2x2048x8x128, .f32⟩
  | .hbm, ⟨27, _⟩ => ⟨S4096x1024, .f32⟩
  | .hbm, ⟨28, _⟩ => ⟨S4096x1024, .bf16⟩
  | .hbm, ⟨29, _⟩ => ⟨S2x2x2048x2048x4, .f32⟩
  | .hbm, ⟨30, _⟩ => ⟨S2x2x4x2048x2048, .f32⟩
  | .hbm, ⟨31, _⟩ => ⟨S_, .f32⟩
  | .hbm, ⟨32, _⟩ => ⟨S2x2x4x2048, .f32⟩
  | .hbm, ⟨33, _⟩ => ⟨S2x2x4x2048x1, .f32⟩
  | .hbm, ⟨34, _⟩ => ⟨S2x2x4x2048x2048, .f32⟩
  | .hbm, ⟨35, _⟩ => ⟨S2x2x4x2048x2048, .f32⟩
  | .hbm, ⟨36, _⟩ => ⟨S2x2x4x2048x2048, .f32⟩
  | .hbm, ⟨37, _⟩ => ⟨S_, .f32⟩
  | .hbm, ⟨38, _⟩ => ⟨S2x2x4x2048, .f32⟩
  | .hbm, ⟨39, _⟩ => ⟨S2x2x4x2048, .f32⟩
  | .hbm, ⟨40, _⟩ => ⟨S2x2x4x2048, .f32⟩
  | .hbm, ⟨41, _⟩ => ⟨S2x8x2048, .f32⟩
  | .hbm, ⟨42, _⟩ => ⟨S8x2x2048, .f32⟩
  | .hbm, ⟨43, _⟩ => ⟨S8x4096x1, .f32⟩
  | _, _ => ⟨S2x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Consts.lean ====
/-
  The float constants the programs spell as words, as real numbers, and the few laws of extended reals the value proofs share.
-/
module

public import Idealize.ShloMosaic.Lib.Pipeline.ValueKit

@[expose] public section

noncomputable section

namespace Cert.Consts

open Idealize.ShloMosaic

/-- The word `0x40000000` is two. -/
theorem two : Ideal.ofBits .f32 0x40000000#32 = 2 := by
  rw [show (2 : EReal) = ((2 : ℝ) : EReal) by norm_cast]
  simp [Ideal.ofBits, Ideal.ieee, -EReal.coe_mul]; norm_num

/-- Twice a number that is not negative is its sum with itself, under any factor. -/
theorem mul_two_mul (s a : EReal) (ha : 0 ≤ a) : s * (2 * a) = a * s + s * a := by
  rw [show (2 : EReal) = 1 + 1 by norm_num, EReal.right_distrib_of_nonneg zero_le_one zero_le_one, one_mul,
    EReal.left_distrib_of_nonneg ha ha, mul_comm a s]

end Cert.Consts

end
-- ==== Proof.MlpDown.lean ====
/-
  The gradient through the second product of the gated block: `d_pre = (ct · w_downᵀ) · 2 · max(pre, 0)`. The kernel's result
  array is read block by block, the reference's one operation at a time, and both are this function of the arguments.
-/
module

public import proofs.«01_k».proof.Defs
public import proofs.«01_k».proof.Proof.Gen.MlpDownKernelIdeal.Value
public import proofs.«01_k».proof.Proof.Gen.MlpDownRefIdeal.Run
public import proofs.«01_k».proof.Proof.Gen.MlpDownRefIdeal.Read
public import Idealize.ShloMosaic.Lib.Pipeline.ValueKit
public import proofs.«01_k».proof.Proof.Consts

@[expose] public section

set_option maxRecDepth 16384

noncomputable section

namespace Cert.MlpDown

open Idealize.ShloMosaic Idealize.ShloMosaic.TcCoe Idealize.SL.Sem
open Cert.MlpDownKernelIdeal Cert.MlpDownKernelIdeal.Gen

variable (m : (ℓ : Loc nD τ sig) → Buf (Elt Ideal) ℓ) (ρ : Dev nD → PrngReg)

/-- The gradient as one function of the three arguments. -/
def G (pre : FVec Ideal S4096x4096 .f32) (w ct : FVec Ideal S4096x1024 .f32) : FVec Ideal S4096x4096 .bf16 := fun i =>
  (∑ k : Fin 1024, ct (ix2 (i 0) k) * w (ix2 (i 1) k)) * (Ideal.ofBits .f32 0x40000000#32 * max (pre i) 0)

/-- The array the third window stages: the rectified argument, narrowed. -/
theorem V_u (c : Dev nD) : V m c main_v2 = (truncf .bf16 (maximumf (F := Ideal) (m ((c : Thread nD τ).loc main_arg0))
    (broadcastInDim S4096x4096 ![] bcast_S_S4096x4096 (constant S_ .f32 0x00000000#32))) bitsLt_bf16_f32 : FVec Ideal S4096x4096 .bf16) := by
  show StableHlo.after hostOps0 (fun b => m (c, b)) _ = _
  after_results

/-- The array the second window stages: the weights, narrowed. -/
theorem V_w (c : Dev nD) : V m c main_v3 = (truncf (F := Ideal) .bf16 (m ((c : Thread nD τ).loc main_arg1)) bitsLt_bf16_f32 : FVec Ideal S4096x1024 .bf16) := by
  show StableHlo.after hostOps0 (fun b => m (c, b)) _ = _
  after_results

/-- Where each window's block lies, at every grid point. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] :=
  (by decide +kernel : ∀ t : Fin grid0.N, _)

/-- What a grid point stores at a block index is the gradient at the array index it sits at. -/
theorem point (c : Dev nD) (t : Fin cfg0.N) (y) : k0_pay1 (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y) := by
  pointwise [k0_pay1, G]
  blk_simp [iblk]
  rw [V_u]
  pointwise
  blk_point [idx t]

/-- The kernel's result array after the run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The reference's result is the same function. -/
theorem ref (pre : FVec Ideal S4096x4096 .f32) (w ct : FVec Ideal S4096x1024 .f32) :
    Cert.MlpDownRefIdeal.Read.val_main_v12 (F := Ideal) pre w ct = G pre w ct := by
  funext i
  pointwise [G, MlpDownRefIdeal.Read.val_main_v12, MlpDownRefIdeal.Read.val_main_v11, MlpDownRefIdeal.Read.val_main_v10, MlpDownRefIdeal.Read.val_main_v9,
    MlpDownRefIdeal.Read.val_main_v8, MlpDownRefIdeal.Read.val_main_v7, MlpDownRefIdeal.Read.val_main_v6, MlpDownRefIdeal.Read.val_main_v2, MlpDownRefIdeal.Read.val_main_v1,
    MlpDownRefIdeal.Read.val_main_v0, MlpDownRefIdeal.Read.val_main_call0_v0, MlpDownRefIdeal.Read.val_main_call0_cst, MlpDownRefIdeal.Read.val_main_cst, MlpDownRefIdeal.Read.val_main_cst_1]
  rw [Consts.two]
  split_ifs with h
  · rw [max_eq_left h.le, Consts.mul_two_mul _ _ h.le]
  · rw [max_eq_right (not_lt.mp h), mul_zero, mul_zero]

/-- The reference runs and leaves its arguments and the counters as they were. -/
theorem frame_ref : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

/-- From equal arguments the kernel and the reference end with equal results. -/
theorem algebraic : Cert.algebraic_MlpDownKernelIdeal_MlpDownRefIdeal := by
  intro m ρ m' ρ' _ hag
  refine ⟨fun c => G (m ((c : Thread nD τ).loc main_arg0)) (m ((c : Thread nD τ).loc main_arg1)) (m ((c : Thread nD τ).loc main_arg2)),
    (θ_run _ _ _).mono (fun r h c => ⟨(h c).1.trans (final m c), (h c).2⟩) (Cert.MlpDownKernelIdeal.Value.run_blocks m ρ),
    (θ_run _ _ _).mono (fun r h c => ⟨(h c).1.trans ?_, (h c).2⟩) (Cert.MlpDownRefIdeal.Value.run m' ρ')⟩
  rw [(hag c).1, (hag c).2.1, (hag c).2.2]
  exact ref _ _ _

end Cert.MlpDown

end
-- ==== Proof.Reals.lean ====
/-
  Extended reals that are real numbers: sums, quotients, roots, logarithms and maxima of them are real again, and the
  one-row laws of calculus behind the gradients (softmax, root mean square) are stated over real numbers.
-/
module

public import Idealize.ShloMosaic.Lib.Pipeline.ValueKit

@[expose] public section

noncomputable section

namespace Cert.Reals

open Idealize.ShloMosaic

variable {ι κ : Type} [Fintype ι] [Fintype κ]

/-- An extended real smaller in size than infinity is a real number. -/
theorem exists_real {x : EReal} (hb : x ≠ ⊥) (ht : x ≠ ⊤) : ∃ r : ℝ, x = (r : EReal) :=
  ⟨x.toReal, (EReal.coe_toReal ht hb).symm⟩

/-- An array of extended reals each of which is real is an array of real numbers. -/
theorem exists_reals {α : Type} {X : α → EReal} (h : ∀ i, ∃ r : ℝ, X i = (r : EReal)) :
    ∃ f : α → ℝ, X = fun i => (f i : EReal) :=
  ⟨fun i => (h i).choose, funext fun i => (h i).choose_spec⟩

/-- A finite sum of real numbers. -/
theorem coe_sum (f : ι → ℝ) : ∑ i, (f i : EReal) = ((∑ i, f i : ℝ) : EReal) := by
  classical
  refine Finset.induction_on (motive := fun s => ∑ i ∈ s, (f i : EReal) = ((∑ i ∈ s, f i : ℝ) : EReal)) Finset.univ ?_ ?_
  · simp
  · intro a s ha ih
    rw [Finset.sum_insert ha, Finset.sum_insert ha, ih, EReal.coe_add]

/-- A quotient of real numbers whose denominator is not zero. -/
theorem div_real (x : ℝ) {y : ℝ} (h : y ≠ 0) : Ideal.div (x : EReal) (y : EReal) = ((x / y : ℝ) : EReal) := by
  rw [Ideal.div_coe h, ← EReal.coe_mul]; congr 1; ring

theorem log_real {x : ℝ} (h : 0 < x) : Ideal.log (x : EReal) = (Real.log x : EReal) := by
  rw [Ideal.log_coe, if_neg (not_le.mpr h)]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The greatest of finitely many real numbers, taken from minus infinity, is real. -/
theorem fold_max_real [Nonempty ι] (f : ι → ℝ) :
    ∃ M : ℝ, Finset.univ.fold max (⊥ : EReal) (fun i => (f i : EReal)) = (M : EReal) := by
  classical
  have key : ∀ s : Finset ι, s.Nonempty → ∃ M : ℝ, s.fold max (⊥ : EReal) (fun i => (f i : EReal)) = (M : EReal) := by
    intro s hs
    refine Finset.Nonempty.cons_induction (motive := fun s _ => ∃ M : ℝ, s.fold max (⊥ : EReal) (fun i => (f i : EReal)) = (M : EReal))
      ?_ ?_ hs
    · intro a; exact ⟨f a, by simp⟩
    · rintro a s ha _ ⟨M, hM⟩
      exact ⟨max (f a) M, by rw [Finset.fold_cons, hM]; exact (EReal.coe_strictMono.monotone.map_max).symm⟩
  exact key _ Finset.univ_nonempty

/-- The softmax weight of `s j` among `s`. -/
def weight (s : ι → ℝ) (j : ι) : ℝ := Real.exp (s j) / ∑ i, Real.exp (s i)

theorem sum_exp_pos [Nonempty ι] (s : ι → ℝ) : 0 < ∑ i, Real.exp (s i) :=
  Finset.sum_pos (fun i _ => Real.exp_pos _) Finset.univ_nonempty

/-- Shifting every score by one number leaves the weights alone. -/
theorem weight_shift [Nonempty ι] (s : ι → ℝ) (m : ℝ) (j : ι) :
    Real.exp (s j - m) / ∑ i, Real.exp (s i - m) = weight s j := by
  unfold weight
  simp only [Real.exp_sub, ← Finset.sum_div]
  have h := (sum_exp_pos s).ne'
  have h' := (Real.exp_pos m).ne'
  field_simp

/-- The weight from the logarithm of the sum, shifted by any number. -/
theorem exp_sub_lse [Nonempty ι] (s : ι → ℝ) (m : ℝ) (j : ι) :
    Real.exp (s j - (m + Real.log (∑ i, Real.exp (s i - m)))) = weight s j := by
  rw [← weight_shift s m, ← sub_sub, Real.exp_sub, Real.exp_log (sum_exp_pos _)]

/-- The gradient of the softmax weights, from the gradient `d` of what they multiply. -/
def weightGrad (s d : ι → ℝ) (j : ι) : ℝ := weight s j * (d j - ∑ i, d i * weight s i)

/-- The gradient as differentiation writes it: through the quotient by the sum, then through the exponential. -/
theorem quotient_grad [Nonempty ι] (s d : ι → ℝ) (m : ℝ) (j : ι) :
    (d j / (∑ i, Real.exp (s i - m)) + -(∑ i, d i * (1 / ((∑ i, Real.exp (s i - m)) * (∑ i, Real.exp (s i - m)))) * Real.exp (s i - m)))
      * Real.exp (s j - m) = weightGrad s d j := by
  unfold weightGrad
  simp only [← weight_shift s m]
  have h := (sum_exp_pos fun i => s i - m).ne'
  set L := ∑ i, Real.exp (s i - m)
  have e : ∑ i, d i * (1 / (L * L)) * Real.exp (s i - m) = (∑ i, d i * (Real.exp (s i - m) / L)) / L := by
    rw [Finset.sum_div]; exact Finset.sum_congr rfl fun i _ => by field_simp
  rw [e]
  field_simp
  ring

/-- The gradient as the kernel writes it: the weighted sum is taken from the output `∑ᵢ wᵢ vᵢ` against `c`. -/
theorem output_grad (w : ι → ℝ) (c : κ → ℝ) (v : ι → κ → ℝ) :
    ∑ e, c e * ∑ i, w i * v i e = ∑ i, (∑ e, c e * v i e) * w i := by
  simp only [Finset.mul_sum, Finset.sum_mul]
  rw [Finset.sum_comm]
  exact Finset.sum_congr rfl fun i _ => Finset.sum_congr rfl fun e _ => by ring

/-- An array of real numbers, read as extended reals. -/
def up {s : Shape} (f : s.Idx → ℝ) : FVec Ideal s .f32 := fun i => (f i : EReal)

/-- A row of `n` numbers, filled up with zeros. -/
def padr {n N : ℕ} (f : Fin n → ℝ) (e : Fin N) : ℝ := if h : e.val < n then f ⟨e.val, h⟩ else 0

/-- The filling does not add to a sum of products. -/
theorem sum_padr_mul {n N : ℕ} (hn : n ≤ N) (f g : Fin n → ℝ) : ∑ e : Fin N, padr f e * padr g e = ∑ e : Fin n, f e * g e := by
  obtain ⟨d, rfl⟩ := Nat.exists_eq_add_of_le hn
  rw [Fin.sum_univ_add]
  simp [padr]

/-- A weighted sum of filled rows is the filled row of the weighted sums. -/
theorem sum_mul_padr {n N : ℕ} (w : ι → ℝ) (f : ι → Fin n → ℝ) (e : Fin N) :
    ∑ i, w i * padr (f i) e = padr (fun e => ∑ i, w i * f i e) e := by
  unfold padr
  split <;> simp

theorem padr_add {n N : ℕ} (f g : Fin n → ℝ) (e : Fin N) : padr f e + padr g e = padr (fun e => f e + g e) e := by
  unfold padr
  split <;> simp

/-- An array read where it has entries and zero elsewhere is the filled row. -/
theorem dite_padr {n0 n1 n2 n3 N : ℕ} (X : (⟨4, ![n0, n1, n2, n3]⟩ : Shape).Idx → EReal) (f : Fin n0 → Fin n1 → Fin n2 → Fin n3 → ℝ)
    (hX : ∀ a b c d, X (ix4 a b c d) = (f a b c d : EReal)) {z : EReal} (hz : z = 0) (a : Fin n0) (b : Fin n1) (c : Fin n2) (e : Fin N)
    (ra rb rc re : ℕ) (ha : ra = a.val) (hb : rb = b.val) (hc : rc = c.val) (he : re = e.val) :
    (if h : ra < n0 ∧ rb < n1 ∧ rc < n2 ∧ re < n3 then X (ix4 ⟨ra, h.1⟩ ⟨rb, h.2.1⟩ ⟨rc, h.2.2.1⟩ ⟨re, h.2.2.2⟩) else z)
      = (padr (f a b c) e : EReal) := by
  subst ha hb hc he hz
  unfold padr
  by_cases h : e.val < n3
  · rw [dif_pos ⟨a.isLt, b.isLt, c.isLt, h⟩, dif_pos h, hX]
  · rw [dif_neg fun g => h g.2.2.2, dif_neg h]; rfl

/-- An array all of whose entries compare smaller in size than infinity is an array of real numbers. -/
theorem finite_up {s : Shape} (X : FVec Ideal s .f32) (d : Fin 0 → Fin s.rank) (hb : (⟨0, ![]⟩ : Shape).BroadcastsInDim s d)
    (h : cmpf .olt (Host.absf X) (broadcastInDim s d hb (constant ⟨0, ![]⟩ .f32 0x7F800000#32)) = fun _ => 1#1) :
    ∃ f : s.Idx → ℝ, X = up f := by
  refine exists_reals fun i => ?_
  have h2 := congrFun h i
  have hinf : Ideal.ofBits .f32 0x7F800000#32 = ⊤ := by simp [Ideal.ofBits, Ideal.ieee]
  pointwise at h2
  have hlt : max (X i) (-(X i)) < (⊤ : EReal) := by
    have h3 : decide (FloatOps.absf (X i) < Ideal.ofBits .f32 0x7F800000#32) = true := by
      cases hd : decide (FloatOps.absf (X i) < Ideal.ofBits .f32 0x7F800000#32)
      · rw [hd] at h2; exact absurd h2 (by decide)
      · rfl
    exact hinf ▸ of_decide_eq_true h3
  refine exists_real (fun e => ?_) fun e => ?_
  · rw [e] at hlt; simp at hlt
  · rw [e] at hlt; simp at hlt

/-- A sum of filled rows is the filled sum. -/
theorem sum_padr {n N : ℕ} (f : ι → Fin n → ℝ) (e : Fin N) : ∑ i, padr (f i) e = padr (fun e => ∑ i, f i e) e := by
  have h := sum_mul_padr (fun _ : ι => (1 : ℝ)) f e
  simpa only [one_mul] using h

end Cert.Reals

end
-- ==== Proof.Rms.lean ====
/-
  The root-mean-square norm of one row and its gradient, over real numbers: the gradient written out, and the same as the chain
  rule gives it through the reciprocal root.
-/
module

public import proofs.«01_k».proof.Proof.Reals

@[expose] public section

noncomputable section

namespace Cert.Rms

open Idealize.ShloMosaic
open Cert.Reals

variable {ι κ : Type} [Fintype ι] [Fintype κ]

/-- The norm's small constant: the word both programs write, as a number. -/
def eps : ℝ := 8796093 / 2 ^ 43

theorem eps_coe : Ideal.ofBits .f32 0x358637BD#32 = (eps : EReal) := by
  simp [Ideal.ofBits, Ideal.ieee, eps, -EReal.coe_mul]; norm_num

theorem eps_pos : 0 < eps := by unfold eps; positivity

/-- The constants of the row lengths and their reciprocals, and minus a half. -/
theorem c1024 : Ideal.ofBits .f32 0x44800000#32 = ((1024 : ℝ) : EReal) := by
  simp [Ideal.ofBits, Ideal.ieee, -EReal.coe_mul]; norm_num
theorem r1024 : Ideal.ofBits .f32 0x3A800000#32 = ((1 / 1024 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem r256 : Ideal.ofBits .f32 0x3B800000#32 = ((1 / 256 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem r128 : Ideal.ofBits .f32 0x3C000000#32 = ((1 / 128 : ℝ) : EReal) := by
  simp [Ideal.ofBits, Ideal.ieee, -EReal.coe_mul]; norm_num
theorem c64 : Ideal.ofBits .f32 0x42800000#32 = ((64 : ℝ) : EReal) := by
  simp [Ideal.ofBits, Ideal.ieee, -EReal.coe_mul]; norm_num
theorem r64 : Ideal.ofBits .f32 0x3C800000#32 = ((1 / 64 : ℝ) : EReal) := by
  simp [Ideal.ofBits, Ideal.ieee, -EReal.coe_mul]; norm_num
theorem mhalf : Ideal.ofBits .f32 0xBF000000#32 = ((-1 / 2 : ℝ) : EReal) := by
  simp [Ideal.ofBits, Ideal.ieee, -EReal.coe_mul]; norm_num

/-- The mean of a row's squares, and the reciprocal root the norm multiplies by. -/
def var (N : ℝ) (x : ι → ℝ) : ℝ := (∑ k, x k * x k) / N + eps
def inv (N : ℝ) (x : ι → ℝ) : ℝ := (Real.sqrt (var N x))⁻¹

theorem var_pos {N : ℝ} (hN : 0 < N) (x : ι → ℝ) : 0 < var N x :=
  add_pos_of_nonneg_of_pos (div_nonneg (Finset.sum_nonneg fun k _ => mul_self_nonneg (x k)) hN.le) eps_pos

theorem inv_sq {N : ℝ} (hN : 0 < N) (x : ι → ℝ) : inv N x * inv N x = 1 / var N x := by
  rw [inv, ← mul_inv, Real.mul_self_sqrt (var_pos hN x).le, one_div]

/-- The gradient of a normed row: `d` is the cotangent times the gains. -/
def grad (N : ℝ) (x d : ι → ℝ) (j : ι) : ℝ := inv N x * (d j - x j * inv N x * ((∑ k, d k * (x k * inv N x)) / N))

/-- What the chain rule multiplies the row by, twice. -/
def slope (N : ℝ) (x d : ι → ℝ) : ℝ := (∑ k, x k * d k) * (-1 / 2 * (inv N x / var N x)) / N

theorem grad_eq {N : ℝ} (hN : 0 < N) (x d : ι → ℝ) (j : ι) :
    d j * inv N x + x j * slope N x d + slope N x d * x j = grad N x d j := by
  have h1 : ∑ k, d k * (x k * inv N x) = (∑ k, x k * d k) * inv N x := by
    rw [Finset.sum_mul]; exact Finset.sum_congr rfl fun k _ => by ring
  have h2 : inv N x / var N x = inv N x * (inv N x * inv N x) := by rw [inv_sq hN]; ring
  rw [grad, slope, h1, h2]; ring

/-- The reciprocal root as the kernel computes it, and as the reference does. -/
theorem inv_mul {N : ℝ} (hN : 0 < N) (x : ι → ℝ) :
    Ideal.rsqrt (((∑ k, x k * x k : ℝ) : EReal) * ((1 / N : ℝ) : EReal) + (eps : EReal)) = (inv N x : EReal) := by
  rw [← EReal.coe_mul, ← EReal.coe_add, mul_one_div]
  exact rsqrt_real (var_pos hN x)

theorem var_div {N : ℝ} (hN : 0 < N) (x : ι → ℝ) :
    Ideal.div ((∑ k, x k * x k : ℝ) : EReal) (N : EReal) + (eps : EReal) = (var N x : EReal) := by
  rw [div_real _ hN.ne', ← EReal.coe_add]; rfl

theorem inv_div {N : ℝ} (hN : 0 < N) (x : ι → ℝ) : Ideal.rsqrt (var N x : EReal) = (inv N x : EReal) := rsqrt_real (var_pos hN x)

theorem slope_div {N : ℝ} (hN : 0 < N) (x d : ι → ℝ) :
    Ideal.div (((∑ k, x k * d k : ℝ) : EReal) * (((-1 / 2 : ℝ) : EReal) * Ideal.div (inv N x : EReal) (var N x : EReal))) (N : EReal)
      = (slope N x d : EReal) := by
  rw [div_real _ (var_pos hN x).ne', ← EReal.coe_mul, ← EReal.coe_mul, div_real _ hN.ne']; rfl

/-- A residual's gradient beside the chain rule's three terms: one real number is added. -/
theorem add_grad {N : ℝ} (hN : 0 < N) (x d : ι → ℝ) (j : ι) (r : EReal) :
    r + (d j : EReal) * (inv N x : EReal) + (x j : EReal) * (slope N x d : EReal) + (slope N x d : EReal) * (x j : EReal)
      = r + (grad N x d j : EReal) := by
  rw [← grad_eq hN, EReal.coe_add, EReal.coe_add, EReal.coe_mul, EReal.coe_mul, EReal.coe_mul, add_assoc, add_assoc, add_assoc]

/-- The gradient as the kernel computes it. -/
theorem grad_mul {N : ℝ} (x d : ι → ℝ) (j : ι) :
    (inv N x : EReal) * ((d j : EReal) - (x j : EReal) * (inv N x : EReal) * (((∑ k, d k * (x k * inv N x) : ℝ) : EReal) * ((1 / N : ℝ) : EReal)))
      = (grad N x d j : EReal) := by
  simp only [← EReal.coe_mul, ← EReal.coe_sub, mul_one_div, grad]

end Cert.Rms

end
-- ==== Proof.MlpUpRef.lean ====
/-
  The gradient through the MLP's first projection and the norm before it, with the residual's gradient added: the reference's two
  results as functions of the arguments.
-/
module

public import proofs.«01_k».proof.Proof.Gen.MlpUpRefIdeal.Run
public import proofs.«01_k».proof.Proof.Gen.MlpUpRefIdeal.Read
public import Idealize.ShloMosaic.Lib.Pipeline.ValueKit
public import proofs.«01_k».proof.Proof.Rms

@[expose] public section

set_option maxRecDepth 16384

noncomputable section

namespace Cert.MlpUp

open Idealize.ShloMosaic Idealize.ShloMosaic.TcCoe Idealize.SL.Sem
open Cert.Reals Cert.Rms
open Cert.MlpUpRefIdeal Cert.MlpUpRefIdeal.Gen Cert.MlpUpRefIdeal.Read

variable (x : S4096x1024.Idx → ℝ) (g : S1x1024.Idx → ℝ) (w : S1024x4096.Idx → ℝ) (du : S4096x4096.Idx → ℝ) (res : FVec Ideal S4096x1024 .f32)

/-- A row of the normed argument, and of the cotangent through the projection, without and with the gains. -/
def xr (r : Fin 4096) (k : Fin 1024) : ℝ := x (ix2 r k)
def dh (r : Fin 4096) (d : Fin 1024) : ℝ := ∑ f : Fin 4096, du (ix2 r f) * w (ix2 d f)
def dg (r : Fin 4096) (d : Fin 1024) : ℝ := dh w du r d * g (ix2 0 d)

/-- The two gradients. -/
def GX : FVec Ideal S4096x1024 .f32 := fun y => res y + (grad 1024 (xr x (y 0)) (dg g w du (y 0)) (y 1) : EReal)
def GG : FVec Ideal S1x1024 .f32 := fun y => ((∑ r : Fin 4096, dh w du r (y 1) * (xr x r (y 1) * inv 1024 (xr x r)) : ℝ) : EReal)

theorem v16_at (r : Fin 4096) (d : Fin 1024) : val_main_v16 (F := Ideal) (up w) (up du) (ix2 r d) = (dh w du r d : EReal) := by
  pointwise [val_main_v16, up]
  simp only [← EReal.coe_mul, coe_sum, dh]

theorem v6_at (r : Fin 4096) (u : Fin 1) : val_main_v6 (F := Ideal) (up x) (ix2 r u) = (var 1024 (xr x r) : EReal) := by
  pointwise [val_main_v6, val_main_v5, val_main_v4, val_main_v3, val_main_v2, val_main_v1, val_main_v0, val_main_cst, val_main_cst_0, val_main_cst_1, up]
  simp only [← EReal.coe_mul, coe_sum, c1024, eps_coe]
  exact var_div (by norm_num) (xr x r)

theorem v7_at (r : Fin 4096) (u : Fin 1) : val_main_v7 (F := Ideal) (up x) (ix2 r u) = (inv 1024 (xr x r) : EReal) := by
  pointwise [val_main_v7]
  rw [v6_at, Rms.inv_div (by norm_num)]

theorem v21_at (r : Fin 4096) (d : Fin 1024) : val_main_v21 (F := Ideal) (up g) (up w) (up du) (ix2 r d) = (dg g w du r d : EReal) := by
  pointwise [val_main_v21, val_main_v20]
  rw [v16_at]
  simp only [up, ← EReal.coe_mul, dg]

theorem v30_at (r : Fin 4096) (u : Fin 1) : val_main_v30 (F := Ideal) (up x) (up g) (up w) (up du) (ix2 r u)
    = (slope 1024 (xr x r) (dg g w du r) : EReal) := by
  pointwise [val_main_v30, val_main_v29, val_main_v28, val_main_v24, val_main_v23, val_main_v22, val_main_v10, val_main_v9, val_main_v8, val_main_cst_2,
    val_main_cst_4, val_main_cst_5]
  simp only [v21_at, v7_at, v6_at, up, ← EReal.coe_mul, coe_sum, c1024, mhalf]
  exact slope_div (by norm_num) (xr x r) (dg g w du r)

theorem v36_at (r : Fin 4096) (d : Fin 1024) : val_main_v36 (F := Ideal) (up x) (up g) (up w) (up du) res (ix2 r d)
    = res (ix2 r d) + (grad 1024 (xr x r) (dg g w du r) d : EReal) := by
  pointwise [val_main_v36, val_main_v35, val_main_v34, val_main_v33, val_main_v32, val_main_v31, val_main_v27, val_main_v26, val_main_v25, val_main_cst_6]
  simp only [v21_at, v7_at, v30_at, Fin.sum_univ_one]
  exact add_grad (by norm_num) (xr x r) (dg g w du r) d _

theorem ref_dx : val_main_v36 (F := Ideal) (up x) (up g) (up w) (up du) res = GX x g w du res := by
  funext y
  rw [eq_ix2 y]
  exact v36_at x g w du res (y 0) (y 1)

theorem v19_at (u : Fin 1) (d : Fin 1024) : val_main_v19 (F := Ideal) (up x) (up w) (up du) (ix2 u d)
    = ((∑ r : Fin 4096, dh w du r d * (xr x r d * inv 1024 (xr x r)) : ℝ) : EReal) := by
  pointwise [val_main_v19, val_main_v18, val_main_v17, val_main_v12, val_main_v11, val_main_cst_3]
  simp only [v16_at, v7_at, up, ← EReal.coe_mul, coe_sum]
  exact congrArg _ (Finset.sum_congr rfl fun r _ => mul_comm _ _)

theorem ref_dg : val_main_v19 (F := Ideal) (up x) (up w) (up du) = GG x w du := by
  funext y
  exact v19_at x w du (y 0) (y 1)

end Cert.MlpUp

end
-- ==== Proof.MlpUpKern.lean ====
/-
  The kernel's gradient through the MLP's first projection and the norm before it: 512 rows a grid point, the gains' gradient
  summed over the points.
-/
module

public import proofs.«01_k».proof.Proof.Gen.MlpUpKernelIdeal.Value
public import Idealize.ShloMosaic.Lib.Pipeline.ValueKit
public import Idealize.ShloMosaic.Lib.Pipeline.ReadBack
public import proofs.«01_k».proof.Proof.MlpUpRef

@[expose] public section

set_option maxRecDepth 16384

noncomputable section

namespace Cert.MlpUp

open Idealize.ShloMosaic Idealize.ShloMosaic.TcCoe Idealize.SL.Sem
open Cert.Reals Cert.Rms
open Cert.MlpUpKernelIdeal Cert.MlpUpKernelIdeal.Gen

variable (x : S4096x1024.Idx → ℝ) (g : S1x1024.Idx → ℝ) (w : S1024x4096.Idx → ℝ) (du : S4096x4096.Idx → ℝ)

/-- The weights, their columns in four slots. -/
def slotsH (W : FVec Ideal S1024x4096 .f32) : FVec Ideal S4x1024x1024 .bf16 :=
  transpose S4x1024x1024 [1, 0, 2] (shapeCast S1024x4x1024 (truncf .bf16 W bitsLt_bf16_f32 : FVec Ideal S1024x4096 .bf16) shapeCasts_S1024x4096_S1024x4x1024)
    transposes_S1024x4x1024_S4x1024x1024_1_0_2

section entry

variable (m : (ℓ : Loc nD τ sig) → Buf (Elt Ideal) ℓ) (c : Dev nD)

def ax : FVec Ideal S4096x1024 .f32 := m ((c : Thread nD τ).loc main_arg0)
def ag : FVec Ideal S1x1024 .f32 := m ((c : Thread nD τ).loc main_arg1)
def aw : FVec Ideal S1024x4096 .f32 := m ((c : Thread nD τ).loc main_arg2)
def adu : FVec Ideal S4096x4096 .f32 := m ((c : Thread nD τ).loc main_arg3)
def ares : FVec Ideal S4096x1024 .f32 := m ((c : Thread nD τ).loc main_arg4)

theorem V_def (b : Ref sig .tc) : V m c b = StableHlo.after hostOps0 (fun b => m (c, b)) b := rfl

theorem V_w : V m c main_v2 = slotsH (aw m c) := by rw [V_def]; after_results; rfl
theorem V_d0 : V m c main_v3 = (truncf .bf16 (adu m c) bitsLt_bf16_f32 : FVec Ideal S4096x4096 .bf16) := by rw [V_def]; after_results; rfl
theorem V_d1 : V m c main_v4 = (truncf .bf16 (adu m c) bitsLt_bf16_f32 : FVec Ideal S4096x4096 .bf16) := by rw [V_def]; after_results; rfl
theorem V_d2 : V m c main_v5 = (truncf .bf16 (adu m c) bitsLt_bf16_f32 : FVec Ideal S4096x4096 .bf16) := by rw [V_def]; after_results; rfl
theorem V_d3 : V m c main_v6 = (truncf .bf16 (adu m c) bitsLt_bf16_f32 : FVec Ideal S4096x4096 .bf16) := by rw [V_def]; after_results; rfl
theorem V_x : V m c main_arg0 = ax m c := by rw [V_main_arg0]; rfl
theorem V_g : V m c main_arg1 = ag m c := by rw [V_main_arg1]; rfl
theorem V_res : V m c main_arg4 = ares m c := by rw [V_main_arg4]; rfl

end entry

/-- Column `k` of slot `j` of the 4096. -/
def col (j : Fin 4) (k : Fin 1024) : Fin 4096 := ⟨j.val * 1024 + k.val, by omega⟩

theorem slotsH_at (W : FVec Ideal S1024x4096 .f32) (y : S4x1024x1024.Idx) (j : Fin 4) (d k : Fin 1024) (h0 : (y 0).val = j.val) (h1 : (y 1).val = d.val)
    (h2 : (y 2).val = k.val) : slotsH W y = W (ix2 d (col j k)) := by
  pointwise [slotsH]
  congr 1
  funext a
  match a with
  | 0 => exact Fin.ext h1
  | 1 => exact Fin.ext (by show (y 0).val * 1024 + (y 2).val = j.val * 1024 + k.val; omega)

theorem four (F : Fin 4096 → ℝ) : (∑ k, F (col 0 k)) + (∑ k, F (col 1 k)) + (∑ k, F (col 2 k)) + (∑ k, F (col 3 k)) = ∑ f, F f := by
  rw [← Fin.sum_mul_add_fin 4 1024 F, Fin.sum_univ_four]; rfl

/-! The blocks at a grid point. -/

theorem idx : ∀ t : Fin cfg0.N, win0_0.index t = ![t.val, 0] ∧ win0_1.index t = ![t.val, 1] ∧ win0_2.index t = ![t.val, 2] ∧ win0_3.index t = ![t.val, 3]
    ∧ win0_4.index t = ![0, 0, 0] ∧ win0_5.index t = ![1, 0, 0] ∧ win0_6.index t = ![2, 0, 0] ∧ win0_7.index t = ![3, 0, 0]
    ∧ win0_8.index t = ![t.val, 0] ∧ win0_9.index t = ![t.val, 0] ∧ win0_10.index t = ![0, 0] ∧ win0_11.index t = ![t.val, 0] ∧ win0_12.index t = ![0, 0] :=
  (by decide +kernel : ∀ t : Fin grid0.N, _)

theorem lt8 (t : Fin cfg0.N) : t.val < 8 := lt_of_lt_of_eq t.isLt N_0

/-- The row of the arrays that a row of a block is. -/
def row (t : Fin cfg0.N) (r : Fin 512) : Fin 4096 := ⟨t.val * 512 + r.val, by have := lt8 t; omega⟩

section blocks

variable (m : (ℓ : Loc nD τ sig) → Buf (Elt Ideal) ℓ) (c : Dev nD) (hx : ax m c = up x) (hg : ag m c = up g) (hw : aw m c = up w) (hdu : adu m c = up du)
  (t : Fin cfg0.N)

theorem blk9 (r : Fin 512) (d : Fin 1024) : iblk m c 9 t (ix2 r d) = ares m c (ix2 (row t r) d) := by
  blk_simp [iblk]
  rw [V_res]
  blk_point [idx t, row]

include hx in
theorem blk8 (r : Fin 512) (d : Fin 1024) : iblk m c 8 t (ix2 r d) = (xr x (row t r) d : EReal) := by
  blk_simp [iblk]
  rw [V_x, hx]
  simp only [up, xr]
  blk_point [idx t, row]

include hg in
theorem blk10 (d : Fin 1024) : iblk m c 10 t (ix2 0 d) = (g (ix2 0 d) : EReal) := by
  blk_simp [iblk]
  rw [V_g, hg]
  simp only [up]
  blk_point [idx t, row]

include hdu in
theorem blkA (r : Fin 512) (k : Fin 1024) : iblk m c 0 t (ix2 r k) = (du (ix2 (row t r) (col 0 k)) : EReal) ∧ iblk m c 1 t (ix2 r k) = (du (ix2 (row t r) (col 1 k)) : EReal)
    ∧ iblk m c 2 t (ix2 r k) = (du (ix2 (row t r) (col 2 k)) : EReal) ∧ iblk m c 3 t (ix2 r k) = (du (ix2 (row t r) (col 3 k)) : EReal) := by
  refine ⟨?_, ?_, ?_, ?_⟩
  · blk_simp [iblk]; rw [V_d0, hdu]; pointwise [up]; blk_point [idx t, row, col]
  · blk_simp [iblk]; rw [V_d1, hdu]; pointwise [up]; blk_point [idx t, row, col]
  · blk_simp [iblk]; rw [V_d2, hdu]; pointwise [up]; blk_point [idx t, row, col]
  · blk_simp [iblk]; rw [V_d3, hdu]; pointwise [up]; blk_point [idx t, row, col]

include hw in
theorem blkB (d k : Fin 1024) : iblk m c 4 t (ix3 0 d k) = (w (ix2 d (col 0 k)) : EReal) ∧ iblk m c 5 t (ix3 0 d k) = (w (ix2 d (col 1 k)) : EReal)
    ∧ iblk m c 6 t (ix3 0 d k) = (w (ix2 d (col 2 k)) : EReal) ∧ iblk m c 7 t (ix3 0 d k) = (w (ix2 d (col 3 k)) : EReal) := by
  refine ⟨?_, ?_, ?_, ?_⟩
  · blk_simp [iblk]; rw [V_w, hw]; refine slotsH_at _ _ 0 d k ?_ ?_ ?_ <;> blk_simp [idx t] <;> rfl
  · blk_simp [iblk]; rw [V_w, hw]; refine slotsH_at _ _ 1 d k ?_ ?_ ?_ <;> blk_simp [idx t] <;> rfl
  · blk_simp [iblk]; rw [V_w, hw]; refine slotsH_at _ _ 2 d k ?_ ?_ ?_ <;> blk_simp [idx t] <;> rfl
  · blk_simp [iblk]; rw [V_w, hw]; refine slotsH_at _ _ 3 d k ?_ ?_ ?_ <;> blk_simp [idx t] <;> rfl

/-- The cotangent of the normed rows at a point: the four slots' products. -/
def DH : FVec Ideal S512x1024 .f32 :=
  k0_pay6 (iblk m c 0 t) (iblk m c 4 t) (iblk m c 1 t) (iblk m c 5 t) (iblk m c 2 t) (iblk m c 6 t) (iblk m c 3 t) (iblk m c 7 t)

include hw hdu in
theorem DH_at (r : Fin 512) (d : Fin 1024) : DH m c t (ix2 r d) = (dh w du (row t r) d : EReal) := by
  have hA := blkA du m c hdu t r
  have hB := blkB w m c hw t d
  pointwise [DH, k0_pay6]
  simp only [(hA _).1, (hA _).2.1, (hA _).2.2.1, (hA _).2.2.2, (hB _).1, (hB _).2.1, (hB _).2.2.1, (hB _).2.2.2, ← EReal.coe_mul, coe_sum, ← EReal.coe_add]
  exact congrArg _ (four fun f => du (ix2 (row t r) f) * w (ix2 d f))

end blocks

/-! The payloads on real rows. -/

section payloads

variable (D X : FVec Ideal S512x1024 .f32) (R : FVec Ideal S512x1024 .f32) (G : FVec Ideal S1x1024 .f32) (a d : Fin 512 → Fin 1024 → ℝ) (γ : Fin 1024 → ℝ)
  (hX : ∀ r k, X (ix2 r k) = (a r k : EReal)) (hD : ∀ r k, D (ix2 r k) = (d r k : EReal)) (hG : ∀ k, G (ix2 0 k) = (γ k : EReal))

include hX

theorem pay1_at (r : Fin 512) (u : Fin 1) : k0_pay1 (F := Ideal) (k0_pay7 X) (ix2 r u) = (inv 1024 (a r) : EReal) := by
  pointwise [k0_pay1, k0_pay7]
  simp only [hX, ← EReal.coe_mul, coe_sum, r1024, eps_coe]
  exact inv_mul (by norm_num) (a r)

theorem pay2_at (r : Fin 512) (k : Fin 1024) : k0_pay2 (F := Ideal) X (k0_pay7 X) (ix2 r k) = ((a r k * inv 1024 (a r) : ℝ) : EReal) := by
  pointwise [k0_pay2]
  rw [pay1_at X a hX, hX, ← EReal.coe_mul]

include hD

theorem pay3_at (u : Fin 1) (k : Fin 1024) : k0_pay3 (F := Ideal) D X (k0_pay7 X) (ix2 u k) = ((∑ r, d r k * (a r k * inv 1024 (a r)) : ℝ) : EReal) := by
  pointwise [k0_pay3]
  simp only [pay2_at X a hX, hD, ← EReal.coe_mul, coe_sum]

include hG

theorem pay4_at (r : Fin 512) (k : Fin 1024) : k0_pay4 (F := Ideal) D X R G (k0_pay7 X) (ix2 r k)
    = R (ix2 r k) + (grad 1024 (a r) (fun k => d r k * γ k) k : EReal) := by
  pointwise [k0_pay4]
  simp only [pay2_at X a hX, pay1_at X a hX, hD, hG, ← EReal.coe_mul, coe_sum, r1024]
  rw [add_comm]
  congr 1
  simp only [← EReal.coe_mul, ← EReal.coe_sub, mul_one_div, grad]

end payloads

section finals

variable (m : (ℓ : Loc nD τ sig) → Buf (Elt Ideal) ℓ) (c : Dev nD) (hx : ax m c = up x) (hg : ag m c = up g) (hw : aw m c = up w) (hdu : adu m c = up du)

include hx hg hw hdu

theorem dx_at (t : Fin cfg0.N) (r : Fin 512) (d : Fin 1024) :
    k0_pay4 (F := Ideal) (DH m c t) (iblk m c 8 t) (iblk m c 9 t) (iblk m c 10 t) (k0_pay7 (iblk m c 8 t)) (ix2 r d)
      = GX x g w du (ares m c) ((win0_11.blk t).view.emb (ix2 r d)) := by
  have e0 : (win0_11.blk t).view.emb (ix2 r d) = (ix2 (row t r) d : S4096x1024.Idx) := by blk_ext [idx t, row]
  rw [e0]
  refine (pay4_at _ _ _ _ (fun r => xr x (row t r)) (fun r => dh w du (row t r)) (fun k => g (ix2 0 k)) (fun r k => blk8 x m c hx t r k)
    (fun r k => DH_at w du m c hw hdu t r k) (fun k => blk10 g m c hg t k) r d).trans ?_
  rw [blk9]; rfl

theorem dx_out (t : Fin cfg0.N) (y : S512x1024.Idx) : (dats m 0 c).after 11 t y = GX x g w du (ares m c) ((win0_11.blk t).view.emb y) := by
  rw [eq_ix2 y]
  refine Eq.trans ?_ (dx_at x g w du m c hx hg hw hdu t (y 0) (y 1))
  rw [after0_11]
  by_cases h : t.val % 8 = 0
  · rw [outsAt0_A m c t h (by have := lt8 t; omega)]; frame_out; rfl
  · rw [outsAt0_B m c t h (by omega)]; frame_out; rfl

theorem final11 : (dats m 0 c).arrAt 11 (cfgs 0).N = GX x g w du (ares m c) := by
  refine (dats m 0 c).arrAt_eq_of_covers 11 _ (by decide +kernel) fun t _ y => ?_
  exact dx_out x g w du m c hx hg hw hdu t y

omit hg in
theorem gain_at (t : Fin cfg0.N) (k : Fin 1024) : k0_pay3 (F := Ideal) (DH m c t) (iblk m c 8 t) (k0_pay7 (iblk m c 8 t)) (ix2 0 k)
    = ((∑ r, dh w du (row t r) k * (xr x (row t r) k * inv 1024 (xr x (row t r))) : ℝ) : EReal) :=
  pay3_at _ _ (fun r => xr x (row t r)) (fun r => dh w du (row t r)) (fun r k => blk8 x m c hx t r k) (fun r k => DH_at w du m c hw hdu t r k) 0 k

end finals

/-- What one point adds to the gains' gradient. -/
def gainP (m : (ℓ : Loc nD τ sig) → Buf (Elt Ideal) ℓ) (c : Dev nD) (t : Fin cfg0.N) (y : S1x1024.Idx) : EReal :=
  k0_pay3 (F := Ideal) (DH m c t) (iblk m c 8 t) (k0_pay7 (iblk m c 8 t)) y

/-- Point `s` of the eight, and of the run of eight that `t` lies in. -/
def pt (s : Fin 8) : Fin cfg0.N := ⟨s.val, s.isLt.trans_eq N_0.symm⟩
def run8 (t : Fin cfg0.N) (s : Fin 8) : Fin cfg0.N :=
  ⟨8 * (t.val / 8) + s.val, (by have := lt8 t; omega : 8 * (t.val / 8) + s.val < 8).trans_eq N_0.symm⟩

theorem run8_eq (t : Fin cfg0.N) (s : Fin 8) : run8 t s = pt s := Fin.ext (by have := lt8 t; show 8 * (t.val / 8) + s.val = s.val; omega)

section gains

variable (m : (ℓ : Loc nD τ sig) → Buf (Elt Ideal) ℓ) (c : Dev nD)

theorem gain_run (t : Fin cfg0.N) (h7 : t.val % 8 = 7) (y : S1x1024.Idx) : (dats m 0 c).after 12 t y = ∑ s : Fin 8, gainP m c (run8 t s) y := by
  have hout : (dats m 0 c).after 12 t y = (outsAt0 m c t.val t.isLt).2 y := by rw [after0_12]
  rw [hout, Pipeline.eq_sum_fin_of_reset_step_apply_of_flush (fun n h => (outsAt0 m c n h).2) 8 (fun _ => 0) (fun t y => gainP m c t y)
    (fun t h i => by rw [outsAt0_A m c t h (by have := lt8 t; omega)]; frame_out; rw [zero_add]; rfl)
    (fun t h i => by rw [outsAt0_B m c t h (by omega)]; frame_out; pointwise [k0_pay5]; rfl) t h7 y, zero_add]
  rfl

variable (hx : ax m c = up x) (hw : aw m c = up w) (hdu : adu m c = up du)

include hx hw hdu

theorem gain_sum (t : Fin cfg0.N) (k : Fin 1024) : ∑ s : Fin 8, gainP m c (run8 t s) (ix2 0 k)
    = ((∑ r : Fin 4096, dh w du r k * (xr x r k * inv 1024 (xr x r)) : ℝ) : EReal) := by
  have e : ∀ s : Fin 8, gainP m c (run8 t s) (ix2 0 k)
      = ((∑ r, dh w du (row (pt s) r) k * (xr x (row (pt s) r) k * inv 1024 (xr x (row (pt s) r))) : ℝ) : EReal) := fun s => by
    rw [run8_eq]; exact gain_at x w du m c hx hw hdu (pt s) k
  rw [Finset.sum_congr rfl fun s _ => e s, coe_sum]
  exact congrArg _ (Fin.sum_mul_add_fin 8 512 fun r => dh w du r k * (xr x r k * inv 1024 (xr x r)))

theorem gain_out (t : Fin cfg0.N) (h : t.val % 8 = 7) (u : Fin 1) (k : Fin 1024) :
    (dats m 0 c).after 12 t (ix2 u k) = GG x w du ((win0_12.blk t).view.emb (ix2 u k)) := by
  obtain rfl : u = 0 := Subsingleton.elim _ _
  have e0 : (win0_12.blk t).view.emb (ix2 0 k) = (ix2 0 k : S1x1024.Idx) := by blk_ext [idx t]
  rw [e0]
  exact (gain_run m c t h _).trans (gain_sum x w du m c hx hw hdu t k)

theorem final12 : (dats m 0 c).arrAt 12 (cfgs 0).N = GG x w du := by
  refine (dats m 0 c).arrAt_eq_of_covers 12 _ (by decide +kernel) fun t hf y => ?_
  have key : ∀ y : S1x1024.Idx, (dats m 0 c).after 12 t y = GG x w du ((win0_12.blk t).view.emb y) := fun y => by
    rw [eq_ix2 y]; exact gain_out x w du m c hx hw hdu t ((flush0_12 t).mp hf) (y 0) (y 1)
  exact key y

end gains

end Cert.MlpUp

end
-- ==== Proof.MlpUp.lean ====
/-
  The gradient through the MLP's first projection and the norm before it: the gradients of the normed rows and of the norm's gains.
-/
module

public import proofs.«01_k».proof.Defs
public import proofs.«01_k».proof.Proof.Gen.MlpUpKernelIdeal.Value
public import proofs.«01_k».proof.Proof.Gen.MlpUpRefIdeal.Run
public import proofs.«01_k».proof.Proof.MlpUpKern
public import proofs.«01_k».proof.Proof.MlpUpRef

@[expose] public section

set_option maxRecDepth 16384

noncomputable section

namespace Cert.MlpUp

open Idealize.ShloMosaic Idealize.ShloMosaic.TcCoe Idealize.SL.Sem
open Cert.Reals

instance pre_facts : Cert.Pre_finite_mlp_up.Facts := ⟨by decide, by decide, by decide, by decide⟩

theorem frame_ref : Cert.quiescent_MlpUpRefIdeal := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

open Cert.MlpUpKernelIdeal in
/-- What the precondition says of one device's arguments. -/
theorem reals (m : (ℓ : Loc nD τ sig) → Buf (Elt Ideal) ℓ) (h : Cert.Pre_MlpUpKernelIdeal_finite_mlp_up m) (c : Dev nD) :
    ∃ (x : S4096x1024.Idx → ℝ) (g : S1x1024.Idx → ℝ) (w : S1024x4096.Idx → ℝ) (du : S4096x4096.Idx → ℝ),
      ax m c = up x ∧ ag m c = up g ∧ aw m c = up w ∧ adu m c = up du := by
  obtain ⟨h0, h1, h2, h3⟩ := h c
  obtain ⟨x, hx⟩ := finite_up _ _ _ h0
  obtain ⟨g, hg⟩ := finite_up _ _ _ h1
  obtain ⟨w, hw⟩ := finite_up _ _ _ h2
  obtain ⟨du, hdu⟩ := finite_up _ _ _ h3
  exact ⟨x, g, w, du, hx, hg, hw, hdu⟩

open Cert.MlpUpKernelIdeal in
theorem algebraic : Cert.algebraic_MlpUpKernelIdeal_MlpUpRefIdeal_pre_finite_mlp_up := by
  intro m ρ m' ρ' hp hag
  choose x g w du h using reals m hp
  refine ⟨fun c => GX (x c) (g c) (w c) (du c) (ares m c), fun c => GG (x c) (w c) (du c),
    (θ_run _ _ _).mono (fun r hr c => ?_) (Cert.MlpUpKernelIdeal.Value.run_blocks m ρ),
    (θ_run _ _ _).mono (fun r hr c => ?_) (Cert.MlpUpRefIdeal.Value.run m' ρ')⟩
  · obtain ⟨hx, hg, hw, hdu⟩ := h c
    exact ⟨(hr c).1.trans (final11 _ _ _ _ m c hx hg hw hdu), (hr c).2.1.trans (final12 _ _ _ m c hx hw hdu), (hr c).2.2⟩
  · obtain ⟨hx, hg, hw, hdu⟩ := h c
    obtain ⟨e0, e1, e2, e3, e4⟩ := hag c
    refine ⟨(hr c).1.trans ?_, (hr c).2.1.trans ?_, (hr c).2.2⟩
    · rw [Cert.MlpUpRefIdeal.Read.val_main_v36_eq, e0, e1, e2, e3, e4]
      exact (congrFun (congr (congr (congr (congrArg _ hx) hg) hw) hdu) _).trans (ref_dx (x c) (g c) (w c) (du c) _)
    · rw [e0, e2, e3]
      exact (congr (congr (congrArg _ hx) hw) hdu).trans (ref_dg (x c) (w c) (du c))

end Cert.MlpUp

end
-- ==== Proof.MergeRef.lean ====
/-
  The gradient through the merge of the two branches and their output projections, as functions of the arguments: the gradient of
  the merged rows times each gate, the gates' own gradients, and the first of these through the branches' weights, head by head.
-/
module

public import proofs.«01_k».proof.Proof.Gen.MergeRefIdeal.Run
public import proofs.«01_k».proof.Proof.Gen.MergeRefIdeal.Read
public import Idealize.ShloMosaic.Lib.Pipeline.ValueKit
public import proofs.«01_k».proof.Proof.Consts

@[expose] public section

set_option maxRecDepth 16384

noncomputable section

namespace Cert.Merge

open Idealize.ShloMosaic Idealize.ShloMosaic.TcCoe Idealize.SL.Sem
open Cert.MergeRefIdeal Cert.MergeRefIdeal.Gen Cert.MergeRefIdeal.Read

/-- The constant one, as both programs write it. -/
def one : EReal := Ideal.ofBits .f32 0x3F800000#32

/-- The logistic function, as a quotient. -/
def logi (x : EReal) : EReal := Ideal.div one (one + Ideal.exp (-x))

/-- The gradient of the merged rows: the cotangent through the last projection. -/
def DM (w : FVec Ideal S1024x1024 .f32) (ct : FVec Ideal S4096x1024 .f32) (r : Fin 4096) (d : Fin 1024) : EReal :=
  ∑ e : Fin 1024, ct (ix2 r e) * w (ix2 d e)

/-- A branch's rows: its output through its projection. -/
def Y (o : FVec Ideal S4096x512 .f32) (w : FVec Ideal S512x1024 .f32) (r : Fin 4096) (d : Fin 1024) : EReal :=
  ∑ e : Fin 512, o (ix2 r e) * w (ix2 e d)

/-- The gradient of a branch's rows. -/
def DY (g : FVec Ideal S4096x1024 .f32) (w : FVec Ideal S1024x1024 .f32) (ct : FVec Ideal S4096x1024 .f32) : FVec Ideal S4096x1024 .bf16 := fun y =>
  DM w ct (y 0) (y 1) * logi (g (ix2 (y 0) (y 1)))

/-- The gradient of a gate. -/
def DG (g : FVec Ideal S4096x1024 .f32) (o : FVec Ideal S4096x512 .f32) (wb : FVec Ideal S512x1024 .f32) (w : FVec Ideal S1024x1024 .f32)
    (ct : FVec Ideal S4096x1024 .f32) : FVec Ideal S4096x1024 .bf16 := fun y =>
  DM w ct (y 0) (y 1) * Y o wb (y 0) (y 1) * (logi (g (ix2 (y 0) (y 1))) * (one - logi (g (ix2 (y 0) (y 1)))))

/-- A branch's weights with each head's 64 rows filled up to 128. -/
def wide (w : FVec Ideal S512x1024 .f32) (s : Fin 1024) (d : Fin 1024) : EReal :=
  if h : s.val % 128 < 64 then w (ix2 ⟨s.val / 128 * 64 + s.val % 128, by omega⟩ d) else 0

/-- The gradient of a branch's output, each head filled up to 128 columns. -/
def DO (g : FVec Ideal S4096x1024 .f32) (wb : FVec Ideal S512x1024 .f32) (w : FVec Ideal S1024x1024 .f32)
    (ct : FVec Ideal S4096x1024 .f32) : FVec Ideal S4096x1024 .bf16 := fun y =>
  ∑ d : Fin 1024, DM w ct (y 0) d * logi (g (ix2 (y 0) d)) * wide wb (y 1) d

theorem sitofp_zero : (((0#32 : BitVec 32).toInt : ℝ) : EReal) = 0 := by simp

variable (ga gb : FVec Ideal S4096x1024 .f32) (oa ob : FVec Ideal S4096x512 .f32) (wa wb : FVec Ideal S512x1024 .f32)
  (w : FVec Ideal S1024x1024 .f32) (ct : FVec Ideal S4096x1024 .f32)

theorem v7_at (y : S4096x1024.Idx) : val_main_v7 (F := Ideal) ga y = logi (ga y) := by
  pointwise [val_main_v7, val_main_v6, val_main_v5, val_main_v4, val_main_v3, val_main_v2, val_main_cst, val_main_cst_0, logi, one]

theorem v17_at (y : S4096x1024.Idx) : val_main_v17 (F := Ideal) gb y = logi (gb y) := by
  pointwise [val_main_v17, val_main_v16, val_main_v15, val_main_v14, val_main_v13, val_main_v12, val_main_cst_2, val_main_cst_3, logi, one]

theorem v24_at (r : Fin 4096) (d : Fin 1024) : val_main_v24 (F := Ideal) w ct (ix2 r d) = DM w ct r d := by
  pointwise [val_main_v24, DM]

theorem v0_at (r : Fin 4096) (d : Fin 1024) : val_main_v0 (F := Ideal) oa wa (ix2 r d) = Y oa wa r d := by
  pointwise [val_main_v0, Y]

theorem v1_at (r : Fin 4096) (d : Fin 1024) : val_main_v1 (F := Ideal) ob wb (ix2 r d) = Y ob wb r d := by
  pointwise [val_main_v1, Y]

theorem v28_at (r : Fin 4096) (d : Fin 1024) : val_main_v28 (F := Ideal) ga w ct (ix2 r d) = DM w ct r d * logi (ga (ix2 r d)) := by
  pointwise [val_main_v28]
  rw [v7_at, v24_at, mul_comm]

theorem v25_at (r : Fin 4096) (d : Fin 1024) : val_main_v25 (F := Ideal) gb w ct (ix2 r d) = DM w ct r d * logi (gb (ix2 r d)) := by
  pointwise [val_main_v25]
  rw [v17_at, v24_at, mul_comm]

theorem ref_dya : val_main_v33 (F := Ideal) ga w ct = DY ga w ct := by
  funext y
  pointwise [val_main_v33]
  rw [eq_ix2 y]
  exact v28_at ga w ct (y 0) (y 1)

theorem ref_dyb : val_main_v34 (F := Ideal) gb w ct = DY gb w ct := by
  funext y
  pointwise [val_main_v34]
  rw [eq_ix2 y]
  exact v25_at gb w ct (y 0) (y 1)

theorem v30_at (r : Fin 4096) (d : Fin 1024) : val_main_v30 (F := Ideal) ga oa wa w ct (ix2 r d)
    = DM w ct r d * Y oa wa r d * (logi (ga (ix2 r d)) * (one - logi (ga (ix2 r d)))) := by
  pointwise [val_main_v30, val_main_v29, val_main_v10, val_main_v9, val_main_v8, val_main_cst_1, one]
  rw [v7_at, v24_at, v0_at]

theorem v27_at (r : Fin 4096) (d : Fin 1024) : val_main_v27 (F := Ideal) gb ob wb w ct (ix2 r d)
    = DM w ct r d * Y ob wb r d * (logi (gb (ix2 r d)) * (one - logi (gb (ix2 r d)))) := by
  pointwise [val_main_v27, val_main_v26, val_main_v20, val_main_v19, val_main_v18, val_main_cst_4, one]
  rw [v17_at, v24_at, v1_at]

theorem ref_dga : val_main_v35 (F := Ideal) ga oa wa w ct = DG ga oa wa w ct := by
  funext y
  pointwise [val_main_v35]
  rw [eq_ix2 y]
  exact v30_at ga oa wa w ct (y 0) (y 1)

theorem ref_dgb : val_main_v36 (F := Ideal) gb ob wb w ct = DG gb ob wb w ct := by
  funext y
  pointwise [val_main_v36]
  rw [eq_ix2 y]
  exact v27_at gb ob wb w ct (y 0) (y 1)

/-- A gradient of rows through a branch's weights, where the heads' columns are the real ones and where they are filled. -/
theorem through (D : Fin 4096 → Fin 1024 → EReal) (wx : FVec Ideal S512x1024 .f32) (r : Fin 4096) (s : Fin 1024) :
    ∑ d : Fin 1024, D r d * wide wx s d
      = if h : s.val % 128 < 64 then ∑ d : Fin 1024, D r d * wx (ix2 ⟨s.val / 128 * 64 + s.val % 128, by omega⟩ d) else 0 := by
  by_cases h : s.val % 128 < 64
  · simp only [wide, dif_pos h]
  · simp only [wide, dif_neg h, mul_zero, Finset.sum_const_zero]

/-- The padded columns beside `through`'s two cases. -/
theorem filled (s : Fin 1024) (f : Fin 512 → EReal) (z : EReal) (hz : z = 0) :
    (if h : s.val / 128 < 8 ∧ s.val % 128 < 64 then f ⟨s.val / 128 * 64 + s.val % 128, by omega⟩ else z)
      = if h : s.val % 128 < 64 then f ⟨s.val / 128 * 64 + s.val % 128, by omega⟩ else 0 := by
  by_cases h : s.val % 128 < 64
  · rw [dif_pos ⟨by omega, h⟩, dif_pos h]
  · rw [dif_neg (fun k => h k.2), dif_neg h, hz]

theorem v40_at (r : Fin 4096) (s : Fin 1024) : val_main_v40 (F := Ideal) ga wa w ct (ix2 r s)
    = ∑ d : Fin 1024, DM w ct r d * logi (ga (ix2 r d)) * wide wa s d := by
  rw [through (fun r d => DM w ct r d * logi (ga (ix2 r d)))]
  pointwise [val_main_v40, val_main_v39, val_main_v38, val_main_v37, val_main_v32, val_main_call0_v0, val_main_c]
  simp only [v28_at]
  exact filled s (fun e => ∑ d : Fin 1024, DM w ct r d * logi (ga (ix2 r d)) * wa (ix2 e d)) _ sitofp_zero

theorem v44_at (r : Fin 4096) (s : Fin 1024) : val_main_v44 (F := Ideal) gb wb w ct (ix2 r s)
    = ∑ d : Fin 1024, DM w ct r d * logi (gb (ix2 r d)) * wide wb s d := by
  rw [through (fun r d => DM w ct r d * logi (gb (ix2 r d)))]
  pointwise [val_main_v44, val_main_v43, val_main_v42, val_main_v41, val_main_v31, val_main_call1_v0, val_main_c_5]
  simp only [v25_at]
  exact filled s (fun e => ∑ d : Fin 1024, DM w ct r d * logi (gb (ix2 r d)) * wb (ix2 e d)) _ sitofp_zero

theorem ref_doa : val_main_v40 (F := Ideal) ga wa w ct = DO ga wa w ct := by
  funext y
  exact v40_at ga wa w ct (y 0) (y 1)

theorem ref_dob : val_main_v44 (F := Ideal) gb wb w ct = DO gb wb w ct := by
  funext y
  exact v44_at gb wb w ct (y 0) (y 1)

end Cert.Merge

end
-- ==== Proof.MergeKern.lean ====
/-
  The kernel's six result arrays of the merge's gradient, block by block: 256 rows a grid point.
-/
module

public import proofs.«01_k».proof.Proof.Gen.MergeKernelIdeal.Value
public import Idealize.ShloMosaic.Lib.Pipeline.ValueKit
public import proofs.«01_k».proof.Proof.MergeRef

@[expose] public section

set_option maxRecDepth 16384

noncomputable section

namespace Cert.Merge

open Idealize.ShloMosaic Idealize.ShloMosaic.TcCoe Idealize.SL.Sem
open Cert.MergeKernelIdeal Cert.MergeKernelIdeal.Gen

/-- The arrays the windows stage. -/
def zeroH : FVec Ideal S_ .bf16 := sitofp .bf16 (constantI S_ 32 0#32)

def rowsH (W : FVec Ideal S512x1024 .f32) : FVec Ideal S1024x1024 .bf16 :=
  shapeCast S1024x1024 (pad S8x128x1024 ![0, 0, 0] ![0, 64, 0] ![0, 0, 0] (shapeCast S8x64x1024 (truncf .bf16 W bitsLt_bf16_f32 : FVec Ideal S512x1024 .bf16)
    shapeCasts_S512x1024_S8x64x1024) zeroH pads_S8x64x1024_S8x128x1024_000_0640_000 h_S_) shapeCasts_S8x128x1024_S1024x1024

def gatesH (A B : FVec Ideal S4096x1024 .f32) : FVec Ideal S4096x4096 .bf16 :=
  concatenate S4096x4096 1 [⟨S4096x2048, broadcastInDim S4096x2048 ![] bcast_S_S4096x2048 (constant S_ .bf16 0x0000#16)⟩,
    ⟨S4096x1024, (truncf .bf16 A bitsLt_bf16_f32 : FVec Ideal S4096x1024 .bf16)⟩, ⟨S4096x1024, (truncf .bf16 B bitsLt_bf16_f32 : FVec Ideal S4096x1024 .bf16)⟩]
    concatenates_S4096x2048_S4096x1024_S4096x1024_S4096x4096_d1

def branchH (O : FVec Ideal S4096x512 .f32) (W : FVec Ideal S512x1024 .f32) : FVec Ideal S4096x1024 .bf16 :=
  truncf .bf16 (Host.dotGeneral dot_S4096x512_S512x1024_S4096x1024_1_0_0_1_n_n none O W) bitsLt_bf16_f32

section entry

variable (m : (ℓ : Loc nD τ sig) → Buf (Elt Ideal) ℓ) (c : Dev nD)

theorem V_def (b : Ref sig .tc) : V m c b = StableHlo.after hostOps0_4 (StableHlo.after hostOps0_3
    (StableHlo.after hostOps0_2 (StableHlo.after hostOps0_1 (StableHlo.after hostOps0 (fun b => m (c, b)))))) b := rfl

def aga : FVec Ideal S4096x1024 .f32 := m ((c : Thread nD τ).loc main_arg0)
def agb : FVec Ideal S4096x1024 .f32 := m ((c : Thread nD τ).loc main_arg1)
def aoa : FVec Ideal S4096x512 .f32 := m ((c : Thread nD τ).loc main_arg2)
def aob : FVec Ideal S4096x512 .f32 := m ((c : Thread nD τ).loc main_arg3)
def awa : FVec Ideal S512x1024 .f32 := m ((c : Thread nD τ).loc main_arg4)
def awb : FVec Ideal S512x1024 .f32 := m ((c : Thread nD τ).loc main_arg5)
def aw : FVec Ideal S1024x1024 .f32 := m ((c : Thread nD τ).loc main_arg6)
def act : FVec Ideal S4096x1024 .f32 := m ((c : Thread nD τ).loc main_arg7)

theorem V_wa : V m c main_v3 = rowsH (awa m c) := by rw [V_def]; after_results; rfl
theorem V_wb : V m c main_v7 = rowsH (awb m c) := by rw [V_def]; after_results; rfl
theorem V_z : V m c main_v11 = gatesH (aga m c) (agb m c) := by rw [V_def]; after_results; rfl
theorem V_ya : V m c main_v13 = branchH (aoa m c) (awa m c) := by rw [V_def]; after_results; rfl
theorem V_yb : V m c main_v15 = branchH (aob m c) (awb m c) := by rw [V_def]; after_results; rfl
theorem V_w : V m c main_v16 = (truncf .bf16 (aw m c) bitsLt_bf16_f32 : FVec Ideal S1024x1024 .bf16) := by rw [V_def]; after_results; rfl
theorem V_ct : V m c main_arg7 = act m c := by rw [V_main_arg7]; rfl

end entry

/-! What they hold. -/

theorem rowsH_at (W : FVec Ideal S512x1024 .f32) (s d : Fin 1024) : rowsH W (ix2 s d) = wide W s d := by
  pointwise [rowsH, wide, zeroH]
  exact filled s (fun e => W (ix2 e d)) _ sitofp_zero

theorem gatesH_a (A B : FVec Ideal S4096x1024 .f32) (y : S4096x4096.Idx) (r : Fin 4096) (d : Fin 1024) (h0 : (y 0).val = r.val) (h1 : (y 1).val = 2048 + d.val) :
    gatesH A B y = A (ix2 r d) := by
  pointwise [gatesH]
  rw [dif_neg (by omega), dif_pos (by omega)]
  congr 1
  funext a
  match a with
  | 0 => exact Fin.ext h0
  | 1 => exact Fin.ext (by show (y 1).val - 2048 = d.val; omega)

theorem gatesH_b (A B : FVec Ideal S4096x1024 .f32) (y : S4096x4096.Idx) (r : Fin 4096) (d : Fin 1024) (h0 : (y 0).val = r.val) (h1 : (y 1).val = 3072 + d.val) :
    gatesH A B y = B (ix2 r d) := by
  pointwise [gatesH]
  rw [dif_neg (by omega), dif_neg (by omega)]
  congr 1
  funext a
  match a with
  | 0 => exact Fin.ext h0
  | 1 => exact Fin.ext (by show (y 1).val - 3072 = d.val; omega)

theorem branchH_at (O : FVec Ideal S4096x512 .f32) (W : FVec Ideal S512x1024 .f32) (r : Fin 4096) (d : Fin 1024) : branchH O W (ix2 r d) = Y O W r d := by
  pointwise [branchH, Y]

/-! The payloads at an entry. -/

section payloads

variable (x0 : FVec Ideal S256x1024 .f32) (x1 : FVec Ideal S1024x1024 .bf16) (g y : FVec Ideal S256x1024 .bf16) (wx : FVec Ideal S1024x1024 .bf16)
  (r : Fin 256) (d : Fin 1024)

theorem pay6_at : k0_pay6 (F := Ideal) x0 x1 (ix2 r d) = ∑ e : Fin 1024, x0 (ix2 r e) * x1 (ix2 d e) := by
  pointwise [k0_pay6]

theorem pay11_at : k0_pay11 (F := Ideal) g (ix2 r d) = logi (g (ix2 r d)) := by
  pointwise [k0_pay11, logi, one]
  simp

theorem pay12_at : k0_pay12 (F := Ideal) g (ix2 r d) = logi (g (ix2 r d)) := by
  pointwise [k0_pay12, logi, one]
  simp

variable (b0 : FVec Ideal S256x1024 .f32) (b1 b6 b7 : FVec Ideal S1024x1024 .bf16) (b2 b3 b4 b5 : FVec Ideal S256x1024 .bf16)

theorem pay14_eq : k0_pay14 (F := Ideal) b0 b1 b2 b3 b4 b5 b6 b7 = k0_pay6 b0 b1 := by unfold k0_pay14; frame_out
theorem pay15_eq : k0_pay15 (F := Ideal) b0 b1 b2 b3 b4 b5 b6 b7 = k0_pay12 b3 := by unfold k0_pay15; frame_out
theorem pay16_eq : k0_pay16 (F := Ideal) b0 b1 b2 b3 b4 b5 b6 b7 = k0_pay13 b0 b1 b2 := by unfold k0_pay16; frame_out

end payloads

/-! The blocks at a grid point. -/

theorem idx : ∀ t : Fin cfg0.N, win0_0.index t = ![t.val, 0] ∧ win0_1.index t = ![0, 0] ∧ win0_2.index t = ![t.val, 2] ∧ win0_3.index t = ![t.val, 3]
    ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem lt16 (t : Fin cfg0.N) : t.val < 16 := lt_of_lt_of_eq t.isLt N_0

/-- The row of the arrays that a row of a block is. -/
def row (t : Fin cfg0.N) (r : Fin 256) : Fin 4096 := ⟨t.val * 256 + r.val, by have := lt16 t; omega⟩

section blocks

variable (m : (ℓ : Loc nD τ sig) → Buf (Elt Ideal) ℓ) (c : Dev nD) (t : Fin cfg0.N)

theorem blk0 (r : Fin 256) (e : Fin 1024) : iblk m c 0 t (ix2 r e) = act m c (ix2 (row t r) e) := by
  blk_simp [iblk]
  rw [V_ct]
  blk_point [idx t, row]

theorem blk1 (d e : Fin 1024) : iblk m c 1 t (ix2 d e) = aw m c (ix2 d e) := by
  blk_simp [iblk]
  rw [V_w]
  pointwise
  blk_point [idx t, row]

theorem blk2 (r : Fin 256) (d : Fin 1024) : iblk m c 2 t (ix2 r d) = aga m c (ix2 (row t r) d) := by
  blk_simp [iblk]
  rw [V_z]
  refine gatesH_a _ _ _ _ _ ?_ ?_ <;> blk_simp [idx t] <;> rfl

theorem blk3 (r : Fin 256) (d : Fin 1024) : iblk m c 3 t (ix2 r d) = agb m c (ix2 (row t r) d) := by
  blk_simp [iblk]
  rw [V_z]
  refine gatesH_b _ _ _ _ _ ?_ ?_ <;> blk_simp [idx t] <;> rfl

theorem blk4 (r : Fin 256) (d : Fin 1024) : iblk m c 4 t (ix2 r d) = Y (aoa m c) (awa m c) (row t r) d := by
  blk_simp [iblk]
  have e : ((View.whole main_v13).slice (win0_4.rect t)).emb (ix2 r d) = (ix2 (row t r) d : S4096x1024.Idx) := by blk_ext [idx t, row]
  rw [V_ya, e, branchH_at]

theorem blk5 (r : Fin 256) (d : Fin 1024) : iblk m c 5 t (ix2 r d) = Y (aob m c) (awb m c) (row t r) d := by
  blk_simp [iblk]
  have e : ((View.whole main_v15).slice (win0_5.rect t)).emb (ix2 r d) = (ix2 (row t r) d : S4096x1024.Idx) := by blk_ext [idx t, row]
  rw [V_yb, e, branchH_at]

theorem blk6 (s d : Fin 1024) : iblk m c 6 t (ix2 s d) = wide (awa m c) s d := by
  blk_simp [iblk]
  have e : ((View.whole main_v3).slice (win0_6.rect t)).emb (ix2 s d) = (ix2 s d : S1024x1024.Idx) := by blk_ext [idx t]
  rw [V_wa, e, rowsH_at]

theorem blk7 (s d : Fin 1024) : iblk m c 7 t (ix2 s d) = wide (awb m c) s d := by
  blk_simp [iblk]
  have e : ((View.whole main_v7).slice (win0_7.rect t)).emb (ix2 s d) = (ix2 s d : S1024x1024.Idx) := by blk_ext [idx t]
  rw [V_wb, e, rowsH_at]

/-- The gradient of the merged rows at a point. -/
theorem dm_at (r : Fin 256) (d : Fin 1024) : k0_pay6 (F := Ideal) (iblk m c 0 t) (iblk m c 1 t) (ix2 r d) = DM (aw m c) (act m c) (row t r) d := by
  rw [pay6_at]
  simp only [blk0, blk1, DM]

theorem dya_at (r : Fin 256) (d : Fin 1024) : k0_pay13 (F := Ideal) (iblk m c 0 t) (iblk m c 1 t) (iblk m c 2 t) (ix2 r d)
    = DM (aw m c) (act m c) (row t r) d * logi (aga m c (ix2 (row t r) d)) := by
  pointwise [k0_pay13]
  rw [dm_at, pay11_at, blk2]

theorem dyb_at (r : Fin 256) (d : Fin 1024) : k0_pay1 (F := Ideal) (k0_pay6 (iblk m c 0 t) (iblk m c 1 t)) (k0_pay12 (iblk m c 3 t)) (ix2 r d)
    = DM (aw m c) (act m c) (row t r) d * logi (agb m c (ix2 (row t r) d)) := by
  pointwise [k0_pay1]
  rw [dm_at, pay12_at, blk3]

theorem dga_at (r : Fin 256) (d : Fin 1024) : k0_pay2 (F := Ideal) (k0_pay6 (iblk m c 0 t) (iblk m c 1 t)) (k0_pay7 (iblk m c 4 t)) (k0_pay11 (iblk m c 2 t)) (ix2 r d)
    = DM (aw m c) (act m c) (row t r) d * Y (aoa m c) (awa m c) (row t r) d
      * (logi (aga m c (ix2 (row t r) d)) * (one - logi (aga m c (ix2 (row t r) d)))) := by
  pointwise [k0_pay2, k0_pay7, one]
  rw [dm_at, pay11_at, blk2, blk4, mul_assoc]

theorem dgb_at (r : Fin 256) (d : Fin 1024) : k0_pay3 (F := Ideal) (k0_pay6 (iblk m c 0 t) (iblk m c 1 t)) (k0_pay8 (iblk m c 5 t)) (k0_pay12 (iblk m c 3 t)) (ix2 r d)
    = DM (aw m c) (act m c) (row t r) d * Y (aob m c) (awb m c) (row t r) d
      * (logi (agb m c (ix2 (row t r) d)) * (one - logi (agb m c (ix2 (row t r) d)))) := by
  pointwise [k0_pay3, k0_pay8, one]
  rw [dm_at, pay12_at, blk3, blk5, mul_assoc]

theorem doa_at (r : Fin 256) (s : Fin 1024) : k0_pay4 (F := Ideal) (k0_pay9 (iblk m c 6 t)) (k0_pay13 (iblk m c 0 t) (iblk m c 1 t) (iblk m c 2 t)) (ix2 r s)
    = ∑ d : Fin 1024, DM (aw m c) (act m c) (row t r) d * logi (aga m c (ix2 (row t r) d)) * wide (awa m c) s d := by
  pointwise [k0_pay4, k0_pay9]
  simp only [dya_at, blk6]

theorem dob_at (r : Fin 256) (s : Fin 1024) : k0_pay5 (F := Ideal) (k0_pay6 (iblk m c 0 t) (iblk m c 1 t)) (k0_pay10 (iblk m c 7 t)) (k0_pay12 (iblk m c 3 t)) (ix2 r s)
    = ∑ d : Fin 1024, DM (aw m c) (act m c) (row t r) d * logi (agb m c (ix2 (row t r) d)) * wide (awb m c) s d := by
  pointwise [k0_pay5, k0_pay10]
  simp only [dyb_at, blk7]

end blocks

section finals

variable (m : (ℓ : Loc nD τ sig) → Buf (Elt Ideal) ℓ) (c : Dev nD)

theorem out8 (t : Fin cfg0.N) (y : S256x1024.Idx) : (dats m 0 c).after 8 t y = DY (aga m c) (aw m c) (act m c) ((win0_8.blk t).view.emb y) := by
  have e0 : (win0_8.blk t).view.emb (ix2 (y 0) (y 1)) = (ix2 (row t (y 0)) (y 1) : S4096x1024.Idx) := by blk_ext [idx t, row]
  rw [eq_ix2 y, e0]
  refine Eq.trans ?_ (dya_at m c t (y 0) (y 1))
  rw [after0_8]; frame_out; rw [pay16_eq]

theorem final8 : (dats m 0 c).arrAt 8 (cfgs 0).N = DY (aga m c) (aw m c) (act m c) := by
  refine (dats m 0 c).arrAt_eq_of_covers 8 _ (by decide +kernel) fun t _ y => ?_
  exact out8 m c t y

theorem out9 (t : Fin cfg0.N) (y : S256x1024.Idx) : (dats m 0 c).after 9 t y = DY (agb m c) (aw m c) (act m c) ((win0_9.blk t).view.emb y) := by
  have e0 : (win0_9.blk t).view.emb (ix2 (y 0) (y 1)) = (ix2 (row t (y 0)) (y 1) : S4096x1024.Idx) := by blk_ext [idx t, row]
  rw [eq_ix2 y, e0]
  refine Eq.trans ?_ (dyb_at m c t (y 0) (y 1))
  rw [after0_9]; frame_out; rw [pay14_eq, pay15_eq]

theorem final9 : (dats m 0 c).arrAt 9 (cfgs 0).N = DY (agb m c) (aw m c) (act m c) := by
  refine (dats m 0 c).arrAt_eq_of_covers 9 _ (by decide +kernel) fun t _ y => ?_
  exact out9 m c t y

theorem out10 (t : Fin cfg0.N) (y : S256x1024.Idx) : (dats m 0 c).after 10 t y = DG (aga m c) (aoa m c) (awa m c) (aw m c) (act m c) ((win0_10.blk t).view.emb y) := by
  have e0 : (win0_10.blk t).view.emb (ix2 (y 0) (y 1)) = (ix2 (row t (y 0)) (y 1) : S4096x1024.Idx) := by blk_ext [idx t, row]
  rw [eq_ix2 y, e0]
  refine Eq.trans ?_ (dga_at m c t (y 0) (y 1))
  rw [after0_10]; frame_out; rw [pay14_eq]

theorem final10 : (dats m 0 c).arrAt 10 (cfgs 0).N = DG (aga m c) (aoa m c) (awa m c) (aw m c) (act m c) := by
  refine (dats m 0 c).arrAt_eq_of_covers 10 _ (by decide +kernel) fun t _ y => ?_
  exact out10 m c t y

theorem out11 (t : Fin cfg0.N) (y : S256x1024.Idx) : (dats m 0 c).after 11 t y = DG (agb m c) (aob m c) (awb m c) (aw m c) (act m c) ((win0_11.blk t).view.emb y) := by
  have e0 : (win0_11.blk t).view.emb (ix2 (y 0) (y 1)) = (ix2 (row t (y 0)) (y 1) : S4096x1024.Idx) := by blk_ext [idx t, row]
  rw [eq_ix2 y, e0]
  refine Eq.trans ?_ (dgb_at m c t (y 0) (y 1))
  rw [after0_11]; frame_out; rw [pay14_eq, pay15_eq]

theorem final11 : (dats m 0 c).arrAt 11 (cfgs 0).N = DG (agb m c) (aob m c) (awb m c) (aw m c) (act m c) := by
  refine (dats m 0 c).arrAt_eq_of_covers 11 _ (by decide +kernel) fun t _ y => ?_
  exact out11 m c t y

theorem out12 (t : Fin cfg0.N) (y : S256x1024.Idx) : (dats m 0 c).after 12 t y = DO (aga m c) (awa m c) (aw m c) (act m c) ((win0_12.blk t).view.emb y) := by
  have e0 : (win0_12.blk t).view.emb (ix2 (y 0) (y 1)) = (ix2 (row t (y 0)) (y 1) : S4096x1024.Idx) := by blk_ext [idx t, row]
  rw [eq_ix2 y, e0]
  refine Eq.trans ?_ (doa_at m c t (y 0) (y 1))
  rw [after0_12]; frame_out; rw [pay16_eq]

theorem final12 : (dats m 0 c).arrAt 12 (cfgs 0).N = DO (aga m c) (awa m c) (aw m c) (act m c) := by
  refine (dats m 0 c).arrAt_eq_of_covers 12 _ (by decide +kernel) fun t _ y => ?_
  exact out12 m c t y

theorem out13 (t : Fin cfg0.N) (y : S256x1024.Idx) : (dats m 0 c).after 13 t y = DO (agb m c) (awb m c) (aw m c) (act m c) ((win0_13.blk t).view.emb y) := by
  have e0 : (win0_13.blk t).view.emb (ix2 (y 0) (y 1)) = (ix2 (row t (y 0)) (y 1) : S4096x1024.Idx) := by blk_ext [idx t, row]
  rw [eq_ix2 y, e0]
  refine Eq.trans ?_ (dob_at m c t (y 0) (y 1))
  rw [after0_13]; frame_out; rw [pay14_eq, pay15_eq]

theorem final13 : (dats m 0 c).arrAt 13 (cfgs 0).N = DO (agb m c) (awb m c) (aw m c) (act m c) := by
  refine (dats m 0 c).arrAt_eq_of_covers 13 _ (by decide +kernel) fun t _ y => ?_
  exact out13 m c t y

end finals

end Cert.Merge

end
-- ==== Proof.Merge.lean ====
/-
  The gradient of the gated merge of the two branches: from the cotangent of the merged rows, the gradients of the branches' projected
  rows, of the gates and of the branches' outputs.
-/
module

public import proofs.«01_k».proof.Defs
public import proofs.«01_k».proof.Proof.Gen.MergeKernelIdeal.Value
public import proofs.«01_k».proof.Proof.Gen.MergeRefIdeal.Run
public import proofs.«01_k».proof.Proof.MergeKern
public import proofs.«01_k».proof.Proof.MergeRef

@[expose] public section

set_option maxRecDepth 16384

noncomputable section

namespace Cert.Merge

open Idealize.ShloMosaic Idealize.ShloMosaic.TcCoe Idealize.SL.Sem

theorem frame_ref : Cert.quiescent_MergeRefIdeal := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

open Cert.MergeKernelIdeal in
theorem algebraic : Cert.algebraic_MergeKernelIdeal_MergeRefIdeal := by
  intro m ρ m' ρ' _ hag
  refine ⟨fun c => DY (aga m c) (aw m c) (act m c), fun c => DY (agb m c) (aw m c) (act m c),
    fun c => DG (aga m c) (aoa m c) (awa m c) (aw m c) (act m c), fun c => DG (agb m c) (aob m c) (awb m c) (aw m c) (act m c),
    fun c => DO (aga m c) (awa m c) (aw m c) (act m c), fun c => DO (agb m c) (awb m c) (aw m c) (act m c),
    (θ_run _ _ _).mono (fun r hr c => ?_) (Cert.MergeKernelIdeal.Value.run_blocks m ρ),
    (θ_run _ _ _).mono (fun r hr c => ?_) (Cert.MergeRefIdeal.Value.run m' ρ')⟩
  · exact ⟨(hr c).1.trans (final8 m c),
      (hr c).2.1.trans (final9 m c),
      (hr c).2.2.1.trans (final10 m c),
      (hr c).2.2.2.1.trans (final11 m c),
      (hr c).2.2.2.2.1.trans (final12 m c),
      (hr c).2.2.2.2.2.1.trans (final13 m c), (hr c).2.2.2.2.2.2⟩
  · obtain ⟨e0, e1, e2, e3, e4, e5, e6, e7⟩ := hag c
    refine ⟨(hr c).1.trans ?_,
      (hr c).2.1.trans ?_,
      (hr c).2.2.1.trans ?_,
      (hr c).2.2.2.1.trans ?_,
      (hr c).2.2.2.2.1.trans ?_,
      (hr c).2.2.2.2.2.1.trans ?_, (hr c).2.2.2.2.2.2⟩
    · rw [e0, e6, e7]; exact ref_dya _ _ _
    · rw [e1, e6, e7]; exact ref_dyb _ _ _
    · rw [e0, e2, e4, e6, e7]; exact ref_dga _ _ _ _ _
    · rw [e1, e3, e5, e6, e7]; exact ref_dgb _ _ _ _ _
    · rw [e0, e4, e6, e7]; exact ref_doa _ _ _ _
    · rw [e1, e5, e6, e7]; exact ref_dob _ _ _ _

end Cert.Merge

end
-- ==== Proof.AttnARef.lean ====
module

public import proofs.«01_k».proof.Proof.Gen.AttnARefIdeal.Read
public import Idealize.ShloMosaic.Lib.Pipeline.ValueKit
public import proofs.«01_k».proof.Proof.Reals

@[expose] public section

set_option maxRecDepth 16384

noncomputable section

namespace Cert.AttnA

open Idealize.ShloMosaic Idealize.ShloMosaic.TcCoe Idealize.SL.Sem
open Cert.Reals
open Cert.AttnARefIdeal
open Cert.AttnARefIdeal.Read Cert.AttnARefIdeal.Gen

variable (q k : S2x2048x8x96.Idx → ℝ) (v ct : S2x2048x8x64.Idx → ℝ)

/-- The score of query `i` against key `j` of head `h` in sequence `b`. -/
def score (b : Fin 2) (h : Fin 8) (i j : Fin 2048) : ℝ := ∑ e : Fin 96, q (ix4 b i h e) * k (ix4 b j h e)

theorem s_at (b : Fin 2) (h : Fin 8) (u : Fin 1) (i j : Fin 2048) :
    val_main_v2 (F := Ideal) (up q) (up k) (ix5 b h u i j) = (score q k b h i j : EReal) := by
  pointwise [val_main_v2, val_main_v1, val_main_v0, up]
  simp only [← EReal.coe_mul, coe_sum, score, mul_comm]

theorem neg_inf : Ideal.ofBits .f32 0xFF800000#32 = ⊥ := by
  simp [Ideal.ofBits, Ideal.ieee]

theorem max_at (X : FVec Ideal S2x8x1x2048x2048 .f32) (b : Fin 2) (h : Fin 8) (u : Fin 1) (i : Fin 2048) :
    Host.reduce FloatOps.maximumf X (val_main_cst (F := Ideal)) reducesTo_S2x8x1x2048x2048_S2x8x1x2048_d4 h_S_ (ix4 b h u i)
      = Finset.univ.fold max (⊥ : EReal) fun x => X (ix5 b h 0 i x) := by
  pointwise [val_main_cst]
  rw [neg_inf]

theorem max_bot_at (X : FVec Ideal S2x8x1x2048 .f32) (i : S2x8x1x2048.Idx) :
    maximumf (val_main_v9 (F := Ideal)) X i = X i := by
  pointwise [val_main_v9, val_main_cst_1]
  rw [neg_inf, max_eq_right bot_le]

/-- The greatest score of a row is a real number. -/
theorem m_at (b : Fin 2) (h : Fin 8) (u : Fin 1) (i : Fin 2048) :
    ∃ M : ℝ, val_main_v10 (F := Ideal) (up q) (up k) (ix4 b h u i) = (M : EReal) := by
  rw [val_main_v10, max_bot_at, val_main_v3, max_at]
  simp only [s_at]
  exact fold_max_real _

theorem exp_sub_at (S : FVec Ideal S2x8x1x2048x2048 .f32) (X : FVec Ideal S2x8x1x2048 .f32)
    (b : Fin 2) (h : Fin 8) (u : Fin 1) (i j : Fin 2048) :
    Host.exp (subf S (broadcastInDim S2x8x1x2048x2048 ![0, 1, 2, 3, 4] bcast_S2x8x1x2048x1_S2x8x1x2048x2048_0_1_2_3_4
      (broadcastInDim S2x8x1x2048x1 ![0, 1, 2, 3] bcast_S2x8x1x2048_S2x8x1x2048x1_0_1_2_3 X))) (ix5 b h u i j)
      = Ideal.exp (S (ix5 b h u i j) - X (ix4 b h 0 i)) := by
  pointwise

theorem p_at (b : Fin 2) (h : Fin 8) (u : Fin 1) (i : Fin 2048) {M : ℝ}
    (hM : val_main_v10 (F := Ideal) (up q) (up k) (ix4 b h 0 i) = (M : EReal)) (j : Fin 2048) :
    val_main_v23 (F := Ideal) (up q) (up k) (ix5 b h u i j) = (Real.exp (score q k b h i j - M) : EReal) := by
  rw [val_main_v23, val_main_v22, val_main_v21, val_main_v20, exp_sub_at, s_at, hM, ← EReal.coe_sub, Ideal.exp_coe]

theorem l_at (b : Fin 2) (h : Fin 8) (u : Fin 1) (i : Fin 2048) {M : ℝ}
    (hM : val_main_v10 (F := Ideal) (up q) (up k) (ix4 b h 0 i) = (M : EReal)) :
    val_main_v24 (F := Ideal) (up q) (up k) (ix4 b h u i) = ((∑ j, Real.exp (score q k b h i j - M) : ℝ) : EReal) := by
  pointwise [val_main_v24, val_main_cst_7]
  simp only [p_at q k b h 0 i hM, coe_sum, zero_add]

theorem w_at (b : Fin 2) (h : Fin 8) (u : Fin 1) (i j : Fin 2048) :
    val_main_v27 (F := Ideal) (up q) (up k) (ix5 b h u i j) = (weight (score q k b h i) j : EReal) := by
  obtain ⟨M, hM⟩ := m_at q k b h 0 i
  pointwise [val_main_v27, val_main_v26, val_main_v25]
  rw [p_at q k b h _ i hM, l_at q k b h _ i hM, div_real _ (sum_exp_pos _).ne', weight_shift]

/-- The gradient of the output of query `i` against the value of key `j`. -/
def outDot (b : Fin 2) (h : Fin 8) (i j : Fin 2048) : ℝ := ∑ e : Fin 64, ct (ix4 b i h e) * v (ix4 b j h e)

theorem d_at (b : Fin 2) (h : Fin 8) (u : Fin 1) (i j : Fin 2048) :
    val_main_v36 (F := Ideal) (up v) (up ct) (ix5 b h u i j) = (outDot v ct b h i j : EReal) := by
  pointwise [val_main_v36, val_main_v35, val_main_v34, up]
  simp only [← EReal.coe_mul, coe_sum, outDot]

theorem unit_sum_at (X : FVec Ideal S2x8x1x2048x1 .f32) (b : Fin 2) (h : Fin 8) (i : Fin 2048) :
    Host.reduceAdd X (val_main_cst_10 (F := Ideal)) reducesTo_S2x8x1x2048x1_S2x8x2048_d2_4 h_S_ (ix3 b h i) = X (ix5 b h 0 i 0) := by
  pointwise [val_main_cst_10]
  rw [Ideal.hostReduceAdd, zero_add]
  refine Finset.sum_eq_single _ (fun x hx hne => absurd ?_ hne) (fun hn => absurd (Finset.mem_filter.mpr ⟨Finset.mem_univ _, ?_⟩) hn)
  · have e := (Finset.mem_filter.mp hx).2
    funext a
    match a with
    | 0 => exact congrFun e 0
    | 1 => exact congrFun e 1
    | 2 => exact Subsingleton.elim (α := Fin 1) _ _
    | 3 => exact congrFun e 2
    | 4 => exact Subsingleton.elim (α := Fin 1) _ _
  · funext a
    match a with
    | 0 => rfl
    | 1 => rfl
    | 2 => rfl

theorem inv_sq_at (X : FVec Ideal S2x8x1x2048x1 .f32) (i : S2x8x1x2048x1.Idx) :
    Host.divf (val_main_v29 (F := Ideal)) (mulf X X) i = Ideal.div 1 (X i * X i) := by
  pointwise [val_main_v29, val_main_cst_8]

theorem spread_at (X : FVec Ideal S2x8x1x2048 .f32) (b : Fin 2) (h : Fin 8) (u : Fin 1) (i : Fin 2048) (w : Fin 1) :
    broadcastInDim S2x8x1x2048x1 ![0, 1, 2, 3] bcast_S2x8x1x2048_S2x8x1x2048x1_0_1_2_3 X (ix5 b h u i w) = X (ix4 b h 0 i) := by
  pointwise

theorem row_at (D P : FVec Ideal S2x8x1x2048x2048 .f32) (L : FVec Ideal S2x8x1x2048x1 .f32)
    (b : Fin 2) (h : Fin 8) (u : Fin 1) (i : Fin 2048) :
    Host.reduceAdd (mulf (mulf D (broadcastInDim S2x8x1x2048x2048 ![0, 1, 2, 3, 4] bcast_S2x8x1x2048x1_S2x8x1x2048x2048_0_1_2_3_4 L)) P)
      (val_main_cst_9 (F := Ideal)) reducesTo_S2x8x1x2048x2048_S2x8x1x2048_d4 h_S_ (ix4 b h u i)
      = ∑ j : Fin 2048, D (ix5 b h 0 i j) * L (ix5 b h 0 i 0) * P (ix5 b h 0 i j) := by
  pointwise [val_main_cst_9]

theorem neg_at (X : FVec Ideal S2x8x1x2048 .f32) (b : Fin 2) (h : Fin 8) (i : Fin 2048) :
    Host.negf (shapeCast S2x8x1x2048x1 X shapeCasts_S2x8x1x2048_S2x8x1x2048x1) (ix5 b h 0 i 0) = -(X (ix4 b h 0 i)) := by
  pointwise

theorem mix_at (D P : FVec Ideal S2x8x1x2048x2048 .f32) (L : FVec Ideal S2x8x1x2048x1 .f32) (N : FVec Ideal S2x8x2048 .f32)
    (b : Fin 2) (h : Fin 8) (u : Fin 1) (i j : Fin 2048) :
    mulf (addf (Host.divf D (broadcastInDim S2x8x1x2048x2048 ![0, 1, 2, 3, 4] bcast_S2x8x1x2048x1_S2x8x1x2048x2048_0_1_2_3_4 L))
        (broadcastInDim S2x8x1x2048x2048 ![0, 1, 2, 3] bcast_S2x8x1x2048_S2x8x1x2048x2048_0_1_2_3
          (broadcastInDim S2x8x1x2048 ![0, 1, 3] bcast_S2x8x2048_S2x8x1x2048_0_1_3 N))) P (ix5 b h u i j)
      = (Ideal.div (D (ix5 b h u i j)) (L (ix5 b h 0 i 0)) + N (ix3 b h i)) * P (ix5 b h u i j) := by
  pointwise

theorem ds_at (b : Fin 2) (h : Fin 8) (u : Fin 1) (i j : Fin 2048) :
    val_main_v51 (F := Ideal) (up q) (up k) (up v) (up ct) (ix5 b h u i j)
      = (weightGrad (score q k b h i) (outDot v ct b h i) j : EReal) := by
  obtain ⟨M, hM⟩ := m_at q k b h 0 i
  have hl := (sum_exp_pos fun j => score q k b h i j - M).ne'
  have e25 : val_main_v25 (F := Ideal) (up q) (up k) (ix5 b h 0 i 0) = ((∑ j, Real.exp (score q k b h i j - M) : ℝ) : EReal) := by
    rw [val_main_v25, spread_at, l_at q k b h _ i hM]
  have e30 : val_main_v30 (F := Ideal) (up q) (up k) (ix5 b h 0 i 0)
      = ((1 / ((∑ j, Real.exp (score q k b h i j - M)) * (∑ j, Real.exp (score q k b h i j - M))) : ℝ) : EReal) := by
    rw [val_main_v30, val_main_v28, inv_sq_at, e25, ← EReal.coe_mul, ← EReal.coe_one, div_real _ (mul_ne_zero hl hl)]
  have e42 : val_main_v42 (F := Ideal) (up q) (up k) (up v) (up ct) (ix4 b h 0 i)
      = ((∑ j, outDot v ct b h i j * (1 / ((∑ j, Real.exp (score q k b h i j - M)) * (∑ j, Real.exp (score q k b h i j - M))))
          * Real.exp (score q k b h i j - M) : ℝ) : EReal) := by
    rw [val_main_v42, val_main_v41, val_main_v40, val_main_v39, row_at]
    simp only [e30, d_at, p_at q k b h _ i hM, ← EReal.coe_mul, coe_sum]
  rw [val_main_v51, val_main_v50, val_main_v49, val_main_v48, val_main_v46, val_main_v45, mix_at, val_main_v47, unit_sum_at,
    val_main_v44, val_main_v43, neg_at, e42, e25, p_at q k b h _ i hM, d_at, div_real _ hl, ← EReal.coe_neg, ← EReal.coe_add,
    ← EReal.coe_mul, quotient_grad]

theorem dq_at (b : Fin 2) (h : Fin 8) (i : Fin 2048) (e : Fin 96) :
    val_main_v57 (F := Ideal) (up q) (up k) (up v) (up ct) (ix4 b i h e)
      = ((∑ j, weightGrad (score q k b h i) (outDot v ct b h i) j * k (ix4 b j h e) : ℝ) : EReal) := by
  pointwise [val_main_v57, val_main_v54, val_main_v53, val_main_v52, val_main_cst_11]
  simp only [ds_at, up, ← EReal.coe_mul, coe_sum, zero_add, Finset.univ_unique, Finset.sum_singleton]

theorem dk_at (b : Fin 2) (h : Fin 8) (j : Fin 2048) (e : Fin 96) :
    val_main_v56 (F := Ideal) (up q) (up k) (up v) (up ct) (ix4 b j h e)
      = ((∑ i, weightGrad (score q k b h i) (outDot v ct b h i) j * q (ix4 b i h e) : ℝ) : EReal) := by
  pointwise [val_main_v56, val_main_v55, val_main_v52, val_main_v0]
  simp only [ds_at, up, ← EReal.coe_mul, coe_sum, Finset.univ_unique, Finset.sum_singleton]

theorem dv_at (b : Fin 2) (h : Fin 8) (j : Fin 2048) (e : Fin 64) :
    val_main_v38 (F := Ideal) (up q) (up k) (up ct) (ix4 b j h e)
      = ((∑ i, weight (score q k b h i) j * ct (ix4 b i h e) : ℝ) : EReal) := by
  pointwise [val_main_v38, val_main_v37, val_main_v35, val_main_v34]
  simp only [w_at, up, ← EReal.coe_mul, coe_sum, zero_add, Finset.univ_unique, Finset.sum_singleton, mul_comm]

/-- The gradient of the scores of query `i`. -/
abbrev gs (b : Fin 2) (h : Fin 8) (i j : Fin 2048) : ℝ := weightGrad (score q k b h i) (outDot v ct b h i) j

/-- The coordinates of an entry of a result: sequence, row, head and the column within the head. -/
def cb (y : S4096x1024.Idx) : Fin 2 := ⟨(y 0).val / 2048, by have : (y 0).val < 4096 := (y 0).isLt; omega⟩
def ci (y : S4096x1024.Idx) : Fin 2048 := ⟨(y 0).val % 2048, by omega⟩
def ch (y : S4096x1024.Idx) : Fin 8 := ⟨(y 1).val / 128, by have : (y 1).val < 1024 := (y 1).isLt; omega⟩
def ce (y : S4096x1024.Idx) : Fin 128 := ⟨(y 1).val % 128, by omega⟩

/-- The gradients of the queries, the keys and the values, each head filled up to 128 columns. -/
def GQ : FVec Ideal S4096x1024 .f32 := fun y =>
  (padr (fun e : Fin 96 => ∑ j, gs q k v ct (cb y) (ch y) (ci y) j * k (ix4 (cb y) j (ch y) e)) (ce y) : EReal)
def GK : FVec Ideal S4096x1024 .bf16 := fun y =>
  (padr (fun e : Fin 96 => ∑ i, gs q k v ct (cb y) (ch y) i (ci y) * q (ix4 (cb y) i (ch y) e)) (ce y) : EReal)
def GV : FVec Ideal S4096x1024 .bf16 := fun y =>
  (padr (fun e : Fin 64 => ∑ i, weight (score q k (cb y) (ch y) i) (ci y) * ct (ix4 (cb y) i (ch y) e)) (ce y) : EReal)

theorem pad_zero (i : S_.Idx) : sitofp (F := Ideal) .f32 (constantI S_ 32 0#32) i = 0 := by
  show (((0#32 : BitVec 32).toInt : ℝ) : EReal) = 0
  simp

theorem ref_dq : val_main_v59 (F := Ideal) (up q) (up k) (up v) (up ct) = GQ q k v ct := by
  funext y
  pointwise [val_main_v59, val_main_v58]
  exact dite_padr _ _ (fun b i h e => dq_at q k v ct b h i e) (pad_zero _) (cb y) (ci y) (ch y) (ce y) _ _ _ _ rfl rfl rfl rfl

theorem ref_dk : val_main_v62 (F := Ideal) (up q) (up k) (up v) (up ct) = GK q k v ct := by
  funext y
  pointwise [val_main_v62, val_main_v61, val_main_v60]
  exact dite_padr _ _ (fun b i h e => dk_at q k v ct b h i e) (pad_zero _) (cb y) (ci y) (ch y) (ce y) _ _ _ _ rfl rfl rfl rfl

theorem ref_dv : val_main_v65 (F := Ideal) (up q) (up k) (up ct) = GV q k ct := by
  funext y
  pointwise [val_main_v65, val_main_v64, val_main_v63]
  exact dite_padr _ _ (fun b i h e => dv_at q k ct b h i e) (pad_zero _) (cb y) (ci y) (ch y) (ce y) _ _ _ _ rfl rfl rfl rfl

end Cert.AttnA

end
-- ==== Proof.AttnAHost.lean ====
module

public import proofs.«01_k».proof.Proof.Gen.AttnAKernelIdeal.Value
public import Idealize.ShloMosaic.Lib.Pipeline.ValueKit
public import proofs.«01_k».proof.Proof.AttnARef

@[expose] public section

set_option maxRecDepth 16384

noncomputable section

namespace Cert.AttnA

open Idealize.ShloMosaic Idealize.ShloMosaic.TcCoe Idealize.SL.Sem
open Cert.Reals
open Cert.AttnAKernelIdeal Cert.AttnAKernelIdeal.Gen

/-! The arrays the windows stage, as functions of the arguments. -/

/-- The zero the host fills with. -/
def zeroH : FVec Ideal S_ .f32 := sitofp .f32 (constantI S_ 32 0#32)

/-- A narrow array, each head filled up to 128 columns. -/
def wideH (X : FVec Ideal S2x2048x8x64 .f32) : FVec Ideal S4096x1024 .f32 :=
  shapeCast S4096x1024 (pad S2x2048x8x128 ![0, 0, 0, 0] ![0, 0, 0, 64] ![0, 0, 0, 0] X zeroH pads_S2x2048x8x64_S2x2048x8x128_000_000_000_0640 h_S_)
    shapeCasts_S2x2048x8x128_S4096x1024

/-- The queries or the keys, each head filled up to 128 columns. -/
def wideH' (X : FVec Ideal S2x2048x8x96 .f32) : FVec Ideal S4096x1024 .f32 :=
  shapeCast S4096x1024 (pad S2x2048x8x128 ![0, 0, 0, 0] ![0, 0, 0, 32] ![0, 0, 0, 0] X zeroH pads_S2x2048x8x96_S2x2048x8x128_000_000_000_0320 h_S_)
    shapeCasts_S2x2048x8x128_S4096x1024

def scoreH (Q K : FVec Ideal S2x2048x8x96 .f32) : FVec Ideal S2x8x2048x2048 .f32 :=
  Host.dotGeneral dot_S2x2048x8x96_S2x2048x8x96_S2x8x2048x2048_3_3_1_1_02_02 none Q K

def topH (S : FVec Ideal S2x8x2048x2048 .f32) : FVec Ideal S2x8x2048x1 .f32 :=
  broadcastInDim S2x8x2048x1 ![0, 1, 2] bcast_S2x8x2048_S2x8x2048x1_0_1_2
    (Host.reduce FloatOps.maximumf S (constant S_ .f32 0xFF800000#32) reducesTo_S2x8x2048x2048_S2x8x2048_d3 h_S_)

def expH (S : FVec Ideal S2x8x2048x2048 .f32) (M : FVec Ideal S2x8x2048x1 .f32) : FVec Ideal S2x8x2048x2048 .f32 :=
  Host.exp (subf S (broadcastInDim S2x8x2048x2048 ![0, 1, 2, 3] bcast_S2x8x2048x1_S2x8x2048x2048_0_1_2_3 M))

def sumH (P : FVec Ideal S2x8x2048x2048 .f32) : FVec Ideal S2x8x2048x1 .f32 :=
  broadcastInDim S2x8x2048x1 ![0, 1, 2] bcast_S2x8x2048_S2x8x2048x1_0_1_2
    (Host.reduceAdd P (constant S_ .f32 0x00000000#32) reducesTo_S2x8x2048x2048_S2x8x2048_d3 h_S_)

def lseH (M L : FVec Ideal S2x8x2048x1 .f32) : FVec Ideal S8x4096x1 .f32 :=
  shapeCast S8x4096x1 (transpose S8x2x2048x1 [1, 0, 2, 3] (addf M (Host.log L)) transposes_S2x8x2048x1_S8x2x2048x1_1_0_2_3)
    shapeCasts_S8x2x2048x1_S8x4096x1

def outH (P : FVec Ideal S2x8x2048x2048 .f32) (L : FVec Ideal S2x8x2048x1 .f32) (V : FVec Ideal S2x2048x8x64 .f32) :
    FVec Ideal S2x2048x8x64 .f32 :=
  transpose S2x2048x8x64 [0, 3, 1, 2] (Host.dotGeneral dot_S2x2048x8x64_S2x8x2048x2048_S2x8x64x2048_1_3_3_2_02_01 none V
    (mulf P (broadcastInDim S2x8x2048x2048 ![0, 1, 2, 3] bcast_S2x8x2048x1_S2x8x2048x2048_0_1_2_3
      (Host.divf (broadcastInDim S2x8x2048x1 ![] bcast_S_S2x8x2048x1 (constant S_ .f32 0x3F800000#32)) L))))
    transposes_S2x8x64x2048_S2x2048x8x64_0_3_1_2

section entry

variable (m : (ℓ : Loc nD τ sig) → Buf (Elt Ideal) ℓ) (c : Dev nD)

theorem V_def (b : Ref sig .tc) : V m c b = StableHlo.after hostOps0_10 (StableHlo.after hostOps0_9 (StableHlo.after hostOps0_8
    (StableHlo.after hostOps0_7 (StableHlo.after hostOps0_6 (StableHlo.after hostOps0_5 (StableHlo.after hostOps0_4 (StableHlo.after hostOps0_3
    (StableHlo.after hostOps0_2 (StableHlo.after hostOps0_1 (StableHlo.after hostOps0 (fun b => m (c, b)))))))))))) b := rfl

def aq : FVec Ideal S2x2048x8x96 .f32 := m ((c : Thread nD τ).loc main_arg0)
def ak : FVec Ideal S2x2048x8x96 .f32 := m ((c : Thread nD τ).loc main_arg1)
def av : FVec Ideal S2x2048x8x64 .f32 := m ((c : Thread nD τ).loc main_arg2)
def act : FVec Ideal S2x2048x8x64 .f32 := m ((c : Thread nD τ).loc main_arg3)

theorem V_q : V m c main_v2 = (truncf .bf16 (wideH' (aq m c)) bitsLt_bf16_f32 : FVec Ideal S4096x1024 .bf16) := by
  rw [V_def]; after_results; rfl

theorem V_kv : V m c main_v8 = (truncf .bf16 (concatenate S4096x2048 1 [⟨S4096x1024, wideH' (ak m c)⟩, ⟨S4096x1024, wideH (av m c)⟩] concatenates_S4096x1024_S4096x1024_S4096x2048_d1) bitsLt_bf16_f32 : FVec Ideal S4096x2048 .bf16) := by
  rw [V_def]; after_results; rfl

theorem V_ct : V m c main_v11 = (truncf .bf16 (wideH (act m c)) bitsLt_bf16_f32 : FVec Ideal S4096x1024 .bf16) := by
  rw [V_def]; after_results; rfl

theorem V_lse : V m c main_v29 = (lseH (topH (scoreH (aq m c) (ak m c))) (sumH (expH (scoreH (aq m c) (ak m c)) (topH (scoreH (aq m c) (ak m c)))))
    : FVec Ideal S8x4096x1 .f32) := by
  rw [V_def]; after_results; rfl

theorem V_o : V m c main_v32 = (truncf .bf16 (wideH (outH (expH (scoreH (aq m c) (ak m c)) (topH (scoreH (aq m c) (ak m c))))
    (sumH (expH (scoreH (aq m c) (ak m c)) (topH (scoreH (aq m c) (ak m c))))) (av m c))) bitsLt_bf16_f32 : FVec Ideal S4096x1024 .bf16) := by
  rw [V_def]; after_results; rfl

end entry

/-! What those arrays hold when the arguments are real. -/

variable (q k : S2x2048x8x96.Idx → ℝ) (v ct : S2x2048x8x64.Idx → ℝ)

theorem zeroH_at (i : S_.Idx) : zeroH i = 0 := by
  pointwise [zeroH]
  show (((0#32 : BitVec 32).toInt : ℝ) : EReal) = 0
  simp

theorem wideH_at (x : S2x2048x8x64.Idx → ℝ) (b : Fin 2) (i : Fin 2048) (h : Fin 8) (e : Fin 128) (y : S4096x1024.Idx)
    (hr : (y 0).val = b.val * 2048 + i.val) (hs : (y 1).val = h.val * 128 + e.val) :
    wideH (up x) y = (padr (fun e => x (ix4 b i h e)) e : EReal) := by
  have h1 : (y 0).val / 2048 = b.val := by omega
  have h2 : (y 0).val % 2048 = i.val := by omega
  have h3 : (y 1).val / 128 = h.val := by omega
  have h4 : (y 1).val % 128 = e.val := by omega
  pointwise [wideH]
  exact dite_padr (up x) (fun b i h e => x (ix4 b i h e)) (fun _ _ _ _ => rfl) (zeroH_at _) b i h e _ _ _ _ h1 h2 h3 h4

theorem wideH'_at (x : S2x2048x8x96.Idx → ℝ) (b : Fin 2) (i : Fin 2048) (h : Fin 8) (e : Fin 128) (y : S4096x1024.Idx)
    (hr : (y 0).val = b.val * 2048 + i.val) (hs : (y 1).val = h.val * 128 + e.val) :
    wideH' (up x) y = (padr (fun e => x (ix4 b i h e)) e : EReal) := by
  have h1 : (y 0).val / 2048 = b.val := by omega
  have h2 : (y 0).val % 2048 = i.val := by omega
  have h3 : (y 1).val / 128 = h.val := by omega
  have h4 : (y 1).val % 128 = e.val := by omega
  pointwise [wideH']
  exact dite_padr (up x) (fun b i h e => x (ix4 b i h e)) (fun _ _ _ _ => rfl) (zeroH_at _) b i h e _ _ _ _ h1 h2 h3 h4

/-- Keys and values side by side: the first 1024 columns, and the others. -/
theorem left_at (A B : FVec Ideal S4096x1024 .f32) (y : S4096x2048.Idx) (x : S4096x1024.Idx) (hr : (y 0).val = (x 0).val) (hs : (y 1).val = (x 1).val) :
    concatenate S4096x2048 1 [⟨S4096x1024, A⟩, ⟨S4096x1024, B⟩] concatenates_S4096x1024_S4096x1024_S4096x2048_d1 y = A x := by
  pointwise
  have hx : (x 1).val < 1024 := (x 1).isLt
  rw [dif_pos (by omega)]
  congr 1
  funext a
  match a with
  | 0 => exact Fin.ext hr
  | 1 => exact Fin.ext hs

theorem right_at (A B : FVec Ideal S4096x1024 .f32) (y : S4096x2048.Idx) (x : S4096x1024.Idx) (hr : (y 0).val = (x 0).val) (hs : (y 1).val = (x 1).val + 1024) :
    concatenate S4096x2048 1 [⟨S4096x1024, A⟩, ⟨S4096x1024, B⟩] concatenates_S4096x1024_S4096x1024_S4096x2048_d1 y = B x := by
  pointwise
  rw [dif_neg (by omega)]
  congr 1
  funext a
  match a with
  | 0 => exact Fin.ext hr
  | 1 => exact Fin.ext (by show (y 1).val - 1024 = (x 1).val; omega)

theorem scoreH_at (b : Fin 2) (h : Fin 8) (i j : Fin 2048) :
    scoreH (up q) (up k) (ix4 b h i j) = (score q k b h i j : EReal) := by
  pointwise [scoreH, up]
  simp only [← EReal.coe_mul, coe_sum, score]

theorem topH_at (X : FVec Ideal S2x8x2048x2048 .f32) (b : Fin 2) (h : Fin 8) (i : Fin 2048) (u : Fin 1) :
    topH X (ix4 b h i u) = Finset.univ.fold max (⊥ : EReal) fun x => X (ix4 b h i x) := by
  pointwise [topH]
  rw [neg_inf]

theorem top_real (b : Fin 2) (h : Fin 8) (i : Fin 2048) :
    ∃ M : ℝ, ∀ u, topH (scoreH (up q) (up k)) (ix4 b h i u) = (M : EReal) := by
  obtain ⟨M, hM⟩ := fold_max_real fun j => score q k b h i j
  refine ⟨M, fun u => ?_⟩
  rw [topH_at]
  simp only [scoreH_at]
  exact hM

theorem expH_at (S : FVec Ideal S2x8x2048x2048 .f32) (X : FVec Ideal S2x8x2048x1 .f32) (b : Fin 2) (h : Fin 8) (i j : Fin 2048) :
    expH S X (ix4 b h i j) = Ideal.exp (S (ix4 b h i j) - X (ix4 b h i 0)) := by
  pointwise [expH]

theorem sumH_at (X : FVec Ideal S2x8x2048x2048 .f32) (b : Fin 2) (h : Fin 8) (i : Fin 2048) (u : Fin 1) :
    sumH X (ix4 b h i u) = ∑ j : Fin 2048, X (ix4 b h i j) := by
  pointwise [sumH]

theorem lseH_at (M L : FVec Ideal S2x8x2048x1 .f32) (b : Fin 2) (h : Fin 8) (i : Fin 2048) (y : S8x4096x1.Idx)
    (hh : (y 0).val = h.val) (hr : (y 1).val = b.val * 2048 + i.val) :
    lseH M L y = M (ix4 b h i 0) + Ideal.log (L (ix4 b h i 0)) := by
  have hy : (y 1).val < 4096 := (y 1).isLt
  have e0 : y 0 = h := Fin.ext hh
  have e1 : (⟨(y 1).val / 2048, by omega⟩ : Fin 2) = b := Fin.ext (by show (y 1).val / 2048 = b.val; omega)
  have e2 : (⟨(y 1).val % 2048, by omega⟩ : Fin 2048) = i := Fin.ext (by show (y 1).val % 2048 = i.val; omega)
  pointwise [lseH]
  simp only [e0, e1, e2]

theorem outH_at (P : FVec Ideal S2x8x2048x2048 .f32) (L : FVec Ideal S2x8x2048x1 .f32) (X : FVec Ideal S2x2048x8x64 .f32)
    (b : Fin 2) (i : Fin 2048) (h : Fin 8) (e : Fin 64) :
    outH P L X (ix4 b i h e) = ∑ j : Fin 2048, X (ix4 b j h e) * (P (ix4 b h i j) * Ideal.div 1 (L (ix4 b h i 0))) := by
  pointwise [outH]

/-- The logarithm of the sum of a row's exponentials, the row's greatest score `M` taken out. -/
theorem lse_real (b : Fin 2) (h : Fin 8) (i : Fin 2048) : ∃ M : ℝ,
    (∀ y : S8x4096x1.Idx, (y 0).val = h.val → (y 1).val = b.val * 2048 + i.val →
      lseH (topH (scoreH (up q) (up k))) (sumH (expH (scoreH (up q) (up k)) (topH (scoreH (up q) (up k))))) y
        = (M + Real.log (∑ j, Real.exp (score q k b h i j - M)) : ℝ)) ∧
    ∀ e, outH (expH (scoreH (up q) (up k)) (topH (scoreH (up q) (up k)))) (sumH (expH (scoreH (up q) (up k)) (topH (scoreH (up q) (up k)))))
        (up v) (ix4 b i h e) = ((∑ j, weight (score q k b h i) j * v (ix4 b j h e) : ℝ) : EReal) := by
  obtain ⟨M, hM⟩ := top_real q k b h i
  have hs : sumH (expH (scoreH (up q) (up k)) (topH (scoreH (up q) (up k)))) (ix4 b h i 0)
      = ((∑ j, Real.exp (score q k b h i j - M) : ℝ) : EReal) := by
    rw [sumH_at]
    simp only [expH_at, scoreH_at, hM, ← EReal.coe_sub, Ideal.exp_coe, coe_sum]
  have hp := sum_exp_pos fun j => score q k b h i j - M
  refine ⟨M, fun y hh hr => ?_, fun e => ?_⟩
  · rw [lseH_at _ _ b h i y hh hr, hM, hs, log_real hp, ← EReal.coe_add]
  · rw [outH_at]
    simp only [hs, expH_at, scoreH_at, hM, ← EReal.coe_sub, Ideal.exp_coe, up, ← EReal.coe_one, div_real _ hp.ne', ← EReal.coe_mul, coe_sum]
    congr 1
    refine Finset.sum_congr rfl fun j _ => ?_
    rw [← weight_shift (score q k b h i) M j]
    ring

theorem outH_up : outH (expH (scoreH (up q) (up k)) (topH (scoreH (up q) (up k))))
      (sumH (expH (scoreH (up q) (up k)) (topH (scoreH (up q) (up k))))) (up v)
    = up fun y => ∑ j, weight (score q k (y 0) (y 2) (y 1)) j * v (ix4 (y 0) j (y 2) (y 3)) := by
  funext y
  obtain ⟨M, _, h⟩ := lse_real q k v (y 0) (y 2) (y 1)
  refine Eq.trans (congrArg _ ?_) (h (y 3))
  funext a
  match a with
  | 0 => rfl
  | 1 => rfl
  | 2 => rfl
  | 3 => rfl

end Cert.AttnA

end
-- ==== Proof.AttnAKern.lean ====
module

public import Idealize.ShloMosaic.Lib.Pipeline.ReadBack
public import proofs.«01_k».proof.Proof.Gen.AttnAKernelIdeal.Value
public import Idealize.ShloMosaic.Lib.Pipeline.ValueKit
public import proofs.«01_k».proof.Proof.AttnAHost

@[expose] public section

set_option maxRecDepth 16384

noncomputable section

namespace Cert.AttnA

open Idealize.ShloMosaic Idealize.ShloMosaic.TcCoe Idealize.SL.Sem
open Cert.Reals
open Cert.AttnAKernelIdeal Cert.AttnAKernelIdeal.Gen

variable (q k : S2x2048x8x96.Idx → ℝ) (v ct : S2x2048x8x64.Idx → ℝ)

/-! What a grid point computes from its blocks, when they hold real numbers. -/

section block

variable {n : ℕ} (Q : Fin 1024 → Fin 128 → ℝ) (K W : Fin 2048 → Fin 128 → ℝ) (O C : Fin 1024 → Fin 128 → ℝ) (l : Fin 1024 → ℝ)
  {x0 x3 x4 : Vec Ideal S1024x128 .bf16} {x1 x2 : Vec Ideal S2048x128 .bf16} {x5 : Vec Ideal S1x1024x1 .f32}
  (h0 : ∀ r e, x0 (ix2 r e) = (Q r e : EReal)) (h1 : ∀ j e, x1 (ix2 j e) = (K j e : EReal)) (h2 : ∀ j e, x2 (ix2 j e) = (W j e : EReal))
  (h3 : ∀ r e, x3 (ix2 r e) = (O r e : EReal)) (h4 : ∀ r e, x4 (ix2 r e) = (C r e : EReal)) (h5 : ∀ r, x5 (ix3 0 r 0) = (l r : EReal))

/-- The weight of key `j` for the block's query `r`. -/
def bw (r : Fin 1024) (j : Fin 2048) : ℝ := Real.exp (∑ e, Q r e * K j e - l r)

/-- The gradient of that weight's score. -/
def bg (r : Fin 1024) (j : Fin 2048) : ℝ := bw Q K l r j * (∑ e, C r e * W j e - ∑ e, C r e * O r e)

include h0 h1 h5

theorem pay10_at (r : Fin 1024) (j : Fin 2048) : k0_pay10 x0 x1 x5 (ix2 r j) = (bw Q K l r j : EReal) := by
  pointwise [k0_pay10, k0_pay7, k0_pay8]
  simp only [h0, h1, h5, ← EReal.coe_mul, coe_sum, ← EReal.coe_sub, Ideal.exp_coe, bw]

include h4

theorem pay14_at (j : Fin 2048) (e : Fin 128) : k0_pay14 x0 x1 x4 x5 (ix2 j e) = ((∑ r, bw Q K l r j * C r e : ℝ) : EReal) := by
  pointwise [k0_pay14, k0_pay9]
  simp only [pay10_at Q K l h0 h1 h5, h4, ← EReal.coe_mul, coe_sum]

include h2 h3

theorem pay11_at (r : Fin 1024) (j : Fin 2048) : k0_pay11 x0 x1 x2 x4 x5 x3 (ix2 r j) = (bg Q K W O C l r j : EReal) := by
  pointwise [k0_pay11, k0_pay9]
  simp only [pay10_at Q K l h0 h1 h5, h2, h3, h4, ← EReal.coe_mul, coe_sum, ← EReal.coe_sub, bg]

theorem pay12_at (r : Fin 1024) (e : Fin 128) : k0_pay12 x0 x1 x2 x4 x5 x3 (ix2 r e) = ((∑ j, bg Q K W O C l r j * K j e : ℝ) : EReal) := by
  pointwise [k0_pay12, k0_pay8]
  simp only [pay11_at Q K W O C l h0 h1 h2 h3 h4 h5, h1, ← EReal.coe_mul, coe_sum]

theorem pay13_at (j : Fin 2048) (e : Fin 128) : k0_pay13 x0 x1 x2 x4 x5 x3 (ix2 j e) = ((∑ r, bg Q K W O C l r j * Q r e : ℝ) : EReal) := by
  pointwise [k0_pay13, k0_pay7]
  simp only [pay11_at Q K W O C l h0 h1 h2 h3 h4 h5, h0, ← EReal.coe_mul, coe_sum]

end block

/-! The blocks at a grid point. -/

theorem idx : ∀ t : Fin cfg0.N, win0_0.index t = ![t.val / 2 % 2 * 2 + t.val % 2, t.val / 4] ∧ win0_1.index t = ![t.val / 2 % 2, t.val / 4]
    ∧ win0_2.index t = ![t.val / 2 % 2, 8 + t.val / 4] ∧ win0_3.index t = ![t.val / 2 % 2 * 2 + t.val % 2, t.val / 4]
    ∧ win0_4.index t = ![t.val / 2 % 2 * 2 + t.val % 2, t.val / 4] ∧ win0_5.index t = ![t.val / 4, t.val / 2 % 2 * 2 + t.val % 2, 0]
    ∧ win0_6.index t = ![t.val / 2 % 2 * 2 + t.val % 2, t.val / 4] ∧ win0_7.index t = ![t.val / 2 % 2, t.val / 4]
    ∧ win0_8.index t = ![t.val / 2 % 2, t.val / 4] :=
  (by decide +kernel : ∀ t : Fin grid0.N, _)

theorem lt32 (t : Fin cfg0.N) : t.val < 32 := lt_of_lt_of_eq t.isLt N_0

/-- The sequence, the head and the query row of a grid point. -/
def tb (t : Fin cfg0.N) : Fin 2 := ⟨t.val / 2 % 2, by omega⟩
def th (t : Fin cfg0.N) : Fin 8 := ⟨t.val / 4, by have := lt32 t; omega⟩
def ti (t : Fin cfg0.N) (r : Fin 1024) : Fin 2048 := ⟨t.val % 2 * 1024 + r.val, by omega⟩

section blocks

variable (m : (ℓ : Loc nD τ sig) → Buf (Elt Ideal) ℓ) (c : Dev nD)
  (hq : aq m c = up q) (hk : ak m c = up k) (hv : av m c = up v) (hct : act m c = up ct) (t : Fin cfg0.N)

include hq

theorem blk0 (r : Fin 1024) (e : Fin 128) : iblk m c 0 t (ix2 r e) = (padr (fun e => q (ix4 (tb t) (ti t r) (th t) e)) e : EReal) := by
  blk_simp [iblk]
  rw [V_q, hq]
  refine wideH'_at q (tb t) (ti t r) (th t) e _ ?_ ?_ <;> blk_simp [idx t] <;> simp only [tb, th, ti] <;> omega

omit hq
include hct

theorem blk4 (r : Fin 1024) (e : Fin 128) : iblk m c 4 t (ix2 r e) = (padr (fun e => ct (ix4 (tb t) (ti t r) (th t) e)) e : EReal) := by
  blk_simp [iblk]
  rw [V_ct, hct]
  refine wideH_at ct (tb t) (ti t r) (th t) e _ ?_ ?_ <;> blk_simp [idx t] <;> simp only [tb, th, ti] <;> omega

omit hct
include hk

theorem blk1 (j : Fin 2048) (e : Fin 128) : iblk m c 1 t (ix2 j e) = (padr (fun e => k (ix4 (tb t) j (th t) e)) e : EReal) := by
  blk_simp [iblk]
  rw [V_kv, hk]
  have hb := (tb t).isLt; have hh := (th t).isLt
  refine (left_at _ _ _ (ix2 ⟨(tb t).val * 2048 + j.val, by omega⟩ ⟨(th t).val * 128 + e.val, by omega⟩) ?_ ?_).trans
    (wideH'_at k (tb t) j (th t) e _ rfl rfl) <;> blk_simp [idx t] <;> simp only [tb, th] <;> omega

omit hk
include hv

theorem blk2 (j : Fin 2048) (e : Fin 128) : iblk m c 2 t (ix2 j e) = (padr (fun e => v (ix4 (tb t) j (th t) e)) e : EReal) := by
  blk_simp [iblk]
  rw [V_kv, hv]
  have hb := (tb t).isLt; have hh := (th t).isLt
  refine (right_at _ _ _ (ix2 ⟨(tb t).val * 2048 + j.val, by omega⟩ ⟨(th t).val * 128 + e.val, by omega⟩) ?_ ?_).trans
    (wideH_at v (tb t) j (th t) e _ rfl rfl) <;> blk_simp [idx t] <;> simp only [tb, th] <;> omega

include hq hk

theorem blk3 (r : Fin 1024) (e : Fin 128) : iblk m c 3 t (ix2 r e)
    = (padr (fun e => ∑ j, weight (score q k (tb t) (th t) (ti t r)) j * v (ix4 (tb t) j (th t) e)) e : EReal) := by
  blk_simp [iblk]
  rw [V_o, hq, hk, hv, outH_up]
  refine wideH_at _ (tb t) (ti t r) (th t) e _ ?_ ?_ <;> blk_simp [idx t] <;> simp only [tb, th, ti] <;> omega

omit hv

omit hq hk in
theorem read5 (W : (b : Ref sig .tc) → Buf (Elt Ideal) ((c : Thread nD τ).loc b)) (r : Fin 1024) :
    ((cfg0.win 5).blk t).view.read (Elt Ideal) (W (Pipeline.arrRef spec0 5)) (ix3 0 r 0) = W main_v29 ((win0_5.blk t).view.emb (ix3 0 r 0)) := by
  blk_simp

omit hq hk in
theorem stage5 (r : Fin 1024) : iblk m c 5 t (ix3 0 r 0) = V m c main_v29 ((win0_5.blk t).view.emb (ix3 0 r 0)) :=
  read5 c t (V m c) r

theorem at5 (y) : V m c main_v29 y = lseH (topH (scoreH (up q) (up k))) (sumH (expH (scoreH (up q) (up k)) (topH (scoreH (up q) (up k))))) y := by
  rw [V_lse, hq, hk]

theorem blk5 (r : Fin 1024) : ∃ M : ℝ,
    iblk m c 5 t (ix3 0 r 0) = ((M + Real.log (∑ j, Real.exp (score q k (tb t) (th t) (ti t r) j - M)) : ℝ) : EReal) := by
  obtain ⟨M, hl, _⟩ := lse_real q k (fun _ => 0) (tb t) (th t) (ti t r)
  refine ⟨M, (stage5 m c t r).trans ((at5 q k m c hq hk _).trans (hl _ ?_ ?_))⟩ <;> blk_simp [idx t] <;> simp only [tb, th, ti]
  · rfl
  · omega

include hv hct

theorem parts (r : Fin 1024) (j : Fin 2048) (e : Fin 128) :
    k0_pay12 (iblk m c 0 t) (iblk m c 1 t) (iblk m c 2 t) (iblk m c 4 t) (iblk m c 5 t) (iblk m c 3 t) (ix2 r e)
      = (padr (fun e => ∑ j, gs q k v ct (tb t) (th t) (ti t r) j * k (ix4 (tb t) j (th t) e)) e : EReal) ∧
    k0_pay13 (iblk m c 0 t) (iblk m c 1 t) (iblk m c 2 t) (iblk m c 4 t) (iblk m c 5 t) (iblk m c 3 t) (ix2 j e)
      = (padr (fun e => ∑ r, gs q k v ct (tb t) (th t) (ti t r) j * q (ix4 (tb t) (ti t r) (th t) e)) e : EReal) ∧
    k0_pay14 (iblk m c 0 t) (iblk m c 1 t) (iblk m c 4 t) (iblk m c 5 t) (ix2 j e)
      = (padr (fun e => ∑ r, weight (score q k (tb t) (th t) (ti t r)) j * ct (ix4 (tb t) (ti t r) (th t) e)) e : EReal) := by
  choose M hM using blk5 q k m c hq hk t
  have w : ∀ r j, bw (fun r => padr fun e => q (ix4 (tb t) (ti t r) (th t) e)) (fun j => padr fun e => k (ix4 (tb t) j (th t) e))
      (fun r => M r + Real.log (∑ j, Real.exp (score q k (tb t) (th t) (ti t r) j - M r))) r j
        = weight (score q k (tb t) (th t) (ti t r)) j := fun r j => by
    unfold bw
    rw [sum_padr_mul (by decide)]
    exact exp_sub_lse (score q k (tb t) (th t) (ti t r)) (M r) j
  have g : ∀ r j, bg (fun r => padr fun e => q (ix4 (tb t) (ti t r) (th t) e)) (fun j => padr fun e => k (ix4 (tb t) j (th t) e))
      (fun j => padr fun e => v (ix4 (tb t) j (th t) e))
      (fun r => padr fun e => ∑ j, weight (score q k (tb t) (th t) (ti t r)) j * v (ix4 (tb t) j (th t) e))
      (fun r => padr fun e => ct (ix4 (tb t) (ti t r) (th t) e))
      (fun r => M r + Real.log (∑ j, Real.exp (score q k (tb t) (th t) (ti t r) j - M r))) r j
        = gs q k v ct (tb t) (th t) (ti t r) j := fun r j => by
    unfold bg
    rw [w, sum_padr_mul (by decide), sum_padr_mul (by decide), output_grad]
    rfl
  refine ⟨(pay12_at _ _ _ _ _ _ (blk0 q m c hq t) (blk1 k m c hk t) (blk2 v m c hv t) (blk3 q k v m c hq hk hv t) (blk4 ct m c hct t) hM r e).trans ?_,
    (pay13_at _ _ _ _ _ _ (blk0 q m c hq t) (blk1 k m c hk t) (blk2 v m c hv t) (blk3 q k v m c hq hk hv t) (blk4 ct m c hct t) hM j e).trans ?_,
    (pay14_at _ _ _ _ (blk0 q m c hq t) (blk1 k m c hk t) (blk4 ct m c hct t) hM j e).trans ?_⟩ <;> congr 1
  · simp only [g]; exact sum_mul_padr _ _ _
  · simp only [g]; exact sum_mul_padr _ _ _
  · simp only [w]; exact sum_mul_padr _ _ _

omit hq hk hv hct in
/-- The two halves of the queries together. -/
theorem halves (s : Fin cfg0.N) (hs : s.val + 1 = t.val) (ho : t.val % 2 = 1) (f : Fin 2048 → ℝ) :
    ∑ r, f (ti s r) + ∑ r, f (ti t r) = ∑ i, f i := by
  rw [Fin.sum_univ_add (a := 1024) (b := 1024) f]
  congr 1 <;> refine Finset.sum_congr rfl fun r _ => congrArg f (Fin.ext ?_)
  · show s.val % 2 * 1024 + r.val = r.val; omega
  · show t.val % 2 * 1024 + r.val = 1024 + r.val; omega

omit hq hk hv hct

/-- Where an entry of a block lies in the result. -/
theorem place (y : S4096x1024.Idx) (i : Fin 2048) (e : Fin 128) (h0 : (y 0).val = (tb t).val * 2048 + i.val)
    (h1 : (y 1).val = (th t).val * 128 + e.val) : cb y = tb t ∧ ci y = i ∧ ch y = th t ∧ ce y = e :=
  ⟨Fin.ext (by simp only [cb]; omega), Fin.ext (by simp only [ci]; omega), Fin.ext (by simp only [ch]; omega), Fin.ext (by simp only [ce]; omega)⟩

include hq hk hv hct

theorem final6 : (dats m 0 c).arrAt 6 (cfgs 0).N = GQ q k v ct := by
  refine (dats m 0 c).arrAt_eq_of_covers 6 _ (by decide +kernel) fun t _ y => ?_
  blk_simp
  rw [after0_6]
  have key : ∀ (r : Fin 1024) (e : Fin 128), k0_pay12 (iblk m c 0 t) (iblk m c 1 t) (iblk m c 2 t) (iblk m c 4 t) (iblk m c 5 t) (iblk m c 3 t) (ix2 r e)
      = GQ q k v ct ((win0_6.blk t).view.emb (ix2 r e)) := fun r e => by
    obtain ⟨e1, e2, e3, e4⟩ := place t ((win0_6.blk t).view.emb (ix2 r e)) (ti t r) e
      (by blk_simp [idx t]; simp only [tb, ti]; omega) (by blk_simp [idx t]; simp only [th])
    rw [GQ, e1, e2, e3, e4]
    exact (parts q k v ct m c hq hk hv hct t r 0 e).1
  rcases Nat.mod_two_eq_zero_or_one t.val with h | h
  · rw [outsAt0_A m c t h (by omega) (by omega)]; frame_out
    exact key (y 0) (y 1)
  · rw [outsAt0_B m c t (by omega) h h]; frame_out
    exact key (y 0) (y 1)

omit hq hk hv hct in
/-- The point before an odd one. -/
def prev (h : t.val % 2 = 1) : Fin cfg0.N := ⟨t.val - 1, by have := t.isLt; omega⟩

theorem dk_sum (h : t.val % 2 = 1) (j : Fin 2048) (e : Fin 128) :
    k0_pay13 (iblk m c 0 (prev t h)) (iblk m c 1 (prev t h)) (iblk m c 2 (prev t h)) (iblk m c 4 (prev t h)) (iblk m c 5 (prev t h)) (iblk m c 3 (prev t h)) (ix2 j e)
      + k0_pay13 (iblk m c 0 t) (iblk m c 1 t) (iblk m c 2 t) (iblk m c 4 t) (iblk m c 5 t) (iblk m c 3 t) (ix2 j e)
      = GK q k v ct ((win0_7.blk t).view.emb (ix2 j e)) := by
  obtain ⟨e1, e2, e3, e4⟩ := place t ((win0_7.blk t).view.emb (ix2 j e)) j e
    (by blk_simp [idx t]; simp only [tb]) (by blk_simp [idx t]; simp only [th])
  have hb : tb (prev t h) = tb t := Fin.ext (by simp only [tb, prev]; omega)
  have hh : th (prev t h) = th t := Fin.ext (by simp only [th, prev]; omega)
  rw [GK, e1, e2, e3, e4, (parts q k v ct m c hq hk hv hct t 0 j e).2.1, (parts q k v ct m c hq hk hv hct (prev t h) 0 j e).2.1, hb, hh,
    ← EReal.coe_add, padr_add]
  refine congrArg (fun f => ((padr f e : ℝ) : EReal)) (funext fun e => ?_)
  exact halves t (prev t h) (by simp only [prev]; omega) h (fun i => gs q k v ct (tb t) (th t) i j * q (ix4 (tb t) i (th t) e))

theorem dv_sum (h : t.val % 2 = 1) (j : Fin 2048) (e : Fin 128) :
    k0_pay14 (iblk m c 0 (prev t h)) (iblk m c 1 (prev t h)) (iblk m c 4 (prev t h)) (iblk m c 5 (prev t h)) (ix2 j e)
      + k0_pay14 (iblk m c 0 t) (iblk m c 1 t) (iblk m c 4 t) (iblk m c 5 t) (ix2 j e)
      = GV q k ct ((win0_8.blk t).view.emb (ix2 j e)) := by
  obtain ⟨e1, e2, e3, e4⟩ := place t ((win0_8.blk t).view.emb (ix2 j e)) j e
    (by blk_simp [idx t]; simp only [tb]) (by blk_simp [idx t]; simp only [th])
  have hb : tb (prev t h) = tb t := Fin.ext (by simp only [tb, prev]; omega)
  have hh : th (prev t h) = th t := Fin.ext (by simp only [th, prev]; omega)
  rw [GV, e1, e2, e3, e4, (parts q k v ct m c hq hk hv hct t 0 j e).2.2, (parts q k v ct m c hq hk hv hct (prev t h) 0 j e).2.2, hb, hh,
    ← EReal.coe_add, padr_add]
  refine congrArg (fun f => ((padr f e : ℝ) : EReal)) (funext fun e => ?_)
  exact halves t (prev t h) (by simp only [prev]; omega) h (fun i => weight (score q k (tb t) (th t) i) j * ct (ix4 (tb t) i (th t) e))

omit hq hk hv hct in
/-- The second step's output: the first step's part plus its own. -/
theorem pay531 (a b : FVec Ideal S2048x128 .f32) (y : S2048x128.Idx) : k0_pay5 (k0_pay3 a (k0_pay1 b)) y = b y + a y := by
  pointwise [k0_pay5, k0_pay3, k0_pay1]

omit hq hk hv hct in
theorem pay642 (a b : FVec Ideal S2048x128 .f32) (y : S2048x128.Idx) : k0_pay6 (k0_pay4 a (k0_pay2 b)) y = b y + a y := by
  pointwise [k0_pay6, k0_pay4, k0_pay2]

theorem final7 : (dats m 0 c).arrAt 7 (cfgs 0).N = GK q k v ct := by
  refine (dats m 0 c).arrAt_eq_of_covers 7 _ (by decide +kernel) fun t hf y => ?_
  have h : t.val % 2 = 1 := (flush0_7 t).mp hf
  blk_simp
  rw [after0_7, outsAt0_B m c t (by omega) h h]; frame_out
  rw [show outsAt0 m c (t.val - 1) _ = outsAt0 m c (prev t h).val (prev t h).isLt from rfl,
    outsAt0_A m c (prev t h) (by simp only [prev]; omega) (by simp only [prev]; omega) (by simp only [prev]; omega)]; frame_out
  rw [read_unread_whole]
  exact (pay531 _ _ y).trans (dk_sum q k v ct m c hq hk hv hct t h (y 0) (y 1))

theorem final8 : (dats m 0 c).arrAt 8 (cfgs 0).N = GV q k ct := by
  refine (dats m 0 c).arrAt_eq_of_covers 8 _ (by decide +kernel) fun t hf y => ?_
  have h : t.val % 2 = 1 := (flush0_8 t).mp hf
  blk_simp
  rw [after0_8, outsAt0_B m c t (by omega) h h]; frame_out
  rw [show outsAt0 m c (t.val - 1) _ = outsAt0 m c (prev t h).val (prev t h).isLt from rfl,
    outsAt0_A m c (prev t h) (by simp only [prev]; omega) (by simp only [prev]; omega) (by simp only [prev]; omega)]; frame_out
  rw [read_unread_whole]
  exact (pay642 _ _ y).trans (dv_sum q k v ct m c hq hk hv hct t h (y 0) (y 1))

end blocks

end Cert.AttnA

end
-- ==== Proof.AttnA.lean ====
/-
  The gradient of the first attention: from the forward pass's queries, keys and values and the gradient of its output, the
  gradients of the three. Both programs' result arrays are the same real functions of the arguments.
-/
module

public import proofs.«01_k».proof.Defs
public import proofs.«01_k».proof.Proof.Gen.AttnAKernelIdeal.Value
public import proofs.«01_k».proof.Proof.Gen.AttnARefIdeal.Run
public import proofs.«01_k».proof.Proof.AttnAKern
public import proofs.«01_k».proof.Proof.AttnARef

@[expose] public section

set_option maxRecDepth 16384

noncomputable section

namespace Cert.AttnA

open Idealize.ShloMosaic Idealize.ShloMosaic.TcCoe Idealize.SL.Sem
open Cert.Reals

instance pre_facts : Cert.Pre_finite_attn_a.Facts := ⟨by decide, by decide⟩

theorem frame_ref : Cert.quiescent_AttnARefIdeal := fun m ρ _ =>
  (θ_run Cert.AttnARefIdeal.defs _ _).mono (fun r h => ⟨fun c => (h c).2.2.2, sem_eq_zero_of_no_sems (by decide) r.2⟩)
    (Cert.AttnARefIdeal.Value.run (F := Ideal) m ρ)

open Cert.AttnAKernelIdeal in
/-- What the precondition says of one device's arguments. -/
theorem reals (m : (ℓ : Loc nD τ sig) → Buf (Elt Ideal) ℓ) (h : Cert.Pre_AttnAKernelIdeal_finite_attn_a m) (c : Dev nD) :
    ∃ (q k : S2x2048x8x96.Idx → ℝ) (v ct : S2x2048x8x64.Idx → ℝ), aq m c = up q ∧ ak m c = up k ∧ av m c = up v ∧ act m c = up ct := by
  obtain ⟨h0, h1, h2, h3⟩ := h c
  obtain ⟨q, hq⟩ := finite_up _ _ _ h0
  obtain ⟨k, hk⟩ := finite_up _ _ _ h1
  obtain ⟨v, hv⟩ := finite_up _ _ _ h2
  obtain ⟨ct, hct⟩ := finite_up _ _ _ h3
  exact ⟨q, k, v, ct, hq, hk, hv, hct⟩

open Cert.AttnAKernelIdeal in
theorem algebraic : Cert.algebraic_AttnAKernelIdeal_AttnARefIdeal_pre_finite_attn_a := by
  intro m ρ m' ρ' hp hag
  choose q k v ct h using reals m hp
  refine ⟨fun c => GQ (q c) (k c) (v c) (ct c), fun c => GK (q c) (k c) (v c) (ct c), fun c => GV (q c) (k c) (ct c),
    (θ_run _ _ _).mono (fun r hr c => ?_) (Cert.AttnAKernelIdeal.Value.run_blocks m ρ),
    (θ_run _ _ _).mono (fun r hr c => ?_) (Cert.AttnARefIdeal.Value.run m' ρ')⟩
  · obtain ⟨hq, hk, hv, hct⟩ := h c
    exact ⟨(hr c).1.trans (final6 _ _ _ _ m c hq hk hv hct), (hr c).2.1.trans (final7 _ _ _ _ m c hq hk hv hct),
      (hr c).2.2.1.trans (final8 _ _ _ _ m c hq hk hv hct), (hr c).2.2.2⟩
  · obtain ⟨hq, hk, hv, hct⟩ := h c
    obtain ⟨e0, e1, e2, e3⟩ := hag c
    refine ⟨(hr c).1.trans ?_, (hr c).2.1.trans ?_, (hr c).2.2.1.trans ?_, (hr c).2.2.2⟩
    · rw [Cert.AttnARefIdeal.Read.val_main_v59_eq, e0, e1, e2, e3]
      exact (congr (congr (congr (congrArg _ hq) hk) hv) hct).trans (ref_dq (q c) (k c) (v c) (ct c))
    · rw [Cert.AttnARefIdeal.Read.val_main_v62_eq, e0, e1, e2, e3]
      exact (congr (congr (congr (congrArg _ hq) hk) hv) hct).trans (ref_dk (q c) (k c) (v c) (ct c))
    · rw [e0, e1, e3]
      exact (congr (congr (congrArg _ hq) hk) hct).trans (ref_dv (q c) (k c) (ct c))

end Cert.AttnA

end
-- ==== Proof.AttnBRef.lean ====
module

public import proofs.«01_k».proof.Proof.Gen.AttnBRefIdeal.Read
public import Idealize.ShloMosaic.Lib.Pipeline.ValueKit
public import proofs.«01_k».proof.Proof.Reals
public import proofs.«01_k».proof.Proof.AttnARef

@[expose] public section

set_option maxRecDepth 16384

noncomputable section

namespace Cert.AttnB

open Idealize.ShloMosaic Idealize.ShloMosaic.TcCoe Idealize.SL.Sem
open Cert.Reals
open Cert.AttnA (neg_inf)
open Cert.AttnBRefIdeal
open Cert.AttnBRefIdeal.Read Cert.AttnBRefIdeal.Gen

/-- The head of member `u` of group `h`. -/
def head (h : Fin 2) (u : Fin 4) : Fin 8 := ⟨h.val * 4 + u.val, by omega⟩

variable (q : S2x2048x2x4x64.Idx → ℝ) (k v : S2x2048x2x64.Idx → ℝ) (ct : S2x2048x8x64.Idx → ℝ)

/-- The score of query `i` of head `u` in group `h` against the group's key `j`, in sequence `b`. -/
def score (b h : Fin 2) (u : Fin 4) (i j : Fin 2048) : ℝ := ∑ e : Fin 64, q (ix5 b i h u e) * k (ix4 b j h e)

theorem s_at (b h : Fin 2) (u : Fin 4) (i j : Fin 2048) :
    val_main_v1 (F := Ideal) (up q) (up k) (ix5 b h u i j) = (score q k b h u i j : EReal) := by
  pointwise [val_main_v1, val_main_v0, up]
  simp only [← EReal.coe_mul, coe_sum, score, mul_comm]

theorem max_at (X : FVec Ideal S2x2x4x2048x2048 .f32) (b h : Fin 2) (u : Fin 4) (i : Fin 2048) :
    Host.reduce FloatOps.maximumf X (val_main_cst (F := Ideal)) reducesTo_S2x2x4x2048x2048_S2x2x4x2048_d4 h_S_ (ix4 b h u i)
      = Finset.univ.fold max (⊥ : EReal) fun x => X (ix5 b h u i x) := by
  pointwise [val_main_cst]
  rw [neg_inf]

theorem max_bot_at (X : FVec Ideal S2x2x4x2048 .f32) (i : S2x2x4x2048.Idx) :
    maximumf (val_main_v8 (F := Ideal)) X i = X i := by
  pointwise [val_main_v8, val_main_cst_1]
  rw [neg_inf, max_eq_right bot_le]

/-- The greatest score of a row is a real number. -/
theorem m_at (b h : Fin 2) (u : Fin 4) (i : Fin 2048) :
    ∃ M : ℝ, val_main_v9 (F := Ideal) (up q) (up k) (ix4 b h u i) = (M : EReal) := by
  rw [val_main_v9, max_bot_at, val_main_v2, max_at]
  simp only [s_at]
  exact fold_max_real _

theorem exp_sub_at (S : FVec Ideal S2x2x4x2048x2048 .f32) (X : FVec Ideal S2x2x4x2048 .f32)
    (b h : Fin 2) (u : Fin 4) (i j : Fin 2048) :
    Host.exp (subf S (broadcastInDim S2x2x4x2048x2048 ![0, 1, 2, 3, 4] bcast_S2x2x4x2048x1_S2x2x4x2048x2048_0_1_2_3_4
      (broadcastInDim S2x2x4x2048x1 ![0, 1, 2, 3] bcast_S2x2x4x2048_S2x2x4x2048x1_0_1_2_3 X))) (ix5 b h u i j)
      = Ideal.exp (S (ix5 b h u i j) - X (ix4 b h u i)) := by
  pointwise

theorem p_at (b h : Fin 2) (u : Fin 4) (i : Fin 2048) {M : ℝ}
    (hM : val_main_v9 (F := Ideal) (up q) (up k) (ix4 b h u i) = (M : EReal)) (j : Fin 2048) :
    val_main_v22 (F := Ideal) (up q) (up k) (ix5 b h u i j) = (Real.exp (score q k b h u i j - M) : EReal) := by
  rw [val_main_v22, val_main_v21, val_main_v20, val_main_v19, exp_sub_at, s_at, hM, ← EReal.coe_sub, Ideal.exp_coe]

theorem l_at (b h : Fin 2) (u : Fin 4) (i : Fin 2048) {M : ℝ}
    (hM : val_main_v9 (F := Ideal) (up q) (up k) (ix4 b h u i) = (M : EReal)) :
    val_main_v23 (F := Ideal) (up q) (up k) (ix4 b h u i) = ((∑ j, Real.exp (score q k b h u i j - M) : ℝ) : EReal) := by
  pointwise [val_main_v23, val_main_cst_7]
  simp only [p_at q k b h u i hM, coe_sum, zero_add]

theorem w_at (b h : Fin 2) (u : Fin 4) (i j : Fin 2048) :
    val_main_v26 (F := Ideal) (up q) (up k) (ix5 b h u i j) = (weight (score q k b h u i) j : EReal) := by
  obtain ⟨M, hM⟩ := m_at q k b h u i
  pointwise [val_main_v26, val_main_v25, val_main_v24]
  rw [p_at q k b h u i hM, l_at q k b h u i hM, div_real _ (sum_exp_pos _).ne', weight_shift]

/-- The gradient of the output of query `i` against the value of key `j`. -/
def outDot (b h : Fin 2) (u : Fin 4) (i j : Fin 2048) : ℝ := ∑ e : Fin 64, ct (ix4 b i (head h u) e) * v (ix4 b j h e)

theorem ct_at (b h : Fin 2) (u : Fin 4) (i : Fin 2048) (e : Fin 64) :
    val_main_v34 (F := Ideal) (up ct) (ix5 b h e u i) = (ct (ix4 b i (head h u) e) : EReal) := by
  pointwise [val_main_v34, val_main_v33, up]
  rfl

theorem d_at (b h : Fin 2) (u : Fin 4) (i j : Fin 2048) :
    val_main_v35 (F := Ideal) (up v) (up ct) (ix5 b h u i j) = (outDot v ct b h u i j : EReal) := by
  pointwise [val_main_v35]
  simp only [ct_at, up, ← EReal.coe_mul, coe_sum, outDot]

theorem unit_sum_at (X : FVec Ideal S2x2x4x2048x1 .f32) (b h : Fin 2) (u : Fin 4) (i : Fin 2048) :
    Host.reduceAdd X (val_main_cst_10 (F := Ideal)) reducesTo_S2x2x4x2048x1_S2x2x4x2048_d4 h_S_ (ix4 b h u i) = X (ix5 b h u i 0) := by
  pointwise [val_main_cst_10]
  simp only [Finset.univ_unique, Finset.sum_singleton, zero_add]
  rfl

theorem inv_sq_at (X : FVec Ideal S2x2x4x2048x1 .f32) (i : S2x2x4x2048x1.Idx) :
    Host.divf (val_main_v28 (F := Ideal)) (mulf X X) i = Ideal.div 1 (X i * X i) := by
  pointwise [val_main_v28, val_main_cst_8]

theorem spread_at (X : FVec Ideal S2x2x4x2048 .f32) (b h : Fin 2) (u : Fin 4) (i : Fin 2048) (w : Fin 1) :
    broadcastInDim S2x2x4x2048x1 ![0, 1, 2, 3] bcast_S2x2x4x2048_S2x2x4x2048x1_0_1_2_3 X (ix5 b h u i w) = X (ix4 b h u i) := by
  pointwise

theorem row_at (D P : FVec Ideal S2x2x4x2048x2048 .f32) (L : FVec Ideal S2x2x4x2048x1 .f32)
    (b h : Fin 2) (u : Fin 4) (i : Fin 2048) :
    Host.reduceAdd (mulf (mulf D (broadcastInDim S2x2x4x2048x2048 ![0, 1, 2, 3, 4] bcast_S2x2x4x2048x1_S2x2x4x2048x2048_0_1_2_3_4 L)) P)
      (val_main_cst_9 (F := Ideal)) reducesTo_S2x2x4x2048x2048_S2x2x4x2048_d4 h_S_ (ix4 b h u i)
      = ∑ j : Fin 2048, D (ix5 b h u i j) * L (ix5 b h u i 0) * P (ix5 b h u i j) := by
  pointwise [val_main_cst_9]

theorem neg_at (X : FVec Ideal S2x2x4x2048 .f32) (b h : Fin 2) (u : Fin 4) (i : Fin 2048) :
    Host.negf (shapeCast S2x2x4x2048x1 X shapeCasts_S2x2x4x2048_S2x2x4x2048x1) (ix5 b h u i 0) = -(X (ix4 b h u i)) := by
  pointwise

theorem mix_at (D P : FVec Ideal S2x2x4x2048x2048 .f32) (L : FVec Ideal S2x2x4x2048x1 .f32) (N : FVec Ideal S2x2x4x2048 .f32)
    (b h : Fin 2) (u : Fin 4) (i j : Fin 2048) :
    mulf (addf (Host.divf D (broadcastInDim S2x2x4x2048x2048 ![0, 1, 2, 3, 4] bcast_S2x2x4x2048x1_S2x2x4x2048x2048_0_1_2_3_4 L))
        (broadcastInDim S2x2x4x2048x2048 ![0, 1, 2, 3] bcast_S2x2x4x2048_S2x2x4x2048x2048_0_1_2_3 N)) P (ix5 b h u i j)
      = (Ideal.div (D (ix5 b h u i j)) (L (ix5 b h u i 0)) + N (ix4 b h u i)) * P (ix5 b h u i j) := by
  pointwise

theorem ds_at (b h : Fin 2) (u : Fin 4) (i j : Fin 2048) :
    val_main_v49 (F := Ideal) (up q) (up k) (up v) (up ct) (ix5 b h u i j)
      = (weightGrad (score q k b h u i) (outDot v ct b h u i) j : EReal) := by
  obtain ⟨M, hM⟩ := m_at q k b h u i
  have hl := (sum_exp_pos fun j => score q k b h u i j - M).ne'
  have e25 : val_main_v24 (F := Ideal) (up q) (up k) (ix5 b h u i 0) = ((∑ j, Real.exp (score q k b h u i j - M) : ℝ) : EReal) := by
    rw [val_main_v24, spread_at, l_at q k b h u i hM]
  have e30 : val_main_v29 (F := Ideal) (up q) (up k) (ix5 b h u i 0)
      = ((1 / ((∑ j, Real.exp (score q k b h u i j - M)) * (∑ j, Real.exp (score q k b h u i j - M))) : ℝ) : EReal) := by
    rw [val_main_v29, val_main_v27, inv_sq_at, e25, ← EReal.coe_mul, ← EReal.coe_one, div_real _ (mul_ne_zero hl hl)]
  have e42 : val_main_v41 (F := Ideal) (up q) (up k) (up v) (up ct) (ix4 b h u i)
      = ((∑ j, outDot v ct b h u i j * (1 / ((∑ j, Real.exp (score q k b h u i j - M)) * (∑ j, Real.exp (score q k b h u i j - M))))
          * Real.exp (score q k b h u i j - M) : ℝ) : EReal) := by
    rw [val_main_v41, val_main_v40, val_main_v39, val_main_v38, row_at]
    simp only [e30, d_at, p_at q k b h u i hM, ← EReal.coe_mul, coe_sum]
  rw [val_main_v49, val_main_v48, val_main_v47, val_main_v45, val_main_v44, mix_at, val_main_v46, unit_sum_at,
    val_main_v43, val_main_v42, neg_at, e42, e25, p_at q k b h u i hM, d_at, div_real _ hl, ← EReal.coe_neg, ← EReal.coe_add,
    ← EReal.coe_mul, quotient_grad]

theorem dq_at (b : Fin 2) (i : Fin 2048) (h : Fin 2) (u : Fin 4) (e : Fin 64) :
    val_main_v52 (F := Ideal) (up q) (up k) (up v) (up ct) (ix5 b i h u e)
      = ((∑ j, weightGrad (score q k b h u i) (outDot v ct b h u i) j * k (ix4 b j h e) : ℝ) : EReal) := by
  pointwise [val_main_v52, val_main_v51, val_main_v50]
  simp only [ds_at, up, ← EReal.coe_mul, coe_sum]

theorem dk_at (b : Fin 2) (j : Fin 2048) (h : Fin 2) (e : Fin 64) :
    val_main_v54 (F := Ideal) (up q) (up k) (up v) (up ct) (ix4 b j h e)
      = ((∑ u, ∑ i, weightGrad (score q k b h u i) (outDot v ct b h u i) j * q (ix5 b i h u e) : ℝ) : EReal) := by
  pointwise [val_main_v54, val_main_v53, val_main_v50]
  simp only [ds_at, up, ← EReal.coe_mul, coe_sum]
  rw [Finset.sum_comm]

theorem dv_at (b : Fin 2) (j : Fin 2048) (h : Fin 2) (e : Fin 64) :
    val_main_v37 (F := Ideal) (up q) (up k) (up ct) (ix4 b j h e)
      = ((∑ u, ∑ i, weight (score q k b h u i) j * ct (ix4 b i (head h u) e) : ℝ) : EReal) := by
  pointwise [val_main_v37, val_main_v36]
  simp only [w_at, ct_at, ← EReal.coe_mul, coe_sum, mul_comm]

/-- The gradient of the scores of query `i`. -/
abbrev gs (b h : Fin 2) (u : Fin 4) (i j : Fin 2048) : ℝ := weightGrad (score q k b h u i) (outDot v ct b h u i) j

/-- The group of a head and its place in the group. -/
def grp (n : Fin 8) : Fin 2 := ⟨n.val / 4, by omega⟩
def mem (n : Fin 8) : Fin 4 := ⟨n.val % 4, by omega⟩

/-- The coordinates of an entry of the queries' gradient: sequence, row, head and the column within the head. -/
def cb (y : S4096x1024.Idx) : Fin 2 := ⟨(y 0).val / 2048, by have : (y 0).val < 4096 := (y 0).isLt; omega⟩
def ci (y : S4096x1024.Idx) : Fin 2048 := ⟨(y 0).val % 2048, by omega⟩
def cn (y : S4096x1024.Idx) : Fin 8 := ⟨(y 1).val / 128, by have : (y 1).val < 1024 := (y 1).isLt; omega⟩
def ce (y : S4096x1024.Idx) : Fin 128 := ⟨(y 1).val % 128, by omega⟩

/-- The coordinates of an entry of the keys' and the values' gradient. -/
def kb (y : S4096x256.Idx) : Fin 2 := ⟨(y 0).val / 2048, by have : (y 0).val < 4096 := (y 0).isLt; omega⟩
def kj (y : S4096x256.Idx) : Fin 2048 := ⟨(y 0).val % 2048, by omega⟩
def kh (y : S4096x256.Idx) : Fin 2 := ⟨(y 1).val / 128, by have : (y 1).val < 256 := (y 1).isLt; omega⟩
def ke (y : S4096x256.Idx) : Fin 128 := ⟨(y 1).val % 128, by omega⟩

/-- The gradients of the queries, the keys and the values, each head filled up to 128 columns. -/
def GQ : FVec Ideal S4096x1024 .f32 := fun y =>
  (padr (fun e : Fin 64 => ∑ j, gs q k v ct (cb y) (grp (cn y)) (mem (cn y)) (ci y) j * k (ix4 (cb y) j (grp (cn y)) e)) (ce y) : EReal)
def GK : FVec Ideal S4096x256 .bf16 := fun y =>
  (padr (fun e : Fin 64 => ∑ u, ∑ i, gs q k v ct (kb y) (kh y) u i (kj y) * q (ix5 (kb y) i (kh y) u e)) (ke y) : EReal)
def GV : FVec Ideal S4096x256 .bf16 := fun y =>
  (padr (fun e : Fin 64 => ∑ u, ∑ i, weight (score q k (kb y) (kh y) u i) (kj y) * ct (ix4 (kb y) i (head (kh y) u) e)) (ke y) : EReal)

theorem pad_zero (i : S_.Idx) : sitofp (F := Ideal) .f32 (constantI S_ 32 0#32) i = 0 := by
  show (((0#32 : BitVec 32).toInt : ℝ) : EReal) = 0
  simp

/-- The queries' gradient with the heads in one row. -/
theorem dqh_at (b : Fin 2) (i : Fin 2048) (n : Fin 8) (e : Fin 64) :
    val_main_v55 (F := Ideal) (up q) (up k) (up v) (up ct) (ix4 b i n e)
      = ((∑ j, gs q k v ct b (grp n) (mem n) i j * k (ix4 b j (grp n) e) : ℝ) : EReal) := by
  pointwise [val_main_v55]
  exact dq_at q k v ct b i (grp n) (mem n) e

theorem ref_dq : val_main_v57 (F := Ideal) (up q) (up k) (up v) (up ct) = GQ q k v ct := by
  funext y
  pointwise [val_main_v57, val_main_v56]
  exact dite_padr _ _ (fun b i n e => dqh_at q k v ct b i n e) (pad_zero _) (cb y) (ci y) (cn y) (ce y) _ _ _ _ rfl rfl rfl rfl

theorem ref_dk : val_main_v60 (F := Ideal) (up q) (up k) (up v) (up ct) = GK q k v ct := by
  funext y
  pointwise [val_main_v60, val_main_v59, val_main_v58]
  exact dite_padr _ _ (fun b i h e => dk_at q k v ct b i h e) (pad_zero _) (kb y) (kj y) (kh y) (ke y) _ _ _ _ rfl rfl rfl rfl

theorem ref_dv : val_main_v63 (F := Ideal) (up q) (up k) (up ct) = GV q k ct := by
  funext y
  pointwise [val_main_v63, val_main_v62, val_main_v61]
  exact dite_padr _ _ (fun b i h e => dv_at q k ct b i h e) (pad_zero _) (kb y) (kj y) (kh y) (ke y) _ _ _ _ rfl rfl rfl rfl

end Cert.AttnB

end
-- ==== Proof.AttnBHost.lean ====
module

public import proofs.«01_k».proof.Proof.Gen.AttnBKernelIdeal.Value
public import Idealize.ShloMosaic.Lib.Pipeline.ValueKit
public import proofs.«01_k».proof.Proof.AttnAHost
public import proofs.«01_k».proof.Proof.AttnBRef

@[expose] public section

set_option maxRecDepth 16384

noncomputable section

namespace Cert.AttnB

open Idealize.ShloMosaic Idealize.ShloMosaic.TcCoe Idealize.SL.Sem
open Cert.Reals
open Cert.AttnA (neg_inf wideH wideH_at zeroH zeroH_at)
open Cert.AttnBKernelIdeal Cert.AttnBKernelIdeal.Gen

/-! The arrays the windows stage, as functions of the arguments. -/

/-- The heads in one row. -/
def flat (X : FVec Ideal S2x2048x2x4x64 .f32) : FVec Ideal S2x2048x8x64 .f32 :=
  shapeCast S2x2048x8x64 X shapeCasts_S2x2048x2x4x64_S2x2048x8x64

/-- The keys or the values, each head filled up to 128 columns. -/
def wideK (X : FVec Ideal S2x2048x2x64 .f32) : FVec Ideal S4096x256 .f32 :=
  shapeCast S4096x256 (pad S2x2048x2x128 ![0, 0, 0, 0] ![0, 0, 0, 64] ![0, 0, 0, 0] X zeroH pads_S2x2048x2x64_S2x2048x2x128_000_000_000_0640 h_S_)
    shapeCasts_S2x2048x2x128_S4096x256

/-- The projected row with the values in their columns and zero elsewhere. -/
def rowH (X : FVec Ideal S4096x256 .f32) : FVec Ideal S4096x4096 .bf16 :=
  concatenate S4096x4096 1 [⟨S4096x1792, broadcastInDim S4096x1792 ![] bcast_S_S4096x1792 (constant S_ .bf16 0x0000#16)⟩,
    ⟨S4096x256, truncf .bf16 X bitsLt_bf16_f32⟩,
    ⟨S4096x2048, broadcastInDim S4096x2048 ![] bcast_S_S4096x2048 (constant S_ .bf16 0x0000#16)⟩]
    concatenates_S4096x1792_S4096x256_S4096x2048_S4096x4096_d1

def scoreH (Q : FVec Ideal S2x2048x2x4x64 .f32) (K : FVec Ideal S2x2048x2x64 .f32) : FVec Ideal S2x2x4x2048x2048 .f32 :=
  transpose S2x2x4x2048x2048 [0, 1, 4, 3, 2] (Host.dotGeneral dot_S2x2048x2x64_S2x2048x2x4x64_S2x2x2048x2048x4_3_4_1_13_02_02 none K Q)
    transposes_S2x2x2048x2048x4_S2x2x4x2048x2048_0_1_4_3_2

def topH (S : FVec Ideal S2x2x4x2048x2048 .f32) : FVec Ideal S2x2x4x2048x1 .f32 :=
  broadcastInDim S2x2x4x2048x1 ![0, 1, 2, 3] bcast_S2x2x4x2048_S2x2x4x2048x1_0_1_2_3
    (Host.reduce FloatOps.maximumf S (constant S_ .f32 0xFF800000#32) reducesTo_S2x2x4x2048x2048_S2x2x4x2048_d4 h_S_)

def expH (S : FVec Ideal S2x2x4x2048x2048 .f32) (M : FVec Ideal S2x2x4x2048x1 .f32) : FVec Ideal S2x2x4x2048x2048 .f32 :=
  Host.exp (subf S (broadcastInDim S2x2x4x2048x2048 ![0, 1, 2, 3, 4] bcast_S2x2x4x2048x1_S2x2x4x2048x2048_0_1_2_3_4 M))

def sumH (P : FVec Ideal S2x2x4x2048x2048 .f32) : FVec Ideal S2x2x4x2048x1 .f32 :=
  broadcastInDim S2x2x4x2048x1 ![0, 1, 2, 3] bcast_S2x2x4x2048_S2x2x4x2048x1_0_1_2_3
    (Host.reduceAdd P (constant S_ .f32 0x00000000#32) reducesTo_S2x2x4x2048x2048_S2x2x4x2048_d4 h_S_)

def lseH (M L : FVec Ideal S2x2x4x2048x1 .f32) : FVec Ideal S8x4096x1 .f32 :=
  shapeCast S8x4096x1 (transpose S8x2x2048x1 [1, 0, 2, 3] (shapeCast S2x8x2048x1 (addf M (Host.log L)) shapeCasts_S2x2x4x2048x1_S2x8x2048x1)
    transposes_S2x8x2048x1_S8x2x2048x1_1_0_2_3) shapeCasts_S8x2x2048x1_S8x4096x1

def outH (P : FVec Ideal S2x2x4x2048x2048 .f32) (L : FVec Ideal S2x2x4x2048x1 .f32) (V : FVec Ideal S2x2048x2x64 .f32) :
    FVec Ideal S2x2048x2x4x64 .f32 :=
  transpose S2x2048x2x4x64 [0, 4, 1, 3, 2] (Host.dotGeneral dot_S2x2048x2x64_S2x2x4x2048x2048_S2x2x64x4x2048_1_4_3_23_02_01 none V
    (mulf P (broadcastInDim S2x2x4x2048x2048 ![0, 1, 2, 3, 4] bcast_S2x2x4x2048x1_S2x2x4x2048x2048_0_1_2_3_4
      (Host.divf (broadcastInDim S2x2x4x2048x1 ![] bcast_S_S2x2x4x2048x1 (constant S_ .f32 0x3F800000#32)) L))))
    transposes_S2x2x64x4x2048_S2x2048x2x4x64_0_4_1_3_2

/-- The rows' exponentials and their sums. -/
def eH (Q : FVec Ideal S2x2048x2x4x64 .f32) (K : FVec Ideal S2x2048x2x64 .f32) : FVec Ideal S2x2x4x2048x2048 .f32 :=
  expH (scoreH Q K) (topH (scoreH Q K))

section entry

variable (m : (ℓ : Loc nD τ sig) → Buf (Elt Ideal) ℓ) (c : Dev nD)

theorem V_def (b : Ref sig .tc) : V m c b = StableHlo.after hostOps0_10 (StableHlo.after hostOps0_9 (StableHlo.after hostOps0_8
    (StableHlo.after hostOps0_7 (StableHlo.after hostOps0_6 (StableHlo.after hostOps0_5 (StableHlo.after hostOps0_4 (StableHlo.after hostOps0_3
    (StableHlo.after hostOps0_2 (StableHlo.after hostOps0_1 (StableHlo.after hostOps0 (fun b => m (c, b)))))))))))) b := rfl

def aq : FVec Ideal S2x2048x2x4x64 .f32 := m ((c : Thread nD τ).loc main_arg0)
def ak : FVec Ideal S2x2048x2x64 .f32 := m ((c : Thread nD τ).loc main_arg1)
def av : FVec Ideal S2x2048x2x64 .f32 := m ((c : Thread nD τ).loc main_arg2)
def act : FVec Ideal S2x2048x8x64 .f32 := m ((c : Thread nD τ).loc main_arg3)

theorem V_q : V m c main_v3 = (truncf .bf16 (wideH (flat (aq m c))) bitsLt_bf16_f32 : FVec Ideal S4096x1024 .bf16) := by
  rw [V_def]; after_results; rfl

theorem V_k : V m c main_v6 = (truncf .bf16 (wideK (ak m c)) bitsLt_bf16_f32 : FVec Ideal S4096x256 .bf16) := by
  rw [V_def]; after_results; rfl

theorem V_z : V m c main_v12 = rowH (wideK (av m c)) := by
  rw [V_def]; after_results; rfl

theorem V_ct : V m c main_v15 = (truncf .bf16 (wideH (act m c)) bitsLt_bf16_f32 : FVec Ideal S4096x1024 .bf16) := by
  rw [V_def]; after_results; rfl

theorem V_lse : V m c main_v36 = lseH (topH (scoreH (aq m c) (ak m c))) (sumH (eH (aq m c) (ak m c))) := by
  rw [V_def]; after_results; rfl

theorem V_o : V m c main_v39 = (truncf .bf16 (wideH (flat (outH (eH (aq m c) (ak m c)) (sumH (eH (aq m c) (ak m c))) (av m c)))) bitsLt_bf16_f32
    : FVec Ideal S4096x1024 .bf16) := by
  rw [V_def]; after_results; rfl

end entry

/-! What those arrays hold when the arguments are real. -/

variable (q : S2x2048x2x4x64.Idx → ℝ) (k v : S2x2048x2x64.Idx → ℝ) (ct : S2x2048x8x64.Idx → ℝ)

theorem flat_up (x : S2x2048x2x4x64.Idx → ℝ) : flat (up x) = up fun y => x (ix5 (y 0) (y 1) (grp (y 2)) (mem (y 2)) (y 3)) := by
  funext y
  pointwise [flat]
  rfl

theorem wideK_at (x : S2x2048x2x64.Idx → ℝ) (b : Fin 2) (i : Fin 2048) (h : Fin 2) (e : Fin 128) (y : S4096x256.Idx)
    (hr : (y 0).val = b.val * 2048 + i.val) (hs : (y 1).val = h.val * 128 + e.val) :
    wideK (up x) y = (padr (fun e => x (ix4 b i h e)) e : EReal) := by
  have h1 : (y 0).val / 2048 = b.val := by omega
  have h2 : (y 0).val % 2048 = i.val := by omega
  have h3 : (y 1).val / 128 = h.val := by omega
  have h4 : (y 1).val % 128 = e.val := by omega
  pointwise [wideK]
  exact dite_padr (up x) (fun b i h e => x (ix4 b i h e)) (fun _ _ _ _ => rfl) (zeroH_at _) b i h e _ _ _ _ h1 h2 h3 h4

theorem rowH_at (X : FVec Ideal S4096x256 .f32) (y : S4096x4096.Idx) (x : S4096x256.Idx) (hr : (y 0).val = (x 0).val)
    (hs : (y 1).val = (x 1).val + 1792) : rowH X y = X x := by
  pointwise [rowH]
  have hx : (x 1).val < 256 := (x 1).isLt
  rw [dif_neg (by omega), dif_pos (by omega)]
  congr 1
  funext a
  match a with
  | 0 => exact Fin.ext hr
  | 1 => exact Fin.ext (by show (y 1).val - 1792 = (x 1).val; omega)

theorem scoreH_at (b h : Fin 2) (u : Fin 4) (i j : Fin 2048) :
    scoreH (up q) (up k) (ix5 b h u i j) = (score q k b h u i j : EReal) := by
  pointwise [scoreH, up]
  simp only [← EReal.coe_mul, coe_sum, score, mul_comm]

theorem topH_at (X : FVec Ideal S2x2x4x2048x2048 .f32) (b h : Fin 2) (u : Fin 4) (i : Fin 2048) (w : Fin 1) :
    topH X (ix5 b h u i w) = Finset.univ.fold max (⊥ : EReal) fun x => X (ix5 b h u i x) := by
  pointwise [topH]
  rw [neg_inf]

theorem top_real (b h : Fin 2) (u : Fin 4) (i : Fin 2048) :
    ∃ M : ℝ, ∀ w, topH (scoreH (up q) (up k)) (ix5 b h u i w) = (M : EReal) := by
  obtain ⟨M, hM⟩ := fold_max_real fun j => score q k b h u i j
  refine ⟨M, fun w => ?_⟩
  rw [topH_at]
  simp only [scoreH_at]
  exact hM

theorem expH_at (S : FVec Ideal S2x2x4x2048x2048 .f32) (X : FVec Ideal S2x2x4x2048x1 .f32) (b h : Fin 2) (u : Fin 4) (i j : Fin 2048) :
    expH S X (ix5 b h u i j) = Ideal.exp (S (ix5 b h u i j) - X (ix5 b h u i 0)) := by
  pointwise [expH]

theorem sumH_at (X : FVec Ideal S2x2x4x2048x2048 .f32) (b h : Fin 2) (u : Fin 4) (i : Fin 2048) (w : Fin 1) :
    sumH X (ix5 b h u i w) = ∑ j : Fin 2048, X (ix5 b h u i j) := by
  pointwise [sumH]

theorem lseH_at (M L : FVec Ideal S2x2x4x2048x1 .f32) (b : Fin 2) (n : Fin 8) (i : Fin 2048) (y : S8x4096x1.Idx)
    (hh : (y 0).val = n.val) (hr : (y 1).val = b.val * 2048 + i.val) :
    lseH M L y = M (ix5 b (grp n) (mem n) i 0) + Ideal.log (L (ix5 b (grp n) (mem n) i 0)) := by
  have hy : (y 1).val < 4096 := (y 1).isLt
  have e0 : y 0 = n := Fin.ext hh
  have e1 : (⟨(y 1).val / 2048, by omega⟩ : Fin 2) = b := Fin.ext (by show (y 1).val / 2048 = b.val; omega)
  have e2 : (⟨(y 1).val % 2048, by omega⟩ : Fin 2048) = i := Fin.ext (by show (y 1).val % 2048 = i.val; omega)
  pointwise [lseH]
  simp only [e0, e1, e2]
  rfl

theorem outH_at (P : FVec Ideal S2x2x4x2048x2048 .f32) (L : FVec Ideal S2x2x4x2048x1 .f32) (X : FVec Ideal S2x2048x2x64 .f32)
    (b : Fin 2) (i : Fin 2048) (h : Fin 2) (u : Fin 4) (e : Fin 64) :
    outH P L X (ix5 b i h u e) = ∑ j : Fin 2048, X (ix4 b j h e) * (P (ix5 b h u i j) * Ideal.div 1 (L (ix5 b h u i 0))) := by
  pointwise [outH]

/-- The logarithm of the sum of a row's exponentials, the row's greatest score `M` taken out, and the row's output. -/
theorem lse_real (b : Fin 2) (n : Fin 8) (i : Fin 2048) : ∃ M : ℝ,
    (∀ y : S8x4096x1.Idx, (y 0).val = n.val → (y 1).val = b.val * 2048 + i.val →
      lseH (topH (scoreH (up q) (up k))) (sumH (eH (up q) (up k))) y
        = (M + Real.log (∑ j, Real.exp (score q k b (grp n) (mem n) i j - M)) : ℝ)) ∧
    ∀ e, outH (eH (up q) (up k)) (sumH (eH (up q) (up k))) (up v) (ix5 b i (grp n) (mem n) e)
      = ((∑ j, weight (score q k b (grp n) (mem n) i) j * v (ix4 b j (grp n) e) : ℝ) : EReal) := by
  obtain ⟨M, hM⟩ := top_real q k b (grp n) (mem n) i
  have hs : sumH (eH (up q) (up k)) (ix5 b (grp n) (mem n) i 0)
      = ((∑ j, Real.exp (score q k b (grp n) (mem n) i j - M) : ℝ) : EReal) := by
    rw [sumH_at, eH]
    simp only [expH_at, scoreH_at, hM, ← EReal.coe_sub, Ideal.exp_coe, coe_sum]
  have hp := sum_exp_pos fun j => score q k b (grp n) (mem n) i j - M
  refine ⟨M, fun y hh hr => ?_, fun e => ?_⟩
  · rw [lseH_at _ _ b n i y hh hr, hM, hs, log_real hp, ← EReal.coe_add]
  · rw [outH_at]
    simp only [hs]
    simp only [eH, expH_at, scoreH_at, hM, ← EReal.coe_sub, Ideal.exp_coe, up, ← EReal.coe_one, div_real _ hp.ne', ← EReal.coe_mul, coe_sum]
    congr 1
    refine Finset.sum_congr rfl fun j _ => ?_
    rw [← weight_shift (score q k b (grp n) (mem n) i) M j]
    ring

theorem out_up : flat (outH (eH (up q) (up k)) (sumH (eH (up q) (up k))) (up v))
    = up fun y => ∑ j, weight (score q k (y 0) (grp (y 2)) (mem (y 2)) (y 1)) j * v (ix4 (y 0) j (grp (y 2)) (y 3)) := by
  funext y
  obtain ⟨M, _, h⟩ := lse_real q k v (y 0) (y 2) (y 1)
  refine Eq.trans ?_ (h (y 3))
  pointwise [flat]
  rfl

end Cert.AttnB

end
-- ==== Proof.AttnBKern.lean ====
module

public import Idealize.ShloMosaic.Lib.Pipeline.ReadBack
public import proofs.«01_k».proof.Proof.Gen.AttnBKernelIdeal.Value
public import Idealize.ShloMosaic.Lib.Pipeline.ValueKit
public import proofs.«01_k».proof.Proof.AttnBHost
public import proofs.«01_k».proof.Proof.AttnAKern

@[expose] public section

set_option maxRecDepth 16384

noncomputable section

namespace Cert.AttnB

open Idealize.ShloMosaic Idealize.ShloMosaic.TcCoe Idealize.SL.Sem
open Cert.Reals
open Cert.AttnA (wideH wideH_at bw bg)
open Cert.AttnBKernelIdeal Cert.AttnBKernelIdeal.Gen

variable (q : S2x2048x2x4x64.Idx → ℝ) (k v : S2x2048x2x64.Idx → ℝ) (ct : S2x2048x8x64.Idx → ℝ)

/-! The kernel's arithmetic at a grid point is the first attention's. -/

theorem pay12_eq : k0_pay12 (F := Ideal) = Cert.AttnAKernelIdeal.Gen.k0_pay12 := rfl
theorem pay13_eq : k0_pay13 (F := Ideal) = Cert.AttnAKernelIdeal.Gen.k0_pay13 := rfl
theorem pay14_eq : k0_pay14 (F := Ideal) = Cert.AttnAKernelIdeal.Gen.k0_pay14 := rfl

/-! The blocks at a grid point. -/

theorem idx : ∀ t : Fin cfg0.N, win0_0.index t = ![t.val / 8 % 2 * 2 + t.val % 2, t.val / 16 * 4 + t.val / 2 % 4] ∧ win0_1.index t = ![t.val / 8 % 2, t.val / 16]
    ∧ win0_2.index t = ![t.val / 8 % 2, 14 + t.val / 16] ∧ win0_3.index t = ![t.val / 8 % 2 * 2 + t.val % 2, t.val / 16 * 4 + t.val / 2 % 4]
    ∧ win0_4.index t = ![t.val / 8 % 2 * 2 + t.val % 2, t.val / 16 * 4 + t.val / 2 % 4] ∧ win0_5.index t = ![t.val / 16 * 4 + t.val / 2 % 4, t.val / 8 % 2 * 2 + t.val % 2, 0]
    ∧ win0_6.index t = ![t.val / 8 % 2 * 2 + t.val % 2, t.val / 16 * 4 + t.val / 2 % 4] ∧ win0_7.index t = ![t.val / 8 % 2, t.val / 16]
    ∧ win0_8.index t = ![t.val / 8 % 2, t.val / 16] :=
  (by decide +kernel : ∀ t : Fin grid0.N, _)

theorem lt32 (t : Fin cfg0.N) : t.val < 32 := lt_of_lt_of_eq t.isLt N_0

/-- The sequence, the group, the member and the query row of a grid point. -/
def tb (t : Fin cfg0.N) : Fin 2 := ⟨t.val / 8 % 2, by omega⟩
def th (t : Fin cfg0.N) : Fin 2 := ⟨t.val / 16, by have := lt32 t; omega⟩
def tu (t : Fin cfg0.N) : Fin 4 := ⟨t.val / 2 % 4, by omega⟩
def ti (t : Fin cfg0.N) (r : Fin 1024) : Fin 2048 := ⟨t.val % 2 * 1024 + r.val, by omega⟩

theorem grp_head (h : Fin 2) (u : Fin 4) : grp (head h u) = h := Fin.ext (by simp only [grp, head]; omega)
theorem mem_head (h : Fin 2) (u : Fin 4) : mem (head h u) = u := Fin.ext (by simp only [mem, head]; omega)

section blocks

variable (m : (ℓ : Loc nD τ sig) → Buf (Elt Ideal) ℓ) (c : Dev nD)
  (hq : aq m c = up q) (hk : ak m c = up k) (hv : av m c = up v) (hct : act m c = up ct) (t : Fin cfg0.N)

include hq

theorem blk0 (r : Fin 1024) (e : Fin 128) : iblk m c 0 t (ix2 r e) = (padr (fun e => q (ix5 (tb t) (ti t r) (th t) (tu t) e)) e : EReal) := by
  blk_simp [iblk]
  rw [V_q, hq, flat_up]
  refine (wideH_at _ (tb t) (ti t r) (head (th t) (tu t)) e _ ?_ ?_).trans ?_
  · blk_simp [idx t]; simp only [tb, ti]; omega
  · blk_simp [idx t]; simp only [head, th, tu]
  · show (padr (fun e => q (ix5 (tb t) (ti t r) (grp (head (th t) (tu t))) (mem (head (th t) (tu t))) e)) e : EReal) = _
    rw [grp_head, mem_head]

omit hq
include hct

theorem blk4 (r : Fin 1024) (e : Fin 128) : iblk m c 4 t (ix2 r e) = (padr (fun e => ct (ix4 (tb t) (ti t r) (head (th t) (tu t)) e)) e : EReal) := by
  blk_simp [iblk]
  rw [V_ct, hct]
  refine wideH_at ct (tb t) (ti t r) (head (th t) (tu t)) e _ ?_ ?_ <;> blk_simp [idx t] <;> simp only [tb, head, th, tu, ti] <;> omega

omit hct
include hk

theorem blk1 (j : Fin 2048) (e : Fin 128) : iblk m c 1 t (ix2 j e) = (padr (fun e => k (ix4 (tb t) j (th t) e)) e : EReal) := by
  blk_simp [iblk]
  rw [V_k, hk]
  refine wideK_at k (tb t) j (th t) e _ ?_ ?_ <;> blk_simp [idx t] <;> simp only [tb, th]

omit hk
include hv

theorem blk2 (j : Fin 2048) (e : Fin 128) : iblk m c 2 t (ix2 j e) = (padr (fun e => v (ix4 (tb t) j (th t) e)) e : EReal) := by
  blk_simp [iblk]
  rw [V_z, hv]
  have hb := (tb t).isLt; have hh := (th t).isLt
  refine (rowH_at _ _ (ix2 ⟨(tb t).val * 2048 + j.val, by omega⟩ ⟨(th t).val * 128 + e.val, by omega⟩) ?_ ?_).trans
    (wideK_at v (tb t) j (th t) e _ rfl rfl) <;> blk_simp [idx t] <;> simp only [tb, th] <;> omega

include hq hk

theorem blk3 (r : Fin 1024) (e : Fin 128) : iblk m c 3 t (ix2 r e)
    = (padr (fun e => ∑ j, weight (score q k (tb t) (th t) (tu t) (ti t r)) j * v (ix4 (tb t) j (th t) e)) e : EReal) := by
  blk_simp [iblk]
  rw [V_o, hq, hk, hv, out_up]
  refine (wideH_at _ (tb t) (ti t r) (head (th t) (tu t)) e _ ?_ ?_).trans ?_
  · blk_simp [idx t]; simp only [tb, ti]; omega
  · blk_simp [idx t]; simp only [head, th, tu]
  · show (padr (fun e => ∑ j, weight (score q k (tb t) (grp (head (th t) (tu t))) (mem (head (th t) (tu t))) (ti t r)) j
      * v (ix4 (tb t) j (grp (head (th t) (tu t))) e)) e : EReal) = _
    rw [grp_head, mem_head]

omit hv

omit hq hk in
theorem read5 (W : (b : Ref sig .tc) → Buf (Elt Ideal) ((c : Thread nD τ).loc b)) (r : Fin 1024) :
    ((cfg0.win 5).blk t).view.read (Elt Ideal) (W (Pipeline.arrRef spec0 5)) (ix3 0 r 0) = W main_v36 ((win0_5.blk t).view.emb (ix3 0 r 0)) := by
  blk_simp

omit hq hk in
theorem stage5 (r : Fin 1024) : iblk m c 5 t (ix3 0 r 0) = V m c main_v36 ((win0_5.blk t).view.emb (ix3 0 r 0)) :=
  read5 c t (V m c) r

theorem at5 (y) : V m c main_v36 y = lseH (topH (scoreH (up q) (up k))) (sumH (eH (up q) (up k))) y := by
  rw [V_lse, hq, hk]

theorem blk5 (r : Fin 1024) : ∃ M : ℝ,
    iblk m c 5 t (ix3 0 r 0) = ((M + Real.log (∑ j, Real.exp (score q k (tb t) (th t) (tu t) (ti t r) j - M)) : ℝ) : EReal) := by
  obtain ⟨M, hl, _⟩ := lse_real q k (fun _ => 0) (tb t) (head (th t) (tu t)) (ti t r)
  rw [grp_head, mem_head] at hl
  refine ⟨M, (stage5 m c t r).trans ((at5 q k m c hq hk _).trans (hl _ ?_ ?_))⟩
  · blk_simp [idx t]; simp only [head, th, tu]; rfl
  · blk_simp [idx t]; simp only [tb, ti]; omega

include hv hct

theorem parts (r : Fin 1024) (j : Fin 2048) (e : Fin 128) :
    k0_pay12 (iblk m c 0 t) (iblk m c 1 t) (iblk m c 2 t) (iblk m c 4 t) (iblk m c 5 t) (iblk m c 3 t) (ix2 r e)
      = (padr (fun e => ∑ j, gs q k v ct (tb t) (th t) (tu t) (ti t r) j * k (ix4 (tb t) j (th t) e)) e : EReal) ∧
    k0_pay13 (iblk m c 0 t) (iblk m c 1 t) (iblk m c 2 t) (iblk m c 4 t) (iblk m c 5 t) (iblk m c 3 t) (ix2 j e)
      = (padr (fun e => ∑ r, gs q k v ct (tb t) (th t) (tu t) (ti t r) j * q (ix5 (tb t) (ti t r) (th t) (tu t) e)) e : EReal) ∧
    k0_pay14 (iblk m c 0 t) (iblk m c 1 t) (iblk m c 4 t) (iblk m c 5 t) (ix2 j e)
      = (padr (fun e => ∑ r, weight (score q k (tb t) (th t) (tu t) (ti t r)) j * ct (ix4 (tb t) (ti t r) (head (th t) (tu t)) e)) e : EReal) := by
  choose M hM using blk5 q k m c hq hk t
  have w : ∀ r j, bw (fun r => padr fun e => q (ix5 (tb t) (ti t r) (th t) (tu t) e)) (fun j => padr fun e => k (ix4 (tb t) j (th t) e))
      (fun r => M r + Real.log (∑ j, Real.exp (score q k (tb t) (th t) (tu t) (ti t r) j - M r))) r j
        = weight (score q k (tb t) (th t) (tu t) (ti t r)) j := fun r j => by
    unfold bw
    rw [sum_padr_mul (by decide)]
    exact exp_sub_lse (score q k (tb t) (th t) (tu t) (ti t r)) (M r) j
  have g : ∀ r j, bg (fun r => padr fun e => q (ix5 (tb t) (ti t r) (th t) (tu t) e)) (fun j => padr fun e => k (ix4 (tb t) j (th t) e))
      (fun j => padr fun e => v (ix4 (tb t) j (th t) e))
      (fun r => padr fun e => ∑ j, weight (score q k (tb t) (th t) (tu t) (ti t r)) j * v (ix4 (tb t) j (th t) e))
      (fun r => padr fun e => ct (ix4 (tb t) (ti t r) (head (th t) (tu t)) e))
      (fun r => M r + Real.log (∑ j, Real.exp (score q k (tb t) (th t) (tu t) (ti t r) j - M r))) r j
        = gs q k v ct (tb t) (th t) (tu t) (ti t r) j := fun r j => by
    unfold bg
    rw [w, sum_padr_mul (by decide), sum_padr_mul (by decide), output_grad]
    rfl
  rw [pay12_eq, pay13_eq, pay14_eq]
  refine ⟨(Cert.AttnA.pay12_at _ _ _ _ _ _ (blk0 q m c hq t) (blk1 k m c hk t) (blk2 v m c hv t) (blk3 q k v m c hq hk hv t) (blk4 ct m c hct t) hM r e).trans ?_,
    (Cert.AttnA.pay13_at _ _ _ _ _ _ (blk0 q m c hq t) (blk1 k m c hk t) (blk2 v m c hv t) (blk3 q k v m c hq hk hv t) (blk4 ct m c hct t) hM j e).trans ?_,
    (Cert.AttnA.pay14_at _ _ _ _ (blk0 q m c hq t) (blk1 k m c hk t) (blk4 ct m c hct t) hM j e).trans ?_⟩ <;> congr 1
  · simp only [g]; exact sum_mul_padr _ _ _
  · simp only [g]; exact sum_mul_padr _ _ _
  · simp only [w]; exact sum_mul_padr _ _ _

theorem dq_entry (r : Fin 1024) (e : Fin 128) :
    k0_pay12 (iblk m c 0 t) (iblk m c 1 t) (iblk m c 2 t) (iblk m c 4 t) (iblk m c 5 t) (iblk m c 3 t) (ix2 r e)
      = GQ q k v ct ((win0_6.blk t).view.emb (ix2 r e)) := by
  have e1 : cb ((win0_6.blk t).view.emb (ix2 r e)) = tb t := Fin.ext (by simp only [cb]; blk_simp [idx t]; simp only [tb]; omega)
  have e2 : ci ((win0_6.blk t).view.emb (ix2 r e)) = ti t r := Fin.ext (by simp only [ci]; blk_simp [idx t]; simp only [ti]; omega)
  have e3 : cn ((win0_6.blk t).view.emb (ix2 r e)) = head (th t) (tu t) := Fin.ext (by simp only [cn]; blk_simp [idx t]; simp only [head, th, tu]; omega)
  have e4 : ce ((win0_6.blk t).view.emb (ix2 r e)) = e := Fin.ext (by simp only [ce]; blk_simp [idx t]; omega)
  rw [GQ, e1, e2, e3, e4, grp_head, mem_head]
  exact (parts q k v ct m c hq hk hv hct t r 0 e).1

set_option maxHeartbeats 2000000 in
theorem final6 : (dats m 0 c).arrAt 6 (cfgs 0).N = GQ q k v ct := by
  refine (dats m 0 c).arrAt_eq_of_covers 6 _ (by decide +kernel) fun t _ y => ?_
  blk_simp
  rw [after0_6]
  by_cases h : t.val % 8 = 0
  · rw [outsAt0_A m c t h (by omega) (by omega)]; frame_out
    exact dq_entry q k v ct m c hq hk hv hct t (y 0) (y 1)
  · by_cases h7 : t.val % 8 = 7
    · rw [outsAt0_C m c t h (by omega) h7]; frame_out
      exact dq_entry q k v ct m c hq hk hv hct t (y 0) (y 1)
    · rw [outsAt0_B m c t h (by omega) h7]; frame_out
      exact dq_entry q k v ct m c hq hk hv hct t (y 0) (y 1)

omit hq hk hv hct

theorem pay1_at (a : FVec Ideal S2048x128 .f32) (y : S2048x128.Idx) : k0_pay1 a y = a y := by pointwise [k0_pay1]
theorem pay2_at (a : FVec Ideal S2048x128 .f32) (y : S2048x128.Idx) : k0_pay2 a y = a y := by pointwise [k0_pay2]
theorem pay3_at (a b : FVec Ideal S2048x128 .f32) (y : S2048x128.Idx) : k0_pay3 a b y = b y + a y := by pointwise [k0_pay3]
theorem pay4_at (a b : FVec Ideal S2048x128 .f32) (y : S2048x128.Idx) : k0_pay4 a b y = b y + a y := by pointwise [k0_pay4]
theorem pay5_at (a : FVec Ideal S2048x128 .f32) (y : S2048x128.Idx) : k0_pay5 (F := Ideal) a y = (a y : EReal) := by pointwise [k0_pay5]
theorem pay6_at (a : FVec Ideal S2048x128 .f32) (y : S2048x128.Idx) : k0_pay6 (F := Ideal) a y = (a y : EReal) := by pointwise [k0_pay6]

/-- The point `s` of the eight that share a block with `t`. -/
def run8 (s : Fin 8) : Fin cfg0.N := ⟨8 * (t.val / 8) + s.val, by
  have h := lt32 t
  have h' : 8 * (t.val / 8) + s.val < 32 := by omega
  exact h'.trans_eq N_0.symm⟩

/-- What one point adds to the keys' gradient, and to the values'. -/
def dkP (y : S2048x128.Idx) : EReal :=
  k0_pay13 (F := Ideal) (iblk m c 0 t) (iblk m c 1 t) (iblk m c 2 t) (iblk m c 4 t) (iblk m c 5 t) (iblk m c 3 t) y
def dvP (y : S2048x128.Idx) : EReal :=
  k0_pay14 (F := Ideal) (iblk m c 0 t) (iblk m c 1 t) (iblk m c 4 t) (iblk m c 5 t) y

set_option maxHeartbeats 2000000 in
/-- The eight points that write into one block of the keys' gradient: their sum. -/
theorem dk_run (h7 : t.val % 8 = 7) (y : S2048x128.Idx) : (dats m 0 c).after 7 t y = ∑ s : Fin 8, dkP m c (run8 t s) y := by
  have hout : (dats m 0 c).after 7 t y = (outsAt0 m c t.val t.isLt).2.2.2.1 y := by
    rw [after0_7, outsAt0_C m c t (by omega) (by omega) h7]; frame_out
    rw [pay5_at]
  rw [hout, Pipeline.eq_sum_fin_of_reset_step_apply_of_flush (fun n h => (outsAt0 m c n h).2.2.2.1) 8 (fun _ => 0) (fun t y => dkP m c t y)
    (fun t h i => by rw [outsAt0_A m c t h (by omega) (by omega)]; frame_out; rw [pay1_at, zero_add]; rfl)
    (fun t h i => by
      by_cases h8 : t.val % 8 = 7
      · rw [outsAt0_C m c t h (by omega) h8]; frame_out
        rw [pay3_at, read_unread_whole]; rfl
      · rw [outsAt0_B m c t h (by omega) h8]; frame_out
        rw [pay3_at, read_unread_whole]; rfl) t h7 y, zero_add]
  rfl

set_option maxHeartbeats 2000000 in
theorem dv_run (h7 : t.val % 8 = 7) (y : S2048x128.Idx) : (dats m 0 c).after 8 t y = ∑ s : Fin 8, dvP m c (run8 t s) y := by
  have hout : (dats m 0 c).after 8 t y = (outsAt0 m c t.val t.isLt).2.2.2.2 y := by
    rw [after0_8, outsAt0_C m c t (by omega) (by omega) h7]; frame_out
    rw [pay6_at]
  rw [hout, Pipeline.eq_sum_fin_of_reset_step_apply_of_flush (fun n h => (outsAt0 m c n h).2.2.2.2) 8 (fun _ => 0) (fun t y => dvP m c t y)
    (fun t h i => by rw [outsAt0_A m c t h (by omega) (by omega)]; frame_out; rw [pay2_at, zero_add]; rfl)
    (fun t h i => by
      by_cases h8 : t.val % 8 = 7
      · rw [outsAt0_C m c t h (by omega) h8]; frame_out
        rw [pay4_at, read_unread_whole]; rfl
      · rw [outsAt0_B m c t h (by omega) h8]; frame_out
        rw [pay4_at, read_unread_whole]; rfl) t h7 y, zero_add]
  rfl

/-- The eight points cover the four members' queries. -/
theorem eight (F : Fin 4 → Fin 2048 → ℝ) : ∑ s : Fin 8, ∑ r, F (tu (run8 t s)) (ti (run8 t s) r) = ∑ u, ∑ i, F u i := by
  refine Fin.sum_points_lanes_congr 2 fun s r ha hl => ?_
  have e1 : tu (run8 t s) = ⟨s.val / 2, ha⟩ := Fin.ext (by simp only [tu, run8]; omega)
  have e2 : ti (run8 t s) r = ⟨s.val % 2 * 1024 + r.val, hl⟩ := Fin.ext (by simp only [ti, run8]; omega)
  rw [e1, e2]

theorem run_b (s : Fin 8) : tb (run8 t s) = tb t := Fin.ext (by simp only [tb, run8]; omega)
theorem run_h (s : Fin 8) : th (run8 t s) = th t := Fin.ext (by simp only [th, run8]; omega)

include hq hk hv hct

theorem dk_entry (h7 : t.val % 8 = 7) (j : Fin 2048) (e : Fin 128) :
    ∑ s : Fin 8, dkP m c (run8 t s) (ix2 j e) = GK q k v ct ((win0_7.blk t).view.emb (ix2 j e)) := by
  have e1 : kb ((win0_7.blk t).view.emb (ix2 j e)) = tb t := Fin.ext (by simp only [kb]; blk_simp [idx t]; simp only [tb]; omega)
  have e2 : kj ((win0_7.blk t).view.emb (ix2 j e)) = j := Fin.ext (by simp only [kj]; blk_simp [idx t]; omega)
  have e3 : kh ((win0_7.blk t).view.emb (ix2 j e)) = th t := Fin.ext (by simp only [kh]; blk_simp [idx t]; simp only [th]; omega)
  have e4 : ke ((win0_7.blk t).view.emb (ix2 j e)) = e := Fin.ext (by simp only [ke]; blk_simp [idx t]; omega)
  rw [GK, e1, e2, e3, e4]
  refine (Finset.sum_congr rfl fun s _ => (parts q k v ct m c hq hk hv hct (run8 t s) 0 j e).2.1).trans ?_
  simp only [run_b, run_h, coe_sum, sum_padr]
  refine congrArg (fun f => ((padr f e : ℝ) : EReal)) (funext fun e => ?_)
  exact eight t fun u i => gs q k v ct (tb t) (th t) u i j * q (ix5 (tb t) i (th t) u e)

theorem dv_entry (h7 : t.val % 8 = 7) (j : Fin 2048) (e : Fin 128) :
    ∑ s : Fin 8, dvP m c (run8 t s) (ix2 j e) = GV q k ct ((win0_8.blk t).view.emb (ix2 j e)) := by
  have e1 : kb ((win0_8.blk t).view.emb (ix2 j e)) = tb t := Fin.ext (by simp only [kb]; blk_simp [idx t]; simp only [tb]; omega)
  have e2 : kj ((win0_8.blk t).view.emb (ix2 j e)) = j := Fin.ext (by simp only [kj]; blk_simp [idx t]; omega)
  have e3 : kh ((win0_8.blk t).view.emb (ix2 j e)) = th t := Fin.ext (by simp only [kh]; blk_simp [idx t]; simp only [th]; omega)
  have e4 : ke ((win0_8.blk t).view.emb (ix2 j e)) = e := Fin.ext (by simp only [ke]; blk_simp [idx t]; omega)
  rw [GV, e1, e2, e3, e4]
  refine (Finset.sum_congr rfl fun s _ => (parts q k v ct m c hq hk hv hct (run8 t s) 0 j e).2.2).trans ?_
  simp only [run_b, run_h, coe_sum, sum_padr]
  refine congrArg (fun f => ((padr f e : ℝ) : EReal)) (funext fun e => ?_)
  exact eight t fun u i => weight (score q k (tb t) (th t) u i) j * ct (ix4 (tb t) i (head (th t) u) e)

theorem final7 : (dats m 0 c).arrAt 7 (cfgs 0).N = GK q k v ct := by
  refine (dats m 0 c).arrAt_eq_of_covers 7 _ (by decide +kernel) fun t hf y => ?_
  have h : t.val % 8 = 7 := (flush0_7 t).mp hf
  exact (dk_run m c t h y).trans (dk_entry q k v ct m c hq hk hv hct t h (y 0) (y 1))

theorem final8 : (dats m 0 c).arrAt 8 (cfgs 0).N = GV q k ct := by
  refine (dats m 0 c).arrAt_eq_of_covers 8 _ (by decide +kernel) fun t hf y => ?_
  have h : t.val % 8 = 7 := (flush0_8 t).mp hf
  exact (dv_run m c t h y).trans (dv_entry q k v ct m c hq hk hv hct t h (y 0) (y 1))

end blocks

end Cert.AttnB

end
-- ==== Proof.AttnB.lean ====
/-
  The gradient of the second attention, whose queries share keys and values in groups of four: from the forward pass's queries, keys and values and the gradient of its output, the
  gradients of the three. Both programs' result arrays are the same real functions of the arguments.
-/
module

public import proofs.«01_k».proof.Defs
public import proofs.«01_k».proof.Proof.Gen.AttnBKernelIdeal.Value
public import proofs.«01_k».proof.Proof.Gen.AttnBRefIdeal.Run
public import proofs.«01_k».proof.Proof.AttnBKern
public import proofs.«01_k».proof.Proof.AttnBRef

@[expose] public section

set_option maxRecDepth 16384

noncomputable section

namespace Cert.AttnB

open Idealize.ShloMosaic Idealize.ShloMosaic.TcCoe Idealize.SL.Sem
open Cert.Reals

instance pre_facts : Cert.Pre_finite_attn_b.Facts := ⟨by decide, by decide, by decide⟩

theorem frame_ref : Cert.quiescent_AttnBRefIdeal := fun m ρ _ =>
  (θ_run Cert.AttnBRefIdeal.defs _ _).mono (fun r h => ⟨fun c => (h c).2.2.2, sem_eq_zero_of_no_sems (by decide) r.2⟩)
    (Cert.AttnBRefIdeal.Value.run (F := Ideal) m ρ)

open Cert.AttnBKernelIdeal in
/-- What the precondition says of one device's arguments. -/
theorem reals (m : (ℓ : Loc nD τ sig) → Buf (Elt Ideal) ℓ) (h : Cert.Pre_AttnBKernelIdeal_finite_attn_b m) (c : Dev nD) :
    ∃ (q : S2x2048x2x4x64.Idx → ℝ) (k v : S2x2048x2x64.Idx → ℝ) (ct : S2x2048x8x64.Idx → ℝ), aq m c = up q ∧ ak m c = up k ∧ av m c = up v ∧ act m c = up ct := by
  obtain ⟨h0, h1, h2, h3⟩ := h c
  obtain ⟨q, hq⟩ := finite_up _ _ _ h0
  obtain ⟨k, hk⟩ := finite_up _ _ _ h1
  obtain ⟨v, hv⟩ := finite_up _ _ _ h2
  obtain ⟨ct, hct⟩ := finite_up _ _ _ h3
  exact ⟨q, k, v, ct, hq, hk, hv, hct⟩

open Cert.AttnBKernelIdeal in
theorem algebraic : Cert.algebraic_AttnBKernelIdeal_AttnBRefIdeal_pre_finite_attn_b := by
  intro m ρ m' ρ' hp hag
  choose q k v ct h using reals m hp
  refine ⟨fun c => GQ (q c) (k c) (v c) (ct c), fun c => GK (q c) (k c) (v c) (ct c), fun c => GV (q c) (k c) (ct c),
    (θ_run _ _ _).mono (fun r hr c => ?_) (Cert.AttnBKernelIdeal.Value.run_blocks m ρ),
    (θ_run _ _ _).mono (fun r hr c => ?_) (Cert.AttnBRefIdeal.Value.run m' ρ')⟩
  · obtain ⟨hq, hk, hv, hct⟩ := h c
    exact ⟨(hr c).1.trans (final6 _ _ _ _ m c hq hk hv hct), (hr c).2.1.trans (final7 _ _ _ _ m c hq hk hv hct),
      (hr c).2.2.1.trans (final8 _ _ _ _ m c hq hk hv hct), (hr c).2.2.2⟩
  · obtain ⟨hq, hk, hv, hct⟩ := h c
    obtain ⟨e0, e1, e2, e3⟩ := hag c
    refine ⟨(hr c).1.trans ?_, (hr c).2.1.trans ?_, (hr c).2.2.1.trans ?_, (hr c).2.2.2⟩
    · rw [Cert.AttnBRefIdeal.Read.val_main_v57_eq, e0, e1, e2, e3]
      exact (congr (congr (congr (congrArg _ hq) hk) hv) hct).trans (ref_dq (q c) (k c) (v c) (ct c))
    · rw [Cert.AttnBRefIdeal.Read.val_main_v60_eq, e0, e1, e2, e3]
      exact (congr (congr (congr (congrArg _ hq) hk) hv) hct).trans (ref_dk (q c) (k c) (v c) (ct c))
    · rw [e0, e1, e3]
      exact (congr (congr (congrArg _ hq) hk) hct).trans (ref_dv (q c) (k c) (ct c))

end Cert.AttnB

end
-- ==== Proof.Columns.lean ====
/-
  The input projection's 3232 columns in the order the kernel takes them: 4096 columns, every head and every short branch filled
  up to 128. A sum over the 4096 is the sum over the 3232.
-/
module

public import proofs.«01_k».proof.Proof.Reals
public import Idealize.ShloMosaic.Lib.Pipeline.ValueKit

@[expose] public section

set_option maxRecDepth 16384

noncomputable section

namespace Cert.Columns

open Idealize.ShloMosaic
open Cert.Reals

/-- The column that column `s` of the kernel's order is, 3232 where it is filling; and the place a column takes. -/
def src (s : ℕ) : ℕ :=
  if s < 1024 then (if s % 128 < 64 then 416 + (s / 128 * 64 + s % 128) else 3232)
  else if s < 1280 then s - 1024
  else if s < 1408 then s - 1024
  else if s < 1536 then (if s < 1440 then s - 1024 else 3232)
  else if s < 1792 then (if s % 128 < 64 then 928 + ((s - 1536) / 128 * 64 + s % 128) else 3232)
  else if s < 2048 then (if s % 128 < 64 then 1056 + ((s - 1792) / 128 * 64 + s % 128) else 3232)
  else s - 864

def dst (n : ℕ) : ℕ :=
  if n < 416 then n + 1024
  else if n < 928 then (n - 416) / 64 * 128 + (n - 416) % 64
  else if n < 1056 then 1536 + ((n - 928) / 64 * 128 + (n - 928) % 64)
  else if n < 1184 then 1792 + ((n - 1056) / 64 * 128 + (n - 1056) % 64)
  else n + 864

theorem dst_lt (f : Fin 3232) : dst f.val < 4096 := by unfold dst; split_ifs <;> omega

theorem src_eq_iff (s : Fin 4096) (f : Fin 3232) : src s.val = f.val ↔ s.val = dst f.val := by
  unfold src dst; split_ifs <;> omega

/-- A row of the 3232 columns at a column of the kernel's order, in any type with a zero. -/
def at4096 {A : Type} [Zero A] (f : Fin 3232 → A) (s : Fin 4096) : A := if h : src s.val < 3232 then f ⟨src s.val, h⟩ else 0

section value

variable {A : Type} [Zero A] (f : Fin 3232 → A) (s : Fin 4096)

theorem at_of {n : ℕ} (hn : n < 3232) (h : src s.val = n) : f ⟨n, hn⟩ = at4096 f s := by
  subst h; rw [at4096, dif_pos hn]

theorem at_none (z : A) (hz : z = 0) (h : src s.val = 3232) : z = at4096 f s := by
  rw [hz, at4096, dif_neg (by omega)]

set_option maxHeartbeats 4000000 in
/-- The host's order, as it is packed: eight pieces side by side. -/
theorem packed (z : A) (hz : z = 0) :
    (if _ : s.val < 1024 then
      if _ : s.val / 128 < 8 ∧ s.val % 128 < 64 then f ⟨416 + (s.val / 128 * 64 + s.val % 128), by omega⟩ else z
    else if _ : s.val - 1024 < 256 then f ⟨s.val - 1024, by omega⟩
    else if _ : s.val - 1024 - 256 < 128 then f ⟨256 + (s.val - 1024 - 256), by omega⟩
    else if _ : s.val - 1024 - 256 - 128 < 128 then
      if _ : s.val - 1024 - 256 - 128 < 32 then f ⟨384 + (s.val - 1024 - 256 - 128), by omega⟩ else z
    else if _ : s.val - 1024 - 256 - 128 - 128 < 256 then
      if _ : (s.val - 1024 - 256 - 128 - 128) / 128 < 2 ∧ (s.val - 1024 - 256 - 128 - 128) % 128 < 64 then
        f ⟨928 + ((s.val - 1024 - 256 - 128 - 128) / 128 * 64 + (s.val - 1024 - 256 - 128 - 128) % 128), by omega⟩ else z
    else if _ : s.val - 1024 - 256 - 128 - 128 - 256 < 256 then
      if _ : (s.val - 1024 - 256 - 128 - 128 - 256) / 128 < 2 ∧ (s.val - 1024 - 256 - 128 - 128 - 256) % 128 < 64 then
        f ⟨1056 + ((s.val - 1024 - 256 - 128 - 128 - 256) / 128 * 64 + (s.val - 1024 - 256 - 128 - 128 - 256) % 128), by omega⟩ else z
    else if _ : s.val - 1024 - 256 - 128 - 128 - 256 - 256 < 1024 then f ⟨1184 + (s.val - 1024 - 256 - 128 - 128 - 256 - 256), by omega⟩
    else f ⟨2208 + (s.val - 1024 - 256 - 128 - 128 - 256 - 256 - 1024), by omega⟩)
      = at4096 f s := by
  split_ifs
  all_goals first
    | exact at_none f s z hz (by unfold src; split_ifs <;> omega)
    | exact at_of f s _ (by unfold src; split_ifs <;> omega)

end value

theorem at_coe (f : Fin 3232 → ℝ) (s : Fin 4096) : at4096 (fun k => (f k : EReal)) s = ((at4096 f s : ℝ) : EReal) := by
  unfold at4096; split_ifs <;> rfl

/-- Products summed over the kernel's order. -/
theorem sum_packed (f g : Fin 3232 → ℝ) : ∑ s : Fin 4096, at4096 f s * at4096 g s = ∑ k, f k * g k := by
  have h : ∀ s : Fin 4096, at4096 f s * at4096 g s = ∑ k : Fin 3232, if s = (⟨dst k.val, dst_lt k⟩ : Fin 4096) then f k * g k else 0 := fun s => by
    have hs : ∀ k : Fin 3232, (s = (⟨dst k.val, dst_lt k⟩ : Fin 4096)) ↔ src s.val = k.val := fun k => by
      rw [src_eq_iff, Fin.ext_iff]
    simp only [hs]
    by_cases h : src s.val < 3232
    · rw [Finset.sum_eq_single (⟨src s.val, h⟩ : Fin 3232) (fun k _ hk => if_neg fun e => hk (Fin.ext e.symm)) (fun e => absurd (Finset.mem_univ _) e),
        if_pos rfl, at4096, at4096, dif_pos h, dif_pos h]
    · rw [at4096, dif_neg h, zero_mul]
      exact (Finset.sum_eq_zero fun k _ => if_neg (by have := k.isLt; omega)).symm
  rw [Finset.sum_congr rfl fun s _ => h s, Finset.sum_comm]
  exact Finset.sum_congr rfl fun k _ => (Finset.sum_ite_eq' Finset.univ _ _).trans (if_pos (Finset.mem_univ _))

end Cert.Columns

end
-- ==== Proof.InProjRef.lean ====
/-
  The gradient through the input projection and the norm before it, with the residual's gradient added: the reference's two
  results as functions of the arguments.
-/
module

public import proofs.«01_k».proof.Proof.Gen.InProjRefIdeal.Run
public import proofs.«01_k».proof.Proof.Gen.InProjRefIdeal.Read
public import Idealize.ShloMosaic.Lib.Pipeline.ValueKit
public import proofs.«01_k».proof.Proof.Rms

@[expose] public section

set_option maxRecDepth 16384

noncomputable section

namespace Cert.InProj

open Idealize.ShloMosaic Idealize.ShloMosaic.TcCoe Idealize.SL.Sem
open Cert.Reals Cert.Rms
open Cert.InProjRefIdeal Cert.InProjRefIdeal.Gen Cert.InProjRefIdeal.Read

variable (x : S4096x1024.Idx → ℝ) (g : S1x1024.Idx → ℝ) (w : S1024x3232.Idx → ℝ) (du : S4096x3232.Idx → ℝ) (res : FVec Ideal S4096x1024 .f32)

/-- A row of the normed argument, and of the cotangent through the projection, without and with the gains. -/
def xr (r : Fin 4096) (k : Fin 1024) : ℝ := x (ix2 r k)
def dh (r : Fin 4096) (d : Fin 1024) : ℝ := ∑ f : Fin 3232, du (ix2 r f) * w (ix2 d f)
def dg (r : Fin 4096) (d : Fin 1024) : ℝ := dh w du r d * g (ix2 0 d)

/-- The two gradients. -/
def GX : FVec Ideal S4096x1024 .f32 := fun y => res y + (grad 1024 (xr x (y 0)) (dg g w du (y 0)) (y 1) : EReal)
def GG : FVec Ideal S1x1024 .f32 := fun y => ((∑ r : Fin 4096, dh w du r (y 1) * (xr x r (y 1) * inv 1024 (xr x r)) : ℝ) : EReal)

theorem v16_at (r : Fin 4096) (d : Fin 1024) : val_main_v16 (F := Ideal) (up w) (up du) (ix2 r d) = (dh w du r d : EReal) := by
  pointwise [val_main_v16, up]
  simp only [← EReal.coe_mul, coe_sum, dh]

theorem v6_at (r : Fin 4096) (u : Fin 1) : val_main_v6 (F := Ideal) (up x) (ix2 r u) = (var 1024 (xr x r) : EReal) := by
  pointwise [val_main_v6, val_main_v5, val_main_v4, val_main_v3, val_main_v2, val_main_v1, val_main_v0, val_main_cst, val_main_cst_0, val_main_cst_1, up]
  simp only [← EReal.coe_mul, coe_sum, c1024, eps_coe]
  exact var_div (by norm_num) (xr x r)

theorem v7_at (r : Fin 4096) (u : Fin 1) : val_main_v7 (F := Ideal) (up x) (ix2 r u) = (inv 1024 (xr x r) : EReal) := by
  pointwise [val_main_v7]
  rw [v6_at, Rms.inv_div (by norm_num)]

theorem v21_at (r : Fin 4096) (d : Fin 1024) : val_main_v21 (F := Ideal) (up g) (up w) (up du) (ix2 r d) = (dg g w du r d : EReal) := by
  pointwise [val_main_v21, val_main_v20]
  rw [v16_at]
  simp only [up, ← EReal.coe_mul, dg]

theorem v30_at (r : Fin 4096) (u : Fin 1) : val_main_v30 (F := Ideal) (up x) (up g) (up w) (up du) (ix2 r u)
    = (slope 1024 (xr x r) (dg g w du r) : EReal) := by
  pointwise [val_main_v30, val_main_v29, val_main_v28, val_main_v24, val_main_v23, val_main_v22, val_main_v10, val_main_v9, val_main_v8, val_main_cst_2,
    val_main_cst_4, val_main_cst_5]
  simp only [v21_at, v7_at, v6_at, up, ← EReal.coe_mul, coe_sum, c1024, mhalf]
  exact slope_div (by norm_num) (xr x r) (dg g w du r)

theorem v36_at (r : Fin 4096) (d : Fin 1024) : val_main_v36 (F := Ideal) (up x) (up g) (up w) (up du) res (ix2 r d)
    = res (ix2 r d) + (grad 1024 (xr x r) (dg g w du r) d : EReal) := by
  pointwise [val_main_v36, val_main_v35, val_main_v34, val_main_v33, val_main_v32, val_main_v31, val_main_v27, val_main_v26, val_main_v25, val_main_cst_6]
  simp only [v21_at, v7_at, v30_at, Fin.sum_univ_one]
  exact add_grad (by norm_num) (xr x r) (dg g w du r) d _

theorem ref_dx : val_main_v36 (F := Ideal) (up x) (up g) (up w) (up du) res = GX x g w du res := by
  funext y
  rw [eq_ix2 y]
  exact v36_at x g w du res (y 0) (y 1)

theorem v19_at (u : Fin 1) (d : Fin 1024) : val_main_v19 (F := Ideal) (up x) (up w) (up du) (ix2 u d)
    = ((∑ r : Fin 4096, dh w du r d * (xr x r d * inv 1024 (xr x r)) : ℝ) : EReal) := by
  pointwise [val_main_v19, val_main_v18, val_main_v17, val_main_v12, val_main_v11, val_main_cst_3]
  simp only [v16_at, v7_at, up, ← EReal.coe_mul, coe_sum]
  exact congrArg _ (Finset.sum_congr rfl fun r _ => mul_comm _ _)

theorem ref_dg : val_main_v19 (F := Ideal) (up x) (up w) (up du) = GG x w du := by
  funext y
  exact v19_at x w du (y 0) (y 1)

end Cert.InProj

end
-- ==== Proof.InProjKern.lean ====
/-
  The kernel's gradient through the input projection and the norm before it: 256 rows a grid point, the gains' gradient
  summed over the points.
-/
module

public import proofs.«01_k».proof.Proof.Gen.InProjKernelIdeal.Value
public import Idealize.ShloMosaic.Lib.Pipeline.ValueKit
public import Idealize.ShloMosaic.Lib.Pipeline.ReadBack
public import proofs.«01_k».proof.Proof.Columns
public import proofs.«01_k».proof.Proof.InProjRef

@[expose] public section

set_option maxRecDepth 16384

noncomputable section

namespace Cert.InProj

open Idealize.ShloMosaic Idealize.ShloMosaic.TcCoe Idealize.SL.Sem
open Cert.Reals Cert.Rms Cert.Columns
open Cert.InProjKernelIdeal Cert.InProjKernelIdeal.Gen

variable (x : S4096x1024.Idx → ℝ) (g : S1x1024.Idx → ℝ) (w : S1024x3232.Idx → ℝ) (du : S4096x3232.Idx → ℝ)

/-- The padding's value. -/
def zeroH : FVec Ideal S_ .bf16 := sitofp .bf16 (constantI S_ 32 0#32)

/-- The weights' columns in the kernel's order, every head and every short branch filled up to 128. -/
def wB (W : FVec Ideal S1024x3232 .f32) : FVec Ideal S1024x3232 .bf16 := truncf .bf16 W bitsLt_bf16_f32
def wQ (W : FVec Ideal S1024x3232 .f32) : FVec Ideal S1024x1024 .bf16 :=
  shapeCast S1024x1024 (pad S1024x8x128 ![0, 0, 0] ![0, 0, 64] ![0, 0, 0] (shapeCast S1024x8x64 (extractStridedSlice S1024x512 ![0, 416] (wB W) slices_S1024x3232_S1024x512_0_416)
    shapeCasts_S1024x512_S1024x8x64) zeroH pads_S1024x8x64_S1024x8x128_000_000_0640 h_S_) shapeCasts_S1024x8x128_S1024x1024
def wK (W : FVec Ideal S1024x3232 .f32) : FVec Ideal S1024x256 .bf16 :=
  shapeCast S1024x256 (pad S1024x2x128 ![0, 0, 0] ![0, 0, 64] ![0, 0, 0] (shapeCast S1024x2x64 (extractStridedSlice S1024x128 ![0, 928] (wB W) slices_S1024x3232_S1024x128_0_928)
    shapeCasts_S1024x128_S1024x2x64) zeroH pads_S1024x2x64_S1024x2x128_000_000_0640 h_S_) shapeCasts_S1024x2x128_S1024x256
def wV (W : FVec Ideal S1024x3232 .f32) : FVec Ideal S1024x256 .bf16 :=
  shapeCast S1024x256 (pad S1024x2x128 ![0, 0, 0] ![0, 0, 64] ![0, 0, 0] (shapeCast S1024x2x64 (extractStridedSlice S1024x128 ![0, 1056] (wB W) slices_S1024x3232_S1024x128_0_1056)
    shapeCasts_S1024x128_S1024x2x64) zeroH pads_S1024x2x64_S1024x2x128_000_000_0640 h_S_) shapeCasts_S1024x2x128_S1024x256
def wP (W : FVec Ideal S1024x3232 .f32) : FVec Ideal S1024x128 .bf16 :=
  pad S1024x128 ![0, 0] ![0, 96] ![0, 0] (extractStridedSlice S1024x32 ![0, 384] (wB W) slices_S1024x3232_S1024x32_0_384) zeroH pads_S1024x32_S1024x128_000_0960 h_S_
def wH (W : FVec Ideal S1024x3232 .f32) : FVec Ideal S1024x4096 .bf16 :=
  concatenate S1024x4096 1 [⟨S1024x1024, wQ W⟩, ⟨S1024x256, extractStridedSlice S1024x256 ![0, 0] (wB W) slices_S1024x3232_S1024x256_0_0⟩,
    ⟨S1024x128, extractStridedSlice S1024x128 ![0, 256] (wB W) slices_S1024x3232_S1024x128_0_256⟩, ⟨S1024x128, wP W⟩, ⟨S1024x256, wK W⟩, ⟨S1024x256, wV W⟩,
    ⟨S1024x1024, extractStridedSlice S1024x1024 ![0, 1184] (wB W) slices_S1024x3232_S1024x1024_0_1184⟩,
    ⟨S1024x1024, extractStridedSlice S1024x1024 ![0, 2208] (wB W) slices_S1024x3232_S1024x1024_0_2208⟩]
    concatenates_S1024x1024_S1024x256_S1024x128_S1024x128_S1024x256_S1024x256_S1024x1024_S1024x1024_S1024x4096_d1

/-- The cotangent's columns in the same order. -/
def dB (W : FVec Ideal S4096x3232 .f32) : FVec Ideal S4096x3232 .bf16 := truncf .bf16 W bitsLt_bf16_f32
def dQ (W : FVec Ideal S4096x3232 .f32) : FVec Ideal S4096x1024 .bf16 :=
  shapeCast S4096x1024 (pad S4096x8x128 ![0, 0, 0] ![0, 0, 64] ![0, 0, 0] (shapeCast S4096x8x64 (extractStridedSlice S4096x512 ![0, 416] (dB W) slices_S4096x3232_S4096x512_0_416)
    shapeCasts_S4096x512_S4096x8x64) zeroH pads_S4096x8x64_S4096x8x128_000_000_0640 h_S_) shapeCasts_S4096x8x128_S4096x1024
def dK (W : FVec Ideal S4096x3232 .f32) : FVec Ideal S4096x256 .bf16 :=
  shapeCast S4096x256 (pad S4096x2x128 ![0, 0, 0] ![0, 0, 64] ![0, 0, 0] (shapeCast S4096x2x64 (extractStridedSlice S4096x128 ![0, 928] (dB W) slices_S4096x3232_S4096x128_0_928)
    shapeCasts_S4096x128_S4096x2x64) zeroH pads_S4096x2x64_S4096x2x128_000_000_0640 h_S_) shapeCasts_S4096x2x128_S4096x256
def dV (W : FVec Ideal S4096x3232 .f32) : FVec Ideal S4096x256 .bf16 :=
  shapeCast S4096x256 (pad S4096x2x128 ![0, 0, 0] ![0, 0, 64] ![0, 0, 0] (shapeCast S4096x2x64 (extractStridedSlice S4096x128 ![0, 1056] (dB W) slices_S4096x3232_S4096x128_0_1056)
    shapeCasts_S4096x128_S4096x2x64) zeroH pads_S4096x2x64_S4096x2x128_000_000_0640 h_S_) shapeCasts_S4096x2x128_S4096x256
def dP (W : FVec Ideal S4096x3232 .f32) : FVec Ideal S4096x128 .bf16 :=
  pad S4096x128 ![0, 0] ![0, 96] ![0, 0] (extractStridedSlice S4096x32 ![0, 384] (dB W) slices_S4096x3232_S4096x32_0_384) zeroH pads_S4096x32_S4096x128_000_0960 h_S_
def dH (W : FVec Ideal S4096x3232 .f32) : FVec Ideal S4096x4096 .bf16 :=
  concatenate S4096x4096 1 [⟨S4096x1024, dQ W⟩, ⟨S4096x256, extractStridedSlice S4096x256 ![0, 0] (dB W) slices_S4096x3232_S4096x256_0_0⟩,
    ⟨S4096x128, extractStridedSlice S4096x128 ![0, 256] (dB W) slices_S4096x3232_S4096x128_0_256⟩, ⟨S4096x128, dP W⟩, ⟨S4096x256, dK W⟩, ⟨S4096x256, dV W⟩,
    ⟨S4096x1024, extractStridedSlice S4096x1024 ![0, 1184] (dB W) slices_S4096x3232_S4096x1024_0_1184⟩,
    ⟨S4096x1024, extractStridedSlice S4096x1024 ![0, 2208] (dB W) slices_S4096x3232_S4096x1024_0_2208⟩]
    concatenates_S4096x1024_S4096x256_S4096x128_S4096x128_S4096x256_S4096x256_S4096x1024_S4096x1024_S4096x4096_d1

section entry

variable (m : (ℓ : Loc nD τ sig) → Buf (Elt Ideal) ℓ) (c : Dev nD)

def ax : FVec Ideal S4096x1024 .f32 := m ((c : Thread nD τ).loc main_arg0)
def ag : FVec Ideal S1x1024 .f32 := m ((c : Thread nD τ).loc main_arg1)
def aw : FVec Ideal S1024x3232 .f32 := m ((c : Thread nD τ).loc main_arg2)
def adu : FVec Ideal S4096x3232 .f32 := m ((c : Thread nD τ).loc main_arg3)
def ares : FVec Ideal S4096x1024 .f32 := m ((c : Thread nD τ).loc main_arg4)

theorem V_def (b : Ref sig .tc) : V m c b = StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))))))))) b := rfl

theorem V_w : V m c main_v19 = wH (aw m c) := by rw [V_def]; after_results; rfl
theorem V_d0 : V m c main_v40 = extractStridedSlice S4096x1024 ![0, 0] (dH (adu m c)) slices_S4096x4096_S4096x1024_0_0 := by rw [V_def]; after_results; rfl
theorem V_d1 : V m c main_v41 = extractStridedSlice S4096x1024 ![0, 1024] (dH (adu m c)) slices_S4096x4096_S4096x1024_0_1024 := by rw [V_def]; after_results; rfl
theorem V_d2 : V m c main_v42 = extractStridedSlice S4096x1024 ![0, 2048] (dH (adu m c)) slices_S4096x4096_S4096x1024_0_2048 := by rw [V_def]; after_results; rfl
theorem V_d3 : V m c main_v43 = extractStridedSlice S4096x1024 ![0, 3072] (dH (adu m c)) slices_S4096x4096_S4096x1024_0_3072 := by rw [V_def]; after_results; rfl
theorem V_x : V m c main_arg0 = ax m c := by rw [V_main_arg0]; rfl
theorem V_g : V m c main_arg1 = ag m c := by rw [V_main_arg1]; rfl
theorem V_res : V m c main_arg4 = ares m c := by rw [V_main_arg4]; rfl

end entry

/-- Column `k` of slot `j` of the 4096. -/
def col (j : Fin 4) (k : Fin 1024) : Fin 4096 := ⟨j.val * 1024 + k.val, by omega⟩

theorem sitofp_zero : (((0#32 : BitVec 32).toInt : ℝ) : EReal) = 0 := by simp

theorem wH_at (W : FVec Ideal S1024x3232 .f32) (d : Fin 1024) (s : Fin 4096) : wH W (ix2 d s) = at4096 (fun f => (W (ix2 d f) : EReal)) s := by
  pointwise [wH, wQ, wK, wV, wP, wB, zeroH]
  exact packed (fun f => (W (ix2 d f) : EReal)) s _ sitofp_zero

theorem dH_at (W : FVec Ideal S4096x3232 .f32) (d s : Fin 4096) : dH W (ix2 d s) = at4096 (fun f => (W (ix2 d f) : EReal)) s := by
  pointwise [dH, dQ, dK, dV, dP, dB, zeroH]
  exact packed (fun f => (W (ix2 d f) : EReal)) s _ sitofp_zero

theorem four (F : Fin 4096 → ℝ) : (∑ k, F (col 0 k)) + (∑ k, F (col 1 k)) + (∑ k, F (col 2 k)) + (∑ k, F (col 3 k)) = ∑ f, F f := by
  rw [← Fin.sum_mul_add_fin 4 1024 F, Fin.sum_univ_four]; rfl

/-! The blocks at a grid point. -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 1] ∧ win0_6.index t = ![0, 2] ∧ win0_7.index t = ![0, 3]
    ∧ win0_8.index t = ![t.val, 0] ∧ win0_9.index t = ![t.val, 0] ∧ win0_10.index t = ![0, 0] ∧ win0_11.index t = ![t.val, 0] ∧ win0_12.index t = ![0, 0] :=
  (by decide +kernel : ∀ t : Fin grid0.N, _)

theorem lt16 (t : Fin cfg0.N) : t.val < 16 := lt_of_lt_of_eq t.isLt N_0

/-- The row of the arrays that a row of a block is. -/
def row (t : Fin cfg0.N) (r : Fin 256) : Fin 4096 := ⟨t.val * 256 + r.val, by have := lt16 t; omega⟩

section blocks

variable (m : (ℓ : Loc nD τ sig) → Buf (Elt Ideal) ℓ) (c : Dev nD) (hx : ax m c = up x) (hg : ag m c = up g) (hw : aw m c = up w) (hdu : adu m c = up du)
  (t : Fin cfg0.N)

theorem blk9 (r : Fin 256) (d : Fin 1024) : iblk m c 9 t (ix2 r d) = ares m c (ix2 (row t r) d) := by
  blk_simp [iblk]
  rw [V_res]
  blk_point [idx t, row]

include hx in
theorem blk8 (r : Fin 256) (d : Fin 1024) : iblk m c 8 t (ix2 r d) = (xr x (row t r) d : EReal) := by
  blk_simp [iblk]
  rw [V_x, hx]
  simp only [up, xr]
  blk_point [idx t, row]

include hg in
theorem blk10 (d : Fin 1024) : iblk m c 10 t (ix2 0 d) = (g (ix2 0 d) : EReal) := by
  blk_simp [iblk]
  rw [V_g, hg]
  simp only [up]
  blk_point [idx t, row]

set_option maxHeartbeats 2000000 in
include hdu in
theorem blkA (r : Fin 256) (k : Fin 1024) : iblk m c 0 t (ix2 r k) = ((at4096 (fun f => du (ix2 (row t r) f)) (col 0 k) : ℝ) : EReal) ∧ iblk m c 1 t (ix2 r k) = ((at4096 (fun f => du (ix2 (row t r) f)) (col 1 k) : ℝ) : EReal)
    ∧ iblk m c 2 t (ix2 r k) = ((at4096 (fun f => du (ix2 (row t r) f)) (col 2 k) : ℝ) : EReal) ∧ iblk m c 3 t (ix2 r k) = ((at4096 (fun f => du (ix2 (row t r) f)) (col 3 k) : ℝ) : EReal) := by
  refine ⟨?_, ?_, ?_, ?_⟩
  · have e : ((View.whole main_v40).slice (win0_0.rect t)).emb (ix2 r k) = (ix2 (row t r) k : S4096x1024.Idx) := by blk_ext [idx t, row]
    blk_simp [iblk]; rw [V_d0, hdu, e, ← at_coe]; pointwise; refine (dH_at _ _ _).trans (congrArg (at4096 _) (Fin.ext ?_)); show _ = 0 * 1024 + k.val; simp
  · have e : ((View.whole main_v41).slice (win0_1.rect t)).emb (ix2 r k) = (ix2 (row t r) k : S4096x1024.Idx) := by blk_ext [idx t, row]
    blk_simp [iblk]; rw [V_d1, hdu, e, ← at_coe]; pointwise; refine (dH_at _ _ _).trans (congrArg (at4096 _) (Fin.ext ?_)); show _ = 1 * 1024 + k.val; simp
  · have e : ((View.whole main_v42).slice (win0_2.rect t)).emb (ix2 r k) = (ix2 (row t r) k : S4096x1024.Idx) := by blk_ext [idx t, row]
    blk_simp [iblk]; rw [V_d2, hdu, e, ← at_coe]; pointwise; refine (dH_at _ _ _).trans (congrArg (at4096 _) (Fin.ext ?_)); show _ = 2 * 1024 + k.val; simp
  · have e : ((View.whole main_v43).slice (win0_3.rect t)).emb (ix2 r k) = (ix2 (row t r) k : S4096x1024.Idx) := by blk_ext [idx t, row]
    blk_simp [iblk]; rw [V_d3, hdu, e, ← at_coe]; pointwise; refine (dH_at _ _ _).trans (congrArg (at4096 _) (Fin.ext ?_)); show _ = 3 * 1024 + k.val; simp

set_option maxHeartbeats 2000000 in
include hw in
theorem blkB (d k : Fin 1024) : iblk m c 4 t (ix2 d k) = ((at4096 (fun f => w (ix2 d f)) (col 0 k) : ℝ) : EReal) ∧ iblk m c 5 t (ix2 d k) = ((at4096 (fun f => w (ix2 d f)) (col 1 k) : ℝ) : EReal)
    ∧ iblk m c 6 t (ix2 d k) = ((at4096 (fun f => w (ix2 d f)) (col 2 k) : ℝ) : EReal) ∧ iblk m c 7 t (ix2 d k) = ((at4096 (fun f => w (ix2 d f)) (col 3 k) : ℝ) : EReal) := by
  refine ⟨?_, ?_, ?_, ?_⟩
  · have e : ((View.whole main_v19).slice (win0_4.rect t)).emb (ix2 d k) = (ix2 d (col 0 k) : S1024x4096.Idx) := by blk_ext [idx t, col]
    blk_simp [iblk]; rw [V_w, hw, e, wH_at, ← at_coe]; rfl
  · have e : ((View.whole main_v19).slice (win0_5.rect t)).emb (ix2 d k) = (ix2 d (col 1 k) : S1024x4096.Idx) := by blk_ext [idx t, col]
    blk_simp [iblk]; rw [V_w, hw, e, wH_at, ← at_coe]; rfl
  · have e : ((View.whole main_v19).slice (win0_6.rect t)).emb (ix2 d k) = (ix2 d (col 2 k) : S1024x4096.Idx) := by blk_ext [idx t, col]
    blk_simp [iblk]; rw [V_w, hw, e, wH_at, ← at_coe]; rfl
  · have e : ((View.whole main_v19).slice (win0_7.rect t)).emb (ix2 d k) = (ix2 d (col 3 k) : S1024x4096.Idx) := by blk_ext [idx t, col]
    blk_simp [iblk]; rw [V_w, hw, e, wH_at, ← at_coe]; rfl

/-- The cotangent of the normed rows at a point: the four slots' products. -/
def DH : FVec Ideal S256x1024 .f32 :=
  k0_pay6 (iblk m c 0 t) (iblk m c 4 t) (iblk m c 1 t) (iblk m c 5 t) (iblk m c 2 t) (iblk m c 6 t) (iblk m c 3 t) (iblk m c 7 t)

include hw hdu in
theorem DH_at (r : Fin 256) (d : Fin 1024) : DH m c t (ix2 r d) = (dh w du (row t r) d : EReal) := by
  have hA := blkA du m c hdu t r
  have hB := blkB w m c hw t d
  pointwise [DH, k0_pay6]
  simp only [(hA _).1, (hA _).2.1, (hA _).2.2.1, (hA _).2.2.2, (hB _).1, (hB _).2.1, (hB _).2.2.1, (hB _).2.2.2, ← EReal.coe_mul, coe_sum, ← EReal.coe_add]
  exact congrArg _ ((four fun s => at4096 (fun f => du (ix2 (row t r) f)) s * at4096 (fun f => w (ix2 d f)) s).trans (sum_packed _ _))

end blocks

/-! The payloads on real rows. -/

section payloads

variable (D X : FVec Ideal S256x1024 .f32) (R : FVec Ideal S256x1024 .f32) (G : FVec Ideal S1x1024 .f32) (a d : Fin 256 → Fin 1024 → ℝ) (γ : Fin 1024 → ℝ)
  (hX : ∀ r k, X (ix2 r k) = (a r k : EReal)) (hD : ∀ r k, D (ix2 r k) = (d r k : EReal)) (hG : ∀ k, G (ix2 0 k) = (γ k : EReal))

include hX

theorem pay1_at (r : Fin 256) (u : Fin 1) : k0_pay1 (F := Ideal) (k0_pay7 X) k0_pay8 (ix2 r u) = (inv 1024 (a r) : EReal) := by
  pointwise [k0_pay1, k0_pay7, k0_pay8]
  simp only [hX, ← EReal.coe_mul, coe_sum, r1024, eps_coe]
  exact inv_mul (by norm_num) (a r)

theorem pay2_at (r : Fin 256) (k : Fin 1024) : k0_pay2 (F := Ideal) X (k0_pay7 X) k0_pay8 (ix2 r k) = ((a r k * inv 1024 (a r) : ℝ) : EReal) := by
  pointwise [k0_pay2]
  rw [pay1_at X a hX, hX, ← EReal.coe_mul]

include hD

theorem pay3_at (u : Fin 1) (k : Fin 1024) : k0_pay3 (F := Ideal) D X (k0_pay7 X) k0_pay8 (ix2 u k) = ((∑ r, d r k * (a r k * inv 1024 (a r)) : ℝ) : EReal) := by
  pointwise [k0_pay3]
  simp only [pay2_at X a hX, hD, ← EReal.coe_mul, coe_sum]

include hG

theorem pay4_at (r : Fin 256) (k : Fin 1024) : k0_pay4 (F := Ideal) D X R G (k0_pay7 X) k0_pay8 (ix2 r k)
    = R (ix2 r k) + (grad 1024 (a r) (fun k => d r k * γ k) k : EReal) := by
  pointwise [k0_pay4]
  simp only [pay2_at X a hX, pay1_at X a hX, hD, hG, ← EReal.coe_mul, coe_sum, r1024]
  rw [add_comm]
  congr 1
  simp only [← EReal.coe_mul, ← EReal.coe_sub, mul_one_div, grad]

end payloads

section finals

variable (m : (ℓ : Loc nD τ sig) → Buf (Elt Ideal) ℓ) (c : Dev nD) (hx : ax m c = up x) (hg : ag m c = up g) (hw : aw m c = up w) (hdu : adu m c = up du)

include hx hg hw hdu

theorem dx_at (t : Fin cfg0.N) (r : Fin 256) (d : Fin 1024) :
    k0_pay4 (F := Ideal) (DH m c t) (iblk m c 8 t) (iblk m c 9 t) (iblk m c 10 t) (k0_pay7 (iblk m c 8 t)) k0_pay8 (ix2 r d)
      = GX x g w du (ares m c) ((win0_11.blk t).view.emb (ix2 r d)) := by
  have e0 : (win0_11.blk t).view.emb (ix2 r d) = (ix2 (row t r) d : S4096x1024.Idx) := by blk_ext [idx t, row]
  rw [e0]
  refine (pay4_at _ _ _ _ (fun r => xr x (row t r)) (fun r => dh w du (row t r)) (fun k => g (ix2 0 k)) (fun r k => blk8 x m c hx t r k)
    (fun r k => DH_at w du m c hw hdu t r k) (fun k => blk10 g m c hg t k) r d).trans ?_
  rw [blk9]; rfl

theorem dx_out (t : Fin cfg0.N) (y : S256x1024.Idx) : (dats m 0 c).after 11 t y = GX x g w du (ares m c) ((win0_11.blk t).view.emb y) := by
  rw [eq_ix2 y]
  refine Eq.trans ?_ (dx_at x g w du m c hx hg hw hdu t (y 0) (y 1))
  rw [after0_11]
  by_cases h : t.val % 16 = 0
  · rw [outsAt0_A m c t h (by have := lt16 t; omega)]; frame_out; rfl
  · rw [outsAt0_B m c t h (by omega)]; frame_out; rfl

theorem final11 : (dats m 0 c).arrAt 11 (cfgs 0).N = GX x g w du (ares m c) := by
  refine (dats m 0 c).arrAt_eq_of_covers 11 _ (by decide +kernel) fun t _ y => ?_
  exact dx_out x g w du m c hx hg hw hdu t y

omit hg in
theorem gain_at (t : Fin cfg0.N) (k : Fin 1024) : k0_pay3 (F := Ideal) (DH m c t) (iblk m c 8 t) (k0_pay7 (iblk m c 8 t)) k0_pay8 (ix2 0 k)
    = ((∑ r, dh w du (row t r) k * (xr x (row t r) k * inv 1024 (xr x (row t r))) : ℝ) : EReal) :=
  pay3_at _ _ (fun r => xr x (row t r)) (fun r => dh w du (row t r)) (fun r k => blk8 x m c hx t r k) (fun r k => DH_at w du m c hw hdu t r k) 0 k

end finals

/-- What one point adds to the gains' gradient. -/
def gainP (m : (ℓ : Loc nD τ sig) → Buf (Elt Ideal) ℓ) (c : Dev nD) (t : Fin cfg0.N) (y : S1x1024.Idx) : EReal :=
  k0_pay3 (F := Ideal) (DH m c t) (iblk m c 8 t) (k0_pay7 (iblk m c 8 t)) k0_pay8 y

/-- Point `s` of the sixteen, and of the run of sixteen that `t` lies in. -/
def pt (s : Fin 16) : Fin cfg0.N := ⟨s.val, s.isLt.trans_eq N_0.symm⟩
def run16 (t : Fin cfg0.N) (s : Fin 16) : Fin cfg0.N :=
  ⟨16 * (t.val / 16) + s.val, (by have := lt16 t; omega : 16 * (t.val / 16) + s.val < 16).trans_eq N_0.symm⟩

theorem run16_eq (t : Fin cfg0.N) (s : Fin 16) : run16 t s = pt s := Fin.ext (by have := lt16 t; show 16 * (t.val / 16) + s.val = s.val; omega)

section gains

variable (m : (ℓ : Loc nD τ sig) → Buf (Elt Ideal) ℓ) (c : Dev nD)

theorem gain_run (t : Fin cfg0.N) (h7 : t.val % 16 = 15) (y : S1x1024.Idx) : (dats m 0 c).after 12 t y = ∑ s : Fin 16, gainP m c (run16 t s) y := by
  have hout : (dats m 0 c).after 12 t y = (outsAt0 m c t.val t.isLt).2 y := by rw [after0_12]
  rw [hout, Pipeline.eq_sum_fin_of_reset_step_apply_of_flush (fun n h => (outsAt0 m c n h).2) 16 (fun _ => 0) (fun t y => gainP m c t y)
    (fun t h i => by rw [outsAt0_A m c t h (by have := lt16 t; omega)]; frame_out; rw [zero_add]; rfl)
    (fun t h i => by rw [outsAt0_B m c t h (by omega)]; frame_out; pointwise [k0_pay5]; rfl) t h7 y, zero_add]
  rfl

variable (hx : ax m c = up x) (hw : aw m c = up w) (hdu : adu m c = up du)

include hx hw hdu

theorem gain_sum (t : Fin cfg0.N) (k : Fin 1024) : ∑ s : Fin 16, gainP m c (run16 t s) (ix2 0 k)
    = ((∑ r : Fin 4096, dh w du r k * (xr x r k * inv 1024 (xr x r)) : ℝ) : EReal) := by
  have e : ∀ s : Fin 16, gainP m c (run16 t s) (ix2 0 k)
      = ((∑ r, dh w du (row (pt s) r) k * (xr x (row (pt s) r) k * inv 1024 (xr x (row (pt s) r))) : ℝ) : EReal) := fun s => by
    rw [run16_eq]; exact gain_at x w du m c hx hw hdu (pt s) k
  rw [Finset.sum_congr rfl fun s _ => e s, coe_sum]
  exact congrArg _ (Fin.sum_mul_add_fin 16 256 fun r => dh w du r k * (xr x r k * inv 1024 (xr x r)))

theorem gain_out (t : Fin cfg0.N) (h : t.val % 16 = 15) (u : Fin 1) (k : Fin 1024) :
    (dats m 0 c).after 12 t (ix2 u k) = GG x w du ((win0_12.blk t).view.emb (ix2 u k)) := by
  obtain rfl : u = 0 := Subsingleton.elim _ _
  have e0 : (win0_12.blk t).view.emb (ix2 0 k) = (ix2 0 k : S1x1024.Idx) := by blk_ext [idx t]
  rw [e0]
  exact (gain_run m c t h _).trans (gain_sum x w du m c hx hw hdu t k)

theorem final12 : (dats m 0 c).arrAt 12 (cfgs 0).N = GG x w du := by
  refine (dats m 0 c).arrAt_eq_of_covers 12 _ (by decide +kernel) fun t hf y => ?_
  have key : ∀ y : S1x1024.Idx, (dats m 0 c).after 12 t y = GG x w du ((win0_12.blk t).view.emb y) := fun y => by
    rw [eq_ix2 y]; exact gain_out x w du m c hx hw hdu t ((flush0_12 t).mp hf) (y 0) (y 1)
  exact key y

end gains

end Cert.InProj

end
-- ==== Proof.InProj.lean ====
/-
  The gradient through the input projection and the norm before it: the gradients of the normed rows and of the norm's gains.
-/
module

public import proofs.«01_k».proof.Defs
public import proofs.«01_k».proof.Proof.Gen.InProjKernelIdeal.Value
public import proofs.«01_k».proof.Proof.Gen.InProjRefIdeal.Run
public import proofs.«01_k».proof.Proof.InProjKern
public import proofs.«01_k».proof.Proof.InProjRef

@[expose] public section

set_option maxRecDepth 16384

noncomputable section

namespace Cert.InProj

open Idealize.ShloMosaic Idealize.ShloMosaic.TcCoe Idealize.SL.Sem
open Cert.Reals

instance pre_facts : Cert.Pre_finite_in_proj.Facts := ⟨by decide, by decide, by decide, by decide⟩

theorem frame_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

open Cert.InProjKernelIdeal in
/-- What the precondition says of one device's arguments. -/
theorem reals (m : (ℓ : Loc nD τ sig) → Buf (Elt Ideal) ℓ) (h : Cert.Pre_InProjKernelIdeal_finite_in_proj m) (c : Dev nD) :
    ∃ (x : S4096x1024.Idx → ℝ) (g : S1x1024.Idx → ℝ) (w : S1024x3232.Idx → ℝ) (du : S4096x3232.Idx → ℝ),
      ax m c = up x ∧ ag m c = up g ∧ aw m c = up w ∧ adu m c = up du := by
  obtain ⟨h0, h1, h2, h3⟩ := h c
  obtain ⟨x, hx⟩ := finite_up _ _ _ h0
  obtain ⟨g, hg⟩ := finite_up _ _ _ h1
  obtain ⟨w, hw⟩ := finite_up _ _ _ h2
  obtain ⟨du, hdu⟩ := finite_up _ _ _ h3
  exact ⟨x, g, w, du, hx, hg, hw, hdu⟩

open Cert.InProjKernelIdeal in
theorem algebraic : Cert.algebraic_InProjKernelIdeal_InProjRefIdeal_pre_finite_in_proj := by
  intro m ρ m' ρ' hp hag
  choose x g w du h using reals m hp
  refine ⟨fun c => GX (x c) (g c) (w c) (du c) (ares m c), fun c => GG (x c) (w c) (du c),
    (θ_run _ _ _).mono (fun r hr c => ?_) (Cert.InProjKernelIdeal.Value.run_blocks m ρ),
    (θ_run _ _ _).mono (fun r hr c => ?_) (Cert.InProjRefIdeal.Value.run m' ρ')⟩
  · obtain ⟨hx, hg, hw, hdu⟩ := h c
    exact ⟨(hr c).1.trans (final11 _ _ _ _ m c hx hg hw hdu), (hr c).2.1.trans (final12 _ _ _ m c hx hw hdu), (hr c).2.2⟩
  · obtain ⟨hx, hg, hw, hdu⟩ := h c
    obtain ⟨e0, e1, e2, e3, e4⟩ := hag c
    refine ⟨(hr c).1.trans ?_, (hr c).2.1.trans ?_, (hr c).2.2⟩
    · rw [Cert.InProjRefIdeal.Read.val_main_v36_eq, e0, e1, e2, e3, e4]
      exact (congrFun (congr (congr (congr (congrArg _ hx) hg) hw) hdu) _).trans (ref_dx (x c) (g c) (w c) (du c) _)
    · rw [e0, e2, e3]
      exact (congr (congr (congrArg _ hx) hw) hdu).trans (ref_dg (x c) (w c) (du c))

end Cert.InProj

end
-- ==== Proof.TailRef.lean ====
/-
  The gradient through the tail of the layer (the gated per-token embedding, the last norm and the squared error): the reference's
  six results as functions of the arguments.
-/
module

public import proofs.«01_k».proof.Proof.Gen.TailRefIdeal.Run
public import proofs.«01_k».proof.Proof.Gen.TailRefIdeal.Read
public import Idealize.ShloMosaic.Lib.Pipeline.ValueKit
public import proofs.«01_k».proof.Proof.Rms

@[expose] public section

set_option maxRecDepth 16384

noncomputable section

namespace Cert.Tail

open Idealize.ShloMosaic Idealize.ShloMosaic.TcCoe Idealize.SL.Sem
open Cert.Reals Cert.Rms

/-! One row of the tail, over real numbers. -/

/-- The gate: one over one plus the exponential of minus the argument. -/
def gateOf (z : ℝ) : ℝ := 1 / (1 + Real.exp (-z))

theorem gate_div (z : ℝ) : Ideal.div 1 (1 + Ideal.exp (-(z : EReal))) = (gateOf z : EReal) := by
  rw [← EReal.coe_neg, Ideal.exp_coe, ← EReal.coe_one, ← EReal.coe_add, div_real _ (by positivity)]; rfl

section row

variable (b γ τ s q : Fin 1024 → ℝ) (W : Fin 1024 → Fin 1024 → ℝ)

/-- The normed row against the target, the cotangent of the normed row, and of the row itself. -/
def err (k : Fin 1024) : ℝ := b k * inv 1024 b * γ k - τ k
def dy (k : Fin 1024) : ℝ := err b γ τ k * (1 / 1024)
def dx3 (k : Fin 1024) : ℝ := grad 1024 b (fun k => dy b γ τ k * γ k) k

/-- The cotangents of the gate's argument and of the normed row it is a product of. -/
def dgate (k : Fin 1024) : ℝ := dx3 b γ τ k * q k * s k * (1 - s k)
def dh (d : Fin 1024) : ℝ := ∑ e, dgate b γ τ s q e * W d e

end row

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem r2048 : Ideal.ofBits .f32 0x3A000000#32 = ((1 / 2048 : ℝ) : EReal) := by
  simp [Ideal.ofBits, Ideal.ieee, -EReal.coe_mul]; norm_num

open Cert.TailRefIdeal Cert.TailRefIdeal.Gen Cert.TailRefIdeal.Read

variable (x : S2x2048x1024.Idx → ℝ) (p : S2x2048x256.Idx → ℝ) (tgt : S2x2048x1024.Idx → ℝ) (gp : S1x1024.Idx → ℝ) (wg : S1024x1024.Idx → ℝ)
  (we : S256x1024.Idx → ℝ) (gf : S1x1024.Idx → ℝ)

/-- The sequence and the token that a row is, and the row of an array over them. -/
def sq (r : Fin 4096) : Fin 2 := ⟨r.val / 2048, by omega⟩
def tk (r : Fin 4096) : Fin 2048 := ⟨r.val % 2048, by omega⟩
def xr (r : Fin 4096) (k : Fin 1024) : ℝ := x (ix3 (sq r) (tk r) k)
def pr (r : Fin 4096) (k : Fin 256) : ℝ := p (ix3 (sq r) (tk r) k)

/-- The gain vectors and the gate's weights by plain indices. -/
def gn (g : S1x1024.Idx → ℝ) (k : Fin 1024) : ℝ := g (ix2 0 k)
def wt (w : S1024x1024.Idx → ℝ) (d e : Fin 1024) : ℝ := w (ix2 d e)

/-- A row's normed argument, its gate, its embedding and the row after the embedding is added. -/
def hr (r : Fin 4096) (d : Fin 1024) : ℝ := xr x r d * inv 1024 (xr x r) * gn gp d
def sr (r : Fin 4096) (e : Fin 1024) : ℝ := gateOf (∑ d, hr x gp r d * wt wg d e)
def qr (r : Fin 4096) (d : Fin 1024) : ℝ := ∑ k, pr p r k * we (ix2 k d)
def br (r : Fin 4096) (k : Fin 1024) : ℝ := xr x r k + sr x gp wg r k * qr p we r k

def er (r : Fin 4096) : Fin 1024 → ℝ := err (br x p gp wg we r) (gn gf) (xr tgt r)
def yr (r : Fin 4096) : Fin 1024 → ℝ := dy (br x p gp wg we r) (gn gf) (xr tgt r)
def dx3r (r : Fin 4096) : Fin 1024 → ℝ := dx3 (br x p gp wg we r) (gn gf) (xr tgt r)
def dgr (r : Fin 4096) : Fin 1024 → ℝ := dgate (br x p gp wg we r) (gn gf) (xr tgt r) (sr x gp wg r) (qr p we r)
def dhr (r : Fin 4096) : Fin 1024 → ℝ := dh (br x p gp wg we r) (gn gf) (xr tgt r) (sr x gp wg r) (qr p we r) (wt wg)

/-- The six results. -/
def GX : FVec Ideal S4096x1024 .f32 := fun y =>
  (dx3r x p tgt gp wg we gf (y 0) (y 1) : EReal) + (grad 1024 (xr x (y 0)) (fun d => dhr x p tgt gp wg we gf (y 0) d * gn gp d) (y 1) : EReal)
def GGate : FVec Ideal S4096x1024 .bf16 := fun y => (dgr x p tgt gp wg we gf (y 0) (y 1) : EReal)
def GPe : FVec Ideal S4096x1024 .bf16 := fun y => ((dx3r x p tgt gp wg we gf (y 0) (y 1) * sr x gp wg (y 0) (y 1) : ℝ) : EReal)
def GLoss : FVec Ideal S1x1024 .f32 := fun y => ((∑ r, er x p tgt gp wg we gf r (y 1) * er x p tgt gp wg we gf r (y 1) * (1 / 2048) : ℝ) : EReal)
def GGf : FVec Ideal S1x1024 .f32 := fun y =>
  ((∑ r, yr x p tgt gp wg we gf r (y 1) * (br x p gp wg we r (y 1) * inv 1024 (br x p gp wg we r)) : ℝ) : EReal)
def GGp : FVec Ideal S1x1024 .f32 := fun y => ((∑ r, dhr x p tgt gp wg we gf r (y 1) * (xr x r (y 1) * inv 1024 (xr x r)) : ℝ) : EReal)

theorem v0_at (r : Fin 4096) (k : Fin 1024) : val_main_v0 (F := Ideal) (up x) (ix2 r k) = (xr x r k : EReal) := by
  pointwise [val_main_v0]; rfl

theorem v1_at (r : Fin 4096) (k : Fin 256) : val_main_v1 (F := Ideal) (up p) (ix2 r k) = (pr p r k : EReal) := by
  pointwise [val_main_v1]; rfl

theorem v2_at (r : Fin 4096) (k : Fin 1024) : val_main_v2 (F := Ideal) (up x) (ix2 r k) = (xr x r k : EReal) := by
  pointwise [val_main_v2]; rfl

theorem v10_at (r : Fin 4096) (u : Fin 1) : val_main_v10 (F := Ideal) (up x) (ix2 r u) = (var 1024 (xr x r) : EReal) := by
  pointwise [val_main_v10, val_main_v9, val_main_v8, val_main_v7, val_main_v6, val_main_v5, val_main_v4, val_main_cst_0, val_main_cst_1, val_main_cst_2]
  simp only [v0_at, ← EReal.coe_mul, coe_sum, c1024, eps_coe]
  exact var_div (by norm_num) (xr x r)

theorem v11_at (r : Fin 4096) (u : Fin 1) : val_main_v11 (F := Ideal) (up x) (ix2 r u) = (inv 1024 (xr x r) : EReal) := by
  pointwise [val_main_v11]
  rw [v10_at, Rms.inv_div (by norm_num)]

theorem v16_at (r : Fin 4096) (k : Fin 1024) : val_main_v16 (F := Ideal) (up x) (ix2 r k) = ((xr x r k * inv 1024 (xr x r) : ℝ) : EReal) := by
  pointwise [val_main_v16, val_main_v15]
  rw [v0_at, v11_at, EReal.coe_mul]

theorem v20_at (r : Fin 4096) (e : Fin 1024) : val_main_v20 (F := Ideal) (up x) (up gp) (up wg) (ix2 r e)
    = ((∑ d, hr x gp r d * wt wg d e : ℝ) : EReal) := by
  pointwise [val_main_v20, val_main_v19, val_main_v18, val_main_v17, val_main_v3, val_main_cst]
  simp only [v16_at, up, ← EReal.coe_mul, coe_sum, add_zero]
  rfl

theorem v22_at (r : Fin 4096) (d : Fin 1024) : val_main_v22 (F := Ideal) (up p) (up we) (ix2 r d) = (qr p we r d : EReal) := by
  pointwise [val_main_v22, val_main_v21, val_main_v3, val_main_cst]
  simp only [v1_at, up, ← EReal.coe_mul, coe_sum, add_zero]
  rfl

theorem v28_at (r : Fin 4096) (e : Fin 1024) : val_main_v28 (F := Ideal) (up x) (up gp) (up wg) (ix2 r e) = (sr x gp wg r e : EReal) := by
  pointwise [val_main_v28, val_main_v27, val_main_v26, val_main_v25, val_main_v24, val_main_v23, val_main_cst_4, val_main_cst_5]
  rw [v20_at]
  exact gate_div _

theorem v31_at (r : Fin 4096) (e : Fin 1024) : val_main_v31 (F := Ideal) (up x) (up gp) (up wg) (ix2 r e)
    = ((sr x gp wg r e * (1 - sr x gp wg r e) : ℝ) : EReal) := by
  pointwise [val_main_v31, val_main_v30, val_main_v29, val_main_cst_6]
  rw [v28_at, ← EReal.coe_one, ← EReal.coe_sub, ← EReal.coe_mul]

theorem v33_at (r : Fin 4096) (k : Fin 1024) : val_main_v33 (F := Ideal) (up x) (up p) (up gp) (up wg) (up we) (ix2 r k)
    = (br x p gp wg we r k : EReal) := by
  pointwise [val_main_v33, val_main_v32]
  rw [v0_at, v28_at, v22_at, ← EReal.coe_mul, ← EReal.coe_add]; rfl

theorem v40_at (r : Fin 4096) (u : Fin 1) : val_main_v40 (F := Ideal) (up x) (up p) (up gp) (up wg) (up we) (ix2 r u)
    = (var 1024 (br x p gp wg we r) : EReal) := by
  pointwise [val_main_v40, val_main_v39, val_main_v38, val_main_v37, val_main_v36, val_main_v35, val_main_v34, val_main_cst_7, val_main_cst_8, val_main_cst_9]
  simp only [v33_at, ← EReal.coe_mul, coe_sum, c1024, eps_coe]
  exact var_div (by norm_num) (br x p gp wg we r)

theorem v41_at (r : Fin 4096) (u : Fin 1) : val_main_v41 (F := Ideal) (up x) (up p) (up gp) (up wg) (up we) (ix2 r u)
    = (inv 1024 (br x p gp wg we r) : EReal) := by
  pointwise [val_main_v41]
  rw [v40_at, Rms.inv_div (by norm_num)]

theorem v46_at (r : Fin 4096) (k : Fin 1024) : val_main_v46 (F := Ideal) (up x) (up p) (up gp) (up wg) (up we) (ix2 r k)
    = ((br x p gp wg we r k * inv 1024 (br x p gp wg we r) : ℝ) : EReal) := by
  pointwise [val_main_v46, val_main_v45]
  rw [v33_at, v41_at, EReal.coe_mul]

theorem v49_at (r : Fin 4096) (k : Fin 1024) : val_main_v49 (F := Ideal) (up x) (up p) (up tgt) (up gp) (up wg) (up we) (up gf) (ix2 r k)
    = (er x p tgt gp wg we gf r k : EReal) := by
  pointwise [val_main_v49, val_main_v48, val_main_v47]
  rw [v46_at, v2_at]
  simp only [up, ← EReal.coe_mul, ← EReal.coe_sub]; rfl

theorem v50_at (r : Fin 4096) (k : Fin 1024) : val_main_v50 (F := Ideal) (up x) (up p) (up tgt) (up gp) (up wg) (up we) (up gf) (ix2 r k)
    = ((er x p tgt gp wg we gf r k * er x p tgt gp wg we gf r k : ℝ) : EReal) := by
  pointwise [val_main_v50]
  rw [v49_at, ← EReal.coe_mul]

theorem v69_at (r : Fin 4096) (k : Fin 1024) : val_main_v69 (F := Ideal) (up x) (up p) (up tgt) (up gp) (up wg) (up we) (up gf) (ix2 r k)
    = (yr x p tgt gp wg we gf r k : EReal) := by
  pointwise [val_main_v69, val_main_v68, val_main_v67, val_main_v66, val_main_v65, val_main_v64, val_main_v52, val_main_v51, val_main_cst_12, val_main_cst_11,
    val_main_cst_19, val_main_cst_20, val_main_cst_21]
  rw [v49_at, half, two, c1024, div_real _ (by norm_num), ← EReal.coe_mul, ← EReal.coe_mul, yr, dy, ← er]
  congr 1; ring

theorem v74_at (r : Fin 4096) (k : Fin 1024) : val_main_v74 (F := Ideal) (up x) (up p) (up tgt) (up gp) (up wg) (up we) (up gf) (ix2 r k)
    = ((yr x p tgt gp wg we gf r k * gn gf k : ℝ) : EReal) := by
  pointwise [val_main_v74, val_main_v73]
  rw [v69_at]
  simp only [up, ← EReal.coe_mul, gn]

theorem v82_at (r : Fin 4096) (u : Fin 1) : val_main_v82 (F := Ideal) (up x) (up p) (up tgt) (up gp) (up wg) (up we) (up gf) (ix2 r u)
    = (slope 1024 (br x p gp wg we r) (fun k => yr x p tgt gp wg we gf r k * gn gf k) : EReal) := by
  pointwise [val_main_v82, val_main_v81, val_main_v80, val_main_v77, val_main_v76, val_main_v75, val_main_v44, val_main_v43, val_main_v42, val_main_cst_10,
    val_main_cst_23, val_main_cst_24]
  simp only [v33_at, v74_at, v41_at, v40_at, ← EReal.coe_mul, coe_sum, c1024, mhalf]
  exact slope_div (by norm_num) (br x p gp wg we r) (fun k => yr x p tgt gp wg we gf r k * gn gf k)

theorem v88_at (r : Fin 4096) (k : Fin 1024) : val_main_v88 (F := Ideal) (up x) (up p) (up tgt) (up gp) (up wg) (up we) (up gf) (ix2 r k)
    = (dx3r x p tgt gp wg we gf r k : EReal) := by
  pointwise [val_main_v88, val_main_v87, val_main_v86, val_main_v85, val_main_v84, val_main_v83, val_main_v79, val_main_v78, val_main_cst_25]
  simp only [v74_at, v41_at, v33_at, v82_at, Fin.sum_univ_one, ← EReal.coe_mul, ← EReal.coe_add]
  exact congrArg _ (grad_eq (by norm_num) (br x p gp wg we r) (fun k => yr x p tgt gp wg we gf r k * gn gf k) k)

theorem v89_at (r : Fin 4096) (k : Fin 1024) : val_main_v89 (F := Ideal) (up x) (up p) (up tgt) (up gp) (up wg) (up we) (up gf) (ix2 r k)
    = ((dx3r x p tgt gp wg we gf r k * sr x gp wg r k : ℝ) : EReal) := by
  pointwise [val_main_v89]
  rw [v28_at, v88_at, ← EReal.coe_mul, mul_comm]

theorem v91_at (r : Fin 4096) (k : Fin 1024) : val_main_v91 (F := Ideal) (up x) (up p) (up tgt) (up gp) (up wg) (up we) (up gf) (ix2 r k)
    = (dgr x p tgt gp wg we gf r k : EReal) := by
  pointwise [val_main_v91, val_main_v90]
  rw [v88_at, v22_at, v31_at, ← EReal.coe_mul, ← EReal.coe_mul, ← mul_assoc]; rfl

theorem v92_at (r : Fin 4096) (d : Fin 1024) : val_main_v92 (F := Ideal) (up x) (up p) (up tgt) (up gp) (up wg) (up we) (up gf) (ix2 r d)
    = (dhr x p tgt gp wg we gf r d : EReal) := by
  pointwise [val_main_v92]
  simp only [v91_at, up, ← EReal.coe_mul, coe_sum]; rfl

theorem v97_at (r : Fin 4096) (d : Fin 1024) : val_main_v97 (F := Ideal) (up x) (up p) (up tgt) (up gp) (up wg) (up we) (up gf) (ix2 r d)
    = ((dhr x p tgt gp wg we gf r d * gn gp d : ℝ) : EReal) := by
  pointwise [val_main_v97, val_main_v96]
  rw [v92_at]
  simp only [up, ← EReal.coe_mul, gn]

theorem v106_at (r : Fin 4096) (u : Fin 1) : val_main_v106 (F := Ideal) (up x) (up p) (up tgt) (up gp) (up wg) (up we) (up gf) (ix2 r u)
    = (slope 1024 (xr x r) (fun d => dhr x p tgt gp wg we gf r d * gn gp d) : EReal) := by
  pointwise [val_main_v106, val_main_v105, val_main_v104, val_main_v100, val_main_v99, val_main_v98, val_main_v14, val_main_v13, val_main_v12, val_main_cst_3,
    val_main_cst_27, val_main_cst_28]
  simp only [v0_at, v97_at, v11_at, v10_at, ← EReal.coe_mul, coe_sum, c1024, mhalf]
  exact slope_div (by norm_num) (xr x r) (fun d => dhr x p tgt gp wg we gf r d * gn gp d)

theorem v112_at (r : Fin 4096) (d : Fin 1024) : val_main_v112 (F := Ideal) (up x) (up p) (up tgt) (up gp) (up wg) (up we) (up gf) (ix2 r d)
    = (dx3r x p tgt gp wg we gf r d : EReal) + (grad 1024 (xr x r) (fun d => dhr x p tgt gp wg we gf r d * gn gp d) d : EReal) := by
  pointwise [val_main_v112, val_main_v111, val_main_v110, val_main_v109, val_main_v108, val_main_v107, val_main_v103, val_main_v102, val_main_v101, val_main_cst_29]
  simp only [v88_at, v97_at, v11_at, v0_at, v106_at, Fin.sum_univ_one]
  exact add_grad (by norm_num) (xr x r) (fun d => dhr x p tgt gp wg we gf r d * gn gp d) d _

theorem v63_at (u : Fin 1) (k : Fin 1024) : val_main_v63 (F := Ideal) (up x) (up p) (up tgt) (up gp) (up wg) (up we) (up gf) (ix2 u k)
    = ((∑ r, er x p tgt gp wg we gf r k * er x p tgt gp wg we gf r k * (1 / 2048) : ℝ) : EReal) := by
  pointwise [val_main_v63, val_main_v62, val_main_v61, val_main_v60, val_main_v59, val_main_v58, val_main_cst_16, val_main_cst_17, val_main_cst_18]
  simp only [v50_at, c1024, half, div_real _ (show (1024 : ℝ) ≠ 0 by norm_num), coe_sum, ← EReal.coe_mul, Finset.mul_sum]
  exact congrArg _ (Finset.sum_congr rfl fun r _ => by ring)

theorem v72_at (u : Fin 1) (k : Fin 1024) : val_main_v72 (F := Ideal) (up x) (up p) (up tgt) (up gp) (up wg) (up we) (up gf) (ix2 u k)
    = ((∑ r, yr x p tgt gp wg we gf r k * (br x p gp wg we r k * inv 1024 (br x p gp wg we r)) : ℝ) : EReal) := by
  pointwise [val_main_v72, val_main_v71, val_main_v70, val_main_cst_22]
  simp only [v46_at, v69_at, coe_sum, ← EReal.coe_mul]
  exact congrArg _ (Finset.sum_congr rfl fun r _ => mul_comm _ _)

theorem v95_at (u : Fin 1) (k : Fin 1024) : val_main_v95 (F := Ideal) (up x) (up p) (up tgt) (up gp) (up wg) (up we) (up gf) (ix2 u k)
    = ((∑ r, dhr x p tgt gp wg we gf r k * (xr x r k * inv 1024 (xr x r)) : ℝ) : EReal) := by
  pointwise [val_main_v95, val_main_v94, val_main_v93, val_main_cst_26]
  simp only [v16_at, v92_at, coe_sum, ← EReal.coe_mul]
  exact congrArg _ (Finset.sum_congr rfl fun r _ => mul_comm _ _)

theorem ref_dx : val_main_v112 (F := Ideal) (up x) (up p) (up tgt) (up gp) (up wg) (up we) (up gf) = GX x p tgt gp wg we gf := by
  funext y; rw [eq_ix2 y]; exact v112_at x p tgt gp wg we gf (y 0) (y 1)

theorem ref_dgate : val_main_v113 (F := Ideal) (up x) (up p) (up tgt) (up gp) (up wg) (up we) (up gf) = GGate x p tgt gp wg we gf := by
  funext y
  pointwise [val_main_v113]
  rw [eq_ix2 y]; exact v91_at x p tgt gp wg we gf (y 0) (y 1)

theorem ref_dpe : val_main_v114 (F := Ideal) (up x) (up p) (up tgt) (up gp) (up wg) (up we) (up gf) = GPe x p tgt gp wg we gf := by
  funext y
  pointwise [val_main_v114]
  rw [eq_ix2 y]; exact v89_at x p tgt gp wg we gf (y 0) (y 1)

theorem ref_loss : val_main_v63 (F := Ideal) (up x) (up p) (up tgt) (up gp) (up wg) (up we) (up gf) = GLoss x p tgt gp wg we gf := by
  funext y; rw [eq_ix2 y]; exact v63_at x p tgt gp wg we gf (y 0) (y 1)

theorem ref_dgf : val_main_v72 (F := Ideal) (up x) (up p) (up tgt) (up gp) (up wg) (up we) (up gf) = GGf x p tgt gp wg we gf := by
  funext y; rw [eq_ix2 y]; exact v72_at x p tgt gp wg we gf (y 0) (y 1)

theorem ref_dgp : val_main_v95 (F := Ideal) (up x) (up p) (up tgt) (up gp) (up wg) (up we) (up gf) = GGp x p tgt gp wg we gf := by
  funext y; rw [eq_ix2 y]; exact v95_at x p tgt gp wg we gf (y 0) (y 1)

end Cert.Tail

end
-- ==== Proof.TailKern.lean ====
/-
  The kernel's gradient through the tail of the layer: 256 rows a grid point, the loss and the two gains' gradients summed over the
  points.
-/
module

public import proofs.«01_k».proof.Proof.Gen.TailKernelIdeal.Value
public import Idealize.ShloMosaic.Lib.Pipeline.ValueKit
public import Idealize.ShloMosaic.Lib.Pipeline.ReadBack
public import proofs.«01_k».proof.Proof.TailRef

@[expose] public section

set_option maxRecDepth 16384

noncomputable section

namespace Cert.Tail

open Idealize.ShloMosaic Idealize.ShloMosaic.TcCoe Idealize.SL.Sem
open Cert.Reals Cert.Rms
open Cert.TailKernelIdeal Cert.TailKernelIdeal.Gen

/-! The payloads on real rows. -/

section payloads

variable (v1 v7 v21 v23 v25 : FVec Ideal S256x1024 .f32) (v8 v9 : FVec Ideal S1x1024 .f32) (v11 : FVec Ideal S1024x1024 .bf16) (v33 : FVec Ideal S256x1 .f32)
  (a b s q τ : Fin 256 → Fin 1024 → ℝ) (γ γp : Fin 1024 → ℝ) (W : Fin 1024 → Fin 1024 → ℝ)
  (h1 : ∀ r k, v1 (ix2 r k) = (a r k : EReal)) (h7 : ∀ r k, v7 (ix2 r k) = (τ r k : EReal)) (h21 : ∀ r k, v21 (ix2 r k) = (s r k : EReal))
  (h23 : ∀ r k, v23 (ix2 r k) = (q r k : EReal)) (h25 : ∀ r k, v25 (ix2 r k) = (b r k : EReal)) (h8 : ∀ k, v8 (ix2 0 k) = (γ k : EReal))
  (h9 : ∀ k, v9 (ix2 0 k) = (γp k : EReal)) (h11 : ∀ d e, v11 (ix2 d e) = (W d e : EReal)) (h33 : ∀ r, v33 (ix2 r 0) = (inv 1024 (b r) : EReal))

include h25 h33

theorem pay16_at (r : Fin 256) (k : Fin 1024) : k0_pay16 (F := Ideal) v25 v33 (ix2 r k) = ((b r k * inv 1024 (b r) : ℝ) : EReal) := by
  pointwise [k0_pay16]
  rw [h25, h33, EReal.coe_mul]

include h7 h8

theorem pay17_at (r : Fin 256) (k : Fin 1024) : k0_pay17 (F := Ideal) v7 v8 v25 v33 (ix2 r k) = (err (b r) γ (τ r) k : EReal) := by
  pointwise [k0_pay17]
  rw [pay16_at v25 v33 b h25 h33, h7, h8, ← EReal.coe_mul, ← EReal.coe_sub]; rfl

theorem pay18_at (r : Fin 256) (k : Fin 1024) : k0_pay18 (F := Ideal) v7 v8 v25 v33 (ix2 r k) = (dy (b r) γ (τ r) k : EReal) := by
  pointwise [k0_pay18]
  rw [pay17_at v7 v25 v8 v33 b τ γ h7 h25 h8 h33, r1024, ← EReal.coe_mul]; rfl

theorem pay19_at (r : Fin 256) (k : Fin 1024) : k0_pay19 (F := Ideal) v7 v8 v25 v33 (ix2 r k) = (dx3 (b r) γ (τ r) k : EReal) := by
  pointwise [k0_pay19]
  simp only [pay16_at v25 v33 b h25 h33, pay18_at v7 v25 v8 v33 b τ γ h7 h25 h8 h33, h33, h8, r1024, ← EReal.coe_mul, coe_sum, ← EReal.coe_sub, mul_one_div]
  rfl

theorem pay4_at (u : Fin 1) (k : Fin 1024) : k0_pay4 (F := Ideal) (k0_pay16 v25 v33) (k0_pay18 v7 v8 v25 v33) (ix2 u k)
    = ((∑ r, dy (b r) γ (τ r) k * (b r k * inv 1024 (b r)) : ℝ) : EReal) := by
  pointwise [k0_pay4]
  simp only [pay16_at v25 v33 b h25 h33, pay18_at v7 v25 v8 v33 b τ γ h7 h25 h8 h33, ← EReal.coe_mul, coe_sum]

theorem pay3_at (u : Fin 1) (k : Fin 1024) : k0_pay3 (F := Ideal) (k0_pay17 v7 v8 v25 v33) (ix2 u k)
    = ((∑ r, err (b r) γ (τ r) k * err (b r) γ (τ r) k * (1 / 2048) : ℝ) : EReal) := by
  pointwise [k0_pay3]
  simp only [pay17_at v7 v25 v8 v33 b τ γ h7 h25 h8 h33, r2048, ← EReal.coe_mul, coe_sum, Finset.sum_mul]

include h21

theorem pay5_at (r : Fin 256) (k : Fin 1024) : k0_pay5 (F := Ideal) v21 (k0_pay19 v7 v8 v25 v33) (ix2 r k) = ((dx3 (b r) γ (τ r) k * s r k : ℝ) : EReal) := by
  pointwise [k0_pay5]
  rw [pay19_at v7 v25 v8 v33 b τ γ h7 h25 h8 h33, h21, ← EReal.coe_mul]

include h23

theorem pay20_at (r : Fin 256) (k : Fin 1024) : k0_pay20 (F := Ideal) v7 v8 v21 v23 v25 v33 (ix2 r k) = (dgate (b r) γ (τ r) (s r) (q r) k : EReal) := by
  pointwise [k0_pay20]
  rw [pay19_at v7 v25 v8 v33 b τ γ h7 h25 h8 h33, h21, h23, ← EReal.coe_one, ← EReal.coe_sub, ← EReal.coe_mul, ← EReal.coe_mul, ← EReal.coe_mul]; rfl

include h11

theorem pay21_at (r : Fin 256) (d : Fin 1024) : k0_pay21 (F := Ideal) v7 v8 v11 v21 v23 v25 v33 (ix2 r d) = (dh (b r) γ (τ r) (s r) (q r) W d : EReal) := by
  pointwise [k0_pay21]
  simp only [pay20_at v7 v21 v23 v25 v8 v33 b s q τ γ h7 h21 h23 h25 h8 h33, h11, ← EReal.coe_mul, coe_sum]; rfl

omit h7 h8 h21 h23 h25 h11 h33
include h1

theorem pay22_at (r : Fin 256) (u : Fin 1) : k0_pay22 (F := Ideal) v1 (ix2 r u) = (inv 1024 (a r) : EReal) := by
  pointwise [k0_pay22]
  simp only [h1, ← EReal.coe_mul, coe_sum, r1024, eps_coe]
  exact inv_mul (by norm_num) (a r)

theorem pay23_at (r : Fin 256) (k : Fin 1024) : k0_pay23 (F := Ideal) v1 (ix2 r k) = ((a r k * inv 1024 (a r) : ℝ) : EReal) := by
  pointwise [k0_pay23]
  rw [pay22_at v1 a h1, h1, ← EReal.coe_mul]

include h7 h8 h21 h23 h25 h11 h33

theorem pay25_at (u : Fin 1) (k : Fin 1024) : k0_pay1 (F := Ideal) (k0_pay25 v1 v7 v8 v11 v21 v23 v25 v33) (ix2 u k)
    = ((∑ r, dh (b r) γ (τ r) (s r) (q r) W k * (a r k * inv 1024 (a r)) : ℝ) : EReal) := by
  pointwise [k0_pay1, k0_pay25]
  simp only [pay23_at v1 a h1, pay21_at v7 v21 v23 v25 v8 v11 v33 b s q τ γ W h7 h21 h23 h25 h8 h11 h33, ← EReal.coe_mul, coe_sum]

include h9

theorem pay24_at (r : Fin 256) (k : Fin 1024) : k0_pay24 (F := Ideal) v1 v7 v8 v9 v11 v21 v23 v25 v33 (ix2 r k)
    = (grad 1024 (a r) (fun d => dh (b r) γ (τ r) (s r) (q r) W d * γp d) k : EReal) := by
  pointwise [k0_pay24]
  simp only [pay23_at v1 a h1, pay22_at v1 a h1, pay21_at v7 v21 v23 v25 v8 v11 v33 b s q τ γ W h7 h21 h23 h25 h8 h11 h33, h9, r1024, ← EReal.coe_mul, coe_sum,
    ← EReal.coe_sub, mul_one_div]
  rfl

theorem pay2_at (r : Fin 256) (k : Fin 1024) : k0_pay2 (F := Ideal) (k0_pay19 v7 v8 v25 v33) (k0_pay24 v1 v7 v8 v9 v11 v21 v23 v25 v33) (ix2 r k)
    = (dx3 (b r) γ (τ r) k : EReal) + (grad 1024 (a r) (fun d => dh (b r) γ (τ r) (s r) (q r) W d * γp d) k : EReal) := by
  pointwise [k0_pay2]
  rw [pay24_at v1 v7 v21 v23 v25 v8 v9 v11 v33 a b s q τ γ γp W h1 h7 h21 h23 h25 h8 h9 h11 h33, pay19_at v7 v25 v8 v33 b τ γ h7 h25 h8 h33, add_comm]

end payloads

section forward

variable (v0 : FVec Ideal S256x1024 .f32) (v2 : FVec Ideal S256x1024 .bf16) (v4 : FVec Ideal S256x256 .f32) (v10 : FVec Ideal S1024x1024 .bf16)
  (v12 : FVec Ideal S256x1024 .bf16) (a h : Fin 256 → Fin 1024 → ℝ) (pe : Fin 256 → Fin 256 → ℝ) (W : Fin 1024 → Fin 1024 → ℝ) (E : Fin 256 → Fin 1024 → ℝ)
  (h0 : ∀ r k, v0 (ix2 r k) = (a r k : EReal)) (h2 : ∀ r k, v2 (ix2 r k) = (h r k : EReal)) (h4 : ∀ r k, v4 (ix2 r k) = (pe r k : EReal))
  (h10 : ∀ d e, v10 (ix2 d e) = (W d e : EReal)) (h12 : ∀ k d, v12 (ix2 k d) = (E k d : EReal))

theorem pay9_at (r : Fin 256) (k : Fin 1024) : k0_pay9 (F := Ideal) v0 (ix2 r k) = v0 (ix2 r k) := by pointwise [k0_pay9]
theorem pay10_at (r : Fin 256) (k : Fin 1024) : k0_pay10 (F := Ideal) v0 (ix2 r k) = v0 (ix2 r k) := by pointwise [k0_pay10]
theorem pay11_at (d e : Fin 1024) : k0_pay11 (F := Ideal) v10 (ix2 d e) = v10 (ix2 d e) := by pointwise [k0_pay11]

include h2 h10 in
theorem pay12_at (r : Fin 256) (e : Fin 1024) : k0_pay12 (F := Ideal) v2 v10 (ix2 r e) = (gateOf (∑ d, h r d * W d e) : EReal) := by
  pointwise [k0_pay12]
  simp only [pay11_at, h2, h10, ← EReal.coe_mul, coe_sum, zero_sub]
  exact gate_div _

include h4 h12 in
theorem pay13_at (r : Fin 256) (d : Fin 1024) : k0_pay13 (F := Ideal) v4 v12 (ix2 r d) = ((∑ k, pe r k * E k d : ℝ) : EReal) := by
  pointwise [k0_pay13]
  simp only [h4, h12, ← EReal.coe_mul, coe_sum]

include h0 h2 h4 h10 h12

theorem pay14_at (r : Fin 256) (k : Fin 1024) : k0_pay14 (F := Ideal) v0 v2 v4 v10 v12 (ix2 r k)
    = ((a r k + gateOf (∑ d, h r d * W d k) * ∑ j, pe r j * E j k : ℝ) : EReal) := by
  pointwise [k0_pay14]
  rw [pay9_at, h0, pay12_at v2 v10 h W h2 h10, pay13_at v4 v12 pe E h4 h12, ← EReal.coe_mul, ← EReal.coe_add]

theorem pay15_at (r : Fin 256) (u : Fin 1) : k0_pay15 (F := Ideal) v0 v2 v4 v10 v12 (ix2 r u)
    = (inv 1024 (fun k => a r k + gateOf (∑ d, h r d * W d k) * ∑ j, pe r j * E j k) : EReal) := by
  pointwise [k0_pay15]
  simp only [pay14_at v0 v2 v4 v10 v12 a h pe W E h0 h2 h4 h10 h12, ← EReal.coe_mul, coe_sum, r1024, eps_coe]
  exact inv_mul (by norm_num) _

end forward

/-! What the host prepares. -/

/-- The host's normed rows. -/
def rowsH (X : FVec Ideal S2x2048x1024 .f32) : FVec Ideal S4096x1024 .f32 := shapeCast S4096x1024 X shapeCasts_S2x2048x1024_S4096x1024

def normH (X : FVec Ideal S2x2048x1024 .f32) (G : FVec Ideal S1x1024 .f32) : FVec Ideal S4096x1024 .bf16 :=
  truncf .bf16 (mulf (mulf (rowsH X) (broadcastInDim S4096x1024 ![0, 1] bcast_S4096x1_S4096x1024_0_1 (Host.rsqrt (addf (Host.divf
    (broadcastInDim S4096x1 ![0] bcast_S4096_S4096x1_0 (Host.reduceAdd (mulf (rowsH X) (rowsH X)) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 G)) bitsLt_bf16_f32

section entry

variable (m : (ℓ : Loc nD τ sig) → Buf (Elt Ideal) ℓ) (c : Dev nD)

def a0 : FVec Ideal S2x2048x1024 .f32 := m ((c : Thread nD τ).loc main_arg0)
def a1 : FVec Ideal S2x2048x256 .f32 := m ((c : Thread nD τ).loc main_arg1)
def a2 : FVec Ideal S2x2048x1024 .f32 := m ((c : Thread nD τ).loc main_arg2)
def a3 : FVec Ideal S1x1024 .f32 := m ((c : Thread nD τ).loc main_arg3)
def a4 : FVec Ideal S1024x1024 .f32 := m ((c : Thread nD τ).loc main_arg4)
def a5 : FVec Ideal S256x1024 .f32 := m ((c : Thread nD τ).loc main_arg5)
def a6 : FVec Ideal S1x1024 .f32 := m ((c : Thread nD τ).loc main_arg6)

theorem V_def (b : Ref sig .tc) : V m c b = StableHlo.after hostOps0 (fun b => m (c, b)) b := rfl

theorem V_x : V m c main_v0 = rowsH (a0 m c) := by rw [V_def]; after_results; rfl
theorem V_h : V m c main_v15 = normH (a0 m c) (a3 m c) := by rw [V_def]; after_results; rfl
theorem V_p : V m c main_v1 = (shapeCast S4096x256 (a1 m c) shapeCasts_S2x2048x256_S4096x256 : FVec Ideal S4096x256 .f32) := by rw [V_def]; after_results; rfl
theorem V_t : V m c main_v2 = rowsH (a2 m c) := by rw [V_def]; after_results; rfl
theorem V_gf : V m c main_arg6 = a6 m c := by rw [V_main_arg6]; rfl
theorem V_gp : V m c main_arg3 = a3 m c := by rw [V_main_arg3]; rfl
theorem V_wg : V m c main_v16 = (truncf .bf16 (a4 m c) bitsLt_bf16_f32 : FVec Ideal S1024x1024 .bf16) := by rw [V_def]; after_results; rfl
theorem V_we : V m c main_v17 = (truncf .bf16 (a5 m c) bitsLt_bf16_f32 : FVec Ideal S256x1024 .bf16) := by rw [V_def]; after_results; rfl

end entry

variable (x : S2x2048x1024.Idx → ℝ) (p : S2x2048x256.Idx → ℝ) (tgt : S2x2048x1024.Idx → ℝ) (gp : S1x1024.Idx → ℝ) (wg : S1024x1024.Idx → ℝ)
  (we : S256x1024.Idx → ℝ) (gf : S1x1024.Idx → ℝ)

theorem rowsH_at (r : Fin 4096) (k : Fin 1024) : rowsH (up x) (ix2 r k) = (xr x r k : EReal) := by pointwise [rowsH]; rfl

theorem normH_at (r : Fin 4096) (k : Fin 1024) : normH (up x) (up gp) (ix2 r k) = (hr x gp r k : EReal) := by
  pointwise [normH]
  simp only [rowsH_at, ← EReal.coe_mul, coe_sum, c1024, eps_coe, var_div (show (0 : ℝ) < 1024 by norm_num), Rms.inv_div (show (0 : ℝ) < 1024 by norm_num)]
  simp only [up, ← EReal.coe_mul, hr, gn]

/-! The blocks at a grid point. -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] ∧ win0_12.index t = ![0, 0]
    ∧ win0_13.index t = ![0, 0] :=
  (by decide +kernel : ∀ t : Fin grid0.N, _)

theorem lt16 (t : Fin cfg0.N) : t.val < 16 := lt_of_lt_of_eq t.isLt N_0

/-- The row of the arrays that a row of a block is. -/
def row (t : Fin cfg0.N) (r : Fin 256) : Fin 4096 := ⟨t.val * 256 + r.val, by have := lt16 t; omega⟩

section blocks

variable (m : (ℓ : Loc nD τ sig) → Buf (Elt Ideal) ℓ) (c : Dev nD) (t : Fin cfg0.N)

theorem blk0 (hx : a0 m c = up x) (r : Fin 256) (k : Fin 1024) : iblk m c 0 t (ix2 r k) = (xr x (row t r) k : EReal) := by
  blk_simp [iblk]
  have e : ((View.whole main_v0).slice (win0_0.rect t)).emb (ix2 r k) = (ix2 (row t r) k : S4096x1024.Idx) := by blk_ext [idx t, row]
  rw [V_x, e, hx, rowsH_at]

theorem blk1 (hx : a0 m c = up x) (hgp : a3 m c = up gp) (r : Fin 256) (k : Fin 1024) : iblk m c 1 t (ix2 r k) = (hr x gp (row t r) k : EReal) := by
  blk_simp [iblk]
  have e : ((View.whole main_v15).slice (win0_1.rect t)).emb (ix2 r k) = (ix2 (row t r) k : S4096x1024.Idx) := by blk_ext [idx t, row]
  rw [V_h, e, hx, hgp, normH_at]

theorem blk2 (hp : a1 m c = up p) (r : Fin 256) (k : Fin 256) : iblk m c 2 t (ix2 r k) = (pr p (row t r) k : EReal) := by
  blk_simp [iblk]
  have e : ((View.whole main_v1).slice (win0_2.rect t)).emb (ix2 r k) = (ix2 (row t r) k : S4096x256.Idx) := by blk_ext [idx t, row]
  rw [V_p, e, hp]
  exact v1_at p (row t r) k

theorem blk3 (ht : a2 m c = up tgt) (r : Fin 256) (k : Fin 1024) : iblk m c 3 t (ix2 r k) = (xr tgt (row t r) k : EReal) := by
  blk_simp [iblk]
  have e : ((View.whole main_v2).slice (win0_3.rect t)).emb (ix2 r k) = (ix2 (row t r) k : S4096x1024.Idx) := by blk_ext [idx t, row]
  rw [V_t, e, ht, rowsH_at]

theorem blk4 (hgf : a6 m c = up gf) (k : Fin 1024) : iblk m c 4 t (ix2 0 k) = (gn gf k : EReal) := by
  blk_simp [iblk]; rw [V_gf, hgf]; simp only [up, gn]; blk_point [idx t, row]

theorem blk5 (hgp : a3 m c = up gp) (k : Fin 1024) : iblk m c 5 t (ix2 0 k) = (gn gp k : EReal) := by
  blk_simp [iblk]; rw [V_gp, hgp]; simp only [up, gn]; blk_point [idx t, row]

theorem blk6 (hwg : a4 m c = up wg) (d e : Fin 1024) : iblk m c 6 t (ix2 d e) = (wt wg d e : EReal) := by
  blk_simp [iblk]; rw [V_wg, hwg]; pointwise [up, wt]; blk_point [idx t, row]

theorem blk7 (hwe : a5 m c = up we) (k : Fin 256) (d : Fin 1024) : iblk m c 7 t (ix2 k d) = (we (ix2 k d) : EReal) := by
  blk_simp [iblk]; rw [V_we, hwe]; pointwise [up]; blk_point [idx t, row]

/-- The values that a point's blocks give: the gate, the embedding, the row after it and its reciprocal root. -/
def PG : FVec Ideal S256x1024 .f32 := k0_pay12 (iblk m c 1 t) (iblk m c 6 t)
def PE : FVec Ideal S256x1024 .f32 := k0_pay13 (iblk m c 2 t) (iblk m c 7 t)
def PX : FVec Ideal S256x1024 .f32 := k0_pay14 (iblk m c 0 t) (iblk m c 1 t) (iblk m c 2 t) (iblk m c 6 t) (iblk m c 7 t)
def PR : FVec Ideal S256x1 .f32 := k0_pay15 (iblk m c 0 t) (iblk m c 1 t) (iblk m c 2 t) (iblk m c 6 t) (iblk m c 7 t)

end blocks

/-- What the arguments are, as real numbers. -/
structure Args (m : (ℓ : Loc nD τ sig) → Buf (Elt Ideal) ℓ) (c : Dev nD) : Prop where
  hx : a0 m c = up x
  hp : a1 m c = up p
  ht : a2 m c = up tgt
  hgp : a3 m c = up gp
  hwg : a4 m c = up wg
  hwe : a5 m c = up we
  hgf : a6 m c = up gf

section points

variable (m : (ℓ : Loc nD τ sig) → Buf (Elt Ideal) ℓ) (c : Dev nD) (H : Args x p tgt gp wg we gf m c) (t : Fin cfg0.N)

include H

theorem PG_at (r : Fin 256) (e : Fin 1024) : PG m c t (ix2 r e) = (sr x gp wg (row t r) e : EReal) :=
  pay12_at _ _ (fun r => hr x gp (row t r)) (wt wg) (fun r d => blk1 x gp m c t H.hx H.hgp r d) (fun d e => blk6 wg m c t H.hwg d e) r e

theorem PE_at (r : Fin 256) (d : Fin 1024) : PE m c t (ix2 r d) = (qr p we (row t r) d : EReal) :=
  pay13_at _ _ (fun r => pr p (row t r)) (fun k d => we (ix2 k d)) (fun r k => blk2 p m c t H.hp r k) (fun k d => blk7 we m c t H.hwe k d) r d

theorem PX_at (r : Fin 256) (k : Fin 1024) : PX m c t (ix2 r k) = (br x p gp wg we (row t r) k : EReal) :=
  pay14_at _ _ _ _ _ (fun r => xr x (row t r)) (fun r => hr x gp (row t r)) (fun r => pr p (row t r)) (wt wg) (fun k d => we (ix2 k d))
    (fun r k => blk0 x m c t H.hx r k) (fun r d => blk1 x gp m c t H.hx H.hgp r d) (fun r k => blk2 p m c t H.hp r k)
    (fun d e => blk6 wg m c t H.hwg d e) (fun k d => blk7 we m c t H.hwe k d) r k

theorem PR_at (r : Fin 256) : PR m c t (ix2 r 0) = (inv 1024 (br x p gp wg we (row t r)) : EReal) :=
  pay15_at _ _ _ _ _ (fun r => xr x (row t r)) (fun r => hr x gp (row t r)) (fun r => pr p (row t r)) (wt wg) (fun k d => we (ix2 k d))
    (fun r k => blk0 x m c t H.hx r k) (fun r d => blk1 x gp m c t H.hx H.hgp r d) (fun r k => blk2 p m c t H.hp r k)
    (fun d e => blk6 wg m c t H.hwg d e) (fun k d => blk7 we m c t H.hwe k d) r 0

theorem PA_at (r : Fin 256) (k : Fin 1024) : k0_pay9 (F := Ideal) (iblk m c 0 t) (ix2 r k) = (xr x (row t r) k : EReal) :=
  (pay9_at _ r k).trans (blk0 x m c t H.hx r k)

theorem PT_at (r : Fin 256) (k : Fin 1024) : k0_pay10 (F := Ideal) (iblk m c 3 t) (ix2 r k) = (xr tgt (row t r) k : EReal) :=
  (pay10_at _ r k).trans (blk3 tgt m c t H.ht r k)

theorem PW_at (d e : Fin 1024) : k0_pay11 (F := Ideal) (iblk m c 6 t) (ix2 d e) = (wt wg d e : EReal) :=
  (pay11_at _ d e).trans (blk6 wg m c t H.hwg d e)

end points

section results

variable (m : (ℓ : Loc nD τ sig) → Buf (Elt Ideal) ℓ) (c : Dev nD)

/-- What a point leaves of each result: its block, or what it adds to a sum. -/
def DxP (t : Fin cfg0.N) : FVec Ideal S256x1024 .f32 :=
  k0_pay2 (k0_pay19 (k0_pay10 (iblk m c 3 t)) (iblk m c 4 t) (PX m c t) (PR m c t))
    (k0_pay24 (k0_pay9 (iblk m c 0 t)) (k0_pay10 (iblk m c 3 t)) (iblk m c 4 t) (iblk m c 5 t) (k0_pay11 (iblk m c 6 t)) (PG m c t) (PE m c t) (PX m c t) (PR m c t))
def GateP (t : Fin cfg0.N) : FVec Ideal S256x1024 .bf16 :=
  k0_pay20 (k0_pay10 (iblk m c 3 t)) (iblk m c 4 t) (PG m c t) (PE m c t) (PX m c t) (PR m c t)
def PeP (t : Fin cfg0.N) : FVec Ideal S256x1024 .bf16 := k0_pay5 (PG m c t) (k0_pay19 (k0_pay10 (iblk m c 3 t)) (iblk m c 4 t) (PX m c t) (PR m c t))
def LossP (t : Fin cfg0.N) : FVec Ideal S1x1024 .f32 := k0_pay3 (k0_pay17 (k0_pay10 (iblk m c 3 t)) (iblk m c 4 t) (PX m c t) (PR m c t))
def GfP (t : Fin cfg0.N) : FVec Ideal S1x1024 .f32 :=
  k0_pay4 (k0_pay16 (PX m c t) (PR m c t)) (k0_pay18 (k0_pay10 (iblk m c 3 t)) (iblk m c 4 t) (PX m c t) (PR m c t))
def GpP (t : Fin cfg0.N) : FVec Ideal S1x1024 .f32 :=
  k0_pay1 (k0_pay25 (k0_pay9 (iblk m c 0 t)) (k0_pay10 (iblk m c 3 t)) (iblk m c 4 t) (k0_pay11 (iblk m c 6 t)) (PG m c t) (PE m c t) (PX m c t) (PR m c t))

theorem after8 (t : Fin cfg0.N) : (dats m 0 c).after 8 t = DxP m c t := by
  rw [after0_8]
  by_cases h : t.val % 16 = 0
  · rw [outsAt0_A m c t h (by have := lt16 t; omega)]; frame_out; rfl
  · rw [outsAt0_B m c t h (by omega)]; frame_out; rfl

theorem after9 (t : Fin cfg0.N) : (dats m 0 c).after 9 t = GateP m c t := by
  rw [after0_9]
  by_cases h : t.val % 16 = 0
  · rw [outsAt0_A m c t h (by have := lt16 t; omega)]; frame_out; rfl
  · rw [outsAt0_B m c t h (by omega)]; frame_out; rfl

theorem after10 (t : Fin cfg0.N) : (dats m 0 c).after 10 t = PeP m c t := by
  rw [after0_10]
  by_cases h : t.val % 16 = 0
  · rw [outsAt0_A m c t h (by have := lt16 t; omega)]; frame_out; rfl
  · rw [outsAt0_B m c t h (by omega)]; frame_out; rfl

/-- Point `s` of the sixteen, and of the run of sixteen that `t` lies in. -/
def pt (s : Fin 16) : Fin cfg0.N := ⟨s.val, s.isLt.trans_eq N_0.symm⟩
def run16 (t : Fin cfg0.N) (s : Fin 16) : Fin cfg0.N :=
  ⟨16 * (t.val / 16) + s.val, (by have := lt16 t; omega : 16 * (t.val / 16) + s.val < 16).trans_eq N_0.symm⟩

theorem run16_eq (t : Fin cfg0.N) (s : Fin 16) : run16 t s = pt s := Fin.ext (by have := lt16 t; show 16 * (t.val / 16) + s.val = s.val; omega)

theorem after11 (t : Fin cfg0.N) (h : t.val % 16 = 15) (y : S1x1024.Idx) : (dats m 0 c).after 11 t y = ∑ s : Fin 16, LossP m c (run16 t s) y := by
  have hout : (dats m 0 c).after 11 t y = (outsAt0 m c t.val t.isLt).2.2.2.1 y := by rw [after0_11]
  rw [hout, Pipeline.eq_sum_fin_of_reset_step_apply_of_flush (fun n h => (outsAt0 m c n h).2.2.2.1) 16 (fun _ => 0) (fun t y => LossP m c t y)
    (fun t h i => by rw [outsAt0_A m c t h (by have := lt16 t; omega)]; frame_out; rw [zero_add]; rfl)
    (fun t h i => by rw [outsAt0_B m c t h (by omega)]; frame_out; pointwise [k0_pay6]; rfl) t h y, zero_add]
  rfl

theorem after12 (t : Fin cfg0.N) (h : t.val % 16 = 15) (y : S1x1024.Idx) : (dats m 0 c).after 12 t y = ∑ s : Fin 16, GfP m c (run16 t s) y := by
  have hout : (dats m 0 c).after 12 t y = (outsAt0 m c t.val t.isLt).2.2.2.2.1 y := by rw [after0_12]
  rw [hout, Pipeline.eq_sum_fin_of_reset_step_apply_of_flush (fun n h => (outsAt0 m c n h).2.2.2.2.1) 16 (fun _ => 0) (fun t y => GfP m c t y)
    (fun t h i => by rw [outsAt0_A m c t h (by have := lt16 t; omega)]; frame_out; rw [zero_add]; rfl)
    (fun t h i => by rw [outsAt0_B m c t h (by omega)]; frame_out; pointwise [k0_pay7]; rfl) t h y, zero_add]
  rfl

theorem after13 (t : Fin cfg0.N) (h : t.val % 16 = 15) (y : S1x1024.Idx) : (dats m 0 c).after 13 t y = ∑ s : Fin 16, GpP m c (run16 t s) y := by
  have hout : (dats m 0 c).after 13 t y = (outsAt0 m c t.val t.isLt).2.2.2.2.2 y := by rw [after0_13]
  rw [hout, Pipeline.eq_sum_fin_of_reset_step_apply_of_flush (fun n h => (outsAt0 m c n h).2.2.2.2.2) 16 (fun _ => 0) (fun t y => GpP m c t y)
    (fun t h i => by rw [outsAt0_A m c t h (by have := lt16 t; omega)]; frame_out; rw [zero_add]; rfl)
    (fun t h i => by rw [outsAt0_B m c t h (by omega)]; frame_out; pointwise [k0_pay8]; rfl) t h y, zero_add]
  rfl

end results

/-- A sum over the points of sums over a point's rows is the sum over all rows. -/
theorem sum_points (f : Fin 4096 → ℝ) (g : Fin cfg0.N → EReal) (hg : ∀ t, g t = ((∑ r, f (row t r) : ℝ) : EReal)) (t : Fin cfg0.N) :
    ∑ s : Fin 16, g (run16 t s) = ((∑ r, f r : ℝ) : EReal) := by
  have e : ∀ s : Fin 16, g (run16 t s) = ((∑ r, f (row (pt s) r) : ℝ) : EReal) := fun s => by rw [run16_eq]; exact hg (pt s)
  rw [Finset.sum_congr rfl fun s _ => e s, coe_sum]
  exact congrArg _ (Fin.sum_mul_add_fin 16 256 f)

section finals

variable (m : (ℓ : Loc nD τ sig) → Buf (Elt Ideal) ℓ) (c : Dev nD) (H : Args x p tgt gp wg we gf m c)

include H

theorem DxP_at (t : Fin cfg0.N) (r : Fin 256) (k : Fin 1024) : DxP m c t (ix2 r k) = GX x p tgt gp wg we gf (ix2 (row t r) k) :=
  pay2_at _ _ _ _ _ _ _ _ _ (fun r => xr x (row t r)) (fun r => br x p gp wg we (row t r)) (fun r => sr x gp wg (row t r)) (fun r => qr p we (row t r))
    (fun r => xr tgt (row t r)) (gn gf) (gn gp) (wt wg) (PA_at x p tgt gp wg we gf m c H t) (PT_at x p tgt gp wg we gf m c H t) (PG_at x p tgt gp wg we gf m c H t)
    (PE_at x p tgt gp wg we gf m c H t) (PX_at x p tgt gp wg we gf m c H t) (blk4 gf m c t H.hgf) (blk5 gp m c t H.hgp) (PW_at x p tgt gp wg we gf m c H t)
    (PR_at x p tgt gp wg we gf m c H t) r k

theorem GateP_at (t : Fin cfg0.N) (r : Fin 256) (k : Fin 1024) : GateP m c t (ix2 r k) = GGate x p tgt gp wg we gf (ix2 (row t r) k) :=
  pay20_at _ _ _ _ _ _ (fun r => br x p gp wg we (row t r)) (fun r => sr x gp wg (row t r)) (fun r => qr p we (row t r))
    (fun r => xr tgt (row t r)) (gn gf) (PT_at x p tgt gp wg we gf m c H t) (PG_at x p tgt gp wg we gf m c H t)
    (PE_at x p tgt gp wg we gf m c H t) (PX_at x p tgt gp wg we gf m c H t) (blk4 gf m c t H.hgf) (PR_at x p tgt gp wg we gf m c H t) r k

theorem PeP_at (t : Fin cfg0.N) (r : Fin 256) (k : Fin 1024) : PeP m c t (ix2 r k) = GPe x p tgt gp wg we gf (ix2 (row t r) k) :=
  pay5_at _ _ _ _ _ (fun r => br x p gp wg we (row t r)) (fun r => sr x gp wg (row t r))
    (fun r => xr tgt (row t r)) (gn gf) (PT_at x p tgt gp wg we gf m c H t) (PG_at x p tgt gp wg we gf m c H t)
    (PX_at x p tgt gp wg we gf m c H t) (blk4 gf m c t H.hgf) (PR_at x p tgt gp wg we gf m c H t) r k

theorem LossP_at (t : Fin cfg0.N) (k : Fin 1024) : LossP m c t (ix2 0 k)
    = ((∑ r, er x p tgt gp wg we gf (row t r) k * er x p tgt gp wg we gf (row t r) k * (1 / 2048) : ℝ) : EReal) :=
  pay3_at _ _ _ _ (fun r => br x p gp wg we (row t r)) (fun r => xr tgt (row t r)) (gn gf) (PT_at x p tgt gp wg we gf m c H t)
    (PX_at x p tgt gp wg we gf m c H t) (blk4 gf m c t H.hgf) (PR_at x p tgt gp wg we gf m c H t) 0 k

theorem GfP_at (t : Fin cfg0.N) (k : Fin 1024) : GfP m c t (ix2 0 k)
    = ((∑ r, yr x p tgt gp wg we gf (row t r) k * (br x p gp wg we (row t r) k * inv 1024 (br x p gp wg we (row t r))) : ℝ) : EReal) :=
  pay4_at _ _ _ _ (fun r => br x p gp wg we (row t r)) (fun r => xr tgt (row t r)) (gn gf) (PT_at x p tgt gp wg we gf m c H t)
    (PX_at x p tgt gp wg we gf m c H t) (blk4 gf m c t H.hgf) (PR_at x p tgt gp wg we gf m c H t) 0 k

theorem GpP_at (t : Fin cfg0.N) (k : Fin 1024) : GpP m c t (ix2 0 k)
    = ((∑ r, dhr x p tgt gp wg we gf (row t r) k * (xr x (row t r) k * inv 1024 (xr x (row t r))) : ℝ) : EReal) :=
  pay25_at _ _ _ _ _ _ _ _ (fun r => xr x (row t r)) (fun r => br x p gp wg we (row t r)) (fun r => sr x gp wg (row t r)) (fun r => qr p we (row t r))
    (fun r => xr tgt (row t r)) (gn gf) (wt wg) (PA_at x p tgt gp wg we gf m c H t) (PT_at x p tgt gp wg we gf m c H t) (PG_at x p tgt gp wg we gf m c H t)
    (PE_at x p tgt gp wg we gf m c H t) (PX_at x p tgt gp wg we gf m c H t) (blk4 gf m c t H.hgf) (PW_at x p tgt gp wg we gf m c H t)
    (PR_at x p tgt gp wg we gf m c H t) 0 k

theorem out8 (t : Fin cfg0.N) (y : S256x1024.Idx) : (dats m 0 c).after 8 t y = GX x p tgt gp wg we gf ((win0_8.blk t).view.emb y) := by
  have e0 : (win0_8.blk t).view.emb (ix2 (y 0) (y 1)) = (ix2 (row t (y 0)) (y 1) : S4096x1024.Idx) := by blk_ext [idx t, row]
  rw [eq_ix2 y, e0, after8]
  exact DxP_at x p tgt gp wg we gf m c H t (y 0) (y 1)

theorem final8 : (dats m 0 c).arrAt 8 (cfgs 0).N = GX x p tgt gp wg we gf := by
  refine (dats m 0 c).arrAt_eq_of_covers 8 _ (by decide +kernel) fun t _ y => ?_
  exact out8 x p tgt gp wg we gf m c H t y

theorem out9 (t : Fin cfg0.N) (y : S256x1024.Idx) : (dats m 0 c).after 9 t y = GGate x p tgt gp wg we gf ((win0_9.blk t).view.emb y) := by
  have e0 : (win0_9.blk t).view.emb (ix2 (y 0) (y 1)) = (ix2 (row t (y 0)) (y 1) : S4096x1024.Idx) := by blk_ext [idx t, row]
  rw [eq_ix2 y, e0, after9]
  exact GateP_at x p tgt gp wg we gf m c H t (y 0) (y 1)

theorem final9 : (dats m 0 c).arrAt 9 (cfgs 0).N = GGate x p tgt gp wg we gf := by
  refine (dats m 0 c).arrAt_eq_of_covers 9 _ (by decide +kernel) fun t _ y => ?_
  exact out9 x p tgt gp wg we gf m c H t y

theorem out10 (t : Fin cfg0.N) (y : S256x1024.Idx) : (dats m 0 c).after 10 t y = GPe x p tgt gp wg we gf ((win0_10.blk t).view.emb y) := by
  have e0 : (win0_10.blk t).view.emb (ix2 (y 0) (y 1)) = (ix2 (row t (y 0)) (y 1) : S4096x1024.Idx) := by blk_ext [idx t, row]
  rw [eq_ix2 y, e0, after10]
  exact PeP_at x p tgt gp wg we gf m c H t (y 0) (y 1)

theorem final10 : (dats m 0 c).arrAt 10 (cfgs 0).N = GPe x p tgt gp wg we gf := by
  refine (dats m 0 c).arrAt_eq_of_covers 10 _ (by decide +kernel) fun t _ y => ?_
  exact out10 x p tgt gp wg we gf m c H t y

theorem out11 (t : Fin cfg0.N) (h : t.val % 16 = 15) (u : Fin 1) (k : Fin 1024) :
    (dats m 0 c).after 11 t (ix2 u k) = GLoss x p tgt gp wg we gf ((win0_11.blk t).view.emb (ix2 u k)) := by
  obtain rfl : u = 0 := Subsingleton.elim _ _
  have e0 : (win0_11.blk t).view.emb (ix2 0 k) = (ix2 0 k : S1x1024.Idx) := by blk_ext [idx t]
  rw [e0, after11 m c t h]
  exact sum_points (fun r => er x p tgt gp wg we gf r k * er x p tgt gp wg we gf r k * (1 / 2048)) (fun t => LossP m c t (ix2 0 k))
    (fun t => LossP_at x p tgt gp wg we gf m c H t k) t

theorem final11 : (dats m 0 c).arrAt 11 (cfgs 0).N = GLoss x p tgt gp wg we gf := by
  refine (dats m 0 c).arrAt_eq_of_covers 11 _ (by decide +kernel) fun t hf y => ?_
  have key : ∀ y : S1x1024.Idx, (dats m 0 c).after 11 t y = GLoss x p tgt gp wg we gf ((win0_11.blk t).view.emb y) := fun y => by
    rw [eq_ix2 y]; exact out11 x p tgt gp wg we gf m c H t ((flush0_11 t).mp hf) (y 0) (y 1)
  exact key y

theorem out12 (t : Fin cfg0.N) (h : t.val % 16 = 15) (u : Fin 1) (k : Fin 1024) :
    (dats m 0 c).after 12 t (ix2 u k) = GGf x p tgt gp wg we gf ((win0_12.blk t).view.emb (ix2 u k)) := by
  obtain rfl : u = 0 := Subsingleton.elim _ _
  have e0 : (win0_12.blk t).view.emb (ix2 0 k) = (ix2 0 k : S1x1024.Idx) := by blk_ext [idx t]
  rw [e0, after12 m c t h]
  exact sum_points (fun r => yr x p tgt gp wg we gf r k * (br x p gp wg we r k * inv 1024 (br x p gp wg we r))) (fun t => GfP m c t (ix2 0 k))
    (fun t => GfP_at x p tgt gp wg we gf m c H t k) t

theorem final12 : (dats m 0 c).arrAt 12 (cfgs 0).N = GGf x p tgt gp wg we gf := by
  refine (dats m 0 c).arrAt_eq_of_covers 12 _ (by decide +kernel) fun t hf y => ?_
  have key : ∀ y : S1x1024.Idx, (dats m 0 c).after 12 t y = GGf x p tgt gp wg we gf ((win0_12.blk t).view.emb y) := fun y => by
    rw [eq_ix2 y]; exact out12 x p tgt gp wg we gf m c H t ((flush0_12 t).mp hf) (y 0) (y 1)
  exact key y

theorem out13 (t : Fin cfg0.N) (h : t.val % 16 = 15) (u : Fin 1) (k : Fin 1024) :
    (dats m 0 c).after 13 t (ix2 u k) = GGp x p tgt gp wg we gf ((win0_13.blk t).view.emb (ix2 u k)) := by
  obtain rfl : u = 0 := Subsingleton.elim _ _
  have e0 : (win0_13.blk t).view.emb (ix2 0 k) = (ix2 0 k : S1x1024.Idx) := by blk_ext [idx t]
  rw [e0, after13 m c t h]
  exact sum_points (fun r => dhr x p tgt gp wg we gf r k * (xr x r k * inv 1024 (xr x r))) (fun t => GpP m c t (ix2 0 k))
    (fun t => GpP_at x p tgt gp wg we gf m c H t k) t

theorem final13 : (dats m 0 c).arrAt 13 (cfgs 0).N = GGp x p tgt gp wg we gf := by
  refine (dats m 0 c).arrAt_eq_of_covers 13 _ (by decide +kernel) fun t hf y => ?_
  have key : ∀ y : S1x1024.Idx, (dats m 0 c).after 13 t y = GGp x p tgt gp wg we gf ((win0_13.blk t).view.emb y) := fun y => by
    rw [eq_ix2 y]; exact out13 x p tgt gp wg we gf m c H t ((flush0_13 t).mp hf) (y 0) (y 1)
  exact key y

end finals

end Cert.Tail

end
-- ==== Proof.Tail.lean ====
/-
  The gradient through the tail of the layer: the gradients of the rows, of the gate's argument, of the embedding and of the two
  gain vectors, and the squared error.
-/
module

public import proofs.«01_k».proof.Defs
public import proofs.«01_k».proof.Proof.Gen.TailKernelIdeal.Value
public import proofs.«01_k».proof.Proof.Gen.TailRefIdeal.Run
public import proofs.«01_k».proof.Proof.TailKern
public import proofs.«01_k».proof.Proof.TailRef

@[expose] public section

set_option maxRecDepth 16384

noncomputable section

namespace Cert.Tail

open Idealize.ShloMosaic Idealize.ShloMosaic.TcCoe Idealize.SL.Sem
open Cert.Reals

instance pre_facts : Cert.Pre_finite_tail.Facts := ⟨by decide, by decide, by decide, by decide, by decide⟩

theorem frame_ref : Cert.quiescent_TailRefIdeal := fun m ρ _ =>
  (θ_run Cert.TailRefIdeal.defs _ _).mono (fun r h => ⟨fun c => (h c).2.2.2.2.2.2, sem_eq_zero_of_no_sems (by decide) r.2⟩)
    (Cert.TailRefIdeal.Value.run (F := Ideal) m ρ)

open Cert.TailKernelIdeal in
/-- What the precondition says of one device's arguments. -/
theorem reals (m : (ℓ : Loc nD τ sig) → Buf (Elt Ideal) ℓ) (h : Cert.Pre_TailKernelIdeal_finite_tail m) (c : Dev nD) :
    ∃ (x : S2x2048x1024.Idx → ℝ) (p : S2x2048x256.Idx → ℝ) (tgt : S2x2048x1024.Idx → ℝ) (gp : S1x1024.Idx → ℝ) (wg : S1024x1024.Idx → ℝ)
      (we : S256x1024.Idx → ℝ) (gf : S1x1024.Idx → ℝ), Args x p tgt gp wg we gf m c := by
  obtain ⟨h0, h1, h2, h3, h4, h5, h6⟩ := h c
  obtain ⟨x, hx⟩ := finite_up _ _ _ h0
  obtain ⟨p, hp⟩ := finite_up _ _ _ h1
  obtain ⟨tgt, ht⟩ := finite_up _ _ _ h2
  obtain ⟨gp, hgp⟩ := finite_up _ _ _ h3
  obtain ⟨wg, hwg⟩ := finite_up _ _ _ h4
  obtain ⟨we, hwe⟩ := finite_up _ _ _ h5
  obtain ⟨gf, hgf⟩ := finite_up _ _ _ h6
  exact ⟨x, p, tgt, gp, wg, we, gf, ⟨hx, hp, ht, hgp, hwg, hwe, hgf⟩⟩

open Cert.TailKernelIdeal in
theorem algebraic : Cert.algebraic_TailKernelIdeal_TailRefIdeal_pre_finite_tail := by
  intro m ρ m' ρ' hp hag
  choose x p tgt gp wg we gf h using reals m hp
  refine ⟨fun c => GX (x c) (p c) (tgt c) (gp c) (wg c) (we c) (gf c),
    fun c => GGate (x c) (p c) (tgt c) (gp c) (wg c) (we c) (gf c),
    fun c => GPe (x c) (p c) (tgt c) (gp c) (wg c) (we c) (gf c),
    fun c => GLoss (x c) (p c) (tgt c) (gp c) (wg c) (we c) (gf c),
    fun c => GGf (x c) (p c) (tgt c) (gp c) (wg c) (we c) (gf c),
    fun c => GGp (x c) (p c) (tgt c) (gp c) (wg c) (we c) (gf c),
    (θ_run _ _ _).mono (fun r hr c => ?_) (Cert.TailKernelIdeal.Value.run_blocks m ρ),
    (θ_run _ _ _).mono (fun r hr c => ?_) (Cert.TailRefIdeal.Value.run m' ρ')⟩
  · exact ⟨(hr c).1.trans (final8 _ _ _ _ _ _ _ m c (h c)),
      (hr c).2.1.trans (final9 _ _ _ _ _ _ _ m c (h c)),
      (hr c).2.2.1.trans (final10 _ _ _ _ _ _ _ m c (h c)),
      (hr c).2.2.2.1.trans (final11 _ _ _ _ _ _ _ m c (h c)),
      (hr c).2.2.2.2.1.trans (final12 _ _ _ _ _ _ _ m c (h c)),
      (hr c).2.2.2.2.2.1.trans (final13 _ _ _ _ _ _ _ m c (h c)), (hr c).2.2.2.2.2.2⟩
  · obtain ⟨e0, e1, e2, e3, e4, e5, e6⟩ := hag c
    have E : ∀ {α : Type} (F : FVec Ideal S2x2048x1024 .f32 → FVec Ideal S2x2048x256 .f32 → FVec Ideal S2x2048x1024 .f32 → FVec Ideal S1x1024 .f32
        → FVec Ideal S1024x1024 .f32 → FVec Ideal S256x1024 .f32 → FVec Ideal S1x1024 .f32 → α),
        F (m' ((c : Thread Cert.TailRefIdeal.nD Cert.TailRefIdeal.τ).loc Cert.TailRefIdeal.main_arg0))
          (m' ((c : Thread Cert.TailRefIdeal.nD Cert.TailRefIdeal.τ).loc Cert.TailRefIdeal.main_arg1))
          (m' ((c : Thread Cert.TailRefIdeal.nD Cert.TailRefIdeal.τ).loc Cert.TailRefIdeal.main_arg2))
          (m' ((c : Thread Cert.TailRefIdeal.nD Cert.TailRefIdeal.τ).loc Cert.TailRefIdeal.main_arg3))
          (m' ((c : Thread Cert.TailRefIdeal.nD Cert.TailRefIdeal.τ).loc Cert.TailRefIdeal.main_arg4))
          (m' ((c : Thread Cert.TailRefIdeal.nD Cert.TailRefIdeal.τ).loc Cert.TailRefIdeal.main_arg5))
          (m' ((c : Thread Cert.TailRefIdeal.nD Cert.TailRefIdeal.τ).loc Cert.TailRefIdeal.main_arg6))
        = F (up (x c)) (up (p c)) (up (tgt c)) (up (gp c)) (up (wg c)) (up (we c)) (up (gf c)) := fun F => by
      rw [e0, e1, e2, e3, e4, e5, e6]
      exact congr (congr (congr (congr (congr (congr (congrArg F (h c).hx) (h c).hp) (h c).ht) (h c).hgp) (h c).hwg) (h c).hwe) (h c).hgf
    refine ⟨(hr c).1.trans ?_,
      (hr c).2.1.trans ?_,
      (hr c).2.2.1.trans ?_,
      (hr c).2.2.2.1.trans ?_,
      (hr c).2.2.2.2.1.trans ?_,
      (hr c).2.2.2.2.2.1.trans ?_, (hr c).2.2.2.2.2.2⟩
    · rw [Cert.TailRefIdeal.Read.val_main_v112_eq]
      exact (E (Cert.TailRefIdeal.Read.val_main_v112 (F := Ideal))).trans (ref_dx (x c) (p c) (tgt c) (gp c) (wg c) (we c) (gf c))
    · rw [Cert.TailRefIdeal.Read.val_main_v113_eq]
      exact (E (Cert.TailRefIdeal.Read.val_main_v113 (F := Ideal))).trans (ref_dgate (x c) (p c) (tgt c) (gp c) (wg c) (we c) (gf c))
    · rw [Cert.TailRefIdeal.Read.val_main_v114_eq]
      exact (E (Cert.TailRefIdeal.Read.val_main_v114 (F := Ideal))).trans (ref_dpe (x c) (p c) (tgt c) (gp c) (wg c) (we c) (gf c))
    · rw [Cert.TailRefIdeal.Read.val_main_v63_eq]
      exact (E (Cert.TailRefIdeal.Read.val_main_v63 (F := Ideal))).trans (ref_loss (x c) (p c) (tgt c) (gp c) (wg c) (we c) (gf c))
    · rw [Cert.TailRefIdeal.Read.val_main_v72_eq]
      exact (E (Cert.TailRefIdeal.Read.val_main_v72 (F := Ideal))).trans (ref_dgf (x c) (p c) (tgt c) (gp c) (wg c) (we c) (gf c))
    · rw [Cert.TailRefIdeal.Read.val_main_v95_eq]
      exact (E (Cert.TailRefIdeal.Read.val_main_v95 (F := Ideal))).trans (ref_dgp (x c) (p c) (tgt c) (gp c) (wg c) (we c) (gf c))

end Cert.Tail

end
-- ==== Proof.Rope.lean ====
/-
  The rotary embedding's gradient: pairs of columns turned by an angle that the position and the pair fix. The kernels turn a
  block's 128 columns by one table of cosines, one of sines and a product with a matrix of signs; here that product is read as the
  turned columns.
-/
module

public import proofs.«01_k».proof.Proof.Gen.QPathKernelIdeal.Launch
public import Idealize.ShloMosaic.Lib.Pipeline.ValueKit
public import Idealize.ShloMosaic.Lib.Pipeline.ReadBack
public import proofs.«01_k».proof.Proof.Rms

@[expose] public section

set_option maxRecDepth 16384

noncomputable section

namespace Cert.Rope

open Idealize.ShloMosaic Idealize.ShloMosaic.TcCoe Idealize.SL.Sem
open Cert.Reals Cert.Rms
open Cert.QPathKernelIdeal Cert.QPathKernelIdeal.Gen

/-! The angles. -/

/-- The angle of pair `j` at the position that the word `p` is. -/
def angle (p : BitVec 32) (j : Fin 16) : ℝ := (p.toInt : ℝ) * (10000 : ℝ) ^ (-(2 * (((BitVec.ofNat 32 j.val).toInt : ℤ) : ℝ)) / 32)

theorem c10000 : Ideal.ofBits .f32 0x461C4000#32 = ((10000 : ℝ) : EReal) := by
  simp [Ideal.ofBits, Ideal.ieee, -EReal.coe_mul]; norm_num
theorem c32 : Ideal.ofBits .f32 0x42000000#32 = ((32 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem neg1 : Ideal.ofBits .f32 0xBF800000#32 = ((-1 : ℝ) : EReal) := by
  simp [Ideal.ofBits, Ideal.ieee, -EReal.coe_mul]; norm_num

theorem angle_coe (p : BitVec 32) (j : Fin 16) : (FloatOps.sitofp (F := Ideal) FTy.f32 p : EReal)
    * Ideal.pow (Ideal.ofBits FTy.f32 0x461C4000#32) (Ideal.div (-(Ideal.ofBits FTy.f32 0x40000000#32
      * (FloatOps.sitofp (F := Ideal) FTy.f32 (BitVec.ofNat 32 j.val) : EReal))) (Ideal.ofBits FTy.f32 0x42000000#32)) = (angle p j : EReal) := by
  have e : ∀ b : BitVec 32, (FloatOps.sitofp (F := Ideal) FTy.f32 b : EReal) = ((b.toInt : ℝ) : EReal) := fun b => rfl
  rw [e, e, c10000, c2, c32, ← EReal.coe_mul, ← EReal.coe_neg, div_real _ (by norm_num), Ideal.pow_coe_coe, ← EReal.coe_mul]
  rfl

/-! The turn of 32 columns, and what it is among 128. -/

/-- The gradient of the turn of sixteen pairs: column `j` is paired with column `j + 16`. -/
def back (θ : Fin 16 → ℝ) (x : Fin 32 → ℝ) (j : Fin 32) : ℝ :=
  if h : j.val < 16 then x ⟨j.val + 16, by omega⟩ * Real.sin (θ ⟨j.val, h⟩) + x j * Real.cos (θ ⟨j.val, h⟩)
  else x j * Real.cos (θ ⟨j.val - 16, by omega⟩) + -x ⟨j.val - 16, by omega⟩ * Real.sin (θ ⟨j.val - 16, by omega⟩)

def above (e : Fin 128) : Fin 128 := ⟨(e.val + 16) % 128, by omega⟩
def below (e : Fin 128) : Fin 128 := ⟨e.val - 16, by omega⟩

/-- The matrix of signs for the 32 columns from `a`, and the columns that a product with it gives. -/
def cell (a : ℕ) (i e : Fin 128) : ℝ :=
  (if i = above e then (if a ≤ e.val ∧ e.val < a + 16 then 1 else 0) else 0) - (if i = below e then (if a + 16 ≤ e.val ∧ e.val < a + 32 then 1 else 0) else 0)
def turn (a : ℕ) (f : Fin 128 → ℝ) (e : Fin 128) : ℝ :=
  (if a ≤ e.val ∧ e.val < a + 16 then f (above e) else 0) - (if a + 16 ≤ e.val ∧ e.val < a + 32 then f (below e) else 0)

theorem sum_cell (a : ℕ) (f : Fin 128 → ℝ) (e : Fin 128) : ∑ i, f i * cell a i e = turn a f e := by
  simp only [cell, turn, mul_sub, Finset.sum_sub_distrib, mul_ite, mul_zero, mul_one, Finset.sum_ite_eq', Finset.mem_univ, if_true]

theorem cell_if (a : ℕ) (ha : a ≤ 96) (i e : Fin 128) (y : ℝ) (hy : ¬(a ≤ i.val ∧ i.val < a + 32) ∨ y = 0) :
    (if a ≤ i.val ∧ i.val < a + 16 ∧ e.val = i.val + 16 then ((-1 : ℝ) : EReal)
      else if a + 16 ≤ i.val ∧ i.val < a + 32 ∧ i.val = e.val + 16 then ((1 : ℝ) : EReal) else (y : EReal)) = ((cell a i e + y : ℝ) : EReal) := by
  have h1 : (i = above e) ↔ i.val = (e.val + 16) % 128 := Fin.ext_iff
  have h2 : (i = below e) ↔ i.val = e.val - 16 := Fin.ext_iff
  simp only [cell, h1, h2]
  split_ifs <;> first | omega | (rcases hy with hy | hy <;> first | omega | (subst hy; norm_num)) | norm_num

/-- The words of the matrix of signs: a block of 32 columns from `a`, and another matrix's word outside it. -/
def signBits (a : ℕ) (rest : BitVec 16) (i e : ℕ) : BitVec 16 :=
  if a ≤ i ∧ i < a + 16 ∧ e = i + 16 then 0xBF80#16 else if a + 16 ≤ i ∧ i < a + 32 ∧ i = e + 16 then 0x3F80#16 else rest

theorem b_neg1 : Ideal.ofBits .bf16 0xBF80#16 = ((-1 : ℝ) : EReal) := by
  simp [Ideal.ofBits, Ideal.ieee, -EReal.coe_mul]; norm_num
theorem b_one : Ideal.ofBits .bf16 0x3F80#16 = ((1 : ℝ) : EReal) := by
  simp [Ideal.ofBits, Ideal.ieee, -EReal.coe_mul]; norm_num
theorem b_zero : Ideal.ofBits .bf16 0x0000#16 = ((0 : ℝ) : EReal) := by
  simp [Ideal.ofBits, Ideal.ieee, -EReal.coe_mul]

theorem signBits_coe (a : ℕ) (ha : a ≤ 96) (rest : BitVec 16) (y : ℝ) (h : Ideal.ofBits .bf16 rest = (y : EReal)) (i e : Fin 128)
    (hy : ¬(a ≤ i.val ∧ i.val < a + 32) ∨ y = 0) : Ideal.ofBits .bf16 (signBits a rest i.val e.val) = ((cell a i e + y : ℝ) : EReal) := by
  rw [← cell_if a ha i e y hy]
  unfold signBits
  split_ifs
  · exact b_neg1
  · exact b_one
  · exact h

theorem row_major (i e : Fin 128) : (S128x128.rowMajor (ix2 i e)).val = i.val * 128 + e.val :=
  (rowMajor_val2 (ix2 i e : S128x128.Idx) 128 rfl).trans rfl

/-- Inside its 32 columns the turn is the gradient of the halves' turn, outside it adds nothing. -/
theorem turn_block (a : ℕ) (ha : a ≤ 96) (θ : Fin 16 → ℝ) (f C S : Fin 128 → ℝ)
    (hC : ∀ (i : Fin 128), a ≤ i.val → i.val < a + 32 → C i = Real.cos (θ ⟨(i.val - a) % 16, by omega⟩))
    (hS : ∀ (i : Fin 128), a ≤ i.val → i.val < a + 32 → S i = Real.sin (θ ⟨(i.val - a) % 16, by omega⟩))
    (e : Fin 128) (h1 : a ≤ e.val) (h2 : e.val < a + 32) :
    f e * C e + turn a (fun i => f i * S i) e = back θ (fun j => f ⟨a + j.val, by omega⟩) ⟨e.val - a, by omega⟩ := by
  unfold turn back
  dsimp only
  have e0 : (⟨a + (e.val - a), by omega⟩ : Fin 128) = e := Fin.ext (by show a + (e.val - a) = e.val; omega)
  by_cases h : e.val - a < 16
  · have ev : (above e).val = e.val + 16 := by show (e.val + 16) % 128 = _; omega
    have e1 : (⟨a + (e.val - a + 16), by omega⟩ : Fin 128) = above e := Fin.ext (by rw [ev]; show a + (e.val - a + 16) = e.val + 16; omega)
    have t1 : (⟨((above e).val - a) % 16, by omega⟩ : Fin 16) = ⟨e.val - a, h⟩ := Fin.ext (by show ((above e).val - a) % 16 = e.val - a; rw [ev]; omega)
    have t2 : (⟨(e.val - a) % 16, by omega⟩ : Fin 16) = ⟨e.val - a, h⟩ := Fin.ext (by show (e.val - a) % 16 = e.val - a; omega)
    rw [dif_pos h, if_pos ⟨h1, by omega⟩, if_neg (by omega), e0, e1, hC e h1 h2, hS (above e) (by omega) (by omega), t1, t2]; ring
  · have ev : (below e).val = e.val - 16 := rfl
    have e1 : (⟨a + (e.val - a - 16), by omega⟩ : Fin 128) = below e := Fin.ext (by rw [ev]; show a + (e.val - a - 16) = e.val - 16; omega)
    have t1 : (⟨((below e).val - a) % 16, by omega⟩ : Fin 16) = ⟨e.val - a - 16, by omega⟩ := Fin.ext (by show ((below e).val - a) % 16 = e.val - a - 16; rw [ev]; omega)
    have t2 : (⟨(e.val - a) % 16, by omega⟩ : Fin 16) = ⟨e.val - a - 16, by omega⟩ := Fin.ext (by show (e.val - a) % 16 = e.val - a - 16; omega)
    rw [dif_neg h, if_neg (by omega), if_pos ⟨by omega, h2⟩, e0, e1, hC e h1 h2, hS (below e) (by omega) (by omega), t1, t2]; ring

theorem turn_out (a : ℕ) (f : Fin 128 → ℝ) (e : Fin 128) (h : ¬(a ≤ e.val ∧ e.val < a + 32)) : turn a f e = 0 := by
  unfold turn
  rw [if_neg (by omega), if_neg (by omega), sub_zero]

theorem back_scale (θ : Fin 16 → ℝ) (x : Fin 32 → ℝ) (k : ℝ) (j : Fin 32) : back θ x j * k = back θ (fun i => x i * k) j := by
  unfold back
  split_ifs <;> ring

/-- The sequence and the token that a row of 4096 is. -/
def sq (r : Fin 4096) : Fin 2 := ⟨r.val / 2048, by omega⟩
def tk (r : Fin 4096) : Fin 2048 := ⟨r.val % 2048, by omega⟩

/-- The angles of a token's position, and the constant one. -/
def θr (s : Fin 2048) (j : Fin 16) : ℝ := angle (BitVec.ofNat 32 s.val) j

theorem one_coe : Ideal.ofBits .f32 0x3F800000#32 = ((1 : ℝ) : EReal) := by
  simp [Ideal.ofBits, Ideal.ieee, -EReal.coe_mul]; norm_num

theorem sitofp_zero : (((0#32 : BitVec 32).toInt : ℝ) : EReal) = 0 := by simp

/-- A row of an array of heads, every head filled up to 128 columns, at a column counted over all heads. -/
def filled {H n : ℕ} (f : Fin 2 → Fin 2048 → Fin H → Fin n → ℝ) (r : Fin 4096) (c : ℕ) : ℝ :=
  if h : c / 128 < H then padr (f (sq r) (tk r) ⟨c / 128, h⟩) (⟨c % 128, by omega⟩ : Fin 128) else 0

theorem filled_at {H n : ℕ} (f : Fin 2 → Fin 2048 → Fin H → Fin n → ℝ) (r : Fin 4096) (h : Fin H) (i : Fin 128) :
    filled f r (128 * h.val + i.val) = padr (f (sq r) (tk r) h) i := by
  have e1 : (128 * h.val + i.val) / 128 = h.val := by omega
  have e2 : (128 * h.val + i.val) % 128 = i.val := by omega
  unfold filled
  simp only [e1, e2, h.isLt, dite_true]

/-! The turned block of a kernel. -/

/-- A block's columns turned, times a constant: the products with the matrix of signs are taken of the rounded columns and of what
    rounding dropped. -/
def turned (κ : BitVec 32) (x cs sn : FVec Ideal S512x128 .f32) (P : FVec Ideal S128x128 .bf16) : FVec Ideal S512x128 .f32 :=
  mulf (addf (mulf x cs) (addf
    (matmul dot_S512x128_S128x128_S512x128_1_0_0_1_n_n none (truncf .bf16 (mulf x sn) bitsLt_bf16_f32) P (constant S512x128 .f32 0x00000000#32))
    (matmul dot_S512x128_S128x128_S512x128_1_0_0_1_n_n none
      (truncf .bf16 (subf (mulf x sn) (extf .f32 (truncf .bf16 (mulf x sn) bitsLt_bf16_f32) bitsLt_bf16_f32)) bitsLt_bf16_f32) P
      (constant S512x128 .f32 0x00000000#32)))) (broadcast S512x128 (Scalar.ofBits .f32 κ : Ideal .f32))

theorem turned_at (κ : BitVec 32) (k : ℝ) (hk : Ideal.ofBits .f32 κ = (k : EReal)) (x cs sn : FVec Ideal S512x128 .f32) (P : FVec Ideal S128x128 .bf16)
    (X C S : Fin 512 → Fin 128 → ℝ) (Q : Fin 128 → Fin 128 → ℝ) (hx : ∀ r e, x (ix2 r e) = (X r e : EReal)) (hc : ∀ r e, cs (ix2 r e) = (C r e : EReal))
    (hs : ∀ r e, sn (ix2 r e) = (S r e : EReal)) (hP : ∀ i e, P (ix2 i e) = (Q i e : EReal)) (r : Fin 512) (e : Fin 128) :
    turned κ x cs sn P (ix2 r e) = (((X r e * C r e + ∑ i, X r i * S r i * Q i e) * k : ℝ) : EReal) := by
  pointwise [turned]
  simp only [hx, hc, hs, hP, hk, ← EReal.coe_mul, ← EReal.coe_sub, coe_sum, ← EReal.coe_add, add_zero, sub_self, zero_mul, Finset.sum_const_zero]

/-- Eight blocks of 128 columns, read side by side: `F n` is the block that begins at column `n`. -/
theorem eight (F : ℕ → Fin 128 → EReal) (k : Fin 1024) :
    (if h1 : k.val < 128 then F 0 ⟨k.val, h1⟩ else if h2 : k.val - 128 < 128 then F 128 ⟨k.val - 128, h2⟩
      else if h3 : k.val - 128 - 128 < 128 then F 256 ⟨k.val - 128 - 128, h3⟩ else if h4 : k.val - 128 - 128 - 128 < 128 then F 384 ⟨k.val - 128 - 128 - 128, h4⟩
      else if h5 : k.val - 128 - 128 - 128 - 128 < 128 then F 512 ⟨k.val - 128 - 128 - 128 - 128, h5⟩
      else if h6 : k.val - 128 - 128 - 128 - 128 - 128 < 128 then F 640 ⟨k.val - 128 - 128 - 128 - 128 - 128, h6⟩
      else if h7 : k.val - 128 - 128 - 128 - 128 - 128 - 128 < 128 then F 768 ⟨k.val - 128 - 128 - 128 - 128 - 128 - 128, h7⟩
      else F 896 ⟨k.val - 128 - 128 - 128 - 128 - 128 - 128 - 128, by omega⟩) = F (128 * (k.val / 128)) ⟨k.val % 128, by omega⟩ := by
  have e : ∀ (n a : ℕ) (ha : a < 128), n = 128 * (k.val / 128) → a = k.val % 128 → F n ⟨a, ha⟩ = F (128 * (k.val / 128)) ⟨k.val % 128, by omega⟩ := by
    intro n a ha h1 h2; subst h1 h2; rfl
  split_ifs <;> exact e _ _ _ (by omega) (by omega)

end Cert.Rope

end
-- ==== Proof.QPathRef.lean ====
/-
  The reference of the gradient through the query path: the real numbers its results are.
-/
module

public import proofs.«01_k».proof.Proof.Gen.QPathRefIdeal.Read
public import Idealize.ShloMosaic.Lib.Pipeline.ValueKit
public import Idealize.ShloMosaic.Lib.Pipeline.ReadBack
public import proofs.«01_k».proof.Proof.Rope

@[expose] public section

set_option maxRecDepth 16384

noncomputable section

namespace Cert.QPath

open Idealize.ShloMosaic Idealize.ShloMosaic.TcCoe Idealize.SL.Sem
open Cert.Reals Cert.Rms Cert.Rope
open Cert.QPathRefIdeal Cert.QPathRefIdeal.Gen Cert.QPathRefIdeal.Read

/-- The scale of the queries. -/
def kq : ℝ := 13698540 / 2 ^ 27

theorem kq_coe : Ideal.ofBits .f32 0x3DD105EC#32 = (kq : EReal) := by
  simp [Ideal.ofBits, Ideal.ieee, -EReal.coe_mul, kq]; norm_num

/-- The gradient of a head's turn: its first 64 columns stay, its last 32 are turned. -/
def headBack (θ : Fin 16 → ℝ) (x : Fin 96 → ℝ) (e : Fin 96) : ℝ :=
  if h : e.val < 64 then x e else back θ (fun j => x ⟨64 + j.val, by omega⟩) ⟨e.val - 64, by omega⟩

/-- The same head, read case by case. -/
theorem head_if (θ : Fin 16 → ℝ) (x : Fin 96 → ℝ) (e : Fin 96) :
    (if h1 : e.val < 64 then (x e : EReal) else if h2 : e.val - 64 < 16 then
      ((x ⟨64 + (16 + (e.val - 64)), by omega⟩ * Real.sin (θ ⟨e.val - 64, h2⟩) + x ⟨64 + (e.val - 64), by omega⟩ * Real.cos (θ ⟨e.val - 64, h2⟩) : ℝ) : EReal)
      else ((x ⟨64 + (16 + (e.val - 64 - 16)), by omega⟩ * Real.cos (θ ⟨e.val - 64 - 16, by omega⟩)
        + -x ⟨64 + (e.val - 64 - 16), by omega⟩ * Real.sin (θ ⟨e.val - 64 - 16, by omega⟩) : ℝ) : EReal))
      = (headBack θ x e : EReal) := by
  unfold headBack back
  dsimp only
  by_cases h1 : e.val < 64
  · rw [dif_pos h1, dif_pos h1]
  rw [dif_neg h1, dif_neg h1]
  by_cases h2 : e.val - 64 < 16
  · rw [dif_pos h2, dif_pos h2]
    have e1 : (⟨64 + (16 + (e.val - 64)), by omega⟩ : Fin 96) = ⟨64 + (e.val - 64 + 16), by omega⟩ := Fin.ext (by show _ + _ = _ + _; omega)
    rw [e1]
  · rw [dif_neg h2, dif_neg h2]
    have e1 : (⟨64 + (16 + (e.val - 64 - 16)), by omega⟩ : Fin 96) = ⟨64 + (e.val - 64), by omega⟩ := Fin.ext (by show _ + _ = _ + _; omega)
    rw [e1]

variable (x : S4096x256.Idx → ℝ) (g : S1x256.Idx → ℝ) (w : S256x768.Idx → ℝ) (ct : S2x2048x8x96.Idx → ℝ)

/-- A row, the gains, and the gradient of its queries head by head. -/
def xr (r : Fin 4096) (k : Fin 256) : ℝ := x (ix2 r k)
def gn (k : Fin 256) : ℝ := g (ix2 0 k)
def dq (b : Fin 2) (s : Fin 2048) (h : Fin 8) (e : Fin 96) : ℝ := headBack (θr s) (fun j => ct (ix4 b s h j) * kq) e

/-- The gradient of the normed row. -/
def da (r : Fin 4096) (d : Fin 256) : ℝ :=
  ∑ f : Fin 768, dq ct (sq r) (tk r) ⟨f.val / 96, by omega⟩ ⟨f.val % 96, by omega⟩ * w (ix2 d f)

/-- The three results: the queries' gradient padded head by head, the latent rows' and the gain's. -/
def GQ : FVec Ideal S4096x1024 .bf16 := fun y =>
  (padr (dq ct (sq (y 0)) (tk (y 0)) ⟨(y 1).val / 128, by have : (y 1).val < 1024 := (y 1).isLt; omega⟩) (⟨(y 1).val % 128, by omega⟩ : Fin 128) : EReal)
def GX : FVec Ideal S4096x256 .bf16 := fun y => (grad 256 (xr x (y 0)) (fun d => da w ct (y 0) d * gn g d) (y 1) : EReal)
def GG : FVec Ideal S1x256 .f32 := fun y => ((∑ r, da w ct r (y 1) * (xr x r (y 1) * inv 256 (xr x r)) : ℝ) : EReal)

theorem v16_at (s : Fin 2048) (j : Fin 16) : val_main_v16 (F := Ideal) (ix2 s j) = (θr s j : EReal) := by
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  exact angle_coe _ _

theorem v57_at (b : Fin 2) (s : Fin 2048) (h : Fin 8) (e : Fin 96) : val_main_v57 (F := Ideal) (up ct) (ix4 b s h e) = ((ct (ix4 b s h e) * kq : ℝ) : EReal) := by
  pointwise [val_main_v57, val_main_v56, val_main_cst_8]
  rw [kq_coe, EReal.coe_mul]; rfl

theorem v74_at (b : Fin 2) (s : Fin 2048) (h : Fin 8) (e : Fin 96) : val_main_v74 (F := Ideal) (up ct) (ix4 b s h e) = (dq ct b s h e : EReal) := by
  pointwise [val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v39, val_main_v38, val_main_v37, val_main_v36]
  simp only [v57_at, v16_at, Ideal.cos_coe, Ideal.sin_coe, ← EReal.coe_mul, ← EReal.coe_neg, ← EReal.coe_add]
  exact head_if (θr s) (fun j => ct (ix4 b s h j) * kq) e

theorem v19_at (r : Fin 4096) (u : Fin 1) : val_main_v23 (F := Ideal) (up x) (ix2 r u) = (var 256 (xr x r) : EReal) := by
  pointwise [val_main_v23, val_main_v22, val_main_v21, val_main_v20, val_main_v19, val_main_v18, val_main_v17, val_main_cst_3, val_main_cst_4, val_main_cst_5]
  simp only [up, ← EReal.coe_mul, coe_sum, c256, eps_coe]
  exact var_div (by norm_num) (xr x r)

theorem v24_at (r : Fin 4096) (u : Fin 1) : val_main_v24 (F := Ideal) (up x) (ix2 r u) = (inv 256 (xr x r) : EReal) := by
  pointwise [val_main_v24]
  rw [v19_at, Rms.inv_div (by norm_num)]

theorem v76_at (r : Fin 4096) (d : Fin 256) : val_main_v76 (F := Ideal) (up w) (up ct) (ix2 r d) = (da w ct r d : EReal) := by
  pointwise [val_main_v76, val_main_v75]
  simp only [v74_at, up, ← EReal.coe_mul, coe_sum]
  rfl

theorem v81_at (r : Fin 4096) (d : Fin 256) : val_main_v81 (F := Ideal) (up g) (up w) (up ct) (ix2 r d) = ((da w ct r d * gn g d : ℝ) : EReal) := by
  pointwise [val_main_v81, val_main_v80]
  rw [v76_at, EReal.coe_mul]; rfl

theorem pad_zero (i : S_.Idx) : val_main_call0_v0 (F := Ideal) i = 0 := by
  show (((0#32 : BitVec 32).toInt : ℝ) : EReal) = 0
  simp

theorem ref_q : val_main_v98 (F := Ideal) (up ct) = GQ ct := by
  funext y
  rw [eq_ix2 y]
  pointwise [val_main_v98, val_main_v97, val_main_v96]
  exact dite_padr _ (dq ct) (fun b s h e => v74_at ct b s h e) (pad_zero _) (sq (y 0)) (tk (y 0)) ⟨(y 1).val / 128, by have : (y 1).val < 1024 := (y 1).isLt; omega⟩
    (⟨(y 1).val % 128, by omega⟩ : Fin 128) _ _ _ _ rfl rfl rfl rfl

theorem v79_at (u : Fin 1) (k : Fin 256) : val_main_v79 (F := Ideal) (up x) (up w) (up ct) (ix2 u k)
    = ((∑ r, da w ct r k * (xr x r k * inv 256 (xr x r)) : ℝ) : EReal) := by
  pointwise [val_main_v79, val_main_v78, val_main_v77, val_main_v29, val_main_v28, val_main_cst_9]
  simp only [v24_at, v76_at, up, ← EReal.coe_mul, coe_sum]
  exact congrArg _ (Finset.sum_congr rfl fun r _ => mul_comm _ _)

theorem ref_g : val_main_v79 (F := Ideal) (up x) (up w) (up ct) = GG x w ct := by
  funext y
  rw [eq_ix2 y]
  exact v79_at x w ct (y 0) (y 1)

theorem v89_at (r : Fin 4096) (u : Fin 1) : val_main_v89 (F := Ideal) (up x) (up g) (up w) (up ct) (ix2 r u)
    = (slope 256 (xr x r) (fun d => da w ct r d * gn g d) : EReal) := by
  pointwise [val_main_v89, val_main_v88, val_main_v87, val_main_v86,
    val_main_v85, val_main_v84, val_main_v83, val_main_v82, val_main_v27, val_main_v26, val_main_v25, val_main_cst_6, val_main_cst_10, val_main_cst_11, val_main_cst_12]
  simp only [v81_at, v24_at, v19_at, up, ← EReal.coe_mul, coe_sum, c256, mhalf]
  exact slope_div (by norm_num) (xr x r) (fun d => da w ct r d * gn g d)

theorem v95_at (r : Fin 4096) (d : Fin 256) : val_main_v99 (F := Ideal) (up x) (up g) (up w) (up ct) (ix2 r d)
    = (grad 256 (xr x r) (fun d => da w ct r d * gn g d) d : EReal) := by
  pointwise [val_main_v99, val_main_v95, val_main_v94, val_main_v93, val_main_v92, val_main_v91, val_main_v90, val_main_v86, val_main_v85, val_main_cst_12]
  simp only [v89_at, v81_at, v24_at, Fin.sum_univ_one]
  have h := add_grad (N := 256) (by norm_num) (xr x r) (fun d => da w ct r d * gn g d) d 0
  rw [zero_add, zero_add] at h
  exact h

theorem ref_x : val_main_v99 (F := Ideal) (up x) (up g) (up w) (up ct) = GX x g w ct := by
  funext y
  rw [eq_ix2 y]
  exact v95_at x g w ct (y 0) (y 1)

end Cert.QPath

end
-- ==== Proof.QPathSign.lean ====
/-
  The matrix of signs as the query path's gradient reads it: the words of its literal, and the numbers they are.
-/
module

public import proofs.«01_k».proof.Proof.Gen.QPathKernelIdeal.Launch
public import proofs.«01_k».proof.Proof.Rope

@[expose] public section

set_option maxRecDepth 16384

noncomputable section

namespace Cert.QPath

open Idealize.ShloMosaic Cert.Rope
open Cert.QPathKernelIdeal

/-- The words of 32 rows, the `q`-th such part of the table. -/
abbrev Rows (q : ℕ) : Prop := ∀ (i : Fin 32) (e : Fin 128), lit0t ((q * 32 + i.val) * 128 + e.val) = signBits 64 0x0000#16 (q * 32 + i.val) e.val

theorem rows0 : Rows 0 := by decide +kernel
theorem rows1 : Rows 1 := by decide +kernel
theorem rows2 : Rows 2 := by decide +kernel
theorem rows3 : Rows 3 := by decide +kernel

theorem lit_row (i e : Fin 128) : lit0t (i.val * 128 + e.val) = signBits 64 0x0000#16 i.val e.val := by
  have h : ∀ q : Fin 4, Rows q.val := fun q => match q with
    | 0 => rows0
    | 1 => rows1
    | 2 => rows2
    | 3 => rows3
  have h1 := h ⟨i.val / 32, by omega⟩ ⟨i.val % 32, by omega⟩ e
  dsimp only at h1
  rwa [show i.val / 32 * 32 + i.val % 32 = i.val by omega] at h1

/-- The matrix, element by element. -/
def signH : FVec Ideal S128x128 .bf16 := fun i => FloatOps.ofBits .bf16 (lit0 (S128x128.rowMajor i))

theorem signH_at (i e : Fin 128) : signH (ix2 i e) = ((cell 64 i e : ℝ) : EReal) := by
  have h : signH (ix2 i e) = Ideal.ofBits .bf16 (lit0t (i.val * 128 + e.val)) := congrArg (fun n => Ideal.ofBits .bf16 (lit0t n)) (row_major i e)
  rw [h, lit_row]
  refine (signBits_coe 64 (by norm_num) _ 0 b_zero i e (Or.inr rfl)).trans ?_
  rw [add_zero]

end Cert.QPath

end
-- ==== Proof.QPathKern.lean ====
/-
  The kernel's gradient through the query path: 512 rows a grid point, eight heads turned by a matrix of signs, and the gains'
  gradient summed over the points.
-/
module

public import proofs.«01_k».proof.Proof.Gen.QPathKernelIdeal.Value
public import Idealize.ShloMosaic.Lib.Pipeline.ValueKit
public import Idealize.ShloMosaic.Lib.Pipeline.ReadBack
public import proofs.«01_k».proof.Proof.QPathRef
public import proofs.«01_k».proof.Proof.QPathSign

@[expose] public section

set_option maxRecDepth 16384

noncomputable section

namespace Cert.QPath

open Idealize.ShloMosaic Idealize.ShloMosaic.TcCoe Idealize.SL.Sem
open Cert.Reals Cert.Rms Cert.Rope
open Cert.QPathKernelIdeal Cert.QPathKernelIdeal.Gen

variable (x : S4096x256.Idx → ℝ) (g : S1x256.Idx → ℝ) (w : S256x768.Idx → ℝ) (ct : S2x2048x8x96.Idx → ℝ)

/-! What the host prepares. -/

def zeroB : FVec Ideal S_ .bf16 := sitofp .bf16 (constantI S_ 32 0#32)
def zeroF : FVec Ideal S_ .f32 := sitofp .f32 (constantI S_ 32 0#32)

/-- The tables of cosines and of sines. -/
def angleH : FVec Ideal S2048x16 .f32 := Cert.QPathRefIdeal.Read.val_main_v16 (F := Ideal)
def cosH : FVec Ideal S2048x128 .f32 :=
  concatenate S2048x128 1 [⟨S2048x64, broadcastInDim S2048x64 ![] bcast_S_S2048x64 (constant S_ .f32 0x3F800000#32 : FVec Ideal S_ .f32)⟩,
    ⟨S2048x16, Host.cos angleH⟩, ⟨S2048x16, Host.cos angleH⟩, ⟨S2048x32, broadcastInDim S2048x32 ![] bcast_S_S2048x32 (constant S_ .f32 0x3F800000#32 : FVec Ideal S_ .f32)⟩]
    concatenates_S2048x64_S2048x16_S2048x16_S2048x32_S2048x128_d1
def sinH : FVec Ideal S2048x128 .f32 :=
  concatenate S2048x128 1 [⟨S2048x64, broadcastInDim S2048x64 ![] bcast_S_S2048x64 (constant S_ .f32 0x00000000#32 : FVec Ideal S_ .f32)⟩,
    ⟨S2048x16, Host.sin angleH⟩, ⟨S2048x16, Host.sin angleH⟩, ⟨S2048x32, broadcastInDim S2048x32 ![] bcast_S_S2048x32 (constant S_ .f32 0x00000000#32 : FVec Ideal S_ .f32)⟩]
    concatenates_S2048x64_S2048x16_S2048x16_S2048x32_S2048x128_d1

/-- The weights and the cotangent with every head filled up to 128 columns, and the latent rows in their place. -/
def wH (W : FVec Ideal S256x768 .f32) : FVec Ideal S256x1024 .bf16 :=
  shapeCast S256x1024 (pad S256x8x128 ![0, 0, 0] ![0, 0, 32] ![0, 0, 0] (shapeCast S256x8x96 (truncf .bf16 W bitsLt_bf16_f32) shapeCasts_S256x768_S256x8x96)
    zeroB pads_S256x8x96_S256x8x128_000_000_0320 h_S_) shapeCasts_S256x8x128_S256x1024
def zH (X : FVec Ideal S4096x256 .f32) : FVec Ideal S4096x4096 .bf16 :=
  concatenate S4096x4096 1 [⟨S4096x1024, broadcastInDim S4096x1024 ![] bcast_S_S4096x1024 (constant S_ .bf16 0x0000#16 : FVec Ideal S_ .bf16)⟩,
    ⟨S4096x256, truncf .bf16 X bitsLt_bf16_f32⟩, ⟨S4096x2816, broadcastInDim S4096x2816 ![] bcast_S_S4096x2816 (constant S_ .bf16 0x0000#16 : FVec Ideal S_ .bf16)⟩]
    concatenates_S4096x1024_S4096x256_S4096x2816_S4096x4096_d1
def dH (W : FVec Ideal S2x2048x8x96 .f32) : FVec Ideal S4096x1024 .f32 :=
  shapeCast S4096x1024 (pad S2x2048x8x128 ![0, 0, 0, 0] ![0, 0, 0, 32] ![0, 0, 0, 0] W zeroF pads_S2x2048x8x96_S2x2048x8x128_000_000_000_0320 h_S_)
    shapeCasts_S2x2048x8x128_S4096x1024

section entry

variable (m : (ℓ : Loc nD τ sig) → Buf (Elt Ideal) ℓ) (c : Dev nD)

def ax : FVec Ideal S4096x256 .f32 := m ((c : Thread nD τ).loc main_arg0)
def ag : FVec Ideal S1x256 .f32 := m ((c : Thread nD τ).loc main_arg1)
def aw : FVec Ideal S256x768 .f32 := m ((c : Thread nD τ).loc main_arg2)
def act : FVec Ideal S2x2048x8x96 .f32 := m ((c : Thread nD τ).loc main_arg3)

theorem V_def (b : Ref sig .tc) : V m c b = StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) b := rfl

set_option maxHeartbeats 2000000 in
theorem V_cos : V m c main_v59 = cosH := by rw [V_def]; after_results; rfl
set_option maxHeartbeats 2000000 in
theorem V_sin : V m c main_v60 = sinH := by rw [V_def]; after_results; rfl
set_option maxHeartbeats 2000000 in
theorem V_sign : V m c main_cst = signH := by rw [V_def]; after_results; rfl
set_option maxHeartbeats 2000000 in
theorem V_w : V m c main_v90 = wH (aw m c) := by rw [V_def]; after_results; rfl
set_option maxHeartbeats 2000000 in
theorem V_z : V m c main_v94 = zH (ax m c) := by rw [V_def]; after_results; rfl
set_option maxHeartbeats 2000000 in
theorem V_d : V m c main_v96 = dH (act m c) := by rw [V_def]; after_results; rfl
theorem V_g : V m c main_arg1 = ag m c := by rw [V_main_arg1]; rfl

end entry

/-- A table's row: `v` outside the turned columns, the angles' function inside them, twice. -/
def tab (v : ℝ) (f : Fin 16 → ℝ) (e : Fin 128) : ℝ :=
  if e.val < 64 then v else if h2 : e.val - 64 < 16 then f ⟨e.val - 64, h2⟩ else if h3 : e.val - 64 - 16 < 16 then f ⟨e.val - 64 - 16, h3⟩ else v

theorem tab_in (v : ℝ) (f : Fin 16 → ℝ) (e : Fin 128) (h1 : 64 ≤ e.val) (h2 : e.val < 96) : tab v f e = f ⟨(e.val - 64) % 16, by omega⟩ := by
  unfold tab
  rw [if_neg (by omega)]
  split_ifs with h3 h4
  · exact congrArg f (Fin.ext (by show e.val - 64 = (e.val - 64) % 16; omega))
  · exact congrArg f (Fin.ext (by show e.val - 64 - 16 = (e.val - 64) % 16; omega))
  · omega

theorem tab_out (v : ℝ) (f : Fin 16 → ℝ) (e : Fin 128) (h : e.val < 64 ∨ 96 ≤ e.val) : tab v f e = v := by
  unfold tab
  split_ifs <;> first | rfl | omega

theorem cosH_at (s : Fin 2048) (e : Fin 128) : cosH (ix2 s e) = (tab 1 (fun j => Real.cos (θr s j)) e : EReal) := by
  pointwise [cosH, angleH]
  simp only [v16_at, Ideal.cos_coe]
  unfold tab
  split_ifs <;> rfl

theorem sinH_at (s : Fin 2048) (e : Fin 128) : sinH (ix2 s e) = (tab 0 (fun j => Real.sin (θr s j)) e : EReal) := by
  pointwise [sinH, angleH]
  simp only [v16_at, Ideal.sin_coe]
  unfold tab
  split_ifs <;> rfl

/-- The cotangent's row, column by column of the filled heads. -/
def cr (r : Fin 4096) (n : ℕ) : ℝ := filled (fun b s h e => ct (ix4 b s h e)) r n

theorem dH_at (r : Fin 4096) (k : Fin 1024) : dH (up ct) (ix2 r k) = (cr ct r k.val : EReal) := by
  have hk : k.val / 128 < 8 := by omega
  pointwise [dH, zeroF]
  unfold cr filled
  rw [dif_pos hk]
  exact dite_padr (up ct) (fun b s h e => ct (ix4 b s h e)) (fun _ _ _ _ => rfl) sitofp_zero (sq r) (tk r) ⟨k.val / 128, hk⟩ (⟨k.val % 128, by omega⟩ : Fin 128)
    _ _ _ _ rfl rfl rfl rfl

/-- The weights' row, column by column of the filled heads. -/
def wr (d : Fin 256) (k : Fin 1024) : ℝ := padr (fun e : Fin 96 => w (ix2 d ⟨k.val / 128 * 96 + e.val, by omega⟩)) (⟨k.val % 128, by omega⟩ : Fin 128)

theorem wH_at (d : Fin 256) (k : Fin 1024) : wH (up w) (ix2 d k) = (wr w d k : EReal) := by
  pointwise [wH, zeroB]
  unfold wr padr
  by_cases h : k.val % 128 < 96
  · rw [dif_pos ⟨by omega, h⟩, dif_pos h]; rfl
  · rw [dif_neg fun q => h q.2, dif_neg h]; exact sitofp_zero

theorem zH_at (r : Fin 4096) (k : Fin 256) : zH (up x) (ix2 r ⟨1024 + k.val, by omega⟩) = (xr x r k : EReal) := by
  pointwise [zH]
  rfl

/-! One head, and the eight of them. -/

def hq (n : ℕ) (h : S512x1024.Slices ![0, n] S512x128) (v : FVec Ideal S512x1024 .f32) (c s : FVec Ideal S512x128 .f32) (p : FVec Ideal S128x128 .bf16) :
    FVec Ideal S512x128 .f32 := turned 0x3DD105EC#32 (extractStridedSlice S512x128 ![0, n] v h) c s p

def heads (v : FVec Ideal S512x1024 .f32) (c s : FVec Ideal S512x128 .f32) (p : FVec Ideal S128x128 .bf16) : FVec Ideal S512x1024 .bf16 :=
  truncf .bf16 (concatenate S512x1024 1 [⟨S512x128, hq 0 slices_S512x1024_o0_0_S512x128 v c s p⟩,
    ⟨S512x128, hq 128 slices_S512x1024_o0_128_S512x128 v c s p⟩,
    ⟨S512x128, hq 256 slices_S512x1024_o0_256_S512x128 v c s p⟩,
    ⟨S512x128, hq 384 slices_S512x1024_o0_384_S512x128 v c s p⟩,
    ⟨S512x128, hq 512 slices_S512x1024_o0_512_S512x128 v c s p⟩,
    ⟨S512x128, hq 640 slices_S512x1024_o0_640_S512x128 v c s p⟩,
    ⟨S512x128, hq 768 slices_S512x1024_o0_768_S512x128 v c s p⟩,
    ⟨S512x128, hq 896 slices_S512x1024_o0_896_S512x128 v c s p⟩]
    concatenates_S512x128_S512x128_S512x128_S512x128_S512x128_S512x128_S512x128_S512x128_S512x1024_d1) bitsLt_bf16_f32

section heads

variable (v : FVec Ideal S512x1024 .f32) (c s : FVec Ideal S512x128 .f32) (p : FVec Ideal S128x128 .bf16) (X : Fin 512 → ℕ → ℝ) (C S : Fin 512 → Fin 128 → ℝ)
  (hv : ∀ r (k : Fin 1024), v (ix2 r k) = (X r k.val : EReal)) (hc : ∀ r e, c (ix2 r e) = (C r e : EReal)) (hs : ∀ r e, s (ix2 r e) = (S r e : EReal))
  (hp : ∀ i e, p (ix2 i e) = (cell 64 i e : EReal))

/-- A head's value. -/
def hval (r : Fin 512) (n : ℕ) (e : Fin 128) : ℝ := (X r (n + e.val) * C r e + turn 64 (fun i => X r (n + i.val) * S r i) e) * kq

include hv hc hs hp

theorem hq_at (n : ℕ) (h : S512x1024.Slices ![0, n] S512x128) (r : Fin 512) (e : Fin 128) : hq n h v c s p (ix2 r e) = (hval X C S r n e : EReal) := by
  refine (turned_at _ kq kq_coe _ c s p (fun r e => X r (n + e.val)) C S (cell 64) (fun r e => ?_) hc hs hp r e).trans ?_
  · pointwise
    rw [hv]
  · rw [sum_cell 64 (fun i => X r (n + i.val) * S r i) e]; rfl

theorem heads_at (r : Fin 512) (k : Fin 1024) : heads v c s p (ix2 r k) = (hval X C S r (128 * (k.val / 128)) ⟨k.val % 128, by omega⟩ : EReal) := by
  pointwise [heads]
  simp only [hq_at v c s p X C S hv hc hs hp]
  exact eight (fun n e => (hval X C S r n e : EReal)) k

end heads

/-! The same head as the reference has it, and the sum over the filled heads. -/

theorem cr_at (R : Fin 4096) (h : Fin 8) (i : Fin 128) : cr ct R (128 * h.val + i.val) = padr (fun e => ct (ix4 (sq R) (tk R) h e)) i :=
  filled_at (fun b s h e => ct (ix4 b s h e)) R h i

theorem head_real (R : Fin 4096) (h : Fin 8) (e : Fin 128) :
    (cr ct R (128 * h.val + e.val) * tab 1 (fun j => Real.cos (θr (tk R) j)) e
      + turn 64 (fun i => cr ct R (128 * h.val + i.val) * tab 0 (fun j => Real.sin (θr (tk R) j)) i) e) * kq = padr (dq ct (sq R) (tk R) h) e := by
  simp only [cr_at]
  by_cases h1 : e.val < 64
  · rw [turn_out 64 _ e (by omega), tab_out _ _ e (Or.inl h1)]
    unfold padr dq headBack
    rw [dif_pos (by omega), dif_pos (by omega), dif_pos (by exact h1)]; ring
  by_cases h2 : e.val < 96
  · rw [turn_block 64 (by omega) (θr (tk R)) (padr fun e => ct (ix4 (sq R) (tk R) h e)) (tab 1 _) (tab 0 _) (fun i a b => tab_in 1 _ i a b) (fun i a b => tab_in 0 _ i a b)
      e (by omega) (by omega), back_scale]
    unfold dq headBack
    rw [padr, dif_pos h2, dif_neg (by exact h1)]
    refine congrArg (fun y => back (θr (tk R)) y _) (funext fun j => ?_)
    rw [padr, dif_pos (by show 64 + j.val < 96; omega)]
  · rw [turn_out 64 _ e (by omega), padr, padr, dif_neg h2, dif_neg h2]; ring

theorem sum_heads (R : Fin 4096) (d : Fin 256) :
    ∑ k : Fin 1024, padr (dq ct (sq R) (tk R) ⟨k.val / 128, by omega⟩) (⟨k.val % 128, by omega⟩ : Fin 128) * wr w d k = da w ct R d := by
  unfold da
  refine (Fin.sum_mul_add_fin 8 128 fun k : Fin 1024 => padr (dq ct (sq R) (tk R) ⟨k.val / 128, by omega⟩) (⟨k.val % 128, by omega⟩ : Fin 128) * wr w d k).symm.trans
    (Eq.trans (Finset.sum_congr rfl fun i _ => ?_)
      (Fin.sum_mul_add_fin 8 96 fun f : Fin 768 => dq ct (sq R) (tk R) ⟨f.val / 96, by omega⟩ ⟨f.val % 96, by omega⟩ * w (ix2 d f)))
  have e1 : ∀ j : Fin 128, (i.val * 128 + j.val) / 128 = i.val := fun j => by omega
  have e2 : ∀ j : Fin 128, (i.val * 128 + j.val) % 128 = j.val := fun j => by omega
  have e3 : ∀ j : Fin 96, (i.val * 96 + j.val) / 96 = i.val := fun j => by omega
  have e4 : ∀ j : Fin 96, (i.val * 96 + j.val) % 96 = j.val := fun j => by omega
  simp only [wr, e1, e2, e3, e4]
  exact sum_padr_mul (by norm_num) (dq ct (sq R) (tk R) i) (fun e => w (ix2 d ⟨i.val * 96 + e.val, by omega⟩))

/-! The blocks at a grid point. -/

theorem idx : ∀ t : Fin cfg0.N, win0_0.index t = ![t.val, 0] ∧ win0_1.index t = ![t.val, 4] ∧ win0_2.index t = ![t.val % 4, 0] ∧ win0_3.index t = ![t.val % 4, 0]
    ∧ win0_4.index t = ![0, 0] ∧ win0_5.index t = ![0, 0] ∧ win0_6.index t = ![0, 0] ∧ win0_7.index t = ![t.val, 0] ∧ win0_8.index t = ![t.val, 0]
    ∧ win0_9.index t = ![0, 0] :=
  (by decide +kernel : ∀ t : Fin grid0.N, _)

theorem lt8 (t : Fin cfg0.N) : t.val < 8 := lt_of_lt_of_eq t.isLt N_0

/-- The row of the arrays that a row of a block is. -/
def row (t : Fin cfg0.N) (r : Fin 512) : Fin 4096 := ⟨t.val * 512 + r.val, by have := lt8 t; omega⟩

theorem tk_row (t : Fin cfg0.N) (r : Fin 512) : (⟨t.val % 4 * 512 + r.val, by omega⟩ : Fin 2048) = tk (row t r) := Fin.ext (by
  show t.val % 4 * 512 + r.val = (t.val * 512 + r.val) % 2048
  have := lt8 t; omega)

/-- What the arguments are, as real numbers. -/
structure Args (m : (ℓ : Loc nD τ sig) → Buf (Elt Ideal) ℓ) (c : Dev nD) : Prop where
  hx : ax m c = up x
  hg : ag m c = up g
  hw : aw m c = up w
  hct : act m c = up ct

section blocks

variable (m : (ℓ : Loc nD τ sig) → Buf (Elt Ideal) ℓ) (c : Dev nD) (H : Args x g w ct m c) (t : Fin cfg0.N)

/-- The blocks as the body reads them. -/
def PV : FVec Ideal S512x1024 .f32 := k0_pay4 (iblk m c 0 t)
def PZ : FVec Ideal S512x256 .bf16 := k0_pay5 (iblk m c 1 t)
def PC : FVec Ideal S512x128 .f32 := k0_pay6 (iblk m c 2 t)
def PS : FVec Ideal S512x128 .f32 := k0_pay7 (iblk m c 3 t)
def PG : FVec Ideal S1x256 .f32 := iblk m c 4 t
def PW : FVec Ideal S256x1024 .bf16 := k0_pay8 (iblk m c 5 t)
def PP : FVec Ideal S128x128 .bf16 := iblk m c 6 t

theorem PC_at (r : Fin 512) (e : Fin 128) : PC m c t (ix2 r e) = (tab 1 (fun j => Real.cos (θr (tk (row t r)) j)) e : EReal) := by
  have e0 : ((View.whole main_v59).slice (win0_2.rect t)).emb (ix2 r e) = (ix2 ⟨t.val % 4 * 512 + r.val, by omega⟩ e : S2048x128.Idx) := by blk_ext [idx t]
  pointwise [PC, k0_pay6]
  blk_simp [iblk]
  rw [V_cos, e0, tk_row, cosH_at]

theorem PS_at (r : Fin 512) (e : Fin 128) : PS m c t (ix2 r e) = (tab 0 (fun j => Real.sin (θr (tk (row t r)) j)) e : EReal) := by
  have e0 : ((View.whole main_v60).slice (win0_3.rect t)).emb (ix2 r e) = (ix2 ⟨t.val % 4 * 512 + r.val, by omega⟩ e : S2048x128.Idx) := by blk_ext [idx t]
  pointwise [PS, k0_pay7]
  blk_simp [iblk]
  rw [V_sin, e0, tk_row, sinH_at]

theorem PP_at (i e : Fin 128) : PP m c t (ix2 i e) = (cell 64 i e : EReal) := by
  have e0 : ((View.whole main_cst).slice (win0_6.rect t)).emb (ix2 i e) = (ix2 i e : S128x128.Idx) := by blk_ext [idx t]
  unfold PP
  blk_simp [iblk]
  rw [V_sign, e0]
  exact signH_at i e

include H

theorem PV_at (r : Fin 512) (k : Fin 1024) : PV m c t (ix2 r k) = (cr ct (row t r) k.val : EReal) := by
  have e0 : ((View.whole main_v96).slice (win0_0.rect t)).emb (ix2 r k) = (ix2 (row t r) k : S4096x1024.Idx) := by blk_ext [idx t, row]
  pointwise [PV, k0_pay4]
  blk_simp [iblk]
  rw [V_d, H.hct, e0, dH_at]

theorem PZ_at (r : Fin 512) (k : Fin 256) : PZ m c t (ix2 r k) = (xr x (row t r) k : EReal) := by
  have e0 : ((View.whole main_v94).slice (win0_1.rect t)).emb (ix2 r k) = (ix2 (row t r) ⟨1024 + k.val, by omega⟩ : S4096x4096.Idx) := by blk_ext [idx t, row]
  have h : PZ m c t (ix2 r k) = V m c main_v94 (((View.whole main_v94).slice (win0_1.rect t)).emb (ix2 r k)) := by
    pointwise [PZ, k0_pay5]
    blk_simp [iblk]
  rw [h, V_z, H.hx, e0]
  exact zH_at x (row t r) k

theorem PG_at (k : Fin 256) : PG m c t (ix2 0 k) = (gn g k : EReal) := by
  have e0 : ((View.whole main_arg1).slice (win0_4.rect t)).emb (ix2 0 k) = (ix2 0 k : S1x256.Idx) := by blk_ext [idx t]
  unfold PG
  blk_simp [iblk]
  rw [V_g, H.hg, e0]; rfl

theorem PW_at (d : Fin 256) (k : Fin 1024) : PW m c t (ix2 d k) = (wr w d k : EReal) := by
  have e0 : ((View.whole main_v90).slice (win0_5.rect t)).emb (ix2 d k) = (ix2 d k : S256x1024.Idx) := by blk_ext [idx t]
  have h : PW m c t (ix2 d k) = V m c main_v90 (((View.whole main_v90).slice (win0_5.rect t)).emb (ix2 d k)) := by
    pointwise [PW, k0_pay8]
    blk_simp [iblk]
  rw [h, V_w, H.hw, e0]
  exact wH_at w d k

omit H

/-- The results at a point, as the body composes them. -/
def QP : FVec Ideal S512x1024 .bf16 := heads (PV m c t) (PC m c t) (PS m c t) (PP m c t)
def DA : FVec Ideal S512x256 .f32 := matmul dot_S512x1024_S256x1024_S512x256_1_1_0_0_n_n none (QP m c t) (PW m c t) (constant S512x256 .f32 0x00000000#32)
def DN : FVec Ideal S512x256 .f32 := mulf (DA m c t) (broadcastTo S512x256 (PG m c t) broadcasts_S1x256_S512x256)
def RS : FVec Ideal S512x1 .f32 := shapeCast S512x1
  (multiReduction .add [1] S512 (mulf (DN m c t) (k0_pay21 (PZ m c t))) 0x00000000#32 reduces_S512x256_S512 (.inl rfl) rfl) shapeCasts_S512_S512x1
def XP : FVec Ideal S512x256 .bf16 := k0_pay2 (k0_pay20 (PZ m c t)) (k0_pay21 (PZ m c t)) (DN m c t) (RS m c t)
def GP : FVec Ideal S1x256 .f32 := k0_pay1 (DA m c t) (k0_pay21 (PZ m c t))

include H

theorem QP_at (r : Fin 512) (k : Fin 1024) : QP m c t (ix2 r k) = (padr (dq ct (sq (row t r)) (tk (row t r)) ⟨k.val / 128, by omega⟩) (⟨k.val % 128, by omega⟩ : Fin 128) : EReal) := by
  refine (heads_at _ _ _ _ (fun r n => cr ct (row t r) n) (fun r => tab 1 (fun j => Real.cos (θr (tk (row t r)) j))) (fun r => tab 0 (fun j => Real.sin (θr (tk (row t r)) j)))
    (PV_at x g w ct m c H t) (PC_at m c t) (PS_at m c t) (PP_at m c t) r k).trans ?_
  exact congrArg _ (head_real ct (row t r) ⟨k.val / 128, by omega⟩ ⟨k.val % 128, by omega⟩)

theorem DA_at (r : Fin 512) (d : Fin 256) : DA m c t (ix2 r d) = (da w ct (row t r) d : EReal) := by
  pointwise [DA]
  simp only [QP_at x g w ct m c H t, PW_at x g w ct m c H t, ← EReal.coe_mul, coe_sum]
  exact congrArg _ (sum_heads w ct (row t r) d)

theorem inv_at (r : Fin 512) (u : Fin 1) : k0_pay20 (PZ m c t) (ix2 r u) = (inv 256 (xr x (row t r)) : EReal) := by
  pointwise [k0_pay20, k0_pay19]
  simp only [PZ_at x g w ct m c H t, ← EReal.coe_mul, coe_sum, r256, eps_coe]
  exact inv_mul (by norm_num) (xr x (row t r))

theorem nrm_at (r : Fin 512) (k : Fin 256) : k0_pay21 (PZ m c t) (ix2 r k) = ((xr x (row t r) k * inv 256 (xr x (row t r)) : ℝ) : EReal) := by
  pointwise [k0_pay21, k0_pay19]
  rw [inv_at x g w ct m c H t, PZ_at x g w ct m c H t, EReal.coe_mul]

theorem DN_at (r : Fin 512) (k : Fin 256) : DN m c t (ix2 r k) = ((da w ct (row t r) k * gn g k : ℝ) : EReal) := by
  pointwise [DN]
  rw [DA_at x g w ct m c H t, PG_at x g w ct m c H t, EReal.coe_mul]

theorem RS_at (r : Fin 512) (u : Fin 1) : RS m c t (ix2 r u) = ((∑ k, da w ct (row t r) k * gn g k * (xr x (row t r) k * inv 256 (xr x (row t r))) : ℝ) : EReal) := by
  pointwise [RS]
  simp only [DN_at x g w ct m c H t, nrm_at x g w ct m c H t, ← EReal.coe_mul, coe_sum]

theorem XP_at (r : Fin 512) (k : Fin 256) : XP m c t (ix2 r k) = (grad 256 (xr x (row t r)) (fun d => da w ct (row t r) d * gn g d) k : EReal) := by
  pointwise [XP, k0_pay2]
  simp only [inv_at x g w ct m c H t, nrm_at x g w ct m c H t, DN_at x g w ct m c H t, RS_at x g w ct m c H t, r256]
  rw [EReal.coe_mul (xr x (row t r) k)]
  exact grad_mul (xr x (row t r)) (fun d => da w ct (row t r) d * gn g d) k

theorem GP_at (k : Fin 256) : GP m c t (ix2 0 k) = ((∑ r, da w ct (row t r) k * (xr x (row t r) k * inv 256 (xr x (row t r))) : ℝ) : EReal) := by
  pointwise [GP, k0_pay1]
  simp only [DA_at x g w ct m c H t, nrm_at x g w ct m c H t, ← EReal.coe_mul, coe_sum]

end blocks

section results

variable (m : (ℓ : Loc nD τ sig) → Buf (Elt Ideal) ℓ) (c : Dev nD)

theorem after7 (t : Fin cfg0.N) : (dats m 0 c).after 7 t = QP m c t := by
  rw [after0_7]
  by_cases h : t.val % 8 = 0
  · rw [outsAt0_A m c t h (by have := lt8 t; omega)]; frame_out; rfl
  · rw [outsAt0_B m c t h (by omega)]; frame_out; rfl

theorem after8 (t : Fin cfg0.N) : (dats m 0 c).after 8 t = XP m c t := by
  rw [after0_8]
  by_cases h : t.val % 8 = 0
  · rw [outsAt0_A m c t h (by have := lt8 t; omega)]; frame_out; rfl
  · rw [outsAt0_B m c t h (by omega)]; frame_out; rfl

/-- Point `s` of the eight, and of the run of eight that `t` lies in. -/
def pt (s : Fin 8) : Fin cfg0.N := ⟨s.val, s.isLt.trans_eq N_0.symm⟩
def run8 (t : Fin cfg0.N) (s : Fin 8) : Fin cfg0.N :=
  ⟨8 * (t.val / 8) + s.val, (by have := lt8 t; omega : 8 * (t.val / 8) + s.val < 8).trans_eq N_0.symm⟩

theorem run8_eq (t : Fin cfg0.N) (s : Fin 8) : run8 t s = pt s := Fin.ext (by have := lt8 t; show 8 * (t.val / 8) + s.val = s.val; omega)

theorem after9 (t : Fin cfg0.N) (h : t.val % 8 = 7) (y : S1x256.Idx) : (dats m 0 c).after 9 t y = ∑ s : Fin 8, GP m c (run8 t s) y := by
  have hout : (dats m 0 c).after 9 t y = (outsAt0 m c t.val t.isLt).2.2 y := by rw [after0_9]
  rw [hout, Pipeline.eq_sum_fin_of_reset_step_apply_of_flush (fun n h => (outsAt0 m c n h).2.2) 8 (fun _ => 0) (fun t y => GP m c t y)
    (fun t h i => by rw [outsAt0_A m c t h (by have := lt8 t; omega)]; frame_out; rw [zero_add]; rfl)
    (fun t h i => by rw [outsAt0_B m c t h (by omega)]; frame_out; pointwise [k0_pay3]; rfl) t h y, zero_add]
  rfl

end results

/-- A sum over the points of sums over a point's rows is the sum over all rows. -/
theorem sum_points (f : Fin 4096 → ℝ) (q : Fin cfg0.N → EReal) (hq : ∀ t, q t = ((∑ r, f (row t r) : ℝ) : EReal)) (t : Fin cfg0.N) :
    ∑ s : Fin 8, q (run8 t s) = ((∑ r, f r : ℝ) : EReal) := by
  have e : ∀ s : Fin 8, q (run8 t s) = ((∑ r, f (row (pt s) r) : ℝ) : EReal) := fun s => by rw [run8_eq]; exact hq (pt s)
  rw [Finset.sum_congr rfl fun s _ => e s, coe_sum]
  exact congrArg _ (Fin.sum_mul_add_fin 8 512 f)

section finals

variable (m : (ℓ : Loc nD τ sig) → Buf (Elt Ideal) ℓ) (c : Dev nD) (H : Args x g w ct m c)

include H

theorem out7 (t : Fin cfg0.N) (y : S512x1024.Idx) : (dats m 0 c).after 7 t y = GQ ct ((win0_7.blk t).view.emb y) := by
  have e0 : (win0_7.blk t).view.emb (ix2 (y 0) (y 1)) = (ix2 (row t (y 0)) (y 1) : S4096x1024.Idx) := by blk_ext [idx t, row]
  rw [eq_ix2 y, e0, after7]
  exact QP_at x g w ct m c H t (y 0) (y 1)

theorem final7 : (dats m 0 c).arrAt 7 (cfgs 0).N = GQ ct := by
  refine (dats m 0 c).arrAt_eq_of_covers 7 _ (by decide +kernel) fun t _ y => ?_
  exact out7 x g w ct m c H t y

theorem out8 (t : Fin cfg0.N) (y : S512x256.Idx) : (dats m 0 c).after 8 t y = GX x g w ct ((win0_8.blk t).view.emb y) := by
  have e0 : (win0_8.blk t).view.emb (ix2 (y 0) (y 1)) = (ix2 (row t (y 0)) (y 1) : S4096x256.Idx) := by blk_ext [idx t, row]
  rw [eq_ix2 y, e0, after8]
  exact XP_at x g w ct m c H t (y 0) (y 1)

theorem final8 : (dats m 0 c).arrAt 8 (cfgs 0).N = GX x g w ct := by
  refine (dats m 0 c).arrAt_eq_of_covers 8 _ (by decide +kernel) fun t _ y => ?_
  exact out8 x g w ct m c H t y

theorem out9 (t : Fin cfg0.N) (h : t.val % 8 = 7) (u : Fin 1) (k : Fin 256) :
    (dats m 0 c).after 9 t (ix2 u k) = GG x w ct ((win0_9.blk t).view.emb (ix2 u k)) := by
  obtain rfl : u = 0 := Subsingleton.elim _ _
  have e0 : (win0_9.blk t).view.emb (ix2 0 k) = (ix2 0 k : S1x256.Idx) := by blk_ext [idx t]
  rw [e0, after9 m c t h]
  exact sum_points (fun r => da w ct r k * (xr x r k * inv 256 (xr x r))) (fun t => GP m c t (ix2 0 k)) (fun t => GP_at x g w ct m c H t k) t

theorem final9 : (dats m 0 c).arrAt 9 (cfgs 0).N = GG x w ct := by
  refine (dats m 0 c).arrAt_eq_of_covers 9 _ (by decide +kernel) fun t hf y => ?_
  have key : ∀ y : S1x256.Idx, (dats m 0 c).after 9 t y = GG x w ct ((win0_9.blk t).view.emb y) := fun y => by
    rw [eq_ix2 y]; exact out9 x g w ct m c H t ((flush0_9 t).mp hf) (y 0) (y 1)
  exact key y

end finals

end Cert.QPath

end
-- ==== Proof.QPath.lean ====
/-
  The gradient through the query path: the turned queries, the latent rows and the gains.
-/
module

public import proofs.«01_k».proof.Defs
public import proofs.«01_k».proof.Proof.Gen.QPathKernelIdeal.Value
public import proofs.«01_k».proof.Proof.Gen.QPathRefIdeal.Run
public import proofs.«01_k».proof.Proof.QPathKern
public import proofs.«01_k».proof.Proof.QPathRef

@[expose] public section

set_option maxRecDepth 16384

noncomputable section

namespace Cert.QPath

open Idealize.ShloMosaic Idealize.ShloMosaic.TcCoe Idealize.SL.Sem
open Cert.Reals

instance pre_facts : Cert.Pre_finite_q_path.Facts := ⟨by decide, by decide, by decide, by decide⟩

theorem frame_ref : Cert.quiescent_QPathRefIdeal := fun m ρ _ =>
  (θ_run Cert.QPathRefIdeal.defs _ _).mono (fun r h => ⟨fun c => (h c).2.2.2, sem_eq_zero_of_no_sems (by decide) r.2⟩)
    (Cert.QPathRefIdeal.Value.run (F := Ideal) m ρ)

open Cert.QPathKernelIdeal in
/-- What the precondition says of one device's arguments. -/
theorem reals (m : (ℓ : Loc nD τ sig) → Buf (Elt Ideal) ℓ) (h : Cert.Pre_QPathKernelIdeal_finite_q_path m) (c : Dev nD) :
    ∃ (x : S4096x256.Idx → ℝ) (g : S1x256.Idx → ℝ) (w : S256x768.Idx → ℝ) (ct : S2x2048x8x96.Idx → ℝ), Args x g w ct m c := by
  obtain ⟨h0, h1, h2, h3⟩ := h c
  obtain ⟨x, q0⟩ := finite_up _ _ _ h0
  obtain ⟨g, q1⟩ := finite_up _ _ _ h1
  obtain ⟨w, q2⟩ := finite_up _ _ _ h2
  obtain ⟨ct, q3⟩ := finite_up _ _ _ h3
  exact ⟨x, g, w, ct, ⟨q0, q1, q2, q3⟩⟩

open Cert.QPathKernelIdeal in
theorem algebraic : Cert.algebraic_QPathKernelIdeal_QPathRefIdeal_pre_finite_q_path := by
  intro m ρ m' ρ' hp hag
  choose x g w ct h using reals m hp
  refine ⟨fun c => GQ (ct c),
    fun c => GX (x c) (g c) (w c) (ct c),
    fun c => GG (x c) (w c) (ct c),
    (θ_run _ _ _).mono (fun r hr c => ?_) (Cert.QPathKernelIdeal.Value.run_blocks m ρ),
    (θ_run _ _ _).mono (fun r hr c => ?_) (Cert.QPathRefIdeal.Value.run m' ρ')⟩
  · exact ⟨(hr c).1.trans (final7 _ _ _ _ m c (h c)),
      (hr c).2.1.trans (final8 _ _ _ _ m c (h c)),
      (hr c).2.2.1.trans (final9 _ _ _ _ m c (h c)), (hr c).2.2.2⟩
  · obtain ⟨e0, e1, e2, e3⟩ := hag c
    have E : ∀ {α : Type} (F : FVec Ideal S4096x256 .f32 → FVec Ideal S1x256 .f32 → FVec Ideal S256x768 .f32 → FVec Ideal S2x2048x8x96 .f32 → α),
        F (m' ((c : Thread Cert.QPathRefIdeal.nD Cert.QPathRefIdeal.τ).loc Cert.QPathRefIdeal.main_arg0))
          (m' ((c : Thread Cert.QPathRefIdeal.nD Cert.QPathRefIdeal.τ).loc Cert.QPathRefIdeal.main_arg1))
          (m' ((c : Thread Cert.QPathRefIdeal.nD Cert.QPathRefIdeal.τ).loc Cert.QPathRefIdeal.main_arg2))
          (m' ((c : Thread Cert.QPathRefIdeal.nD Cert.QPathRefIdeal.τ).loc Cert.QPathRefIdeal.main_arg3))
        = F (up (x c)) (up (g c)) (up (w c)) (up (ct c)) := fun F => by
      rw [e0, e1, e2, e3]
      exact congr (congr (congr (congrArg F (h c).hx) (h c).hg) (h c).hw) (h c).hct
    refine ⟨(hr c).1.trans ?_,
      (hr c).2.1.trans ?_,
      (hr c).2.2.1.trans ?_, (hr c).2.2.2⟩
    · rw [Cert.QPathRefIdeal.Read.val_main_v98_eq]
      exact (E (fun _ _ _ ct => Cert.QPathRefIdeal.Read.val_main_v98 (F := Ideal) ct)).trans (ref_q (ct c))
    · rw [Cert.QPathRefIdeal.Read.val_main_v99_eq]
      exact (E (fun x g w ct => Cert.QPathRefIdeal.Read.val_main_v99 (F := Ideal) x g w ct)).trans (ref_x (x c) (g c) (w c) (ct c))
    · rw [Cert.QPathRefIdeal.Read.val_main_v79_eq]
      exact (E (fun x _ w ct => Cert.QPathRefIdeal.Read.val_main_v79 (F := Ideal) x w ct)).trans (ref_g (x c) (w c) (ct c))

end Cert.QPath

end
-- ==== Proof.Back.lean ====
/-
  The gradient of a turn, read case by case.
-/
module

public import proofs.«01_k».proof.Proof.Rope

@[expose] public section

noncomputable section

namespace Cert.Rope

/-- The turn's gradient, read case by case. -/
theorem back_if (θ : Fin 16 → ℝ) (x : Fin 32 → ℝ) (e : Fin 32) :
    (if h : e.val < 16 then ((x ⟨16 + e.val, by omega⟩ * Real.sin (θ ⟨e.val, h⟩) + x ⟨e.val, by omega⟩ * Real.cos (θ ⟨e.val, h⟩) : ℝ) : EReal)
      else ((x ⟨16 + (e.val - 16), by omega⟩ * Real.cos (θ ⟨e.val - 16, by omega⟩) + -x ⟨e.val - 16, by omega⟩ * Real.sin (θ ⟨e.val - 16, by omega⟩) : ℝ) : EReal))
      = (back θ x e : EReal) := by
  unfold back
  by_cases h : e.val < 16
  · rw [dif_pos h, dif_pos h]
    have e1 : (⟨16 + e.val, by omega⟩ : Fin 32) = ⟨e.val + 16, by omega⟩ := Fin.ext (by show 16 + e.val = e.val + 16; omega)
    rw [e1]
  · rw [dif_neg h, dif_neg h]
    have e1 : (⟨16 + (e.val - 16), by omega⟩ : Fin 32) = e := Fin.ext (by show 16 + (e.val - 16) = e.val; omega)
    rw [e1]

end Cert.Rope

end
-- ==== Proof.KvPathRef.lean ====
/-
  The reference of the gradient through the key and value path: the real numbers its results are.
-/
module

public import proofs.«01_k».proof.Proof.Gen.KvPathRefIdeal.Read
public import Idealize.ShloMosaic.Lib.Pipeline.ValueKit
public import Idealize.ShloMosaic.Lib.Pipeline.ReadBack
public import proofs.«01_k».proof.Proof.Back

@[expose] public section

set_option maxRecDepth 16384

noncomputable section

namespace Cert.KvPath

open Idealize.ShloMosaic Idealize.ShloMosaic.TcCoe Idealize.SL.Sem
open Cert.Reals Cert.Rms Cert.Rope
open Cert.KvPathRefIdeal Cert.KvPathRefIdeal.Gen Cert.KvPathRefIdeal.Read

variable (x : S4096x128.Idx → ℝ) (g : S1x128.Idx → ℝ) (w : S128x1024.Idx → ℝ) (ck : S2x2048x8x96.Idx → ℝ) (cv : S2x2048x8x64.Idx → ℝ)

/-- A row, the gains; a head's keys and values side by side; the keys' last columns summed over the heads. -/
def xr (r : Fin 4096) (k : Fin 128) : ℝ := x (ix2 r k)
def gn (k : Fin 128) : ℝ := g (ix2 0 k)
def kv (b : Fin 2) (s : Fin 2048) (h : Fin 8) (e : Fin 128) : ℝ :=
  if h1 : e.val < 64 then ck (ix4 b s h ⟨e.val, by omega⟩) else cv (ix4 b s h ⟨e.val - 64, by omega⟩)
def pe (b : Fin 2) (s : Fin 2048) (j : Fin 32) : ℝ := ∑ h : Fin 8, ck (ix4 b s h ⟨64 + j.val, by omega⟩)

/-- The gradient of the normed row. -/
def da (r : Fin 4096) (d : Fin 128) : ℝ :=
  ∑ f : Fin 1024, kv ck cv (sq r) (tk r) ⟨f.val / 128, by omega⟩ ⟨f.val % 128, by omega⟩ * w (ix2 d f)

/-- The three results: the latent rows' gradient, the shared key columns' turned back and filled up, and the gain's. -/
def GX : FVec Ideal S4096x128 .bf16 := fun y => (grad 128 (xr x (y 0)) (fun d => da w ck cv (y 0) d * gn g d) (y 1) : EReal)
def GP : FVec Ideal S4096x128 .bf16 := fun y => (padr (back (θr (tk (y 0))) (pe ck (sq (y 0)) (tk (y 0)))) (y 1 : Fin 128) : EReal)
def GG : FVec Ideal S1x128 .f32 := fun y => ((∑ r, da w ck cv r (y 1) * (xr x r (y 1) * inv 128 (xr x r)) : ℝ) : EReal)

theorem v16_at (s : Fin 2048) (j : Fin 16) : val_main_v16 (F := Ideal) (ix2 s j) = (θr s j : EReal) := by
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  exact angle_coe _ _

theorem v59_at (b : Fin 2) (s : Fin 2048) (u : Fin 1) (j : Fin 32) : val_main_v59 (F := Ideal) (up ck) (ix4 b s u j) = (pe ck b s j : EReal) := by
  pointwise [val_main_v59, val_main_v58, val_main_v57, val_main_cst_7]
  simp only [up, coe_sum]
  rfl

theorem v95_at (b : Fin 2) (s : Fin 2048) (u : Fin 1) (j : Fin 32) : val_main_v95 (F := Ideal) (up ck) (ix4 b s u j) = (back (θr s) (pe ck b s) j : EReal) := by
  pointwise [val_main_v95, val_main_v94, val_main_v93, val_main_v92, val_main_v91, val_main_v90, val_main_v89, val_main_v88, val_main_v87, val_main_v86, val_main_v85,
    val_main_v84, val_main_v83, val_main_v82, val_main_v21, val_main_v20, val_main_v19, val_main_v18]
  simp only [v59_at, v16_at, Ideal.cos_coe, Ideal.sin_coe, ← EReal.coe_mul, ← EReal.coe_neg, ← EReal.coe_add]
  exact back_if (θr s) (pe ck b s) j

theorem v41_at (r : Fin 4096) (u : Fin 1) : val_main_v41 (F := Ideal) (up x) (ix2 r u) = (var 128 (xr x r) : EReal) := by
  pointwise [val_main_v41, val_main_v40, val_main_v39, val_main_v38, val_main_v37, val_main_v36, val_main_v35, val_main_cst_3, val_main_cst_4, val_main_cst_5]
  simp only [up, ← EReal.coe_mul, coe_sum, c128, eps_coe]
  exact var_div (by norm_num) (xr x r)

theorem v42_at (r : Fin 4096) (u : Fin 1) : val_main_v42 (F := Ideal) (up x) (ix2 r u) = (inv 128 (xr x r) : EReal) := by
  pointwise [val_main_v42]
  rw [v41_at, Rms.inv_div (by norm_num)]

theorem v60_at (b : Fin 2) (s : Fin 2048) (h : Fin 8) (e : Fin 128) : val_main_v60 (F := Ideal) (up ck) (up cv) (ix4 b s h e) = (kv ck cv b s h e : EReal) := by
  pointwise [val_main_v60, val_main_v56]
  unfold kv
  by_cases h1 : e.val < 64
  · rw [dif_pos h1, dif_pos h1]; rfl
  · rw [dif_neg h1, dif_neg h1]; rfl

theorem v62_at (r : Fin 4096) (d : Fin 128) : val_main_v62 (F := Ideal) (up w) (up ck) (up cv) (ix2 r d) = (da w ck cv r d : EReal) := by
  pointwise [val_main_v62, val_main_v61]
  simp only [v60_at, up, ← EReal.coe_mul, coe_sum]
  rfl

theorem v67_at (r : Fin 4096) (d : Fin 128) : val_main_v67 (F := Ideal) (up g) (up w) (up ck) (up cv) (ix2 r d) = ((da w ck cv r d * gn g d : ℝ) : EReal) := by
  pointwise [val_main_v67, val_main_v66]
  rw [v62_at, EReal.coe_mul]; rfl

theorem v65_at (u : Fin 1) (k : Fin 128) : val_main_v65 (F := Ideal) (up x) (up w) (up ck) (up cv) (ix2 u k)
    = ((∑ r, da w ck cv r k * (xr x r k * inv 128 (xr x r)) : ℝ) : EReal) := by
  pointwise [val_main_v65, val_main_v64, val_main_v63, val_main_v47, val_main_v46, val_main_cst_8]
  simp only [v42_at, v62_at, up, ← EReal.coe_mul, coe_sum]
  exact congrArg _ (Finset.sum_congr rfl fun r _ => mul_comm _ _)

theorem v75_at (r : Fin 4096) (u : Fin 1) : val_main_v75 (F := Ideal) (up x) (up g) (up w) (up ck) (up cv) (ix2 r u)
    = (slope 128 (xr x r) (fun d => da w ck cv r d * gn g d) : EReal) := by
  pointwise [val_main_v75, val_main_v74, val_main_v73, val_main_v70, val_main_v69, val_main_v68, val_main_v45, val_main_v44, val_main_v43, val_main_cst_6, val_main_cst_9,
    val_main_cst_10]
  simp only [v67_at, v42_at, v41_at, up, ← EReal.coe_mul, coe_sum, c128, mhalf]
  exact slope_div (by norm_num) (xr x r) (fun d => da w ck cv r d * gn g d)

theorem v97_at (r : Fin 4096) (d : Fin 128) : val_main_v97 (F := Ideal) (up x) (up g) (up w) (up ck) (up cv) (ix2 r d)
    = (grad 128 (xr x r) (fun d => da w ck cv r d * gn g d) d : EReal) := by
  pointwise [val_main_v97, val_main_v81, val_main_v80, val_main_v79, val_main_v78, val_main_v77, val_main_v76, val_main_v72, val_main_v71, val_main_cst_11]
  simp only [v75_at, v67_at, v42_at, Fin.sum_univ_one]
  have h := add_grad (N := 128) (by norm_num) (xr x r) (fun d => da w ck cv r d * gn g d) d 0
  rw [zero_add, zero_add] at h
  exact h

theorem v99_at (r : Fin 4096) (k : Fin 128) : val_main_v99 (F := Ideal) (up ck) (ix2 r k) = (padr (back (θr (tk r)) (pe ck (sq r) (tk r))) k : EReal) := by
  pointwise [val_main_v99, val_main_v98, val_main_v96]
  unfold padr
  by_cases h : k.val < 32
  · rw [dif_pos h, dif_pos h]
    exact v95_at ck (sq r) (tk r) 0 ⟨k.val, h⟩
  · rw [dif_neg h, dif_neg h]
    exact sitofp_zero

theorem ref_x : val_main_v97 (F := Ideal) (up x) (up g) (up w) (up ck) (up cv) = GX x g w ck cv := by
  funext y
  rw [eq_ix2 y]
  exact v97_at x g w ck cv (y 0) (y 1)

theorem ref_p : val_main_v99 (F := Ideal) (up ck) = GP ck := by
  funext y
  rw [eq_ix2 y]
  exact v99_at ck (y 0) (y 1)

theorem ref_g : val_main_v65 (F := Ideal) (up x) (up w) (up ck) (up cv) = GG x w ck cv := by
  funext y
  rw [eq_ix2 y]
  exact v65_at x w ck cv (y 0) (y 1)

end Cert.KvPath

end
-- ==== Proof.KvPathSign.lean ====
/-
  The matrix of signs as the key and value path's gradient reads it: the words of its literal, and the numbers they are.
-/
module

public import proofs.«01_k».proof.Proof.Gen.KvPathKernelIdeal.Launch
public import proofs.«01_k».proof.Proof.Rope

@[expose] public section

set_option maxRecDepth 16384

noncomputable section

namespace Cert.KvPath

open Idealize.ShloMosaic Cert.Rope
open Cert.KvPathKernelIdeal

/-- The words of 32 rows, the `q`-th such part of the table. -/
abbrev Rows (q : ℕ) : Prop := ∀ (i : Fin 32) (e : Fin 128), lit0t ((q * 32 + i.val) * 128 + e.val) = signBits 0 0x0000#16 (q * 32 + i.val) e.val

theorem rows0 : Rows 0 := by decide +kernel
theorem rows1 : Rows 1 := by decide +kernel
theorem rows2 : Rows 2 := by decide +kernel
theorem rows3 : Rows 3 := by decide +kernel

theorem lit_row (i e : Fin 128) : lit0t (i.val * 128 + e.val) = signBits 0 0x0000#16 i.val e.val := by
  have h : ∀ q : Fin 4, Rows q.val := fun q => match q with
    | 0 => rows0
    | 1 => rows1
    | 2 => rows2
    | 3 => rows3
  have h1 := h ⟨i.val / 32, by omega⟩ ⟨i.val % 32, by omega⟩ e
  dsimp only at h1
  rwa [show i.val / 32 * 32 + i.val % 32 = i.val by omega] at h1

/-- The matrix, element by element. -/
def signH : FVec Ideal S128x128 .bf16 := fun i => FloatOps.ofBits .bf16 (lit0 (S128x128.rowMajor i))

theorem signH_at (i e : Fin 128) : signH (ix2 i e) = ((cell 0 i e : ℝ) : EReal) := by
  have h : signH (ix2 i e) = Ideal.ofBits .bf16 (lit0t (i.val * 128 + e.val)) := congrArg (fun n => Ideal.ofBits .bf16 (lit0t n)) (row_major i e)
  rw [h, lit_row]
  refine (signBits_coe 0 (by norm_num) _ 0 b_zero i e (Or.inr rfl)).trans ?_
  rw [add_zero]

end Cert.KvPath

end
-- ==== Proof.KvPathKern.lean ====
/-
  The kernel's gradient through the key and value path: 512 rows a grid point, one product for both paths with the shared key
  columns beside the latent ones, and the gains' gradient summed over the points.
-/
module

public import proofs.«01_k».proof.Proof.Gen.KvPathKernelIdeal.Value
public import Idealize.ShloMosaic.Lib.Pipeline.ValueKit
public import Idealize.ShloMosaic.Lib.Pipeline.ReadBack
public import Idealize.ShloMosaic.Lib.WordCmp
public import proofs.«01_k».proof.Proof.KvPathRef
public import proofs.«01_k».proof.Proof.KvPathSign

@[expose] public section

set_option maxRecDepth 16384

noncomputable section

namespace Cert.KvPath

open Idealize.ShloMosaic Idealize.ShloMosaic.TcCoe Idealize.SL.Sem
open Cert.Reals Cert.Rms Cert.Rope WordCmp
open Cert.KvPathKernelIdeal Cert.KvPathKernelIdeal.Gen

variable (x : S4096x128.Idx → ℝ) (g : S1x128.Idx → ℝ) (w : S128x1024.Idx → ℝ) (ck : S2x2048x8x96.Idx → ℝ) (cv : S2x2048x8x64.Idx → ℝ)

/-! What the host prepares. -/

def zeroB : FVec Ideal S_ .bf16 := sitofp .bf16 (constantI S_ 32 0#32)
def zeroF : FVec Ideal S_ .f32 := sitofp .f32 (constantI S_ 32 0#32)

/-- The tables of cosines and of sines. -/
def angleH : FVec Ideal S2048x16 .f32 := Cert.KvPathRefIdeal.Read.val_main_v16 (F := Ideal)
def cosH : FVec Ideal S2048x128 .f32 :=
  concatenate S2048x128 1 [⟨S2048x16, Host.cos angleH⟩, ⟨S2048x16, Host.cos angleH⟩,
    ⟨S2048x96, broadcastInDim S2048x96 ![] bcast_S_S2048x96 (constant S_ .f32 0x3F800000#32 : FVec Ideal S_ .f32)⟩]
    concatenates_S2048x16_S2048x16_S2048x96_S2048x128_d1
def sinH : FVec Ideal S2048x128 .f32 :=
  concatenate S2048x128 1 [⟨S2048x16, Host.sin angleH⟩, ⟨S2048x16, Host.sin angleH⟩,
    ⟨S2048x96, broadcastInDim S2048x96 ![] bcast_S_S2048x96 (constant S_ .f32 0x00000000#32 : FVec Ideal S_ .f32)⟩]
    concatenates_S2048x16_S2048x16_S2048x96_S2048x128_d1

/-- The two halves of the weights, every head filled up to 128 columns, and the ones that pick the shared key columns. -/
def w3 (W : FVec Ideal S128x1024 .f32) : FVec Ideal S128x8x128 .bf16 := shapeCast S128x8x128 (truncf .bf16 W bitsLt_bf16_f32) shapeCasts_S128x1024_S128x8x128
def wK (W : FVec Ideal S128x1024 .f32) : FVec Ideal S128x1024 .bf16 :=
  shapeCast S128x1024 (pad S128x8x128 ![0, 0, 0] ![0, 0, 64] ![0, 0, 0] (extractStridedSlice S128x8x64 ![0, 0, 0] (w3 W) slices_S128x8x128_S128x8x64_0_0_0)
    zeroB pads_S128x8x64_S128x8x128_000_000_0640 h_S_) shapeCasts_S128x8x128_S128x1024
def wV (W : FVec Ideal S128x1024 .f32) : FVec Ideal S128x1024 .bf16 :=
  shapeCast S128x1024 (pad S128x8x128 ![0, 0, 0] ![0, 0, 64] ![0, 0, 0] (extractStridedSlice S128x8x64 ![0, 0, 64] (w3 W) slices_S128x8x128_S128x8x64_0_0_64)
    zeroB pads_S128x8x64_S128x8x128_000_000_0640 h_S_) shapeCasts_S128x8x128_S128x1024
def eyeH : FVec Ideal S32x32 .bf16 :=
  uitofp .bf16 (cmpi .eq (addi (iotaInDim S32x32 32 0) (broadcastInDim S32x32 ![] bcast_S_S32x32 (constantI S_ 32 0#32))) (iotaInDim S32x32 32 1))
def pickH : FVec Ideal S32x1024 .bf16 :=
  shapeCast S32x1024 (broadcastInDim S1x32x8x128 ![0, 1, 2, 3] bcast_S1x32x1x128_S1x32x8x128_0_1_2_3
    (shapeCast S1x32x1x128 (pad S32x128 ![0, 64] ![0, 32] ![0, 0] eyeH zeroB pads_S32x32_S32x128_000_64320 h_S_) shapeCasts_S32x128_S1x32x1x128)) shapeCasts_S1x32x8x128_S32x1024
def wH (W : FVec Ideal S128x1024 .f32) : FVec Ideal S256x2048 .bf16 :=
  concatenate S256x2048 0 [⟨S128x2048, concatenate S128x2048 1 [⟨S128x1024, wK W⟩, ⟨S128x1024, wV W⟩] concatenates_S128x1024_S128x1024_S128x2048_d1⟩,
    ⟨S32x2048, concatenate S32x2048 1 [⟨S32x1024, pickH⟩, ⟨S32x1024, broadcastInDim S32x1024 ![] bcast_S_S32x1024 (constant S_ .bf16 0x0000#16 : FVec Ideal S_ .bf16)⟩]
      concatenates_S32x1024_S32x1024_S32x2048_d1⟩,
    ⟨S96x2048, broadcastInDim S96x2048 ![] bcast_S_S96x2048 (constant S_ .bf16 0x0000#16 : FVec Ideal S_ .bf16)⟩] concatenates_S128x2048_S32x2048_S96x2048_S256x2048_d0

/-- The cotangents with every head filled up, and the latent rows in their place. -/
def kH (W : FVec Ideal S2x2048x8x96 .f32) : FVec Ideal S4096x1024 .bf16 :=
  truncf .bf16 (shapeCast S4096x1024 (pad S2x2048x8x128 ![0, 0, 0, 0] ![0, 0, 0, 32] ![0, 0, 0, 0] W zeroF pads_S2x2048x8x96_S2x2048x8x128_000_000_000_0320 h_S_)
    shapeCasts_S2x2048x8x128_S4096x1024) bitsLt_bf16_f32
def vH (W : FVec Ideal S2x2048x8x64 .f32) : FVec Ideal S4096x1024 .bf16 :=
  truncf .bf16 (shapeCast S4096x1024 (pad S2x2048x8x128 ![0, 0, 0, 0] ![0, 0, 0, 64] ![0, 0, 0, 0] W zeroF pads_S2x2048x8x64_S2x2048x8x128_000_000_000_0640 h_S_)
    shapeCasts_S2x2048x8x128_S4096x1024) bitsLt_bf16_f32
def zH (X : FVec Ideal S4096x128 .f32) (P : FVec Ideal S4096x32 .f32) : FVec Ideal S4096x4096 .bf16 :=
  concatenate S4096x4096 1 [⟨S4096x1280, broadcastInDim S4096x1280 ![] bcast_S_S4096x1280 (constant S_ .bf16 0x0000#16 : FVec Ideal S_ .bf16)⟩,
    ⟨S4096x128, truncf .bf16 X bitsLt_bf16_f32⟩,
    ⟨S4096x128, truncf .bf16 (pad S4096x128 ![0, 0] ![0, 96] ![0, 0] P zeroF pads_S4096x32_S4096x128_000_0960 h_S_) bitsLt_bf16_f32⟩,
    ⟨S4096x2560, broadcastInDim S4096x2560 ![] bcast_S_S4096x2560 (constant S_ .bf16 0x0000#16 : FVec Ideal S_ .bf16)⟩]
    concatenates_S4096x1280_S4096x128_S4096x128_S4096x2560_S4096x4096_d1

section entry

variable (m : (ℓ : Loc nD τ sig) → Buf (Elt Ideal) ℓ) (c : Dev nD)

def ax : FVec Ideal S4096x128 .f32 := m ((c : Thread nD τ).loc main_arg0)
def ap : FVec Ideal S4096x32 .f32 := m ((c : Thread nD τ).loc main_arg1)
def ag : FVec Ideal S1x128 .f32 := m ((c : Thread nD τ).loc main_arg2)
def aw : FVec Ideal S128x1024 .f32 := m ((c : Thread nD τ).loc main_arg3)
def ack : FVec Ideal S2x2048x8x96 .f32 := m ((c : Thread nD τ).loc main_arg4)
def acv : FVec Ideal S2x2048x8x64 .f32 := m ((c : Thread nD τ).loc main_arg5)

theorem V_def (b : Ref sig .tc) : V m c b = StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))))))))) b := rfl

set_option maxHeartbeats 2000000 in
theorem V_cos : V m c main_v69 = cosH := by rw [V_def]; after_results; rfl
set_option maxHeartbeats 2000000 in
theorem V_sin : V m c main_v70 = sinH := by rw [V_def]; after_results; rfl
set_option maxHeartbeats 2000000 in
theorem V_sign : V m c main_cst = signH := by rw [V_def]; after_results; rfl
set_option maxHeartbeats 2000000 in
theorem V_w : V m c main_v109 = wH (aw m c) := by rw [V_def]; after_results; rfl
set_option maxHeartbeats 2000000 in
theorem V_z : V m c main_v115 = zH (ax m c) (ap m c) := by rw [V_def]; after_results; rfl
set_option maxHeartbeats 2000000 in
theorem V_k : V m c main_v118 = kH (ack m c) := by rw [V_def]; after_results; rfl
set_option maxHeartbeats 2000000 in
theorem V_v : V m c main_v121 = vH (acv m c) := by rw [V_def]; after_results; rfl
theorem V_g : V m c main_arg2 = ag m c := by rw [V_main_arg2]; rfl

end entry

/-- A table's row: the angles' function in the first 32 columns, twice, then `v`. -/
def tab (v : ℝ) (f : Fin 16 → ℝ) (e : Fin 128) : ℝ :=
  if h2 : e.val < 16 then f ⟨e.val, h2⟩ else if h3 : e.val - 16 < 16 then f ⟨e.val - 16, h3⟩ else v

theorem tab_in (v : ℝ) (f : Fin 16 → ℝ) (e : Fin 128) (h1 : 0 ≤ e.val) (h2 : e.val < 0 + 32) : tab v f e = f ⟨(e.val - 0) % 16, by omega⟩ := by
  unfold tab
  split_ifs with h3 h4
  · exact congrArg f (Fin.ext (by show e.val = (e.val - 0) % 16; omega))
  · exact congrArg f (Fin.ext (by show e.val - 16 = (e.val - 0) % 16; omega))
  · omega

theorem cosH_at (s : Fin 2048) (e : Fin 128) : cosH (ix2 s e) = (tab 1 (fun j => Real.cos (θr s j)) e : EReal) := by
  pointwise [cosH, angleH]
  simp only [v16_at, Ideal.cos_coe]
  unfold tab
  split_ifs <;> rfl

theorem sinH_at (s : Fin 2048) (e : Fin 128) : sinH (ix2 s e) = (tab 0 (fun j => Real.sin (θr s j)) e : EReal) := by
  pointwise [sinH, angleH]
  simp only [v16_at, Ideal.sin_coe]
  unfold tab
  split_ifs <;> rfl

/-- The cotangents' rows, column by column of the filled heads. -/
def kr (r : Fin 4096) (k : Fin 1024) : ℝ := padr (fun e => ck (ix4 (sq r) (tk r) ⟨k.val / 128, by omega⟩ e)) (⟨k.val % 128, by omega⟩ : Fin 128)
def vr (r : Fin 4096) (k : Fin 1024) : ℝ := padr (fun e => cv (ix4 (sq r) (tk r) ⟨k.val / 128, by omega⟩ e)) (⟨k.val % 128, by omega⟩ : Fin 128)

theorem kH_at (r : Fin 4096) (k : Fin 1024) : kH (up ck) (ix2 r k) = (kr ck r k : EReal) := by
  pointwise [kH, zeroF]
  exact dite_padr (up ck) (fun b s h e => ck (ix4 b s h e)) (fun _ _ _ _ => rfl) sitofp_zero (sq r) (tk r) ⟨k.val / 128, by omega⟩ (⟨k.val % 128, by omega⟩ : Fin 128)
    _ _ _ _ rfl rfl rfl rfl

theorem vH_at (r : Fin 4096) (k : Fin 1024) : vH (up cv) (ix2 r k) = (vr cv r k : EReal) := by
  pointwise [vH, zeroF]
  exact dite_padr (up cv) (fun b s h e => cv (ix4 b s h e)) (fun _ _ _ _ => rfl) sitofp_zero (sq r) (tk r) ⟨k.val / 128, by omega⟩ (⟨k.val % 128, by omega⟩ : Fin 128)
    _ _ _ _ rfl rfl rfl rfl

theorem zH_at (P : FVec Ideal S4096x32 .f32) (r : Fin 4096) (k : Fin 128) : zH (up x) P (ix2 r ⟨1280 + k.val, by omega⟩) = (xr x r k : EReal) := by
  pointwise [zH]
  rfl

/-- The weights' rows, column by column of the filled heads, and the rows that pick the shared columns. -/
def wk (d : Fin 128) (k : Fin 1024) : ℝ := padr (fun e : Fin 64 => w (ix2 d ⟨k.val / 128 * 128 + e.val, by omega⟩)) (⟨k.val % 128, by omega⟩ : Fin 128)
def wv (d : Fin 128) (k : Fin 1024) : ℝ := padr (fun e : Fin 64 => w (ix2 d ⟨k.val / 128 * 128 + (64 + e.val), by omega⟩)) (⟨k.val % 128, by omega⟩ : Fin 128)
def pick (j : Fin 128) (k : Fin 1024) : ℝ := if j.val < 32 ∧ k.val % 128 = 64 + j.val then 1 else 0

theorem wK_at (d : Fin 128) (k : Fin 1024) : wK (up w) (ix2 d k) = (wk w d k : EReal) := by
  pointwise [wK, w3, zeroB]
  unfold wk padr
  by_cases h : k.val % 128 < 64
  · rw [dif_pos ⟨by omega, h⟩, dif_pos h]
    exact congrArg (fun f => (w (ix2 d f) : EReal)) (Fin.ext (by show k.val = k.val / 128 * 128 + k.val % 128; omega))
  · rw [dif_neg fun q => h q.2, dif_neg h]; exact sitofp_zero

theorem wV_at (d : Fin 128) (k : Fin 1024) : wV (up w) (ix2 d k) = (wv w d k : EReal) := by
  pointwise [wV, w3, zeroB]
  unfold wv padr
  by_cases h : k.val % 128 < 64
  · rw [dif_pos ⟨by omega, h⟩, dif_pos h]; rfl
  · rw [dif_neg fun q => h q.2, dif_neg h]; exact sitofp_zero

theorem pickH_at (j : Fin 32) (k : Fin 1024) : pickH (ix2 j k) = (pick ⟨j.val, by omega⟩ k : EReal) := by
  pointwise [pickH, eyeH, zeroB]
  unfold pick
  by_cases h : 64 ≤ k.val % 128 ∧ k.val % 128 - 64 < 32
  · rw [dif_pos h]
    simp (disch := omega) only [hlo_ix]
    have hj : (IntOp.addi (BitVec.ofNat 32 j.val) 0#32).toNat = j.val := by
      show (BitVec.ofNat 32 j.val + 0#32).toNat = j.val
      rw [BitVec.add_zero, BitVec.toNat_ofNat]; omega
    rw [hj]
    by_cases h2 : k.val % 128 = 64 + j.val
    · rw [if_pos ⟨j.isLt, h2⟩, decide_eq_true (show j.val = k.val % 128 - 64 by omega)]
      show ((((BitVec.ofBool true).toNat : ℝ)) : EReal) = ((1 : ℝ) : EReal)
      rw [show (BitVec.ofBool true).toNat = 1 from rfl, Nat.cast_one]
    · rw [if_neg fun q => h2 q.2, decide_eq_false (show ¬j.val = k.val % 128 - 64 by omega)]
      show ((((BitVec.ofBool false).toNat : ℝ)) : EReal) = ((0 : ℝ) : EReal)
      rw [show (BitVec.ofBool false).toNat = 0 from rfl, Nat.cast_zero]
  · rw [dif_neg h, if_neg (by omega)]; exact sitofp_zero

theorem wH_k (d : Fin 128) (k : Fin 1024) : wH (up w) (ix2 ⟨d.val, by omega⟩ ⟨k.val, by omega⟩) = (wk w d k : EReal) := by
  pointwise [wH]
  exact wK_at w d k

theorem wH_v (d : Fin 128) (k : Fin 1024) : wH (up w) (ix2 ⟨d.val, by omega⟩ ⟨1024 + k.val, by omega⟩) = (wv w d k : EReal) := by
  pointwise [wH]
  exact wV_at w d k

theorem wH_p (j : Fin 128) (k : Fin 1024) : wH (up w) (ix2 ⟨128 + j.val, by omega⟩ ⟨k.val, by omega⟩) = (pick j k : EReal) := by
  pointwise [wH]
  by_cases h : j.val < 32
  · rw [dif_pos h]; exact pickH_at ⟨j.val, h⟩ k
  · rw [dif_neg h]; unfold pick; rw [if_neg fun q => h q.1]; rfl

theorem wH_0 (j : Fin 128) (k : Fin 1024) : wH (up w) (ix2 ⟨128 + j.val, by omega⟩ ⟨1024 + k.val, by omega⟩) = ((0 : ℝ) : EReal) := by
  pointwise [wH]
  split_ifs <;> rfl

/-! The same sums over the heads' own columns. -/

theorem sum_two (f : Fin 96 → ℝ) (h : Fin 64 → ℝ) (a b : Fin 64 → ℝ) :
    ∑ e : Fin 128, padr f e * padr a e + ∑ e : Fin 128, padr h e * padr b e
      = ∑ e : Fin 64, f ⟨e.val, by omega⟩ * a e + ∑ e : Fin 64, h e * b e := by
  rw [sum_padr_mul (by norm_num) h b, ← sum_padr_mul (N := 128) (by norm_num) (fun e : Fin 64 => f ⟨e.val, by omega⟩) a]
  refine congrArg (· + _) (Finset.sum_congr rfl fun e _ => ?_)
  unfold padr
  by_cases h1 : e.val < 64
  · rw [dif_pos h1, dif_pos h1, dif_pos (by omega)]
  · rw [dif_neg h1, mul_zero, mul_zero]

theorem sum_heads (R : Fin 4096) (d : Fin 128) : ∑ k, kr ck R k * wk w d k + ∑ k, vr cv R k * wv w d k = da w ck cv R d := by
  unfold da
  rw [← Fin.sum_mul_add_fin 8 128 fun k : Fin 1024 => kr ck R k * wk w d k, ← Fin.sum_mul_add_fin 8 128 fun k : Fin 1024 => vr cv R k * wv w d k,
    ← Fin.sum_mul_add_fin 8 128 fun f : Fin 1024 => kv ck cv (sq R) (tk R) ⟨f.val / 128, by omega⟩ ⟨f.val % 128, by omega⟩ * w (ix2 d f), ← Finset.sum_add_distrib]
  refine Finset.sum_congr rfl fun i _ => ?_
  have e1 : ∀ j : Fin 128, (i.val * 128 + j.val) / 128 = i.val := fun j => by omega
  have e2 : ∀ j : Fin 128, (i.val * 128 + j.val) % 128 = j.val := fun j => by omega
  simp only [kr, vr, wk, wv, e1, e2]
  refine (sum_two (fun e => ck (ix4 (sq R) (tk R) i e)) (fun e => cv (ix4 (sq R) (tk R) i e)) (fun e => w (ix2 d ⟨i.val * 128 + e.val, by omega⟩))
    (fun e => w (ix2 d ⟨i.val * 128 + (64 + e.val), by omega⟩))).trans ?_
  rw [Fin.sum_univ_add (a := 64) (b := 64) fun j : Fin 128 => kv ck cv (sq R) (tk R) i j * w (ix2 d ⟨i.val * 128 + j.val, by omega⟩)]
  refine congrArg₂ (· + ·) (Finset.sum_congr rfl fun e _ => ?_) (Finset.sum_congr rfl fun e _ => ?_)
  · unfold kv
    rw [dif_pos (show (Fin.castAdd 64 e).val < 64 from e.isLt)]; rfl
  · unfold kv
    rw [dif_neg (show ¬(Fin.natAdd 64 e).val < 64 from by show ¬64 + e.val < 64; omega)]
    have e0 : (⟨(Fin.natAdd 64 e).val - 64, by show 64 + e.val - 64 < 64; omega⟩ : Fin 64) = e := Fin.ext (by show 64 + e.val - 64 = e.val; omega)
    rw [e0]; rfl

theorem sum_pick (R : Fin 4096) (j : Fin 128) : ∑ k, kr ck R k * pick j k = padr (pe ck (sq R) (tk R)) j := by
  rw [← Fin.sum_mul_add_fin 8 128 fun k : Fin 1024 => kr ck R k * pick j k]
  have e1 : ∀ (i : Fin 8) (j : Fin 128), (i.val * 128 + j.val) / 128 = i.val := fun i j => by omega
  have e2 : ∀ (i : Fin 8) (j : Fin 128), (i.val * 128 + j.val) % 128 = j.val := fun i j => by omega
  simp only [kr, pick, e1, e2]
  by_cases h : j.val < 32
  · rw [padr, dif_pos h]
    refine Finset.sum_congr rfl fun i _ => ?_
    rw [Finset.sum_eq_single (⟨64 + j.val, by omega⟩ : Fin 128)]
    · rw [if_pos ⟨h, rfl⟩, mul_one, padr, dif_pos (by show 64 + j.val < 96; omega)]
    · intro b _ hb
      rw [if_neg fun q => hb (Fin.ext q.2), mul_zero]
    · intro hb; exact absurd (Finset.mem_univ _) hb
  · rw [padr, dif_neg h]
    exact Finset.sum_eq_zero fun i _ => Finset.sum_eq_zero fun b _ => by rw [if_neg fun q => h q.1, mul_zero]

/-- The shared columns turned back. -/
theorem back_real (R : Fin 4096) (e : Fin 128) :
    (padr (pe ck (sq R) (tk R)) e * tab 1 (fun j => Real.cos (θr (tk R) j)) e
      + turn 0 (fun i => padr (pe ck (sq R) (tk R)) i * tab 0 (fun j => Real.sin (θr (tk R) j)) i) e) * 1 = padr (back (θr (tk R)) (pe ck (sq R) (tk R))) e := by
  by_cases h : e.val < 32
  · rw [turn_block 0 (by omega) (θr (tk R)) (padr (pe ck (sq R) (tk R))) (tab 1 _) (tab 0 _) (fun i a b => tab_in 1 _ i a b) (fun i a b => tab_in 0 _ i a b)
      e (by omega) (by omega), mul_one, padr, dif_pos h]
    refine congrArg (fun y => back (θr (tk R)) y _) (funext fun j => ?_)
    have e0 : (⟨0 + j.val, by omega⟩ : Fin 128) = ⟨j.val, by omega⟩ := Fin.ext (by show 0 + j.val = j.val; omega)
    rw [e0, padr, dif_pos j.isLt]
  · rw [turn_out 0 _ e (by omega), padr, padr, dif_neg h, dif_neg h]; ring

/-! The blocks at a grid point. -/

theorem idx : ∀ t : Fin cfg0.N, win0_0.index t = ![t.val, 0] ∧ win0_1.index t = ![t.val, 0] ∧ win0_2.index t = ![t.val, 10] ∧ win0_3.index t = ![t.val % 4, 0]
    ∧ win0_4.index t = ![t.val % 4, 0] ∧ win0_5.index t = ![0, 0] ∧ win0_6.index t = ![0, 0] ∧ win0_7.index t = ![0, 0] ∧ win0_8.index t = ![t.val, 0]
    ∧ win0_9.index t = ![t.val, 0] ∧ win0_10.index t = ![0, 0] :=
  (by decide +kernel : ∀ t : Fin grid0.N, _)

theorem lt8 (t : Fin cfg0.N) : t.val < 8 := lt_of_lt_of_eq t.isLt N_0

/-- The row of the arrays that a row of a block is. -/
def row (t : Fin cfg0.N) (r : Fin 512) : Fin 4096 := ⟨t.val * 512 + r.val, by have := lt8 t; omega⟩

theorem tk_row (t : Fin cfg0.N) (r : Fin 512) : (⟨t.val % 4 * 512 + r.val, by omega⟩ : Fin 2048) = tk (row t r) := Fin.ext (by
  show t.val % 4 * 512 + r.val = (t.val * 512 + r.val) % 2048
  have := lt8 t; omega)

/-- What the arguments are, as real numbers. -/
structure Args (m : (ℓ : Loc nD τ sig) → Buf (Elt Ideal) ℓ) (c : Dev nD) : Prop where
  hx : ax m c = up x
  hg : ag m c = up g
  hw : aw m c = up w
  hck : ack m c = up ck
  hcv : acv m c = up cv

section blocks

variable (m : (ℓ : Loc nD τ sig) → Buf (Elt Ideal) ℓ) (c : Dev nD) (H : Args x g w ck cv m c) (t : Fin cfg0.N)

def PC : FVec Ideal S512x128 .f32 := k0_pay5 (iblk m c 3 t)
def PS : FVec Ideal S512x128 .f32 := k0_pay6 (iblk m c 4 t)
def PM : FVec Ideal S128x128 .bf16 := iblk m c 7 t
def PD : FVec Ideal S512x256 .f32 := k0_pay7 (iblk m c 0 t) (iblk m c 1 t) (iblk m c 6 t)

theorem PC_at (r : Fin 512) (e : Fin 128) : PC m c t (ix2 r e) = (tab 1 (fun j => Real.cos (θr (tk (row t r)) j)) e : EReal) := by
  have e0 : ((View.whole main_v69).slice (win0_3.rect t)).emb (ix2 r e) = (ix2 ⟨t.val % 4 * 512 + r.val, by omega⟩ e : S2048x128.Idx) := by blk_ext [idx t]
  pointwise [PC, k0_pay5]
  blk_simp [iblk]
  rw [V_cos, e0, tk_row, cosH_at]

theorem PS_at (r : Fin 512) (e : Fin 128) : PS m c t (ix2 r e) = (tab 0 (fun j => Real.sin (θr (tk (row t r)) j)) e : EReal) := by
  have e0 : ((View.whole main_v70).slice (win0_4.rect t)).emb (ix2 r e) = (ix2 ⟨t.val % 4 * 512 + r.val, by omega⟩ e : S2048x128.Idx) := by blk_ext [idx t]
  pointwise [PS, k0_pay6]
  blk_simp [iblk]
  rw [V_sin, e0, tk_row, sinH_at]

theorem PM_at (i e : Fin 128) : PM m c t (ix2 i e) = (cell 0 i e : EReal) := by
  have e0 : ((View.whole main_cst).slice (win0_7.rect t)).emb (ix2 i e) = (ix2 i e : S128x128.Idx) := by blk_ext [idx t]
  have h : PM m c t (ix2 i e) = V m c main_cst (((View.whole main_cst).slice (win0_7.rect t)).emb (ix2 i e)) := by
    unfold PM
    blk_simp [iblk]
  rw [h, V_sign, e0]
  exact signH_at i e

include H

theorem blk0 (r : Fin 512) (k : Fin 1024) : iblk m c 0 t (ix2 r k) = (kr ck (row t r) k : EReal) := by
  have e0 : ((View.whole main_v118).slice (win0_0.rect t)).emb (ix2 r k) = (ix2 (row t r) k : S4096x1024.Idx) := by blk_ext [idx t, row]
  blk_simp [iblk]
  rw [V_k, H.hck, e0]
  exact kH_at ck (row t r) k

theorem blk1 (r : Fin 512) (k : Fin 1024) : iblk m c 1 t (ix2 r k) = (vr cv (row t r) k : EReal) := by
  have e0 : ((View.whole main_v121).slice (win0_1.rect t)).emb (ix2 r k) = (ix2 (row t r) k : S4096x1024.Idx) := by blk_ext [idx t, row]
  blk_simp [iblk]
  rw [V_v, H.hcv, e0]
  exact vH_at cv (row t r) k

theorem blk2 (r : Fin 512) (k : Fin 128) : iblk m c 2 t (ix2 r k) = (xr x (row t r) k : EReal) := by
  have e0 : ((View.whole main_v115).slice (win0_2.rect t)).emb (ix2 r k) = (ix2 (row t r) ⟨1280 + k.val, by omega⟩ : S4096x4096.Idx) := by blk_ext [idx t, row]
  blk_simp [iblk]
  rw [V_z, H.hx, e0]
  exact zH_at x _ (row t r) k

theorem blk5 (k : Fin 128) : iblk m c 5 t (ix2 0 k) = (gn g k : EReal) := by
  have e0 : ((View.whole main_arg2).slice (win0_5.rect t)).emb (ix2 0 k) = (ix2 0 k : S1x128.Idx) := by blk_ext [idx t]
  blk_simp [iblk]
  rw [V_g, H.hg, e0]; rfl

theorem blk6 (d : Fin 256) (k : Fin 2048) : iblk m c 6 t (ix2 d k) = wH (up w) (ix2 d k) := by
  have e0 : ((View.whole main_v109).slice (win0_6.rect t)).emb (ix2 d k) = (ix2 d k : S256x2048.Idx) := by blk_ext [idx t]
  blk_simp [iblk]
  rw [V_w, H.hw, e0]

theorem PD_lo (r : Fin 512) (d : Fin 128) : PD m c t (ix2 r ⟨d.val, by omega⟩) = (da w ck cv (row t r) d : EReal) := by
  have hk := fun k => (blk6 x g w ck cv m c H t ⟨d.val, by omega⟩ ⟨k.val, by omega⟩).trans (wH_k w d k)
  have hv := fun k => (blk6 x g w ck cv m c H t ⟨d.val, by omega⟩ ⟨1024 + k.val, by omega⟩).trans (wH_v w d k)
  pointwise [PD, k0_pay7]
  simp only [blk0 x g w ck cv m c H t, blk1 x g w ck cv m c H t]
  refine (congrArg₂ (· + ·) (Finset.sum_congr rfl fun k _ => congrArg _ (hk k)) (Finset.sum_congr rfl fun k _ => congrArg _ (hv k))).trans ?_
  simp only [← EReal.coe_mul, coe_sum, ← EReal.coe_add, sum_heads]

theorem PD_hi (r : Fin 512) (j : Fin 128) : PD m c t (ix2 r ⟨128 + j.val, by omega⟩) = (padr (pe ck (sq (row t r)) (tk (row t r))) j : EReal) := by
  have hk := fun k => (blk6 x g w ck cv m c H t ⟨128 + j.val, by omega⟩ ⟨k.val, by omega⟩).trans (wH_p w j k)
  have hv := fun k => (blk6 x g w ck cv m c H t ⟨128 + j.val, by omega⟩ ⟨1024 + k.val, by omega⟩).trans (wH_0 w j k)
  pointwise [PD, k0_pay7]
  simp only [blk0 x g w ck cv m c H t, blk1 x g w ck cv m c H t]
  refine (congrArg₂ (· + ·) (Finset.sum_congr rfl fun k _ => congrArg _ (hk k)) (Finset.sum_congr rfl fun k _ => congrArg _ (hv k))).trans ?_
  simp only [← EReal.coe_mul, coe_sum, ← EReal.coe_add, sum_pick, mul_zero, Finset.sum_const_zero, add_zero]

omit H

/-- The results at a point, as the body composes them. -/
def DA : FVec Ideal S512x128 .f32 := k0_pay8 (iblk m c 0 t) (iblk m c 1 t) (iblk m c 6 t)
def DN : FVec Ideal S512x128 .f32 := k0_pay12 (iblk m c 0 t) (iblk m c 1 t) (iblk m c 5 t) (iblk m c 6 t)
def RS : FVec Ideal S512x1 .f32 := k0_pay13 (iblk m c 0 t) (iblk m c 1 t) (iblk m c 2 t) (iblk m c 5 t) (iblk m c 6 t)
def XP : FVec Ideal S512x128 .bf16 := k0_pay2 (k0_pay10 (iblk m c 2 t)) (k0_pay11 (iblk m c 2 t)) (DN m c t) (RS m c t)
def PP : FVec Ideal S512x128 .bf16 :=
  truncf .bf16 (turned 0x3F800000#32 (extractStridedSlice S512x128 ![0, 128] (PD m c t) slices_S512x256_o0_128_S512x128) (PC m c t) (PS m c t) (PM m c t)) bitsLt_bf16_f32
def DG : FVec Ideal S1x128 .f32 := k0_pay1 (DA m c t) (k0_pay11 (iblk m c 2 t))

include H

theorem DA_at (r : Fin 512) (d : Fin 128) : DA m c t (ix2 r d) = (da w ck cv (row t r) d : EReal) := by
  have h : DA m c t (ix2 r d) = PD m c t (ix2 r ⟨d.val, by omega⟩) := by pointwise [DA, k0_pay8]; rfl
  rw [h, PD_lo x g w ck cv m c H t]

theorem inv_at (r : Fin 512) (u : Fin 1) : k0_pay10 (iblk m c 2 t) (ix2 r u) = (inv 128 (xr x (row t r)) : EReal) := by
  pointwise [k0_pay10, k0_pay9]
  simp only [blk2 x g w ck cv m c H t, ← EReal.coe_mul, coe_sum, r128, eps_coe]
  exact inv_mul (by norm_num) (xr x (row t r))

theorem nrm_at (r : Fin 512) (k : Fin 128) : k0_pay11 (iblk m c 2 t) (ix2 r k) = ((xr x (row t r) k * inv 128 (xr x (row t r)) : ℝ) : EReal) := by
  pointwise [k0_pay11, k0_pay9]
  rw [inv_at x g w ck cv m c H t, blk2 x g w ck cv m c H t, EReal.coe_mul]

theorem DN_at (r : Fin 512) (k : Fin 128) : DN m c t (ix2 r k) = ((da w ck cv (row t r) k * gn g k : ℝ) : EReal) := by
  have h : DN m c t (ix2 r k) = DA m c t (ix2 r k) * iblk m c 5 t (ix2 0 k) := by pointwise [DN, k0_pay12]; rfl
  rw [h, DA_at x g w ck cv m c H t, blk5 x g w ck cv m c H t, EReal.coe_mul]

theorem RS_at (r : Fin 512) (u : Fin 1) : RS m c t (ix2 r u) = ((∑ k, da w ck cv (row t r) k * gn g k * (xr x (row t r) k * inv 128 (xr x (row t r))) : ℝ) : EReal) := by
  have h : RS m c t (ix2 r u) = ∑ k, DN m c t (ix2 r k) * k0_pay11 (iblk m c 2 t) (ix2 r k) := by pointwise [RS, k0_pay13]; rfl
  rw [h]
  simp only [DN_at x g w ck cv m c H t, nrm_at x g w ck cv m c H t, ← EReal.coe_mul, coe_sum]

theorem XP_at (r : Fin 512) (k : Fin 128) : XP m c t (ix2 r k) = (grad 128 (xr x (row t r)) (fun d => da w ck cv (row t r) d * gn g d) k : EReal) := by
  pointwise [XP, k0_pay2]
  simp only [inv_at x g w ck cv m c H t, nrm_at x g w ck cv m c H t, DN_at x g w ck cv m c H t, RS_at x g w ck cv m c H t, r128]
  rw [EReal.coe_mul (xr x (row t r) k)]
  exact grad_mul (xr x (row t r)) (fun d => da w ck cv (row t r) d * gn g d) k

theorem DG_at (k : Fin 128) : DG m c t (ix2 0 k) = ((∑ r, da w ck cv (row t r) k * (xr x (row t r) k * inv 128 (xr x (row t r))) : ℝ) : EReal) := by
  pointwise [DG, k0_pay1]
  simp only [DA_at x g w ck cv m c H t, nrm_at x g w ck cv m c H t, ← EReal.coe_mul, coe_sum]

theorem PP_at (r : Fin 512) (e : Fin 128) : PP m c t (ix2 r e) = (padr (back (θr (tk (row t r))) (pe ck (sq (row t r)) (tk (row t r)))) e : EReal) := by
  refine (turned_at _ 1 one_coe _ (PC m c t) (PS m c t) (PM m c t) (fun r => padr (pe ck (sq (row t r)) (tk (row t r))))
    (fun r => tab 1 (fun j => Real.cos (θr (tk (row t r)) j))) (fun r => tab 0 (fun j => Real.sin (θr (tk (row t r)) j))) (cell 0) (fun r e => ?_)
    (PC_at m c t) (PS_at m c t) (PM_at m c t) r e).trans ?_
  · pointwise
    exact PD_hi x g w ck cv m c H t r e
  · rw [sum_cell 0 (fun i => padr (pe ck (sq (row t r)) (tk (row t r))) i * tab 0 (fun j => Real.sin (θr (tk (row t r)) j)) i) e]
    exact congrArg _ (back_real ck (row t r) e)

end blocks

section results

variable (m : (ℓ : Loc nD τ sig) → Buf (Elt Ideal) ℓ) (c : Dev nD)

theorem after8 (t : Fin cfg0.N) : (dats m 0 c).after 8 t = XP m c t := by
  rw [after0_8]
  by_cases h : t.val % 8 = 0
  · rw [outsAt0_A m c t h (by have := lt8 t; omega)]; frame_out; rfl
  · rw [outsAt0_B m c t h (by omega)]; frame_out; rfl

theorem after9 (t : Fin cfg0.N) : (dats m 0 c).after 9 t = PP m c t := by
  rw [after0_9]
  by_cases h : t.val % 8 = 0
  · rw [outsAt0_A m c t h (by have := lt8 t; omega)]; frame_out; rfl
  · rw [outsAt0_B m c t h (by omega)]; frame_out; rfl

/-- Point `s` of the eight, and of the run of eight that `t` lies in. -/
def pt (s : Fin 8) : Fin cfg0.N := ⟨s.val, s.isLt.trans_eq N_0.symm⟩
def run8 (t : Fin cfg0.N) (s : Fin 8) : Fin cfg0.N :=
  ⟨8 * (t.val / 8) + s.val, (by have := lt8 t; omega : 8 * (t.val / 8) + s.val < 8).trans_eq N_0.symm⟩

theorem run8_eq (t : Fin cfg0.N) (s : Fin 8) : run8 t s = pt s := Fin.ext (by have := lt8 t; show 8 * (t.val / 8) + s.val = s.val; omega)

theorem after10 (t : Fin cfg0.N) (h : t.val % 8 = 7) (y : S1x128.Idx) : (dats m 0 c).after 10 t y = ∑ s : Fin 8, DG m c (run8 t s) y := by
  have hout : (dats m 0 c).after 10 t y = (outsAt0 m c t.val t.isLt).2.2 y := by rw [after0_10]
  rw [hout, Pipeline.eq_sum_fin_of_reset_step_apply_of_flush (fun n h => (outsAt0 m c n h).2.2) 8 (fun _ => 0) (fun t y => DG m c t y)
    (fun t h i => by rw [outsAt0_A m c t h (by have := lt8 t; omega)]; frame_out; rw [zero_add]; rfl)
    (fun t h i => by rw [outsAt0_B m c t h (by omega)]; frame_out; pointwise [k0_pay4]; rfl) t h y, zero_add]
  rfl

end results

/-- A sum over the points of sums over a point's rows is the sum over all rows. -/
theorem sum_points (f : Fin 4096 → ℝ) (q : Fin cfg0.N → EReal) (hq : ∀ t, q t = ((∑ r, f (row t r) : ℝ) : EReal)) (t : Fin cfg0.N) :
    ∑ s : Fin 8, q (run8 t s) = ((∑ r, f r : ℝ) : EReal) := by
  have e : ∀ s : Fin 8, q (run8 t s) = ((∑ r, f (row (pt s) r) : ℝ) : EReal) := fun s => by rw [run8_eq]; exact hq (pt s)
  rw [Finset.sum_congr rfl fun s _ => e s, coe_sum]
  exact congrArg _ (Fin.sum_mul_add_fin 8 512 f)

section finals

variable (m : (ℓ : Loc nD τ sig) → Buf (Elt Ideal) ℓ) (c : Dev nD) (H : Args x g w ck cv m c)

include H

theorem out8 (t : Fin cfg0.N) (y : S512x128.Idx) : (dats m 0 c).after 8 t y = GX x g w ck cv ((win0_8.blk t).view.emb y) := by
  have e0 : (win0_8.blk t).view.emb (ix2 (y 0) (y 1)) = (ix2 (row t (y 0)) (y 1) : S4096x128.Idx) := by blk_ext [idx t, row]
  rw [eq_ix2 y, e0, after8]
  exact XP_at x g w ck cv m c H t (y 0) (y 1)

theorem final8 : (dats m 0 c).arrAt 8 (cfgs 0).N = GX x g w ck cv := by
  refine (dats m 0 c).arrAt_eq_of_covers 8 _ (by decide +kernel) fun t _ y => ?_
  exact out8 x g w ck cv m c H t y

theorem out9 (t : Fin cfg0.N) (y : S512x128.Idx) : (dats m 0 c).after 9 t y = GP ck ((win0_9.blk t).view.emb y) := by
  have e0 : (win0_9.blk t).view.emb (ix2 (y 0) (y 1)) = (ix2 (row t (y 0)) (y 1) : S4096x128.Idx) := by blk_ext [idx t, row]
  rw [eq_ix2 y, e0, after9]
  exact PP_at x g w ck cv m c H t (y 0) (y 1)

theorem final9 : (dats m 0 c).arrAt 9 (cfgs 0).N = GP ck := by
  refine (dats m 0 c).arrAt_eq_of_covers 9 _ (by decide +kernel) fun t _ y => ?_
  exact out9 x g w ck cv m c H t y

theorem out10 (t : Fin cfg0.N) (h : t.val % 8 = 7) (u : Fin 1) (k : Fin 128) :
    (dats m 0 c).after 10 t (ix2 u k) = GG x w ck cv ((win0_10.blk t).view.emb (ix2 u k)) := by
  obtain rfl : u = 0 := Subsingleton.elim _ _
  have e0 : (win0_10.blk t).view.emb (ix2 0 k) = (ix2 0 k : S1x128.Idx) := by blk_ext [idx t]
  rw [e0, after10 m c t h]
  exact sum_points (fun r => da w ck cv r k * (xr x r k * inv 128 (xr x r))) (fun t => DG m c t (ix2 0 k)) (fun t => DG_at x g w ck cv m c H t k) t

theorem final10 : (dats m 0 c).arrAt 10 (cfgs 0).N = GG x w ck cv := by
  refine (dats m 0 c).arrAt_eq_of_covers 10 _ (by decide +kernel) fun t hf y => ?_
  have key : ∀ y : S1x128.Idx, (dats m 0 c).after 10 t y = GG x w ck cv ((win0_10.blk t).view.emb y) := fun y => by
    rw [eq_ix2 y]; exact out10 x g w ck cv m c H t ((flush0_10 t).mp hf) (y 0) (y 1)
  exact key y

end finals

end Cert.KvPath

end
-- ==== Proof.KvPath.lean ====
/-
  The gradient through the key and value path: the latent rows, the shared turned columns and the gains.
-/
module

public import proofs.«01_k».proof.Defs
public import proofs.«01_k».proof.Proof.Gen.KvPathKernelIdeal.Value
public import proofs.«01_k».proof.Proof.Gen.KvPathRefIdeal.Run
public import proofs.«01_k».proof.Proof.KvPathKern
public import proofs.«01_k».proof.Proof.KvPathRef

@[expose] public section

set_option maxRecDepth 16384

noncomputable section

namespace Cert.KvPath

open Idealize.ShloMosaic Idealize.ShloMosaic.TcCoe Idealize.SL.Sem
open Cert.Reals

instance pre_facts : Cert.Pre_finite_kv_path.Facts := ⟨by decide, by decide, by decide, by decide, by decide⟩

theorem frame_ref : Cert.quiescent_KvPathRefIdeal := fun m ρ _ =>
  (θ_run Cert.KvPathRefIdeal.defs _ _).mono (fun r h => ⟨fun c => (h c).2.2.2, sem_eq_zero_of_no_sems (by decide) r.2⟩)
    (Cert.KvPathRefIdeal.Value.run (F := Ideal) m ρ)

open Cert.KvPathKernelIdeal in
/-- What the precondition says of one device's arguments. -/
theorem reals (m : (ℓ : Loc nD τ sig) → Buf (Elt Ideal) ℓ) (h : Cert.Pre_KvPathKernelIdeal_finite_kv_path m) (c : Dev nD) :
    ∃ (x : S4096x128.Idx → ℝ) (g : S1x128.Idx → ℝ) (w : S128x1024.Idx → ℝ) (ck : S2x2048x8x96.Idx → ℝ) (cv : S2x2048x8x64.Idx → ℝ), Args x g w ck cv m c := by
  obtain ⟨h0, h2, h3, h4, h5⟩ := h c
  obtain ⟨x, q0⟩ := finite_up _ _ _ h0
  obtain ⟨g, q2⟩ := finite_up _ _ _ h2
  obtain ⟨w, q3⟩ := finite_up _ _ _ h3
  obtain ⟨ck, q4⟩ := finite_up _ _ _ h4
  obtain ⟨cv, q5⟩ := finite_up _ _ _ h5
  exact ⟨x, g, w, ck, cv, ⟨q0, q2, q3, q4, q5⟩⟩

open Cert.KvPathKernelIdeal in
theorem algebraic : Cert.algebraic_KvPathKernelIdeal_KvPathRefIdeal_pre_finite_kv_path := by
  intro m ρ m' ρ' hp hag
  choose x g w ck cv h using reals m hp
  refine ⟨fun c => GX (x c) (g c) (w c) (ck c) (cv c),
    fun c => GP (ck c),
    fun c => GG (x c) (w c) (ck c) (cv c),
    (θ_run _ _ _).mono (fun r hr c => ?_) (Cert.KvPathKernelIdeal.Value.run_blocks m ρ),
    (θ_run _ _ _).mono (fun r hr c => ?_) (Cert.KvPathRefIdeal.Value.run m' ρ')⟩
  · exact ⟨(hr c).1.trans (final8 _ _ _ _ _ m c (h c)),
      (hr c).2.1.trans (final9 _ _ _ _ _ m c (h c)),
      (hr c).2.2.1.trans (final10 _ _ _ _ _ m c (h c)), (hr c).2.2.2⟩
  · obtain ⟨e0, e1, e2, e3, e4, e5⟩ := hag c
    have E : ∀ {α : Type} (F : FVec Ideal S4096x128 .f32 → FVec Ideal S1x128 .f32 → FVec Ideal S128x1024 .f32 → FVec Ideal S2x2048x8x96 .f32 → FVec Ideal S2x2048x8x64 .f32 → α),
        F (m' ((c : Thread Cert.KvPathRefIdeal.nD Cert.KvPathRefIdeal.τ).loc Cert.KvPathRefIdeal.main_arg0))
          (m' ((c : Thread Cert.KvPathRefIdeal.nD Cert.KvPathRefIdeal.τ).loc Cert.KvPathRefIdeal.main_arg2))
          (m' ((c : Thread Cert.KvPathRefIdeal.nD Cert.KvPathRefIdeal.τ).loc Cert.KvPathRefIdeal.main_arg3))
          (m' ((c : Thread Cert.KvPathRefIdeal.nD Cert.KvPathRefIdeal.τ).loc Cert.KvPathRefIdeal.main_arg4))
          (m' ((c : Thread Cert.KvPathRefIdeal.nD Cert.KvPathRefIdeal.τ).loc Cert.KvPathRefIdeal.main_arg5))
        = F (up (x c)) (up (g c)) (up (w c)) (up (ck c)) (up (cv c)) := fun F => by
      rw [e0, e2, e3, e4, e5]
      exact congr (congr (congr (congr (congrArg F (h c).hx) (h c).hg) (h c).hw) (h c).hck) (h c).hcv
    refine ⟨(hr c).1.trans ?_,
      (hr c).2.1.trans ?_,
      (hr c).2.2.1.trans ?_, (hr c).2.2.2⟩
    · rw [Cert.KvPathRefIdeal.Read.val_main_v97_eq]
      exact (E (fun x g w ck cv => Cert.KvPathRefIdeal.Read.val_main_v97 (F := Ideal) x g w ck cv)).trans (ref_x (x c) (g c) (w c) (ck c) (cv c))
    · rw [Cert.KvPathRefIdeal.Read.val_main_v99_eq]
      exact (E (fun _ _ _ ck _ => Cert.KvPathRefIdeal.Read.val_main_v99 (F := Ideal) ck)).trans (ref_p (ck c))
    · rw [Cert.KvPathRefIdeal.Read.val_main_v65_eq]
      exact (E (fun x _ w ck cv => Cert.KvPathRefIdeal.Read.val_main_v65 (F := Ideal) x w ck cv)).trans (ref_g (x c) (w c) (ck c) (cv c))

end Cert.KvPath

end
-- ==== Proof.PrepBRef.lean ====
/-
  The reference of the gradient through the second attention's queries and keys: the real numbers its results are.
-/
module

public import proofs.«01_k».proof.Proof.Gen.PrepBRefIdeal.Read
public import Idealize.ShloMosaic.Lib.Pipeline.ValueKit
public import Idealize.ShloMosaic.Lib.Pipeline.ReadBack
public import proofs.«01_k».proof.Proof.Back

@[expose] public section

set_option maxRecDepth 16384

noncomputable section

namespace Cert.PrepB

open Idealize.ShloMosaic Idealize.ShloMosaic.TcCoe Idealize.SL.Sem
open Cert.Reals Cert.Rms Cert.Rope
open Cert.PrepBRefIdeal Cert.PrepBRefIdeal.Gen Cert.PrepBRefIdeal.Read

/-- The angles of a token's row and of its column in the grid. -/
def θ1 (s : Fin 2048) (j : Fin 16) : ℝ := angle (val_main_v1 (F := Ideal) (ix1 s)) j
def θ2 (s : Fin 2048) (j : Fin 16) : ℝ := angle (val_main_v18 (F := Ideal) (ix1 s)) j

/-- The gradient of a head's turn: its first 32 columns by the row's angles, its last 32 by the column's. -/
def axial (θ φ : Fin 16 → ℝ) (x : Fin 64 → ℝ) (e : Fin 64) : ℝ :=
  if h : e.val < 32 then back θ (fun j => x ⟨j.val, by omega⟩) ⟨e.val, h⟩ else back φ (fun j => x ⟨32 + j.val, by omega⟩) ⟨e.val - 32, by omega⟩

/-- The same head, read case by case. -/
theorem axial_if (θ φ : Fin 16 → ℝ) (x : Fin 64 → ℝ) (e : Fin 64) :
    (if h1 : e.val < 32 then
      (if h : e.val < 16 then ((x ⟨16 + e.val, by omega⟩ * Real.sin (θ ⟨e.val, h⟩) + x ⟨e.val, by omega⟩ * Real.cos (θ ⟨e.val, h⟩) : ℝ) : EReal)
        else ((x ⟨16 + (e.val - 16), by omega⟩ * Real.cos (θ ⟨e.val - 16, by omega⟩) + -x ⟨e.val - 16, by omega⟩ * Real.sin (θ ⟨e.val - 16, by omega⟩) : ℝ) : EReal))
      else (if h : e.val - 32 < 16 then
          ((x ⟨32 + (16 + (e.val - 32)), by omega⟩ * Real.sin (φ ⟨e.val - 32, h⟩) + x ⟨32 + (e.val - 32), by omega⟩ * Real.cos (φ ⟨e.val - 32, h⟩) : ℝ) : EReal)
        else ((x ⟨32 + (16 + (e.val - 32 - 16)), by omega⟩ * Real.cos (φ ⟨e.val - 32 - 16, by omega⟩)
          + -x ⟨32 + (e.val - 32 - 16), by omega⟩ * Real.sin (φ ⟨e.val - 32 - 16, by omega⟩) : ℝ) : EReal)))
      = (axial θ φ x e : EReal) := by
  unfold axial
  by_cases h1 : e.val < 32
  · rw [dif_pos h1, dif_pos h1]
    exact back_if θ (fun j => x ⟨j.val, by omega⟩) ⟨e.val, h1⟩
  · rw [dif_neg h1, dif_neg h1]
    exact back_if φ (fun j => x ⟨32 + j.val, by omega⟩) ⟨e.val - 32, by omega⟩

/-- A sum over an array's first three axes. -/
theorem sum_front {n0 n1 n2 n3 : ℕ} (h : (⟨4, ![n0, n1, n2, n3]⟩ : Shape).ReducesTo [0, 1, 2] ⟨1, ![n3]⟩)
    (x : (⟨4, ![n0, n1, n2, n3]⟩ : Shape).Idx → EReal) (e : Fin n3) :
    Ideal.hostReduceAdd h x 0 (ix1 e) = ∑ a, ∑ b, ∑ c, x (ix4 a b c e) := by
  have hd : ∀ a b c d, h.drop (ix4 a b c d) = ix1 e ↔ d = e := fun a b c d => by
    have h0 : ((h.drop (ix4 a b c d) 0 : Fin _) : ℕ) = d.val := Shape.ReducesTo.drop_apply_val h (ix4 a b c d) 0
    constructor
    · intro hq; rw [hq] at h0; exact Fin.ext h0.symm
    · intro hq; subst hq; funext b; match b with | ⟨0, _⟩ => exact Fin.ext h0
  rw [Ideal.hostReduceAdd, zero_add, Finset.sum_filter, sum_idx4]
  refine Finset.sum_congr rfl fun a _ => Finset.sum_congr rfl fun b _ => Finset.sum_congr rfl fun c _ => ?_
  simp only [hd, Finset.sum_ite_eq', Finset.mem_univ, if_true]

/-- A sum over the sequences and their tokens is one over the rows. -/
theorem sum_rows (f : Fin 2 → Fin 2048 → ℝ) : ∑ b, ∑ s, f b s = ∑ r : Fin 4096, f (sq r) (tk r) := by
  refine Eq.trans (Finset.sum_congr rfl fun b _ => Finset.sum_congr rfl fun s _ => ?_) (Fin.sum_mul_add_fin 2 2048 fun r : Fin 4096 => f (sq r) (tk r))
  have e1 : Cert.Rope.sq (⟨b.val * 2048 + s.val, by omega⟩ : Fin 4096) = b := Fin.ext (by show (b.val * 2048 + s.val) / 2048 = b.val; omega)
  have e2 : tk (⟨b.val * 2048 + s.val, by omega⟩ : Fin 4096) = s := Fin.ext (by show (b.val * 2048 + s.val) % 2048 = s.val; omega)
  rw [e1, e2]

/-- An array of heads by its four indices; the queries' cotangent with the scale of the attention. -/
def at4 {H : ℕ} (f : (⟨4, ![2, 2048, H, 64]⟩ : Shape).Idx → ℝ) (b : Fin 2) (s : Fin 2048) (h : Fin H) (e : Fin 64) : ℝ := f (ix4 b s h e)
def eighth (f : S2x2048x8x64.Idx → ℝ) (b : Fin 2) (s : Fin 2048) (h : Fin 8) (e : Fin 64) : ℝ := f (ix4 b s h e) * (1 / 8)

section heads

variable {H : ℕ} (x d : Fin 2 → Fin 2048 → Fin H → Fin 64 → ℝ) (g : S1x64.Idx → ℝ)

/-- A head's turn undone; the gradient of the norm before it; the gain's gradient, summed over the rows and the heads. -/
def turnBack (b : Fin 2) (s : Fin 2048) (h : Fin H) (e : Fin 64) : ℝ := axial (θ1 s) (θ2 s) (d b s h) e
def gradH (b : Fin 2) (s : Fin 2048) (h : Fin H) (e : Fin 64) : ℝ := grad 64 (x b s h) (fun i => d b s h i * g (ix2 0 i)) e
def gainH (e : Fin 64) : ℝ := ∑ r : Fin 4096, ∑ h, d (sq r) (tk r) h e * (x (sq r) (tk r) h e * inv 64 (x (sq r) (tk r) h))

/-- The results: the heads' gradient and the gain's, filled up to 128 columns. -/
def GH : FVec Ideal ⟨2, ![4096, H * 128]⟩ .bf16 := fun y =>
  (padr (gradH x d g (sq (y 0)) (tk (y 0)) ⟨(y 1).val / 128, by have : (y 1).val < H * 128 := (y 1).isLt; omega⟩) (⟨(y 1).val % 128, by omega⟩ : Fin 128) : EReal)
def GGain : FVec Ideal S1x128 .f32 := fun y => (padr (gainH x d) (y 1 : Fin 128) : EReal)

end heads

variable (q : S2x2048x8x64.Idx → ℝ) (k : S2x2048x2x64.Idx → ℝ) (gq gk : S1x64.Idx → ℝ) (cq : S2x2048x8x64.Idx → ℝ) (ck : S2x2048x2x64.Idx → ℝ)

theorem v17_at (s : Fin 2048) (j : Fin 16) : val_main_v17 (F := Ideal) (ix2 s j) = (θ1 s j : EReal) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
  exact angle_coe _ _

theorem v34_at (s : Fin 2048) (j : Fin 16) : val_main_v34 (F := Ideal) (ix2 s j) = (θ2 s j : EReal) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst_4, val_main_cst_5, val_main_cst_6, val_main_cst_7]
  exact angle_coe _ _

theorem eighth_coe : Ideal.ofBits .f32 0x3E000000#32 = ((1 / 8 : ℝ) : EReal) := by
  simp [Ideal.ofBits, Ideal.ieee, -EReal.coe_mul]; norm_num

theorem v196_at (b : Fin 2) (s : Fin 2048) (h : Fin 8) (e : Fin 64) : val_main_v196 (F := Ideal) (up cq) (ix4 b s h e) = (eighth cq b s h e : EReal) := by
  pointwise [val_main_v196, val_main_v195, val_main_cst_22]
  rw [eighth_coe, eighth, EReal.coe_mul]; rfl

theorem q_var (b : Fin 2) (s : Fin 2048) (h : Fin 8) (u : Fin 1) : val_main_v41 (F := Ideal) (up q) (ix4 b s h u) = (var 64 (at4 q b s h) : EReal) := by
  pointwise [val_main_v41, val_main_v40, val_main_v39, val_main_v38, val_main_v37, val_main_v36, val_main_v35, val_main_cst_8, val_main_cst_9, val_main_cst_10]
  simp only [up, ← EReal.coe_mul, coe_sum, c64, eps_coe]
  exact var_div (by norm_num) (at4 q b s h)

theorem q_inv (b : Fin 2) (s : Fin 2048) (h : Fin 8) (u : Fin 1) : val_main_v42 (F := Ideal) (up q) (ix4 b s h u) = (inv 64 (at4 q b s h) : EReal) := by
  pointwise [val_main_v42]
  rw [q_var, Rms.inv_div (by norm_num)]

theorem q_dy (b : Fin 2) (s : Fin 2048) (h : Fin 8) (e : Fin 64) : val_main_v227 (F := Ideal) (up cq) (ix4 b s h e) = (turnBack (eighth cq) b s h e : EReal) := by
  pointwise [val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v73, val_main_v72, val_main_v71, val_main_v70, val_main_v56, val_main_v55, val_main_v54, val_main_v53]
  simp only [v196_at, v17_at, v34_at, Ideal.cos_coe, Ideal.sin_coe, ← EReal.coe_mul, ← EReal.coe_neg, ← EReal.coe_add]
  exact axial_if (θ1 s) (θ2 s) ((eighth cq) b s h) e

theorem q_dn (b : Fin 2) (s : Fin 2048) (h : Fin 8) (e : Fin 64) :
    val_main_v232 (F := Ideal) (up gq) (up cq) (ix4 b s h e) = ((turnBack (eighth cq) b s h e * gq (ix2 0 e) : ℝ) : EReal) := by
  pointwise [val_main_v232, val_main_v231, val_main_v48]
  rw [q_dy, EReal.coe_mul]; rfl

theorem q_slope (b : Fin 2) (s : Fin 2048) (h : Fin 8) (u : Fin 1) : val_main_v242 (F := Ideal) (up q) (up gq) (up cq) (ix4 b s h u)
    = (slope 64 (at4 q b s h) (fun d => turnBack (eighth cq) b s h d * gq (ix2 0 d)) : EReal) := by
  pointwise [val_main_v242, val_main_v241, val_main_v240, val_main_v237, val_main_v236, val_main_v235, val_main_v45, val_main_v44, val_main_v43, val_main_cst_11, val_main_cst_25, val_main_cst_26]
  simp only [q_dn, q_inv, q_var, up, ← EReal.coe_mul, coe_sum, c64, mhalf]
  exact slope_div (by norm_num) (at4 q b s h) (fun d => turnBack (eighth cq) b s h d * gq (ix2 0 d))

theorem q_grad (b : Fin 2) (s : Fin 2048) (h : Fin 8) (e : Fin 64) : val_main_v248 (F := Ideal) (up q) (up gq) (up cq) (ix4 b s h e)
    = (gradH (at4 q) (turnBack (eighth cq)) gq b s h e : EReal) := by
  pointwise [val_main_v248, val_main_v247, val_main_v246, val_main_v245, val_main_v244, val_main_v243, val_main_v239, val_main_v238, val_main_cst_27]
  simp only [q_slope, q_dn, q_inv, Fin.sum_univ_one]
  have h := add_grad (N := 64) (by norm_num) (at4 q b s h) (fun d => turnBack (eighth cq) b s h d * gq (ix2 0 d)) e 0
  rw [zero_add, zero_add] at h
  exact h

theorem q_gain (u : Fin 1) (e : Fin 64) : val_main_v234 (F := Ideal) (up q) (up cq) (ix2 u e) = (gainH (at4 q) (turnBack (eighth cq)) e : EReal) := by
  have h : ∀ a b c, val_main_v228 (F := Ideal) (up q) (up cq) (ix4 a b c e)
      = ((at4 q a b c e * inv 64 (at4 q a b c) * turnBack (eighth cq) a b c e : ℝ) : EReal) := fun a b c => by
    pointwise [val_main_v228, val_main_v47, val_main_v46]
    rw [q_inv, q_dy, EReal.coe_mul, EReal.coe_mul]; rfl
  have h2 : ∀ a b c, val_main_v230 (F := Ideal) (up q) (up cq) (ix4 a b c e)
      = (gainH (at4 q) (turnBack (eighth cq)) e : EReal) := fun a b c => by
    pointwise [val_main_v230, val_main_v229, val_main_cst_23]
    refine (sum_front _ _ e).trans ?_
    simp only [h, coe_sum]
    refine congrArg _ ((sum_rows fun b s => ∑ h, at4 q b s h e * inv 64 (at4 q b s h) * turnBack (eighth cq) b s h e).trans ?_)
    exact Finset.sum_congr rfl fun r _ => Finset.sum_congr rfl fun h _ => by ring
  pointwise [val_main_v234, val_main_v233, val_main_cst_24]
  refine (sum_front _ _ e).trans ?_
  simp only [h2, Fin.sum_univ_one]

theorem ref_q : val_main_v251 (F := Ideal) (up q) (up gq) (up cq) = GH (at4 q) (turnBack (eighth cq)) gq := by
  funext y
  rw [eq_ix2 y]
  pointwise [val_main_v251, val_main_v250, val_main_v249]
  exact dite_padr _ (gradH (at4 q) (turnBack (eighth cq)) gq) (fun b s h e => q_grad q gq cq b s h e) sitofp_zero (sq (y 0)) (tk (y 0))
    ⟨(y 1).val / 128, by have : (y 1).val < 1024 := (y 1).isLt; omega⟩ (⟨(y 1).val % 128, by omega⟩ : Fin 128) _ _ _ _ rfl rfl rfl rfl

theorem ref_gq : val_main_v255 (F := Ideal) (up q) (up cq) = GGain (at4 q) (turnBack (eighth cq)) := by
  have key : ∀ (u : Fin 1) (e : Fin 128), val_main_v255 (F := Ideal) (up q) (up cq) (ix2 u e) = (padr (gainH (at4 q) (turnBack (eighth cq))) e : EReal) := fun u e => by
    pointwise [val_main_v255]
    unfold padr
    by_cases h : e.val < 64
    · rw [dif_pos h, dif_pos h]
      exact q_gain q cq 0 ⟨e.val, h⟩
    · rw [dif_neg h, dif_neg h]; exact sitofp_zero
  funext y
  rw [eq_ix2 y]
  exact key (y 0) (y 1)

theorem k_var (b : Fin 2) (s : Fin 2048) (h : Fin 2) (u : Fin 1) : val_main_v96 (F := Ideal) (up k) (ix4 b s h u) = (var 64 (at4 k b s h) : EReal) := by
  pointwise [val_main_v96, val_main_v95, val_main_v94, val_main_v93, val_main_v92, val_main_v91, val_main_v90, val_main_cst_13, val_main_cst_14, val_main_cst_15]
  simp only [up, ← EReal.coe_mul, coe_sum, c64, eps_coe]
  exact var_div (by norm_num) (at4 k b s h)

theorem k_inv (b : Fin 2) (s : Fin 2048) (h : Fin 2) (u : Fin 1) : val_main_v97 (F := Ideal) (up k) (ix4 b s h u) = (inv 64 (at4 k b s h) : EReal) := by
  pointwise [val_main_v97]
  rw [k_var, Rms.inv_div (by norm_num)]

theorem k_dy (b : Fin 2) (s : Fin 2048) (h : Fin 2) (e : Fin 64) : val_main_v173 (F := Ideal) (up ck) (ix4 b s h e) = (turnBack (at4 ck) b s h e : EReal) := by
  pointwise [val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v128, val_main_v127, val_main_v126, val_main_v125, val_main_v111, val_main_v110, val_main_v109, val_main_v108]
  simp only [up, v17_at, v34_at, Ideal.cos_coe, Ideal.sin_coe, ← EReal.coe_mul, ← EReal.coe_neg, ← EReal.coe_add]
  exact axial_if (θ1 s) (θ2 s) ((at4 ck) b s h) e

theorem k_dn (b : Fin 2) (s : Fin 2048) (h : Fin 2) (e : Fin 64) :
    val_main_v178 (F := Ideal) (up gk) (up ck) (ix4 b s h e) = ((turnBack (at4 ck) b s h e * gk (ix2 0 e) : ℝ) : EReal) := by
  pointwise [val_main_v178, val_main_v177, val_main_v103]
  rw [k_dy, EReal.coe_mul]; rfl

theorem k_slope (b : Fin 2) (s : Fin 2048) (h : Fin 2) (u : Fin 1) : val_main_v188 (F := Ideal) (up k) (up gk) (up ck) (ix4 b s h u)
    = (slope 64 (at4 k b s h) (fun d => turnBack (at4 ck) b s h d * gk (ix2 0 d)) : EReal) := by
  pointwise [val_main_v188, val_main_v187, val_main_v186, val_main_v183, val_main_v182, val_main_v181, val_main_v100, val_main_v99, val_main_v98, val_main_cst_16, val_main_cst_19, val_main_cst_20]
  simp only [k_dn, k_inv, k_var, up, ← EReal.coe_mul, coe_sum, c64, mhalf]
  exact slope_div (by norm_num) (at4 k b s h) (fun d => turnBack (at4 ck) b s h d * gk (ix2 0 d))

theorem k_grad (b : Fin 2) (s : Fin 2048) (h : Fin 2) (e : Fin 64) : val_main_v194 (F := Ideal) (up k) (up gk) (up ck) (ix4 b s h e)
    = (gradH (at4 k) (turnBack (at4 ck)) gk b s h e : EReal) := by
  pointwise [val_main_v194, val_main_v193, val_main_v192, val_main_v191, val_main_v190, val_main_v189, val_main_v185, val_main_v184, val_main_cst_21]
  simp only [k_slope, k_dn, k_inv, Fin.sum_univ_one]
  have h := add_grad (N := 64) (by norm_num) (at4 k b s h) (fun d => turnBack (at4 ck) b s h d * gk (ix2 0 d)) e 0
  rw [zero_add, zero_add] at h
  exact h

theorem k_gain (u : Fin 1) (e : Fin 64) : val_main_v180 (F := Ideal) (up k) (up ck) (ix2 u e) = (gainH (at4 k) (turnBack (at4 ck)) e : EReal) := by
  have h : ∀ a b c, val_main_v174 (F := Ideal) (up k) (up ck) (ix4 a b c e)
      = ((at4 k a b c e * inv 64 (at4 k a b c) * turnBack (at4 ck) a b c e : ℝ) : EReal) := fun a b c => by
    pointwise [val_main_v174, val_main_v102, val_main_v101]
    rw [k_inv, k_dy, EReal.coe_mul, EReal.coe_mul]; rfl
  have h2 : ∀ a b c, val_main_v176 (F := Ideal) (up k) (up ck) (ix4 a b c e)
      = (gainH (at4 k) (turnBack (at4 ck)) e : EReal) := fun a b c => by
    pointwise [val_main_v176, val_main_v175, val_main_cst_17]
    refine (sum_front _ _ e).trans ?_
    simp only [h, coe_sum]
    refine congrArg _ ((sum_rows fun b s => ∑ h, at4 k b s h e * inv 64 (at4 k b s h) * turnBack (at4 ck) b s h e).trans ?_)
    exact Finset.sum_congr rfl fun r _ => Finset.sum_congr rfl fun h _ => by ring
  pointwise [val_main_v180, val_main_v179, val_main_cst_18]
  refine (sum_front _ _ e).trans ?_
  simp only [h2, Fin.sum_univ_one]

theorem ref_k : val_main_v254 (F := Ideal) (up k) (up gk) (up ck) = GH (at4 k) (turnBack (at4 ck)) gk := by
  funext y
  rw [eq_ix2 y]
  pointwise [val_main_v254, val_main_v253, val_main_v252]
  exact dite_padr _ (gradH (at4 k) (turnBack (at4 ck)) gk) (fun b s h e => k_grad k gk ck b s h e) sitofp_zero (sq (y 0)) (tk (y 0))
    ⟨(y 1).val / 128, by have : (y 1).val < 256 := (y 1).isLt; omega⟩ (⟨(y 1).val % 128, by omega⟩ : Fin 128) _ _ _ _ rfl rfl rfl rfl

theorem ref_gk : val_main_v256 (F := Ideal) (up k) (up ck) = GGain (at4 k) (turnBack (at4 ck)) := by
  have key : ∀ (u : Fin 1) (e : Fin 128), val_main_v256 (F := Ideal) (up k) (up ck) (ix2 u e) = (padr (gainH (at4 k) (turnBack (at4 ck))) e : EReal) := fun u e => by
    pointwise [val_main_v256]
    unfold padr
    by_cases h : e.val < 64
    · rw [dif_pos h, dif_pos h]
      exact k_gain k ck 0 ⟨e.val, h⟩
    · rw [dif_neg h, dif_neg h]; exact sitofp_zero
  funext y
  rw [eq_ix2 y]
  exact key (y 0) (y 1)

end Cert.PrepB

end
-- ==== Proof.PrepBSign.lean ====
/-
  The matrix of signs as the second attention's queries' and keys' gradient reads it: the words of its literal, and the numbers they are.
-/
module

public import proofs.«01_k».proof.Proof.Gen.PrepBKernelIdeal.Launch
public import proofs.«01_k».proof.Proof.Rope

@[expose] public section

set_option maxRecDepth 16384

noncomputable section

namespace Cert.PrepB

open Idealize.ShloMosaic Cert.Rope
open Cert.PrepBKernelIdeal

/-- The words of 32 rows, the `q`-th such part of the table. -/
abbrev Rows (q : ℕ) : Prop := ∀ (i : Fin 32) (e : Fin 128), lit0t ((q * 32 + i.val) * 128 + e.val) = signBits 0 (signBits 32 0x0000#16 (q * 32 + i.val) e.val) (q * 32 + i.val) e.val

theorem rows0 : Rows 0 := by decide +kernel
theorem rows1 : Rows 1 := by decide +kernel
theorem rows2 : Rows 2 := by decide +kernel
theorem rows3 : Rows 3 := by decide +kernel

theorem lit_row (i e : Fin 128) : lit0t (i.val * 128 + e.val) = signBits 0 (signBits 32 0x0000#16 i.val e.val) i.val e.val := by
  have h : ∀ q : Fin 4, Rows q.val := fun q => match q with
    | 0 => rows0
    | 1 => rows1
    | 2 => rows2
    | 3 => rows3
  have h1 := h ⟨i.val / 32, by omega⟩ ⟨i.val % 32, by omega⟩ e
  dsimp only at h1
  rwa [show i.val / 32 * 32 + i.val % 32 = i.val by omega] at h1

/-- The matrix, element by element. -/
def signH : FVec Ideal S128x128 .bf16 := fun i => FloatOps.ofBits .bf16 (lit0 (S128x128.rowMajor i))

theorem signH_at (i e : Fin 128) : signH (ix2 i e) = ((cell 0 i e + cell 32 i e : ℝ) : EReal) := by
  have h : signH (ix2 i e) = Ideal.ofBits .bf16 (lit0t (i.val * 128 + e.val)) := congrArg (fun n => Ideal.ofBits .bf16 (lit0t n)) (row_major i e)
  rw [h, lit_row]
  have h32 := signBits_coe 32 (by norm_num) _ 0 b_zero i e (Or.inr rfl)
  rw [add_zero] at h32
  refine signBits_coe 0 (by norm_num) _ _ h32 i e ?_
  by_cases q : 0 ≤ i.val ∧ i.val < 0 + 32
  · refine Or.inr ?_
    have h1 : (i = above e) ↔ i.val = (e.val + 16) % 128 := Fin.ext_iff
    have h2 : (i = below e) ↔ i.val = e.val - 16 := Fin.ext_iff
    simp only [cell, h1, h2]
    split_ifs <;> first | omega | norm_num
  · exact Or.inl q

end Cert.PrepB

end
-- ==== Proof.PrepBKern.lean ====
/-
  The kernel's gradient through the second attention's queries and keys: 512 rows a grid point, ten heads turned by a matrix of
  signs, each through its norm, and the two gains' gradients summed over the heads and the points.
-/
module

public import proofs.«01_k».proof.Proof.Gen.PrepBKernelIdeal.Value
public import Idealize.ShloMosaic.Lib.Pipeline.ValueKit
public import Idealize.ShloMosaic.Lib.Pipeline.ReadBack
public import proofs.«01_k».proof.Proof.PrepBRef
public import proofs.«01_k».proof.Proof.PrepBSign

@[expose] public section

set_option maxRecDepth 16384

noncomputable section

namespace Cert.PrepB

open Idealize.ShloMosaic Idealize.ShloMosaic.TcCoe Idealize.SL.Sem
open Cert.Reals Cert.Rms Cert.Rope
open Cert.PrepBKernelIdeal Cert.PrepBKernelIdeal.Gen

variable (q : S2x2048x8x64.Idx → ℝ) (k : S2x2048x2x64.Idx → ℝ) (gq gk : S1x64.Idx → ℝ) (cq : S2x2048x8x64.Idx → ℝ) (ck : S2x2048x2x64.Idx → ℝ)

/-! What the host prepares. -/

def zeroF : FVec Ideal S_ .f32 := sitofp .f32 (constantI S_ 32 0#32)

/-- The tables of cosines and of sines: the row's angles twice, the column's twice. -/
def rowH : FVec Ideal S2048x16 .f32 := Cert.PrepBRefIdeal.Read.val_main_v17 (F := Ideal)
def colH : FVec Ideal S2048x16 .f32 := Cert.PrepBRefIdeal.Read.val_main_v34 (F := Ideal)
def cosH : FVec Ideal S2048x128 .f32 :=
  concatenate S2048x128 1 [⟨S2048x16, Host.cos rowH⟩, ⟨S2048x16, Host.cos rowH⟩, ⟨S2048x16, Host.cos colH⟩, ⟨S2048x16, Host.cos colH⟩,
    ⟨S2048x64, broadcastInDim S2048x64 ![] bcast_S_S2048x64 (constant S_ .f32 0x3F800000#32 : FVec Ideal S_ .f32)⟩]
    concatenates_S2048x16_S2048x16_S2048x16_S2048x16_S2048x64_S2048x128_d1
def sinH : FVec Ideal S2048x128 .f32 :=
  concatenate S2048x128 1 [⟨S2048x16, Host.sin rowH⟩, ⟨S2048x16, Host.sin rowH⟩, ⟨S2048x16, Host.sin colH⟩, ⟨S2048x16, Host.sin colH⟩,
    ⟨S2048x64, broadcastInDim S2048x64 ![] bcast_S_S2048x64 (constant S_ .f32 0x00000000#32 : FVec Ideal S_ .f32)⟩]
    concatenates_S2048x16_S2048x16_S2048x16_S2048x16_S2048x64_S2048x128_d1

/-- The heads and the gains filled up to 128 columns, and the heads in their place among the projected columns. -/
def qH (X : FVec Ideal S2x2048x8x64 .f32) : FVec Ideal S4096x1024 .f32 :=
  shapeCast S4096x1024 (pad S2x2048x8x128 ![0, 0, 0, 0] ![0, 0, 0, 64] ![0, 0, 0, 0] X zeroF pads_S2x2048x8x64_S2x2048x8x128_000_000_000_0640 h_S_)
    shapeCasts_S2x2048x8x128_S4096x1024
def kH (X : FVec Ideal S2x2048x2x64 .f32) : FVec Ideal S4096x256 .bf16 :=
  truncf .bf16 (shapeCast S4096x256 (pad S2x2048x2x128 ![0, 0, 0, 0] ![0, 0, 0, 64] ![0, 0, 0, 0] X zeroF pads_S2x2048x2x64_S2x2048x2x128_000_000_000_0640 h_S_)
    shapeCasts_S2x2048x2x128_S4096x256) bitsLt_bf16_f32
def gH (X : FVec Ideal S1x64 .f32) : FVec Ideal S1x128 .f32 := pad S1x128 ![0, 0] ![0, 64] ![0, 0] X zeroF pads_S1x64_S1x128_000_0640 h_S_
def zH (X : FVec Ideal S2x2048x8x64 .f32) (Y : FVec Ideal S2x2048x2x64 .f32) : FVec Ideal S4096x4096 .bf16 :=
  concatenate S4096x4096 1 [⟨S4096x1024, truncf .bf16 (qH X) bitsLt_bf16_f32⟩,
    ⟨S4096x512, broadcastInDim S4096x512 ![] bcast_S_S4096x512 (constant S_ .bf16 0x0000#16 : FVec Ideal S_ .bf16)⟩, ⟨S4096x256, kH Y⟩,
    ⟨S4096x2304, broadcastInDim S4096x2304 ![] bcast_S_S4096x2304 (constant S_ .bf16 0x0000#16 : FVec Ideal S_ .bf16)⟩]
    concatenates_S4096x1024_S4096x512_S4096x256_S4096x2304_S4096x4096_d1

section entry

variable (m : (ℓ : Loc nD τ sig) → Buf (Elt Ideal) ℓ) (c : Dev nD)

def aq : FVec Ideal S2x2048x8x64 .f32 := m ((c : Thread nD τ).loc main_arg0)
def ak : FVec Ideal S2x2048x2x64 .f32 := m ((c : Thread nD τ).loc main_arg1)
def agq : FVec Ideal S1x64 .f32 := m ((c : Thread nD τ).loc main_arg2)
def agk : FVec Ideal S1x64 .f32 := m ((c : Thread nD τ).loc main_arg3)
def acq : FVec Ideal S2x2048x8x64 .f32 := m ((c : Thread nD τ).loc main_arg4)
def ack : FVec Ideal S2x2048x2x64 .f32 := m ((c : Thread nD τ).loc main_arg5)

theorem V_def (b : Ref sig .tc) : V m c b = StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b)))))))))))))))))) b := rfl

set_option maxHeartbeats 2000000 in
theorem V_cos : V m c main_v85 = cosH := by rw [V_def]; after_results; rfl
set_option maxHeartbeats 2000000 in
theorem V_sin : V m c main_v86 = sinH := by rw [V_def]; after_results; rfl
set_option maxHeartbeats 2000000 in
theorem V_sign : V m c main_cst = signH := by rw [V_def]; after_results; rfl
set_option maxHeartbeats 2000000 in
theorem V_z : V m c main_v95 = zH (aq m c) (ak m c) := by rw [V_def]; after_results; rfl
set_option maxHeartbeats 2000000 in
theorem V_dq : V m c main_v97 = qH (acq m c) := by rw [V_def]; after_results; rfl
set_option maxHeartbeats 2000000 in
theorem V_dk : V m c main_v100 = kH (ack m c) := by rw [V_def]; after_results; rfl
set_option maxHeartbeats 2000000 in
theorem V_gq : V m c main_v101 = gH (agq m c) := by rw [V_def]; after_results; rfl
set_option maxHeartbeats 2000000 in
theorem V_gk : V m c main_v102 = gH (agk m c) := by rw [V_def]; after_results; rfl

end entry

/-- A table's row: the row's function on two blocks of sixteen columns, the column's on two more, `v` beyond. -/
def tab (v : ℝ) (f g : Fin 16 → ℝ) (e : Fin 128) : ℝ :=
  if h1 : e.val < 16 then f ⟨e.val, h1⟩ else if h2 : e.val - 16 < 16 then f ⟨e.val - 16, h2⟩
    else if h3 : e.val - 16 - 16 < 16 then g ⟨e.val - 16 - 16, h3⟩ else if h4 : e.val - 16 - 16 - 16 < 16 then g ⟨e.val - 16 - 16 - 16, h4⟩ else v

theorem tab_lo (v : ℝ) (f g : Fin 16 → ℝ) (e : Fin 128) (h : e.val < 32) : tab v f g e = f ⟨(e.val - 0) % 16, by omega⟩ := by
  unfold tab
  by_cases h1 : e.val < 16
  · rw [dif_pos h1]; exact congrArg f (Fin.ext (by show e.val = (e.val - 0) % 16; omega))
  · rw [dif_neg h1, dif_pos (by omega)]; exact congrArg f (Fin.ext (by show e.val - 16 = (e.val - 0) % 16; omega))

theorem tab_hi (v : ℝ) (f g : Fin 16 → ℝ) (e : Fin 128) (h : 32 ≤ e.val) (h2 : e.val < 64) : tab v f g e = g ⟨(e.val - 32) % 16, by omega⟩ := by
  unfold tab
  rw [dif_neg (by omega), dif_neg (by omega)]
  by_cases h1 : e.val - 16 - 16 < 16
  · rw [dif_pos h1]; exact congrArg g (Fin.ext (by show e.val - 16 - 16 = (e.val - 32) % 16; omega))
  · rw [dif_neg h1, dif_pos (by omega)]; exact congrArg g (Fin.ext (by show e.val - 16 - 16 - 16 = (e.val - 32) % 16; omega))

def cosr (s : Fin 2048) (e : Fin 128) : ℝ := tab 1 (fun j => Real.cos (θ1 s j)) (fun j => Real.cos (θ2 s j)) e
def sinr (s : Fin 2048) (e : Fin 128) : ℝ := tab 0 (fun j => Real.sin (θ1 s j)) (fun j => Real.sin (θ2 s j)) e

theorem cosH_at (s : Fin 2048) (e : Fin 128) : cosH (ix2 s e) = (cosr s e : EReal) := by
  pointwise [cosH, rowH, colH]
  simp only [v17_at, v34_at, Ideal.cos_coe]
  unfold cosr tab
  split_ifs <;> rfl

theorem sinH_at (s : Fin 2048) (e : Fin 128) : sinH (ix2 s e) = (sinr s e : EReal) := by
  pointwise [sinH, rowH, colH]
  simp only [v17_at, v34_at, Ideal.sin_coe]
  unfold sinr tab
  split_ifs <;> rfl

/-- A row's head, by the head's number. -/
def hd {H : ℕ} (f : Fin 2 → Fin 2048 → Fin H → Fin 64 → ℝ) (r : Fin 4096) (h : ℕ) (e : Fin 64) : ℝ := if hh : h < H then f (sq r) (tk r) ⟨h, hh⟩ e else 0

theorem hd_at {H : ℕ} (f : Fin 2 → Fin 2048 → Fin H → Fin 64 → ℝ) (r : Fin 4096) (h : Fin H) : hd f r h.val = f (sq r) (tk r) h :=
  funext fun e => dif_pos h.isLt

/-- What an array of filled heads holds at a column. -/
def col {W : ℕ} (x : ℕ → Fin 64 → ℝ) (k : Fin W) : ℝ := padr (x (k.val / 128)) (⟨k.val % 128, by omega⟩ : Fin 128)

theorem qH_at (X : S2x2048x8x64.Idx → ℝ) (r : Fin 4096) (k : Fin 1024) : qH (up X) (ix2 r k) = (col (hd (at4 X) r) k : EReal) := by
  have hk : k.val / 128 < 8 := by omega
  have e1 : hd (at4 X) r (k.val / 128) = fun e => X (ix4 (sq r) (tk r) ⟨k.val / 128, hk⟩ e) := hd_at (at4 X) r ⟨k.val / 128, hk⟩
  unfold col
  rw [e1]
  pointwise [qH, zeroF]
  exact dite_padr (up X) (fun b s h e => X (ix4 b s h e)) (fun _ _ _ _ => rfl) sitofp_zero (sq r) (tk r) ⟨k.val / 128, hk⟩ (⟨k.val % 128, by omega⟩ : Fin 128) _ _ _ _ rfl rfl rfl rfl

theorem kH_at (X : S2x2048x2x64.Idx → ℝ) (r : Fin 4096) (k : Fin 256) : kH (up X) (ix2 r k) = (col (hd (at4 X) r) k : EReal) := by
  have hk : k.val / 128 < 2 := by omega
  have e1 : hd (at4 X) r (k.val / 128) = fun e => X (ix4 (sq r) (tk r) ⟨k.val / 128, hk⟩ e) := hd_at (at4 X) r ⟨k.val / 128, hk⟩
  unfold col
  rw [e1]
  pointwise [kH, zeroF]
  exact dite_padr (up X) (fun b s h e => X (ix4 b s h e)) (fun _ _ _ _ => rfl) sitofp_zero (sq r) (tk r) ⟨k.val / 128, hk⟩ (⟨k.val % 128, by omega⟩ : Fin 128) _ _ _ _ rfl rfl rfl rfl

theorem gH_at (g : S1x64.Idx → ℝ) (e : Fin 128) : gH (up g) (ix2 0 e) = (padr (fun i : Fin 64 => g (ix2 0 i)) e : EReal) := by
  pointwise [gH, zeroF]
  unfold padr
  by_cases h : e.val < 64
  · rw [dif_pos h, dif_pos h]; rfl
  · rw [dif_neg h, dif_neg h]; exact sitofp_zero

theorem zH_q (r : Fin 4096) (e : Fin 1024) : zH (up q) (up k) (ix2 r ⟨e.val, by omega⟩) = (col (hd (at4 q) r) e : EReal) := by
  have h : zH (up q) (up k) (ix2 r ⟨e.val, by omega⟩) = qH (up q) (ix2 r e) := by
    pointwise [zH]
  rw [h, qH_at]

theorem zH_k (r : Fin 4096) (e : Fin 256) : zH (up q) (up k) (ix2 r ⟨1536 + e.val, by omega⟩) = (col (hd (at4 k) r) e : EReal) := by
  have h : zH (up q) (up k) (ix2 r ⟨1536 + e.val, by omega⟩) = kH (up k) (ix2 r e) := by
    pointwise [zH]
    rw [dif_neg (by omega), dif_neg (by omega), dif_pos (by omega)]
    exact congrArg (fun j => kH (up k) (ix2 r j)) (Fin.ext (by show 1536 + e.val - 1024 - 512 = e.val; omega))
  rw [h, kH_at]

/-! One head. -/

/-- The columns of one head, of rounded numbers. -/
def part {W : ℕ} (n : ℕ) (h : (⟨2, ![512, W]⟩ : Shape).Slices ![0, n] S512x128) (z : FVec Ideal ⟨2, ![512, W]⟩ .bf16) : FVec Ideal S512x128 .f32 :=
  extf .f32 (extractStridedSlice S512x128 ![0, n] z h) bitsLt_bf16_f32

def rs (Z : FVec Ideal S512x128 .f32) : FVec Ideal S512x1 .f32 :=
  rsqrt (addf (mulf (shapeCast S512x1 (multiReduction .add [1] S512 (mulf Z Z) 0x00000000#32 reduces_S512x128_S512 (.inl rfl) rfl) shapeCasts_S512_S512x1)
    (broadcast S512x1 (Scalar.ofBits .f32 0x3C800000#32 : Ideal .f32))) (broadcast S512x1 (Scalar.ofBits .f32 0x358637BD#32 : Ideal .f32)))
def nrm (Z : FVec Ideal S512x128 .f32) : FVec Ideal S512x128 .f32 := mulf Z (broadcastTo S512x128 (rs Z) broadcasts_S512x1_S512x128)

/-- The gradient through the norm, and the head's part of the gain's gradient. -/
def hgrad (T Z : FVec Ideal S512x128 .f32) (g : FVec Ideal S1x128 .f32) : FVec Ideal S512x128 .f32 :=
  mulf (broadcastTo S512x128 (rs Z) broadcasts_S512x1_S512x128) (subf (mulf T (broadcastTo S512x128 g broadcasts_S1x128_S512x128))
    (mulf (nrm Z) (broadcastTo S512x128 (mulf (shapeCast S512x1 (multiReduction .add [1] S512
      (mulf (mulf T (broadcastTo S512x128 g broadcasts_S1x128_S512x128)) (nrm Z)) 0x00000000#32 reduces_S512x128_S512 (.inl rfl) rfl) shapeCasts_S512_S512x1)
      (broadcast S512x1 (Scalar.ofBits .f32 0x3C800000#32 : Ideal .f32))) broadcasts_S512x1_S512x128)))
def hgain (T Z : FVec Ideal S512x128 .f32) : FVec Ideal S1x128 .f32 :=
  shapeCast S1x128 (multiReduction .add [0] S128 (mulf T (nrm Z)) 0x00000000#32 reduces_S512x128_S128 (.inl rfl) rfl) shapeCasts_S128_S1x128

section head

variable (T Z : FVec Ideal S512x128 .f32) (g : FVec Ideal S1x128 .f32) (x d : Fin 512 → Fin 64 → ℝ) (γ : Fin 64 → ℝ)
  (hT : ∀ r e, T (ix2 r e) = (padr (d r) e : EReal)) (hZ : ∀ r e, Z (ix2 r e) = (padr (x r) e : EReal)) (hg : ∀ e, g (ix2 0 e) = (padr γ e : EReal))

theorem padr_mul (f h : Fin 64 → ℝ) (e : Fin 128) : padr f e * padr h e = padr (fun i => f i * h i) e := by
  unfold padr; split <;> simp

theorem padr_scale (f : Fin 64 → ℝ) (a : ℝ) (e : Fin 128) : padr f e * a = padr (fun i => f i * a) e := by
  unfold padr; split <;> simp

theorem sum_filled (f : Fin 64 → ℝ) : ∑ e : Fin 128, padr f e = ∑ i, f i := by
  have h := sum_padr_mul (N := 128) (by norm_num) f fun _ => (1 : ℝ)
  simp only [mul_one] at h
  rw [← h]
  exact Finset.sum_congr rfl fun e _ => by rw [padr_mul]; simp only [mul_one]

include hZ in
theorem rs_at (r : Fin 512) (u : Fin 1) : rs Z (ix2 r u) = (inv 64 (x r) : EReal) := by
  pointwise [rs]
  simp only [hZ, ← EReal.coe_mul, coe_sum, r64, eps_coe]
  rw [sum_padr_mul (by norm_num) (x r) (x r)]
  exact inv_mul (by norm_num) (x r)

include hZ in
theorem nrm_at (r : Fin 512) (e : Fin 128) : nrm Z (ix2 r e) = (padr (fun i => x r i * inv 64 (x r)) e : EReal) := by
  pointwise [nrm]
  rw [rs_at Z x hZ, hZ, ← EReal.coe_mul, padr_scale]

include hT hZ hg

theorem hgrad_at (r : Fin 512) (e : Fin 128) : hgrad T Z g (ix2 r e) = (padr (grad 64 (x r) (fun i => d r i * γ i)) e : EReal) := by
  pointwise [hgrad]
  simp only [rs_at Z x hZ, nrm_at Z x hZ, hT, hg, ← EReal.coe_mul, padr_mul, coe_sum, r64, ← EReal.coe_sub, sum_padr]
  refine congrArg _ ?_
  rw [sum_filled]
  unfold padr grad
  by_cases h : e.val < 64
  · simp only [dif_pos h]; ring
  · simp only [dif_neg h]; ring

omit hg

theorem hgain_at (e : Fin 128) : hgain T Z (ix2 0 e) = (padr (fun i => ∑ r, d r i * (x r i * inv 64 (x r))) e : EReal) := by
  pointwise [hgain]
  simp only [nrm_at Z x hZ, hT, ← EReal.coe_mul, padr_mul, coe_sum, sum_padr]

end head

/-- The turn's gradient at the tables' row, of a filled head, times a constant. -/
theorem turn_real (s : Fin 2048) (y : Fin 64 → ℝ) (κ : ℝ) (e : Fin 128) :
    (padr y e * cosr s e + ∑ i, padr y i * sinr s i * (cell 0 i e + cell 32 i e)) * κ = padr (axial (θ1 s) (θ2 s) fun i => y i * κ) e := by
  simp only [mul_add, Finset.sum_add_distrib]
  rw [sum_cell 0 (fun i => padr y i * sinr s i) e, sum_cell 32 (fun i => padr y i * sinr s i) e]
  by_cases h1 : e.val < 32
  · rw [turn_out 32 _ e (by omega), add_zero, turn_block 0 (by omega) (θ1 s) (padr y) (cosr s) (sinr s) (fun i _ b => tab_lo 1 _ _ i (by omega))
      (fun i _ b => tab_lo 0 _ _ i (by omega)) e (by omega) (by omega), back_scale, padr, dif_pos (by omega), axial, dif_pos (by exact h1)]
    refine congrArg (fun z => back (θ1 s) z _) (funext fun j => ?_)
    have e0 : (⟨0 + j.val, by omega⟩ : Fin 128) = ⟨j.val, by omega⟩ := Fin.ext (by show 0 + j.val = j.val; omega)
    rw [e0, padr, dif_pos (by show j.val < 64; omega)]
  by_cases h2 : e.val < 64
  · rw [turn_out 0 _ e (by omega), zero_add, turn_block 32 (by omega) (θ2 s) (padr y) (cosr s) (sinr s) (fun i a b => tab_hi 1 _ _ i a (by omega))
      (fun i a b => tab_hi 0 _ _ i a (by omega)) e (by omega) (by omega), back_scale, padr, dif_pos h2, axial, dif_neg (by exact h1)]
    refine congrArg (fun z => back (θ2 s) z _) (funext fun j => ?_)
    rw [padr, dif_pos (by show 32 + j.val < 64; omega)]
  · rw [turn_out 0 _ e (by omega), turn_out 32 _ e (by omega), padr, padr, dif_neg h2, dif_neg h2]; ring

/-! The heads of a block. -/

def qturn (n : ℕ) (h : S512x1024.Slices ![0, n] S512x128) (v : FVec Ideal S512x1024 .f32) (c s : FVec Ideal S512x128 .f32) (p : FVec Ideal S128x128 .bf16) :
    FVec Ideal S512x128 .f32 := turned 0x3E000000#32 (extractStridedSlice S512x128 ![0, n] v h) c s p
def kturn (n : ℕ) (h : S512x256.Slices ![0, n] S512x128) (v : FVec Ideal S512x256 .bf16) (c s : FVec Ideal S512x128 .f32) (p : FVec Ideal S128x128 .bf16) :
    FVec Ideal S512x128 .f32 := turned 0x3F800000#32 (part n h v) c s p

def qgrad (n : ℕ) (h : S512x1024.Slices ![0, n] S512x128) (v : FVec Ideal S512x1024 .f32) (z : FVec Ideal S512x1024 .bf16) (c s : FVec Ideal S512x128 .f32)
    (p : FVec Ideal S128x128 .bf16) (g : FVec Ideal S1x128 .f32) : FVec Ideal S512x128 .f32 := hgrad (qturn n h v c s p) (part n h z) g
def kgrad (n : ℕ) (h : S512x256.Slices ![0, n] S512x128) (v z : FVec Ideal S512x256 .bf16) (c s : FVec Ideal S512x128 .f32)
    (p : FVec Ideal S128x128 .bf16) (g : FVec Ideal S1x128 .f32) : FVec Ideal S512x128 .f32 := hgrad (kturn n h v c s p) (part n h z) g
def qgain (n : ℕ) (h : S512x1024.Slices ![0, n] S512x128) (v : FVec Ideal S512x1024 .f32) (z : FVec Ideal S512x1024 .bf16) (c s : FVec Ideal S512x128 .f32)
    (p : FVec Ideal S128x128 .bf16) : FVec Ideal S1x128 .f32 := hgain (qturn n h v c s p) (part n h z)
def kgain (n : ℕ) (h : S512x256.Slices ![0, n] S512x128) (v z : FVec Ideal S512x256 .bf16) (c s : FVec Ideal S512x128 .f32)
    (p : FVec Ideal S128x128 .bf16) : FVec Ideal S1x128 .f32 := hgain (kturn n h v c s p) (part n h z)

def qgrads (v : FVec Ideal S512x1024 .f32) (z : FVec Ideal S512x1024 .bf16) (c s : FVec Ideal S512x128 .f32) (p : FVec Ideal S128x128 .bf16)
    (g : FVec Ideal S1x128 .f32) : FVec Ideal S512x1024 .bf16 :=
  truncf .bf16 (concatenate S512x1024 1 [⟨S512x128, qgrad 0 slices_S512x1024_o0_0_S512x128 v z c s p g⟩,
    ⟨S512x128, qgrad 128 slices_S512x1024_o0_128_S512x128 v z c s p g⟩,
    ⟨S512x128, qgrad 256 slices_S512x1024_o0_256_S512x128 v z c s p g⟩,
    ⟨S512x128, qgrad 384 slices_S512x1024_o0_384_S512x128 v z c s p g⟩,
    ⟨S512x128, qgrad 512 slices_S512x1024_o0_512_S512x128 v z c s p g⟩,
    ⟨S512x128, qgrad 640 slices_S512x1024_o0_640_S512x128 v z c s p g⟩,
    ⟨S512x128, qgrad 768 slices_S512x1024_o0_768_S512x128 v z c s p g⟩,
    ⟨S512x128, qgrad 896 slices_S512x1024_o0_896_S512x128 v z c s p g⟩]
    concatenates_S512x128_S512x128_S512x128_S512x128_S512x128_S512x128_S512x128_S512x128_S512x1024_d1) bitsLt_bf16_f32
def kgrads (v z : FVec Ideal S512x256 .bf16) (c s : FVec Ideal S512x128 .f32) (p : FVec Ideal S128x128 .bf16) (g : FVec Ideal S1x128 .f32) :
    FVec Ideal S512x256 .bf16 :=
  truncf .bf16 (concatenate S512x256 1 [⟨S512x128, kgrad 0 slices_S512x256_o0_0_S512x128 v z c s p g⟩,
    ⟨S512x128, kgrad 128 slices_S512x256_o0_128_S512x128 v z c s p g⟩] concatenates_S512x128_S512x128_S512x256_d1) bitsLt_bf16_f32
def qgains (v : FVec Ideal S512x1024 .f32) (z : FVec Ideal S512x1024 .bf16) (c s : FVec Ideal S512x128 .f32) (p : FVec Ideal S128x128 .bf16) :
    FVec Ideal S1x128 .f32 := (addf (addf (addf (addf (addf (addf (addf (qgain 0 slices_S512x1024_o0_0_S512x128 v z c s p) (qgain 128 slices_S512x1024_o0_128_S512x128 v z c s p)) (qgain 256 slices_S512x1024_o0_256_S512x128 v z c s p)) (qgain 384 slices_S512x1024_o0_384_S512x128 v z c s p)) (qgain 512 slices_S512x1024_o0_512_S512x128 v z c s p)) (qgain 640 slices_S512x1024_o0_640_S512x128 v z c s p)) (qgain 768 slices_S512x1024_o0_768_S512x128 v z c s p)) (qgain 896 slices_S512x1024_o0_896_S512x128 v z c s p))
def kgains (v z : FVec Ideal S512x256 .bf16) (c s : FVec Ideal S512x128 .f32) (p : FVec Ideal S128x128 .bf16) : FVec Ideal S1x128 .f32 :=
  addf (kgain 0 slices_S512x256_o0_0_S512x128 v z c s p) (kgain 128 slices_S512x256_o0_128_S512x128 v z c s p)

section heads

theorem part_at {W : ℕ} (z : FVec Ideal ⟨2, ![512, W]⟩ .bf16) (x : Fin 512 → ℕ → Fin 64 → ℝ) (hz : ∀ r k, z (ix2 r k) = (col (x r) k : EReal))
    (n : ℕ) (hn : n % 128 = 0) (h : (⟨2, ![512, W]⟩ : Shape).Slices ![0, n] S512x128) (r : Fin 512) (e : Fin 128) :
    part n h z (ix2 r e) = (padr (x r (n / 128)) e : EReal) := by
  have key : ∀ y : (⟨2, ![512, W]⟩ : Shape).Idx, (y 0).val = r.val → (y 1).val = n + e.val → z y = (padr (x r (n / 128)) e : EReal) := fun y h0 h1 => by
    have e0 : y 0 = r := Fin.ext h0
    have e1 : (y 1).val / 128 = n / 128 := by omega
    have e2 : (⟨(y 1).val % 128, by omega⟩ : Fin 128) = e := Fin.ext (by show (y 1).val % 128 = e.val; omega)
    refine (congrArg z (eq_ix2 y)).trans ((hz (y 0) (y 1)).trans ?_)
    unfold col
    refine (congrArg (fun a : Fin 512 => ((padr (x a ((y 1).val / 128)) (⟨(y 1).val % 128, by omega⟩ : Fin 128) : ℝ) : EReal)) e0).trans ?_
    exact congrArg₂ (fun h i => ((padr (x r h) i : ℝ) : EReal)) e1 e2
  pointwise [part]
  exact key _ (by show 0 + r.val = r.val; omega) rfl

variable (w : Fin 512 → Fin 2048) (c s : FVec Ideal S512x128 .f32) (p : FVec Ideal S128x128 .bf16) (hc : ∀ r e, c (ix2 r e) = (cosr (w r) e : EReal))
  (hs : ∀ r e, s (ix2 r e) = (sinr (w r) e : EReal)) (hp : ∀ i e, p (ix2 i e) = ((cell 0 i e + cell 32 i e : ℝ) : EReal))
  (g : FVec Ideal S1x128 .f32) (γ : Fin 64 → ℝ) (hg : ∀ e, g (ix2 0 e) = (padr γ e : EReal)) (x d : Fin 512 → ℕ → Fin 64 → ℝ)

/-- A head's cotangent with the turn undone, its gradient, and its part of the gain's gradient. -/
def tb (κ : ℝ) (r : Fin 512) (h : ℕ) (e : Fin 64) : ℝ := axial (θ1 (w r)) (θ2 (w r)) (fun i => d r h i * κ) e
def gv (κ : ℝ) (r : Fin 512) (h : ℕ) (e : Fin 64) : ℝ := grad 64 (x r h) (fun i => tb w d κ r h i * γ i) e
def sv (κ : ℝ) (h : ℕ) (e : Fin 64) : ℝ := ∑ r, tb w d κ r h e * (x r h e * inv 64 (x r h))

include hc hs hp

section queries

variable (v : FVec Ideal S512x1024 .f32) (z : FVec Ideal S512x1024 .bf16) (hv : ∀ r k, v (ix2 r k) = (col (d r) k : EReal)) (hz : ∀ r k, z (ix2 r k) = (col (x r) k : EReal))

include hv

theorem qturn_at (n : ℕ) (hn : n % 128 = 0) (h : S512x1024.Slices ![0, n] S512x128) (r : Fin 512) (e : Fin 128) :
    qturn n h v c s p (ix2 r e) = (padr (tb w d (1 / 8) r (n / 128)) e : EReal) := by
  refine (turned_at _ (1 / 8) eighth_coe _ c s p (fun r => padr (d r (n / 128))) (fun r => cosr (w r)) (fun r => sinr (w r)) (fun i e => cell 0 i e + cell 32 i e)
    (fun r e => ?_) hc hs hp r e).trans (congrArg _ (turn_real (w r) (d r (n / 128)) (1 / 8) e))
  have e1 : (n + e.val) / 128 = n / 128 := by omega
  have e2 : (⟨(n + e.val) % 128, by omega⟩ : Fin 128) = e := Fin.ext (by show (n + e.val) % 128 = e.val; omega)
  pointwise
  rw [hv, col]
  exact congrArg₂ (fun h i => ((padr (d r h) i : ℝ) : EReal)) e1 e2

include hz

theorem qgain_at (n : ℕ) (hn : n % 128 = 0) (h : S512x1024.Slices ![0, n] S512x128) (e : Fin 128) :
    qgain n h v z c s p (ix2 0 e) = (padr (sv w x d (1 / 8) (n / 128)) e : EReal) :=
  hgain_at _ _ (fun r => x r (n / 128)) (fun r => tb w d (1 / 8) r (n / 128)) (qturn_at w c s p hc hs hp d v hv n hn h) (part_at z x hz n hn h) e

theorem qgains_at (e : Fin 128) : qgains v z c s p (ix2 0 e) = (padr (fun i => ∑ h : Fin 8, sv w x d (1 / 8) h.val i) e : EReal) := by
  pointwise [qgains]
  rw [qgain_at w c s p hc hs hp x d v z hv hz 0 rfl, qgain_at w c s p hc hs hp x d v z hv hz 128 rfl, qgain_at w c s p hc hs hp x d v z hv hz 256 rfl, qgain_at w c s p hc hs hp x d v z hv hz 384 rfl, qgain_at w c s p hc hs hp x d v z hv hz 512 rfl, qgain_at w c s p hc hs hp x d v z hv hz 640 rfl, qgain_at w c s p hc hs hp x d v z hv hz 768 rfl, qgain_at w c s p hc hs hp x d v z hv hz 896 rfl]
  simp only [← EReal.coe_add, padr_add, Fin.sum_univ_eight]
  rfl

include hg

theorem qgrad_at (n : ℕ) (hn : n % 128 = 0) (h : S512x1024.Slices ![0, n] S512x128) (r : Fin 512) (e : Fin 128) :
    qgrad n h v z c s p g (ix2 r e) = (padr (gv w γ x d (1 / 8) r (n / 128)) e : EReal) :=
  hgrad_at _ _ g (fun r => x r (n / 128)) (fun r => tb w d (1 / 8) r (n / 128)) γ (qturn_at w c s p hc hs hp d v hv n hn h) (part_at z x hz n hn h) hg r e

theorem qgrads_at (r : Fin 512) (k : Fin 1024) : qgrads v z c s p g (ix2 r k) = (col (gv w γ x d (1 / 8) r) k : EReal) := by
  pointwise [qgrads]
  simp only [qgrad_at w c s p hc hs hp g γ hg x d v z hv hz 0 rfl, qgrad_at w c s p hc hs hp g γ hg x d v z hv hz 128 rfl, qgrad_at w c s p hc hs hp g γ hg x d v z hv hz 256 rfl, qgrad_at w c s p hc hs hp g γ hg x d v z hv hz 384 rfl, qgrad_at w c s p hc hs hp g γ hg x d v z hv hz 512 rfl, qgrad_at w c s p hc hs hp g γ hg x d v z hv hz 640 rfl, qgrad_at w c s p hc hs hp g γ hg x d v z hv hz 768 rfl, qgrad_at w c s p hc hs hp g γ hg x d v z hv hz 896 rfl]
  refine (eight (fun n e => (padr (gv w γ x d (1 / 8) r (n / 128)) e : EReal)) k).trans ?_
  rw [col, show 128 * (k.val / 128) / 128 = k.val / 128 by omega]

end queries

section keys

variable (v z : FVec Ideal S512x256 .bf16) (hv : ∀ r k, v (ix2 r k) = (col (d r) k : EReal)) (hz : ∀ r k, z (ix2 r k) = (col (x r) k : EReal))

include hv

theorem kturn_at (n : ℕ) (hn : n % 128 = 0) (h : S512x256.Slices ![0, n] S512x128) (r : Fin 512) (e : Fin 128) :
    kturn n h v c s p (ix2 r e) = (padr (tb w d 1 r (n / 128)) e : EReal) :=
  (turned_at _ 1 one_coe _ c s p (fun r => padr (d r (n / 128))) (fun r => cosr (w r)) (fun r => sinr (w r)) (fun i e => cell 0 i e + cell 32 i e)
    (part_at v d hv n hn h) hc hs hp r e).trans (congrArg _ (turn_real (w r) (d r (n / 128)) 1 e))

include hz

theorem kgain_at (n : ℕ) (hn : n % 128 = 0) (h : S512x256.Slices ![0, n] S512x128) (e : Fin 128) :
    kgain n h v z c s p (ix2 0 e) = (padr (sv w x d 1 (n / 128)) e : EReal) :=
  hgain_at _ _ (fun r => x r (n / 128)) (fun r => tb w d 1 r (n / 128)) (kturn_at w c s p hc hs hp d v hv n hn h) (part_at z x hz n hn h) e

theorem kgains_at (e : Fin 128) : kgains v z c s p (ix2 0 e) = (padr (fun i => ∑ h : Fin 2, sv w x d 1 h.val i) e : EReal) := by
  pointwise [kgains]
  rw [kgain_at w c s p hc hs hp x d v z hv hz 0 rfl, kgain_at w c s p hc hs hp x d v z hv hz 128 rfl]
  simp only [← EReal.coe_add, padr_add, Fin.sum_univ_two]
  rfl

include hg

theorem kgrad_at (n : ℕ) (hn : n % 128 = 0) (h : S512x256.Slices ![0, n] S512x128) (r : Fin 512) (e : Fin 128) :
    kgrad n h v z c s p g (ix2 r e) = (padr (gv w γ x d 1 r (n / 128)) e : EReal) :=
  hgrad_at _ _ g (fun r => x r (n / 128)) (fun r => tb w d 1 r (n / 128)) γ (kturn_at w c s p hc hs hp d v hv n hn h) (part_at z x hz n hn h) hg r e

theorem kgrads_at (r : Fin 512) (k : Fin 256) : kgrads v z c s p g (ix2 r k) = (col (gv w γ x d 1 r) k : EReal) := by
  pointwise [kgrads]
  simp only [kgrad_at w c s p hc hs hp g γ hg x d v z hv hz 0 rfl, kgrad_at w c s p hc hs hp g γ hg x d v z hv hz 128 rfl]
  rw [col]
  by_cases h : k.val < 128
  · have e1 : k.val / 128 = 0 / 128 := by omega
    have e2 : (⟨k.val % 128, by omega⟩ : Fin 128) = ⟨k.val, h⟩ := Fin.ext (by show k.val % 128 = k.val; omega)
    rw [dif_pos h, e1, e2]
  · have e1 : k.val / 128 = 128 / 128 := by omega
    have e2 : (⟨k.val % 128, by omega⟩ : Fin 128) = ⟨k.val - 128, by omega⟩ := Fin.ext (by show k.val % 128 = k.val - 128; omega)
    rw [dif_neg h, e1, e2]

end keys

end heads

/-! The blocks at a grid point. -/

theorem idx : ∀ t : Fin cfg0.N, win0_0.index t = ![t.val, 0] ∧ win0_1.index t = ![t.val, 0] ∧ win0_2.index t = ![t.val, 0] ∧ win0_3.index t = ![t.val, 6]
    ∧ win0_4.index t = ![t.val % 4, 0] ∧ win0_5.index t = ![t.val % 4, 0] ∧ win0_6.index t = ![0, 0] ∧ win0_7.index t = ![0, 0] ∧ win0_8.index t = ![0, 0]
    ∧ win0_9.index t = ![t.val, 0] ∧ win0_10.index t = ![t.val, 0] ∧ win0_11.index t = ![0, 0] ∧ win0_12.index t = ![0, 0] :=
  (by decide +kernel : ∀ t : Fin grid0.N, _)

theorem lt8 (t : Fin cfg0.N) : t.val < 8 := lt_of_lt_of_eq t.isLt N_0

/-- The row of the arrays that a row of a block is. -/
def row (t : Fin cfg0.N) (r : Fin 512) : Fin 4096 := ⟨t.val * 512 + r.val, by have := lt8 t; omega⟩

theorem tk_row (t : Fin cfg0.N) (r : Fin 512) : (⟨t.val % 4 * 512 + r.val, by omega⟩ : Fin 2048) = tk (row t r) := Fin.ext (by
  show t.val % 4 * 512 + r.val = (t.val * 512 + r.val) % 2048
  have := lt8 t; omega)

/-- What the arguments are, as real numbers. -/
structure Args (m : (ℓ : Loc nD τ sig) → Buf (Elt Ideal) ℓ) (c : Dev nD) : Prop where
  hq : aq m c = up q
  hk : ak m c = up k
  hgq : agq m c = up gq
  hgk : agk m c = up gk
  hcq : acq m c = up cq
  hck : ack m c = up ck

section blocks

variable (m : (ℓ : Loc nD τ sig) → Buf (Elt Ideal) ℓ) (c : Dev nD) (H : Args q k gq gk cq ck m c) (t : Fin cfg0.N)

/-- The blocks as the body reads them. -/
def DQ : FVec Ideal S512x1024 .f32 := k0_pay6 (iblk m c 0 t)
def DK : FVec Ideal S512x256 .bf16 := k0_pay7 (iblk m c 1 t)
def ZQ : FVec Ideal S512x1024 .bf16 := k0_pay8 (iblk m c 2 t)
def ZK : FVec Ideal S512x256 .bf16 := k0_pay9 (iblk m c 3 t)
def PC : FVec Ideal S512x128 .f32 := k0_pay10 (iblk m c 4 t)
def PS : FVec Ideal S512x128 .f32 := k0_pay11 (iblk m c 5 t)
def GQb : FVec Ideal S1x128 .f32 := k0_pay12 (iblk m c 6 t)
def GKb : FVec Ideal S1x128 .f32 := k0_pay13 (iblk m c 7 t)
def PP : FVec Ideal S128x128 .bf16 := iblk m c 8 t

theorem PC_at (r : Fin 512) (e : Fin 128) : PC m c t (ix2 r e) = (cosr (tk (row t r)) e : EReal) := by
  have e0 : ((View.whole main_v85).slice (win0_4.rect t)).emb (ix2 r e) = (ix2 ⟨t.val % 4 * 512 + r.val, by omega⟩ e : S2048x128.Idx) := by blk_ext [idx t]
  pointwise [PC, k0_pay10]
  blk_simp [iblk]
  rw [V_cos, e0, tk_row, cosH_at]

theorem PS_at (r : Fin 512) (e : Fin 128) : PS m c t (ix2 r e) = (sinr (tk (row t r)) e : EReal) := by
  have e0 : ((View.whole main_v86).slice (win0_5.rect t)).emb (ix2 r e) = (ix2 ⟨t.val % 4 * 512 + r.val, by omega⟩ e : S2048x128.Idx) := by blk_ext [idx t]
  pointwise [PS, k0_pay11]
  blk_simp [iblk]
  rw [V_sin, e0, tk_row, sinH_at]

theorem PP_at (i e : Fin 128) : PP m c t (ix2 i e) = ((cell 0 i e + cell 32 i e : ℝ) : EReal) := by
  have e0 : ((View.whole main_cst).slice (win0_8.rect t)).emb (ix2 i e) = (ix2 i e : S128x128.Idx) := by blk_ext [idx t]
  unfold PP
  blk_simp [iblk]
  rw [V_sign, e0]
  exact signH_at i e

include H

theorem DQ_at (r : Fin 512) (e : Fin 1024) : DQ m c t (ix2 r e) = (col (hd (at4 cq) (row t r)) e : EReal) := by
  have e0 : ((View.whole main_v97).slice (win0_0.rect t)).emb (ix2 r e) = (ix2 (row t r) e : S4096x1024.Idx) := by blk_ext [idx t, row]
  pointwise [DQ, k0_pay6]
  blk_simp [iblk]
  rw [V_dq, H.hcq, e0, qH_at]

theorem DK_at (r : Fin 512) (e : Fin 256) : DK m c t (ix2 r e) = (col (hd (at4 ck) (row t r)) e : EReal) := by
  have e0 : ((View.whole main_v100).slice (win0_1.rect t)).emb (ix2 r e) = (ix2 (row t r) e : S4096x256.Idx) := by blk_ext [idx t, row]
  have h : DK m c t (ix2 r e) = V m c main_v100 (((View.whole main_v100).slice (win0_1.rect t)).emb (ix2 r e)) := by
    pointwise [DK, k0_pay7]
    blk_simp [iblk]
  rw [h, V_dk, H.hck, e0]
  exact kH_at ck (row t r) e

theorem ZQ_at (r : Fin 512) (e : Fin 1024) : ZQ m c t (ix2 r e) = (col (hd (at4 q) (row t r)) e : EReal) := by
  have e0 : ((View.whole main_v95).slice (win0_2.rect t)).emb (ix2 r e) = (ix2 (row t r) ⟨e.val, by omega⟩ : S4096x4096.Idx) := by blk_ext [idx t, row]
  have h : ZQ m c t (ix2 r e) = V m c main_v95 (((View.whole main_v95).slice (win0_2.rect t)).emb (ix2 r e)) := by
    pointwise [ZQ, k0_pay8]
    blk_simp [iblk]
  rw [h, V_z, H.hq, H.hk, e0]
  exact zH_q q k (row t r) e

theorem ZK_at (r : Fin 512) (e : Fin 256) : ZK m c t (ix2 r e) = (col (hd (at4 k) (row t r)) e : EReal) := by
  have e0 : ((View.whole main_v95).slice (win0_3.rect t)).emb (ix2 r e) = (ix2 (row t r) ⟨1536 + e.val, by omega⟩ : S4096x4096.Idx) := by blk_ext [idx t, row]
  have h : ZK m c t (ix2 r e) = V m c main_v95 (((View.whole main_v95).slice (win0_3.rect t)).emb (ix2 r e)) := by
    pointwise [ZK, k0_pay9]
    blk_simp [iblk]
  rw [h, V_z, H.hq, H.hk, e0]
  exact zH_k q k (row t r) e

theorem GQb_at (e : Fin 128) : GQb m c t (ix2 0 e) = (padr (fun i : Fin 64 => gq (ix2 0 i)) e : EReal) := by
  have e0 : ((View.whole main_v101).slice (win0_6.rect t)).emb (ix2 0 e) = (ix2 0 e : S1x128.Idx) := by blk_ext [idx t]
  pointwise [GQb, k0_pay12]
  blk_simp [iblk]
  rw [V_gq, H.hgq, e0, gH_at]

theorem GKb_at (e : Fin 128) : GKb m c t (ix2 0 e) = (padr (fun i : Fin 64 => gk (ix2 0 i)) e : EReal) := by
  have e0 : ((View.whole main_v102).slice (win0_7.rect t)).emb (ix2 0 e) = (ix2 0 e : S1x128.Idx) := by blk_ext [idx t]
  pointwise [GKb, k0_pay13]
  blk_simp [iblk]
  rw [V_gk, H.hgk, e0, gH_at]

omit H

/-- The results at a point, as the body composes them. -/
def QP : FVec Ideal S512x1024 .bf16 := qgrads (DQ m c t) (ZQ m c t) (PC m c t) (PS m c t) (PP m c t) (GQb m c t)
def KP : FVec Ideal S512x256 .bf16 := kgrads (DK m c t) (ZK m c t) (PC m c t) (PS m c t) (PP m c t) (GKb m c t)
def QG : FVec Ideal S1x128 .f32 := qgains (DQ m c t) (ZQ m c t) (PC m c t) (PS m c t) (PP m c t)
def KG : FVec Ideal S1x128 .f32 := kgains (DK m c t) (ZK m c t) (PC m c t) (PS m c t) (PP m c t)

/-- A row's part of a gain's gradient. -/
def part1 {H : ℕ} (x d : Fin 2 → Fin 2048 → Fin H → Fin 64 → ℝ) (r : Fin 4096) (e : Fin 64) : ℝ :=
  ∑ h, d (sq r) (tk r) h e * (x (sq r) (tk r) h e * inv 64 (x (sq r) (tk r) h))

/-- The heads' real numbers are the reference's. -/
theorem tb_eq {H : ℕ} (d D : Fin 2 → Fin 2048 → Fin H → Fin 64 → ℝ) (κ : ℝ) (hD : ∀ b s h e, d b s h e * κ = D b s h e) (r : Fin 512) (h : Fin H) :
    tb (fun r => tk (row t r)) (fun r => hd d (row t r)) κ r h.val = turnBack D (sq (row t r)) (tk (row t r)) h := by
  funext e
  rw [tb, turnBack, hd_at]
  simp only [hD]

theorem gv_eq {H : ℕ} (x d D : Fin 2 → Fin 2048 → Fin H → Fin 64 → ℝ) (g : S1x64.Idx → ℝ) (κ : ℝ) (hD : ∀ b s h e, d b s h e * κ = D b s h e) (r : Fin 512)
    (h : Fin H) : gv (fun r => tk (row t r)) (fun i : Fin 64 => g (ix2 0 i)) (fun r => hd x (row t r)) (fun r => hd d (row t r)) κ r h.val
      = gradH x (turnBack D) g (sq (row t r)) (tk (row t r)) h := by
  funext e
  rw [gv, tb_eq t d D κ hD, hd_at]; rfl

theorem sv_eq {H : ℕ} (x d D : Fin 2 → Fin 2048 → Fin H → Fin 64 → ℝ) (κ : ℝ) (hD : ∀ b s h e, d b s h e * κ = D b s h e) (e : Fin 128) :
    padr (fun i => ∑ h : Fin H, sv (fun r => tk (row t r)) (fun r => hd x (row t r)) (fun r => hd d (row t r)) κ h.val i) e
      = ∑ r, padr (part1 x (turnBack D) (row t r)) e := by
  rw [sum_padr]
  refine congrArg (fun f => padr f e) (funext fun i => ?_)
  simp only [sv, part1, tb_eq t d D κ hD, hd_at]
  exact Finset.sum_comm

include H

theorem QP_at (r : Fin 512) (e : Fin 1024) : QP m c t (ix2 r e)
    = (padr (gradH (at4 q) (turnBack (eighth cq)) gq (sq (row t r)) (tk (row t r)) ⟨e.val / 128, by omega⟩) (⟨e.val % 128, by omega⟩ : Fin 128) : EReal) := by
  rw [QP, qgrads_at (fun r => tk (row t r)) _ _ _ (PC_at m c t) (PS_at m c t) (PP_at m c t) _ _ (GQb_at q k gq gk cq ck m c H t) _ _ _ _
    (DQ_at q k gq gk cq ck m c H t) (ZQ_at q k gq gk cq ck m c H t), col,
    gv_eq t (at4 q) (at4 cq) (eighth cq) gq (1 / 8) (fun _ _ _ _ => rfl) r ⟨e.val / 128, by omega⟩]

theorem KP_at (r : Fin 512) (e : Fin 256) : KP m c t (ix2 r e)
    = (padr (gradH (at4 k) (turnBack (at4 ck)) gk (sq (row t r)) (tk (row t r)) ⟨e.val / 128, by omega⟩) (⟨e.val % 128, by omega⟩ : Fin 128) : EReal) := by
  rw [KP, kgrads_at (fun r => tk (row t r)) _ _ _ (PC_at m c t) (PS_at m c t) (PP_at m c t) _ _ (GKb_at q k gq gk cq ck m c H t) _ _ _ _
    (DK_at q k gq gk cq ck m c H t) (ZK_at q k gq gk cq ck m c H t), col,
    gv_eq t (at4 k) (at4 ck) (at4 ck) gk 1 (fun _ _ _ _ => mul_one _) r ⟨e.val / 128, by omega⟩]

theorem QG_at (e : Fin 128) : QG m c t (ix2 0 e) = ((∑ r, padr (part1 (at4 q) (turnBack (eighth cq)) (row t r)) e : ℝ) : EReal) := by
  rw [QG, qgains_at (fun r => tk (row t r)) _ _ _ (PC_at m c t) (PS_at m c t) (PP_at m c t) _ _ _ _
    (DQ_at q k gq gk cq ck m c H t) (ZQ_at q k gq gk cq ck m c H t), sv_eq t (at4 q) (at4 cq) (eighth cq) (1 / 8) (fun _ _ _ _ => rfl)]

theorem KG_at (e : Fin 128) : KG m c t (ix2 0 e) = ((∑ r, padr (part1 (at4 k) (turnBack (at4 ck)) (row t r)) e : ℝ) : EReal) := by
  rw [KG, kgains_at (fun r => tk (row t r)) _ _ _ (PC_at m c t) (PS_at m c t) (PP_at m c t) _ _ _ _
    (DK_at q k gq gk cq ck m c H t) (ZK_at q k gq gk cq ck m c H t), sv_eq t (at4 k) (at4 ck) (at4 ck) 1 (fun _ _ _ _ => mul_one _)]

end blocks

section results

variable (m : (ℓ : Loc nD τ sig) → Buf (Elt Ideal) ℓ) (c : Dev nD)

theorem after9 (t : Fin cfg0.N) : (dats m 0 c).after 9 t = QP m c t := by
  rw [after0_9]
  by_cases h : t.val % 8 = 0
  · rw [outsAt0_A m c t h (by have := lt8 t; omega)]; frame_out; rfl
  · rw [outsAt0_B m c t h (by omega)]; frame_out; rfl

theorem after10 (t : Fin cfg0.N) : (dats m 0 c).after 10 t = KP m c t := by
  rw [after0_10]
  by_cases h : t.val % 8 = 0
  · rw [outsAt0_A m c t h (by have := lt8 t; omega)]; frame_out; rfl
  · rw [outsAt0_B m c t h (by omega)]; frame_out; rfl

/-- Point `s` of the eight, and of the run of eight that `t` lies in. -/
def pt (s : Fin 8) : Fin cfg0.N := ⟨s.val, s.isLt.trans_eq N_0.symm⟩
def run8 (t : Fin cfg0.N) (s : Fin 8) : Fin cfg0.N :=
  ⟨8 * (t.val / 8) + s.val, (by have := lt8 t; omega : 8 * (t.val / 8) + s.val < 8).trans_eq N_0.symm⟩

theorem run8_eq (t : Fin cfg0.N) (s : Fin 8) : run8 t s = pt s := Fin.ext (by have := lt8 t; show 8 * (t.val / 8) + s.val = s.val; omega)

theorem after11 (t : Fin cfg0.N) (h : t.val % 8 = 7) (y : S1x128.Idx) : (dats m 0 c).after 11 t y = ∑ s : Fin 8, QG m c (run8 t s) y := by
  have hout : (dats m 0 c).after 11 t y = (outsAt0 m c t.val t.isLt).2.2.1 y := by rw [after0_11]
  rw [hout, Pipeline.eq_sum_fin_of_reset_step_apply_of_flush (fun n h => (outsAt0 m c n h).2.2.1) 8 (fun _ => 0) (fun t y => QG m c t y)
    (fun t h i => by rw [outsAt0_A m c t h (by have := lt8 t; omega)]; frame_out; rw [zero_add]; rfl)
    (fun t h i => by rw [outsAt0_B m c t h (by omega)]; frame_out; pointwise [k0_pay4]; rfl) t h y, zero_add]
  rfl

theorem after12 (t : Fin cfg0.N) (h : t.val % 8 = 7) (y : S1x128.Idx) : (dats m 0 c).after 12 t y = ∑ s : Fin 8, KG m c (run8 t s) y := by
  have hout : (dats m 0 c).after 12 t y = (outsAt0 m c t.val t.isLt).2.2.2 y := by rw [after0_12]
  rw [hout, Pipeline.eq_sum_fin_of_reset_step_apply_of_flush (fun n h => (outsAt0 m c n h).2.2.2) 8 (fun _ => 0) (fun t y => KG m c t y)
    (fun t h i => by rw [outsAt0_A m c t h (by have := lt8 t; omega)]; frame_out; rw [zero_add]; rfl)
    (fun t h i => by rw [outsAt0_B m c t h (by omega)]; frame_out; pointwise [k0_pay5, k0_pay1]; rfl) t h y, zero_add]
  rfl

end results

/-- A sum over the points of sums over a point's rows is the sum over all rows. -/
theorem sum_points (f : Fin 4096 → ℝ) (q : Fin cfg0.N → EReal) (hq : ∀ t, q t = ((∑ r, f (row t r) : ℝ) : EReal)) (t : Fin cfg0.N) :
    ∑ s : Fin 8, q (run8 t s) = ((∑ r, f r : ℝ) : EReal) := by
  have e : ∀ s : Fin 8, q (run8 t s) = ((∑ r, f (row (pt s) r) : ℝ) : EReal) := fun s => by rw [run8_eq]; exact hq (pt s)
  rw [Finset.sum_congr rfl fun s _ => e s, coe_sum]
  exact congrArg _ (Fin.sum_mul_add_fin 8 512 f)

section finals

variable (m : (ℓ : Loc nD τ sig) → Buf (Elt Ideal) ℓ) (c : Dev nD) (H : Args q k gq gk cq ck m c)

include H

theorem out9 (t : Fin cfg0.N) (y : S512x1024.Idx) : (dats m 0 c).after 9 t y = GH (at4 q) (turnBack (eighth cq)) gq ((win0_9.blk t).view.emb y) := by
  have e0 : (win0_9.blk t).view.emb (ix2 (y 0) (y 1)) = (ix2 (row t (y 0)) (y 1) : S4096x1024.Idx) := by blk_ext [idx t, row]
  rw [eq_ix2 y, e0, after9]
  exact QP_at q k gq gk cq ck m c H t (y 0) (y 1)

theorem final9 : (dats m 0 c).arrAt 9 (cfgs 0).N = GH (at4 q) (turnBack (eighth cq)) gq := by
  refine (dats m 0 c).arrAt_eq_of_covers 9 _ (by decide +kernel) fun t _ y => ?_
  exact out9 q k gq gk cq ck m c H t y

theorem out10 (t : Fin cfg0.N) (y : S512x256.Idx) : (dats m 0 c).after 10 t y = GH (at4 k) (turnBack (at4 ck)) gk ((win0_10.blk t).view.emb y) := by
  have e0 : (win0_10.blk t).view.emb (ix2 (y 0) (y 1)) = (ix2 (row t (y 0)) (y 1) : S4096x256.Idx) := by blk_ext [idx t, row]
  rw [eq_ix2 y, e0, after10]
  exact KP_at q k gq gk cq ck m c H t (y 0) (y 1)

theorem final10 : (dats m 0 c).arrAt 10 (cfgs 0).N = GH (at4 k) (turnBack (at4 ck)) gk := by
  refine (dats m 0 c).arrAt_eq_of_covers 10 _ (by decide +kernel) fun t _ y => ?_
  exact out10 q k gq gk cq ck m c H t y

theorem out11 (t : Fin cfg0.N) (h : t.val % 8 = 7) (u : Fin 1) (e : Fin 128) :
    (dats m 0 c).after 11 t (ix2 u e) = GGain (at4 q) (turnBack (eighth cq)) ((win0_11.blk t).view.emb (ix2 u e)) := by
  obtain rfl : u = 0 := Subsingleton.elim _ _
  have e0 : (win0_11.blk t).view.emb (ix2 0 e) = (ix2 0 e : S1x128.Idx) := by blk_ext [idx t]
  rw [e0, after11 m c t h]
  refine (sum_points (fun r => padr (part1 (at4 q) (turnBack (eighth cq)) r) e) (fun t => QG m c t (ix2 0 e)) (fun t => QG_at q k gq gk cq ck m c H t e) t).trans ?_
  rw [sum_padr]; rfl

theorem final11 : (dats m 0 c).arrAt 11 (cfgs 0).N = GGain (at4 q) (turnBack (eighth cq)) := by
  refine (dats m 0 c).arrAt_eq_of_covers 11 _ (by decide +kernel) fun t hf y => ?_
  have key : ∀ y : S1x128.Idx, (dats m 0 c).after 11 t y = GGain (at4 q) (turnBack (eighth cq)) ((win0_11.blk t).view.emb y) := fun y => by
    rw [eq_ix2 y]; exact out11 q k gq gk cq ck m c H t ((flush0_11 t).mp hf) (y 0) (y 1)
  exact key y

theorem out12 (t : Fin cfg0.N) (h : t.val % 8 = 7) (u : Fin 1) (e : Fin 128) :
    (dats m 0 c).after 12 t (ix2 u e) = GGain (at4 k) (turnBack (at4 ck)) ((win0_12.blk t).view.emb (ix2 u e)) := by
  obtain rfl : u = 0 := Subsingleton.elim _ _
  have e0 : (win0_12.blk t).view.emb (ix2 0 e) = (ix2 0 e : S1x128.Idx) := by blk_ext [idx t]
  rw [e0, after12 m c t h]
  refine (sum_points (fun r => padr (part1 (at4 k) (turnBack (at4 ck)) r) e) (fun t => KG m c t (ix2 0 e)) (fun t => KG_at q k gq gk cq ck m c H t e) t).trans ?_
  rw [sum_padr]; rfl

theorem final12 : (dats m 0 c).arrAt 12 (cfgs 0).N = GGain (at4 k) (turnBack (at4 ck)) := by
  refine (dats m 0 c).arrAt_eq_of_covers 12 _ (by decide +kernel) fun t hf y => ?_
  have key : ∀ y : S1x128.Idx, (dats m 0 c).after 12 t y = GGain (at4 k) (turnBack (at4 ck)) ((win0_12.blk t).view.emb y) := fun y => by
    rw [eq_ix2 y]; exact out12 q k gq gk cq ck m c H t ((flush0_12 t).mp hf) (y 0) (y 1)
  exact key y

end finals

end Cert.PrepB

end
-- ==== Proof.PrepB.lean ====
/-
  The gradient through the second attention's queries and keys: both turns, both norms and both gains.
-/
module

public import proofs.«01_k».proof.Defs
public import proofs.«01_k».proof.Proof.Gen.PrepBKernelIdeal.Value
public import proofs.«01_k».proof.Proof.Gen.PrepBRefIdeal.Run
public import proofs.«01_k».proof.Proof.PrepBKern
public import proofs.«01_k».proof.Proof.PrepBRef

@[expose] public section

set_option maxRecDepth 16384

noncomputable section

namespace Cert.PrepB

open Idealize.ShloMosaic Idealize.ShloMosaic.TcCoe Idealize.SL.Sem
open Cert.Reals

instance pre_facts : Cert.Pre_finite_prep_b.Facts := ⟨by decide, by decide, by decide⟩

theorem frame_ref : Cert.quiescent_PrepBRefIdeal := fun m ρ _ =>
  (θ_run Cert.PrepBRefIdeal.defs _ _).mono (fun r h => ⟨fun c => (h c).2.2.2.2, sem_eq_zero_of_no_sems (by decide) r.2⟩)
    (Cert.PrepBRefIdeal.Value.run (F := Ideal) m ρ)

open Cert.PrepBKernelIdeal in
/-- What the precondition says of one device's arguments. -/
theorem reals (m : (ℓ : Loc nD τ sig) → Buf (Elt Ideal) ℓ) (h : Cert.Pre_PrepBKernelIdeal_finite_prep_b m) (c : Dev nD) :
    ∃ (q : S2x2048x8x64.Idx → ℝ) (k : S2x2048x2x64.Idx → ℝ) (gq : S1x64.Idx → ℝ) (gk : S1x64.Idx → ℝ) (cq : S2x2048x8x64.Idx → ℝ) (ck : S2x2048x2x64.Idx → ℝ), Args q k gq gk cq ck m c := by
  obtain ⟨h0, h1, h2, h3, h4, h5⟩ := h c
  obtain ⟨q, q0⟩ := finite_up _ _ _ h0
  obtain ⟨k, q1⟩ := finite_up _ _ _ h1
  obtain ⟨gq, q2⟩ := finite_up _ _ _ h2
  obtain ⟨gk, q3⟩ := finite_up _ _ _ h3
  obtain ⟨cq, q4⟩ := finite_up _ _ _ h4
  obtain ⟨ck, q5⟩ := finite_up _ _ _ h5
  exact ⟨q, k, gq, gk, cq, ck, ⟨q0, q1, q2, q3, q4, q5⟩⟩

open Cert.PrepBKernelIdeal in
theorem algebraic : Cert.algebraic_PrepBKernelIdeal_PrepBRefIdeal_pre_finite_prep_b := by
  intro m ρ m' ρ' hp hag
  choose q k gq gk cq ck h using reals m hp
  refine ⟨fun c => GH (at4 (q c)) (turnBack (eighth (cq c))) (gq c),
    fun c => GH (at4 (k c)) (turnBack (at4 (ck c))) (gk c),
    fun c => GGain (at4 (q c)) (turnBack (eighth (cq c))),
    fun c => GGain (at4 (k c)) (turnBack (at4 (ck c))),
    (θ_run _ _ _).mono (fun r hr c => ?_) (Cert.PrepBKernelIdeal.Value.run_blocks m ρ),
    (θ_run _ _ _).mono (fun r hr c => ?_) (Cert.PrepBRefIdeal.Value.run m' ρ')⟩
  · exact ⟨(hr c).1.trans (final9 _ _ _ _ _ _ m c (h c)),
      (hr c).2.1.trans (final10 _ _ _ _ _ _ m c (h c)),
      (hr c).2.2.1.trans (final11 _ _ _ _ _ _ m c (h c)),
      (hr c).2.2.2.1.trans (final12 _ _ _ _ _ _ m c (h c)), (hr c).2.2.2.2⟩
  · obtain ⟨e0, e1, e2, e3, e4, e5⟩ := hag c
    have E : ∀ {α : Type} (F : FVec Ideal S2x2048x8x64 .f32 → FVec Ideal S2x2048x2x64 .f32 → FVec Ideal S1x64 .f32 → FVec Ideal S1x64 .f32 → FVec Ideal S2x2048x8x64 .f32 → FVec Ideal S2x2048x2x64 .f32 → α),
        F (m' ((c : Thread Cert.PrepBRefIdeal.nD Cert.PrepBRefIdeal.τ).loc Cert.PrepBRefIdeal.main_arg0))
          (m' ((c : Thread Cert.PrepBRefIdeal.nD Cert.PrepBRefIdeal.τ).loc Cert.PrepBRefIdeal.main_arg1))
          (m' ((c : Thread Cert.PrepBRefIdeal.nD Cert.PrepBRefIdeal.τ).loc Cert.PrepBRefIdeal.main_arg2))
          (m' ((c : Thread Cert.PrepBRefIdeal.nD Cert.PrepBRefIdeal.τ).loc Cert.PrepBRefIdeal.main_arg3))
          (m' ((c : Thread Cert.PrepBRefIdeal.nD Cert.PrepBRefIdeal.τ).loc Cert.PrepBRefIdeal.main_arg4))
          (m' ((c : Thread Cert.PrepBRefIdeal.nD Cert.PrepBRefIdeal.τ).loc Cert.PrepBRefIdeal.main_arg5))
        = F (up (q c)) (up (k c)) (up (gq c)) (up (gk c)) (up (cq c)) (up (ck c)) := fun F => by
      rw [e0, e1, e2, e3, e4, e5]
      exact congr (congr (congr (congr (congr (congrArg F (h c).hq) (h c).hk) (h c).hgq) (h c).hgk) (h c).hcq) (h c).hck
    refine ⟨(hr c).1.trans ?_,
      (hr c).2.1.trans ?_,
      (hr c).2.2.1.trans ?_,
      (hr c).2.2.2.1.trans ?_, (hr c).2.2.2.2⟩
    · rw [Cert.PrepBRefIdeal.Read.val_main_v251_eq]
      exact (E (fun q _ gq _ cq _ => Cert.PrepBRefIdeal.Read.val_main_v251 (F := Ideal) q gq cq)).trans (ref_q (q c) (gq c) (cq c))
    · rw [Cert.PrepBRefIdeal.Read.val_main_v254_eq]
      exact (E (fun _ k _ gk _ ck => Cert.PrepBRefIdeal.Read.val_main_v254 (F := Ideal) k gk ck)).trans (ref_k (k c) (gk c) (ck c))
    · rw [Cert.PrepBRefIdeal.Read.val_main_v255_eq]
      exact (E (fun q _ _ _ cq _ => Cert.PrepBRefIdeal.Read.val_main_v255 (F := Ideal) q cq)).trans (ref_gq (q c) (cq c))
    · rw [Cert.PrepBRefIdeal.Read.val_main_v256_eq]
      exact (E (fun _ k _ _ _ ck => Cert.PrepBRefIdeal.Read.val_main_v256 (F := Ideal) k ck)).trans (ref_gk (k c) (ck c))

end Cert.PrepB

end
-- ==== Proof.Rows.lean ====
/-
  One row of an attention's forward pass, over real numbers: the logarithm of the sum of the exponentials, and the output row,
  whose last column holds the sum of the weights.
-/
module

public import Idealize.ShloMosaic.Lib.WordCmp
public import proofs.«01_k».proof.Proof.Reals

@[expose] public section

noncomputable section

namespace Cert.Rows

open Idealize.ShloMosaic
open Cert.Reals

variable {ι : Type} [Fintype ι]

/-- The logarithm of the sum of a row's exponentials. -/
def lse (s : ι → ℝ) : ℝ := Real.log (∑ i, Real.exp (s i))

/-- Taking a number out of every score and adding it again changes nothing. -/
theorem lse_shift [Nonempty ι] (s : ι → ℝ) (m : ℝ) : m + Real.log (∑ i, Real.exp (s i - m)) = lse s := by
  have h : ∑ i, Real.exp (s i - m) = (∑ i, Real.exp (s i)) / Real.exp m := by
    rw [Finset.sum_div]; exact Finset.sum_congr rfl fun i _ => Real.exp_sub _ _
  rw [h, Real.log_div (sum_exp_pos s).ne' (Real.exp_pos m).ne', Real.log_exp, lse]; ring

/-- A row of `n` numbers in 128 columns: zeros after them, and a one in the last. -/
def outr {n : ℕ} (f : Fin n → ℝ) (e : Fin 128) : ℝ := if e.val = 127 then 1 else padr f e

theorem outr_last {n : ℕ} (f : Fin n → ℝ) : outr f 127 = 1 := if_pos rfl

theorem outr_of_lt {n : ℕ} (hn : n ≤ 127) (f : Fin n → ℝ) (e : Fin 128) (h : e.val < n) : outr f e = f ⟨e.val, h⟩ := by
  have h' : e.val ≠ 127 := by omega
  rw [outr, if_neg h', padr, dif_pos h]

theorem outr_of_ge {n : ℕ} (f : Fin n → ℝ) (e : Fin 128) (h : ¬ e.val < n) : outr f e = if e.val = 127 then 1 else 0 := by
  rw [outr, padr, dif_neg h]

/-- The choice of a one in the last column. -/
theorem pick_last {n : ℕ} (f : Fin n → ℝ) (e : Fin 128) :
    Scalar.select (IntOp.cmpi .eq (BitVec.ofNat 32 e.val) 127#32) (1 : EReal) (padr f e : EReal) = (outr f e : EReal) := by
  refine (if_congr (WordCmp.cmpi_eq_ofNat_eq_one_iff (w := 32) (by omega) (by decide)) rfl rfl).trans ?_
  rw [outr]
  split <;> rfl

/-- The weighted sum of such rows over its own last column. -/
theorem outr_sum [Nonempty ι] {n : ℕ} (s : ι → ℝ) (m : ℝ) (v : ι → Fin n → ℝ) (e : Fin 128) :
    (∑ j, Real.exp (s j - m) * outr (v j) e) * (1 / ∑ j, Real.exp (s j - m)) = outr (fun e => ∑ j, weight s j * v j e) e := by
  have hp := (sum_exp_pos fun j => s j - m).ne'
  unfold outr
  split
  · simp only [mul_one]; field_simp
  · rw [Finset.sum_mul, ← sum_mul_padr]
    refine Finset.sum_congr rfl fun j _ => ?_
    rw [← weight_shift s m j]; ring

end Cert.Rows

end
-- ==== Proof.AttnAFwdRef.lean ====
module

public import proofs.«01_k».proof.Proof.Gen.AttnAFwdRefIdeal.Read
public import Idealize.ShloMosaic.Lib.Pipeline.ValueKit
public import proofs.«01_k».proof.Proof.AttnARef
public import proofs.«01_k».proof.Proof.Rows

@[expose] public section

set_option maxRecDepth 16384

noncomputable section

namespace Cert.AttnAFwd

open Idealize.ShloMosaic Idealize.ShloMosaic.TcCoe Idealize.SL.Sem
open Cert.Reals Cert.Rows
open Cert.AttnA (score neg_inf cb ci ch ce)
open Cert.AttnAFwdRefIdeal
open Cert.AttnAFwdRefIdeal.Read Cert.AttnAFwdRefIdeal.Gen

variable (q k : S2x2048x8x96.Idx → ℝ) (v : S2x2048x8x64.Idx → ℝ)

/-- The scores that the output is computed from, and those that the row sums are computed from. -/
theorem s_at (b : Fin 2) (h : Fin 8) (u : Fin 1) (i j : Fin 2048) :
    val_main_v2 (F := Ideal) (up q) (up k) (ix5 b h u i j) = (score q k b h i j : EReal) := by
  pointwise [val_main_v2, val_main_v1, val_main_v0, up]
  simp only [← EReal.coe_mul, coe_sum, score, mul_comm]

theorem s_at' (b : Fin 2) (h : Fin 8) (u : Fin 1) (i j : Fin 2048) :
    val_main_v23 (F := Ideal) (up q) (up k) (ix5 b h u i j) = (score q k b h i j : EReal) := by
  pointwise [val_main_v23, val_main_v22, val_main_v0, up]
  simp only [← EReal.coe_mul, coe_sum, score, mul_comm]

theorem max_at (X : FVec Ideal S2x8x1x2048x2048 .f32) (z : FVec Ideal S_ .f32) (hz : ∀ i, z i = ⊥) (b : Fin 2) (h : Fin 8) (u : Fin 1) (i : Fin 2048) :
    Host.reduce FloatOps.maximumf X z reducesTo_S2x8x1x2048x2048_S2x8x1x2048_d4 h_S_ (ix4 b h u i)
      = Finset.univ.fold max (⊥ : EReal) fun x => X (ix5 b h 0 i x) := by
  pointwise
  rw [hz]

theorem max_bot_at (X : FVec Ideal S2x8x1x2048 .f32) (i : S2x8x1x2048.Idx) :
    maximumf (val_main_v4 (F := Ideal)) X i = X i := by
  pointwise [val_main_v4, val_main_cst_0]
  rw [neg_inf, max_eq_right bot_le]

theorem bot_at (i : S_.Idx) : val_main_cst (F := Ideal) i = ⊥ := by
  pointwise [val_main_cst]
  exact neg_inf

theorem bot_at' (i : S_.Idx) : val_main_cst_4 (F := Ideal) i = ⊥ := by
  pointwise [val_main_cst_4]
  exact neg_inf

/-- The greatest score of a row is a real number. -/
theorem m_at (b : Fin 2) (h : Fin 8) (u : Fin 1) (i : Fin 2048) :
    ∃ M : ℝ, val_main_v5 (F := Ideal) (up q) (up k) (ix4 b h u i) = (M : EReal) := by
  rw [val_main_v5, max_bot_at, val_main_v3, max_at _ _ bot_at]
  simp only [s_at]
  exact fold_max_real _

theorem m_at' (b : Fin 2) (h : Fin 8) (u : Fin 1) (i : Fin 2048) :
    ∃ M : ℝ, val_main_v24 (F := Ideal) (up q) (up k) (ix4 b h u i) = (M : EReal) := by
  rw [val_main_v24, max_at _ _ bot_at']
  simp only [s_at']
  exact fold_max_real _

theorem exp_sub_at (S : FVec Ideal S2x8x1x2048x2048 .f32) (X : FVec Ideal S2x8x1x2048 .f32)
    (b : Fin 2) (h : Fin 8) (u : Fin 1) (i j : Fin 2048) :
    Host.exp (subf S (broadcastInDim S2x8x1x2048x2048 ![0, 1, 2, 3, 4] bcast_S2x8x1x2048x1_S2x8x1x2048x2048_0_1_2_3_4
      (broadcastInDim S2x8x1x2048x1 ![0, 1, 2, 3] bcast_S2x8x1x2048_S2x8x1x2048x1_0_1_2_3 X))) (ix5 b h u i j)
      = Ideal.exp (S (ix5 b h u i j) - X (ix4 b h 0 i)) := by
  pointwise

section top

variable (b : Fin 2) (h : Fin 8) (u : Fin 1) (i : Fin 2048) {M : ℝ}

theorem p_at (hM : val_main_v5 (F := Ideal) (up q) (up k) (ix4 b h 0 i) = (M : EReal)) (j : Fin 2048) :
    val_main_v9 (F := Ideal) (up q) (up k) (ix5 b h u i j) = (Real.exp (score q k b h i j - M) : EReal) := by
  rw [val_main_v9, val_main_v8, val_main_v7, val_main_v6, exp_sub_at, s_at, hM, ← EReal.coe_sub, Ideal.exp_coe]

theorem p_at' (hM : val_main_v24 (F := Ideal) (up q) (up k) (ix4 b h 0 i) = (M : EReal)) (j : Fin 2048) :
    val_main_v28 (F := Ideal) (up q) (up k) (ix5 b h u i j) = (Real.exp (score q k b h i j - M) : EReal) := by
  rw [val_main_v28, val_main_v27, val_main_v26, val_main_v25, exp_sub_at, s_at', hM, ← EReal.coe_sub, Ideal.exp_coe]

theorem l_at (hM : val_main_v5 (F := Ideal) (up q) (up k) (ix4 b h 0 i) = (M : EReal)) :
    val_main_v10 (F := Ideal) (up q) (up k) (ix4 b h u i) = ((∑ j, Real.exp (score q k b h i j - M) : ℝ) : EReal) := by
  pointwise [val_main_v10, val_main_cst_1]
  simp only [p_at q k b h 0 i hM, coe_sum, zero_add]

theorem l_at' (hM : val_main_v24 (F := Ideal) (up q) (up k) (ix4 b h 0 i) = (M : EReal)) :
    val_main_v29 (F := Ideal) (up q) (up k) (ix4 b h u i) = ((∑ j, Real.exp (score q k b h i j - M) : ℝ) : EReal) := by
  pointwise [val_main_v29, val_main_cst_5]
  simp only [p_at' q k b h 0 i hM, coe_sum, zero_add]

end top

theorem w_at (b : Fin 2) (h : Fin 8) (u : Fin 1) (i j : Fin 2048) :
    val_main_v13 (F := Ideal) (up q) (up k) (ix5 b h u i j) = (weight (score q k b h i) j : EReal) := by
  obtain ⟨M, hM⟩ := m_at q k b h 0 i
  pointwise [val_main_v13, val_main_v12, val_main_v11]
  rw [p_at q k b h _ i hM, l_at q k b h _ i hM, div_real _ (sum_exp_pos _).ne', weight_shift]

theorem o_at (b : Fin 2) (i : Fin 2048) (h : Fin 8) (e : Fin 64) :
    val_main_v16 (F := Ideal) (up q) (up k) (up v) (ix4 b i h e) = ((∑ j, weight (score q k b h i) j * v (ix4 b j h e) : ℝ) : EReal) := by
  pointwise [val_main_v16, val_main_v15, val_main_v14]
  simp only [w_at, up, ← EReal.coe_mul, coe_sum, mul_comm]

/-- A head's 64 columns, 63 zeros and a one. -/
theorem join_at (X : FVec Ideal S2x2048x8x64 .f32) {f : Fin 64 → ℝ} (b : Fin 2) (i : Fin 2048) (h : Fin 8) (hX : ∀ e, X (ix4 b i h e) = (f e : EReal))
    (e : Fin 128) :
    concatenate S2x2048x8x128 3 [⟨S2x2048x8x64, X⟩, ⟨S2x2048x8x63, val_main_v17 (F := Ideal)⟩, ⟨S2x2048x8x1, val_main_v18 (F := Ideal)⟩]
      concatenates_S2x2048x8x64_S2x2048x8x63_S2x2048x8x1_S2x2048x8x128_d3 (ix4 b i h e) = (outr f e : EReal) := by
  pointwise [val_main_v17, val_main_v18, val_main_cst_2, val_main_cst_3]
  by_cases h1 : e.val < 64
  · refine (dif_pos h1).trans ?_
    rw [outr_of_lt (by decide) f e h1]
    exact hX _
  · refine (dif_neg h1).trans ?_
    rw [outr_of_ge f e h1]
    by_cases h2 : e.val = 127
    · rw [if_pos h2]; exact dif_neg (by omega)
    · rw [if_neg h2]; exact dif_pos (by omega)

theorem flat_at (X : FVec Ideal S2x2048x8x128 .f32) (y : S4096x1024.Idx) :
    truncf (F := Ideal) .bf16 (shapeCast S4096x1024 X shapeCasts_S2x2048x8x128_S4096x1024) bitsLt_bf16_f32 y
      = (X (ix4 (cb y) (ci y) (ch y) (ce y)) : EReal) := by
  pointwise
  rfl

theorem log_add_at (M L : FVec Ideal S2x8x1x2048 .f32) (i : S2x8x1x2048.Idx) : addf M (Host.log L) i = M i + Ideal.log (L i) := by
  pointwise

/-- The sequence and the row of an entry of the row sums. -/
def lb (y : S8x4096x1.Idx) : Fin 2 := ⟨(y 1).val / 2048, by have : (y 1).val < 4096 := (y 1).isLt; omega⟩
def li (y : S8x4096x1.Idx) : Fin 2048 := ⟨(y 1).val % 2048, by omega⟩

theorem sums_at (X : FVec Ideal S2x8x1x2048 .f32) (y : S8x4096x1.Idx) :
    shapeCast S8x4096x1 (transpose S8x2x2048 [1, 0, 2] (shapeCast S2x8x2048 X shapeCasts_S2x8x1x2048_S2x8x2048) transposes_S2x8x2048_S8x2x2048_1_0_2)
      shapeCasts_S8x2x2048_S8x4096x1 y = X (ix4 (lb y) (y 0) 0 (li y)) := by
  pointwise
  rfl

/-- A head of the output in its 128 columns. -/
theorem row_at (b : Fin 2) (i : Fin 2048) (h : Fin 8) (e : Fin 128) :
    val_main_v19 (F := Ideal) (up q) (up k) (up v) (ix4 b i h e)
      = (outr (fun e : Fin 64 => ∑ j, weight (score q k b h i) j * v (ix4 b j h e)) e : EReal) := by
  rw [val_main_v19]
  exact join_at _ b i h (o_at q k v b i h) e

theorem lse_at (b : Fin 2) (h : Fin 8) (i : Fin 2048) :
    val_main_v31 (F := Ideal) (up q) (up k) (ix4 b h 0 i) = (lse (score q k b h i) : EReal) := by
  obtain ⟨M, hM⟩ := m_at' q k b h 0 i
  rw [val_main_v31, val_main_v30, log_add_at, l_at' q k b h 0 i hM, hM, log_real (sum_exp_pos _), ← EReal.coe_add, lse_shift]

/-- The output, each head in 128 columns. -/
def GO : FVec Ideal S4096x1024 .bf16 := fun y =>
  (outr (fun e : Fin 64 => ∑ j, weight (score q k (cb y) (ch y) (ci y)) j * v (ix4 (cb y) j (ch y) e)) (ce y) : EReal)

/-- The logarithms of the rows' sums, by head. -/
def GS : FVec Ideal S8x4096x1 .f32 := fun y => (lse (score q k (lb y) (y 0) (li y)) : EReal)

theorem GO_at (y : S4096x1024.Idx) (b : Fin 2) (i : Fin 2048) (h : Fin 8) (e : Fin 128) (h0 : (y 0).val = b.val * 2048 + i.val)
    (h1 : (y 1).val = h.val * 128 + e.val) : GO q k v y = (outr (fun e : Fin 64 => ∑ j, weight (score q k b h i) j * v (ix4 b j h e)) e : EReal) := by
  have e1 : cb y = b := Fin.ext (by simp only [cb]; omega)
  have e2 : ci y = i := Fin.ext (by simp only [ci]; omega)
  have e3 : ch y = h := Fin.ext (by simp only [ch]; omega)
  have e4 : ce y = e := Fin.ext (by simp only [ce]; omega)
  rw [GO, e1, e2, e3, e4]

theorem GS_at (y : S8x4096x1.Idx) (b : Fin 2) (i : Fin 2048) (h : Fin 8) (h0 : (y 0).val = h.val) (h1 : (y 1).val = b.val * 2048 + i.val) :
    GS q k y = (lse (score q k b h i) : EReal) := by
  have e1 : lb y = b := Fin.ext (by simp only [lb]; omega)
  have e2 : li y = i := Fin.ext (by simp only [li]; omega)
  have e3 : y 0 = h := Fin.ext h0
  rw [GS, e1, e2, e3]

theorem ref_o : val_main_v21 (F := Ideal) (up q) (up k) (up v) = GO q k v := by
  funext y
  rw [val_main_v21, val_main_v20, flat_at]
  exact row_at q k v (cb y) (ci y) (ch y) (ce y)

theorem ref_l : val_main_v34 (F := Ideal) (up q) (up k) = GS q k := by
  funext y
  rw [val_main_v34, val_main_v33, val_main_v32, sums_at]
  exact lse_at q k (lb y) (y 0) (li y)

end Cert.AttnAFwd

end
-- ==== Proof.AttnAFwdKern.lean ====
module

public import proofs.«01_k».proof.Proof.Gen.AttnAFwdKernelIdeal.Value
public import Idealize.ShloMosaic.Lib.Pipeline.ValueKit
public import proofs.«01_k».proof.Proof.AttnAHost
public import proofs.«01_k».proof.Proof.AttnAFwdRef

@[expose] public section

set_option maxRecDepth 16384

noncomputable section

namespace Cert.AttnAFwd

open Idealize.ShloMosaic Idealize.ShloMosaic.TcCoe Idealize.SL.Sem
open Cert.Reals Cert.Rows
open Cert.AttnA (score neg_inf cb ci ch ce wideH wideH' wideH_at wideH'_at left_at right_at)
open Cert.AttnAFwdKernelIdeal Cert.AttnAFwdKernelIdeal.Gen

/-! What one head's pass computes from its queries, keys and values, when they hold real numbers. -/

section head

variable {n : ℕ} (Q : Fin 512 → Fin 128 → ℝ) (K : Fin 2048 → Fin 128 → ℝ) (W : Fin 2048 → Fin n → ℝ)
  {xq : Vec Ideal S512x128 .bf16} {xk xv : Vec Ideal S2048x128 .bf16}
  (hq : ∀ r e, xq (ix2 r e) = (Q r e : EReal)) (hk : ∀ j e, xk (ix2 j e) = (K j e : EReal))
  (hv : ∀ j e, xv (ix2 j e) = (padr (W j) e : EReal))

/-- The score of the block's query `r` against key `j`. -/
def bs (r : Fin 512) (j : Fin 2048) : ℝ := ∑ e, Q r e * K j e

include hq hk

theorem pay5_at (r : Fin 512) (j : Fin 2048) : k0_pay5 xk xq (ix2 r j) = (bs Q K r j : EReal) := by
  pointwise [k0_pay5]
  simp only [hq, hk, ← EReal.coe_mul, coe_sum, bs]

theorem pay6_at (r : Fin 512) : ∃ M : ℝ, ∀ u, k0_pay6 xk xq (ix2 r u) = (M : EReal) := by
  obtain ⟨M, hM⟩ := fold_max_real fun j => bs Q K r j
  refine ⟨M, fun u => ?_⟩
  pointwise [k0_pay6]
  simp only [neg_inf, pay5_at Q K hq hk]
  exact hM

include hv

theorem pay7_at {M : ℝ} (r : Fin 512) (hM : ∀ u, k0_pay6 xk xq (ix2 r u) = (M : EReal)) (e : Fin 128) :
    k0_pay7 xk xv xq (ix2 r e) = ((∑ j, Real.exp (bs Q K r j - M) * outr (W j) e : ℝ) : EReal) := by
  pointwise [k0_pay7]
  simp only [pay5_at Q K hq hk, hM, hv, pick_last, ← EReal.coe_sub, Ideal.exp_coe, ← EReal.coe_mul, coe_sum]

theorem pay9_at (r : Fin 512) (e : Fin 128) : k0_pay9 xk xv xq (ix2 r e) = (outr (fun e => ∑ j, weight (bs Q K r) j * W j e) e : EReal) := by
  obtain ⟨M, hM⟩ := pay6_at Q K hq hk r
  have hp := (sum_exp_pos fun j => bs Q K r j - M).ne'
  pointwise [k0_pay9, k0_pay8]
  rw [pay7_at Q K W hq hk hv r hM, pay7_at Q K W hq hk hv r hM]
  simp only [outr_last, mul_one]
  rw [← EReal.coe_one, div_real _ hp, ← EReal.coe_mul, outr_sum]

theorem pay10_at (u : Fin 1) (r : Fin 512) (w : Fin 1) : k0_pay10 xk xv xq (ix3 u r w) = (lse (bs Q K r) : EReal) := by
  obtain ⟨M, hM⟩ := pay6_at Q K hq hk r
  pointwise [k0_pay10, k0_pay8]
  rw [pay7_at Q K W hq hk hv r hM, hM]
  simp only [outr_last, mul_one]
  rw [log_real (sum_exp_pos _), ← EReal.coe_add, lse_shift]

end head

/-! The arrays the windows stage. -/

section entry

variable (m : (ℓ : Loc nD τ sig) → Buf (Elt Ideal) ℓ) (c : Dev nD)

theorem V_def (b : Ref sig .tc) : V m c b = StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) b := rfl

def aq : FVec Ideal S2x2048x8x96 .f32 := m ((c : Thread nD τ).loc main_arg0)
def ak : FVec Ideal S2x2048x8x96 .f32 := m ((c : Thread nD τ).loc main_arg1)
def av : FVec Ideal S2x2048x8x64 .f32 := m ((c : Thread nD τ).loc main_arg2)

theorem V_q : V m c main_v2 = (truncf .bf16 (wideH' (aq m c)) bitsLt_bf16_f32 : FVec Ideal S4096x1024 .bf16) := by
  rw [V_def]; after_results; rfl

theorem V_kv : V m c main_v8 = (truncf .bf16 (concatenate S4096x2048 1 [⟨S4096x1024, wideH' (ak m c)⟩, ⟨S4096x1024, wideH (av m c)⟩]
    concatenates_S4096x1024_S4096x1024_S4096x2048_d1) bitsLt_bf16_f32 : FVec Ideal S4096x2048 .bf16) := by
  rw [V_def]; after_results; rfl

end entry

/-! The blocks at a grid point. -/

variable (q k : S2x2048x8x96.Idx → ℝ) (v : S2x2048x8x64.Idx → ℝ)

theorem idx : ∀ t : Fin cfg0.N, win0_0.index t = ![t.val / 4 % 2 * 4 + t.val % 4, t.val / 8] ∧ win0_1.index t = ![t.val / 4 % 2, t.val / 8]
    ∧ win0_2.index t = ![t.val / 4 % 2, 2 + t.val / 8] ∧ win0_3.index t = ![t.val / 4 % 2 * 4 + t.val % 4, t.val / 8]
    ∧ win0_4.index t = ![t.val / 8, t.val / 4 % 2 * 4 + t.val % 4, 0] :=
  (by decide +kernel : ∀ t : Fin grid0.N, _)

theorem lt16 (t : Fin cfg0.N) : t.val < 16 := lt_of_lt_of_eq t.isLt N_0

/-- The sequence, the `j`-th head and the query row of a grid point. -/
def tb (t : Fin cfg0.N) : Fin 2 := ⟨t.val / 4 % 2, by omega⟩
def th (t : Fin cfg0.N) (j : Fin 4) : Fin 8 := ⟨t.val / 8 * 4 + j.val, by have := lt16 t; omega⟩
def ti (t : Fin cfg0.N) (r : Fin 512) : Fin 2048 := ⟨t.val % 4 * 512 + r.val, by omega⟩

/-- Column `e` of the `j`-th of a block's four heads. -/
def col (j : Fin 4) (e : Fin 128) : Fin 512 := ⟨j.val * 128 + e.val, by omega⟩

section blocks

variable (m : (ℓ : Loc nD τ sig) → Buf (Elt Ideal) ℓ) (c : Dev nD)
  (hq : aq m c = up q) (hk : ak m c = up k) (hv : av m c = up v) (t : Fin cfg0.N)

include hq

theorem blk0 (r : Fin 512) (j : Fin 4) (e : Fin 128) :
    iblk m c 0 t (ix2 r (col j e)) = (padr (fun e => q (ix4 (tb t) (ti t r) (th t j) e)) e : EReal) := by
  blk_simp [iblk]
  rw [V_q, hq]
  refine wideH'_at q (tb t) (ti t r) (th t j) e _ ?_ ?_ <;> blk_simp [idx t] <;> simp only [tb, th, ti, col] <;> omega

omit hq
include hk

theorem blk1 (i : Fin 2048) (j : Fin 4) (e : Fin 128) :
    iblk m c 1 t (ix2 i (col j e)) = (padr (fun e => k (ix4 (tb t) i (th t j) e)) e : EReal) := by
  blk_simp [iblk]
  rw [V_kv, hk]
  have hb := (tb t).isLt; have hh := (th t j).isLt
  refine (left_at _ _ _ (ix2 ⟨(tb t).val * 2048 + i.val, by omega⟩ ⟨(th t j).val * 128 + e.val, by omega⟩) ?_ ?_).trans
    (wideH'_at k (tb t) i (th t j) e _ rfl rfl) <;> blk_simp [idx t] <;> simp only [tb, th, col] <;> omega

omit hk
include hv

theorem blk2 (i : Fin 2048) (j : Fin 4) (e : Fin 128) :
    iblk m c 2 t (ix2 i (col j e)) = (padr (fun e => v (ix4 (tb t) i (th t j) e)) e : EReal) := by
  blk_simp [iblk]
  rw [V_kv, hv]
  have hb := (tb t).isLt; have hh := (th t j).isLt
  refine (right_at _ _ _ (ix2 ⟨(tb t).val * 2048 + i.val, by omega⟩ ⟨(th t j).val * 128 + e.val, by omega⟩) ?_ ?_).trans
    (wideH_at v (tb t) i (th t j) e _ rfl rfl) <;> blk_simp [idx t] <;> simp only [tb, th, col] <;> omega

omit hv

theorem bs_score (r : Fin 512) (j : Fin 4) : bs (fun r => padr fun e => q (ix4 (tb t) (ti t r) (th t j) e)) (fun i => padr fun e => k (ix4 (tb t) i (th t j) e)) r
    = score q k (tb t) (th t j) (ti t r) :=
  funext fun i => sum_padr_mul (by decide) _ _

/-- The rectangle of the `j`-th head's columns. -/
abbrev rq (j : Fin 4) : Rect S512x512 := Rect.unit (s := S512x512) ![0, j.val * 128] S512x128.size
  (fun a => by match a with | 0 => exact le_rfl | 1 => show j.val * 128 + 128 ≤ 512; omega)
abbrev rk (j : Fin 4) : Rect S2048x512 := Rect.unit (s := S2048x512) ![0, j.val * 128] S2048x128.size
  (fun a => by match a with | 0 => exact le_rfl | 1 => show j.val * 128 + 128 ≤ 512; omega)

theorem ldq (X : Vec Ideal S512x512 .bf16) (j : Fin 4) (r : Fin 512) (e : Fin 128) : View.ld X (rq j) (ix2 r e) = X (ix2 r (col j e)) :=
  View.ld_unit_apply_of X _ _ _ _ _ fun a => by match a with | 0 => exact (Nat.zero_add _).symm | 1 => rfl

theorem ldk (X : Vec Ideal S2048x512 .bf16) (j : Fin 4) (r : Fin 2048) (e : Fin 128) : View.ld X (rk j) (ix2 r e) = X (ix2 r (col j e)) :=
  View.ld_unit_apply_of X _ _ _ _ _ fun a => by match a with | 0 => exact (Nat.zero_add _).symm | 1 => rfl

include hq hk hv

/-- What the pass over the `j`-th head leaves. -/
theorem head_out (j : Fin 4) (r : Fin 512) (e : Fin 128) :
    k0_pay9 (View.ld (iblk m c 1 t) (rk j)) (View.ld (iblk m c 2 t) (rk j)) (View.ld (iblk m c 0 t) (rq j)) (ix2 r e)
      = (outr (fun e : Fin 64 => ∑ i, weight (score q k (tb t) (th t j) (ti t r)) i * v (ix4 (tb t) i (th t j) e)) e : EReal) :=
  (pay9_at _ _ _ (fun r e => (ldq _ j r e).trans (blk0 q m c hq t r j e)) (fun i e => (ldk _ j i e).trans (blk1 k m c hk t i j e))
    (fun i e => (ldk _ j i e).trans (blk2 v m c hv t i j e)) r e).trans (by rw [bs_score])

theorem head_lse (j : Fin 4) (u : Fin 1) (r : Fin 512) (w : Fin 1) :
    k0_pay10 (View.ld (iblk m c 1 t) (rk j)) (View.ld (iblk m c 2 t) (rk j)) (View.ld (iblk m c 0 t) (rq j)) (ix3 u r w)
      = (lse (score q k (tb t) (th t j) (ti t r)) : EReal) :=
  (pay10_at _ _ _ (fun r e => (ldq _ j r e).trans (blk0 q m c hq t r j e)) (fun i e => (ldk _ j i e).trans (blk1 k m c hk t i j e))
    (fun i e => (ldk _ j i e).trans (blk2 v m c hv t i j e)) u r w).trans (by rw [bs_score])

/-- The `j`-th store of the output's block, at an entry of the block. -/
theorem piece_out (j : Fin 4) (y : S512x512.Idx) (x : S512x128.Idx) (h0 : (y 0).val = (x 0).val) (h1 : (y 1).val = j.val * 128 + (x 1).val) :
    k0_pay9 (View.ld (iblk m c 1 t) (rk j)) (View.ld (iblk m c 2 t) (rk j)) (View.ld (iblk m c 0 t) (rq j)) x
      = GO q k v ((win0_3.blk t).view.emb y) := by
  have g0 : (((win0_3.blk t).view.emb y) 0).val = (tb t).val * 2048 + (ti t (x 0)).val := by
    blk_simp [idx t]; simp only [tb, ti]; omega
  have g1 : (((win0_3.blk t).view.emb y) 1).val = (th t j).val * 128 + (x 1).val := by
    blk_simp [idx t]; simp only [th]; omega
  rw [GO_at q k v _ (tb t) (ti t (x 0)) (th t j) (x 1) g0 g1, eq_ix2 x]
  exact head_out q k v m c hq hk hv t j (x 0) (x 1)

theorem piece_lse (j : Fin 4) (y : S4x512x1.Idx) (x : S1x512x1.Idx) (h0 : (y 0).val = j.val) (h1 : (y 1).val = (x 1).val) :
    k0_pay10 (View.ld (iblk m c 1 t) (rk j)) (View.ld (iblk m c 2 t) (rk j)) (View.ld (iblk m c 0 t) (rq j)) x
      = GS q k ((win0_4.blk t).view.emb y) := by
  have g0 : (((win0_4.blk t).view.emb y) 0).val = (th t j).val := by
    blk_simp [idx t]; simp only [th]; omega
  have g1 : (((win0_4.blk t).view.emb y) 1).val = (tb t).val * 2048 + (ti t (x 1)).val := by
    blk_simp [idx t]; simp only [tb, ti]; omega
  rw [GS_at q k _ (tb t) (ti t (x 1)) (th t j) g0 g1, eq_ix3 x]
  exact head_lse q k v m c hq hk hv t j (x 0) (x 1) (x 2)

theorem final3 : (dats m 0 c).arrAt 3 (cfgs 0).N = GO q k v := by
  refine (dats m 0 c).arrAt_eq_of_covers 3 _ (by decide +kernel) fun t _ y => ?_
  blk_simp
  rw [after0_3]
  canon_tiles x h using cover0_3 ..
  · exact piece_out q k v m c hq hk hv t 3 y x h0 h1
  · exact piece_out q k v m c hq hk hv t 2 y x h0 h1
  · exact piece_out q k v m c hq hk hv t 1 y x h0 h1
  · exact piece_out q k v m c hq hk hv t 0 y x h0 (by simpa using h1)

theorem final4 : (dats m 0 c).arrAt 4 (cfgs 0).N = GS q k := by
  refine (dats m 0 c).arrAt_eq_of_covers 4 _ (by decide +kernel) fun t _ y => ?_
  blk_simp
  rw [after0_4]
  canon_tiles x h using cover0_4 ..
  · exact piece_lse q k v m c hq hk hv t 3 y x (by omega) h1
  · exact piece_lse q k v m c hq hk hv t 2 y x (by omega) h1
  · exact piece_lse q k v m c hq hk hv t 1 y x (by omega) h1
  · exact piece_lse q k v m c hq hk hv t 0 y x (by omega) h1

end blocks

end Cert.AttnAFwd

end
-- ==== Proof.AttnAFwd.lean ====
/-
  The first attention's forward pass: from its queries, keys and values, its output and the logarithms of its rows' sums. Both
  programs' result arrays are the same real functions of the arguments.
-/
module

public import proofs.«01_k».proof.Defs
public import proofs.«01_k».proof.Proof.Gen.AttnAFwdKernelIdeal.Value
public import proofs.«01_k».proof.Proof.Gen.AttnAFwdRefIdeal.Run
public import proofs.«01_k».proof.Proof.AttnAFwdKern
public import proofs.«01_k».proof.Proof.AttnAFwdRef

@[expose] public section

set_option maxRecDepth 16384

noncomputable section

namespace Cert.AttnAFwd

open Idealize.ShloMosaic Idealize.ShloMosaic.TcCoe Idealize.SL.Sem
open Cert.Reals

instance pre_facts : Cert.Pre_finite_attn_a_fwd.Facts := ⟨by decide, by decide⟩

theorem frame_ref : Cert.quiescent_AttnAFwdRefIdeal := fun m ρ _ =>
  (θ_run Cert.AttnAFwdRefIdeal.defs _ _).mono (fun r h => ⟨fun c => (h c).2.2, sem_eq_zero_of_no_sems (by decide) r.2⟩)
    (Cert.AttnAFwdRefIdeal.Value.run (F := Ideal) m ρ)

open Cert.AttnAFwdKernelIdeal in
/-- What the precondition says of one device's arguments. -/
theorem reals (m : (ℓ : Loc nD τ sig) → Buf (Elt Ideal) ℓ) (h : Cert.Pre_AttnAFwdKernelIdeal_finite_attn_a_fwd m) (c : Dev nD) :
    ∃ (q k : S2x2048x8x96.Idx → ℝ) (v : S2x2048x8x64.Idx → ℝ), aq m c = up q ∧ ak m c = up k ∧ av m c = up v := by
  obtain ⟨h0, h1, h2⟩ := h c
  obtain ⟨q, hq⟩ := finite_up _ _ _ h0
  obtain ⟨k, hk⟩ := finite_up _ _ _ h1
  obtain ⟨v, hv⟩ := finite_up _ _ _ h2
  exact ⟨q, k, v, hq, hk, hv⟩

open Cert.AttnAFwdKernelIdeal in
theorem algebraic : Cert.algebraic_AttnAFwdKernelIdeal_AttnAFwdRefIdeal_pre_finite_attn_a_fwd := by
  intro m ρ m' ρ' hp hag
  choose q k v h using reals m hp
  refine ⟨fun c => GO (q c) (k c) (v c), fun c => GS (q c) (k c),
    (θ_run _ _ _).mono (fun r hr c => ?_) (Cert.AttnAFwdKernelIdeal.Value.run_blocks m ρ),
    (θ_run _ _ _).mono (fun r hr c => ?_) (Cert.AttnAFwdRefIdeal.Value.run m' ρ')⟩
  · obtain ⟨hq, hk, hv⟩ := h c
    exact ⟨(hr c).1.trans (final3 _ _ _ m c hq hk hv), (hr c).2.1.trans (final4 _ _ _ m c hq hk hv), (hr c).2.2⟩
  · obtain ⟨hq, hk, hv⟩ := h c
    obtain ⟨e0, e1, e2⟩ := hag c
    refine ⟨(hr c).1.trans ?_, (hr c).2.1.trans ?_, (hr c).2.2⟩
    · rw [Cert.AttnAFwdRefIdeal.Read.val_main_v21_eq, e0, e1, e2]
      exact (congr (congr (congrArg _ hq) hk) hv).trans (ref_o (q c) (k c) (v c))
    · rw [Cert.AttnAFwdRefIdeal.Read.val_main_v34_eq, e0, e1]
      exact (congr (congrArg _ hq) hk).trans (ref_l (q c) (k c))

end Cert.AttnAFwd

end
-- ==== Proof.AttnBFwdRef.lean ====
module

public import proofs.«01_k».proof.Proof.Gen.AttnBFwdRefIdeal.Read
public import Idealize.ShloMosaic.Lib.Pipeline.ValueKit
public import proofs.«01_k».proof.Proof.AttnBKern
public import proofs.«01_k».proof.Proof.AttnAFwdRef

@[expose] public section

set_option maxRecDepth 16384

noncomputable section

namespace Cert.AttnBFwd

open Idealize.ShloMosaic Idealize.ShloMosaic.TcCoe Idealize.SL.Sem
open Cert.Reals Cert.Rows
open Cert.AttnA (neg_inf)
open Cert.AttnAFwd (lb li)
open Cert.AttnB (score head grp mem grp_head mem_head cb ci cn ce)
open Cert.AttnBFwdRefIdeal
open Cert.AttnBFwdRefIdeal.Read Cert.AttnBFwdRefIdeal.Gen

variable (q : S2x2048x2x4x64.Idx → ℝ) (k v : S2x2048x2x64.Idx → ℝ)

/-- The scores that the output is computed from, and those that the row sums are computed from. -/
theorem s_at (b h : Fin 2) (u : Fin 4) (i j : Fin 2048) :
    val_main_v1 (F := Ideal) (up q) (up k) (ix5 b h u i j) = (score q k b h u i j : EReal) := by
  pointwise [val_main_v1, val_main_v0, up]
  simp only [← EReal.coe_mul, coe_sum, score, mul_comm]

theorem s_at' (b h : Fin 2) (u : Fin 4) (i j : Fin 2048) :
    val_main_v22 (F := Ideal) (up q) (up k) (ix5 b h u i j) = (score q k b h u i j : EReal) := by
  pointwise [val_main_v22, val_main_v21, up]
  simp only [← EReal.coe_mul, coe_sum, score, mul_comm]

theorem max_at (X : FVec Ideal S2x2x4x2048x2048 .f32) (z : FVec Ideal S_ .f32) (hz : ∀ i, z i = ⊥) (b h : Fin 2) (u : Fin 4) (i : Fin 2048) :
    Host.reduce FloatOps.maximumf X z reducesTo_S2x2x4x2048x2048_S2x2x4x2048_d4 h_S_ (ix4 b h u i)
      = Finset.univ.fold max (⊥ : EReal) fun x => X (ix5 b h u i x) := by
  pointwise
  rw [hz]

theorem max_bot_at (X : FVec Ideal S2x2x4x2048 .f32) (i : S2x2x4x2048.Idx) :
    maximumf (val_main_v3 (F := Ideal)) X i = X i := by
  pointwise [val_main_v3, val_main_cst_0]
  rw [neg_inf, max_eq_right bot_le]

theorem bot_at (i : S_.Idx) : val_main_cst (F := Ideal) i = ⊥ := by
  pointwise [val_main_cst]
  exact neg_inf

theorem bot_at' (i : S_.Idx) : val_main_cst_4 (F := Ideal) i = ⊥ := by
  pointwise [val_main_cst_4]
  exact neg_inf

/-- The greatest score of a row is a real number. -/
theorem m_at (b h : Fin 2) (u : Fin 4) (i : Fin 2048) :
    ∃ M : ℝ, val_main_v4 (F := Ideal) (up q) (up k) (ix4 b h u i) = (M : EReal) := by
  rw [val_main_v4, max_bot_at, val_main_v2, max_at _ _ bot_at]
  simp only [s_at]
  exact fold_max_real _

theorem m_at' (b h : Fin 2) (u : Fin 4) (i : Fin 2048) :
    ∃ M : ℝ, val_main_v23 (F := Ideal) (up q) (up k) (ix4 b h u i) = (M : EReal) := by
  rw [val_main_v23, max_at _ _ bot_at']
  simp only [s_at']
  exact fold_max_real _

theorem exp_sub_at (S : FVec Ideal S2x2x4x2048x2048 .f32) (X : FVec Ideal S2x2x4x2048 .f32)
    (b h : Fin 2) (u : Fin 4) (i j : Fin 2048) :
    Host.exp (subf S (broadcastInDim S2x2x4x2048x2048 ![0, 1, 2, 3, 4] bcast_S2x2x4x2048x1_S2x2x4x2048x2048_0_1_2_3_4
      (broadcastInDim S2x2x4x2048x1 ![0, 1, 2, 3] bcast_S2x2x4x2048_S2x2x4x2048x1_0_1_2_3 X))) (ix5 b h u i j)
      = Ideal.exp (S (ix5 b h u i j) - X (ix4 b h u i)) := by
  pointwise

section top

variable (b h : Fin 2) (u : Fin 4) (i : Fin 2048) {M : ℝ}

theorem p_at (hM : val_main_v4 (F := Ideal) (up q) (up k) (ix4 b h u i) = (M : EReal)) (j : Fin 2048) :
    val_main_v8 (F := Ideal) (up q) (up k) (ix5 b h u i j) = (Real.exp (score q k b h u i j - M) : EReal) := by
  rw [val_main_v8, val_main_v7, val_main_v6, val_main_v5, exp_sub_at, s_at, hM, ← EReal.coe_sub, Ideal.exp_coe]

theorem p_at' (hM : val_main_v23 (F := Ideal) (up q) (up k) (ix4 b h u i) = (M : EReal)) (j : Fin 2048) :
    val_main_v27 (F := Ideal) (up q) (up k) (ix5 b h u i j) = (Real.exp (score q k b h u i j - M) : EReal) := by
  rw [val_main_v27, val_main_v26, val_main_v25, val_main_v24, exp_sub_at, s_at', hM, ← EReal.coe_sub, Ideal.exp_coe]

theorem l_at (hM : val_main_v4 (F := Ideal) (up q) (up k) (ix4 b h u i) = (M : EReal)) :
    val_main_v9 (F := Ideal) (up q) (up k) (ix4 b h u i) = ((∑ j, Real.exp (score q k b h u i j - M) : ℝ) : EReal) := by
  pointwise [val_main_v9, val_main_cst_1]
  simp only [p_at q k b h u i hM, coe_sum, zero_add]

theorem l_at' (hM : val_main_v23 (F := Ideal) (up q) (up k) (ix4 b h u i) = (M : EReal)) :
    val_main_v28 (F := Ideal) (up q) (up k) (ix4 b h u i) = ((∑ j, Real.exp (score q k b h u i j - M) : ℝ) : EReal) := by
  pointwise [val_main_v28, val_main_cst_5]
  simp only [p_at' q k b h u i hM, coe_sum, zero_add]

end top

theorem w_at (b h : Fin 2) (u : Fin 4) (i j : Fin 2048) :
    val_main_v12 (F := Ideal) (up q) (up k) (ix5 b h u i j) = (weight (score q k b h u i) j : EReal) := by
  obtain ⟨M, hM⟩ := m_at q k b h u i
  pointwise [val_main_v12, val_main_v11, val_main_v10]
  rw [p_at q k b h u i hM, l_at q k b h u i hM, div_real _ (sum_exp_pos _).ne', weight_shift]

theorem member_at (X : FVec Ideal S2x2048x2x4x64 .f32) (b : Fin 2) (i : Fin 2048) (n : Fin 8) (e : Fin 64) :
    shapeCast S2x2048x8x64 X shapeCasts_S2x2048x2x4x64_S2x2048x8x64 (ix4 b i n e) = X (ix5 b i (grp n) (mem n) e) := by
  pointwise
  rfl

theorem o_at (b : Fin 2) (i : Fin 2048) (n : Fin 8) (e : Fin 64) :
    val_main_v15 (F := Ideal) (up q) (up k) (up v) (ix4 b i n e)
      = ((∑ j, weight (score q k b (grp n) (mem n) i) j * v (ix4 b j (grp n) e) : ℝ) : EReal) := by
  rw [val_main_v15, member_at]
  pointwise [val_main_v14, val_main_v13]
  simp only [w_at, up, ← EReal.coe_mul, coe_sum, mul_comm]

theorem flat_at (X : FVec Ideal S2x2048x8x128 .f32) (y : S4096x1024.Idx) :
    truncf (F := Ideal) .bf16 (shapeCast S4096x1024 X shapeCasts_S2x2048x8x128_S4096x1024) bitsLt_bf16_f32 y
      = (X (ix4 (cb y) (ci y) (cn y) (ce y)) : EReal) := by
  pointwise
  rfl

theorem log_add_at (M L : FVec Ideal S2x2x4x2048 .f32) (i : S2x2x4x2048.Idx) : addf M (Host.log L) i = M i + Ideal.log (L i) := by
  pointwise

theorem sums_at (X : FVec Ideal S2x2x4x2048 .f32) (y : S8x4096x1.Idx) :
    shapeCast S8x4096x1 (transpose S8x2x2048 [1, 0, 2] (shapeCast S2x8x2048 X shapeCasts_S2x2x4x2048_S2x8x2048) transposes_S2x8x2048_S8x2x2048_1_0_2)
      shapeCasts_S8x2x2048_S8x4096x1 y = X (ix4 (lb y) (grp (y 0)) (mem (y 0)) (li y)) := by
  pointwise
  rfl

/-- A head of the output in its 128 columns. -/
theorem row_at (b : Fin 2) (i : Fin 2048) (n : Fin 8) (e : Fin 128) :
    val_main_v18 (F := Ideal) (up q) (up k) (up v) (ix4 b i n e)
      = (outr (fun e : Fin 64 => ∑ j, weight (score q k b (grp n) (mem n) i) j * v (ix4 b j (grp n) e)) e : EReal) := by
  rw [val_main_v18]
  exact Cert.AttnAFwd.join_at _ b i n (o_at q k v b i n) e

theorem lse_at (b h : Fin 2) (u : Fin 4) (i : Fin 2048) :
    val_main_v30 (F := Ideal) (up q) (up k) (ix4 b h u i) = (lse (score q k b h u i) : EReal) := by
  obtain ⟨M, hM⟩ := m_at' q k b h u i
  rw [val_main_v30, val_main_v29, log_add_at, l_at' q k b h u i hM, hM, log_real (sum_exp_pos _), ← EReal.coe_add, lse_shift]

/-- The output, each head in 128 columns. -/
def GO : FVec Ideal S4096x1024 .bf16 := fun y =>
  (outr (fun e : Fin 64 => ∑ j, weight (score q k (cb y) (grp (cn y)) (mem (cn y)) (ci y)) j * v (ix4 (cb y) j (grp (cn y)) e)) (ce y) : EReal)

/-- The logarithms of the rows' sums, by head. -/
def GS : FVec Ideal S8x4096x1 .f32 := fun y => (lse (score q k (lb y) (grp (y 0)) (mem (y 0)) (li y)) : EReal)

theorem GO_at (y : S4096x1024.Idx) (b : Fin 2) (i : Fin 2048) (h : Fin 2) (u : Fin 4) (e : Fin 128) (h0 : (y 0).val = b.val * 2048 + i.val)
    (h1 : (y 1).val = (head h u).val * 128 + e.val) :
    GO q k v y = (outr (fun e : Fin 64 => ∑ j, weight (score q k b h u i) j * v (ix4 b j h e)) e : EReal) := by
  have e1 : cb y = b := Fin.ext (by simp only [cb]; omega)
  have e2 : ci y = i := Fin.ext (by simp only [ci]; omega)
  have e3 : cn y = head h u := Fin.ext (by simp only [cn]; omega)
  have e4 : ce y = e := Fin.ext (by simp only [ce]; omega)
  rw [GO, e1, e2, e3, e4, grp_head, mem_head]

theorem GS_at (y : S8x4096x1.Idx) (b : Fin 2) (i : Fin 2048) (h : Fin 2) (u : Fin 4) (h0 : (y 0).val = (head h u).val)
    (h1 : (y 1).val = b.val * 2048 + i.val) : GS q k y = (lse (score q k b h u i) : EReal) := by
  have e1 : lb y = b := Fin.ext (by simp only [lb]; omega)
  have e2 : li y = i := Fin.ext (by simp only [li]; omega)
  have e3 : y 0 = head h u := Fin.ext h0
  rw [GS, e1, e2, e3, grp_head, mem_head]

theorem ref_o : val_main_v20 (F := Ideal) (up q) (up k) (up v) = GO q k v := by
  funext y
  rw [val_main_v20, val_main_v19, flat_at]
  exact row_at q k v (cb y) (ci y) (cn y) (ce y)

theorem ref_l : val_main_v33 (F := Ideal) (up q) (up k) = GS q k := by
  funext y
  rw [val_main_v33, val_main_v32, val_main_v31, sums_at]
  exact lse_at q k (lb y) (grp (y 0)) (mem (y 0)) (li y)

end Cert.AttnBFwd

end
-- ==== Proof.AttnBFwdKern.lean ====
module

public import proofs.«01_k».proof.Proof.Gen.AttnBFwdKernelIdeal.Value
public import Idealize.ShloMosaic.Lib.Pipeline.ValueKit
public import proofs.«01_k».proof.Proof.AttnBHost
public import proofs.«01_k».proof.Proof.AttnBFwdRef
public import proofs.«01_k».proof.Proof.AttnAFwdKern

@[expose] public section

set_option maxRecDepth 16384

noncomputable section

namespace Cert.AttnBFwd

open Idealize.ShloMosaic Idealize.ShloMosaic.TcCoe Idealize.SL.Sem
open Cert.Reals Cert.Rows
open Cert.AttnA (wideH wideH_at)
open Cert.AttnAFwd (bs col rq ldq pay9_at pay10_at)
open Cert.AttnB (score head grp mem grp_head mem_head flat flat_up wideK wideK_at rowH rowH_at)
open Cert.AttnBFwdKernelIdeal Cert.AttnBFwdKernelIdeal.Gen

/-! The arrays the windows stage. -/

section entry

variable (m : (ℓ : Loc nD τ sig) → Buf (Elt Ideal) ℓ) (c : Dev nD)

theorem V_def (b : Ref sig .tc) : V m c b = StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) b := rfl

def aq : FVec Ideal S2x2048x2x4x64 .f32 := m ((c : Thread nD τ).loc main_arg0)
def ak : FVec Ideal S2x2048x2x64 .f32 := m ((c : Thread nD τ).loc main_arg1)
def av : FVec Ideal S2x2048x2x64 .f32 := m ((c : Thread nD τ).loc main_arg2)

theorem V_q : V m c main_v3 = (truncf .bf16 (wideH (flat (aq m c))) bitsLt_bf16_f32 : FVec Ideal S4096x1024 .bf16) := by
  rw [V_def]; after_results; rfl

theorem V_k : V m c main_v6 = (truncf .bf16 (wideK (ak m c)) bitsLt_bf16_f32 : FVec Ideal S4096x256 .bf16) := by
  rw [V_def]; after_results; rfl

theorem V_z : V m c main_v12 = rowH (wideK (av m c)) := by
  rw [V_def]; after_results; rfl

end entry

/-! The blocks at a grid point. -/

variable (q : S2x2048x2x4x64.Idx → ℝ) (k v : S2x2048x2x64.Idx → ℝ)

/-! The kernel's arithmetic on one head is the first attention's. -/

theorem pay9_eq : k0_pay9 (F := Ideal) = Cert.AttnAFwdKernelIdeal.Gen.k0_pay9 := rfl
theorem pay10_eq : k0_pay10 (F := Ideal) = Cert.AttnAFwdKernelIdeal.Gen.k0_pay10 := rfl

theorem idx : ∀ t : Fin cfg0.N, win0_0.index t = ![t.val / 4 % 2 * 4 + t.val % 4, t.val / 8] ∧ win0_1.index t = ![t.val / 4 % 2, t.val / 8]
    ∧ win0_2.index t = ![t.val / 4 % 2, 14 + t.val / 8] ∧ win0_3.index t = ![t.val / 4 % 2 * 4 + t.val % 4, t.val / 8]
    ∧ win0_4.index t = ![t.val / 8, t.val / 4 % 2 * 4 + t.val % 4, 0] :=
  (by decide +kernel : ∀ t : Fin grid0.N, _)

theorem lt16 (t : Fin cfg0.N) : t.val < 16 := lt_of_lt_of_eq t.isLt N_0

/-- The sequence, the group and the query row of a grid point. -/
def tb (t : Fin cfg0.N) : Fin 2 := ⟨t.val / 4 % 2, by omega⟩
def th (t : Fin cfg0.N) : Fin 2 := ⟨t.val / 8, by have := lt16 t; omega⟩
def ti (t : Fin cfg0.N) (r : Fin 512) : Fin 2048 := ⟨t.val % 4 * 512 + r.val, by omega⟩

section blocks

variable (m : (ℓ : Loc nD τ sig) → Buf (Elt Ideal) ℓ) (c : Dev nD)
  (hq : aq m c = up q) (hk : ak m c = up k) (hv : av m c = up v) (t : Fin cfg0.N)

include hq

theorem blk0 (r : Fin 512) (j : Fin 4) (e : Fin 128) :
    iblk m c 0 t (ix2 r (col j e)) = (padr (fun e => q (ix5 (tb t) (ti t r) (th t) j e)) e : EReal) := by
  blk_simp [iblk]
  rw [V_q, hq, flat_up]
  refine (wideH_at _ (tb t) (ti t r) (head (th t) j) e _ ?_ ?_).trans ?_
  · blk_simp [idx t]; simp only [tb, ti]; omega
  · blk_simp [idx t]; simp only [head, th, col]; omega
  · show (padr (fun e => q (ix5 (tb t) (ti t r) (grp (head (th t) j)) (mem (head (th t) j)) e)) e : EReal) = _
    rw [grp_head, mem_head]

omit hq
include hk

theorem blk1 (i : Fin 2048) (e : Fin 128) : iblk m c 1 t (ix2 i e) = (padr (fun e => k (ix4 (tb t) i (th t) e)) e : EReal) := by
  blk_simp [iblk]
  rw [V_k, hk]
  refine wideK_at k (tb t) i (th t) e _ ?_ ?_ <;> blk_simp [idx t] <;> simp only [tb, th]

omit hk
include hv

theorem blk2 (i : Fin 2048) (e : Fin 128) : iblk m c 2 t (ix2 i e) = (padr (fun e => v (ix4 (tb t) i (th t) e)) e : EReal) := by
  blk_simp [iblk]
  rw [V_z, hv]
  have hb := (tb t).isLt; have hh := (th t).isLt
  refine (rowH_at _ _ (ix2 ⟨(tb t).val * 2048 + i.val, by omega⟩ ⟨(th t).val * 128 + e.val, by omega⟩) ?_ ?_).trans
    (wideK_at v (tb t) i (th t) e _ rfl rfl) <;> blk_simp [idx t] <;> simp only [tb, th] <;> omega

omit hv

theorem bs_score (r : Fin 512) (j : Fin 4) :
    bs (fun r => padr fun e => q (ix5 (tb t) (ti t r) (th t) j e)) (fun i => padr fun e => k (ix4 (tb t) i (th t) e)) r
      = score q k (tb t) (th t) j (ti t r) :=
  funext fun i => sum_padr_mul (by decide) _ _

/-- The whole of the keys' or the values' block. -/
theorem ldk (X : Vec Ideal S2048x128 .bf16) (r : Fin 2048) (e : Fin 128) : View.ld X r0_0 (ix2 r e) = X (ix2 r e) :=
  View.ld_unit_apply_of X _ _ _ _ _ fun a => by match a with | 0 => exact (Nat.zero_add _).symm | 1 => exact (Nat.zero_add _).symm

include hq hk hv

/-- What the pass over the `j`-th head leaves. -/
theorem head_out (j : Fin 4) (r : Fin 512) (e : Fin 128) :
    k0_pay9 (View.ld (iblk m c 1 t) r0_0) (View.ld (iblk m c 2 t) r0_0) (View.ld (iblk m c 0 t) (rq j)) (ix2 r e)
      = (outr (fun e : Fin 64 => ∑ i, weight (score q k (tb t) (th t) j (ti t r)) i * v (ix4 (tb t) i (th t) e)) e : EReal) :=
  (congrFun (congrFun (congrFun (congrFun pay9_eq _) _) _) _).trans <| (pay9_at _ _ _ (fun r e => (ldq _ j r e).trans (blk0 q m c hq t r j e)) (fun i e => (ldk _ i e).trans (blk1 k m c hk t i e))
    (fun i e => (ldk _ i e).trans (blk2 v m c hv t i e)) r e).trans (by rw [bs_score])

theorem head_lse (j : Fin 4) (u : Fin 1) (r : Fin 512) (w : Fin 1) :
    k0_pay10 (View.ld (iblk m c 1 t) r0_0) (View.ld (iblk m c 2 t) r0_0) (View.ld (iblk m c 0 t) (rq j)) (ix3 u r w)
      = (lse (score q k (tb t) (th t) j (ti t r)) : EReal) :=
  (congrFun (congrFun (congrFun (congrFun pay10_eq _) _) _) _).trans <| (pay10_at _ _ _ (fun r e => (ldq _ j r e).trans (blk0 q m c hq t r j e)) (fun i e => (ldk _ i e).trans (blk1 k m c hk t i e))
    (fun i e => (ldk _ i e).trans (blk2 v m c hv t i e)) u r w).trans (by rw [bs_score])

/-- The `j`-th store of the output's block, at an entry of the block. -/
theorem piece_out (j : Fin 4) (y : S512x512.Idx) (x : S512x128.Idx) (h0 : (y 0).val = (x 0).val) (h1 : (y 1).val = j.val * 128 + (x 1).val) :
    k0_pay9 (View.ld (iblk m c 1 t) r0_0) (View.ld (iblk m c 2 t) r0_0) (View.ld (iblk m c 0 t) (rq j)) x
      = GO q k v ((win0_3.blk t).view.emb y) := by
  have g0 : (((win0_3.blk t).view.emb y) 0).val = (tb t).val * 2048 + (ti t (x 0)).val := by
    blk_simp [idx t]; simp only [tb, ti]; omega
  have g1 : (((win0_3.blk t).view.emb y) 1).val = (head (th t) j).val * 128 + (x 1).val := by
    blk_simp [idx t]; simp only [head, th]; omega
  rw [GO_at q k v _ (tb t) (ti t (x 0)) (th t) j (x 1) g0 g1, eq_ix2 x]
  exact head_out q k v m c hq hk hv t j (x 0) (x 1)

theorem piece_lse (j : Fin 4) (y : S4x512x1.Idx) (x : S1x512x1.Idx) (h0 : (y 0).val = j.val) (h1 : (y 1).val = (x 1).val) :
    k0_pay10 (View.ld (iblk m c 1 t) r0_0) (View.ld (iblk m c 2 t) r0_0) (View.ld (iblk m c 0 t) (rq j)) x
      = GS q k ((win0_4.blk t).view.emb y) := by
  have g0 : (((win0_4.blk t).view.emb y) 0).val = (head (th t) j).val := by
    blk_simp [idx t]; simp only [head, th]; omega
  have g1 : (((win0_4.blk t).view.emb y) 1).val = (tb t).val * 2048 + (ti t (x 1)).val := by
    blk_simp [idx t]; simp only [tb, ti]; omega
  rw [GS_at q k _ (tb t) (ti t (x 1)) (th t) j g0 g1, eq_ix3 x]
  exact head_lse q k v m c hq hk hv t j (x 0) (x 1) (x 2)

theorem final3 : (dats m 0 c).arrAt 3 (cfgs 0).N = GO q k v := by
  refine (dats m 0 c).arrAt_eq_of_covers 3 _ (by decide +kernel) fun t _ y => ?_
  blk_simp
  rw [after0_3]
  canon_tiles x h using cover0_3 ..
  · exact piece_out q k v m c hq hk hv t 3 y x h0 h1
  · exact piece_out q k v m c hq hk hv t 2 y x h0 h1
  · exact piece_out q k v m c hq hk hv t 1 y x h0 h1
  · exact piece_out q k v m c hq hk hv t 0 y x h0 (by simpa using h1)

theorem final4 : (dats m 0 c).arrAt 4 (cfgs 0).N = GS q k := by
  refine (dats m 0 c).arrAt_eq_of_covers 4 _ (by decide +kernel) fun t _ y => ?_
  blk_simp
  rw [after0_4]
  canon_tiles x h using cover0_4 ..
  · exact piece_lse q k v m c hq hk hv t 3 y x (by omega) h1
  · exact piece_lse q k v m c hq hk hv t 2 y x (by omega) h1
  · exact piece_lse q k v m c hq hk hv t 1 y x (by omega) h1
  · exact piece_lse q k v m c hq hk hv t 0 y x (by omega) h1

end blocks

end Cert.AttnBFwd

end
-- ==== Proof.AttnBFwd.lean ====
/-
  The second attention's forward pass: from its queries, keys and values, its output and the logarithms of its rows' sums. Both
  programs' result arrays are the same real functions of the arguments.
-/
module

public import proofs.«01_k».proof.Defs
public import proofs.«01_k».proof.Proof.Gen.AttnBFwdKernelIdeal.Value
public import proofs.«01_k».proof.Proof.Gen.AttnBFwdRefIdeal.Run
public import proofs.«01_k».proof.Proof.AttnBFwdKern
public import proofs.«01_k».proof.Proof.AttnBFwdRef

@[expose] public section

set_option maxRecDepth 16384

noncomputable section

namespace Cert.AttnBFwd

open Idealize.ShloMosaic Idealize.ShloMosaic.TcCoe Idealize.SL.Sem
open Cert.Reals

instance pre_facts : Cert.Pre_finite_attn_b_fwd.Facts := ⟨by decide, by decide⟩

theorem frame_ref : Cert.quiescent_AttnBFwdRefIdeal := fun m ρ _ =>
  (θ_run Cert.AttnBFwdRefIdeal.defs _ _).mono (fun r h => ⟨fun c => (h c).2.2, sem_eq_zero_of_no_sems (by decide) r.2⟩)
    (Cert.AttnBFwdRefIdeal.Value.run (F := Ideal) m ρ)

open Cert.AttnBFwdKernelIdeal in
/-- What the precondition says of one device's arguments. -/
theorem reals (m : (ℓ : Loc nD τ sig) → Buf (Elt Ideal) ℓ) (h : Cert.Pre_AttnBFwdKernelIdeal_finite_attn_b_fwd m) (c : Dev nD) :
    ∃ (q : S2x2048x2x4x64.Idx → ℝ) (k v : S2x2048x2x64.Idx → ℝ), aq m c = up q ∧ ak m c = up k ∧ av m c = up v := by
  obtain ⟨h0, h1, h2⟩ := h c
  obtain ⟨q, hq⟩ := finite_up _ _ _ h0
  obtain ⟨k, hk⟩ := finite_up _ _ _ h1
  obtain ⟨v, hv⟩ := finite_up _ _ _ h2
  exact ⟨q, k, v, hq, hk, hv⟩

open Cert.AttnBFwdKernelIdeal in
theorem algebraic : Cert.algebraic_AttnBFwdKernelIdeal_AttnBFwdRefIdeal_pre_finite_attn_b_fwd := by
  intro m ρ m' ρ' hp hag
  choose q k v h using reals m hp
  refine ⟨fun c => GO (q c) (k c) (v c), fun c => GS (q c) (k c),
    (θ_run _ _ _).mono (fun r hr c => ?_) (Cert.AttnBFwdKernelIdeal.Value.run_blocks m ρ),
    (θ_run _ _ _).mono (fun r hr c => ?_) (Cert.AttnBFwdRefIdeal.Value.run m' ρ')⟩
  · obtain ⟨hq, hk, hv⟩ := h c
    exact ⟨(hr c).1.trans (final3 _ _ _ m c hq hk hv), (hr c).2.1.trans (final4 _ _ _ m c hq hk hv), (hr c).2.2⟩
  · obtain ⟨hq, hk, hv⟩ := h c
    obtain ⟨e0, e1, e2⟩ := hag c
    refine ⟨(hr c).1.trans ?_, (hr c).2.1.trans ?_, (hr c).2.2⟩
    · rw [Cert.AttnBFwdRefIdeal.Read.val_main_v20_eq, e0, e1, e2]
      exact (congr (congr (congrArg _ hq) hk) hv).trans (ref_o (q c) (k c) (v c))
    · rw [Cert.AttnBFwdRefIdeal.Read.val_main_v33_eq, e0, e1]
      exact (congr (congrArg _ hq) hk).trans (ref_l (q c) (k c))

end Cert.AttnBFwd

end
-- ==== Proof.lean ====
module

public import proofs.«01_k».proof.Defs
public import proofs.«01_k».proof.Proof.Gen.MlpDownKernel.Frame
public import proofs.«01_k».proof.Proof.MlpDown
public import proofs.«01_k».proof.Proof.Gen.MlpUpKernel.Frame
public import proofs.«01_k».proof.Proof.MlpUp
public import proofs.«01_k».proof.Proof.Gen.MergeKernel.Frame
public import proofs.«01_k».proof.Proof.Merge
public import proofs.«01_k».proof.Proof.Gen.AttnAKernel.Frame
public import proofs.«01_k».proof.Proof.AttnA
public import proofs.«01_k».proof.Proof.Gen.AttnBKernel.Frame
public import proofs.«01_k».proof.Proof.AttnB
public import proofs.«01_k».proof.Proof.Gen.InProjKernel.Frame
public import proofs.«01_k».proof.Proof.InProj
public import proofs.«01_k».proof.Proof.Gen.TailKernel.Frame
public import proofs.«01_k».proof.Proof.Tail
public import proofs.«01_k».proof.Proof.Gen.QPathKernel.Frame
public import proofs.«01_k».proof.Proof.QPath
public import proofs.«01_k».proof.Proof.Gen.KvPathKernel.Frame
public import proofs.«01_k».proof.Proof.KvPath
public import proofs.«01_k».proof.Proof.Gen.PrepBKernel.Frame
public import proofs.«01_k».proof.Proof.PrepB
public import proofs.«01_k».proof.Proof.Gen.AttnAFwdKernel.Frame
public import proofs.«01_k».proof.Proof.AttnAFwd
public import proofs.«01_k».proof.Proof.Gen.AttnBFwdKernel.Frame
public import proofs.«01_k».proof.Proof.AttnBFwd

@[expose] public section

noncomputable section

namespace Cert.Proof

open Idealize.ShloMosaic Idealize.SL.Sem

theorem claim : Cert.Claim :=
  ⟨Cert.MlpDownKernel.Gen.facts, Cert.MlpDownKernelIdeal.Gen.facts, Cert.MlpDownRefIdeal.Gen.facts,
   Cert.MlpUpKernel.Gen.facts, Cert.MlpUpKernelIdeal.Gen.facts, Cert.MlpUpRefIdeal.Gen.facts,
   Cert.MergeKernel.Gen.facts, Cert.MergeKernelIdeal.Gen.facts, Cert.MergeRefIdeal.Gen.facts,
   Cert.AttnAKernel.Gen.facts, Cert.AttnAKernelIdeal.Gen.facts, Cert.AttnARefIdeal.Gen.facts,
   Cert.AttnBKernel.Gen.facts, Cert.AttnBKernelIdeal.Gen.facts, Cert.AttnBRefIdeal.Gen.facts,
   Cert.InProjKernel.Gen.facts, Cert.InProjKernelIdeal.Gen.facts, Cert.InProjRefIdeal.Gen.facts,
   Cert.TailKernel.Gen.facts, Cert.TailKernelIdeal.Gen.facts, Cert.TailRefIdeal.Gen.facts,
   Cert.QPathKernel.Gen.facts, Cert.QPathKernelIdeal.Gen.facts, Cert.QPathRefIdeal.Gen.facts,
   Cert.KvPathKernel.Gen.facts, Cert.KvPathKernelIdeal.Gen.facts, Cert.KvPathRefIdeal.Gen.facts,
   Cert.PrepBKernel.Gen.facts, Cert.PrepBKernelIdeal.Gen.facts, Cert.PrepBRefIdeal.Gen.facts,
   Cert.AttnAFwdKernel.Gen.facts, Cert.AttnAFwdKernelIdeal.Gen.facts, Cert.AttnAFwdRefIdeal.Gen.facts,
   Cert.AttnBFwdKernel.Gen.facts, Cert.AttnBFwdKernelIdeal.Gen.facts, Cert.AttnBFwdRefIdeal.Gen.facts,
   Cert.MlpUp.pre_facts,
   Cert.AttnA.pre_facts,
   Cert.AttnB.pre_facts,
   Cert.InProj.pre_facts,
   Cert.Tail.pre_facts,
   Cert.QPath.pre_facts,
   Cert.KvPath.pre_facts,
   Cert.PrepB.pre_facts,
   Cert.AttnAFwd.pre_facts,
   Cert.AttnBFwd.pre_facts,
   fun m ρ _ => Cert.MlpDownKernel.Gen.frame m ρ, fun m ρ _ => Cert.MlpDownKernelIdeal.Gen.frame m ρ, Cert.MlpDown.frame_ref,
   fun m ρ _ => Cert.MlpUpKernel.Gen.frame m ρ, fun m ρ _ => Cert.MlpUpKernelIdeal.Gen.frame m ρ, fun m ρ _ => Cert.MlpUpKernelIdeal.Gen.frame m ρ,
   Cert.MlpUp.frame_ref, fun m ρ _ => Cert.MlpUp.frame_ref m ρ trivial,
   fun m ρ _ => Cert.MergeKernel.Gen.frame m ρ, fun m ρ _ => Cert.MergeKernelIdeal.Gen.frame m ρ, Cert.Merge.frame_ref,
   fun m ρ _ => Cert.AttnAKernel.Gen.frame m ρ, fun m ρ _ => Cert.AttnAKernelIdeal.Gen.frame m ρ, fun m ρ _ => Cert.AttnAKernelIdeal.Gen.frame m ρ,
   Cert.AttnA.frame_ref, fun m ρ _ => Cert.AttnA.frame_ref m ρ trivial,
   fun m ρ _ => Cert.AttnBKernel.Gen.frame m ρ, fun m ρ _ => Cert.AttnBKernelIdeal.Gen.frame m ρ, fun m ρ _ => Cert.AttnBKernelIdeal.Gen.frame m ρ,
   Cert.AttnB.frame_ref, fun m ρ _ => Cert.AttnB.frame_ref m ρ trivial,
   fun m ρ _ => Cert.InProjKernel.Gen.frame m ρ, fun m ρ _ => Cert.InProjKernelIdeal.Gen.frame m ρ, fun m ρ _ => Cert.InProjKernelIdeal.Gen.frame m ρ,
   Cert.InProj.frame_ref, fun m ρ _ => Cert.InProj.frame_ref m ρ trivial,
   fun m ρ _ => Cert.TailKernel.Gen.frame m ρ, fun m ρ _ => Cert.TailKernelIdeal.Gen.frame m ρ, fun m ρ _ => Cert.TailKernelIdeal.Gen.frame m ρ,
   Cert.Tail.frame_ref, fun m ρ _ => Cert.Tail.frame_ref m ρ trivial,
   fun m ρ _ => Cert.QPathKernel.Gen.frame m ρ, fun m ρ _ => Cert.QPathKernelIdeal.Gen.frame m ρ, fun m ρ _ => Cert.QPathKernelIdeal.Gen.frame m ρ,
   Cert.QPath.frame_ref, fun m ρ _ => Cert.QPath.frame_ref m ρ trivial,
   fun m ρ _ => Cert.KvPathKernel.Gen.frame m ρ, fun m ρ _ => Cert.KvPathKernelIdeal.Gen.frame m ρ, fun m ρ _ => Cert.KvPathKernelIdeal.Gen.frame m ρ,
   Cert.KvPath.frame_ref, fun m ρ _ => Cert.KvPath.frame_ref m ρ trivial,
   fun m ρ _ => Cert.PrepBKernel.Gen.frame m ρ, fun m ρ _ => Cert.PrepBKernelIdeal.Gen.frame m ρ, fun m ρ _ => Cert.PrepBKernelIdeal.Gen.frame m ρ,
   Cert.PrepB.frame_ref, fun m ρ _ => Cert.PrepB.frame_ref m ρ trivial,
   fun m ρ _ => Cert.AttnAFwdKernel.Gen.frame m ρ, fun m ρ _ => Cert.AttnAFwdKernelIdeal.Gen.frame m ρ, fun m ρ _ => Cert.AttnAFwdKernelIdeal.Gen.frame m ρ,
   Cert.AttnAFwd.frame_ref, fun m ρ _ => Cert.AttnAFwd.frame_ref m ρ trivial,
   fun m ρ _ => Cert.AttnBFwdKernel.Gen.frame m ρ, fun m ρ _ => Cert.AttnBFwdKernelIdeal.Gen.frame m ρ, fun m ρ _ => Cert.AttnBFwdKernelIdeal.Gen.frame m ρ,
   Cert.AttnBFwd.frame_ref, fun m ρ _ => Cert.AttnBFwd.frame_ref m ρ trivial,
   trivial, Cert.MlpDown.algebraic,
   trivial, Cert.MlpUp.algebraic,
   trivial, Cert.Merge.algebraic,
   trivial, Cert.AttnA.algebraic,
   trivial, Cert.AttnB.algebraic,
   trivial, Cert.InProj.algebraic,
   trivial, Cert.Tail.algebraic,
   trivial, Cert.QPath.algebraic,
   trivial, Cert.KvPath.algebraic,
   trivial, Cert.PrepB.algebraic,
   trivial, Cert.AttnAFwd.algebraic,
   trivial, Cert.AttnBFwd.algebraic⟩

end Cert.Proof

end
